-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GradKernel (m : (ℓ : Loc Cert.GradKernel.nD Cert.GradKernel.τ Cert.GradKernel.sig) → Buf (Elt Bits) ℓ) : Prop :=
  True

def Pre_GradKernelIdeal (m : (ℓ : Loc Cert.GradKernelIdeal.nD Cert.GradKernelIdeal.τ Cert.GradKernelIdeal.sig) → Buf (Elt Ideal) ℓ) : Prop :=
  True

def Pre_GradReferenceIdeal (m : (ℓ : Loc Cert.GradReferenceIdeal.nD Cert.GradReferenceIdeal.τ Cert.GradReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_BackKernel (m : (ℓ : Loc Cert.BackKernel.nD Cert.BackKernel.τ Cert.BackKernel.sig) → Buf (Elt Bits) ℓ) : Prop :=
  True

def Pre_BackKernelIdeal (m : (ℓ : Loc Cert.BackKernelIdeal.nD Cert.BackKernelIdeal.τ Cert.BackKernelIdeal.sig) → Buf (Elt Ideal) ℓ) : Prop :=
  True

def Pre_BackReferenceIdeal (m : (ℓ : Loc Cert.BackReferenceIdeal.nD Cert.BackReferenceIdeal.τ Cert.BackReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_GradKernel [hGradKernel : Cert.GradKernel.Facts] : Prop :=
  ∀ (m : (ℓ : Loc Cert.GradKernel.nD Cert.GradKernel.τ Cert.GradKernel.sig) → Buf (Elt Bits) ℓ) (g : Dev Cert.GradKernel.nD → PrngReg), Pre_GradKernel m →
    θ_run (Cert.GradKernel.defs (F := Bits)) (onTc (τ := Cert.GradKernel.τ) (Cert.GradKernel.main (F := Bits))) ⟨m, fun _ => 0, g⟩ (fun r => (∀ c : Dev Cert.GradKernel.nD,
      r.2.mem ((c.tc : Thread Cert.GradKernel.nD Cert.GradKernel.τ).loc Cert.GradKernel.main_arg0) = m ((c.tc : Thread Cert.GradKernel.nD Cert.GradKernel.τ).loc Cert.GradKernel.main_arg0)
      ∧ r.2.mem ((c.tc : Thread Cert.GradKernel.nD Cert.GradKernel.τ).loc Cert.GradKernel.main_arg1) = m ((c.tc : Thread Cert.GradKernel.nD Cert.GradKernel.τ).loc Cert.GradKernel.main_arg1)
      ∧ r.2.mem ((c.tc : Thread Cert.GradKernel.nD Cert.GradKernel.τ).loc Cert.GradKernel.main_arg2) = m ((c.tc : Thread Cert.GradKernel.nD Cert.GradKernel.τ).loc Cert.GradKernel.main_arg2))
      ∧ r.2.sem = fun _ => 0)

def quiescent_GradKernelIdeal [hGradKernelIdeal : Cert.GradKernelIdeal.Facts] : Prop :=
  ∀ (m : (ℓ : Loc Cert.GradKernelIdeal.nD Cert.GradKernelIdeal.τ Cert.GradKernelIdeal.sig) → Buf (Elt Ideal) ℓ) (g : Dev Cert.GradKernelIdeal.nD → PrngReg), Pre_GradKernelIdeal m →
    θ_run (Cert.GradKernelIdeal.defs (F := Ideal)) (onTc (τ := Cert.GradKernelIdeal.τ) (Cert.GradKernelIdeal.main (F := Ideal))) ⟨m, fun _ => 0, g⟩ (fun r => (∀ c : Dev Cert.GradKernelIdeal.nD,
      r.2.mem ((c.tc : Thread Cert.GradKernelIdeal.nD Cert.GradKernelIdeal.τ).loc Cert.GradKernelIdeal.main_arg0) = m ((c.tc : Thread Cert.GradKernelIdeal.nD Cert.GradKernelIdeal.τ).loc Cert.GradKernelIdeal.main_arg0)
      ∧ r.2.mem ((c.tc : Thread Cert.GradKernelIdeal.nD Cert.GradKernelIdeal.τ).loc Cert.GradKernelIdeal.main_arg1) = m ((c.tc : Thread Cert.GradKernelIdeal.nD Cert.GradKernelIdeal.τ).loc Cert.GradKernelIdeal.main_arg1)
      ∧ r.2.mem ((c.tc : Thread Cert.GradKernelIdeal.nD Cert.GradKernelIdeal.τ).loc Cert.GradKernelIdeal.main_arg2) = m ((c.tc : Thread Cert.GradKernelIdeal.nD Cert.GradKernelIdeal.τ).loc Cert.GradKernelIdeal.main_arg2))
      ∧ r.2.sem = fun _ => 0)

def quiescent_GradReferenceIdeal [hGradReferenceIdeal : Cert.GradReferenceIdeal.Facts] : Prop :=
  ∀ (m : (ℓ : Loc Cert.GradReferenceIdeal.nD Cert.GradReferenceIdeal.τ Cert.GradReferenceIdeal.sig) → Buf (Elt Ideal) ℓ) (g : Dev Cert.GradReferenceIdeal.nD → PrngReg), Pre_GradReferenceIdeal m →
    θ_run (Cert.GradReferenceIdeal.defs (F := Ideal)) (onTc (τ := Cert.GradReferenceIdeal.τ) (Cert.GradReferenceIdeal.main (F := Ideal))) ⟨m, fun _ => 0, g⟩ (fun r => (∀ c : Dev Cert.GradReferenceIdeal.nD,
      r.2.mem ((c.tc : Thread Cert.GradReferenceIdeal.nD Cert.GradReferenceIdeal.τ).loc Cert.GradReferenceIdeal.main_arg0) = m ((c.tc : Thread Cert.GradReferenceIdeal.nD Cert.GradReferenceIdeal.τ).loc Cert.GradReferenceIdeal.main_arg0)
      ∧ r.2.mem ((c.tc : Thread Cert.GradReferenceIdeal.nD Cert.GradReferenceIdeal.τ).loc Cert.GradReferenceIdeal.main_arg1) = m ((c.tc : Thread Cert.GradReferenceIdeal.nD Cert.GradReferenceIdeal.τ).loc Cert.GradReferenceIdeal.main_arg1)
      ∧ r.2.mem ((c.tc : Thread Cert.GradReferenceIdeal.nD Cert.GradReferenceIdeal.τ).loc Cert.GradReferenceIdeal.main_arg2) = m ((c.tc : Thread Cert.GradReferenceIdeal.nD Cert.GradReferenceIdeal.τ).loc Cert.GradReferenceIdeal.main_arg2))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_BackKernel [hBackKernel : Cert.BackKernel.Facts] : Prop :=
  ∀ (m : (ℓ : Loc Cert.BackKernel.nD Cert.BackKernel.τ Cert.BackKernel.sig) → Buf (Elt Bits) ℓ) (g : Dev Cert.BackKernel.nD → PrngReg), Pre_BackKernel m →
    θ_run (Cert.BackKernel.defs (F := Bits)) (onTc (τ := Cert.BackKernel.τ) (Cert.BackKernel.main (F := Bits))) ⟨m, fun _ => 0, g⟩ (fun r => (∀ c : Dev Cert.BackKernel.nD,
      r.2.mem ((c.tc : Thread Cert.BackKernel.nD Cert.BackKernel.τ).loc Cert.BackKernel.main_arg0) = m ((c.tc : Thread Cert.BackKernel.nD Cert.BackKernel.τ).loc Cert.BackKernel.main_arg0)
      ∧ r.2.mem ((c.tc : Thread Cert.BackKernel.nD Cert.BackKernel.τ).loc Cert.BackKernel.main_arg1) = m ((c.tc : Thread Cert.BackKernel.nD Cert.BackKernel.τ).loc Cert.BackKernel.main_arg1)
      ∧ r.2.mem ((c.tc : Thread Cert.BackKernel.nD Cert.BackKernel.τ).loc Cert.BackKernel.main_arg2) = m ((c.tc : Thread Cert.BackKernel.nD Cert.BackKernel.τ).loc Cert.BackKernel.main_arg2)
      ∧ r.2.mem ((c.tc : Thread Cert.BackKernel.nD Cert.BackKernel.τ).loc Cert.BackKernel.main_arg3) = m ((c.tc : Thread Cert.BackKernel.nD Cert.BackKernel.τ).loc Cert.BackKernel.main_arg3)
      ∧ r.2.mem ((c.tc : Thread Cert.BackKernel.nD Cert.BackKernel.τ).loc Cert.BackKernel.main_arg4) = m ((c.tc : Thread Cert.BackKernel.nD Cert.BackKernel.τ).loc Cert.BackKernel.main_arg4))
      ∧ r.2.sem = fun _ => 0)

def quiescent_BackKernelIdeal [hBackKernelIdeal : Cert.BackKernelIdeal.Facts] : Prop :=
  ∀ (m : (ℓ : Loc Cert.BackKernelIdeal.nD Cert.BackKernelIdeal.τ Cert.BackKernelIdeal.sig) → Buf (Elt Ideal) ℓ) (g : Dev Cert.BackKernelIdeal.nD → PrngReg), Pre_BackKernelIdeal m →
    θ_run (Cert.BackKernelIdeal.defs (F := Ideal)) (onTc (τ := Cert.BackKernelIdeal.τ) (Cert.BackKernelIdeal.main (F := Ideal))) ⟨m, fun _ => 0, g⟩ (fun r => (∀ c : Dev Cert.BackKernelIdeal.nD,
      r.2.mem ((c.tc : Thread Cert.BackKernelIdeal.nD Cert.BackKernelIdeal.τ).loc Cert.BackKernelIdeal.main_arg0) = m ((c.tc : Thread Cert.BackKernelIdeal.nD Cert.BackKernelIdeal.τ).loc Cert.BackKernelIdeal.main_arg0)
      ∧ r.2.mem ((c.tc : Thread Cert.BackKernelIdeal.nD Cert.BackKernelIdeal.τ).loc Cert.BackKernelIdeal.main_arg1) = m ((c.tc : Thread Cert.BackKernelIdeal.nD Cert.BackKernelIdeal.τ).loc Cert.BackKernelIdeal.main_arg1)
      ∧ r.2.mem ((c.tc : Thread Cert.BackKernelIdeal.nD Cert.BackKernelIdeal.τ).loc Cert.BackKernelIdeal.main_arg2) = m ((c.tc : Thread Cert.BackKernelIdeal.nD Cert.BackKernelIdeal.τ).loc Cert.BackKernelIdeal.main_arg2)
      ∧ r.2.mem ((c.tc : Thread Cert.BackKernelIdeal.nD Cert.BackKernelIdeal.τ).loc Cert.BackKernelIdeal.main_arg3) = m ((c.tc : Thread Cert.BackKernelIdeal.nD Cert.BackKernelIdeal.τ).loc Cert.BackKernelIdeal.main_arg3)
      ∧ r.2.mem ((c.tc : Thread Cert.BackKernelIdeal.nD Cert.BackKernelIdeal.τ).loc Cert.BackKernelIdeal.main_arg4) = m ((c.tc : Thread Cert.BackKernelIdeal.nD Cert.BackKernelIdeal.τ).loc Cert.BackKernelIdeal.main_arg4))
      ∧ r.2.sem = fun _ => 0)

def quiescent_BackReferenceIdeal [hBackReferenceIdeal : Cert.BackReferenceIdeal.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1)
      ∧ r.2.mem ((c.tc : Thread Cert.BackReferenceIdeal.nD Cert.BackReferenceIdeal.τ).loc Cert.BackReferenceIdeal.main_arg2) = m ((c.tc : Thread Cert.BackReferenceIdeal.nD Cert.BackReferenceIdeal.τ).loc Cert.BackReferenceIdeal.main_arg2)
      ∧ r.2.mem ((c.tc : Thread Cert.BackReferenceIdeal.nD Cert.BackReferenceIdeal.τ).loc Cert.BackReferenceIdeal.main_arg3) = m ((c.tc : Thread Cert.BackReferenceIdeal.nD Cert.BackReferenceIdeal.τ).loc Cert.BackReferenceIdeal.main_arg3)
      ∧ r.2.mem ((c.tc : Thread Cert.BackReferenceIdeal.nD Cert.BackReferenceIdeal.τ).loc Cert.BackReferenceIdeal.main_arg4) = m ((c.tc : Thread Cert.BackReferenceIdeal.nD Cert.BackReferenceIdeal.τ).loc Cert.BackReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v239_0)) (v1 : (c : Dev Cert.KernelIdeal.nD) → Buf (Elt Ideal) ((c.tc : Thread Cert.KernelIdeal.nD Cert.KernelIdeal.τ).loc Cert.KernelIdeal.main_v239_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v239_0) = v0 c
          ∧ r.2.mem ((c.tc : Thread Cert.KernelIdeal.nD Cert.KernelIdeal.τ).loc Cert.KernelIdeal.main_v239_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v660) = v0 c
          ∧ r.2.mem ((c.tc : Thread Cert.ReferenceIdeal.nD Cert.ReferenceIdeal.τ).loc Cert.ReferenceIdeal.main_v666) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_GradKernel_GradKernelIdeal : Prop :=
  True

def algebraic_GradKernelIdeal_GradReferenceIdeal [hGradKernelIdeal : Cert.GradKernelIdeal.Facts] [hGradReferenceIdeal : Cert.GradReferenceIdeal.Facts] : Prop :=
  ∀ (m : (ℓ : Loc Cert.GradKernelIdeal.nD Cert.GradKernelIdeal.τ Cert.GradKernelIdeal.sig) → Buf (Elt Ideal) ℓ) (g : Dev Cert.GradKernelIdeal.nD → PrngReg)
    (m' : (ℓ : Loc Cert.GradReferenceIdeal.nD Cert.GradReferenceIdeal.τ Cert.GradReferenceIdeal.sig) → Buf (Elt Ideal) ℓ) (g' : Dev Cert.GradReferenceIdeal.nD → PrngReg), Pre_GradKernelIdeal m →
    (∀ c : Dev Cert.GradKernelIdeal.nD,
      m' ((c.tc : Thread Cert.GradReferenceIdeal.nD Cert.GradReferenceIdeal.τ).loc Cert.GradReferenceIdeal.main_arg0) = m ((c.tc : Thread Cert.GradKernelIdeal.nD Cert.GradKernelIdeal.τ).loc Cert.GradKernelIdeal.main_arg0)
      ∧ m' ((c.tc : Thread Cert.GradReferenceIdeal.nD Cert.GradReferenceIdeal.τ).loc Cert.GradReferenceIdeal.main_arg1) = m ((c.tc : Thread Cert.GradKernelIdeal.nD Cert.GradKernelIdeal.τ).loc Cert.GradKernelIdeal.main_arg1)
      ∧ m' ((c.tc : Thread Cert.GradReferenceIdeal.nD Cert.GradReferenceIdeal.τ).loc Cert.GradReferenceIdeal.main_arg2) = m ((c.tc : Thread Cert.GradKernelIdeal.nD Cert.GradKernelIdeal.τ).loc Cert.GradKernelIdeal.main_arg2)) →
    ∃ (v0 : (c : Dev Cert.GradKernelIdeal.nD) → Buf (Elt Ideal) ((c.tc : Thread Cert.GradKernelIdeal.nD Cert.GradKernelIdeal.τ).loc Cert.GradKernelIdeal.main_v16)),
      θ_run (Cert.GradKernelIdeal.defs (F := Ideal)) (onTc (τ := Cert.GradKernelIdeal.τ) (Cert.GradKernelIdeal.main (F := Ideal))) ⟨m, fun _ => 0, g⟩ (fun r => ∀ c : Dev Cert.GradKernelIdeal.nD,
          r.2.mem ((c.tc : Thread Cert.GradKernelIdeal.nD Cert.GradKernelIdeal.τ).loc Cert.GradKernelIdeal.main_v16) = v0 c
          ∧ r.2.mem ((c.tc : Thread Cert.GradKernelIdeal.nD Cert.GradKernelIdeal.τ).loc Cert.GradKernelIdeal.main_arg0) = m ((c.tc : Thread Cert.GradKernelIdeal.nD Cert.GradKernelIdeal.τ).loc Cert.GradKernelIdeal.main_arg0)
          ∧ r.2.mem ((c.tc : Thread Cert.GradKernelIdeal.nD Cert.GradKernelIdeal.τ).loc Cert.GradKernelIdeal.main_arg1) = m ((c.tc : Thread Cert.GradKernelIdeal.nD Cert.GradKernelIdeal.τ).loc Cert.GradKernelIdeal.main_arg1)
          ∧ r.2.mem ((c.tc : Thread Cert.GradKernelIdeal.nD Cert.GradKernelIdeal.τ).loc Cert.GradKernelIdeal.main_arg2) = m ((c.tc : Thread Cert.GradKernelIdeal.nD Cert.GradKernelIdeal.τ).loc Cert.GradKernelIdeal.main_arg2))
      ∧ θ_run (Cert.GradReferenceIdeal.defs (F := Ideal)) (onTc (τ := Cert.GradReferenceIdeal.τ) (Cert.GradReferenceIdeal.main (F := Ideal))) ⟨m', fun _ => 0, g'⟩ (fun r => ∀ c : Dev Cert.GradReferenceIdeal.nD,
          r.2.mem ((c.tc : Thread Cert.GradReferenceIdeal.nD Cert.GradReferenceIdeal.τ).loc Cert.GradReferenceIdeal.main_v22) = v0 c
          ∧ r.2.mem ((c.tc : Thread Cert.GradReferenceIdeal.nD Cert.GradReferenceIdeal.τ).loc Cert.GradReferenceIdeal.main_arg0) = m' ((c.tc : Thread Cert.GradReferenceIdeal.nD Cert.GradReferenceIdeal.τ).loc Cert.GradReferenceIdeal.main_arg0)
          ∧ r.2.mem ((c.tc : Thread Cert.GradReferenceIdeal.nD Cert.GradReferenceIdeal.τ).loc Cert.GradReferenceIdeal.main_arg1) = m' ((c.tc : Thread Cert.GradReferenceIdeal.nD Cert.GradReferenceIdeal.τ).loc Cert.GradReferenceIdeal.main_arg1)
          ∧ r.2.mem ((c.tc : Thread Cert.GradReferenceIdeal.nD Cert.GradReferenceIdeal.τ).loc Cert.GradReferenceIdeal.main_arg2) = m' ((c.tc : Thread Cert.GradReferenceIdeal.nD Cert.GradReferenceIdeal.τ).loc Cert.GradReferenceIdeal.main_arg2))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)) →
    ∃ (v0 : (c : Dev Cert.ProjKernelIdeal.nD) → Buf (Elt Ideal) ((c.tc : Thread Cert.ProjKernelIdeal.nD Cert.ProjKernelIdeal.τ).loc Cert.ProjKernelIdeal.main_v4_0)) (v1 : (c : Dev Cert.ProjKernelIdeal.nD) → Buf (Elt Ideal) ((c.tc : Thread Cert.ProjKernelIdeal.nD Cert.ProjKernelIdeal.τ).loc Cert.ProjKernelIdeal.main_v4_1)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v4_0) = v0 c
          ∧ r.2.mem ((c.tc : Thread Cert.ProjKernelIdeal.nD Cert.ProjKernelIdeal.τ).loc Cert.ProjKernelIdeal.main_v4_1) = v1 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v16) = v0 c
          ∧ r.2.mem ((c.tc : Thread Cert.ProjReferenceIdeal.nD Cert.ProjReferenceIdeal.τ).loc Cert.ProjReferenceIdeal.main_v17) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_BackKernel_BackKernelIdeal : Prop :=
  True

def algebraic_BackKernelIdeal_BackReferenceIdeal [hBackKernelIdeal : Cert.BackKernelIdeal.Facts] [hBackReferenceIdeal : Cert.BackReferenceIdeal.Facts] : Prop :=
  ∀ (m : (ℓ : Loc Cert.BackKernelIdeal.nD Cert.BackKernelIdeal.τ Cert.BackKernelIdeal.sig) → Buf (Elt Ideal) ℓ) (g : Dev Cert.BackKernelIdeal.nD → PrngReg)
    (m' : (ℓ : Loc Cert.BackReferenceIdeal.nD Cert.BackReferenceIdeal.τ Cert.BackReferenceIdeal.sig) → Buf (Elt Ideal) ℓ) (g' : Dev Cert.BackReferenceIdeal.nD → PrngReg), Pre_BackKernelIdeal m →
    (∀ c : Dev Cert.BackKernelIdeal.nD,
      m' ((c.tc : Thread Cert.BackReferenceIdeal.nD Cert.BackReferenceIdeal.τ).loc Cert.BackReferenceIdeal.main_arg0) = m ((c.tc : Thread Cert.BackKernelIdeal.nD Cert.BackKernelIdeal.τ).loc Cert.BackKernelIdeal.main_arg0)
      ∧ m' ((c.tc : Thread Cert.BackReferenceIdeal.nD Cert.BackReferenceIdeal.τ).loc Cert.BackReferenceIdeal.main_arg1) = m ((c.tc : Thread Cert.BackKernelIdeal.nD Cert.BackKernelIdeal.τ).loc Cert.BackKernelIdeal.main_arg1)
      ∧ m' ((c.tc : Thread Cert.BackReferenceIdeal.nD Cert.BackReferenceIdeal.τ).loc Cert.BackReferenceIdeal.main_arg2) = m ((c.tc : Thread Cert.BackKernelIdeal.nD Cert.BackKernelIdeal.τ).loc Cert.BackKernelIdeal.main_arg2)
      ∧ m' ((c.tc : Thread Cert.BackReferenceIdeal.nD Cert.BackReferenceIdeal.τ).loc Cert.BackReferenceIdeal.main_arg3) = m ((c.tc : Thread Cert.BackKernelIdeal.nD Cert.BackKernelIdeal.τ).loc Cert.BackKernelIdeal.main_arg3)
      ∧ m' ((c.tc : Thread Cert.BackReferenceIdeal.nD Cert.BackReferenceIdeal.τ).loc Cert.BackReferenceIdeal.main_arg4) = m ((c.tc : Thread Cert.BackKernelIdeal.nD Cert.BackKernelIdeal.τ).loc Cert.BackKernelIdeal.main_arg4)) →
    ∃ (v0 : (c : Dev Cert.BackKernelIdeal.nD) → Buf (Elt Ideal) ((c.tc : Thread Cert.BackKernelIdeal.nD Cert.BackKernelIdeal.τ).loc Cert.BackKernelIdeal.main_v4_0)) (v1 : (c : Dev Cert.BackKernelIdeal.nD) → Buf (Elt Ideal) ((c.tc : Thread Cert.BackKernelIdeal.nD Cert.BackKernelIdeal.τ).loc Cert.BackKernelIdeal.main_v4_1)),
      θ_run (Cert.BackKernelIdeal.defs (F := Ideal)) (onTc (τ := Cert.BackKernelIdeal.τ) (Cert.BackKernelIdeal.main (F := Ideal))) ⟨m, fun _ => 0, g⟩ (fun r => ∀ c : Dev Cert.BackKernelIdeal.nD,
          r.2.mem ((c.tc : Thread Cert.BackKernelIdeal.nD Cert.BackKernelIdeal.τ).loc Cert.BackKernelIdeal.main_v4_0) = v0 c
          ∧ r.2.mem ((c.tc : Thread Cert.BackKernelIdeal.nD Cert.BackKernelIdeal.τ).loc Cert.BackKernelIdeal.main_v4_1) = v1 c
          ∧ r.2.mem ((c.tc : Thread Cert.BackKernelIdeal.nD Cert.BackKernelIdeal.τ).loc Cert.BackKernelIdeal.main_arg0) = m ((c.tc : Thread Cert.BackKernelIdeal.nD Cert.BackKernelIdeal.τ).loc Cert.BackKernelIdeal.main_arg0)
          ∧ r.2.mem ((c.tc : Thread Cert.BackKernelIdeal.nD Cert.BackKernelIdeal.τ).loc Cert.BackKernelIdeal.main_arg1) = m ((c.tc : Thread Cert.BackKernelIdeal.nD Cert.BackKernelIdeal.τ).loc Cert.BackKernelIdeal.main_arg1)
          ∧ r.2.mem ((c.tc : Thread Cert.BackKernelIdeal.nD Cert.BackKernelIdeal.τ).loc Cert.BackKernelIdeal.main_arg2) = m ((c.tc : Thread Cert.BackKernelIdeal.nD Cert.BackKernelIdeal.τ).loc Cert.BackKernelIdeal.main_arg2)
          ∧ r.2.mem ((c.tc : Thread Cert.BackKernelIdeal.nD Cert.BackKernelIdeal.τ).loc Cert.BackKernelIdeal.main_arg3) = m ((c.tc : Thread Cert.BackKernelIdeal.nD Cert.BackKernelIdeal.τ).loc Cert.BackKernelIdeal.main_arg3)
          ∧ r.2.mem ((c.tc : Thread Cert.BackKernelIdeal.nD Cert.BackKernelIdeal.τ).loc Cert.BackKernelIdeal.main_arg4) = m ((c.tc : Thread Cert.BackKernelIdeal.nD Cert.BackKernelIdeal.τ).loc Cert.BackKernelIdeal.main_arg4))
      ∧ θ_run (Cert.BackReferenceIdeal.defs (F := Ideal)) (onTc (τ := Cert.BackReferenceIdeal.τ) (Cert.BackReferenceIdeal.main (F := Ideal))) ⟨m', fun _ => 0, g'⟩ (fun r => ∀ c : Dev Cert.BackReferenceIdeal.nD,
          r.2.mem ((c.tc : Thread Cert.BackReferenceIdeal.nD Cert.BackReferenceIdeal.τ).loc Cert.BackReferenceIdeal.main_v41) = v0 c
          ∧ r.2.mem ((c.tc : Thread Cert.BackReferenceIdeal.nD Cert.BackReferenceIdeal.τ).loc Cert.BackReferenceIdeal.main_v44) = v1 c
          ∧ r.2.mem ((c.tc : Thread Cert.BackReferenceIdeal.nD Cert.BackReferenceIdeal.τ).loc Cert.BackReferenceIdeal.main_arg0) = m' ((c.tc : Thread Cert.BackReferenceIdeal.nD Cert.BackReferenceIdeal.τ).loc Cert.BackReferenceIdeal.main_arg0)
          ∧ r.2.mem ((c.tc : Thread Cert.BackReferenceIdeal.nD Cert.BackReferenceIdeal.τ).loc Cert.BackReferenceIdeal.main_arg1) = m' ((c.tc : Thread Cert.BackReferenceIdeal.nD Cert.BackReferenceIdeal.τ).loc Cert.BackReferenceIdeal.main_arg1)
          ∧ r.2.mem ((c.tc : Thread Cert.BackReferenceIdeal.nD Cert.BackReferenceIdeal.τ).loc Cert.BackReferenceIdeal.main_arg2) = m' ((c.tc : Thread Cert.BackReferenceIdeal.nD Cert.BackReferenceIdeal.τ).loc Cert.BackReferenceIdeal.main_arg2)
          ∧ r.2.mem ((c.tc : Thread Cert.BackReferenceIdeal.nD Cert.BackReferenceIdeal.τ).loc Cert.BackReferenceIdeal.main_arg3) = m' ((c.tc : Thread Cert.BackReferenceIdeal.nD Cert.BackReferenceIdeal.τ).loc Cert.BackReferenceIdeal.main_arg3)
          ∧ r.2.mem ((c.tc : Thread Cert.BackReferenceIdeal.nD Cert.BackReferenceIdeal.τ).loc Cert.BackReferenceIdeal.main_arg4) = m' ((c.tc : Thread Cert.BackReferenceIdeal.nD Cert.BackReferenceIdeal.τ).loc Cert.BackReferenceIdeal.main_arg4))

def Claim : Prop :=
  ∃ (hKernel : Cert.Kernel.Facts) (hKernelIdeal : Cert.KernelIdeal.Facts) (hReferenceIdeal : Cert.ReferenceIdeal.Facts) (hGradKernel : Cert.GradKernel.Facts) (hGradKernelIdeal : Cert.GradKernelIdeal.Facts) (hGradReferenceIdeal : Cert.GradReferenceIdeal.Facts) (hProjKernel : Cert.ProjKernel.Facts) (hProjKernelIdeal : Cert.ProjKernelIdeal.Facts) (hProjReferenceIdeal : Cert.ProjReferenceIdeal.Facts) (hBackKernel : Cert.BackKernel.Facts) (hBackKernelIdeal : Cert.BackKernelIdeal.Facts) (hBackReferenceIdeal : Cert.BackReferenceIdeal.Facts),
    quiescent_Kernel (hKernel := hKernel)
    ∧ quiescent_KernelIdeal (hKernelIdeal := hKernelIdeal)
    ∧ quiescent_ReferenceIdeal (hReferenceIdeal := hReferenceIdeal)
    ∧ quiescent_GradKernel (hGradKernel := hGradKernel)
    ∧ quiescent_GradKernelIdeal (hGradKernelIdeal := hGradKernelIdeal)
    ∧ quiescent_GradReferenceIdeal (hGradReferenceIdeal := hGradReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_BackKernel (hBackKernel := hBackKernel)
    ∧ quiescent_BackKernelIdeal (hBackKernelIdeal := hBackKernelIdeal)
    ∧ quiescent_BackReferenceIdeal (hBackReferenceIdeal := hBackReferenceIdeal)
    ∧ preserves_Kernel_KernelIdeal
    ∧ algebraic_KernelIdeal_ReferenceIdeal (hKernelIdeal := hKernelIdeal) (hReferenceIdeal := hReferenceIdeal)
    ∧ preserves_GradKernel_GradKernelIdeal
    ∧ algebraic_GradKernelIdeal_GradReferenceIdeal (hGradKernelIdeal := hGradKernelIdeal) (hGradReferenceIdeal := hGradReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_BackKernel_BackKernelIdeal
    ∧ algebraic_BackKernelIdeal_BackReferenceIdeal (hBackKernelIdeal := hBackKernelIdeal) (hBackReferenceIdeal := hBackReferenceIdeal)
-- ==== Kernel.lean ====
abbrev S4096x8192 : Shape := ⟨2, ![4096, 8192]⟩
abbrev S4096x1024 : Shape := ⟨2, ![4096, 1024]⟩
abbrev S4x31x1024 : Shape := ⟨3, ![4, 31, 1024]⟩
abbrev S4x1024 : Shape := ⟨2, ![4, 1024]⟩
abbrev S_ : Shape := ⟨0, ![]⟩
abbrev S1x31x1024 : Shape := ⟨3, ![1, 31, 1024]⟩
abbrev S31x1024 : Shape := ⟨2, ![31, 1024]⟩
abbrev S1x1024 : Shape := ⟨2, ![1, 1024]⟩
abbrev S1024 : Shape := ⟨1, ![1024]⟩
abbrev S30x1024 : Shape := ⟨2, ![30, 1024]⟩
abbrev S4126x1024 : Shape := ⟨2, ![4126, 1024]⟩
abbrev S4x31x4x256 : Shape := ⟨4, ![4, 31, 4, 256]⟩
abbrev S4x4x31x256 : Shape := ⟨4, ![4, 4, 31, 256]⟩
abbrev S4x1x1024 : Shape := ⟨3, ![4, 1, 1024]⟩
abbrev S40x1024 : Shape := ⟨2, ![40, 1024]⟩
abbrev S256x1024 : Shape := ⟨2, ![256, 1024]⟩
abbrev S256x3072 : Shape := ⟨2, ![256, 3072]⟩
abbrev S32x3072 : Shape := ⟨2, ![32, 3072]⟩
abbrev S4x1x31x256 : Shape := ⟨4, ![4, 1, 31, 256]⟩
abbrev S1x1x1024 : Shape := ⟨3, ![1, 1, 1024]⟩
abbrev S288x1024 : Shape := ⟨2, ![288, 1024]⟩
abbrev S248x1024 : Shape := ⟨2, ![248, 1024]⟩
abbrev S8x1024 : Shape := ⟨2, ![8, 1024]⟩
abbrev S7x280x1024 : Shape := ⟨3, ![7, 280, 1024]⟩
abbrev S32x1024 : Shape := ⟨2, ![32, 1024]⟩
abbrev S1x1x1x256 : Shape := ⟨4, ![1, 1, 1, 256]⟩
abbrev S1x256 : Shape := ⟨2, ![1, 256]⟩
abbrev S256 : Shape := ⟨1, ![256]⟩
abbrev S256x1 : Shape := ⟨2, ![256, 1]⟩
abbrev S280x1024 : Shape := ⟨2, ![280, 1024]⟩
abbrev S1x280x1024 : Shape := ⟨3, ![1, 280, 1024]⟩
abbrev S8x512 : Shape := ⟨2, ![8, 512]⟩
abbrev S64x512 : Shape := ⟨2, ![64, 512]⟩
abbrev S8x8x512 : Shape := ⟨3, ![8, 8, 512]⟩
abbrev S1x8x512 : Shape := ⟨3, ![1, 8, 512]⟩
abbrev S1x64x512 : Shape := ⟨3, ![1, 64, 512]⟩
abbrev S3x1024 : Shape := ⟨2, ![3, 1024]⟩

abbrev nBuf : Space → Nat
  | .hbm => 251
  | .vmem => 22
  | .smem => 0
  | _ => 0

abbrev hbmTy0_0 (i : Nat) : BufTy := match i % 128 with
  | 0 => ⟨S4096x8192, .bf16⟩
  | 1 => ⟨S4096x1024, .bf16⟩
  | 2 => ⟨S4096x8192, .bf16⟩
  | 3 => ⟨S4x31x1024, .f32⟩
  | 4 => ⟨S4x1024, .f32⟩
  | 5 => ⟨S4x1024, .f32⟩
  | 6 => ⟨S4x1024, .f32⟩
  | 7 => ⟨S4096x8192, .f32⟩
  | 8 => ⟨S4096x1024, .f32⟩
  | 9 => ⟨S4096x1024, .f32⟩
  | 10 => ⟨S4096x1024, .f32⟩
  | 11 => ⟨S4096x1024, .f32⟩
  | 12 => ⟨S_, .f32⟩
  | 13 => ⟨S4096x1024, .f32⟩
  | 14 => ⟨S4096x1024, .f32⟩
  | 15 => ⟨S_, .f32⟩
  | 16 => ⟨S4096x1024, .f32⟩
  | 17 => ⟨S4096x1024, .f32⟩
  | 18 => ⟨S4096x1024, .f32⟩
  | 19 => ⟨S1x31x1024, .f32⟩
  | 20 => ⟨S31x1024, .f32⟩
  | 21 => ⟨S1x1024, .f32⟩
  | 22 => ⟨S1024, .f32⟩
  | 23 => ⟨S_, .f32⟩
  | 24 => ⟨S30x1024, .f32⟩
  | 25 => ⟨S4126x1024, .f32⟩
  | 26 => ⟨S1x1024, .f32⟩
  | 27 => ⟨S1024, .f32⟩
  | 28 => ⟨S4096x1024, .f32⟩
  | 29 => ⟨S1x1024, .f32⟩
  | 30 => ⟨S4096x1024, .f32⟩
  | 31 => ⟨S4096x1024, .f32⟩
  | 32 => ⟨S1x1024, .f32⟩
  | 33 => ⟨S1024, .f32⟩
  | 34 => ⟨S4096x1024, .f32⟩
  | 35 => ⟨S1x1024, .f32⟩
  | 36 => ⟨S4096x1024, .f32⟩
  | 37 => ⟨S4096x1024, .f32⟩
  | 38 => ⟨S4096x1024, .f32⟩
  | 39 => ⟨S1x1024, .f32⟩
  | 40 => ⟨S1024, .f32⟩
  | 41 => ⟨S4096x1024, .f32⟩
  | 42 => ⟨S1x1024, .f32⟩
  | 43 => ⟨S4096x1024, .f32⟩
  | 44 => ⟨S4096x1024, .f32⟩
  | 45 => ⟨S4096x1024, .f32⟩
  | 46 => ⟨S1x1024, .f32⟩
  | 47 => ⟨S1024, .f32⟩
  | 48 => ⟨S4096x1024, .f32⟩
  | 49 => ⟨S1x1024, .f32⟩
  | 50 => ⟨S4096x1024, .f32⟩
  | 51 => ⟨S4096x1024, .f32⟩
  | 52 => ⟨S4096x1024, .f32⟩
  | 53 => ⟨S1x1024, .f32⟩
  | 54 => ⟨S1024, .f32⟩
  | 55 => ⟨S4096x1024, .f32⟩
  | 56 => ⟨S1x1024, .f32⟩
  | 57 => ⟨S4096x1024, .f32⟩
  | 58 => ⟨S4096x1024, .f32⟩
  | 59 => ⟨S4096x1024, .f32⟩
  | 60 => ⟨S1x1024, .f32⟩
  | 61 => ⟨S1024, .f32⟩
  | 62 => ⟨S4096x1024, .f32⟩
  | 63 => ⟨S1x1024, .f32⟩
  | 64 => ⟨S4096x1024, .f32⟩
  | 65 => ⟨S4096x1024, .f32⟩
  | 66 => ⟨S4096x1024, .f32⟩
  | 67 => ⟨S1x1024, .f32⟩
  | 68 => ⟨S1024, .f32⟩
  | 69 => ⟨S4096x1024, .f32⟩
  | 70 => ⟨S1x1024, .f32⟩
  | 71 => ⟨S4096x1024, .f32⟩
  | 72 => ⟨S4096x1024, .f32⟩
  | 73 => ⟨S4096x1024, .f32⟩
  | 74 => ⟨S1x1024, .f32⟩
  | 75 => ⟨S1024, .f32⟩
  | 76 => ⟨S4096x1024, .f32⟩
  | 77 => ⟨S1x1024, .f32⟩
  | 78 => ⟨S4096x1024, .f32⟩
  | 79 => ⟨S4096x1024, .f32⟩
  | 80 => ⟨S4096x1024, .f32⟩
  | 81 => ⟨S1x1024, .f32⟩
  | 82 => ⟨S1024, .f32⟩
  | 83 => ⟨S4096x1024, .f32⟩
  | 84 => ⟨S1x1024, .f32⟩
  | 85 => ⟨S4096x1024, .f32⟩
  | 86 => ⟨S4096x1024, .f32⟩
  | 87 => ⟨S4096x1024, .f32⟩
  | 88 => ⟨S1x1024, .f32⟩
  | 89 => ⟨S1024, .f32⟩
  | 90 => ⟨S4096x1024, .f32⟩
  | 91 => ⟨S1x1024, .f32⟩
  | 92 => ⟨S4096x1024, .f32⟩
  | 93 => ⟨S4096x1024, .f32⟩
  | 94 => ⟨S4096x1024, .f32⟩
  | 95 => ⟨S1x1024, .f32⟩
  | 96 => ⟨S1024, .f32⟩
  | 97 => ⟨S4096x1024, .f32⟩
  | 98 => ⟨S1x1024, .f32⟩
  | 99 => ⟨S4096x1024, .f32⟩
  | 100 => ⟨S4096x1024, .f32⟩
  | 101 => ⟨S4096x1024, .f32⟩
  | 102 => ⟨S1x1024, .f32⟩
  | 103 => ⟨S1024, .f32⟩
  | 104 => ⟨S4096x1024, .f32⟩
  | 105 => ⟨S1x1024, .f32⟩
  | 106 => ⟨S4096x1024, .f32⟩
  | 107 => ⟨S4096x1024, .f32⟩
  | 108 => ⟨S4096x1024, .f32⟩
  | 109 => ⟨S1x1024, .f32⟩
  | 110 => ⟨S1024, .f32⟩
  | 111 => ⟨S4096x1024, .f32⟩
  | 112 => ⟨S1x1024, .f32⟩
  | 113 => ⟨S4096x1024, .f32⟩
  | 114 => ⟨S4096x1024, .f32⟩
  | 115 => ⟨S4096x1024, .f32⟩
  | 116 => ⟨S1x1024, .f32⟩
  | 117 => ⟨S1024, .f32⟩
  | 118 => ⟨S4096x1024, .f32⟩
  | 119 => ⟨S1x1024, .f32⟩
  | 120 => ⟨S4096x1024, .f32⟩
  | 121 => ⟨S4096x1024, .f32⟩
  | 122 => ⟨S4096x1024, .f32⟩
  | 123 => ⟨S1x1024, .f32⟩
  | 124 => ⟨S1024, .f32⟩
  | 125 => ⟨S4096x1024, .f32⟩
  | 126 => ⟨S1x1024, .f32⟩
  | 127 => ⟨S4096x1024, .f32⟩
  | _ => ⟨S4096x8192, .bf16⟩

abbrev hbmTy0_1 (i : Nat) : BufTy := match i % 128 with
  | 0 => ⟨S4096x1024, .f32⟩
  | 1 => ⟨S4096x1024, .f32⟩
  | 2 => ⟨S1x1024, .f32⟩
  | 3 => ⟨S1024, .f32⟩
  | 4 => ⟨S4096x1024, .f32⟩
  | 5 => ⟨S1x1024, .f32⟩
  | 6 => ⟨S4096x1024, .f32⟩
  | 7 => ⟨S4096x1024, .f32⟩
  | 8 => ⟨S4096x1024, .f32⟩
  | 9 => ⟨S1x1024, .f32⟩
  | 10 => ⟨S1024, .f32⟩
  | 11 => ⟨S4096x1024, .f32⟩
  | 12 => ⟨S1x1024, .f32⟩
  | 13 => ⟨S4096x1024, .f32⟩
  | 14 => ⟨S4096x1024, .f32⟩
  | 15 => ⟨S4096x1024, .f32⟩
  | 16 => ⟨S1x1024, .f32⟩
  | 17 => ⟨S1024, .f32⟩
  | 18 => ⟨S4096x1024, .f32⟩
  | 19 => ⟨S1x1024, .f32⟩
  | 20 => ⟨S4096x1024, .f32⟩
  | 21 => ⟨S4096x1024, .f32⟩
  | 22 => ⟨S4096x1024, .f32⟩
  | 23 => ⟨S1x1024, .f32⟩
  | 24 => ⟨S1024, .f32⟩
  | 25 => ⟨S4096x1024, .f32⟩
  | 26 => ⟨S1x1024, .f32⟩
  | 27 => ⟨S4096x1024, .f32⟩
  | 28 => ⟨S4096x1024, .f32⟩
  | 29 => ⟨S4096x1024, .f32⟩
  | 30 => ⟨S1x1024, .f32⟩
  | 31 => ⟨S1024, .f32⟩
  | 32 => ⟨S4096x1024, .f32⟩
  | 33 => ⟨S1x1024, .f32⟩
  | 34 => ⟨S4096x1024, .f32⟩
  | 35 => ⟨S4096x1024, .f32⟩
  | 36 => ⟨S4096x1024, .f32⟩
  | 37 => ⟨S1x1024, .f32⟩
  | 38 => ⟨S1024, .f32⟩
  | 39 => ⟨S4096x1024, .f32⟩
  | 40 => ⟨S1x1024, .f32⟩
  | 41 => ⟨S4096x1024, .f32⟩
  | 42 => ⟨S4096x1024, .f32⟩
  | 43 => ⟨S4096x1024, .f32⟩
  | 44 => ⟨S1x1024, .f32⟩
  | 45 => ⟨S1024, .f32⟩
  | 46 => ⟨S4096x1024, .f32⟩
  | 47 => ⟨S1x1024, .f32⟩
  | 48 => ⟨S4096x1024, .f32⟩
  | 49 => ⟨S4096x1024, .f32⟩
  | 50 => ⟨S4096x1024, .f32⟩
  | 51 => ⟨S1x1024, .f32⟩
  | 52 => ⟨S1024, .f32⟩
  | 53 => ⟨S4096x1024, .f32⟩
  | 54 => ⟨S1x1024, .f32⟩
  | 55 => ⟨S4096x1024, .f32⟩
  | 56 => ⟨S4096x1024, .f32⟩
  | 57 => ⟨S4096x1024, .f32⟩
  | 58 => ⟨S1x1024, .f32⟩
  | 59 => ⟨S1024, .f32⟩
  | 60 => ⟨S4096x1024, .f32⟩
  | 61 => ⟨S1x1024, .f32⟩
  | 62 => ⟨S4096x1024, .f32⟩
  | 63 => ⟨S4096x1024, .f32⟩
  | 64 => ⟨S4096x1024, .f32⟩
  | 65 => ⟨S1x1024, .f32⟩
  | 66 => ⟨S1024, .f32⟩
  | 67 => ⟨S4096x1024, .f32⟩
  | 68 => ⟨S1x1024, .f32⟩
  | 69 => ⟨S4096x1024, .f32⟩
  | 70 => ⟨S4096x1024, .f32⟩
  | 71 => ⟨S4096x1024, .f32⟩
  | 72 => ⟨S1x1024, .f32⟩
  | 73 => ⟨S1024, .f32⟩
  | 74 => ⟨S4096x1024, .f32⟩
  | 75 => ⟨S1x1024, .f32⟩
  | 76 => ⟨S4096x1024, .f32⟩
  | 77 => ⟨S4096x1024, .f32⟩
  | 78 => ⟨S4096x1024, .f32⟩
  | 79 => ⟨S1x1024, .f32⟩
  | 80 => ⟨S1024, .f32⟩
  | 81 => ⟨S4096x1024, .f32⟩
  | 82 => ⟨S1x1024, .f32⟩
  | 83 => ⟨S4096x1024, .f32⟩
  | 84 => ⟨S4096x1024, .f32⟩
  | 85 => ⟨S4096x1024, .f32⟩
  | 86 => ⟨S1x1024, .f32⟩
  | 87 => ⟨S1024, .f32⟩
  | 88 => ⟨S4096x1024, .f32⟩
  | 89 => ⟨S1x1024, .f32⟩
  | 90 => ⟨S4096x1024, .f32⟩
  | 91 => ⟨S4096x1024, .f32⟩
  | 92 => ⟨S4096x1024, .f32⟩
  | 93 => ⟨S1x1024, .f32⟩
  | 94 => ⟨S1024, .f32⟩
  | 95 => ⟨S4096x1024, .f32⟩
  | 96 => ⟨S1x1024, .f32⟩
  | 97 => ⟨S4096x1024, .f32⟩
  | 98 => ⟨S4096x1024, .f32⟩
  | 99 => ⟨S4096x1024, .f32⟩
  | 100 => ⟨S1x1024, .f32⟩
  | 101 => ⟨S1024, .f32⟩
  | 102 => ⟨S4096x1024, .f32⟩
  | 103 => ⟨S1x1024, .f32⟩
  | 104 => ⟨S4096x1024, .f32⟩
  | 105 => ⟨S4096x1024, .f32⟩
  | 106 => ⟨S4096x1024, .f32⟩
  | 107 => ⟨S1x1024, .f32⟩
  | 108 => ⟨S1024, .f32⟩
  | 109 => ⟨S4096x1024, .f32⟩
  | 110 => ⟨S1x1024, .f32⟩
  | 111 => ⟨S4096x1024, .f32⟩
  | 112 => ⟨S4096x1024, .f32⟩
  | 113 => ⟨S4096x1024, .f32⟩
  | 114 => ⟨S1x1024, .f32⟩
  | 115 => ⟨S4096x1024, .f32⟩
  | 116 => ⟨S4096x1024, .f32⟩
  | 117 => ⟨S4x31x4x256, .f32⟩
  | 118 => ⟨S4x4x31x256, .f32⟩
  | 119 => ⟨S4x1x1024, .f32⟩
  | 120 => ⟨S4x1x1024, .f32⟩
  | 121 => ⟨S4096x8192, .bf16⟩
  | 122 => ⟨S40x1024, .f32⟩
  | _ => ⟨S4096x8192, .bf16⟩

abbrev hbmTy (i : Nat) : BufTy := match i / 128 with
  | 0 => hbmTy0_0 i
  | 1 => hbmTy0_1 i
  | _ => ⟨S4096x8192, .bf16⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x3072, .bf16⟩
  | .local _ .vmem, ⟨5, _⟩ => ⟨S256x3072, .bf16⟩
  | .local _ .vmem, ⟨6, _⟩ => ⟨S32x3072, .bf16⟩
  | .local _ .vmem, ⟨7, _⟩ => ⟨S32x3072, .bf16⟩
  | .local _ .vmem, ⟨8, _⟩ => ⟨S4x1x31x256, .f32⟩
  | .local _ .vmem, ⟨9, _⟩ => ⟨S1x1x1024, .f32⟩
  | .local _ .vmem, ⟨10, _⟩ => ⟨S1x1x1024, .f32⟩
  | .local _ .vmem, ⟨11, _⟩ => ⟨S256x3072, .bf16⟩
  | .local _ .vmem, ⟨12, _⟩ => ⟨S256x3072, .bf16⟩
  | .local _ .vmem, ⟨13, _⟩ => ⟨S40x1024, .f32⟩
  | .local _ .vmem, ⟨14, _⟩ => ⟨S288x1024, .f32⟩
  | .local _ .vmem, ⟨15, _⟩ => ⟨S288x1024, .f32⟩
  | .local _ .vmem, ⟨16, _⟩ => ⟨S256x1024, .f32⟩
  | .local _ .vmem, ⟨17, _⟩ => ⟨S248x1024, .f32⟩
  | .local _ .vmem, ⟨18, _⟩ => ⟨S248x1024, .f32⟩
  | .local _ .vmem, ⟨19, _⟩ => ⟨S8x1024, .f32⟩
  | .local _ .vmem, ⟨20, _⟩ => ⟨S7x280x1024, .f32⟩
  | .local _ .vmem, ⟨21, _⟩ => ⟨S7x280x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_v238 : Ref sig .tc := ⟨.hbm, 248, rfl⟩
abbrev main_v239_0 : Ref sig .tc := ⟨.hbm, 249, rfl⟩
abbrev main_v239_1 : Ref sig .tc := ⟨.hbm, 250, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_121 : BitVec 32 := 0#32
  let c4_i32 : BitVec 32 := 4#32
  let v191 : BitVec 32 := Scalar.addi c0_i32_121 c4_i32
  let c1_i32 : BitVec 32 := 1#32
  ⟨c0_i32_121, v191, c1_i32⟩
def k0_mult1 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  v207
def k0_mult2 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c0_i32_138 : BitVec 32 := 0#32
  let v210 : BitVec 32 := Scalar.addi v208 c0_i32_138
  v210
def k0_off1 (k0_t1 : Fin k0_t1_loop.trips) (c0_i32_138 : BitVec 32) : Fin 2 → Nat :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let v210 : BitVec 32 := Scalar.addi v208 c0_i32_138
  let v211 : BitVec 32 := v210
  let v212 : Index := Scalar.indexCast v211
  let c0_139 : Index := 0#32
  ![v212.toNat, 0]
def k0_mult3 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c0_i32_141 : BitVec 32 := 0#32
  let v240 : BitVec 32 := Scalar.addi v208 c0_i32_141
  v240
def k0_off2 (k0_t1 : Fin k0_t1_loop.trips) (c0_i32_141 : BitVec 32) : Fin 3 → Nat :=
  let c0_142 : Index := 0#32
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let v240 : BitVec 32 := Scalar.addi v208 c0_i32_141
  let v241 : BitVec 32 := v240
  let v242 : Index := Scalar.indexCast v241
  let c0_143 : Index := 0#32
  ![0, v242.toNat, 0]
def k0_mult4 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c0_i32_145 : BitVec 32 := 0#32
  let v279 : BitVec 32 := Scalar.addi v208 c0_i32_145
  v279
def k0_off3 (k0_t1 : Fin k0_t1_loop.trips) (c0_i32_145 : BitVec 32) : Fin 3 → Nat :=
  let c1_146 : Index := 1#32
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let v279 : BitVec 32 := Scalar.addi v208 c0_i32_145
  let v280 : BitVec 32 := v279
  let v281 : Index := Scalar.indexCast v280
  let c0_147 : Index := 0#32
  ![1, v281.toNat, 0]
def k0_mult5 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c0_i32_149 : BitVec 32 := 0#32
  let v318 : BitVec 32 := Scalar.addi v208 c0_i32_149
  v318
def k0_off4 (k0_t1 : Fin k0_t1_loop.trips) (c0_i32_149 : BitVec 32) : Fin 3 → Nat :=
  let c2_150 : Index := 2#32
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let v318 : BitVec 32 := Scalar.addi v208 c0_i32_149
  let v319 : BitVec 32 := v318
  let v320 : Index := Scalar.indexCast v319
  let c0_151 : Index := 0#32
  ![2, v320.toNat, 0]
def k0_mult6 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c0_i32_154 : BitVec 32 := 0#32
  let v357 : BitVec 32 := Scalar.addi v208 c0_i32_154
  v357
def k0_off5 (k0_t1 : Fin k0_t1_loop.trips) (c0_i32_154 : BitVec 32) : Fin 3 → Nat :=
  let c3_155 : Index := 3#32
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let v357 : BitVec 32 := Scalar.addi v208 c0_i32_154
  let v358 : BitVec 32 := v357
  let v359 : Index := Scalar.indexCast v358
  let c0_156 : Index := 0#32
  ![3, v359.toNat, 0]
def k0_mult7 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c0_i32_158 : BitVec 32 := 0#32
  let v396 : BitVec 32 := Scalar.addi v208 c0_i32_158
  v396
def k0_off6 (k0_t1 : Fin k0_t1_loop.trips) (c0_i32_158 : BitVec 32) : Fin 3 → Nat :=
  let c4_159 : Index := 4#32
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let v396 : BitVec 32 := Scalar.addi v208 c0_i32_158
  let v397 : BitVec 32 := v396
  let v398 : Index := Scalar.indexCast v397
  let c0_160 : Index := 0#32
  ![4, v398.toNat, 0]
def k0_mult8 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c0_i32_162 : BitVec 32 := 0#32
  let v435 : BitVec 32 := Scalar.addi v208 c0_i32_162
  v435
def k0_off7 (k0_t1 : Fin k0_t1_loop.trips) (c0_i32_162 : BitVec 32) : Fin 3 → Nat :=
  let c5_163 : Index := 5#32
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let v435 : BitVec 32 := Scalar.addi v208 c0_i32_162
  let v436 : BitVec 32 := v435
  let v437 : Index := Scalar.indexCast v436
  let c0_164 : Index := 0#32
  ![5, v437.toNat, 0]
def k0_mult9 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c0_i32_166 : BitVec 32 := 0#32
  let v474 : BitVec 32 := Scalar.addi v208 c0_i32_166
  v474
def k0_off8 (k0_t1 : Fin k0_t1_loop.trips) (c0_i32_166 : BitVec 32) : Fin 3 → Nat :=
  let c6_167 : Index := 6#32
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let v474 : BitVec 32 := Scalar.addi v208 c0_i32_166
  let v475 : BitVec 32 := v474
  let v476 : Index := Scalar.indexCast v475
  let c0_168 : Index := 0#32
  ![6, v476.toNat, 0]
def k0_mult10 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c8_i32 : BitVec 32 := 8#32
  let v513 : BitVec 32 := Scalar.addi v208 c8_i32
  v513
def k0_mult11 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c8_i32_172 : BitVec 32 := 8#32
  let v551 : BitVec 32 := Scalar.addi v208 c8_i32_172
  v551
def k0_mult12 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c8_i32_176 : BitVec 32 := 8#32
  let v590 : BitVec 32 := Scalar.addi v208 c8_i32_176
  v590
def k0_mult13 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c8_i32_180 : BitVec 32 := 8#32
  let v629 : BitVec 32 := Scalar.addi v208 c8_i32_180
  v629
def k0_mult14 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c8_i32_184 : BitVec 32 := 8#32
  let v668 : BitVec 32 := Scalar.addi v208 c8_i32_184
  v668
def k0_mult15 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c8_i32_188 : BitVec 32 := 8#32
  let v707 : BitVec 32 := Scalar.addi v208 c8_i32_188
  v707
def k0_mult16 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c8_i32_192 : BitVec 32 := 8#32
  let v746 : BitVec 32 := Scalar.addi v208 c8_i32_192
  v746
def k0_mult17 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c8_i32_196 : BitVec 32 := 8#32
  let v785 : BitVec 32 := Scalar.addi v208 c8_i32_196
  v785
def k0_mult18 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c16_i32 : BitVec 32 := 16#32
  let v824 : BitVec 32 := Scalar.addi v208 c16_i32
  v824
def k0_mult19 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c16_i32_202 : BitVec 32 := 16#32
  let v862 : BitVec 32 := Scalar.addi v208 c16_i32_202
  v862
def k0_mult20 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c16_i32_206 : BitVec 32 := 16#32
  let v901 : BitVec 32 := Scalar.addi v208 c16_i32_206
  v901
def k0_mult21 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c16_i32_210 : BitVec 32 := 16#32
  let v940 : BitVec 32 := Scalar.addi v208 c16_i32_210
  v940
def k0_mult22 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c16_i32_214 : BitVec 32 := 16#32
  let v979 : BitVec 32 := Scalar.addi v208 c16_i32_214
  v979
def k0_mult23 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c16_i32_218 : BitVec 32 := 16#32
  let v1018 : BitVec 32 := Scalar.addi v208 c16_i32_218
  v1018
def k0_mult24 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c16_i32_222 : BitVec 32 := 16#32
  let v1057 : BitVec 32 := Scalar.addi v208 c16_i32_222
  v1057
def k0_mult25 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c16_i32_226 : BitVec 32 := 16#32
  let v1096 : BitVec 32 := Scalar.addi v208 c16_i32_226
  v1096
def k0_mult26 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c24_i32 : BitVec 32 := 24#32
  let v1135 : BitVec 32 := Scalar.addi v208 c24_i32
  v1135
def k0_mult27 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c24_i32_232 : BitVec 32 := 24#32
  let v1173 : BitVec 32 := Scalar.addi v208 c24_i32_232
  v1173
def k0_mult28 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c24_i32_236 : BitVec 32 := 24#32
  let v1212 : BitVec 32 := Scalar.addi v208 c24_i32_236
  v1212
def k0_mult29 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c24_i32_240 : BitVec 32 := 24#32
  let v1251 : BitVec 32 := Scalar.addi v208 c24_i32_240
  v1251
def k0_mult30 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c24_i32_244 : BitVec 32 := 24#32
  let v1290 : BitVec 32 := Scalar.addi v208 c24_i32_244
  v1290
def k0_mult31 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c24_i32_248 : BitVec 32 := 24#32
  let v1329 : BitVec 32 := Scalar.addi v208 c24_i32_248
  v1329
def k0_mult32 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c24_i32_252 : BitVec 32 := 24#32
  let v1368 : BitVec 32 := Scalar.addi v208 c24_i32_252
  v1368
def k0_off9 (k0_t1 : Fin k0_t1_loop.trips) : Fin 2 → Nat :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let v1407 : Index := Scalar.indexCast v208
  let c0_255 : Index := 0#32
  ![v1407.toNat, 0]
def k0_mult33 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c0_i32_257 : BitVec 32 := 0#32
  let v1412 : BitVec 32 := Scalar.addi v208 c0_i32_257
  v1412
def k0_off10 (k0_t1 : Fin k0_t1_loop.trips) (c0_i32_257 : BitVec 32) : Fin 2 → Nat :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let v1412 : BitVec 32 := Scalar.addi v208 c0_i32_257
  let v1413 : BitVec 32 := v1412
  let v1414 : Index := Scalar.indexCast v1413
  let c512_258 : Index := 512#32
  ![v1414.toNat, 512]
def k0_mult34 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c0_i32_261 : BitVec 32 := 0#32
  let v1442 : BitVec 32 := Scalar.addi v208 c0_i32_261
  v1442
def k0_off11 (k0_t1 : Fin k0_t1_loop.trips) (c0_i32_261 : BitVec 32) : Fin 3 → Nat :=
  let c0_262 : Index := 0#32
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let v1442 : BitVec 32 := Scalar.addi v208 c0_i32_261
  let v1443 : BitVec 32 := v1442
  let v1444 : Index := Scalar.indexCast v1443
  let c512_263 : Index := 512#32
  ![0, v1444.toNat, 512]
def k0_mult35 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c0_i32_266 : BitVec 32 := 0#32
  let v1481 : BitVec 32 := Scalar.addi v208 c0_i32_266
  v1481
def k0_off12 (k0_t1 : Fin k0_t1_loop.trips) (c0_i32_266 : BitVec 32) : Fin 3 → Nat :=
  let c1_267 : Index := 1#32
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let v1481 : BitVec 32 := Scalar.addi v208 c0_i32_266
  let v1482 : BitVec 32 := v1481
  let v1483 : Index := Scalar.indexCast v1482
  let c512_268 : Index := 512#32
  ![1, v1483.toNat, 512]
def k0_mult36 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c0_i32_271 : BitVec 32 := 0#32
  let v1520 : BitVec 32 := Scalar.addi v208 c0_i32_271
  v1520
def k0_off13 (k0_t1 : Fin k0_t1_loop.trips) (c0_i32_271 : BitVec 32) : Fin 3 → Nat :=
  let c2_272 : Index := 2#32
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let v1520 : BitVec 32 := Scalar.addi v208 c0_i32_271
  let v1521 : BitVec 32 := v1520
  let v1522 : Index := Scalar.indexCast v1521
  let c512_273 : Index := 512#32
  ![2, v1522.toNat, 512]
def k0_mult37 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c0_i32_276 : BitVec 32 := 0#32
  let v1559 : BitVec 32 := Scalar.addi v208 c0_i32_276
  v1559
def k0_off14 (k0_t1 : Fin k0_t1_loop.trips) (c0_i32_276 : BitVec 32) : Fin 3 → Nat :=
  let c3_277 : Index := 3#32
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let v1559 : BitVec 32 := Scalar.addi v208 c0_i32_276
  let v1560 : BitVec 32 := v1559
  let v1561 : Index := Scalar.indexCast v1560
  let c512_278 : Index := 512#32
  ![3, v1561.toNat, 512]
def k0_mult38 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c0_i32_281 : BitVec 32 := 0#32
  let v1598 : BitVec 32 := Scalar.addi v208 c0_i32_281
  v1598
def k0_off15 (k0_t1 : Fin k0_t1_loop.trips) (c0_i32_281 : BitVec 32) : Fin 3 → Nat :=
  let c4_282 : Index := 4#32
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let v1598 : BitVec 32 := Scalar.addi v208 c0_i32_281
  let v1599 : BitVec 32 := v1598
  let v1600 : Index := Scalar.indexCast v1599
  let c512_283 : Index := 512#32
  ![4, v1600.toNat, 512]
def k0_mult39 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c0_i32_286 : BitVec 32 := 0#32
  let v1637 : BitVec 32 := Scalar.addi v208 c0_i32_286
  v1637
def k0_off16 (k0_t1 : Fin k0_t1_loop.trips) (c0_i32_286 : BitVec 32) : Fin 3 → Nat :=
  let c5_287 : Index := 5#32
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let v1637 : BitVec 32 := Scalar.addi v208 c0_i32_286
  let v1638 : BitVec 32 := v1637
  let v1639 : Index := Scalar.indexCast v1638
  let c512_288 : Index := 512#32
  ![5, v1639.toNat, 512]
def k0_mult40 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c0_i32_291 : BitVec 32 := 0#32
  let v1676 : BitVec 32 := Scalar.addi v208 c0_i32_291
  v1676
def k0_off17 (k0_t1 : Fin k0_t1_loop.trips) (c0_i32_291 : BitVec 32) : Fin 3 → Nat :=
  let c6_292 : Index := 6#32
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let v1676 : BitVec 32 := Scalar.addi v208 c0_i32_291
  let v1677 : BitVec 32 := v1676
  let v1678 : Index := Scalar.indexCast v1677
  let c512_293 : Index := 512#32
  ![6, v1678.toNat, 512]
def k0_mult41 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c8_i32_296 : BitVec 32 := 8#32
  let v1715 : BitVec 32 := Scalar.addi v208 c8_i32_296
  v1715
def k0_mult42 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c8_i32_300 : BitVec 32 := 8#32
  let v1753 : BitVec 32 := Scalar.addi v208 c8_i32_300
  v1753
def k0_mult43 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c8_i32_305 : BitVec 32 := 8#32
  let v1792 : BitVec 32 := Scalar.addi v208 c8_i32_305
  v1792
def k0_mult44 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c8_i32_310 : BitVec 32 := 8#32
  let v1831 : BitVec 32 := Scalar.addi v208 c8_i32_310
  v1831
def k0_mult45 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c8_i32_315 : BitVec 32 := 8#32
  let v1870 : BitVec 32 := Scalar.addi v208 c8_i32_315
  v1870
def k0_mult46 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c8_i32_320 : BitVec 32 := 8#32
  let v1909 : BitVec 32 := Scalar.addi v208 c8_i32_320
  v1909
def k0_mult47 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c8_i32_325 : BitVec 32 := 8#32
  let v1948 : BitVec 32 := Scalar.addi v208 c8_i32_325
  v1948
def k0_mult48 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c8_i32_330 : BitVec 32 := 8#32
  let v1987 : BitVec 32 := Scalar.addi v208 c8_i32_330
  v1987
def k0_mult49 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c16_i32_335 : BitVec 32 := 16#32
  let v2026 : BitVec 32 := Scalar.addi v208 c16_i32_335
  v2026
def k0_mult50 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c16_i32_339 : BitVec 32 := 16#32
  let v2064 : BitVec 32 := Scalar.addi v208 c16_i32_339
  v2064
def k0_mult51 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c16_i32_344 : BitVec 32 := 16#32
  let v2103 : BitVec 32 := Scalar.addi v208 c16_i32_344
  v2103
def k0_mult52 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c16_i32_349 : BitVec 32 := 16#32
  let v2142 : BitVec 32 := Scalar.addi v208 c16_i32_349
  v2142
def k0_mult53 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c16_i32_354 : BitVec 32 := 16#32
  let v2181 : BitVec 32 := Scalar.addi v208 c16_i32_354
  v2181
def k0_mult54 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c16_i32_359 : BitVec 32 := 16#32
  let v2220 : BitVec 32 := Scalar.addi v208 c16_i32_359
  v2220
def k0_mult55 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c16_i32_364 : BitVec 32 := 16#32
  let v2259 : BitVec 32 := Scalar.addi v208 c16_i32_364
  v2259
def k0_mult56 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c16_i32_369 : BitVec 32 := 16#32
  let v2298 : BitVec 32 := Scalar.addi v208 c16_i32_369
  v2298
def k0_mult57 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c24_i32_374 : BitVec 32 := 24#32
  let v2337 : BitVec 32 := Scalar.addi v208 c24_i32_374
  v2337
def k0_mult58 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c24_i32_378 : BitVec 32 := 24#32
  let v2375 : BitVec 32 := Scalar.addi v208 c24_i32_378
  v2375
def k0_mult59 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c24_i32_383 : BitVec 32 := 24#32
  let v2414 : BitVec 32 := Scalar.addi v208 c24_i32_383
  v2414
def k0_mult60 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c24_i32_388 : BitVec 32 := 24#32
  let v2453 : BitVec 32 := Scalar.addi v208 c24_i32_388
  v2453
def k0_mult61 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c24_i32_393 : BitVec 32 := 24#32
  let v2492 : BitVec 32 := Scalar.addi v208 c24_i32_393
  v2492
def k0_mult62 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c24_i32_398 : BitVec 32 := 24#32
  let v2531 : BitVec 32 := Scalar.addi v208 c24_i32_398
  v2531
def k0_mult63 (k0_t1 : Fin k0_t1_loop.trips) : BitVec 32 :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let c24_i32_403 : BitVec 32 := 24#32
  let v2570 : BitVec 32 := Scalar.addi v208 c24_i32_403
  v2570
def k0_off18 (k0_t1 : Fin k0_t1_loop.trips) : Fin 2 → Nat :=
  let c0_i32_121 : BitVec 32 := 0#32
  let c1_i32 : BitVec 32 := 1#32
  let arg19 : BitVec 32 := Scf.iv c0_i32_121 c1_i32 k0_t1
  let c64_i32 : BitVec 32 := 64#32
  let v207 : BitVec 32 := Scalar.muli arg19 c64_i32
  let v208 : BitVec 32 := v207
  let v2609 : Index := Scalar.indexCast v208
  let c512_406 : Index := 512#32
  ![v2609.toNat, 512]
@[reducible] def k0_t2_loop : Scf.Loop 32 :=
  let c0_i32_130 : BitVec 32 := 0#32
  let c4_i32_131 : BitVec 32 := 4#32
  let v203 : BitVec 32 := Scalar.addi c0_i32_130 c4_i32_131
  let c1_i32_132 : BitVec 32 := 1#32
  ⟨c0_i32_130, v203, c1_i32_132⟩
def k0_mult64 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  v207
def k0_off19 (k0_t2 : Fin k0_t2_loop.trips) : Fin 2 → Nat :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let v209 : Index := Scalar.indexCast v208
  let c0_136 : Index := 0#32
  ![v209.toNat, 0]
def k0_mult65 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c0_i32_139 : BitVec 32 := 0#32
  let v213 : BitVec 32 := Scalar.addi v208 c0_i32_139
  v213
def k0_off20 (k0_t2 : Fin k0_t2_loop.trips) (c0_i32_139 : BitVec 32) : Fin 3 → Nat :=
  let c1_140 : Index := 1#32
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let v213 : BitVec 32 := Scalar.addi v208 c0_i32_139
  let v214 : BitVec 32 := v213
  let v215 : Index := Scalar.indexCast v214
  let c0_141 : Index := 0#32
  ![1, v215.toNat, 0]
def k0_mult66 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c0_i32_146 : BitVec 32 := 0#32
  let v226 : BitVec 32 := Scalar.addi v208 c0_i32_146
  v226
def k0_off21 (k0_t2 : Fin k0_t2_loop.trips) (c0_i32_146 : BitVec 32) : Fin 3 → Nat :=
  let c2_147 : Index := 2#32
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let v226 : BitVec 32 := Scalar.addi v208 c0_i32_146
  let v227 : BitVec 32 := v226
  let v228 : Index := Scalar.indexCast v227
  let c0_148 : Index := 0#32
  ![2, v228.toNat, 0]
def k0_mult67 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c0_i32_153 : BitVec 32 := 0#32
  let v239 : BitVec 32 := Scalar.addi v208 c0_i32_153
  v239
def k0_off22 (k0_t2 : Fin k0_t2_loop.trips) (c0_i32_153 : BitVec 32) : Fin 3 → Nat :=
  let c3_154 : Index := 3#32
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let v239 : BitVec 32 := Scalar.addi v208 c0_i32_153
  let v240 : BitVec 32 := v239
  let v241 : Index := Scalar.indexCast v240
  let c0_155 : Index := 0#32
  ![3, v241.toNat, 0]
def k0_mult68 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c0_i32_160 : BitVec 32 := 0#32
  let v252 : BitVec 32 := Scalar.addi v208 c0_i32_160
  v252
def k0_off23 (k0_t2 : Fin k0_t2_loop.trips) (c0_i32_160 : BitVec 32) : Fin 3 → Nat :=
  let c4_161 : Index := 4#32
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let v252 : BitVec 32 := Scalar.addi v208 c0_i32_160
  let v253 : BitVec 32 := v252
  let v254 : Index := Scalar.indexCast v253
  let c0_162 : Index := 0#32
  ![4, v254.toNat, 0]
def k0_mult69 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c0_i32_168 : BitVec 32 := 0#32
  let v265 : BitVec 32 := Scalar.addi v208 c0_i32_168
  v265
def k0_off24 (k0_t2 : Fin k0_t2_loop.trips) (c0_i32_168 : BitVec 32) : Fin 3 → Nat :=
  let c5_169 : Index := 5#32
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let v265 : BitVec 32 := Scalar.addi v208 c0_i32_168
  let v266 : BitVec 32 := v265
  let v267 : Index := Scalar.indexCast v266
  let c0_170 : Index := 0#32
  ![5, v267.toNat, 0]
def k0_mult70 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c0_i32_175 : BitVec 32 := 0#32
  let v278 : BitVec 32 := Scalar.addi v208 c0_i32_175
  v278
def k0_off25 (k0_t2 : Fin k0_t2_loop.trips) (c0_i32_175 : BitVec 32) : Fin 3 → Nat :=
  let c6_176 : Index := 6#32
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let v278 : BitVec 32 := Scalar.addi v208 c0_i32_175
  let v279 : BitVec 32 := v278
  let v280 : Index := Scalar.indexCast v279
  let c0_177 : Index := 0#32
  ![6, v280.toNat, 0]
def k0_mult71 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c8_i32 : BitVec 32 := 8#32
  let v291 : BitVec 32 := Scalar.addi v208 c8_i32
  v291
def k0_off26 (k0_t2 : Fin k0_t2_loop.trips) (c8_i32 : BitVec 32) : Fin 2 → Nat :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let v291 : BitVec 32 := Scalar.addi v208 c8_i32
  let v292 : BitVec 32 := v291
  let v293 : Index := Scalar.indexCast v292
  let c0_182 : Index := 0#32
  ![v293.toNat, 0]
def k0_mult72 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c8_i32_187 : BitVec 32 := 8#32
  let v303 : BitVec 32 := Scalar.addi v208 c8_i32_187
  v303
def k0_off27 (k0_t2 : Fin k0_t2_loop.trips) (c8_i32_187 : BitVec 32) : Fin 3 → Nat :=
  let c0_188 : Index := 0#32
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let v303 : BitVec 32 := Scalar.addi v208 c8_i32_187
  let v304 : BitVec 32 := v303
  let v305 : Index := Scalar.indexCast v304
  let c0_189 : Index := 0#32
  ![0, v305.toNat, 0]
def k0_mult73 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c8_i32_194 : BitVec 32 := 8#32
  let v316 : BitVec 32 := Scalar.addi v208 c8_i32_194
  v316
def k0_mult74 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c8_i32_201 : BitVec 32 := 8#32
  let v329 : BitVec 32 := Scalar.addi v208 c8_i32_201
  v329
def k0_mult75 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c8_i32_208 : BitVec 32 := 8#32
  let v342 : BitVec 32 := Scalar.addi v208 c8_i32_208
  v342
def k0_mult76 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c8_i32_215 : BitVec 32 := 8#32
  let v355 : BitVec 32 := Scalar.addi v208 c8_i32_215
  v355
def k0_mult77 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c8_i32_222 : BitVec 32 := 8#32
  let v368 : BitVec 32 := Scalar.addi v208 c8_i32_222
  v368
def k0_mult78 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c8_i32_229 : BitVec 32 := 8#32
  let v381 : BitVec 32 := Scalar.addi v208 c8_i32_229
  v381
def k0_mult79 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c16_i32 : BitVec 32 := 16#32
  let v394 : BitVec 32 := Scalar.addi v208 c16_i32
  v394
def k0_mult80 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c16_i32_241 : BitVec 32 := 16#32
  let v406 : BitVec 32 := Scalar.addi v208 c16_i32_241
  v406
def k0_mult81 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c16_i32_248 : BitVec 32 := 16#32
  let v419 : BitVec 32 := Scalar.addi v208 c16_i32_248
  v419
def k0_mult82 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c16_i32_255 : BitVec 32 := 16#32
  let v432 : BitVec 32 := Scalar.addi v208 c16_i32_255
  v432
def k0_mult83 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c16_i32_262 : BitVec 32 := 16#32
  let v445 : BitVec 32 := Scalar.addi v208 c16_i32_262
  v445
def k0_mult84 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c16_i32_269 : BitVec 32 := 16#32
  let v458 : BitVec 32 := Scalar.addi v208 c16_i32_269
  v458
def k0_mult85 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c16_i32_276 : BitVec 32 := 16#32
  let v471 : BitVec 32 := Scalar.addi v208 c16_i32_276
  v471
def k0_mult86 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c16_i32_283 : BitVec 32 := 16#32
  let v484 : BitVec 32 := Scalar.addi v208 c16_i32_283
  v484
def k0_mult87 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c24_i32 : BitVec 32 := 24#32
  let v497 : BitVec 32 := Scalar.addi v208 c24_i32
  v497
def k0_mult88 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c24_i32_295 : BitVec 32 := 24#32
  let v509 : BitVec 32 := Scalar.addi v208 c24_i32_295
  v509
def k0_mult89 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c24_i32_302 : BitVec 32 := 24#32
  let v522 : BitVec 32 := Scalar.addi v208 c24_i32_302
  v522
def k0_mult90 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c24_i32_309 : BitVec 32 := 24#32
  let v535 : BitVec 32 := Scalar.addi v208 c24_i32_309
  v535
def k0_mult91 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c24_i32_316 : BitVec 32 := 24#32
  let v548 : BitVec 32 := Scalar.addi v208 c24_i32_316
  v548
def k0_mult92 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c24_i32_323 : BitVec 32 := 24#32
  let v561 : BitVec 32 := Scalar.addi v208 c24_i32_323
  v561
def k0_mult93 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c24_i32_330 : BitVec 32 := 24#32
  let v574 : BitVec 32 := Scalar.addi v208 c24_i32_330
  v574
def k0_mult94 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c24_i32_337 : BitVec 32 := 24#32
  let v587 : BitVec 32 := Scalar.addi v208 c24_i32_337
  v587
def k0_mult95 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c32_i32 : BitVec 32 := 32#32
  let v600 : BitVec 32 := Scalar.addi v208 c32_i32
  v600
def k0_off28 (k0_t2 : Fin k0_t2_loop.trips) : Fin 2 → Nat :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let v611 : Index := Scalar.indexCast v208
  let c512 : Index := 512#32
  ![v611.toNat, 512]
def k0_mult96 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c0_i32_350 : BitVec 32 := 0#32
  let v615 : BitVec 32 := Scalar.addi v208 c0_i32_350
  v615
def k0_off29 (k0_t2 : Fin k0_t2_loop.trips) (c0_i32_350 : BitVec 32) : Fin 3 → Nat :=
  let c1_351 : Index := 1#32
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let v615 : BitVec 32 := Scalar.addi v208 c0_i32_350
  let v616 : BitVec 32 := v615
  let v617 : Index := Scalar.indexCast v616
  let c512_352 : Index := 512#32
  ![1, v617.toNat, 512]
def k0_mult97 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c0_i32_358 : BitVec 32 := 0#32
  let v628 : BitVec 32 := Scalar.addi v208 c0_i32_358
  v628
def k0_off30 (k0_t2 : Fin k0_t2_loop.trips) (c0_i32_358 : BitVec 32) : Fin 3 → Nat :=
  let c2_359 : Index := 2#32
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let v628 : BitVec 32 := Scalar.addi v208 c0_i32_358
  let v629 : BitVec 32 := v628
  let v630 : Index := Scalar.indexCast v629
  let c512_360 : Index := 512#32
  ![2, v630.toNat, 512]
def k0_mult98 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c0_i32_366 : BitVec 32 := 0#32
  let v641 : BitVec 32 := Scalar.addi v208 c0_i32_366
  v641
def k0_off31 (k0_t2 : Fin k0_t2_loop.trips) (c0_i32_366 : BitVec 32) : Fin 3 → Nat :=
  let c3_367 : Index := 3#32
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let v641 : BitVec 32 := Scalar.addi v208 c0_i32_366
  let v642 : BitVec 32 := v641
  let v643 : Index := Scalar.indexCast v642
  let c512_368 : Index := 512#32
  ![3, v643.toNat, 512]
def k0_mult99 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c0_i32_374 : BitVec 32 := 0#32
  let v654 : BitVec 32 := Scalar.addi v208 c0_i32_374
  v654
def k0_off32 (k0_t2 : Fin k0_t2_loop.trips) (c0_i32_374 : BitVec 32) : Fin 3 → Nat :=
  let c4_375 : Index := 4#32
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let v654 : BitVec 32 := Scalar.addi v208 c0_i32_374
  let v655 : BitVec 32 := v654
  let v656 : Index := Scalar.indexCast v655
  let c512_376 : Index := 512#32
  ![4, v656.toNat, 512]
def k0_mult100 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c0_i32_382 : BitVec 32 := 0#32
  let v667 : BitVec 32 := Scalar.addi v208 c0_i32_382
  v667
def k0_off33 (k0_t2 : Fin k0_t2_loop.trips) (c0_i32_382 : BitVec 32) : Fin 3 → Nat :=
  let c5_383 : Index := 5#32
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let v667 : BitVec 32 := Scalar.addi v208 c0_i32_382
  let v668 : BitVec 32 := v667
  let v669 : Index := Scalar.indexCast v668
  let c512_384 : Index := 512#32
  ![5, v669.toNat, 512]
def k0_mult101 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c0_i32_390 : BitVec 32 := 0#32
  let v680 : BitVec 32 := Scalar.addi v208 c0_i32_390
  v680
def k0_off34 (k0_t2 : Fin k0_t2_loop.trips) (c0_i32_390 : BitVec 32) : Fin 3 → Nat :=
  let c6_391 : Index := 6#32
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let v680 : BitVec 32 := Scalar.addi v208 c0_i32_390
  let v681 : BitVec 32 := v680
  let v682 : Index := Scalar.indexCast v681
  let c512_392 : Index := 512#32
  ![6, v682.toNat, 512]
def k0_mult102 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c8_i32_398 : BitVec 32 := 8#32
  let v693 : BitVec 32 := Scalar.addi v208 c8_i32_398
  v693
def k0_off35 (k0_t2 : Fin k0_t2_loop.trips) (c8_i32_398 : BitVec 32) : Fin 2 → Nat :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let v693 : BitVec 32 := Scalar.addi v208 c8_i32_398
  let v694 : BitVec 32 := v693
  let v695 : Index := Scalar.indexCast v694
  let c512_399 : Index := 512#32
  ![v695.toNat, 512]
def k0_mult103 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c8_i32_405 : BitVec 32 := 8#32
  let v705 : BitVec 32 := Scalar.addi v208 c8_i32_405
  v705
def k0_off36 (k0_t2 : Fin k0_t2_loop.trips) (c8_i32_405 : BitVec 32) : Fin 3 → Nat :=
  let c0_406 : Index := 0#32
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let v705 : BitVec 32 := Scalar.addi v208 c8_i32_405
  let v706 : BitVec 32 := v705
  let v707 : Index := Scalar.indexCast v706
  let c512_407 : Index := 512#32
  ![0, v707.toNat, 512]
def k0_mult104 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c8_i32_413 : BitVec 32 := 8#32
  let v718 : BitVec 32 := Scalar.addi v208 c8_i32_413
  v718
def k0_mult105 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c8_i32_421 : BitVec 32 := 8#32
  let v731 : BitVec 32 := Scalar.addi v208 c8_i32_421
  v731
def k0_mult106 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c8_i32_429 : BitVec 32 := 8#32
  let v744 : BitVec 32 := Scalar.addi v208 c8_i32_429
  v744
def k0_mult107 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c8_i32_437 : BitVec 32 := 8#32
  let v757 : BitVec 32 := Scalar.addi v208 c8_i32_437
  v757
def k0_mult108 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c8_i32_445 : BitVec 32 := 8#32
  let v770 : BitVec 32 := Scalar.addi v208 c8_i32_445
  v770
def k0_mult109 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c8_i32_453 : BitVec 32 := 8#32
  let v783 : BitVec 32 := Scalar.addi v208 c8_i32_453
  v783
def k0_mult110 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c16_i32_461 : BitVec 32 := 16#32
  let v796 : BitVec 32 := Scalar.addi v208 c16_i32_461
  v796
def k0_mult111 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c16_i32_468 : BitVec 32 := 16#32
  let v808 : BitVec 32 := Scalar.addi v208 c16_i32_468
  v808
def k0_mult112 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c16_i32_476 : BitVec 32 := 16#32
  let v821 : BitVec 32 := Scalar.addi v208 c16_i32_476
  v821
def k0_mult113 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c16_i32_484 : BitVec 32 := 16#32
  let v834 : BitVec 32 := Scalar.addi v208 c16_i32_484
  v834
def k0_mult114 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c16_i32_492 : BitVec 32 := 16#32
  let v847 : BitVec 32 := Scalar.addi v208 c16_i32_492
  v847
def k0_mult115 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c16_i32_500 : BitVec 32 := 16#32
  let v860 : BitVec 32 := Scalar.addi v208 c16_i32_500
  v860
def k0_mult116 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c16_i32_508 : BitVec 32 := 16#32
  let v873 : BitVec 32 := Scalar.addi v208 c16_i32_508
  v873
def k0_mult117 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c16_i32_516 : BitVec 32 := 16#32
  let v886 : BitVec 32 := Scalar.addi v208 c16_i32_516
  v886
def k0_mult118 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c24_i32_524 : BitVec 32 := 24#32
  let v899 : BitVec 32 := Scalar.addi v208 c24_i32_524
  v899
def k0_mult119 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c24_i32_531 : BitVec 32 := 24#32
  let v911 : BitVec 32 := Scalar.addi v208 c24_i32_531
  v911
def k0_mult120 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c24_i32_539 : BitVec 32 := 24#32
  let v924 : BitVec 32 := Scalar.addi v208 c24_i32_539
  v924
def k0_mult121 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c24_i32_547 : BitVec 32 := 24#32
  let v937 : BitVec 32 := Scalar.addi v208 c24_i32_547
  v937
def k0_mult122 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c24_i32_555 : BitVec 32 := 24#32
  let v950 : BitVec 32 := Scalar.addi v208 c24_i32_555
  v950
def k0_mult123 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c24_i32_563 : BitVec 32 := 24#32
  let v963 : BitVec 32 := Scalar.addi v208 c24_i32_563
  v963
def k0_mult124 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c24_i32_571 : BitVec 32 := 24#32
  let v976 : BitVec 32 := Scalar.addi v208 c24_i32_571
  v976
def k0_mult125 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c24_i32_579 : BitVec 32 := 24#32
  let v989 : BitVec 32 := Scalar.addi v208 c24_i32_579
  v989
def k0_mult126 (k0_t2 : Fin k0_t2_loop.trips) : BitVec 32 :=
  let c0_i32_130 : BitVec 32 := 0#32
  let c1_i32_132 : BitVec 32 := 1#32
  let arg19 : BitVec 32 := Scf.iv c0_i32_130 c1_i32_132 k0_t2
  let c64_i32 : BitVec 32 := 64#32
  let v207 : BitVec 32 := Scalar.muli arg19 c64_i32
  let v208 : BitVec 32 := v207
  let c32_i32_587 : BitVec 32 := 32#32
  let v1002 : BitVec 32 := Scalar.addi v208 c32_i32_587
  v1002
def k0_cond3 (i : grid0.Coords) : BitVec 1 :=
  let arg0 : BitVec 32 := BitVec.ofNat 32 (i 0).val
  let c15_i32_134 : BitVec 32 := 15#32
  let v204 : BitVec 1 := Scalar.cmpi .eq arg0 c15_i32_134
  let v205 : BitVec 32 := Scalar.extui v204
  let c0_i32_135 : BitVec 32 := 0#32
  let v206 : BitVec 1 := Scalar.cmpi .ne v205 c0_i32_135
  v206

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c1_i32_0 : BitVec 32 := 1#32
  let c0_i32_1 : BitVec 32 := 0#32
  ![v3.toNat, c1_i32_0.toNat]

def cc0_transform_5 (i : grid0.Coords) : Fin 4 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, c3_i32.toNat, c0_i32_0.toNat, c0_i32_1.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1x31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S40x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S4096x8192 : Shape := ⟨2, ![4096, 8192]⟩
abbrev S4096x1024 : Shape := ⟨2, ![4096, 1024]⟩
abbrev S4x31x1024 : Shape := ⟨3, ![4, 31, 1024]⟩
abbrev S4x1024 : Shape := ⟨2, ![4, 1024]⟩
abbrev S1x31x1024 : Shape := ⟨3, ![1, 31, 1024]⟩
abbrev S31x1024 : Shape := ⟨2, ![31, 1024]⟩
abbrev S1x1024 : Shape := ⟨2, ![1, 1024]⟩
abbrev S1024 : Shape := ⟨1, ![1024]⟩
abbrev S_ : Shape := ⟨0, ![]⟩
abbrev S30x1024 : Shape := ⟨2, ![30, 1024]⟩
abbrev S4126x1024 : Shape := ⟨2, ![4126, 1024]⟩
abbrev S4096 : Shape := ⟨1, ![4096]⟩
abbrev S4096x1 : Shape := ⟨2, ![4096, 1]⟩
abbrev S4096x3072 : Shape := ⟨2, ![4096, 3072]⟩
abbrev S4096x2048 : Shape := ⟨2, ![4096, 2048]⟩
abbrev S5x1024 : Shape := ⟨2, ![5, 1024]⟩
abbrev S40x1024 : Shape := ⟨2, ![40, 1024]⟩

abbrev nBuf : Space → Nat
  | .hbm => 854
  | .vmem => 0
  | .smem => 0
  | _ => 0

abbrev hbmTy0_0 (i : Nat) : BufTy := match i % 128 with
  | 0 => ⟨S4096x8192, .bf16⟩
  | 1 => ⟨S4096x1024, .bf16⟩
  | 2 => ⟨S4096x8192, .bf16⟩
  | 3 => ⟨S4x31x1024, .f32⟩
  | 4 => ⟨S4x1024, .f32⟩
  | 5 => ⟨S4x1024, .f32⟩
  | 6 => ⟨S4x1024, .f32⟩
  | 7 => ⟨S4096x8192, .f32⟩
  | 8 => ⟨S4096x1024, .f32⟩
  | 9 => ⟨S4096x1024, .f32⟩
  | 10 => ⟨S4096x1024, .f32⟩
  | 11 => ⟨S1x31x1024, .f32⟩
  | 12 => ⟨S31x1024, .f32⟩
  | 13 => ⟨S1x1024, .f32⟩
  | 14 => ⟨S1024, .f32⟩
  | 15 => ⟨S1x1024, .f32⟩
  | 16 => ⟨S1024, .f32⟩
  | 17 => ⟨S1x1024, .f32⟩
  | 18 => ⟨S1024, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S_, .f32⟩
  | 25 => ⟨S4096x1024, .f32⟩
  | 26 => ⟨S4096x1024, .f32⟩
  | 27 => ⟨S_, .f32⟩
  | 28 => ⟨S4096x1024, .f32⟩
  | 29 => ⟨S4096x1024, .f32⟩
  | 30 => ⟨S4096x1024, .f32⟩
  | 31 => ⟨S4096x1024, .f32⟩
  | 32 => ⟨S_, .f32⟩
  | 33 => ⟨S30x1024, .f32⟩
  | 34 => ⟨S4126x1024, .f32⟩
  | 35 => ⟨S_, .f32⟩
  | 36 => ⟨S30x1024, .f32⟩
  | 37 => ⟨S1x1024, .f32⟩
  | 38 => ⟨S1024, .f32⟩
  | 39 => ⟨S4096x1024, .f32⟩
  | 40 => ⟨S1x1024, .f32⟩
  | 41 => ⟨S4096x1024, .f32⟩
  | 42 => ⟨S4096x1024, .f32⟩
  | 43 => ⟨S1x1024, .f32⟩
  | 44 => ⟨S1024, .f32⟩
  | 45 => ⟨S4096x1024, .f32⟩
  | 46 => ⟨S1x1024, .f32⟩
  | 47 => ⟨S4096x1024, .f32⟩
  | 48 => ⟨S4096x1024, .f32⟩
  | 49 => ⟨S4096x1024, .f32⟩
  | 50 => ⟨S1x1024, .f32⟩
  | 51 => ⟨S1024, .f32⟩
  | 52 => ⟨S4096x1024, .f32⟩
  | 53 => ⟨S1x1024, .f32⟩
  | 54 => ⟨S4096x1024, .f32⟩
  | 55 => ⟨S4096x1024, .f32⟩
  | 56 => ⟨S4096x1024, .f32⟩
  | 57 => ⟨S1x1024, .f32⟩
  | 58 => ⟨S1024, .f32⟩
  | 59 => ⟨S4096x1024, .f32⟩
  | 60 => ⟨S1x1024, .f32⟩
  | 61 => ⟨S4096x1024, .f32⟩
  | 62 => ⟨S4096x1024, .f32⟩
  | 63 => ⟨S4096x1024, .f32⟩
  | 64 => ⟨S1x1024, .f32⟩
  | 65 => ⟨S1024, .f32⟩
  | 66 => ⟨S4096x1024, .f32⟩
  | 67 => ⟨S1x1024, .f32⟩
  | 68 => ⟨S4096x1024, .f32⟩
  | 69 => ⟨S4096x1024, .f32⟩
  | 70 => ⟨S4096x1024, .f32⟩
  | 71 => ⟨S1x1024, .f32⟩
  | 72 => ⟨S1024, .f32⟩
  | 73 => ⟨S4096x1024, .f32⟩
  | 74 => ⟨S1x1024, .f32⟩
  | 75 => ⟨S4096x1024, .f32⟩
  | 76 => ⟨S4096x1024, .f32⟩
  | 77 => ⟨S4096x1024, .f32⟩
  | 78 => ⟨S1x1024, .f32⟩
  | 79 => ⟨S1024, .f32⟩
  | 80 => ⟨S4096x1024, .f32⟩
  | 81 => ⟨S1x1024, .f32⟩
  | 82 => ⟨S4096x1024, .f32⟩
  | 83 => ⟨S4096x1024, .f32⟩
  | 84 => ⟨S4096x1024, .f32⟩
  | 85 => ⟨S1x1024, .f32⟩
  | 86 => ⟨S1024, .f32⟩
  | 87 => ⟨S4096x1024, .f32⟩
  | 88 => ⟨S1x1024, .f32⟩
  | 89 => ⟨S4096x1024, .f32⟩
  | 90 => ⟨S4096x1024, .f32⟩
  | 91 => ⟨S4096x1024, .f32⟩
  | 92 => ⟨S1x1024, .f32⟩
  | 93 => ⟨S1024, .f32⟩
  | 94 => ⟨S4096x1024, .f32⟩
  | 95 => ⟨S1x1024, .f32⟩
  | 96 => ⟨S4096x1024, .f32⟩
  | 97 => ⟨S4096x1024, .f32⟩
  | 98 => ⟨S4096x1024, .f32⟩
  | 99 => ⟨S1x1024, .f32⟩
  | 100 => ⟨S1024, .f32⟩
  | 101 => ⟨S4096x1024, .f32⟩
  | 102 => ⟨S1x1024, .f32⟩
  | 103 => ⟨S4096x1024, .f32⟩
  | 104 => ⟨S4096x1024, .f32⟩
  | 105 => ⟨S4096x1024, .f32⟩
  | 106 => ⟨S1x1024, .f32⟩
  | 107 => ⟨S1024, .f32⟩
  | 108 => ⟨S4096x1024, .f32⟩
  | 109 => ⟨S1x1024, .f32⟩
  | 110 => ⟨S4096x1024, .f32⟩
  | 111 => ⟨S4096x1024, .f32⟩
  | 112 => ⟨S4096x1024, .f32⟩
  | 113 => ⟨S1x1024, .f32⟩
  | 114 => ⟨S1024, .f32⟩
  | 115 => ⟨S4096x1024, .f32⟩
  | 116 => ⟨S1x1024, .f32⟩
  | 117 => ⟨S4096x1024, .f32⟩
  | 118 => ⟨S4096x1024, .f32⟩
  | 119 => ⟨S4096x1024, .f32⟩
  | 120 => ⟨S1x1024, .f32⟩
  | 121 => ⟨S1024, .f32⟩
  | 122 => ⟨S4096x1024, .f32⟩
  | 123 => ⟨S1x1024, .f32⟩
  | 124 => ⟨S4096x1024, .f32⟩
  | 125 => ⟨S4096x1024, .f32⟩
  | 126 => ⟨S4096x1024, .f32⟩
  | 127 => ⟨S1x1024, .f32⟩
  | _ => ⟨S4096x8192, .bf16⟩

abbrev hbmTy0_1 (i : Nat) : BufTy := match i % 128 with
  | 0 => ⟨S1024, .f32⟩
  | 1 => ⟨S4096x1024, .f32⟩
  | 2 => ⟨S1x1024, .f32⟩
  | 3 => ⟨S4096x1024, .f32⟩
  | 4 => ⟨S4096x1024, .f32⟩
  | 5 => ⟨S4096x1024, .f32⟩
  | 6 => ⟨S1x1024, .f32⟩
  | 7 => ⟨S1024, .f32⟩
  | 8 => ⟨S4096x1024, .f32⟩
  | 9 => ⟨S1x1024, .f32⟩
  | 10 => ⟨S4096x1024, .f32⟩
  | 11 => ⟨S4096x1024, .f32⟩
  | 12 => ⟨S4096x1024, .f32⟩
  | 13 => ⟨S1x1024, .f32⟩
  | 14 => ⟨S1024, .f32⟩
  | 15 => ⟨S4096x1024, .f32⟩
  | 16 => ⟨S1x1024, .f32⟩
  | 17 => ⟨S4096x1024, .f32⟩
  | 18 => ⟨S4096x1024, .f32⟩
  | 19 => ⟨S4096x1024, .f32⟩
  | 20 => ⟨S1x1024, .f32⟩
  | 21 => ⟨S1024, .f32⟩
  | 22 => ⟨S4096x1024, .f32⟩
  | 23 => ⟨S1x1024, .f32⟩
  | 24 => ⟨S4096x1024, .f32⟩
  | 25 => ⟨S4096x1024, .f32⟩
  | 26 => ⟨S4096x1024, .f32⟩
  | 27 => ⟨S1x1024, .f32⟩
  | 28 => ⟨S1024, .f32⟩
  | 29 => ⟨S4096x1024, .f32⟩
  | 30 => ⟨S1x1024, .f32⟩
  | 31 => ⟨S4096x1024, .f32⟩
  | 32 => ⟨S4096x1024, .f32⟩
  | 33 => ⟨S4096x1024, .f32⟩
  | 34 => ⟨S1x1024, .f32⟩
  | 35 => ⟨S1024, .f32⟩
  | 36 => ⟨S4096x1024, .f32⟩
  | 37 => ⟨S1x1024, .f32⟩
  | 38 => ⟨S4096x1024, .f32⟩
  | 39 => ⟨S4096x1024, .f32⟩
  | 40 => ⟨S4096x1024, .f32⟩
  | 41 => ⟨S1x1024, .f32⟩
  | 42 => ⟨S1024, .f32⟩
  | 43 => ⟨S4096x1024, .f32⟩
  | 44 => ⟨S1x1024, .f32⟩
  | 45 => ⟨S4096x1024, .f32⟩
  | 46 => ⟨S4096x1024, .f32⟩
  | 47 => ⟨S4096x1024, .f32⟩
  | 48 => ⟨S1x1024, .f32⟩
  | 49 => ⟨S1024, .f32⟩
  | 50 => ⟨S4096x1024, .f32⟩
  | 51 => ⟨S1x1024, .f32⟩
  | 52 => ⟨S4096x1024, .f32⟩
  | 53 => ⟨S4096x1024, .f32⟩
  | 54 => ⟨S4096x1024, .f32⟩
  | 55 => ⟨S1x1024, .f32⟩
  | 56 => ⟨S1024, .f32⟩
  | 57 => ⟨S4096x1024, .f32⟩
  | 58 => ⟨S1x1024, .f32⟩
  | 59 => ⟨S4096x1024, .f32⟩
  | 60 => ⟨S4096x1024, .f32⟩
  | 61 => ⟨S4096x1024, .f32⟩
  | 62 => ⟨S1x1024, .f32⟩
  | 63 => ⟨S1024, .f32⟩
  | 64 => ⟨S4096x1024, .f32⟩
  | 65 => ⟨S1x1024, .f32⟩
  | 66 => ⟨S4096x1024, .f32⟩
  | 67 => ⟨S4096x1024, .f32⟩
  | 68 => ⟨S4096x1024, .f32⟩
  | 69 => ⟨S1x1024, .f32⟩
  | 70 => ⟨S1024, .f32⟩
  | 71 => ⟨S4096x1024, .f32⟩
  | 72 => ⟨S1x1024, .f32⟩
  | 73 => ⟨S4096x1024, .f32⟩
  | 74 => ⟨S4096x1024, .f32⟩
  | 75 => ⟨S4096x1024, .f32⟩
  | 76 => ⟨S1x1024, .f32⟩
  | 77 => ⟨S1024, .f32⟩
  | 78 => ⟨S4096x1024, .f32⟩
  | 79 => ⟨S1x1024, .f32⟩
  | 80 => ⟨S4096x1024, .f32⟩
  | 81 => ⟨S4096x1024, .f32⟩
  | 82 => ⟨S4096x1024, .f32⟩
  | 83 => ⟨S1x1024, .f32⟩
  | 84 => ⟨S1024, .f32⟩
  | 85 => ⟨S4096x1024, .f32⟩
  | 86 => ⟨S1x1024, .f32⟩
  | 87 => ⟨S4096x1024, .f32⟩
  | 88 => ⟨S4096x1024, .f32⟩
  | 89 => ⟨S4096x1024, .f32⟩
  | 90 => ⟨S1x1024, .f32⟩
  | 91 => ⟨S1024, .f32⟩
  | 92 => ⟨S4096x1024, .f32⟩
  | 93 => ⟨S1x1024, .f32⟩
  | 94 => ⟨S4096x1024, .f32⟩
  | 95 => ⟨S4096x1024, .f32⟩
  | 96 => ⟨S4096x1024, .f32⟩
  | 97 => ⟨S1x1024, .f32⟩
  | 98 => ⟨S1024, .f32⟩
  | 99 => ⟨S4096x1024, .f32⟩
  | 100 => ⟨S1x1024, .f32⟩
  | 101 => ⟨S4096x1024, .f32⟩
  | 102 => ⟨S4096x1024, .f32⟩
  | 103 => ⟨S4096x1024, .f32⟩
  | 104 => ⟨S1x1024, .f32⟩
  | 105 => ⟨S1024, .f32⟩
  | 106 => ⟨S4096x1024, .f32⟩
  | 107 => ⟨S1x1024, .f32⟩
  | 108 => ⟨S4096x1024, .f32⟩
  | 109 => ⟨S4096x1024, .f32⟩
  | 110 => ⟨S4096x1024, .f32⟩
  | 111 => ⟨S1x1024, .f32⟩
  | 112 => ⟨S1024, .f32⟩
  | 113 => ⟨S4096x1024, .f32⟩
  | 114 => ⟨S1x1024, .f32⟩
  | 115 => ⟨S4096x1024, .f32⟩
  | 116 => ⟨S4096x1024, .f32⟩
  | 117 => ⟨S4096x1024, .f32⟩
  | 118 => ⟨S1x1024, .f32⟩
  | 119 => ⟨S1024, .f32⟩
  | 120 => ⟨S4096x1024, .f32⟩
  | 121 => ⟨S1x1024, .f32⟩
  | 122 => ⟨S4096x1024, .f32⟩
  | 123 => ⟨S4096x1024, .f32⟩
  | 124 => ⟨S4096x1024, .f32⟩
  | 125 => ⟨S1x1024, .f32⟩
  | 126 => ⟨S4096x1024, .f32⟩
  | 127 => ⟨S4096x1024, .f32⟩
  | _ => ⟨S4096x8192, .bf16⟩

abbrev hbmTy0_2 (i : Nat) : BufTy := match i % 128 with
  | 0 => ⟨S_, .f32⟩
  | 1 => ⟨S4096, .f32⟩
  | 2 => ⟨S4096x1, .f32⟩
  | 3 => ⟨S_, .f32⟩
  | 4 => ⟨S4096x1, .f32⟩
  | 5 => ⟨S4096x1, .f32⟩
  | 6 => ⟨S4096x1024, .f32⟩
  | 7 => ⟨S4096x1024, .f32⟩
  | 8 => ⟨S4096x1024, .f32⟩
  | 9 => ⟨S_, .f32⟩
  | 10 => ⟨S4096x1024, .f32⟩
  | 11 => ⟨S4096x1024, .f32⟩
  | 12 => ⟨S_, .f32⟩
  | 13 => ⟨S4096, .f32⟩
  | 14 => ⟨S4096x1, .f32⟩
  | 15 => ⟨S_, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1, .f32⟩
  | 22 => ⟨S4096x1, .f32⟩
  | 23 => ⟨S_, .f32⟩
  | 24 => ⟨S4096x1, .f32⟩
  | 25 => ⟨S4096x1, .f32⟩
  | 26 => ⟨S4096x1024, .f32⟩
  | 27 => ⟨S4096x1024, .f32⟩
  | 28 => ⟨S1x1024, .f32⟩
  | 29 => ⟨S4096x1024, .f32⟩
  | 30 => ⟨S4096x1024, .f32⟩
  | 31 => ⟨S1x1024, .f32⟩
  | 32 => ⟨S4096x1024, .f32⟩
  | 33 => ⟨S4096x1024, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S_, .f32⟩
  | 40 => ⟨S4096x1024, .f32⟩
  | 41 => ⟨S4096x1024, .f32⟩
  | 42 => ⟨S_, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S_, .f32⟩
  | 50 => ⟨S4096x1024, .f32⟩
  | 51 => ⟨S4096x1024, .f32⟩
  | 52 => ⟨S_, .f32⟩
  | 53 => ⟨S4096x1024, .f32⟩
  | 54 => ⟨S4096x1024, .f32⟩
  | 55 => ⟨S_, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S4096x1024, .f32⟩
  | 71 => ⟨S4096x1024, .f32⟩
  | 72 => ⟨S_, .f32⟩
  | 73 => ⟨S1024, .f32⟩
  | 74 => ⟨S1x1024, .f32⟩
  | 75 => ⟨S_, .f32⟩
  | 76 => ⟨S1024, .f32⟩
  | 77 => ⟨S4096x1024, .f32⟩
  | 78 => ⟨S_, .f32⟩
  | 79 => ⟨S1024, .f32⟩
  | 80 => ⟨S1x1024, .f32⟩
  | 81 => ⟨S4096x1024, .f32⟩
  | 82 => ⟨S4096x1024, .f32⟩
  | 83 => ⟨S_, .f32⟩
  | 84 => ⟨S1024, .f32⟩
  | 85 => ⟨S4096x1024, .f32⟩
  | 86 => ⟨S_, .f32⟩
  | 87 => ⟨S4096, .f32⟩
  | 88 => ⟨S4096x1, .f32⟩
  | 89 => ⟨S4096x1024, .f32⟩
  | 90 => ⟨S4096x1024, .f32⟩
  | 91 => ⟨S4096x1, .f32⟩
  | 92 => ⟨S_, .f32⟩
  | 93 => ⟨S4096x1, .f32⟩
  | 94 => ⟨S4096x1, .f32⟩
  | 95 => ⟨S_, .f32⟩
  | 96 => ⟨S4096, .f32⟩
  | 97 => ⟨S4096x1024, .f32⟩
  | 98 => ⟨S4096x1024, .f32⟩
  | 99 => ⟨S4096x1024, .f32⟩
  | 100 => ⟨S4096x1024, .f32⟩
  | 101 => ⟨S_, .f32⟩
  | 102 => ⟨S4096, .f32⟩
  | 103 => ⟨S4096x1, .f32⟩
  | 104 => ⟨S_, .f32⟩
  | 105 => ⟨S4096x1, .f32⟩
  | 106 => ⟨S4096x1, .f32⟩
  | 107 => ⟨S_, .f32⟩
  | 108 => ⟨S4096, .f32⟩
  | 109 => ⟨S4096x1024, .f32⟩
  | 110 => ⟨S4096x1024, .f32⟩
  | 111 => ⟨S_, .f32⟩
  | 112 => ⟨S1024, .f32⟩
  | 113 => ⟨S1x1024, .f32⟩
  | 114 => ⟨S_, .f32⟩
  | 115 => ⟨S1024, .f32⟩
  | 116 => ⟨S4096x1024, .f32⟩
  | 117 => ⟨S4096x1024, .f32⟩
  | 118 => ⟨S4096x1024, .f32⟩
  | 119 => ⟨S_, .f32⟩
  | 120 => ⟨S1024, .f32⟩
  | 121 => ⟨S1x1024, .f32⟩
  | 122 => ⟨S_, .f32⟩
  | 123 => ⟨S1024, .f32⟩
  | 124 => ⟨S_, .f32⟩
  | 125 => ⟨S4126x1024, .f32⟩
  | 126 => ⟨S1x1024, .f32⟩
  | 127 => ⟨S_, .f32⟩
  | _ => ⟨S4096x8192, .bf16⟩

abbrev hbmTy0_3 (i : Nat) : BufTy := match i % 128 with
  | 0 => ⟨S31x1024, .f32⟩
  | 1 => ⟨S4096x1024, .f32⟩
  | 2 => ⟨S4096x1024, .f32⟩
  | 3 => ⟨S4096x1024, .f32⟩
  | 4 => ⟨S_, .f32⟩
  | 5 => ⟨S1024, .f32⟩
  | 6 => ⟨S1x1024, .f32⟩
  | 7 => ⟨S_, .f32⟩
  | 8 => ⟨S1024, .f32⟩
  | 9 => ⟨S_, .f32⟩
  | 10 => ⟨S4126x1024, .f32⟩
  | 11 => ⟨S4126x1024, .f32⟩
  | 12 => ⟨S1x1024, .f32⟩
  | 13 => ⟨S_, .f32⟩
  | 14 => ⟨S31x1024, .f32⟩
  | 15 => ⟨S31x1024, .f32⟩
  | 16 => ⟨S4096x1024, .f32⟩
  | 17 => ⟨S4096x1024, .f32⟩
  | 18 => ⟨S4096x1024, .f32⟩
  | 19 => ⟨S_, .f32⟩
  | 20 => ⟨S1024, .f32⟩
  | 21 => ⟨S1x1024, .f32⟩
  | 22 => ⟨S_, .f32⟩
  | 23 => ⟨S1024, .f32⟩
  | 24 => ⟨S_, .f32⟩
  | 25 => ⟨S4126x1024, .f32⟩
  | 26 => ⟨S4126x1024, .f32⟩
  | 27 => ⟨S1x1024, .f32⟩
  | 28 => ⟨S_, .f32⟩
  | 29 => ⟨S31x1024, .f32⟩
  | 30 => ⟨S31x1024, .f32⟩
  | 31 => ⟨S4096x1024, .f32⟩
  | 32 => ⟨S4096x1024, .f32⟩
  | 33 => ⟨S4096x1024, .f32⟩
  | 34 => ⟨S_, .f32⟩
  | 35 => ⟨S1024, .f32⟩
  | 36 => ⟨S1x1024, .f32⟩
  | 37 => ⟨S_, .f32⟩
  | 38 => ⟨S1024, .f32⟩
  | 39 => ⟨S_, .f32⟩
  | 40 => ⟨S4126x1024, .f32⟩
  | 41 => ⟨S4126x1024, .f32⟩
  | 42 => ⟨S1x1024, .f32⟩
  | 43 => ⟨S_, .f32⟩
  | 44 => ⟨S31x1024, .f32⟩
  | 45 => ⟨S31x1024, .f32⟩
  | 46 => ⟨S4096x1024, .f32⟩
  | 47 => ⟨S4096x1024, .f32⟩
  | 48 => ⟨S4096x1024, .f32⟩
  | 49 => ⟨S_, .f32⟩
  | 50 => ⟨S1024, .f32⟩
  | 51 => ⟨S1x1024, .f32⟩
  | 52 => ⟨S_, .f32⟩
  | 53 => ⟨S1024, .f32⟩
  | 54 => ⟨S_, .f32⟩
  | 55 => ⟨S4126x1024, .f32⟩
  | 56 => ⟨S4126x1024, .f32⟩
  | 57 => ⟨S1x1024, .f32⟩
  | 58 => ⟨S_, .f32⟩
  | 59 => ⟨S31x1024, .f32⟩
  | 60 => ⟨S31x1024, .f32⟩
  | 61 => ⟨S4096x1024, .f32⟩
  | 62 => ⟨S4096x1024, .f32⟩
  | 63 => ⟨S4096x1024, .f32⟩
  | 64 => ⟨S_, .f32⟩
  | 65 => ⟨S1024, .f32⟩
  | 66 => ⟨S1x1024, .f32⟩
  | 67 => ⟨S_, .f32⟩
  | 68 => ⟨S1024, .f32⟩
  | 69 => ⟨S_, .f32⟩
  | 70 => ⟨S4126x1024, .f32⟩
  | 71 => ⟨S4126x1024, .f32⟩
  | 72 => ⟨S1x1024, .f32⟩
  | 73 => ⟨S_, .f32⟩
  | 74 => ⟨S31x1024, .f32⟩
  | 75 => ⟨S31x1024, .f32⟩
  | 76 => ⟨S4096x1024, .f32⟩
  | 77 => ⟨S4096x1024, .f32⟩
  | 78 => ⟨S4096x1024, .f32⟩
  | 79 => ⟨S_, .f32⟩
  | 80 => ⟨S1024, .f32⟩
  | 81 => ⟨S1x1024, .f32⟩
  | 82 => ⟨S_, .f32⟩
  | 83 => ⟨S1024, .f32⟩
  | 84 => ⟨S_, .f32⟩
  | 85 => ⟨S4126x1024, .f32⟩
  | 86 => ⟨S4126x1024, .f32⟩
  | 87 => ⟨S1x1024, .f32⟩
  | 88 => ⟨S_, .f32⟩
  | 89 => ⟨S31x1024, .f32⟩
  | 90 => ⟨S31x1024, .f32⟩
  | 91 => ⟨S4096x1024, .f32⟩
  | 92 => ⟨S4096x1024, .f32⟩
  | 93 => ⟨S4096x1024, .f32⟩
  | 94 => ⟨S_, .f32⟩
  | 95 => ⟨S1024, .f32⟩
  | 96 => ⟨S1x1024, .f32⟩
  | 97 => ⟨S_, .f32⟩
  | 98 => ⟨S1024, .f32⟩
  | 99 => ⟨S_, .f32⟩
  | 100 => ⟨S4126x1024, .f32⟩
  | 101 => ⟨S4126x1024, .f32⟩
  | 102 => ⟨S1x1024, .f32⟩
  | 103 => ⟨S_, .f32⟩
  | 104 => ⟨S31x1024, .f32⟩
  | 105 => ⟨S31x1024, .f32⟩
  | 106 => ⟨S4096x1024, .f32⟩
  | 107 => ⟨S4096x1024, .f32⟩
  | 108 => ⟨S4096x1024, .f32⟩
  | 109 => ⟨S_, .f32⟩
  | 110 => ⟨S1024, .f32⟩
  | 111 => ⟨S1x1024, .f32⟩
  | 112 => ⟨S_, .f32⟩
  | 113 => ⟨S1024, .f32⟩
  | 114 => ⟨S_, .f32⟩
  | 115 => ⟨S4126x1024, .f32⟩
  | 116 => ⟨S4126x1024, .f32⟩
  | 117 => ⟨S1x1024, .f32⟩
  | 118 => ⟨S_, .f32⟩
  | 119 => ⟨S31x1024, .f32⟩
  | 120 => ⟨S31x1024, .f32⟩
  | 121 => ⟨S4096x1024, .f32⟩
  | 122 => ⟨S4096x1024, .f32⟩
  | 123 => ⟨S4096x1024, .f32⟩
  | 124 => ⟨S_, .f32⟩
  | 125 => ⟨S1024, .f32⟩
  | 126 => ⟨S1x1024, .f32⟩
  | 127 => ⟨S_, .f32⟩
  | _ => ⟨S4096x8192, .bf16⟩

abbrev hbmTy0_4 (i : Nat) : BufTy := match i % 128 with
  | 0 => ⟨S1024, .f32⟩
  | 1 => ⟨S_, .f32⟩
  | 2 => ⟨S4126x1024, .f32⟩
  | 3 => ⟨S4126x1024, .f32⟩
  | 4 => ⟨S1x1024, .f32⟩
  | 5 => ⟨S_, .f32⟩
  | 6 => ⟨S31x1024, .f32⟩
  | 7 => ⟨S31x1024, .f32⟩
  | 8 => ⟨S4096x1024, .f32⟩
  | 9 => ⟨S4096x1024, .f32⟩
  | 10 => ⟨S4096x1024, .f32⟩
  | 11 => ⟨S_, .f32⟩
  | 12 => ⟨S1024, .f32⟩
  | 13 => ⟨S1x1024, .f32⟩
  | 14 => ⟨S_, .f32⟩
  | 15 => ⟨S1024, .f32⟩
  | 16 => ⟨S_, .f32⟩
  | 17 => ⟨S4126x1024, .f32⟩
  | 18 => ⟨S4126x1024, .f32⟩
  | 19 => ⟨S1x1024, .f32⟩
  | 20 => ⟨S_, .f32⟩
  | 21 => ⟨S31x1024, .f32⟩
  | 22 => ⟨S31x1024, .f32⟩
  | 23 => ⟨S4096x1024, .f32⟩
  | 24 => ⟨S4096x1024, .f32⟩
  | 25 => ⟨S4096x1024, .f32⟩
  | 26 => ⟨S_, .f32⟩
  | 27 => ⟨S1024, .f32⟩
  | 28 => ⟨S1x1024, .f32⟩
  | 29 => ⟨S_, .f32⟩
  | 30 => ⟨S1024, .f32⟩
  | 31 => ⟨S_, .f32⟩
  | 32 => ⟨S4126x1024, .f32⟩
  | 33 => ⟨S4126x1024, .f32⟩
  | 34 => ⟨S1x1024, .f32⟩
  | 35 => ⟨S_, .f32⟩
  | 36 => ⟨S31x1024, .f32⟩
  | 37 => ⟨S31x1024, .f32⟩
  | 38 => ⟨S4096x1024, .f32⟩
  | 39 => ⟨S4096x1024, .f32⟩
  | 40 => ⟨S4096x1024, .f32⟩
  | 41 => ⟨S_, .f32⟩
  | 42 => ⟨S1024, .f32⟩
  | 43 => ⟨S1x1024, .f32⟩
  | 44 => ⟨S_, .f32⟩
  | 45 => ⟨S1024, .f32⟩
  | 46 => ⟨S_, .f32⟩
  | 47 => ⟨S4126x1024, .f32⟩
  | 48 => ⟨S4126x1024, .f32⟩
  | 49 => ⟨S1x1024, .f32⟩
  | 50 => ⟨S_, .f32⟩
  | 51 => ⟨S31x1024, .f32⟩
  | 52 => ⟨S31x1024, .f32⟩
  | 53 => ⟨S4096x1024, .f32⟩
  | 54 => ⟨S4096x1024, .f32⟩
  | 55 => ⟨S4096x1024, .f32⟩
  | 56 => ⟨S_, .f32⟩
  | 57 => ⟨S1024, .f32⟩
  | 58 => ⟨S1x1024, .f32⟩
  | 59 => ⟨S_, .f32⟩
  | 60 => ⟨S1024, .f32⟩
  | 61 => ⟨S_, .f32⟩
  | 62 => ⟨S4126x1024, .f32⟩
  | 63 => ⟨S4126x1024, .f32⟩
  | 64 => ⟨S1x1024, .f32⟩
  | 65 => ⟨S_, .f32⟩
  | 66 => ⟨S31x1024, .f32⟩
  | 67 => ⟨S31x1024, .f32⟩
  | 68 => ⟨S4096x1024, .f32⟩
  | 69 => ⟨S4096x1024, .f32⟩
  | 70 => ⟨S4096x1024, .f32⟩
  | 71 => ⟨S_, .f32⟩
  | 72 => ⟨S1024, .f32⟩
  | 73 => ⟨S1x1024, .f32⟩
  | 74 => ⟨S_, .f32⟩
  | 75 => ⟨S1024, .f32⟩
  | 76 => ⟨S_, .f32⟩
  | 77 => ⟨S4126x1024, .f32⟩
  | 78 => ⟨S4126x1024, .f32⟩
  | 79 => ⟨S1x1024, .f32⟩
  | 80 => ⟨S_, .f32⟩
  | 81 => ⟨S31x1024, .f32⟩
  | 82 => ⟨S31x1024, .f32⟩
  | 83 => ⟨S4096x1024, .f32⟩
  | 84 => ⟨S4096x1024, .f32⟩
  | 85 => ⟨S4096x1024, .f32⟩
  | 86 => ⟨S_, .f32⟩
  | 87 => ⟨S1024, .f32⟩
  | 88 => ⟨S1x1024, .f32⟩
  | 89 => ⟨S_, .f32⟩
  | 90 => ⟨S1024, .f32⟩
  | 91 => ⟨S_, .f32⟩
  | 92 => ⟨S4126x1024, .f32⟩
  | 93 => ⟨S4126x1024, .f32⟩
  | 94 => ⟨S1x1024, .f32⟩
  | 95 => ⟨S_, .f32⟩
  | 96 => ⟨S31x1024, .f32⟩
  | 97 => ⟨S31x1024, .f32⟩
  | 98 => ⟨S4096x1024, .f32⟩
  | 99 => ⟨S4096x1024, .f32⟩
  | 100 => ⟨S4096x1024, .f32⟩
  | 101 => ⟨S_, .f32⟩
  | 102 => ⟨S1024, .f32⟩
  | 103 => ⟨S1x1024, .f32⟩
  | 104 => ⟨S_, .f32⟩
  | 105 => ⟨S1024, .f32⟩
  | 106 => ⟨S_, .f32⟩
  | 107 => ⟨S4126x1024, .f32⟩
  | 108 => ⟨S4126x1024, .f32⟩
  | 109 => ⟨S1x1024, .f32⟩
  | 110 => ⟨S_, .f32⟩
  | 111 => ⟨S31x1024, .f32⟩
  | 112 => ⟨S31x1024, .f32⟩
  | 113 => ⟨S4096x1024, .f32⟩
  | 114 => ⟨S4096x1024, .f32⟩
  | 115 => ⟨S4096x1024, .f32⟩
  | 116 => ⟨S_, .f32⟩
  | 117 => ⟨S1024, .f32⟩
  | 118 => ⟨S1x1024, .f32⟩
  | 119 => ⟨S_, .f32⟩
  | 120 => ⟨S1024, .f32⟩
  | 121 => ⟨S_, .f32⟩
  | 122 => ⟨S4126x1024, .f32⟩
  | 123 => ⟨S4126x1024, .f32⟩
  | 124 => ⟨S1x1024, .f32⟩
  | 125 => ⟨S_, .f32⟩
  | 126 => ⟨S31x1024, .f32⟩
  | 127 => ⟨S31x1024, .f32⟩
  | _ => ⟨S4096x8192, .bf16⟩

abbrev hbmTy0_5 (i : Nat) : BufTy := match i % 128 with
  | 0 => ⟨S4096x1024, .f32⟩
  | 1 => ⟨S4096x1024, .f32⟩
  | 2 => ⟨S4096x1024, .f32⟩
  | 3 => ⟨S_, .f32⟩
  | 4 => ⟨S1024, .f32⟩
  | 5 => ⟨S1x1024, .f32⟩
  | 6 => ⟨S_, .f32⟩
  | 7 => ⟨S1024, .f32⟩
  | 8 => ⟨S_, .f32⟩
  | 9 => ⟨S4126x1024, .f32⟩
  | 10 => ⟨S4126x1024, .f32⟩
  | 11 => ⟨S1x1024, .f32⟩
  | 12 => ⟨S_, .f32⟩
  | 13 => ⟨S31x1024, .f32⟩
  | 14 => ⟨S31x1024, .f32⟩
  | 15 => ⟨S4096x1024, .f32⟩
  | 16 => ⟨S4096x1024, .f32⟩
  | 17 => ⟨S4096x1024, .f32⟩
  | 18 => ⟨S_, .f32⟩
  | 19 => ⟨S1024, .f32⟩
  | 20 => ⟨S1x1024, .f32⟩
  | 21 => ⟨S_, .f32⟩
  | 22 => ⟨S1024, .f32⟩
  | 23 => ⟨S_, .f32⟩
  | 24 => ⟨S4126x1024, .f32⟩
  | 25 => ⟨S4126x1024, .f32⟩
  | 26 => ⟨S1x1024, .f32⟩
  | 27 => ⟨S_, .f32⟩
  | 28 => ⟨S31x1024, .f32⟩
  | 29 => ⟨S31x1024, .f32⟩
  | 30 => ⟨S4096x1024, .f32⟩
  | 31 => ⟨S4096x1024, .f32⟩
  | 32 => ⟨S4096x1024, .f32⟩
  | 33 => ⟨S_, .f32⟩
  | 34 => ⟨S1024, .f32⟩
  | 35 => ⟨S1x1024, .f32⟩
  | 36 => ⟨S_, .f32⟩
  | 37 => ⟨S1024, .f32⟩
  | 38 => ⟨S_, .f32⟩
  | 39 => ⟨S4126x1024, .f32⟩
  | 40 => ⟨S4126x1024, .f32⟩
  | 41 => ⟨S1x1024, .f32⟩
  | 42 => ⟨S_, .f32⟩
  | 43 => ⟨S31x1024, .f32⟩
  | 44 => ⟨S31x1024, .f32⟩
  | 45 => ⟨S4096x1024, .f32⟩
  | 46 => ⟨S4096x1024, .f32⟩
  | 47 => ⟨S4096x1024, .f32⟩
  | 48 => ⟨S_, .f32⟩
  | 49 => ⟨S1024, .f32⟩
  | 50 => ⟨S1x1024, .f32⟩
  | 51 => ⟨S_, .f32⟩
  | 52 => ⟨S1024, .f32⟩
  | 53 => ⟨S_, .f32⟩
  | 54 => ⟨S4126x1024, .f32⟩
  | 55 => ⟨S4126x1024, .f32⟩
  | 56 => ⟨S1x1024, .f32⟩
  | 57 => ⟨S_, .f32⟩
  | 58 => ⟨S31x1024, .f32⟩
  | 59 => ⟨S31x1024, .f32⟩
  | 60 => ⟨S4096x1024, .f32⟩
  | 61 => ⟨S4096x1024, .f32⟩
  | 62 => ⟨S4096x1024, .f32⟩
  | 63 => ⟨S_, .f32⟩
  | 64 => ⟨S1024, .f32⟩
  | 65 => ⟨S1x1024, .f32⟩
  | 66 => ⟨S_, .f32⟩
  | 67 => ⟨S1024, .f32⟩
  | 68 => ⟨S_, .f32⟩
  | 69 => ⟨S4126x1024, .f32⟩
  | 70 => ⟨S4126x1024, .f32⟩
  | 71 => ⟨S1x1024, .f32⟩
  | 72 => ⟨S_, .f32⟩
  | 73 => ⟨S31x1024, .f32⟩
  | 74 => ⟨S31x1024, .f32⟩
  | 75 => ⟨S4096x1024, .f32⟩
  | 76 => ⟨S4096x1024, .f32⟩
  | 77 => ⟨S4096x1024, .f32⟩
  | 78 => ⟨S_, .f32⟩
  | 79 => ⟨S1024, .f32⟩
  | 80 => ⟨S1x1024, .f32⟩
  | 81 => ⟨S_, .f32⟩
  | 82 => ⟨S1024, .f32⟩
  | 83 => ⟨S_, .f32⟩
  | 84 => ⟨S4126x1024, .f32⟩
  | 85 => ⟨S4126x1024, .f32⟩
  | 86 => ⟨S1x1024, .f32⟩
  | 87 => ⟨S_, .f32⟩
  | 88 => ⟨S31x1024, .f32⟩
  | 89 => ⟨S31x1024, .f32⟩
  | 90 => ⟨S4096x1024, .f32⟩
  | 91 => ⟨S4096x1024, .f32⟩
  | 92 => ⟨S4096x1024, .f32⟩
  | 93 => ⟨S_, .f32⟩
  | 94 => ⟨S1024, .f32⟩
  | 95 => ⟨S1x1024, .f32⟩
  | 96 => ⟨S_, .f32⟩
  | 97 => ⟨S1024, .f32⟩
  | 98 => ⟨S_, .f32⟩
  | 99 => ⟨S4126x1024, .f32⟩
  | 100 => ⟨S4126x1024, .f32⟩
  | 101 => ⟨S1x1024, .f32⟩
  | 102 => ⟨S_, .f32⟩
  | 103 => ⟨S31x1024, .f32⟩
  | 104 => ⟨S31x1024, .f32⟩
  | 105 => ⟨S4096x1024, .f32⟩
  | 106 => ⟨S4096x1024, .f32⟩
  | 107 => ⟨S4096x1024, .f32⟩
  | 108 => ⟨S_, .f32⟩
  | 109 => ⟨S1024, .f32⟩
  | 110 => ⟨S1x1024, .f32⟩
  | 111 => ⟨S_, .f32⟩
  | 112 => ⟨S1024, .f32⟩
  | 113 => ⟨S_, .f32⟩
  | 114 => ⟨S4126x1024, .f32⟩
  | 115 => ⟨S4126x1024, .f32⟩
  | 116 => ⟨S1x1024, .f32⟩
  | 117 => ⟨S_, .f32⟩
  | 118 => ⟨S31x1024, .f32⟩
  | 119 => ⟨S31x1024, .f32⟩
  | 120 => ⟨S4096x1024, .f32⟩
  | 121 => ⟨S4096x1024, .f32⟩
  | 122 => ⟨S4096x1024, .f32⟩
  | 123 => ⟨S_, .f32⟩
  | 124 => ⟨S1024, .f32⟩
  | 125 => ⟨S1x1024, .f32⟩
  | 126 => ⟨S_, .f32⟩
  | 127 => ⟨S1024, .f32⟩
  | _ => ⟨S4096x8192, .bf16⟩

abbrev hbmTy0_6 (i : Nat) : BufTy := match i % 128 with
  | 0 => ⟨S_, .f32⟩
  | 1 => ⟨S4126x1024, .f32⟩
  | 2 => ⟨S4126x1024, .f32⟩
  | 3 => ⟨S1x1024, .f32⟩
  | 4 => ⟨S_, .f32⟩
  | 5 => ⟨S31x1024, .f32⟩
  | 6 => ⟨S31x1024, .f32⟩
  | 7 => ⟨S4096x1024, .f32⟩
  | 8 => ⟨S4096x1024, .f32⟩
  | 9 => ⟨S4096x1024, .f32⟩
  | 10 => ⟨S_, .f32⟩
  | 11 => ⟨S1024, .f32⟩
  | 12 => ⟨S1x1024, .f32⟩
  | 13 => ⟨S_, .f32⟩
  | 14 => ⟨S1024, .f32⟩
  | 15 => ⟨S_, .f32⟩
  | 16 => ⟨S4126x1024, .f32⟩
  | 17 => ⟨S4126x1024, .f32⟩
  | 18 => ⟨S1x1024, .f32⟩
  | 19 => ⟨S_, .f32⟩
  | 20 => ⟨S31x1024, .f32⟩
  | 21 => ⟨S31x1024, .f32⟩
  | 22 => ⟨S4096x1024, .f32⟩
  | 23 => ⟨S4096x1024, .f32⟩
  | 24 => ⟨S4096x1024, .f32⟩
  | 25 => ⟨S_, .f32⟩
  | 26 => ⟨S1024, .f32⟩
  | 27 => ⟨S1x1024, .f32⟩
  | 28 => ⟨S_, .f32⟩
  | 29 => ⟨S1024, .f32⟩
  | 30 => ⟨S_, .f32⟩
  | 31 => ⟨S4126x1024, .f32⟩
  | 32 => ⟨S4126x1024, .f32⟩
  | 33 => ⟨S1x1024, .f32⟩
  | 34 => ⟨S_, .f32⟩
  | 35 => ⟨S31x1024, .f32⟩
  | 36 => ⟨S31x1024, .f32⟩
  | 37 => ⟨S4096x1024, .f32⟩
  | 38 => ⟨S4096x1024, .f32⟩
  | 39 => ⟨S4096x1024, .f32⟩
  | 40 => ⟨S_, .f32⟩
  | 41 => ⟨S1024, .f32⟩
  | 42 => ⟨S1x1024, .f32⟩
  | 43 => ⟨S_, .f32⟩
  | 44 => ⟨S1024, .f32⟩
  | 45 => ⟨S_, .f32⟩
  | 46 => ⟨S4126x1024, .f32⟩
  | 47 => ⟨S4126x1024, .f32⟩
  | 48 => ⟨S1x1024, .f32⟩
  | 49 => ⟨S_, .f32⟩
  | 50 => ⟨S31x1024, .f32⟩
  | 51 => ⟨S31x1024, .f32⟩
  | 52 => ⟨S4096x1024, .f32⟩
  | 53 => ⟨S4096x1024, .f32⟩
  | 54 => ⟨S4096x1024, .f32⟩
  | 55 => ⟨S_, .f32⟩
  | 56 => ⟨S1024, .f32⟩
  | 57 => ⟨S1x1024, .f32⟩
  | 58 => ⟨S_, .f32⟩
  | 59 => ⟨S1024, .f32⟩
  | 60 => ⟨S_, .f32⟩
  | 61 => ⟨S4126x1024, .f32⟩
  | 62 => ⟨S4126x1024, .f32⟩
  | 63 => ⟨S1x1024, .f32⟩
  | 64 => ⟨S_, .f32⟩
  | 65 => ⟨S31x1024, .f32⟩
  | 66 => ⟨S31x1024, .f32⟩
  | 67 => ⟨S30x1024, .f32⟩
  | 68 => ⟨S4096x1024, .f32⟩
  | 69 => ⟨S4096x1024, .f32⟩
  | 70 => ⟨S4096x1024, .f32⟩
  | 71 => ⟨S4096x1024, .f32⟩
  | 72 => ⟨S4096x3072, .bf16⟩
  | 73 => ⟨S4096x1024, .bf16⟩
  | 74 => ⟨S4096x1024, .bf16⟩
  | 75 => ⟨S4096x1024, .bf16⟩
  | 76 => ⟨S4096x2048, .bf16⟩
  | 77 => ⟨S4096x8192, .bf16⟩
  | 78 => ⟨S_, .f32⟩
  | 79 => ⟨S1x1024, .f32⟩
  | 80 => ⟨S1x1024, .f32⟩
  | 81 => ⟨S1x1024, .f32⟩
  | 82 => ⟨S1x1024, .f32⟩
  | 83 => ⟨S_, .f32⟩
  | 84 => ⟨S5x1024, .f32⟩
  | 85 => ⟨S40x1024, .f32⟩
  | _ => ⟨S4096x8192, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4096x8192, .bf16⟩

abbrev bufTy : (tb : Table) → Fin (tcTables nBuf tb) → BufTy
  | .hbm, ⟨i, _⟩ => hbmTy i
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_v229 : Ref sig .tc := ⟨.hbm, 241, rfl⟩
abbrev main_v230 : Ref sig .tc := ⟨.hbm, 242, rfl⟩
abbrev main_v231 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_cst_4 : Ref sig .tc := ⟨.hbm, 256, rfl⟩
abbrev main_v244 : Ref sig .tc := ⟨.hbm, 257, rfl⟩
abbrev main_v245 : Ref sig .tc := ⟨.hbm, 258, rfl⟩
abbrev main_cst_5 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_cst_6 : Ref sig .tc := ⟨.hbm, 265, rfl⟩
abbrev main_v251 : Ref sig .tc := ⟨.hbm, 266, rfl⟩
abbrev main_v252 : Ref sig .tc := ⟨.hbm, 267, rfl⟩
abbrev main_cst_7 : Ref sig .tc := ⟨.hbm, 268, rfl⟩
abbrev main_v253 : Ref sig .tc := ⟨.hbm, 269, rfl⟩
abbrev main_v254 : Ref sig .tc := ⟨.hbm, 270, rfl⟩
abbrev main_cst_8 : Ref sig .tc := ⟨.hbm, 271, rfl⟩
abbrev main_v255 : Ref sig .tc := ⟨.hbm, 272, rfl⟩
abbrev main_v256 : Ref sig .tc := ⟨.hbm, 273, rfl⟩
abbrev main_cst_9 : Ref sig .tc := ⟨.hbm, 274, rfl⟩
abbrev main_v257 : Ref sig .tc := ⟨.hbm, 275, rfl⟩
abbrev main_v258 : Ref sig .tc := ⟨.hbm, 276, rfl⟩
abbrev main_v259 : Ref sig .tc := ⟨.hbm, 277, rfl⟩
abbrev main_v260 : Ref sig .tc := ⟨.hbm, 278, rfl⟩
abbrev main_cst_10 : Ref sig .tc := ⟨.hbm, 279, rfl⟩
abbrev main_v261 : Ref sig .tc := ⟨.hbm, 280, rfl⟩
abbrev main_v262 : Ref sig .tc := ⟨.hbm, 281, rfl⟩
abbrev main_v263 : Ref sig .tc := ⟨.hbm, 282, rfl⟩
abbrev main_v264 : Ref sig .tc := ⟨.hbm, 283, rfl⟩
abbrev main_v265 : Ref sig .tc := ⟨.hbm, 284, rfl⟩
abbrev main_v266 : Ref sig .tc := ⟨.hbm, 285, rfl⟩
abbrev main_v267 : Ref sig .tc := ⟨.hbm, 286, rfl⟩
abbrev main_v268 : Ref sig .tc := ⟨.hbm, 287, rfl⟩
abbrev main_v269 : Ref sig .tc := ⟨.hbm, 288, rfl⟩
abbrev main_v270 : Ref sig .tc := ⟨.hbm, 289, rfl⟩
abbrev main_call0_v0 : Ref sig .tc := ⟨.hbm, 290, rfl⟩
abbrev main_call0_v1 : Ref sig .tc := ⟨.hbm, 291, rfl⟩
abbrev main_call0_cst : Ref sig .tc := ⟨.hbm, 292, rfl⟩
abbrev main_call0_v2 : Ref sig .tc := ⟨.hbm, 293, rfl⟩
abbrev main_call0_v3 : Ref sig .tc := ⟨.hbm, 294, rfl⟩
abbrev main_call0_cst_0 : Ref sig .tc := ⟨.hbm, 295, rfl⟩
abbrev main_call0_v4 : Ref sig .tc := ⟨.hbm, 296, rfl⟩
abbrev main_v271_2 : Ref sig .tc := ⟨.hbm, 297, rfl⟩
abbrev main_call0_cst_1 : Ref sig .tc := ⟨.hbm, 298, rfl⟩
abbrev main_call0_v6 : Ref sig .tc := ⟨.hbm, 299, rfl⟩
abbrev main_call0_v7 : Ref sig .tc := ⟨.hbm, 300, rfl⟩
abbrev main_v271_1 : Ref sig .tc := ⟨.hbm, 301, rfl⟩
abbrev main_v271_0 : Ref sig .tc := ⟨.hbm, 302, rfl⟩
abbrev main_call1_v0 : Ref sig .tc := ⟨.hbm, 303, rfl⟩
abbrev main_call1_v1 : Ref sig .tc := ⟨.hbm, 304, rfl⟩
abbrev main_call1_cst : Ref sig .tc := ⟨.hbm, 305, rfl⟩
abbrev main_call1_v2 : Ref sig .tc := ⟨.hbm, 306, rfl⟩
abbrev main_call1_v3 : Ref sig .tc := ⟨.hbm, 307, rfl⟩
abbrev main_call1_cst_0 : Ref sig .tc := ⟨.hbm, 308, rfl⟩
abbrev main_call1_v4 : Ref sig .tc := ⟨.hbm, 309, rfl⟩
abbrev main_v272_2 : Ref sig .tc := ⟨.hbm, 310, rfl⟩
abbrev main_call1_cst_1 : Ref sig .tc := ⟨.hbm, 311, rfl⟩
abbrev main_call1_v6 : Ref sig .tc := ⟨.hbm, 312, rfl⟩
abbrev main_call1_v7 : Ref sig .tc := ⟨.hbm, 313, rfl⟩
abbrev main_v272_1 : Ref sig .tc := ⟨.hbm, 314, rfl⟩
abbrev main_v272_0 : Ref sig .tc := ⟨.hbm, 315, rfl⟩
abbrev main_v273 : Ref sig .tc := ⟨.hbm, 316, rfl⟩
abbrev main_v274 : Ref sig .tc := ⟨.hbm, 317, rfl⟩
abbrev main_v275 : Ref sig .tc := ⟨.hbm, 318, rfl⟩
abbrev main_v276 : Ref sig .tc := ⟨.hbm, 319, rfl⟩
abbrev main_call2_v0 : Ref sig .tc := ⟨.hbm, 320, rfl⟩
abbrev main_call2_v1 : Ref sig .tc := ⟨.hbm, 321, rfl⟩
abbrev main_call2_v2 : Ref sig .tc := ⟨.hbm, 322, rfl⟩
abbrev main_v277 : Ref sig .tc := ⟨.hbm, 323, rfl⟩
abbrev main_call3_v0 : Ref sig .tc := ⟨.hbm, 324, rfl⟩
abbrev main_call3_v1 : Ref sig .tc := ⟨.hbm, 325, rfl⟩
abbrev main_call3_v2 : Ref sig .tc := ⟨.hbm, 326, rfl⟩
abbrev main_v278 : Ref sig .tc := ⟨.hbm, 327, rfl⟩
abbrev main_cst_11 : Ref sig .tc := ⟨.hbm, 328, rfl⟩
abbrev main_v279 : Ref sig .tc := ⟨.hbm, 329, rfl⟩
abbrev main_v280 : Ref sig .tc := ⟨.hbm, 330, rfl⟩
abbrev main_cst_12 : Ref sig .tc := ⟨.hbm, 331, rfl⟩
abbrev main_v281 : Ref sig .tc := ⟨.hbm, 332, rfl⟩
abbrev main_v282 : Ref sig .tc := ⟨.hbm, 333, rfl⟩
abbrev main_cst_13 : Ref sig .tc := ⟨.hbm, 334, rfl⟩
abbrev main_v283 : Ref sig .tc := ⟨.hbm, 335, rfl⟩
abbrev main_v284 : Ref sig .tc := ⟨.hbm, 336, rfl⟩
abbrev main_v285 : Ref sig .tc := ⟨.hbm, 337, rfl⟩
abbrev main_v286 : Ref sig .tc := ⟨.hbm, 338, rfl⟩
abbrev main_cst_14 : Ref sig .tc := ⟨.hbm, 339, rfl⟩
abbrev main_v287 : Ref sig .tc := ⟨.hbm, 340, rfl⟩
abbrev main_v288 : Ref sig .tc := ⟨.hbm, 341, rfl⟩
abbrev main_cst_15 : Ref sig .tc := ⟨.hbm, 342, rfl⟩
abbrev main_v289 : Ref sig .tc := ⟨.hbm, 343, rfl⟩
abbrev main_v290 : Ref sig .tc := ⟨.hbm, 344, rfl⟩
abbrev main_v291 : Ref sig .tc := ⟨.hbm, 345, rfl⟩
abbrev main_v292 : Ref sig .tc := ⟨.hbm, 346, rfl⟩
abbrev main_v293 : Ref sig .tc := ⟨.hbm, 347, rfl⟩
abbrev main_cst_16 : Ref sig .tc := ⟨.hbm, 348, rfl⟩
abbrev main_v294 : Ref sig .tc := ⟨.hbm, 349, rfl⟩
abbrev main_v295 : Ref sig .tc := ⟨.hbm, 350, rfl⟩
abbrev main_cst_17 : Ref sig .tc := ⟨.hbm, 351, rfl⟩
abbrev main_v296 : Ref sig .tc := ⟨.hbm, 352, rfl⟩
abbrev main_v297 : Ref sig .tc := ⟨.hbm, 353, rfl⟩
abbrev main_v298 : Ref sig .tc := ⟨.hbm, 354, rfl⟩
abbrev main_v299 : Ref sig .tc := ⟨.hbm, 355, rfl⟩
abbrev main_v300 : Ref sig .tc := ⟨.hbm, 356, rfl⟩
abbrev main_cst_18 : Ref sig .tc := ⟨.hbm, 357, rfl⟩
abbrev main_v301 : Ref sig .tc := ⟨.hbm, 358, rfl⟩
abbrev main_v302 : Ref sig .tc := ⟨.hbm, 359, rfl⟩
abbrev main_cst_19 : Ref sig .tc := ⟨.hbm, 360, rfl⟩
abbrev main_v303 : Ref sig .tc := ⟨.hbm, 361, rfl⟩
abbrev main_v304 : Ref sig .tc := ⟨.hbm, 362, rfl⟩
abbrev main_cst_20 : Ref sig .tc := ⟨.hbm, 363, rfl⟩
abbrev main_v305 : Ref sig .tc := ⟨.hbm, 364, rfl⟩
abbrev main_v306 : Ref sig .tc := ⟨.hbm, 365, rfl⟩
abbrev main_v307 : Ref sig .tc := ⟨.hbm, 366, rfl⟩
abbrev main_cst_21 : Ref sig .tc := ⟨.hbm, 367, rfl⟩
abbrev main_v308 : Ref sig .tc := ⟨.hbm, 368, rfl⟩
abbrev main_v309 : Ref sig .tc := ⟨.hbm, 369, rfl⟩
abbrev main_cst_22 : Ref sig .tc := ⟨.hbm, 370, rfl⟩
abbrev main_v310 : Ref sig .tc := ⟨.hbm, 371, rfl⟩
abbrev main_v311 : Ref sig .tc := ⟨.hbm, 372, rfl⟩
abbrev main_v312 : Ref sig .tc := ⟨.hbm, 373, rfl⟩
abbrev main_v313 : Ref sig .tc := ⟨.hbm, 374, rfl⟩
abbrev main_cst_23 : Ref sig .tc := ⟨.hbm, 375, rfl⟩
abbrev main_v314 : Ref sig .tc := ⟨.hbm, 376, rfl⟩
abbrev main_v315 : Ref sig .tc := ⟨.hbm, 377, rfl⟩
abbrev main_cst_24 : Ref sig .tc := ⟨.hbm, 378, rfl⟩
abbrev main_v316 : Ref sig .tc := ⟨.hbm, 379, rfl⟩
abbrev main_cst_25 : Ref sig .tc := ⟨.hbm, 380, rfl⟩
abbrev main_v317 : Ref sig .tc := ⟨.hbm, 381, rfl⟩
abbrev main_v318 : Ref sig .tc := ⟨.hbm, 382, rfl⟩
abbrev main_cst_26 : Ref sig .tc := ⟨.hbm, 383, rfl⟩
abbrev main_v319 : Ref sig .tc := ⟨.hbm, 384, rfl⟩
abbrev main_v320 : Ref sig .tc := ⟨.hbm, 385, rfl⟩
abbrev main_v321 : Ref sig .tc := ⟨.hbm, 386, rfl⟩
abbrev main_v322 : Ref sig .tc := ⟨.hbm, 387, rfl⟩
abbrev main_cst_27 : Ref sig .tc := ⟨.hbm, 388, rfl⟩
abbrev main_v323 : Ref sig .tc := ⟨.hbm, 389, rfl⟩
abbrev main_v324 : Ref sig .tc := ⟨.hbm, 390, rfl⟩
abbrev main_cst_28 : Ref sig .tc := ⟨.hbm, 391, rfl⟩
abbrev main_v325 : Ref sig .tc := ⟨.hbm, 392, rfl⟩
abbrev main_cst_29 : Ref sig .tc := ⟨.hbm, 393, rfl⟩
abbrev main_v326 : Ref sig .tc := ⟨.hbm, 394, rfl⟩
abbrev main_v327 : Ref sig .tc := ⟨.hbm, 395, rfl⟩
abbrev main_v328 : Ref sig .tc := ⟨.hbm, 396, rfl⟩
abbrev main_cst_30 : Ref sig .tc := ⟨.hbm, 397, rfl⟩
abbrev main_v329 : Ref sig .tc := ⟨.hbm, 398, rfl⟩
abbrev main_v330 : Ref sig .tc := ⟨.hbm, 399, rfl⟩
abbrev main_v331 : Ref sig .tc := ⟨.hbm, 400, rfl⟩
abbrev main_v332 : Ref sig .tc := ⟨.hbm, 401, rfl⟩
abbrev main_v333 : Ref sig .tc := ⟨.hbm, 402, rfl⟩
abbrev main_cst_31 : Ref sig .tc := ⟨.hbm, 403, rfl⟩
abbrev main_v334 : Ref sig .tc := ⟨.hbm, 404, rfl⟩
abbrev main_v335 : Ref sig .tc := ⟨.hbm, 405, rfl⟩
abbrev main_cst_32 : Ref sig .tc := ⟨.hbm, 406, rfl⟩
abbrev main_v336 : Ref sig .tc := ⟨.hbm, 407, rfl⟩
abbrev main_cst_33 : Ref sig .tc := ⟨.hbm, 408, rfl⟩
abbrev main_v337 : Ref sig .tc := ⟨.hbm, 409, rfl⟩
abbrev main_v338 : Ref sig .tc := ⟨.hbm, 410, rfl⟩
abbrev main_v339 : Ref sig .tc := ⟨.hbm, 411, rfl⟩
abbrev main_cst_34 : Ref sig .tc := ⟨.hbm, 412, rfl⟩
abbrev main_v340 : Ref sig .tc := ⟨.hbm, 413, rfl⟩
abbrev main_v341 : Ref sig .tc := ⟨.hbm, 414, rfl⟩
abbrev main_v342 : Ref sig .tc := ⟨.hbm, 415, rfl⟩
abbrev main_v343 : Ref sig .tc := ⟨.hbm, 416, rfl⟩
abbrev main_v344 : Ref sig .tc := ⟨.hbm, 417, rfl⟩
abbrev main_cst_35 : Ref sig .tc := ⟨.hbm, 418, rfl⟩
abbrev main_v345 : Ref sig .tc := ⟨.hbm, 419, rfl⟩
abbrev main_v346 : Ref sig .tc := ⟨.hbm, 420, rfl⟩
abbrev main_cst_36 : Ref sig .tc := ⟨.hbm, 421, rfl⟩
abbrev main_v347 : Ref sig .tc := ⟨.hbm, 422, rfl⟩
abbrev main_cst_37 : Ref sig .tc := ⟨.hbm, 423, rfl⟩
abbrev main_v348 : Ref sig .tc := ⟨.hbm, 424, rfl⟩
abbrev main_v349 : Ref sig .tc := ⟨.hbm, 425, rfl⟩
abbrev main_v350 : Ref sig .tc := ⟨.hbm, 426, rfl⟩
abbrev main_cst_38 : Ref sig .tc := ⟨.hbm, 427, rfl⟩
abbrev main_v351 : Ref sig .tc := ⟨.hbm, 428, rfl⟩
abbrev main_v352 : Ref sig .tc := ⟨.hbm, 429, rfl⟩
abbrev main_v353 : Ref sig .tc := ⟨.hbm, 430, rfl⟩
abbrev main_v354 : Ref sig .tc := ⟨.hbm, 431, rfl⟩
abbrev main_v355 : Ref sig .tc := ⟨.hbm, 432, rfl⟩
abbrev main_cst_39 : Ref sig .tc := ⟨.hbm, 433, rfl⟩
abbrev main_v356 : Ref sig .tc := ⟨.hbm, 434, rfl⟩
abbrev main_v357 : Ref sig .tc := ⟨.hbm, 435, rfl⟩
abbrev main_cst_40 : Ref sig .tc := ⟨.hbm, 436, rfl⟩
abbrev main_v358 : Ref sig .tc := ⟨.hbm, 437, rfl⟩
abbrev main_cst_41 : Ref sig .tc := ⟨.hbm, 438, rfl⟩
abbrev main_v359 : Ref sig .tc := ⟨.hbm, 439, rfl⟩
abbrev main_v360 : Ref sig .tc := ⟨.hbm, 440, rfl⟩
abbrev main_v361 : Ref sig .tc := ⟨.hbm, 441, rfl⟩
abbrev main_cst_42 : Ref sig .tc := ⟨.hbm, 442, rfl⟩
abbrev main_v362 : Ref sig .tc := ⟨.hbm, 443, rfl⟩
abbrev main_v363 : Ref sig .tc := ⟨.hbm, 444, rfl⟩
abbrev main_v364 : Ref sig .tc := ⟨.hbm, 445, rfl⟩
abbrev main_v365 : Ref sig .tc := ⟨.hbm, 446, rfl⟩
abbrev main_v366 : Ref sig .tc := ⟨.hbm, 447, rfl⟩
abbrev main_cst_43 : Ref sig .tc := ⟨.hbm, 448, rfl⟩
abbrev main_v367 : Ref sig .tc := ⟨.hbm, 449, rfl⟩
abbrev main_v368 : Ref sig .tc := ⟨.hbm, 450, rfl⟩
abbrev main_cst_44 : Ref sig .tc := ⟨.hbm, 451, rfl⟩
abbrev main_v369 : Ref sig .tc := ⟨.hbm, 452, rfl⟩
abbrev main_cst_45 : Ref sig .tc := ⟨.hbm, 453, rfl⟩
abbrev main_v370 : Ref sig .tc := ⟨.hbm, 454, rfl⟩
abbrev main_v371 : Ref sig .tc := ⟨.hbm, 455, rfl⟩
abbrev main_v372 : Ref sig .tc := ⟨.hbm, 456, rfl⟩
abbrev main_cst_46 : Ref sig .tc := ⟨.hbm, 457, rfl⟩
abbrev main_v373 : Ref sig .tc := ⟨.hbm, 458, rfl⟩
abbrev main_v374 : Ref sig .tc := ⟨.hbm, 459, rfl⟩
abbrev main_v375 : Ref sig .tc := ⟨.hbm, 460, rfl⟩
abbrev main_v376 : Ref sig .tc := ⟨.hbm, 461, rfl⟩
abbrev main_v377 : Ref sig .tc := ⟨.hbm, 462, rfl⟩
abbrev main_cst_47 : Ref sig .tc := ⟨.hbm, 463, rfl⟩
abbrev main_v378 : Ref sig .tc := ⟨.hbm, 464, rfl⟩
abbrev main_v379 : Ref sig .tc := ⟨.hbm, 465, rfl⟩
abbrev main_cst_48 : Ref sig .tc := ⟨.hbm, 466, rfl⟩
abbrev main_v380 : Ref sig .tc := ⟨.hbm, 467, rfl⟩
abbrev main_cst_49 : Ref sig .tc := ⟨.hbm, 468, rfl⟩
abbrev main_v381 : Ref sig .tc := ⟨.hbm, 469, rfl⟩
abbrev main_v382 : Ref sig .tc := ⟨.hbm, 470, rfl⟩
abbrev main_v383 : Ref sig .tc := ⟨.hbm, 471, rfl⟩
abbrev main_cst_50 : Ref sig .tc := ⟨.hbm, 472, rfl⟩
abbrev main_v384 : Ref sig .tc := ⟨.hbm, 473, rfl⟩
abbrev main_v385 : Ref sig .tc := ⟨.hbm, 474, rfl⟩
abbrev main_v386 : Ref sig .tc := ⟨.hbm, 475, rfl⟩
abbrev main_v387 : Ref sig .tc := ⟨.hbm, 476, rfl⟩
abbrev main_v388 : Ref sig .tc := ⟨.hbm, 477, rfl⟩
abbrev main_cst_51 : Ref sig .tc := ⟨.hbm, 478, rfl⟩
abbrev main_v389 : Ref sig .tc := ⟨.hbm, 479, rfl⟩
abbrev main_v390 : Ref sig .tc := ⟨.hbm, 480, rfl⟩
abbrev main_cst_52 : Ref sig .tc := ⟨.hbm, 481, rfl⟩
abbrev main_v391 : Ref sig .tc := ⟨.hbm, 482, rfl⟩
abbrev main_cst_53 : Ref sig .tc := ⟨.hbm, 483, rfl⟩
abbrev main_v392 : Ref sig .tc := ⟨.hbm, 484, rfl⟩
abbrev main_v393 : Ref sig .tc := ⟨.hbm, 485, rfl⟩
abbrev main_v394 : Ref sig .tc := ⟨.hbm, 486, rfl⟩
abbrev main_cst_54 : Ref sig .tc := ⟨.hbm, 487, rfl⟩
abbrev main_v395 : Ref sig .tc := ⟨.hbm, 488, rfl⟩
abbrev main_v396 : Ref sig .tc := ⟨.hbm, 489, rfl⟩
abbrev main_v397 : Ref sig .tc := ⟨.hbm, 490, rfl⟩
abbrev main_v398 : Ref sig .tc := ⟨.hbm, 491, rfl⟩
abbrev main_v399 : Ref sig .tc := ⟨.hbm, 492, rfl⟩
abbrev main_cst_55 : Ref sig .tc := ⟨.hbm, 493, rfl⟩
abbrev main_v400 : Ref sig .tc := ⟨.hbm, 494, rfl⟩
abbrev main_v401 : Ref sig .tc := ⟨.hbm, 495, rfl⟩
abbrev main_cst_56 : Ref sig .tc := ⟨.hbm, 496, rfl⟩
abbrev main_v402 : Ref sig .tc := ⟨.hbm, 497, rfl⟩
abbrev main_cst_57 : Ref sig .tc := ⟨.hbm, 498, rfl⟩
abbrev main_v403 : Ref sig .tc := ⟨.hbm, 499, rfl⟩
abbrev main_v404 : Ref sig .tc := ⟨.hbm, 500, rfl⟩
abbrev main_v405 : Ref sig .tc := ⟨.hbm, 501, rfl⟩
abbrev main_cst_58 : Ref sig .tc := ⟨.hbm, 502, rfl⟩
abbrev main_v406 : Ref sig .tc := ⟨.hbm, 503, rfl⟩
abbrev main_v407 : Ref sig .tc := ⟨.hbm, 504, rfl⟩
abbrev main_v408 : Ref sig .tc := ⟨.hbm, 505, rfl⟩
abbrev main_v409 : Ref sig .tc := ⟨.hbm, 506, rfl⟩
abbrev main_v410 : Ref sig .tc := ⟨.hbm, 507, rfl⟩
abbrev main_cst_59 : Ref sig .tc := ⟨.hbm, 508, rfl⟩
abbrev main_v411 : Ref sig .tc := ⟨.hbm, 509, rfl⟩
abbrev main_v412 : Ref sig .tc := ⟨.hbm, 510, rfl⟩
abbrev main_cst_60 : Ref sig .tc := ⟨.hbm, 511, rfl⟩
abbrev main_v413 : Ref sig .tc := ⟨.hbm, 512, rfl⟩
abbrev main_cst_61 : Ref sig .tc := ⟨.hbm, 513, rfl⟩
abbrev main_v414 : Ref sig .tc := ⟨.hbm, 514, rfl⟩
abbrev main_v415 : Ref sig .tc := ⟨.hbm, 515, rfl⟩
abbrev main_v416 : Ref sig .tc := ⟨.hbm, 516, rfl⟩
abbrev main_cst_62 : Ref sig .tc := ⟨.hbm, 517, rfl⟩
abbrev main_v417 : Ref sig .tc := ⟨.hbm, 518, rfl⟩
abbrev main_v418 : Ref sig .tc := ⟨.hbm, 519, rfl⟩
abbrev main_v419 : Ref sig .tc := ⟨.hbm, 520, rfl⟩
abbrev main_v420 : Ref sig .tc := ⟨.hbm, 521, rfl⟩
abbrev main_v421 : Ref sig .tc := ⟨.hbm, 522, rfl⟩
abbrev main_cst_63 : Ref sig .tc := ⟨.hbm, 523, rfl⟩
abbrev main_v422 : Ref sig .tc := ⟨.hbm, 524, rfl⟩
abbrev main_v423 : Ref sig .tc := ⟨.hbm, 525, rfl⟩
abbrev main_cst_64 : Ref sig .tc := ⟨.hbm, 526, rfl⟩
abbrev main_v424 : Ref sig .tc := ⟨.hbm, 527, rfl⟩
abbrev main_cst_65 : Ref sig .tc := ⟨.hbm, 528, rfl⟩
abbrev main_v425 : Ref sig .tc := ⟨.hbm, 529, rfl⟩
abbrev main_v426 : Ref sig .tc := ⟨.hbm, 530, rfl⟩
abbrev main_v427 : Ref sig .tc := ⟨.hbm, 531, rfl⟩
abbrev main_cst_66 : Ref sig .tc := ⟨.hbm, 532, rfl⟩
abbrev main_v428 : Ref sig .tc := ⟨.hbm, 533, rfl⟩
abbrev main_v429 : Ref sig .tc := ⟨.hbm, 534, rfl⟩
abbrev main_v430 : Ref sig .tc := ⟨.hbm, 535, rfl⟩
abbrev main_v431 : Ref sig .tc := ⟨.hbm, 536, rfl⟩
abbrev main_v432 : Ref sig .tc := ⟨.hbm, 537, rfl⟩
abbrev main_cst_67 : Ref sig .tc := ⟨.hbm, 538, rfl⟩
abbrev main_v433 : Ref sig .tc := ⟨.hbm, 539, rfl⟩
abbrev main_v434 : Ref sig .tc := ⟨.hbm, 540, rfl⟩
abbrev main_cst_68 : Ref sig .tc := ⟨.hbm, 541, rfl⟩
abbrev main_v435 : Ref sig .tc := ⟨.hbm, 542, rfl⟩
abbrev main_cst_69 : Ref sig .tc := ⟨.hbm, 543, rfl⟩
abbrev main_v436 : Ref sig .tc := ⟨.hbm, 544, rfl⟩
abbrev main_v437 : Ref sig .tc := ⟨.hbm, 545, rfl⟩
abbrev main_v438 : Ref sig .tc := ⟨.hbm, 546, rfl⟩
abbrev main_cst_70 : Ref sig .tc := ⟨.hbm, 547, rfl⟩
abbrev main_v439 : Ref sig .tc := ⟨.hbm, 548, rfl⟩
abbrev main_v440 : Ref sig .tc := ⟨.hbm, 549, rfl⟩
abbrev main_v441 : Ref sig .tc := ⟨.hbm, 550, rfl⟩
abbrev main_v442 : Ref sig .tc := ⟨.hbm, 551, rfl⟩
abbrev main_v443 : Ref sig .tc := ⟨.hbm, 552, rfl⟩
abbrev main_cst_71 : Ref sig .tc := ⟨.hbm, 553, rfl⟩
abbrev main_v444 : Ref sig .tc := ⟨.hbm, 554, rfl⟩
abbrev main_v445 : Ref sig .tc := ⟨.hbm, 555, rfl⟩
abbrev main_cst_72 : Ref sig .tc := ⟨.hbm, 556, rfl⟩
abbrev main_v446 : Ref sig .tc := ⟨.hbm, 557, rfl⟩
abbrev main_cst_73 : Ref sig .tc := ⟨.hbm, 558, rfl⟩
abbrev main_v447 : Ref sig .tc := ⟨.hbm, 559, rfl⟩
abbrev main_v448 : Ref sig .tc := ⟨.hbm, 560, rfl⟩
abbrev main_v449 : Ref sig .tc := ⟨.hbm, 561, rfl⟩
abbrev main_cst_74 : Ref sig .tc := ⟨.hbm, 562, rfl⟩
abbrev main_v450 : Ref sig .tc := ⟨.hbm, 563, rfl⟩
abbrev main_v451 : Ref sig .tc := ⟨.hbm, 564, rfl⟩
abbrev main_v452 : Ref sig .tc := ⟨.hbm, 565, rfl⟩
abbrev main_v453 : Ref sig .tc := ⟨.hbm, 566, rfl⟩
abbrev main_v454 : Ref sig .tc := ⟨.hbm, 567, rfl⟩
abbrev main_cst_75 : Ref sig .tc := ⟨.hbm, 568, rfl⟩
abbrev main_v455 : Ref sig .tc := ⟨.hbm, 569, rfl⟩
abbrev main_v456 : Ref sig .tc := ⟨.hbm, 570, rfl⟩
abbrev main_cst_76 : Ref sig .tc := ⟨.hbm, 571, rfl⟩
abbrev main_v457 : Ref sig .tc := ⟨.hbm, 572, rfl⟩
abbrev main_cst_77 : Ref sig .tc := ⟨.hbm, 573, rfl⟩
abbrev main_v458 : Ref sig .tc := ⟨.hbm, 574, rfl⟩
abbrev main_v459 : Ref sig .tc := ⟨.hbm, 575, rfl⟩
abbrev main_v460 : Ref sig .tc := ⟨.hbm, 576, rfl⟩
abbrev main_cst_78 : Ref sig .tc := ⟨.hbm, 577, rfl⟩
abbrev main_v461 : Ref sig .tc := ⟨.hbm, 578, rfl⟩
abbrev main_v462 : Ref sig .tc := ⟨.hbm, 579, rfl⟩
abbrev main_v463 : Ref sig .tc := ⟨.hbm, 580, rfl⟩
abbrev main_v464 : Ref sig .tc := ⟨.hbm, 581, rfl⟩
abbrev main_v465 : Ref sig .tc := ⟨.hbm, 582, rfl⟩
abbrev main_cst_79 : Ref sig .tc := ⟨.hbm, 583, rfl⟩
abbrev main_v466 : Ref sig .tc := ⟨.hbm, 584, rfl⟩
abbrev main_v467 : Ref sig .tc := ⟨.hbm, 585, rfl⟩
abbrev main_cst_80 : Ref sig .tc := ⟨.hbm, 586, rfl⟩
abbrev main_v468 : Ref sig .tc := ⟨.hbm, 587, rfl⟩
abbrev main_cst_81 : Ref sig .tc := ⟨.hbm, 588, rfl⟩
abbrev main_v469 : Ref sig .tc := ⟨.hbm, 589, rfl⟩
abbrev main_v470 : Ref sig .tc := ⟨.hbm, 590, rfl⟩
abbrev main_v471 : Ref sig .tc := ⟨.hbm, 591, rfl⟩
abbrev main_cst_82 : Ref sig .tc := ⟨.hbm, 592, rfl⟩
abbrev main_v472 : Ref sig .tc := ⟨.hbm, 593, rfl⟩
abbrev main_v473 : Ref sig .tc := ⟨.hbm, 594, rfl⟩
abbrev main_v474 : Ref sig .tc := ⟨.hbm, 595, rfl⟩
abbrev main_v475 : Ref sig .tc := ⟨.hbm, 596, rfl⟩
abbrev main_v476 : Ref sig .tc := ⟨.hbm, 597, rfl⟩
abbrev main_cst_83 : Ref sig .tc := ⟨.hbm, 598, rfl⟩
abbrev main_v477 : Ref sig .tc := ⟨.hbm, 599, rfl⟩
abbrev main_v478 : Ref sig .tc := ⟨.hbm, 600, rfl⟩
abbrev main_cst_84 : Ref sig .tc := ⟨.hbm, 601, rfl⟩
abbrev main_v479 : Ref sig .tc := ⟨.hbm, 602, rfl⟩
abbrev main_cst_85 : Ref sig .tc := ⟨.hbm, 603, rfl⟩
abbrev main_v480 : Ref sig .tc := ⟨.hbm, 604, rfl⟩
abbrev main_v481 : Ref sig .tc := ⟨.hbm, 605, rfl⟩
abbrev main_v482 : Ref sig .tc := ⟨.hbm, 606, rfl⟩
abbrev main_cst_86 : Ref sig .tc := ⟨.hbm, 607, rfl⟩
abbrev main_v483 : Ref sig .tc := ⟨.hbm, 608, rfl⟩
abbrev main_v484 : Ref sig .tc := ⟨.hbm, 609, rfl⟩
abbrev main_v485 : Ref sig .tc := ⟨.hbm, 610, rfl⟩
abbrev main_v486 : Ref sig .tc := ⟨.hbm, 611, rfl⟩
abbrev main_v487 : Ref sig .tc := ⟨.hbm, 612, rfl⟩
abbrev main_cst_87 : Ref sig .tc := ⟨.hbm, 613, rfl⟩
abbrev main_v488 : Ref sig .tc := ⟨.hbm, 614, rfl⟩
abbrev main_v489 : Ref sig .tc := ⟨.hbm, 615, rfl⟩
abbrev main_cst_88 : Ref sig .tc := ⟨.hbm, 616, rfl⟩
abbrev main_v490 : Ref sig .tc := ⟨.hbm, 617, rfl⟩
abbrev main_cst_89 : Ref sig .tc := ⟨.hbm, 618, rfl⟩
abbrev main_v491 : Ref sig .tc := ⟨.hbm, 619, rfl⟩
abbrev main_v492 : Ref sig .tc := ⟨.hbm, 620, rfl⟩
abbrev main_v493 : Ref sig .tc := ⟨.hbm, 621, rfl⟩
abbrev main_cst_90 : Ref sig .tc := ⟨.hbm, 622, rfl⟩
abbrev main_v494 : Ref sig .tc := ⟨.hbm, 623, rfl⟩
abbrev main_v495 : Ref sig .tc := ⟨.hbm, 624, rfl⟩
abbrev main_v496 : Ref sig .tc := ⟨.hbm, 625, rfl⟩
abbrev main_v497 : Ref sig .tc := ⟨.hbm, 626, rfl⟩
abbrev main_v498 : Ref sig .tc := ⟨.hbm, 627, rfl⟩
abbrev main_cst_91 : Ref sig .tc := ⟨.hbm, 628, rfl⟩
abbrev main_v499 : Ref sig .tc := ⟨.hbm, 629, rfl⟩
abbrev main_v500 : Ref sig .tc := ⟨.hbm, 630, rfl⟩
abbrev main_cst_92 : Ref sig .tc := ⟨.hbm, 631, rfl⟩
abbrev main_v501 : Ref sig .tc := ⟨.hbm, 632, rfl⟩
abbrev main_cst_93 : Ref sig .tc := ⟨.hbm, 633, rfl⟩
abbrev main_v502 : Ref sig .tc := ⟨.hbm, 634, rfl⟩
abbrev main_v503 : Ref sig .tc := ⟨.hbm, 635, rfl⟩
abbrev main_v504 : Ref sig .tc := ⟨.hbm, 636, rfl⟩
abbrev main_cst_94 : Ref sig .tc := ⟨.hbm, 637, rfl⟩
abbrev main_v505 : Ref sig .tc := ⟨.hbm, 638, rfl⟩
abbrev main_v506 : Ref sig .tc := ⟨.hbm, 639, rfl⟩
abbrev main_v507 : Ref sig .tc := ⟨.hbm, 640, rfl⟩
abbrev main_v508 : Ref sig .tc := ⟨.hbm, 641, rfl⟩
abbrev main_v509 : Ref sig .tc := ⟨.hbm, 642, rfl⟩
abbrev main_cst_95 : Ref sig .tc := ⟨.hbm, 643, rfl⟩
abbrev main_v510 : Ref sig .tc := ⟨.hbm, 644, rfl⟩
abbrev main_v511 : Ref sig .tc := ⟨.hbm, 645, rfl⟩
abbrev main_cst_96 : Ref sig .tc := ⟨.hbm, 646, rfl⟩
abbrev main_v512 : Ref sig .tc := ⟨.hbm, 647, rfl⟩
abbrev main_cst_97 : Ref sig .tc := ⟨.hbm, 648, rfl⟩
abbrev main_v513 : Ref sig .tc := ⟨.hbm, 649, rfl⟩
abbrev main_v514 : Ref sig .tc := ⟨.hbm, 650, rfl⟩
abbrev main_v515 : Ref sig .tc := ⟨.hbm, 651, rfl⟩
abbrev main_cst_98 : Ref sig .tc := ⟨.hbm, 652, rfl⟩
abbrev main_v516 : Ref sig .tc := ⟨.hbm, 653, rfl⟩
abbrev main_v517 : Ref sig .tc := ⟨.hbm, 654, rfl⟩
abbrev main_v518 : Ref sig .tc := ⟨.hbm, 655, rfl⟩
abbrev main_v519 : Ref sig .tc := ⟨.hbm, 656, rfl⟩
abbrev main_v520 : Ref sig .tc := ⟨.hbm, 657, rfl⟩
abbrev main_cst_99 : Ref sig .tc := ⟨.hbm, 658, rfl⟩
abbrev main_v521 : Ref sig .tc := ⟨.hbm, 659, rfl⟩
abbrev main_v522 : Ref sig .tc := ⟨.hbm, 660, rfl⟩
abbrev main_cst_100 : Ref sig .tc := ⟨.hbm, 661, rfl⟩
abbrev main_v523 : Ref sig .tc := ⟨.hbm, 662, rfl⟩
abbrev main_cst_101 : Ref sig .tc := ⟨.hbm, 663, rfl⟩
abbrev main_v524 : Ref sig .tc := ⟨.hbm, 664, rfl⟩
abbrev main_v525 : Ref sig .tc := ⟨.hbm, 665, rfl⟩
abbrev main_v526 : Ref sig .tc := ⟨.hbm, 666, rfl⟩
abbrev main_cst_102 : Ref sig .tc := ⟨.hbm, 667, rfl⟩
abbrev main_v527 : Ref sig .tc := ⟨.hbm, 668, rfl⟩
abbrev main_v528 : Ref sig .tc := ⟨.hbm, 669, rfl⟩
abbrev main_v529 : Ref sig .tc := ⟨.hbm, 670, rfl⟩
abbrev main_v530 : Ref sig .tc := ⟨.hbm, 671, rfl⟩
abbrev main_v531 : Ref sig .tc := ⟨.hbm, 672, rfl⟩
abbrev main_cst_103 : Ref sig .tc := ⟨.hbm, 673, rfl⟩
abbrev main_v532 : Ref sig .tc := ⟨.hbm, 674, rfl⟩
abbrev main_v533 : Ref sig .tc := ⟨.hbm, 675, rfl⟩
abbrev main_cst_104 : Ref sig .tc := ⟨.hbm, 676, rfl⟩
abbrev main_v534 : Ref sig .tc := ⟨.hbm, 677, rfl⟩
abbrev main_cst_105 : Ref sig .tc := ⟨.hbm, 678, rfl⟩
abbrev main_v535 : Ref sig .tc := ⟨.hbm, 679, rfl⟩
abbrev main_v536 : Ref sig .tc := ⟨.hbm, 680, rfl⟩
abbrev main_v537 : Ref sig .tc := ⟨.hbm, 681, rfl⟩
abbrev main_cst_106 : Ref sig .tc := ⟨.hbm, 682, rfl⟩
abbrev main_v538 : Ref sig .tc := ⟨.hbm, 683, rfl⟩
abbrev main_v539 : Ref sig .tc := ⟨.hbm, 684, rfl⟩
abbrev main_v540 : Ref sig .tc := ⟨.hbm, 685, rfl⟩
abbrev main_v541 : Ref sig .tc := ⟨.hbm, 686, rfl⟩
abbrev main_v542 : Ref sig .tc := ⟨.hbm, 687, rfl⟩
abbrev main_cst_107 : Ref sig .tc := ⟨.hbm, 688, rfl⟩
abbrev main_v543 : Ref sig .tc := ⟨.hbm, 689, rfl⟩
abbrev main_v544 : Ref sig .tc := ⟨.hbm, 690, rfl⟩
abbrev main_cst_108 : Ref sig .tc := ⟨.hbm, 691, rfl⟩
abbrev main_v545 : Ref sig .tc := ⟨.hbm, 692, rfl⟩
abbrev main_cst_109 : Ref sig .tc := ⟨.hbm, 693, rfl⟩
abbrev main_v546 : Ref sig .tc := ⟨.hbm, 694, rfl⟩
abbrev main_v547 : Ref sig .tc := ⟨.hbm, 695, rfl⟩
abbrev main_v548 : Ref sig .tc := ⟨.hbm, 696, rfl⟩
abbrev main_cst_110 : Ref sig .tc := ⟨.hbm, 697, rfl⟩
abbrev main_v549 : Ref sig .tc := ⟨.hbm, 698, rfl⟩
abbrev main_v550 : Ref sig .tc := ⟨.hbm, 699, rfl⟩
abbrev main_v551 : Ref sig .tc := ⟨.hbm, 700, rfl⟩
abbrev main_v552 : Ref sig .tc := ⟨.hbm, 701, rfl⟩
abbrev main_v553 : Ref sig .tc := ⟨.hbm, 702, rfl⟩
abbrev main_cst_111 : Ref sig .tc := ⟨.hbm, 703, rfl⟩
abbrev main_v554 : Ref sig .tc := ⟨.hbm, 704, rfl⟩
abbrev main_v555 : Ref sig .tc := ⟨.hbm, 705, rfl⟩
abbrev main_cst_112 : Ref sig .tc := ⟨.hbm, 706, rfl⟩
abbrev main_v556 : Ref sig .tc := ⟨.hbm, 707, rfl⟩
abbrev main_cst_113 : Ref sig .tc := ⟨.hbm, 708, rfl⟩
abbrev main_v557 : Ref sig .tc := ⟨.hbm, 709, rfl⟩
abbrev main_v558 : Ref sig .tc := ⟨.hbm, 710, rfl⟩
abbrev main_v559 : Ref sig .tc := ⟨.hbm, 711, rfl⟩
abbrev main_cst_114 : Ref sig .tc := ⟨.hbm, 712, rfl⟩
abbrev main_v560 : Ref sig .tc := ⟨.hbm, 713, rfl⟩
abbrev main_v561 : Ref sig .tc := ⟨.hbm, 714, rfl⟩
abbrev main_v562 : Ref sig .tc := ⟨.hbm, 715, rfl⟩
abbrev main_v563 : Ref sig .tc := ⟨.hbm, 716, rfl⟩
abbrev main_v564 : Ref sig .tc := ⟨.hbm, 717, rfl⟩
abbrev main_cst_115 : Ref sig .tc := ⟨.hbm, 718, rfl⟩
abbrev main_v565 : Ref sig .tc := ⟨.hbm, 719, rfl⟩
abbrev main_v566 : Ref sig .tc := ⟨.hbm, 720, rfl⟩
abbrev main_cst_116 : Ref sig .tc := ⟨.hbm, 721, rfl⟩
abbrev main_v567 : Ref sig .tc := ⟨.hbm, 722, rfl⟩
abbrev main_cst_117 : Ref sig .tc := ⟨.hbm, 723, rfl⟩
abbrev main_v568 : Ref sig .tc := ⟨.hbm, 724, rfl⟩
abbrev main_v569 : Ref sig .tc := ⟨.hbm, 725, rfl⟩
abbrev main_v570 : Ref sig .tc := ⟨.hbm, 726, rfl⟩
abbrev main_cst_118 : Ref sig .tc := ⟨.hbm, 727, rfl⟩
abbrev main_v571 : Ref sig .tc := ⟨.hbm, 728, rfl⟩
abbrev main_v572 : Ref sig .tc := ⟨.hbm, 729, rfl⟩
abbrev main_v573 : Ref sig .tc := ⟨.hbm, 730, rfl⟩
abbrev main_v574 : Ref sig .tc := ⟨.hbm, 731, rfl⟩
abbrev main_v575 : Ref sig .tc := ⟨.hbm, 732, rfl⟩
abbrev main_cst_119 : Ref sig .tc := ⟨.hbm, 733, rfl⟩
abbrev main_v576 : Ref sig .tc := ⟨.hbm, 734, rfl⟩
abbrev main_v577 : Ref sig .tc := ⟨.hbm, 735, rfl⟩
abbrev main_cst_120 : Ref sig .tc := ⟨.hbm, 736, rfl⟩
abbrev main_v578 : Ref sig .tc := ⟨.hbm, 737, rfl⟩
abbrev main_cst_121 : Ref sig .tc := ⟨.hbm, 738, rfl⟩
abbrev main_v579 : Ref sig .tc := ⟨.hbm, 739, rfl⟩
abbrev main_v580 : Ref sig .tc := ⟨.hbm, 740, rfl⟩
abbrev main_v581 : Ref sig .tc := ⟨.hbm, 741, rfl⟩
abbrev main_cst_122 : Ref sig .tc := ⟨.hbm, 742, rfl⟩
abbrev main_v582 : Ref sig .tc := ⟨.hbm, 743, rfl⟩
abbrev main_v583 : Ref sig .tc := ⟨.hbm, 744, rfl⟩
abbrev main_v584 : Ref sig .tc := ⟨.hbm, 745, rfl⟩
abbrev main_v585 : Ref sig .tc := ⟨.hbm, 746, rfl⟩
abbrev main_v586 : Ref sig .tc := ⟨.hbm, 747, rfl⟩
abbrev main_cst_123 : Ref sig .tc := ⟨.hbm, 748, rfl⟩
abbrev main_v587 : Ref sig .tc := ⟨.hbm, 749, rfl⟩
abbrev main_v588 : Ref sig .tc := ⟨.hbm, 750, rfl⟩
abbrev main_cst_124 : Ref sig .tc := ⟨.hbm, 751, rfl⟩
abbrev main_v589 : Ref sig .tc := ⟨.hbm, 752, rfl⟩
abbrev main_cst_125 : Ref sig .tc := ⟨.hbm, 753, rfl⟩
abbrev main_v590 : Ref sig .tc := ⟨.hbm, 754, rfl⟩
abbrev main_v591 : Ref sig .tc := ⟨.hbm, 755, rfl⟩
abbrev main_v592 : Ref sig .tc := ⟨.hbm, 756, rfl⟩
abbrev main_cst_126 : Ref sig .tc := ⟨.hbm, 757, rfl⟩
abbrev main_v593 : Ref sig .tc := ⟨.hbm, 758, rfl⟩
abbrev main_v594 : Ref sig .tc := ⟨.hbm, 759, rfl⟩
abbrev main_v595 : Ref sig .tc := ⟨.hbm, 760, rfl⟩
abbrev main_v596 : Ref sig .tc := ⟨.hbm, 761, rfl⟩
abbrev main_v597 : Ref sig .tc := ⟨.hbm, 762, rfl⟩
abbrev main_cst_127 : Ref sig .tc := ⟨.hbm, 763, rfl⟩
abbrev main_v598 : Ref sig .tc := ⟨.hbm, 764, rfl⟩
abbrev main_v599 : Ref sig .tc := ⟨.hbm, 765, rfl⟩
abbrev main_cst_128 : Ref sig .tc := ⟨.hbm, 766, rfl⟩
abbrev main_v600 : Ref sig .tc := ⟨.hbm, 767, rfl⟩
abbrev main_cst_129 : Ref sig .tc := ⟨.hbm, 768, rfl⟩
abbrev main_v601 : Ref sig .tc := ⟨.hbm, 769, rfl⟩
abbrev main_v602 : Ref sig .tc := ⟨.hbm, 770, rfl⟩
abbrev main_v603 : Ref sig .tc := ⟨.hbm, 771, rfl⟩
abbrev main_cst_130 : Ref sig .tc := ⟨.hbm, 772, rfl⟩
abbrev main_v604 : Ref sig .tc := ⟨.hbm, 773, rfl⟩
abbrev main_v605 : Ref sig .tc := ⟨.hbm, 774, rfl⟩
abbrev main_v606 : Ref sig .tc := ⟨.hbm, 775, rfl⟩
abbrev main_v607 : Ref sig .tc := ⟨.hbm, 776, rfl⟩
abbrev main_v608 : Ref sig .tc := ⟨.hbm, 777, rfl⟩
abbrev main_cst_131 : Ref sig .tc := ⟨.hbm, 778, rfl⟩
abbrev main_v609 : Ref sig .tc := ⟨.hbm, 779, rfl⟩
abbrev main_v610 : Ref sig .tc := ⟨.hbm, 780, rfl⟩
abbrev main_cst_132 : Ref sig .tc := ⟨.hbm, 781, rfl⟩
abbrev main_v611 : Ref sig .tc := ⟨.hbm, 782, rfl⟩
abbrev main_cst_133 : Ref sig .tc := ⟨.hbm, 783, rfl⟩
abbrev main_v612 : Ref sig .tc := ⟨.hbm, 784, rfl⟩
abbrev main_v613 : Ref sig .tc := ⟨.hbm, 785, rfl⟩
abbrev main_v614 : Ref sig .tc := ⟨.hbm, 786, rfl⟩
abbrev main_cst_134 : Ref sig .tc := ⟨.hbm, 787, rfl⟩
abbrev main_v615 : Ref sig .tc := ⟨.hbm, 788, rfl⟩
abbrev main_v616 : Ref sig .tc := ⟨.hbm, 789, rfl⟩
abbrev main_v617 : Ref sig .tc := ⟨.hbm, 790, rfl⟩
abbrev main_v618 : Ref sig .tc := ⟨.hbm, 791, rfl⟩
abbrev main_v619 : Ref sig .tc := ⟨.hbm, 792, rfl⟩
abbrev main_cst_135 : Ref sig .tc := ⟨.hbm, 793, rfl⟩
abbrev main_v620 : Ref sig .tc := ⟨.hbm, 794, rfl⟩
abbrev main_v621 : Ref sig .tc := ⟨.hbm, 795, rfl⟩
abbrev main_cst_136 : Ref sig .tc := ⟨.hbm, 796, rfl⟩
abbrev main_v622 : Ref sig .tc := ⟨.hbm, 797, rfl⟩
abbrev main_cst_137 : Ref sig .tc := ⟨.hbm, 798, rfl⟩
abbrev main_v623 : Ref sig .tc := ⟨.hbm, 799, rfl⟩
abbrev main_v624 : Ref sig .tc := ⟨.hbm, 800, rfl⟩
abbrev main_v625 : Ref sig .tc := ⟨.hbm, 801, rfl⟩
abbrev main_cst_138 : Ref sig .tc := ⟨.hbm, 802, rfl⟩
abbrev main_v626 : Ref sig .tc := ⟨.hbm, 803, rfl⟩
abbrev main_v627 : Ref sig .tc := ⟨.hbm, 804, rfl⟩
abbrev main_v628 : Ref sig .tc := ⟨.hbm, 805, rfl⟩
abbrev main_v629 : Ref sig .tc := ⟨.hbm, 806, rfl⟩
abbrev main_v630 : Ref sig .tc := ⟨.hbm, 807, rfl⟩
abbrev main_cst_139 : Ref sig .tc := ⟨.hbm, 808, rfl⟩
abbrev main_v631 : Ref sig .tc := ⟨.hbm, 809, rfl⟩
abbrev main_v632 : Ref sig .tc := ⟨.hbm, 810, rfl⟩
abbrev main_cst_140 : Ref sig .tc := ⟨.hbm, 811, rfl⟩
abbrev main_v633 : Ref sig .tc := ⟨.hbm, 812, rfl⟩
abbrev main_cst_141 : Ref sig .tc := ⟨.hbm, 813, rfl⟩
abbrev main_v634 : Ref sig .tc := ⟨.hbm, 814, rfl⟩
abbrev main_v635 : Ref sig .tc := ⟨.hbm, 815, rfl⟩
abbrev main_v636 : Ref sig .tc := ⟨.hbm, 816, rfl⟩
abbrev main_cst_142 : Ref sig .tc := ⟨.hbm, 817, rfl⟩
abbrev main_v637 : Ref sig .tc := ⟨.hbm, 818, rfl⟩
abbrev main_v638 : Ref sig .tc := ⟨.hbm, 819, rfl⟩
abbrev main_v639 : Ref sig .tc := ⟨.hbm, 820, rfl⟩
abbrev main_v640 : Ref sig .tc := ⟨.hbm, 821, rfl⟩
abbrev main_v641 : Ref sig .tc := ⟨.hbm, 822, rfl⟩
abbrev main_cst_143 : Ref sig .tc := ⟨.hbm, 823, rfl⟩
abbrev main_v642 : Ref sig .tc := ⟨.hbm, 824, rfl⟩
abbrev main_v643 : Ref sig .tc := ⟨.hbm, 825, rfl⟩
abbrev main_cst_144 : Ref sig .tc := ⟨.hbm, 826, rfl⟩
abbrev main_v644 : Ref sig .tc := ⟨.hbm, 827, rfl⟩
abbrev main_cst_145 : Ref sig .tc := ⟨.hbm, 828, rfl⟩
abbrev main_v645 : Ref sig .tc := ⟨.hbm, 829, rfl⟩
abbrev main_v646 : Ref sig .tc := ⟨.hbm, 830, rfl⟩
abbrev main_v647 : Ref sig .tc := ⟨.hbm, 831, rfl⟩
abbrev main_cst_146 : Ref sig .tc := ⟨.hbm, 832, rfl⟩
abbrev main_v648 : Ref sig .tc := ⟨.hbm, 833, rfl⟩
abbrev main_v649 : Ref sig .tc := ⟨.hbm, 834, rfl⟩
abbrev main_v650 : Ref sig .tc := ⟨.hbm, 835, rfl⟩
abbrev main_v651 : Ref sig .tc := ⟨.hbm, 836, rfl⟩
abbrev main_v652 : Ref sig .tc := ⟨.hbm, 837, rfl⟩
abbrev main_v653 : Ref sig .tc := ⟨.hbm, 838, rfl⟩
abbrev main_v654 : Ref sig .tc := ⟨.hbm, 839, rfl⟩
abbrev main_v655 : Ref sig .tc := ⟨.hbm, 840, rfl⟩
abbrev main_v656 : Ref sig .tc := ⟨.hbm, 841, rfl⟩
abbrev main_v657 : Ref sig .tc := ⟨.hbm, 842, rfl⟩
abbrev main_v658 : Ref sig .tc := ⟨.hbm, 843, rfl⟩
abbrev main_v659 : Ref sig .tc := ⟨.hbm, 844, rfl⟩
abbrev main_v660 : Ref sig .tc := ⟨.hbm, 845, rfl⟩
abbrev main_cst_147 : Ref sig .tc := ⟨.hbm, 846, rfl⟩
abbrev main_v661 : Ref sig .tc := ⟨.hbm, 847, rfl⟩
abbrev main_v662 : Ref sig .tc := ⟨.hbm, 848, rfl⟩
abbrev main_v663 : Ref sig .tc := ⟨.hbm, 849, rfl⟩
abbrev main_v664 : Ref sig .tc := ⟨.hbm, 850, rfl⟩
abbrev main_cst_148 : Ref sig .tc := ⟨.hbm, 851, rfl⟩
abbrev main_v665 : Ref sig .tc := ⟨.hbm, 852, rfl⟩
abbrev main_v666 : Ref sig .tc := ⟨.hbm, 853, rfl⟩

abbrev nD : Nat := 1
abbrev τ : Topo := Topo.v7x

variable {F : FTy → Type} [FloatOps F]
-- ==== GradKernel.lean ====
abbrev S4096x1024 : Shape := ⟨2, ![4096, 1024]⟩
abbrev S4x1024 : Shape := ⟨2, ![4, 1024]⟩
abbrev S4096x8192 : Shape := ⟨2, ![4096, 8192]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4x1024x2048 : Shape := ⟨3, ![4, 1024, 2048]⟩
abbrev S2048x1024 : Shape := ⟨2, ![2048, 1024]⟩
abbrev S2048x2048 : Shape := ⟨2, ![2048, 2048]⟩
abbrev S1x1024x2048 : Shape := ⟨3, ![1, 1024, 2048]⟩
abbrev S1024x2048 : Shape := ⟨2, ![1024, 2048]⟩

abbrev nBuf : Space → Nat
  | .hbm => 23
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S4096x8192, .bf16⟩
  | .hbm, ⟨3, _⟩ => ⟨S1x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S4x1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1024x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradReferenceIdeal.lean ====
abbrev S4096x1024 : Shape := ⟨2, ![4096, 1024]⟩
abbrev S4x1024 : Shape := ⟨2, ![4, 1024]⟩
abbrev S4096x8192 : Shape := ⟨2, ![4096, 8192]⟩
abbrev S_ : Shape := ⟨0, ![]⟩
abbrev S1024x8192 : Shape := ⟨2, ![1024, 8192]⟩
abbrev S1x1024 : Shape := ⟨2, ![1, 1024]⟩
abbrev S1024 : Shape := ⟨1, ![1024]⟩
abbrev S4096 : Shape := ⟨1, ![4096]⟩
abbrev S4096x1 : Shape := ⟨2, ![4096, 1]⟩
abbrev S8192x1024 : Shape := ⟨2, ![8192, 1024]⟩
abbrev S1024x4x2048 : Shape := ⟨3, ![1024, 4, 2048]⟩
abbrev S4x1024x2048 : Shape := ⟨3, ![4, 1024, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S4096x8192, .bf16⟩
  | .hbm, ⟨3, _⟩ => ⟨S_, .f32⟩
  | .hbm, ⟨4, _⟩ => ⟨S1024x8192, .f32⟩
  | .hbm, ⟨5, _⟩ => ⟨S1x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x8192, .f32⟩
  | .hbm, ⟨24, _⟩ => ⟨S4096x8192, .f32⟩
  | .hbm, ⟨25, _⟩ => ⟨S8192x1024, .f32⟩
  | .hbm, ⟨26, _⟩ => ⟨S1024x8192, .f32⟩
  | .hbm, ⟨27, _⟩ => ⟨S1024x8192, .bf16⟩
  | .hbm, ⟨28, _⟩ => ⟨S1024x4x2048, .bf16⟩
  | .hbm, ⟨29, _⟩ => ⟨S4x1024x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== ProjKernel.lean ====
abbrev S4096x1024 : Shape := ⟨2, ![4096, 1024]⟩
abbrev S4x1024 : Shape := ⟨2, ![4, 1024]⟩
abbrev S1024x8192 : Shape := ⟨2, ![1024, 8192]⟩
abbrev S1024x4x2048 : Shape := ⟨3, ![1024, 4, 2048]⟩
abbrev S4x1024x2048 : Shape := ⟨3, ![4, 1024, 2048]⟩
abbrev S4x1x1024 : Shape := ⟨3, ![4, 1, 1024]⟩
abbrev S4096x8192 : Shape := ⟨2, ![4096, 8192]⟩
abbrev S512x1024 : Shape := ⟨2, ![512, 1024]⟩
abbrev S1x1x1024 : Shape := ⟨3, ![1, 1, 1024]⟩
abbrev S512x8192 : Shape := ⟨2, ![512, 8192]⟩
abbrev S1x1024 : Shape := ⟨2, ![1, 1024]⟩
abbrev S512 : Shape := ⟨1, ![512]⟩
abbrev S512x1 : Shape := ⟨2, ![512, 1]⟩
abbrev S1x1024x2048 : Shape := ⟨3, ![1, 1024, 2048]⟩
abbrev S1024x2048 : Shape := ⟨2, ![1024, 2048]⟩
abbrev S512x2048 : Shape := ⟨2, ![512, 2048]⟩

abbrev nBuf : Space → Nat
  | .hbm => 9
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S1024x8192, .f32⟩
  | .hbm, ⟨3, _⟩ => ⟨S1024x8192, .bf16⟩
  | .hbm, ⟨4, _⟩ => ⟨S1024x4x2048, .bf16⟩
  | .hbm, ⟨5, _⟩ => ⟨S4x1024x2048, .bf16⟩
  | .hbm, ⟨6, _⟩ => ⟨S4x1x1024, .f32⟩
  | .hbm, ⟨7, _⟩ => ⟨S4096x8192, .bf16⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S4x1024x2048, .bf16⟩
  | .local _ .vmem, ⟨4, _⟩ => ⟨S512x8192, .bf16⟩
  | .local _ .vmem, ⟨5, _⟩ => ⟨S512x8192, .bf16⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjReferenceIdeal.lean ====
abbrev S4096x1024 : Shape := ⟨2, ![4096, 1024]⟩
abbrev S4x1024 : Shape := ⟨2, ![4, 1024]⟩
abbrev S1024x8192 : Shape := ⟨2, ![1024, 8192]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x8192 : Shape := ⟨2, ![4096, 8192]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x1024, .f32⟩
  | .hbm, ⟨2, _⟩ => ⟨S1024x8192, .f32⟩
  | .hbm, ⟨3, _⟩ => ⟨S1x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x8192, .f32⟩
  | .hbm, ⟨22, _⟩ => ⟨S4096x8192, .bf16⟩
  | .hbm, ⟨23, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== BackKernel.lean ====
abbrev S4096x1024 : Shape := ⟨2, ![4096, 1024]⟩
abbrev S4096x8192 : Shape := ⟨2, ![4096, 8192]⟩
abbrev S4x1024 : Shape := ⟨2, ![4, 1024]⟩
abbrev S1024x8192 : Shape := ⟨2, ![1024, 8192]⟩
abbrev S1024x4x2048 : Shape := ⟨3, ![1024, 4, 2048]⟩
abbrev S4x1024x2048 : Shape := ⟨3, ![4, 1024, 2048]⟩
abbrev S4x1x1024 : Shape := ⟨3, ![4, 1, 1024]⟩
abbrev S8x1024 : Shape := ⟨2, ![8, 1024]⟩
abbrev S512x1024 : Shape := ⟨2, ![512, 1024]⟩
abbrev S512x8192 : Shape := ⟨2, ![512, 8192]⟩
abbrev S1x1x1024 : Shape := ⟨3, ![1, 1, 1024]⟩
abbrev S512x2048 : Shape := ⟨2, ![512, 2048]⟩
abbrev S1x1024x2048 : Shape := ⟨3, ![1, 1024, 2048]⟩
abbrev S1024x2048 : Shape := ⟨2, ![1024, 2048]⟩
abbrev S1x1024 : Shape := ⟨2, ![1, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x8192, .bf16⟩
  | .hbm, ⟨2, _⟩ => ⟨S4096x1024, .f32⟩
  | .hbm, ⟨3, _⟩ => ⟨S4x1024, .f32⟩
  | .hbm, ⟨4, _⟩ => ⟨S1024x8192, .f32⟩
  | .hbm, ⟨5, _⟩ => ⟨S1024x8192, .bf16⟩
  | .hbm, ⟨6, _⟩ => ⟨S1024x4x2048, .bf16⟩
  | .hbm, ⟨7, _⟩ => ⟨S4x1024x2048, .bf16⟩
  | .hbm, ⟨8, _⟩ => ⟨S4x1x1024, .f32⟩
  | .hbm, ⟨9, _⟩ => ⟨S4096x1024, .f32⟩
  | .hbm, ⟨10, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x8192, .bf16⟩
  | .local _ .vmem, ⟨3, _⟩ => ⟨S512x8192, .bf16⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S4x1024x2048, .bf16⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== BackReferenceIdeal.lean ====
abbrev S4096x1024 : Shape := ⟨2, ![4096, 1024]⟩
abbrev S4096x8192 : Shape := ⟨2, ![4096, 8192]⟩
abbrev S4x1024 : Shape := ⟨2, ![4, 1024]⟩
abbrev S1024x8192 : Shape := ⟨2, ![1024, 8192]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S7x1024 : Shape := ⟨2, ![7, 1024]⟩
abbrev S8x1024 : Shape := ⟨2, ![8, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x8192, .bf16⟩
  | .hbm, ⟨2, _⟩ => ⟨S4096x1024, .f32⟩
  | .hbm, ⟨3, _⟩ => ⟨S4x1024, .f32⟩
  | .hbm, ⟨4, _⟩ => ⟨S1024x8192, .f32⟩
  | .hbm, ⟨5, _⟩ => ⟨S1x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x8192, .f32⟩
  | .hbm, ⟨28, _⟩ => ⟨S4096x8192, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1x1024, .f32⟩
  | .hbm, ⟨57, _⟩ => ⟨S_, .f32⟩
  | .hbm, ⟨58, _⟩ => ⟨S7x1024, .f32⟩
  | .hbm, ⟨59, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Proof.ClaimFrame.lean ====
/-
The kernel's own claims.
-/
module

public import proofs.«01_k».proof.Defs
public import proofs.«01_k».proof.Proof.Gen.Kernel.Frame
public import proofs.«01_k».proof.Proof.Gen.KernelIdeal.Frame

@[expose] public section

set_option maxRecDepth 65536

noncomputable section

namespace Cert.Proof

open Idealize.ShloMosaic Idealize.SL.Sem

/-- The kernel keeps its arguments and leaves every counter at zero. -/
theorem frame_p : Cert.quiescent_Kernel (hKernel := Cert.Kernel.Gen.facts) := fun m ρ _ => Cert.Kernel.Gen.frame m ρ

/-- The same over the extended reals. -/
theorem frame_pi : Cert.quiescent_KernelIdeal (hKernelIdeal := Cert.KernelIdeal.Gen.facts) := fun m ρ _ => Cert.KernelIdeal.Gen.frame m ρ

end Cert.Proof
-- ==== Proof.RefRun.lean ====
/-
The reference's run, with its results as named values.
-/
module

public import proofs.«01_k».proof.Proof.Gen.ReferenceIdeal.Run

@[expose] public section

set_option maxRecDepth 65536

noncomputable section

namespace Cert.ReferenceIdeal.Value

open Idealize.ShloMosaic Idealize.ShloMosaic.TcCoe Idealize.ShloMosaic.Tactic Idealize.ShloMosaic.StableHlo Idealize.SL.Sem

variable {F : FTy → Type} [FloatOps F] (m : (ℓ : Loc nD τ sig) → Buf (Elt F) ℓ)

/-- A device's two results and its arguments at the end. -/
structure Ends (mem : (ℓ : Loc nD τ sig) → Buf (Elt F) ℓ) (c : Dev nD) : Prop where
  r0 : mem ((c.tc : Thread nD τ).loc main_v660) = val14 (launchContents m c) (Proc.devRef .tc main_v660)
  r1 : mem ((c.tc : Thread nD τ).loc main_v666) = val14 (launchContents m c) (Proc.devRef .tc main_v666)
  a0 : mem ((c.tc : Thread nD τ).loc main_arg0) = m ((c.tc : Thread nD τ).loc main_arg0)
  a1 : mem ((c.tc : Thread nD τ).loc main_arg1) = m ((c.tc : Thread nD τ).loc main_arg1)
  a2 : mem ((c.tc : Thread nD τ).loc main_arg2) = m ((c.tc : Thread nD τ).loc main_arg2)
  a3 : mem ((c.tc : Thread nD τ).loc main_arg3) = m ((c.tc : Thread nD τ).loc main_arg3)
  a4 : mem ((c.tc : Thread nD τ).loc main_arg4) = m ((c.tc : Thread nD τ).loc main_arg4)
  a5 : mem ((c.tc : Thread nD τ).loc main_arg5) = m ((c.tc : Thread nD τ).loc main_arg5)
  a6 : mem ((c.tc : Thread nD τ).loc main_arg6) = m ((c.tc : Thread nD τ).loc main_arg6)

/-- The reference runs and ends so. -/
theorem run_ends (ρ : Dev nD → PrngReg) : θ_run defs (onTc (τ := τ) (main (F := F))) ⟨m, fun _ => 0, ρ⟩ fun r => ∀ c : Dev nD, Ends m r.2.mem c :=
  (θ_run defs _ _).mono (fun _ h c => ⟨(h c main_v660).trans (congrFun (after_ops (launchContents m c)) (Proc.devRef .tc main_v660)),
      (h c main_v666).trans (congrFun (after_ops (launchContents m c)) (Proc.devRef .tc main_v666)),
      (h c main_arg0).trans ((congrFun (after_ops (launchContents m c)) (Proc.devRef .tc main_arg0)).trans (val14_main_arg0 (launchContents m c))),
      (h c main_arg1).trans ((congrFun (after_ops (launchContents m c)) (Proc.devRef .tc main_arg1)).trans (val14_main_arg1 (launchContents m c))),
      (h c main_arg2).trans ((congrFun (after_ops (launchContents m c)) (Proc.devRef .tc main_arg2)).trans (val14_main_arg2 (launchContents m c))),
      (h c main_arg3).trans ((congrFun (after_ops (launchContents m c)) (Proc.devRef .tc main_arg3)).trans (val14_main_arg3 (launchContents m c))),
      (h c main_arg4).trans ((congrFun (after_ops (launchContents m c)) (Proc.devRef .tc main_arg4)).trans (val14_main_arg4 (launchContents m c))),
      (h c main_arg5).trans ((congrFun (after_ops (launchContents m c)) (Proc.devRef .tc main_arg5)).trans (val14_main_arg5 (launchContents m c))),
      (h c main_arg6).trans ((congrFun (after_ops (launchContents m c)) (Proc.devRef .tc main_arg6)).trans (val14_main_arg6 (launchContents m c)))⟩)
    (run_seq scopedRefs_eq scopedSems_eq defs main (fun _ => ops) main_eq (fun _ => ops_sub) m ρ fun _ => ops_fresh)

end Cert.ReferenceIdeal.Value
-- ==== Proof.ClaimRef.lean ====
/-
The reference's own claim.
-/
module

public import proofs.«01_k».proof.Defs
public import proofs.«01_k».proof.Proof.RefRun
public import proofs.«01_k».proof.Proof.Gen.ReferenceIdeal

@[expose] public section

set_option maxRecDepth 65536

noncomputable section

namespace Cert.Proof

open Idealize.ShloMosaic Idealize.SL.Sem

/-- The reference keeps its arguments; it declares no semaphore. -/
theorem frame_ri : Cert.quiescent_ReferenceIdeal (hReferenceIdeal := Cert.ReferenceIdeal.Gen.facts) := fun m ρ _ =>
  (θ_run Cert.ReferenceIdeal.defs _ _).mono
    (fun r h => ⟨fun c => ⟨(h c).a0, (h c).a1, (h c).a2, (h c).a3, (h c).a4, (h c).a5, (h c).a6⟩, sem_eq_zero_of_no_sems (by decide) r.2⟩)
    (Cert.ReferenceIdeal.Value.run_ends (F := Ideal) m ρ)

end Cert.Proof
-- ==== Proof.Offs.lean ====
/-
The offsets at which the two counted loops read and write, as closed forms of the trip.
-/
module

public import proofs.«01_k».proof.Proof.Gen.KernelIdeal.Loops
public import Idealize.ShloMosaic.Lib.Pointwise
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic

theorem off1_0 (k : Fin k0_t1_loop.trips) : k0_off1 k 0#32 = ![64 * k.val, 0] := k0_off1_eq k 0
theorem off1_1 (k : Fin k0_t1_loop.trips) : k0_off1 k 8#32 = ![64 * k.val + 8, 0] := k0_off1_eq k 1
theorem off1_2 (k : Fin k0_t1_loop.trips) : k0_off1 k 16#32 = ![64 * k.val + 16, 0] := k0_off1_eq k 2
theorem off1_3 (k : Fin k0_t1_loop.trips) : k0_off1 k 24#32 = ![64 * k.val + 24, 0] := k0_off1_eq k 3
theorem off2_0 (k : Fin k0_t1_loop.trips) : k0_off2 k 0#32 = ![0, 64 * k.val, 0] := k0_off2_eq k 0
theorem off2_1 (k : Fin k0_t1_loop.trips) : k0_off2 k 8#32 = ![0, 64 * k.val + 8, 0] := k0_off2_eq k 1
theorem off2_2 (k : Fin k0_t1_loop.trips) : k0_off2 k 16#32 = ![0, 64 * k.val + 16, 0] := k0_off2_eq k 2
theorem off2_3 (k : Fin k0_t1_loop.trips) : k0_off2 k 24#32 = ![0, 64 * k.val + 24, 0] := k0_off2_eq k 3
theorem off3_0 (k : Fin k0_t1_loop.trips) : k0_off3 k 0#32 = ![1, 64 * k.val, 0] := k0_off3_eq k 0
theorem off3_1 (k : Fin k0_t1_loop.trips) : k0_off3 k 8#32 = ![1, 64 * k.val + 8, 0] := k0_off3_eq k 1
theorem off3_2 (k : Fin k0_t1_loop.trips) : k0_off3 k 16#32 = ![1, 64 * k.val + 16, 0] := k0_off3_eq k 2
theorem off3_3 (k : Fin k0_t1_loop.trips) : k0_off3 k 24#32 = ![1, 64 * k.val + 24, 0] := k0_off3_eq k 3
theorem off4_0 (k : Fin k0_t1_loop.trips) : k0_off4 k 0#32 = ![2, 64 * k.val, 0] := k0_off4_eq k 0
theorem off4_1 (k : Fin k0_t1_loop.trips) : k0_off4 k 8#32 = ![2, 64 * k.val + 8, 0] := k0_off4_eq k 1
theorem off4_2 (k : Fin k0_t1_loop.trips) : k0_off4 k 16#32 = ![2, 64 * k.val + 16, 0] := k0_off4_eq k 2
theorem off4_3 (k : Fin k0_t1_loop.trips) : k0_off4 k 24#32 = ![2, 64 * k.val + 24, 0] := k0_off4_eq k 3
theorem off5_0 (k : Fin k0_t1_loop.trips) : k0_off5 k 0#32 = ![3, 64 * k.val, 0] := k0_off5_eq k 0
theorem off5_1 (k : Fin k0_t1_loop.trips) : k0_off5 k 8#32 = ![3, 64 * k.val + 8, 0] := k0_off5_eq k 1
theorem off5_2 (k : Fin k0_t1_loop.trips) : k0_off5 k 16#32 = ![3, 64 * k.val + 16, 0] := k0_off5_eq k 2
theorem off5_3 (k : Fin k0_t1_loop.trips) : k0_off5 k 24#32 = ![3, 64 * k.val + 24, 0] := k0_off5_eq k 3
theorem off6_0 (k : Fin k0_t1_loop.trips) : k0_off6 k 0#32 = ![4, 64 * k.val, 0] := k0_off6_eq k 0
theorem off6_1 (k : Fin k0_t1_loop.trips) : k0_off6 k 8#32 = ![4, 64 * k.val + 8, 0] := k0_off6_eq k 1
theorem off6_2 (k : Fin k0_t1_loop.trips) : k0_off6 k 16#32 = ![4, 64 * k.val + 16, 0] := k0_off6_eq k 2
theorem off6_3 (k : Fin k0_t1_loop.trips) : k0_off6 k 24#32 = ![4, 64 * k.val + 24, 0] := k0_off6_eq k 3
theorem off7_0 (k : Fin k0_t1_loop.trips) : k0_off7 k 0#32 = ![5, 64 * k.val, 0] := k0_off7_eq k 0
theorem off7_1 (k : Fin k0_t1_loop.trips) : k0_off7 k 8#32 = ![5, 64 * k.val + 8, 0] := k0_off7_eq k 1
theorem off7_2 (k : Fin k0_t1_loop.trips) : k0_off7 k 16#32 = ![5, 64 * k.val + 16, 0] := k0_off7_eq k 2
theorem off7_3 (k : Fin k0_t1_loop.trips) : k0_off7 k 24#32 = ![5, 64 * k.val + 24, 0] := k0_off7_eq k 3
theorem off8_0 (k : Fin k0_t1_loop.trips) : k0_off8 k 0#32 = ![6, 64 * k.val, 0] := k0_off8_eq k 0
theorem off8_1 (k : Fin k0_t1_loop.trips) : k0_off8 k 8#32 = ![6, 64 * k.val + 8, 0] := k0_off8_eq k 1
theorem off8_2 (k : Fin k0_t1_loop.trips) : k0_off8 k 16#32 = ![6, 64 * k.val + 16, 0] := k0_off8_eq k 2
theorem off9_0 (k : Fin k0_t1_loop.trips) : k0_off9 k = ![64 * k.val, 0] := k0_off9_eq k
theorem off19_0 (k : Fin k0_t2_loop.trips) : k0_off19 k = ![64 * k.val, 0] := k0_off19_eq k
theorem off20_0 (k : Fin k0_t2_loop.trips) : k0_off20 k 0#32 = ![1, 64 * k.val, 0] := k0_off20_eq k 0
theorem off20_1 (k : Fin k0_t2_loop.trips) : k0_off20 k 8#32 = ![1, 64 * k.val + 8, 0] := k0_off20_eq k 1
theorem off20_2 (k : Fin k0_t2_loop.trips) : k0_off20 k 16#32 = ![1, 64 * k.val + 16, 0] := k0_off20_eq k 2
theorem off20_3 (k : Fin k0_t2_loop.trips) : k0_off20 k 24#32 = ![1, 64 * k.val + 24, 0] := k0_off20_eq k 3
theorem off21_0 (k : Fin k0_t2_loop.trips) : k0_off21 k 0#32 = ![2, 64 * k.val, 0] := k0_off21_eq k 0
theorem off21_1 (k : Fin k0_t2_loop.trips) : k0_off21 k 8#32 = ![2, 64 * k.val + 8, 0] := k0_off21_eq k 1
theorem off21_2 (k : Fin k0_t2_loop.trips) : k0_off21 k 16#32 = ![2, 64 * k.val + 16, 0] := k0_off21_eq k 2
theorem off21_3 (k : Fin k0_t2_loop.trips) : k0_off21 k 24#32 = ![2, 64 * k.val + 24, 0] := k0_off21_eq k 3
theorem off22_0 (k : Fin k0_t2_loop.trips) : k0_off22 k 0#32 = ![3, 64 * k.val, 0] := k0_off22_eq k 0
theorem off22_1 (k : Fin k0_t2_loop.trips) : k0_off22 k 8#32 = ![3, 64 * k.val + 8, 0] := k0_off22_eq k 1
theorem off22_2 (k : Fin k0_t2_loop.trips) : k0_off22 k 16#32 = ![3, 64 * k.val + 16, 0] := k0_off22_eq k 2
theorem off22_3 (k : Fin k0_t2_loop.trips) : k0_off22 k 24#32 = ![3, 64 * k.val + 24, 0] := k0_off22_eq k 3
theorem off23_0 (k : Fin k0_t2_loop.trips) : k0_off23 k 0#32 = ![4, 64 * k.val, 0] := k0_off23_eq k 0
theorem off23_1 (k : Fin k0_t2_loop.trips) : k0_off23 k 8#32 = ![4, 64 * k.val + 8, 0] := k0_off23_eq k 1
theorem off23_2 (k : Fin k0_t2_loop.trips) : k0_off23 k 16#32 = ![4, 64 * k.val + 16, 0] := k0_off23_eq k 2
theorem off23_3 (k : Fin k0_t2_loop.trips) : k0_off23 k 24#32 = ![4, 64 * k.val + 24, 0] := k0_off23_eq k 3
theorem off24_0 (k : Fin k0_t2_loop.trips) : k0_off24 k 0#32 = ![5, 64 * k.val, 0] := k0_off24_eq k 0
theorem off24_1 (k : Fin k0_t2_loop.trips) : k0_off24 k 8#32 = ![5, 64 * k.val + 8, 0] := k0_off24_eq k 1
theorem off24_2 (k : Fin k0_t2_loop.trips) : k0_off24 k 16#32 = ![5, 64 * k.val + 16, 0] := k0_off24_eq k 2
theorem off24_3 (k : Fin k0_t2_loop.trips) : k0_off24 k 24#32 = ![5, 64 * k.val + 24, 0] := k0_off24_eq k 3
theorem off25_0 (k : Fin k0_t2_loop.trips) : k0_off25 k 0#32 = ![6, 64 * k.val, 0] := k0_off25_eq k 0
theorem off25_1 (k : Fin k0_t2_loop.trips) : k0_off25 k 8#32 = ![6, 64 * k.val + 8, 0] := k0_off25_eq k 1
theorem off25_2 (k : Fin k0_t2_loop.trips) : k0_off25 k 16#32 = ![6, 64 * k.val + 16, 0] := k0_off25_eq k 2
theorem off25_3 (k : Fin k0_t2_loop.trips) : k0_off25 k 24#32 = ![6, 64 * k.val + 24, 0] := k0_off25_eq k 3
theorem off26_0 (k : Fin k0_t2_loop.trips) : k0_off26 k 8#32 = ![64 * k.val + 8, 0] := k0_off26_eq k 0
theorem off26_1 (k : Fin k0_t2_loop.trips) : k0_off26 k 16#32 = ![64 * k.val + 16, 0] := k0_off26_eq k 1
theorem off26_2 (k : Fin k0_t2_loop.trips) : k0_off26 k 24#32 = ![64 * k.val + 24, 0] := k0_off26_eq k 2
theorem off26_3 (k : Fin k0_t2_loop.trips) : k0_off26 k 32#32 = ![64 * k.val + 32, 0] := k0_off26_eq k 3
theorem off27_0 (k : Fin k0_t2_loop.trips) : k0_off27 k 8#32 = ![0, 64 * k.val + 8, 0] := k0_off27_eq k 0
theorem off27_1 (k : Fin k0_t2_loop.trips) : k0_off27 k 16#32 = ![0, 64 * k.val + 16, 0] := k0_off27_eq k 1
theorem off27_2 (k : Fin k0_t2_loop.trips) : k0_off27 k 24#32 = ![0, 64 * k.val + 24, 0] := k0_off27_eq k 2
theorem off10_0 (k : Fin k0_t1_loop.trips) : k0_off10 k 0#32 = ![64 * k.val, 512] := k0_off10_eq k 0
theorem off10_1 (k : Fin k0_t1_loop.trips) : k0_off10 k 8#32 = ![64 * k.val + 8, 512] := k0_off10_eq k 1
theorem off10_2 (k : Fin k0_t1_loop.trips) : k0_off10 k 16#32 = ![64 * k.val + 16, 512] := k0_off10_eq k 2
theorem off10_3 (k : Fin k0_t1_loop.trips) : k0_off10 k 24#32 = ![64 * k.val + 24, 512] := k0_off10_eq k 3
theorem off11_0 (k : Fin k0_t1_loop.trips) : k0_off11 k 0#32 = ![0, 64 * k.val, 512] := k0_off11_eq k 0
theorem off11_1 (k : Fin k0_t1_loop.trips) : k0_off11 k 8#32 = ![0, 64 * k.val + 8, 512] := k0_off11_eq k 1
theorem off11_2 (k : Fin k0_t1_loop.trips) : k0_off11 k 16#32 = ![0, 64 * k.val + 16, 512] := k0_off11_eq k 2
theorem off11_3 (k : Fin k0_t1_loop.trips) : k0_off11 k 24#32 = ![0, 64 * k.val + 24, 512] := k0_off11_eq k 3
theorem off12_0 (k : Fin k0_t1_loop.trips) : k0_off12 k 0#32 = ![1, 64 * k.val, 512] := k0_off12_eq k 0
theorem off12_1 (k : Fin k0_t1_loop.trips) : k0_off12 k 8#32 = ![1, 64 * k.val + 8, 512] := k0_off12_eq k 1
theorem off12_2 (k : Fin k0_t1_loop.trips) : k0_off12 k 16#32 = ![1, 64 * k.val + 16, 512] := k0_off12_eq k 2
theorem off12_3 (k : Fin k0_t1_loop.trips) : k0_off12 k 24#32 = ![1, 64 * k.val + 24, 512] := k0_off12_eq k 3
theorem off13_0 (k : Fin k0_t1_loop.trips) : k0_off13 k 0#32 = ![2, 64 * k.val, 512] := k0_off13_eq k 0
theorem off13_1 (k : Fin k0_t1_loop.trips) : k0_off13 k 8#32 = ![2, 64 * k.val + 8, 512] := k0_off13_eq k 1
theorem off13_2 (k : Fin k0_t1_loop.trips) : k0_off13 k 16#32 = ![2, 64 * k.val + 16, 512] := k0_off13_eq k 2
theorem off13_3 (k : Fin k0_t1_loop.trips) : k0_off13 k 24#32 = ![2, 64 * k.val + 24, 512] := k0_off13_eq k 3
theorem off14_0 (k : Fin k0_t1_loop.trips) : k0_off14 k 0#32 = ![3, 64 * k.val, 512] := k0_off14_eq k 0
theorem off14_1 (k : Fin k0_t1_loop.trips) : k0_off14 k 8#32 = ![3, 64 * k.val + 8, 512] := k0_off14_eq k 1
theorem off14_2 (k : Fin k0_t1_loop.trips) : k0_off14 k 16#32 = ![3, 64 * k.val + 16, 512] := k0_off14_eq k 2
theorem off14_3 (k : Fin k0_t1_loop.trips) : k0_off14 k 24#32 = ![3, 64 * k.val + 24, 512] := k0_off14_eq k 3
theorem off15_0 (k : Fin k0_t1_loop.trips) : k0_off15 k 0#32 = ![4, 64 * k.val, 512] := k0_off15_eq k 0
theorem off15_1 (k : Fin k0_t1_loop.trips) : k0_off15 k 8#32 = ![4, 64 * k.val + 8, 512] := k0_off15_eq k 1
theorem off15_2 (k : Fin k0_t1_loop.trips) : k0_off15 k 16#32 = ![4, 64 * k.val + 16, 512] := k0_off15_eq k 2
theorem off15_3 (k : Fin k0_t1_loop.trips) : k0_off15 k 24#32 = ![4, 64 * k.val + 24, 512] := k0_off15_eq k 3
theorem off16_0 (k : Fin k0_t1_loop.trips) : k0_off16 k 0#32 = ![5, 64 * k.val, 512] := k0_off16_eq k 0
theorem off16_1 (k : Fin k0_t1_loop.trips) : k0_off16 k 8#32 = ![5, 64 * k.val + 8, 512] := k0_off16_eq k 1
theorem off16_2 (k : Fin k0_t1_loop.trips) : k0_off16 k 16#32 = ![5, 64 * k.val + 16, 512] := k0_off16_eq k 2
theorem off16_3 (k : Fin k0_t1_loop.trips) : k0_off16 k 24#32 = ![5, 64 * k.val + 24, 512] := k0_off16_eq k 3
theorem off17_0 (k : Fin k0_t1_loop.trips) : k0_off17 k 0#32 = ![6, 64 * k.val, 512] := k0_off17_eq k 0
theorem off17_1 (k : Fin k0_t1_loop.trips) : k0_off17 k 8#32 = ![6, 64 * k.val + 8, 512] := k0_off17_eq k 1
theorem off17_2 (k : Fin k0_t1_loop.trips) : k0_off17 k 16#32 = ![6, 64 * k.val + 16, 512] := k0_off17_eq k 2
theorem off18_0 (k : Fin k0_t1_loop.trips) : k0_off18 k = ![64 * k.val, 512] := k0_off18_eq k
theorem off28_0 (k : Fin k0_t2_loop.trips) : k0_off28 k = ![64 * k.val, 512] := k0_off28_eq k
theorem off29_0 (k : Fin k0_t2_loop.trips) : k0_off29 k 0#32 = ![1, 64 * k.val, 512] := k0_off29_eq k 0
theorem off29_1 (k : Fin k0_t2_loop.trips) : k0_off29 k 8#32 = ![1, 64 * k.val + 8, 512] := k0_off29_eq k 1
theorem off29_2 (k : Fin k0_t2_loop.trips) : k0_off29 k 16#32 = ![1, 64 * k.val + 16, 512] := k0_off29_eq k 2
theorem off29_3 (k : Fin k0_t2_loop.trips) : k0_off29 k 24#32 = ![1, 64 * k.val + 24, 512] := k0_off29_eq k 3
theorem off30_0 (k : Fin k0_t2_loop.trips) : k0_off30 k 0#32 = ![2, 64 * k.val, 512] := k0_off30_eq k 0
theorem off30_1 (k : Fin k0_t2_loop.trips) : k0_off30 k 8#32 = ![2, 64 * k.val + 8, 512] := k0_off30_eq k 1
theorem off30_2 (k : Fin k0_t2_loop.trips) : k0_off30 k 16#32 = ![2, 64 * k.val + 16, 512] := k0_off30_eq k 2
theorem off30_3 (k : Fin k0_t2_loop.trips) : k0_off30 k 24#32 = ![2, 64 * k.val + 24, 512] := k0_off30_eq k 3
theorem off31_0 (k : Fin k0_t2_loop.trips) : k0_off31 k 0#32 = ![3, 64 * k.val, 512] := k0_off31_eq k 0
theorem off31_1 (k : Fin k0_t2_loop.trips) : k0_off31 k 8#32 = ![3, 64 * k.val + 8, 512] := k0_off31_eq k 1
theorem off31_2 (k : Fin k0_t2_loop.trips) : k0_off31 k 16#32 = ![3, 64 * k.val + 16, 512] := k0_off31_eq k 2
theorem off31_3 (k : Fin k0_t2_loop.trips) : k0_off31 k 24#32 = ![3, 64 * k.val + 24, 512] := k0_off31_eq k 3
theorem off32_0 (k : Fin k0_t2_loop.trips) : k0_off32 k 0#32 = ![4, 64 * k.val, 512] := k0_off32_eq k 0
theorem off32_1 (k : Fin k0_t2_loop.trips) : k0_off32 k 8#32 = ![4, 64 * k.val + 8, 512] := k0_off32_eq k 1
theorem off32_2 (k : Fin k0_t2_loop.trips) : k0_off32 k 16#32 = ![4, 64 * k.val + 16, 512] := k0_off32_eq k 2
theorem off32_3 (k : Fin k0_t2_loop.trips) : k0_off32 k 24#32 = ![4, 64 * k.val + 24, 512] := k0_off32_eq k 3
theorem off33_0 (k : Fin k0_t2_loop.trips) : k0_off33 k 0#32 = ![5, 64 * k.val, 512] := k0_off33_eq k 0
theorem off33_1 (k : Fin k0_t2_loop.trips) : k0_off33 k 8#32 = ![5, 64 * k.val + 8, 512] := k0_off33_eq k 1
theorem off33_2 (k : Fin k0_t2_loop.trips) : k0_off33 k 16#32 = ![5, 64 * k.val + 16, 512] := k0_off33_eq k 2
theorem off33_3 (k : Fin k0_t2_loop.trips) : k0_off33 k 24#32 = ![5, 64 * k.val + 24, 512] := k0_off33_eq k 3
theorem off34_0 (k : Fin k0_t2_loop.trips) : k0_off34 k 0#32 = ![6, 64 * k.val, 512] := k0_off34_eq k 0
theorem off34_1 (k : Fin k0_t2_loop.trips) : k0_off34 k 8#32 = ![6, 64 * k.val + 8, 512] := k0_off34_eq k 1
theorem off34_2 (k : Fin k0_t2_loop.trips) : k0_off34 k 16#32 = ![6, 64 * k.val + 16, 512] := k0_off34_eq k 2
theorem off34_3 (k : Fin k0_t2_loop.trips) : k0_off34 k 24#32 = ![6, 64 * k.val + 24, 512] := k0_off34_eq k 3
theorem off35_0 (k : Fin k0_t2_loop.trips) : k0_off35 k 8#32 = ![64 * k.val + 8, 512] := k0_off35_eq k 0
theorem off35_1 (k : Fin k0_t2_loop.trips) : k0_off35 k 16#32 = ![64 * k.val + 16, 512] := k0_off35_eq k 1
theorem off35_2 (k : Fin k0_t2_loop.trips) : k0_off35 k 24#32 = ![64 * k.val + 24, 512] := k0_off35_eq k 2
theorem off35_3 (k : Fin k0_t2_loop.trips) : k0_off35 k 32#32 = ![64 * k.val + 32, 512] := k0_off35_eq k 3
theorem off36_0 (k : Fin k0_t2_loop.trips) : k0_off36 k 8#32 = ![0, 64 * k.val + 8, 512] := k0_off36_eq k 0
theorem off36_1 (k : Fin k0_t2_loop.trips) : k0_off36 k 16#32 = ![0, 64 * k.val + 16, 512] := k0_off36_eq k 1
theorem off36_2 (k : Fin k0_t2_loop.trips) : k0_off36 k 24#32 = ![0, 64 * k.val + 24, 512] := k0_off36_eq k 2

/-! ## Loads at an index, over contents named by whole numbers -/

/-- A load of a two-axis buffer whose contents are `W` at each row and lane reads `W` at the offset plus the index. -/
theorem read2 {κ : Kind} {sp : Space} {n0 n1 m0 m1 : Nat} {e : EltTy} {Val : EltTy → Type}
    {v : View sig κ sp ⟨2, ![n0, n1]⟩ e} {f : v.ty.Contents Val} {W : Nat → Nat → Val e}
    (h : ∀ (a : Fin n0) (b : Fin n1), v.read Val f (ix2 a b) = W a.val b.val) (off : Fin 2 → Nat)
    (inb : ∀ a, off a + (![m0, m1] : Fin 2 → Nat) a ≤ (⟨2, ![n0, n1]⟩ : Shape).size a) (x : Fin m0) (y : Fin m1) :
    v.readAt Val (Rect.unit (s := ⟨2, ![n0, n1]⟩) off (![m0, m1] : Fin 2 → Nat) inb).toLoadRect f (ix2 x y) = W (off 0 + x.val) (off 1 + y.val) := by
  have h0 := inb 0
  have h1 := inb 1
  simp only [Matrix.cons_val_zero, Matrix.cons_val_one] at h0 h1
  rw [← h ⟨off 0 + x.val, by omega⟩ ⟨off 1 + y.val, by omega⟩]
  refine congrArg (v.read Val f) (funext fun a => Fin.ext ?_)
  refine (Rect.idx_unit_val off _ inb _ a).trans ?_
  fin_cases a <;> rfl

/-- The same of a three-axis buffer, read one plane at a time. -/
theorem read3 {κ : Kind} {sp : Space} {n0 n1 n2 m1 m2 : Nat} {e : EltTy} {Val : EltTy → Type}
    {v : View sig κ sp ⟨3, ![n0, n1, n2]⟩ e} {f : v.ty.Contents Val} {W : Nat → Nat → Nat → Val e}
    (h : ∀ (p : Fin n0) (a : Fin n1) (b : Fin n2), v.read Val f (ix3 p a b) = W p.val a.val b.val) (off : Fin 3 → Nat)
    (inb : ∀ a, off a + (![1, m1, m2] : Fin 3 → Nat) a ≤ (⟨3, ![n0, n1, n2]⟩ : Shape).size a) (p : Fin 1) (x : Fin m1) (y : Fin m2) :
    v.readAt Val (Rect.unit (s := ⟨3, ![n0, n1, n2]⟩) off (![1, m1, m2] : Fin 3 → Nat) inb).toLoadRect f (ix3 p x y) = W (off 0) (off 1 + x.val) (off 2 + y.val) := by
  have h0 := inb 0
  have h1 := inb 1
  have h2 := inb 2
  simp only [Matrix.cons_val_zero, Matrix.cons_val_one, Matrix.cons_val_two, Matrix.head_cons, Matrix.tail_cons, Matrix.cons_val] at h0 h1 h2
  rw [← h ⟨off 0, by omega⟩ ⟨off 1 + x.val, by omega⟩ ⟨off 2 + y.val, by omega⟩]
  refine congrArg (v.read Val f) (funext fun a => Fin.ext ?_)
  refine (Rect.idx_unit_val off _ inb _ a).trans ?_
  obtain rfl : p = 0 := Subsingleton.elim _ _
  fin_cases a <;> rfl

end Cert.KernelIdeal.Gen
-- ==== Proof.Taps.lean ====
/-
One trip of the loop over the gradient of the convolution's input: the block of 64 rows it writes, per half of the
lanes, is at each row and lane the sum over the 31 taps of weight times shifted gradient.
-/
module

public import proofs.«01_k».proof.Proof.Offs

@[expose] public section

set_option maxRecDepth 65536
set_option maxHeartbeats 8000000

noncomputable section

namespace Cert.KernelIdeal.Gen

open Idealize.ShloMosaic Idealize.ShloMosaic.TcCoe Idealize.ShloMosaic.Tactic

/-- The 31 products a row of the block adds up: tap `n`'s weight row and the row `n` further down. -/
def tapSum (W D : Nat → Nat → EReal) (r l : Nat) : EReal := ∑ n ∈ Finset.range 31, W (8 * n + r % 8) l * D (r + n) l

/-- Eight blocks of eight rows, one under the other, at a row and lane. -/
theorem stack8 (a0 a1 a2 a3 a4 a5 a6 a7 : FVec Ideal S8x512 .f32) (h h') (r : Fin 64) (l : Fin 512) :
    shapeCast S64x512 (concatenate S64x512 0 [⟨S8x512, a0⟩, ⟨S8x512, a1⟩, ⟨S8x512, a2⟩, ⟨S8x512, a3⟩, ⟨S8x512, a4⟩, ⟨S8x512, a5⟩, ⟨S8x512, a6⟩, ⟨S8x512, a7⟩] h : FVec Ideal S64x512 .f32) h' (ix2 r l)
      = (![a0, a1, a2, a3, a4, a5, a6, a7] : Fin 8 → FVec Ideal S8x512 .f32) ⟨r.val / 8, by omega⟩ (ix2 ⟨r.val % 8, by omega⟩ l) := by
  pointwise
  have key : ∀ (g : Fin 8) (s : Fin 8), r.val / 8 = g.val → r.val % 8 = s.val → (⟨r.val / 8, by omega⟩ : Fin 8) = g ∧ (⟨r.val % 8, by omega⟩ : Fin 8) = s :=
    fun g s hg hs => ⟨Fin.ext hg, Fin.ext hs⟩
  split_ifs
  all_goals first
    | exact absurd rfl (by assumption)
    | (rw [(key 0 ⟨r.val, by omega⟩ (show _ = 0 by omega) (show _ = r.val by omega)).1, (key 0 ⟨r.val, by omega⟩ (show _ = 0 by omega) (show _ = r.val by omega)).2]; rfl)
    | (rw [(key 1 ⟨r.val - 8, by omega⟩ (show _ = 1 by omega) (show _ = r.val - 8 by omega)).1, (key 1 ⟨r.val - 8, by omega⟩ (show _ = 1 by omega) (show _ = r.val - 8 by omega)).2]; rfl)
    | (rw [(key 2 ⟨r.val - 8 - 8, by omega⟩ (show _ = 2 by omega) (show _ = r.val - 8 - 8 by omega)).1, (key 2 ⟨r.val - 8 - 8, by omega⟩ (show _ = 2 by omega) (show _ = r.val - 8 - 8 by omega)).2]; rfl)
    | (rw [(key 3 ⟨r.val - 8 - 8 - 8, by omega⟩ (show _ = 3 by omega) (show _ = r.val - 8 - 8 - 8 by omega)).1, (key 3 ⟨r.val - 8 - 8 - 8, by omega⟩ (show _ = 3 by omega) (show _ = r.val - 8 - 8 - 8 by omega)).2]; rfl)
    | (rw [(key 4 ⟨r.val - 8 - 8 - 8 - 8, by omega⟩ (show _ = 4 by omega) (show _ = r.val - 8 - 8 - 8 - 8 by omega)).1, (key 4 ⟨r.val - 8 - 8 - 8 - 8, by omega⟩ (show _ = 4 by omega) (show _ = r.val - 8 - 8 - 8 - 8 by omega)).2]; rfl)
    | (rw [(key 5 ⟨r.val - 8 - 8 - 8 - 8 - 8, by omega⟩ (show _ = 5 by omega) (show _ = r.val - 8 - 8 - 8 - 8 - 8 by omega)).1, (key 5 ⟨r.val - 8 - 8 - 8 - 8 - 8, by omega⟩ (show _ = 5 by omega) (show _ = r.val - 8 - 8 - 8 - 8 - 8 by omega)).2]; rfl)
    | (rw [(key 6 ⟨r.val - 8 - 8 - 8 - 8 - 8 - 8, by omega⟩ (show _ = 6 by omega) (show _ = r.val - 8 - 8 - 8 - 8 - 8 - 8 by omega)).1, (key 6 ⟨r.val - 8 - 8 - 8 - 8 - 8 - 8, by omega⟩ (show _ = 6 by omega) (show _ = r.val - 8 - 8 - 8 - 8 - 8 - 8 by omega)).2]; rfl)
    | (rw [(key 7 ⟨r.val - 8 - 8 - 8 - 8 - 8 - 8 - 8, by omega⟩ (show _ = 7 by omega) (show _ = r.val - 8 - 8 - 8 - 8 - 8 - 8 - 8 by omega)).1, (key 7 ⟨r.val - 8 - 8 - 8 - 8 - 8 - 8 - 8, by omega⟩ (show _ = 7 by omega) (show _ = r.val - 8 - 8 - 8 - 8 - 8 - 8 - 8 by omega)).2]; rfl)

/-- The block of lanes from 0 on. -/
theorem tapBlock0 (arg11 : Memref sig .tc .vmem S288x1024 .f32) (arg14 : Memref sig .tc .vmem S248x1024 .f32) (arg17 : Memref sig .tc .vmem S7x280x1024 .f32)
    (X_arg11 : BufTy.Contents (Elt Ideal) arg11.view.ty) (X_arg14 : BufTy.Contents (Elt Ideal) arg14.view.ty) (X_arg17 : BufTy.Contents (Elt Ideal) arg17.view.ty)
    (k : Fin k0_t1_loop.trips) (W D : Nat → Nat → EReal)
    (h14 : ∀ (a : Fin 248) (b : Fin 1024), arg14.view.read (Elt Ideal) X_arg14 (ix2 a b) = W a.val b.val)
    (h11 : ∀ (a : Fin 288) (b : Fin 1024), arg11.view.read (Elt Ideal) X_arg11 (ix2 a b) = D a.val b.val)
    (h17 : ∀ (p : Fin 7) (a : Fin 280) (b : Fin 1024), arg17.view.read (Elt Ideal) X_arg17 (ix3 p a b) = D (a.val + (p.val + 1)) b.val)
    (r : Fin 64) (l : Fin 512) :
    k0_pay285 (trip_k0_t1.sl.r_212 arg11 arg14 arg17 X_arg11 X_arg14 X_arg17 k)
          (trip_k0_t1.sl.r_213 arg11 arg14 arg17 X_arg11 X_arg14 X_arg17 k)
          (trip_k0_t1.sl.r_214 arg11 arg14 arg17 X_arg11 X_arg14 X_arg17 k)
          (trip_k0_t1.sl.r_215 arg11 arg14 arg17 X_arg11 X_arg14 X_arg17 k)
          (trip_k0_t1.sl.r_216 arg11 arg14 arg17 X_arg11 X_arg14 X_arg17 k)
          (trip_k0_t1.sl.r_217 arg11 arg14 arg17 X_arg11 X_arg14 X_arg17 k)
          (trip_k0_t1.sl.r_218 arg11 arg14 arg17 X_arg11 X_arg14 X_arg17 k)
          (trip_k0_t1.sl.r_219 arg11 arg14 arg17 X_arg11 X_arg14 X_arg17 k) (trip_k0_t1.sl.r_220 arg14 X_arg14)
          (trip_k0_t1.sl.r_221 arg17 X_arg17 k) (ix2 r l) = tapSum W D (64 * k.val + r.val) (0 + l.val) := by
  refine (stack8 _ _ _ _ _ _ _ _ _ _ r l).trans ?_
  have hgv : (⟨r.val / 8, by omega⟩ : Fin 8).val = r.val / 8 := rfl
  have hsv : (⟨r.val % 8, by omega⟩ : Fin 8).val = r.val % 8 := rfl
  revert hgv hsv
  generalize (⟨r.val / 8, by omega⟩ : Fin 8) = g
  generalize (⟨r.val % 8, by omega⟩ : Fin 8) = s
  intro hgv hsv
  have hm : (64 * k.val + r.val) % 8 = s.val := by omega
  obtain ⟨T, hT⟩ : ∃ T : Nat → Nat → Nat → EReal, ∀ p a b, T p a b = D (a + (p + 1)) b := ⟨_, fun _ _ _ => rfl⟩
  simp only [← hT] at h17
  have e0_0 : ∀ x y : Nat, T 0 (64 * k.val + x) y = D (64 * k.val + x + 1) y := fun x y => (hT _ _ _).trans (congrFun (congrArg D (by omega)) y)
  have e1_0 : ∀ x y : Nat, T 1 (64 * k.val + x) y = D (64 * k.val + x + 2) y := fun x y => (hT _ _ _).trans (congrFun (congrArg D (by omega)) y)
  have e2_0 : ∀ x y : Nat, T 2 (64 * k.val + x) y = D (64 * k.val + x + 3) y := fun x y => (hT _ _ _).trans (congrFun (congrArg D (by omega)) y)
  have e3_0 : ∀ x y : Nat, T 3 (64 * k.val + x) y = D (64 * k.val + x + 4) y := fun x y => (hT _ _ _).trans (congrFun (congrArg D (by omega)) y)
  have e4_0 : ∀ x y : Nat, T 4 (64 * k.val + x) y = D (64 * k.val + x + 5) y := fun x y => (hT _ _ _).trans (congrFun (congrArg D (by omega)) y)
  have e5_0 : ∀ x y : Nat, T 5 (64 * k.val + x) y = D (64 * k.val + x + 6) y := fun x y => (hT _ _ _).trans (congrFun (congrArg D (by omega)) y)
  have e6_0 : ∀ x y : Nat, T 6 (64 * k.val + x) y = D (64 * k.val + x + 7) y := fun x y => (hT _ _ _).trans (congrFun (congrArg D (by omega)) y)
  have d_8 : ∀ x y : Nat, D (64 * k.val + 8 + x) y = D (64 * k.val + x + 8) y := fun x y => by rw [Nat.add_right_comm]
  have e0_8 : ∀ x y : Nat, T 0 (64 * k.val + 8 + x) y = D (64 * k.val + x + 9) y := fun x y => (hT _ _ _).trans (congrFun (congrArg D (by omega)) y)
  have e1_8 : ∀ x y : Nat, T 1 (64 * k.val + 8 + x) y = D (64 * k.val + x + 10) y := fun x y => (hT _ _ _).trans (congrFun (congrArg D (by omega)) y)
  have e2_8 : ∀ x y : Nat, T 2 (64 * k.val + 8 + x) y = D (64 * k.val + x + 11) y := fun x y => (hT _ _ _).trans (congrFun (congrArg D (by omega)) y)
  have e3_8 : ∀ x y : Nat, T 3 (64 * k.val + 8 + x) y = D (64 * k.val + x + 12) y := fun x y => (hT _ _ _).trans (congrFun (congrArg D (by omega)) y)
  have e4_8 : ∀ x y : Nat, T 4 (64 * k.val + 8 + x) y = D (64 * k.val + x + 13) y := fun x y => (hT _ _ _).trans (congrFun (congrArg D (by omega)) y)
  have e5_8 : ∀ x y : Nat, T 5 (64 * k.val + 8 + x) y = D (64 * k.val + x + 14) y := fun x y => (hT _ _ _).trans (congrFun (congrArg D (by omega)) y)
  have e6_8 : ∀ x y : Nat, T 6 (64 * k.val + 8 + x) y = D (64 * k.val + x + 15) y := fun x y => (hT _ _ _).trans (congrFun (congrArg D (by omega)) y)
  have d_16 : ∀ x y : Nat, D (64 * k.val + 16 + x) y = D (64 * k.val + x + 16) y := fun x y => by rw [Nat.add_right_comm]
  have e0_16 : ∀ x y : Nat, T 0 (64 * k.val + 16 + x) y = D (64 * k.val + x + 17) y := fun x y => (hT _ _ _).trans (congrFun (congrArg D (by omega)) y)
  have e1_16 : ∀ x y : Nat, T 1 (64 * k.val + 16 + x) y = D (64 * k.val + x + 18) y := fun x y => (hT _ _ _).trans (congrFun (congrArg D (by omega)) y)
  have e2_16 : ∀ x y : Nat, T 2 (64 * k.val + 16 + x) y = D (64 * k.val + x + 19) y := fun x y => (hT _ _ _).trans (congrFun (congrArg D (by omega)) y)
  have e3_16 : ∀ x y : Nat, T 3 (64 * k.val + 16 + x) y = D (64 * k.val + x + 20) y := fun x y => (hT _ _ _).trans (congrFun (congrArg D (by omega)) y)
  have e4_16 : ∀ x y : Nat, T 4 (64 * k.val + 16 + x) y = D (64 * k.val + x + 21) y := fun x y => (hT _ _ _).trans (congrFun (congrArg D (by omega)) y)
  have e5_16 : ∀ x y : Nat, T 5 (64 * k.val + 16 + x) y = D (64 * k.val + x + 22) y := fun x y => (hT _ _ _).trans (congrFun (congrArg D (by omega)) y)
  have e6_16 : ∀ x y : Nat, T 6 (64 * k.val + 16 + x) y = D (64 * k.val + x + 23) y := fun x y => (hT _ _ _).trans (congrFun (congrArg D (by omega)) y)
  have d_24 : ∀ x y : Nat, D (64 * k.val + 24 + x) y = D (64 * k.val + x + 24) y := fun x y => by rw [Nat.add_right_comm]
  have e0_24 : ∀ x y : Nat, T 0 (64 * k.val + 24 + x) y = D (64 * k.val + x + 25) y := fun x y => (hT _ _ _).trans (congrFun (congrArg D (by omega)) y)
  have e1_24 : ∀ x y : Nat, T 1 (64 * k.val + 24 + x) y = D (64 * k.val + x + 26) y := fun x y => (hT _ _ _).trans (congrFun (congrArg D (by omega)) y)
  have e2_24 : ∀ x y : Nat, T 2 (64 * k.val + 24 + x) y = D (64 * k.val + x + 27) y := fun x y => (hT _ _ _).trans (congrFun (congrArg D (by omega)) y)
  have e3_24 : ∀ x y : Nat, T 3 (64 * k.val + 24 + x) y = D (64 * k.val + x + 28) y := fun x y => (hT _ _ _).trans (congrFun (congrArg D (by omega)) y)
  have e4_24 : ∀ x y : Nat, T 4 (64 * k.val + 24 + x) y = D (64 * k.val + x + 29) y := fun x y => (hT _ _ _).trans (congrFun (congrArg D (by omega)) y)
  have e5_24 : ∀ x y : Nat, T 5 (64 * k.val + 24 + x) y = D (64 * k.val + x + 30) y := fun x y => (hT _ _ _).trans (congrFun (congrArg D (by omega)) y)
  match g, hgv with
  | ⟨0, _⟩, hgv | ⟨1, _⟩, hgv | ⟨2, _⟩, hgv | ⟨3, _⟩, hgv | ⟨4, _⟩, hgv | ⟨5, _⟩, hgv | ⟨6, _⟩, hgv | ⟨7, _⟩, hgv =>
    simp only [Fin.reduceFinMk, Matrix.cons_val]
    dsimp only at hgv
    obtain ⟨r', hr'⟩ : ∃ r' : Nat, r.val = r' + s.val ∧ (r' = 8 * (r.val / 8)) := ⟨8 * (r.val / 8), by omega, rfl⟩
    rw [← hgv] at hr'
    obtain ⟨hr, rfl⟩ := hr'
    sl_unfold_run_names
    unfold_payloads
    pointwise
    simp only [read2 h14, read2 h11, read3 h17]
    simp only [off1_0, off1_1, off1_2, off1_3, off2_0, off2_1, off2_2, off2_3, off3_0, off3_1, off3_2, off3_3, off4_0, off4_1, off4_2, off4_3, off5_0, off5_1, off5_2, off5_3, off6_0, off6_1, off6_2, off6_3, off7_0, off7_1, off7_2, off7_3, off8_0, off8_1, off8_2, off10_0, off10_1, off10_2, off10_3, off11_0, off11_1, off11_2, off11_3, off12_0, off12_1, off12_2, off12_3, off13_0, off13_1, off13_2, off13_3, off14_0, off14_1, off14_2, off14_3, off15_0, off15_1, off15_2, off15_3, off16_0, off16_1, off16_2, off16_3, off17_0, off17_1, off17_2]
    simp only [tapSum, Finset.sum_range_succ, Finset.sum_range_zero, zero_add, hm]
    simp only [Matrix.cons_val_zero, Matrix.cons_val_one, Matrix.cons_val, hr, add_zero, zero_add, Nat.reduceMul, e0_0, e1_0, e2_0, e3_0, e4_0, e5_0, e6_0, d_8, e0_8, e1_8, e2_8, e3_8, e4_8, e5_8, e6_8, d_16, e0_16, e1_16, e2_16, e3_16, e4_16, e5_16, e6_16, d_24, e0_24, e1_24, e2_24, e3_24, e4_24, e5_24]

/-- The block of lanes from 512 on. -/
theorem tapBlock1 (arg11 : Memref sig .tc .vmem S288x1024 .f32) (arg14 : Memref sig .tc .vmem S248x1024 .f32) (arg17 : Memref sig .tc .vmem S7x280x1024 .f32)
    (X_arg11 : BufTy.Contents (Elt Ideal) arg11.view.ty) (X_arg14 : BufTy.Contents (Elt Ideal) arg14.view.ty) (X_arg17 : BufTy.Contents (Elt Ideal) arg17.view.ty)
    (k : Fin k0_t1_loop.trips) (W D : Nat → Nat → EReal)
    (h14 : ∀ (a : Fin 248) (b : Fin 1024), arg14.view.read (Elt Ideal) X_arg14 (ix2 a b) = W a.val b.val)
    (h11 : ∀ (a : Fin 288) (b : Fin 1024), arg11.view.read (Elt Ideal) X_arg11 (ix2 a b) = D a.val b.val)
    (h17 : ∀ (p : Fin 7) (a : Fin 280) (b : Fin 1024), arg17.view.read (Elt Ideal) X_arg17 (ix3 p a b) = D (a.val + (p.val + 1)) b.val)
    (r : Fin 64) (l : Fin 512) :
    k0_pay663 (trip_k0_t1.sl.r_444 arg11 arg14 arg17 X_arg11 X_arg14 X_arg17 k)
          (trip_k0_t1.sl.r_445 arg11 arg14 arg17 X_arg11 X_arg14 X_arg17 k) (trip_k0_t1.sl.r_446 arg14 X_arg14)
          (trip_k0_t1.sl.r_447 arg17 X_arg17 k) (trip_k0_t1.sl.r_448 arg11 arg14 arg17 X_arg11 X_arg14 X_arg17 k)
          (trip_k0_t1.sl.r_449 arg11 arg14 arg17 X_arg11 X_arg14 X_arg17 k)
          (trip_k0_t1.sl.r_450 arg11 arg14 arg17 X_arg11 X_arg14 X_arg17 k)
          (trip_k0_t1.sl.r_451 arg11 arg14 arg17 X_arg11 X_arg14 X_arg17 k)
          (trip_k0_t1.sl.r_452 arg11 arg14 arg17 X_arg11 X_arg14 X_arg17 k)
          (trip_k0_t1.sl.r_453 arg11 arg14 arg17 X_arg11 X_arg14 X_arg17 k) (trip_k0_t1.sl.r_454 arg17 X_arg17 k) (ix2 r l) = tapSum W D (64 * k.val + r.val) (512 + l.val) := by
  refine (stack8 _ _ _ _ _ _ _ _ _ _ r l).trans ?_
  have hgv : (⟨r.val / 8, by omega⟩ : Fin 8).val = r.val / 8 := rfl
  have hsv : (⟨r.val % 8, by omega⟩ : Fin 8).val = r.val % 8 := rfl
  revert hgv hsv
  generalize (⟨r.val / 8, by omega⟩ : Fin 8) = g
  generalize (⟨r.val % 8, by omega⟩ : Fin 8) = s
  intro hgv hsv
  have hm : (64 * k.val + r.val) % 8 = s.val := by omega
  obtain ⟨T, hT⟩ : ∃ T : Nat → Nat → Nat → EReal, ∀ p a b, T p a b = D (a + (p + 1)) b := ⟨_, fun _ _ _ => rfl⟩
  simp only [← hT] at h17
  have e0_0 : ∀ x y : Nat, T 0 (64 * k.val + x) y = D (64 * k.val + x + 1) y := fun x y => (hT _ _ _).trans (congrFun (congrArg D (by omega)) y)
  have e1_0 : ∀ x y : Nat, T 1 (64 * k.val + x) y = D (64 * k.val + x + 2) y := fun x y => (hT _ _ _).trans (congrFun (congrArg D (by omega)) y)
  have e2_0 : ∀ x y : Nat, T 2 (64 * k.val + x) y = D (64 * k.val + x + 3) y := fun x y => (hT _ _ _).trans (congrFun (congrArg D (by omega)) y)
  have e3_0 : ∀ x y : Nat, T 3 (64 * k.val + x) y = D (64 * k.val + x + 4) y := fun x y => (hT _ _ _).trans (congrFun (congrArg D (by omega)) y)
  have e4_0 : ∀ x y : Nat, T 4 (64 * k.val + x) y = D (64 * k.val + x + 5) y := fun x y => (hT _ _ _).trans (congrFun (congrArg D (by omega)) y)
  have e5_0 : ∀ x y : Nat, T 5 (64 * k.val + x) y = D (64 * k.val + x + 6) y := fun x y => (hT _ _ _).trans (congrFun (congrArg D (by omega)) y)
  have e6_0 : ∀ x y : Nat, T 6 (64 * k.val + x) y = D (64 * k.val + x + 7) y := fun x y => (hT _ _ _).trans (congrFun (congrArg D (by omega)) y)
  have d_8 : ∀ x y : Nat, D (64 * k.val + 8 + x) y = D (64 * k.val + x + 8) y := fun x y => by rw [Nat.add_right_comm]
  have e0_8 : ∀ x y : Nat, T 0 (64 * k.val + 8 + x) y = D (64 * k.val + x + 9) y := fun x y => (hT _ _ _).trans (congrFun (congrArg D (by omega)) y)
  have e1_8 : ∀ x y : Nat, T 1 (64 * k.val + 8 + x) y = D (64 * k.val + x + 10) y := fun x y => (hT _ _ _).trans (congrFun (congrArg D (by omega)) y)
  have e2_8 : ∀ x y : Nat, T 2 (64 * k.val + 8 + x) y = D (64 * k.val + x + 11) y := fun x y => (hT _ _ _).trans (congrFun (congrArg D (by omega)) y)
  have e3_8 : ∀ x y : Nat, T 3 (64 * k.val + 8 + x) y = D (64 * k.val + x + 12) y := fun x y => (hT _ _ _).trans (congrFun (congrArg D (by omega)) y)
  have e4_8 : ∀ x y : Nat, T 4 (64 * k.val + 8 + x) y = D (64 * k.val + x + 13) y := fun x y => (hT _ _ _).trans (congrFun (congrArg D (by omega)) y)
  have e5_8 : ∀ x y : Nat, T 5 (64 * k.val + 8 + x) y = D (64 * k.val + x + 14) y := fun x y => (hT _ _ _).trans (congrFun (congrArg D (by omega)) y)
  have e6_8 : ∀ x y : Nat, T 6 (64 * k.val + 8 + x) y = D (64 * k.val + x + 15) y := fun x y => (hT _ _ _).trans (congrFun (congrArg D (by omega)) y)
  have d_16 : ∀ x y : Nat, D (64 * k.val + 16 + x) y = D (64 * k.val + x + 16) y := fun x y => by rw [Nat.add_right_comm]
  have e0_16 : ∀ x y : Nat, T 0 (64 * k.val + 16 + x) y = D (64 * k.val + x + 17) y := fun x y => (hT _ _ _).trans (congrFun (congrArg D (by omega)) y)
  have e1_16 : ∀ x y : Nat, T 1 (64 * k.val + 16 + x) y = D (64 * k.val + x + 18) y := fun x y => (hT _ _ _).trans (congrFun (congrArg D (by omega)) y)
  have e2_16 : ∀ x y : Nat, T 2 (64 * k.val + 16 + x) y = D (64 * k.val + x + 19) y := fun x y => (hT _ _ _).trans (congrFun (congrArg D (by omega)) y)
  have e3_16 : ∀ x y : Nat, T 3 (64 * k.val + 16 + x) y = D (64 * k.val + x + 20) y := fun x y => (hT _ _ _).trans (congrFun (congrArg D (by omega)) y)
  have e4_16 : ∀ x y : Nat, T 4 (64 * k.val + 16 + x) y = D (64 * k.val + x + 21) y := fun x y => (hT _ _ _).trans (congrFun (congrArg D (by omega)) y)
  have e5_16 : ∀ x y : Nat, T 5 (64 * k.val + 16 + x) y = D (64 * k.val + x + 22) y := fun x y => (hT _ _ _).trans (congrFun (congrArg D (by omega)) y)
  have e6_16 : ∀ x y : Nat, T 6 (64 * k.val + 16 + x) y = D (64 * k.val + x + 23) y := fun x y => (hT _ _ _).trans (congrFun (congrArg D (by omega)) y)
  have d_24 : ∀ x y : Nat, D (64 * k.val + 24 + x) y = D (64 * k.val + x + 24) y := fun x y => by rw [Nat.add_right_comm]
  have e0_24 : ∀ x y : Nat, T 0 (64 * k.val + 24 + x) y = D (64 * k.val + x + 25) y := fun x y => (hT _ _ _).trans (congrFun (congrArg D (by omega)) y)
  have e1_24 : ∀ x y : Nat, T 1 (64 * k.val + 24 + x) y = D (64 * k.val + x + 26) y := fun x y => (hT _ _ _).trans (congrFun (congrArg D (by omega)) y)
  have e2_24 : ∀ x y : Nat, T 2 (64 * k.val + 24 + x) y = D (64 * k.val + x + 27) y := fun x y => (hT _ _ _).trans (congrFun (congrArg D (by omega)) y)
  have e3_24 : ∀ x y : Nat, T 3 (64 * k.val + 24 + x) y = D (64 * k.val + x + 28) y := fun x y => (hT _ _ _).trans (congrFun (congrArg D (by omega)) y)
  have e4_24 : ∀ x y : Nat, T 4 (64 * k.val + 24 + x) y = D (64 * k.val + x + 29) y := fun x y => (hT _ _ _).trans (congrFun (congrArg D (by omega)) y)
  have e5_24 : ∀ x y : Nat, T 5 (64 * k.val + 24 + x) y = D (64 * k.val + x + 30) y := fun x y => (hT _ _ _).trans (congrFun (congrArg D (by omega)) y)
  match g, hgv with
  | ⟨0, _⟩, hgv | ⟨1, _⟩, hgv | ⟨2, _⟩, hgv | ⟨3, _⟩, hgv | ⟨4, _⟩, hgv | ⟨5, _⟩, hgv | ⟨6, _⟩, hgv | ⟨7, _⟩, hgv =>
    simp only [Fin.reduceFinMk, Matrix.cons_val]
    dsimp only at hgv
    obtain ⟨r', hr'⟩ : ∃ r' : Nat, r.val = r' + s.val ∧ (r' = 8 * (r.val / 8)) := ⟨8 * (r.val / 8), by omega, rfl⟩
    rw [← hgv] at hr'
    obtain ⟨hr, rfl⟩ := hr'
    sl_unfold_run_names
    unfold_payloads
    pointwise
    simp only [read2 h14, read2 h11, read3 h17]
    simp only [off1_0, off1_1, off1_2, off1_3, off2_0, off2_1, off2_2, off2_3, off3_0, off3_1, off3_2, off3_3, off4_0, off4_1, off4_2, off4_3, off5_0, off5_1, off5_2, off5_3, off6_0, off6_1, off6_2, off6_3, off7_0, off7_1, off7_2, off7_3, off8_0, off8_1, off8_2, off10_0, off10_1, off10_2, off10_3, off11_0, off11_1, off11_2, off11_3, off12_0, off12_1, off12_2, off12_3, off13_0, off13_1, off13_2, off13_3, off14_0, off14_1, off14_2, off14_3, off15_0, off15_1, off15_2, off15_3, off16_0, off16_1, off16_2, off16_3, off17_0, off17_1, off17_2]
    simp only [tapSum, Finset.sum_range_succ, Finset.sum_range_zero, zero_add, hm]
    simp only [Matrix.cons_val_zero, Matrix.cons_val_one, Matrix.cons_val, hr, add_zero, zero_add, Nat.reduceMul, e0_0, e1_0, e2_0, e3_0, e4_0, e5_0, e6_0, d_8, e0_8, e1_8, e2_8, e3_8, e4_8, e5_8, e6_8, d_16, e0_16, e1_16, e2_16, e3_16, e4_16, e5_16, e6_16, d_24, e0_24, e1_24, e2_24, e3_24, e4_24, e5_24]

end Cert.KernelIdeal.Gen
-- ==== Proof.Dw.lean ====
/-
One trip of the loop over the gradient of the convolution's weight: each of the 62 blocks it writes back is what it found
plus, over the trip's eight groups of rows, the gradient's row times the unit's row the tap shifts to it.
-/
module

public import proofs.«01_k».proof.Proof.Offs
public import Idealize.ShloMosaic.Lib.Pipeline.ReadBack

@[expose] public section

set_option maxRecDepth 65536
set_option maxHeartbeats 8000000

noncomputable section

namespace Cert.KernelIdeal.Gen

open Idealize.ShloMosaic Idealize.ShloMosaic.TcCoe Idealize.ShloMosaic.Tactic

/-- What trip `k` adds at row `a` (tap `a / 8`, lane of rows `a % 8`): the eight groups' products. -/
def grpSum (D U : Nat → Nat → EReal) (k a l : Nat) : EReal :=
  ∑ q : Fin 8, D (64 * k + (q.val * 8 + a % 8)) l * U (64 * k + (q.val * 8 + a % 8) + (2 + a / 8)) l

/-- The accumulator after trip `k`, of what it held before. -/
def accGrp (W D U : Nat → Nat → EReal) (k : Nat) (y : S248x1024.Idx) : EReal := W (y 0).val (y 1).val + grpSum D U k (y 0).val (y 1).val

/-- A block's payload at a row and lane, the shifted rows from a plane. -/
theorem grpPlane (a : Vec Ideal S8x512 .f32) (d : Vec Ideal S64x512 .f32) (u : Vec Ideal S1x64x512 .f32) (hc1 hc2 hc3 hc4 hr hk ha) (s : Fin 8) (l : Fin 512) :
    (shapeCast S8x512 (addf a (multiReduction .add [0] S8x512 (mulf (shapeCast S8x8x512 d hc2 : FVec Ideal S8x8x512 .f32)
        (shapeCast S8x8x512 (shapeCast S64x512 u hc4) hc3)) 0x00000000#32 hr hk ha : FVec Ideal S8x512 .f32)) hc1 : FVec Ideal S8x512 .f32) (ix2 s l)
      = a (ix2 s l) + ∑ q : Fin 8, d (ix2 ⟨q.val * 8 + s.val, by omega⟩ l) * u (ix3 (0 : Fin 1) ⟨q.val * 8 + s.val, by omega⟩ l) := by
  pointwise

/-- The same, the shifted rows from the buffer itself. -/
theorem grpPlain (a : Vec Ideal S8x512 .f32) (d u : Vec Ideal S64x512 .f32) (hc1 hc2 hc3 hr hk ha) (s : Fin 8) (l : Fin 512) :
    (shapeCast S8x512 (addf a (multiReduction .add [0] S8x512 (mulf (shapeCast S8x8x512 d hc2 : FVec Ideal S8x8x512 .f32)
        (shapeCast S8x8x512 u hc3)) 0x00000000#32 hr hk ha : FVec Ideal S8x512 .f32)) hc1 : FVec Ideal S8x512 .f32) (ix2 s l)
      = a (ix2 s l) + ∑ q : Fin 8, d (ix2 ⟨q.val * 8 + s.val, by omega⟩ l) * u (ix2 ⟨q.val * 8 + s.val, by omega⟩ l) := by
  pointwise

/-- A block whose shifted rows come from a plane of the shifted copies. -/
theorem dwPlane (arg11 : Memref sig .tc .vmem S288x1024 .f32) (arg15 : Memref sig .tc .vmem S248x1024 .f32) (arg18 : Memref sig .tc .vmem S7x280x1024 .f32)
    (X_arg11 : BufTy.Contents (Elt Ideal) arg11.view.ty) (G : BufTy.Contents (Elt Ideal) arg15.view.ty) (X_arg18 : BufTy.Contents (Elt Ideal) arg18.view.ty)
    (k : Nat) (W D U : Nat → Nat → EReal)
    (h15 : ∀ (a : Fin 248) (b : Fin 1024), arg15.view.read (Elt Ideal) G (ix2 a b) = W a.val b.val)
    (h11 : ∀ (a : Fin 288) (b : Fin 1024), arg11.view.read (Elt Ideal) X_arg11 (ix2 a b) = D a.val b.val)
    (h18 : ∀ (p : Fin 7) (a : Fin 280) (b : Fin 1024), arg18.view.read (Elt Ideal) X_arg18 (ix3 p a b) = U (a.val + (p.val + 1)) b.val)
    (lo n p c : Nat) {o11 : Fin 2 → Nat} {o18 : Fin 3 → Nat} (e11 : o11 = ![64 * k, lo]) (e18 : o18 = ![p, 64 * k + c, lo])
    (hn : p + 1 + c = 2 + n) (hn' : n < 31)
    {inb11 : ∀ a, o11 a + (![64, 512] : Fin 2 → Nat) a ≤ S288x1024.size a} {inb18 : ∀ a, o18 a + (![1, 64, 512] : Fin 3 → Nat) a ≤ S7x280x1024.size a}
    {inb15 : ∀ a, (![8 * n, lo] : Fin 2 → Nat) a + (![8, 512] : Fin 2 → Nat) a ≤ S248x1024.size a}
    {hc1 hc2 hc3 hc4 } {hr hk ha}
    (x : (Rect.unit (s := S248x1024) ![8 * n, lo] ![8, 512] inb15).shape.Idx) :
    (shapeCast S8x512 (addf (arg15.view.readAt (Elt Ideal) (Rect.unit (s := S248x1024) ![8 * n, lo] ![8, 512] inb15).toLoadRect G)
      (multiReduction .add [0] S8x512 (mulf (shapeCast S8x8x512 (arg11.view.readAt (Elt Ideal) (Rect.unit (s := S288x1024) o11 ![64, 512] inb11).toLoadRect X_arg11) hc2 : FVec Ideal S8x8x512 .f32)
        (shapeCast S8x8x512 (shapeCast S64x512 (arg18.view.readAt (Elt Ideal) (Rect.unit (s := S7x280x1024) o18 ![1, 64, 512] inb18).toLoadRect X_arg18) hc4) hc3)) 0x00000000#32 hr hk ha : FVec Ideal S8x512 .f32)) hc1 : FVec Ideal S8x512 .f32) x
      = accGrp W D U k ((Rect.unit (s := S248x1024) ![8 * n, lo] ![8, 512] inb15).emb x) := by
  subst e11 e18
  obtain ⟨s, l, rfl⟩ : ∃ (s : Fin 8) (l : Fin 512), x = ix2 s l := ⟨x 0, x 1, eq_ix2 x⟩
  refine (grpPlane _ _ _ _ _ _ _ _ _ _ s l).trans ?_
  have e0 : ((Rect.unit (s := S248x1024) ![8 * n, lo] ![8, 512] inb15).emb (ix2 s l) 0).val = 8 * n + s.val := Rect.idx_unit_val _ _ _ _ 0
  have e1 : ((Rect.unit (s := S248x1024) ![8 * n, lo] ![8, 512] inb15).emb (ix2 s l) 1).val = lo + l.val := Rect.idx_unit_val _ _ _ _ 1
  unfold accGrp grpSum
  rw [e0, e1, show (8 * n + s.val) % 8 = s.val by omega, show (8 * n + s.val) / 8 = n by omega]
  refine congrArg₂ (· + ·) (read2 h15 _ _ _ _) (Finset.sum_congr rfl fun q _ => congrArg₂ (· * ·) (read2 h11 _ _ _ _) ?_)
  refine (read3 (W := fun p a b => U (a + (p + 1)) b) h18 _ _ _ _ _).trans (congrFun (congrArg U ?_) _)
  show 64 * k + c + (q.val * 8 + s.val) + (p + 1) = 64 * k + (q.val * 8 + s.val) + (2 + n)
  omega

/-- A block whose shifted rows come from the buffer itself. -/
theorem dwPlain (arg11 : Memref sig .tc .vmem S288x1024 .f32) (arg12 : Memref sig .tc .vmem S288x1024 .f32) (arg15 : Memref sig .tc .vmem S248x1024 .f32)
    (X_arg11 : BufTy.Contents (Elt Ideal) arg11.view.ty) (X_arg12 : BufTy.Contents (Elt Ideal) arg12.view.ty) (G : BufTy.Contents (Elt Ideal) arg15.view.ty)
    (k : Nat) (W D U : Nat → Nat → EReal)
    (h15 : ∀ (a : Fin 248) (b : Fin 1024), arg15.view.read (Elt Ideal) G (ix2 a b) = W a.val b.val)
    (h11 : ∀ (a : Fin 288) (b : Fin 1024), arg11.view.read (Elt Ideal) X_arg11 (ix2 a b) = D a.val b.val)
    (h12 : ∀ (a : Fin 288) (b : Fin 1024), arg12.view.read (Elt Ideal) X_arg12 (ix2 a b) = U a.val b.val)
    (lo n c : Nat) {o11 : Fin 2 → Nat} {o12 : Fin 2 → Nat} (e11 : o11 = ![64 * k, lo]) (e12 : o12 = ![64 * k + c, lo])
    (hn : c = 2 + n) (hn' : n < 31)
    {inb11 : ∀ a, o11 a + (![64, 512] : Fin 2 → Nat) a ≤ S288x1024.size a} {inb12 : ∀ a, o12 a + (![64, 512] : Fin 2 → Nat) a ≤ S288x1024.size a}
    {inb15 : ∀ a, (![8 * n, lo] : Fin 2 → Nat) a + (![8, 512] : Fin 2 → Nat) a ≤ S248x1024.size a}
    {hc1 hc2 hc3 } {hr hk ha}
    (x : (Rect.unit (s := S248x1024) ![8 * n, lo] ![8, 512] inb15).shape.Idx) :
    (shapeCast S8x512 (addf (arg15.view.readAt (Elt Ideal) (Rect.unit (s := S248x1024) ![8 * n, lo] ![8, 512] inb15).toLoadRect G)
      (multiReduction .add [0] S8x512 (mulf (shapeCast S8x8x512 (arg11.view.readAt (Elt Ideal) (Rect.unit (s := S288x1024) o11 ![64, 512] inb11).toLoadRect X_arg11) hc2 : FVec Ideal S8x8x512 .f32)
        (shapeCast S8x8x512 (arg12.view.readAt (Elt Ideal) (Rect.unit (s := S288x1024) o12 ![64, 512] inb12).toLoadRect X_arg12) hc3)) 0x00000000#32 hr hk ha : FVec Ideal S8x512 .f32)) hc1 : FVec Ideal S8x512 .f32) x
      = accGrp W D U k ((Rect.unit (s := S248x1024) ![8 * n, lo] ![8, 512] inb15).emb x) := by
  subst e11 e12
  obtain ⟨s, l, rfl⟩ : ∃ (s : Fin 8) (l : Fin 512), x = ix2 s l := ⟨x 0, x 1, eq_ix2 x⟩
  refine (grpPlain _ _ _ _ _ _ _ _ _ s l).trans ?_
  have e0 : ((Rect.unit (s := S248x1024) ![8 * n, lo] ![8, 512] inb15).emb (ix2 s l) 0).val = 8 * n + s.val := Rect.idx_unit_val _ _ _ _ 0
  have e1 : ((Rect.unit (s := S248x1024) ![8 * n, lo] ![8, 512] inb15).emb (ix2 s l) 1).val = lo + l.val := Rect.idx_unit_val _ _ _ _ 1
  unfold accGrp grpSum
  rw [e0, e1, show (8 * n + s.val) % 8 = s.val by omega, show (8 * n + s.val) / 8 = n by omega]
  refine congrArg₂ (· + ·) (read2 h15 _ _ _ _) (Finset.sum_congr rfl fun q _ => congrArg₂ (· * ·) (read2 h11 _ _ _ _) ?_)
  refine (read2 h12 _ _ _ _).trans (congrFun (congrArg U ?_) _)
  show 64 * k + c + (q.val * 8 + s.val) = 64 * k + (q.val * 8 + s.val) + (2 + n)
  omega

/-- All blocks of one trip. -/
theorem trip2_pieces (𝒱 : Variants) (c : Dev nD) (bd : Option 𝒱.V) (i : grid0.Coords) (arg1 : Memref sig .tc .hbm S4096x8192 .bf16) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg5 : Memref sig .tc .vmem S32x3072 .bf16) (harg5 : arg5.IsWhole) (arg6 : Memref sig .tc .vmem S4x1x31x256 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x3072 .bf16) (harg9 : arg9.IsWhole) (arg10 : Memref sig .tc .vmem S40x1024 .f32) (harg10 : arg10.IsWhole) (arg11 : Memref sig .tc .vmem S288x1024 .f32) (harg11 : arg11.IsWhole) (arg12 : Memref sig .tc .vmem S288x1024 .f32) (harg12 : arg12.IsWhole) (arg13 : Memref sig .tc .vmem S256x1024 .f32) (harg13 : arg13.IsWhole) (arg14 : Memref sig .tc .vmem S248x1024 .f32) (harg14 : arg14.IsWhole) (arg15 : Memref sig .tc .vmem S248x1024 .f32) (harg15 : arg15.IsWhole) (arg16 : Memref sig .tc .vmem S8x1024 .f32) (harg16 : arg16.IsWhole) (arg17 : Memref sig .tc .vmem S7x280x1024 .f32) (harg17 : arg17.IsWhole) (arg18 : Memref sig .tc .vmem S7x280x1024 .f32) (harg18 : arg18.IsWhole)
    (X_arg11 : BufTy.Contents (Elt Ideal) arg11.view.ty) (X_arg12 : BufTy.Contents (Elt Ideal) arg12.view.ty) (X_arg18 : BufTy.Contents (Elt Ideal) arg18.view.ty) (G : BufTy.Contents (Elt Ideal) arg15.view.ty)
    (k : Fin k0_t2_loop.trips) (W D U : Nat → Nat → EReal)
    (h15 : ∀ (a : Fin 248) (b : Fin 1024), arg15.view.read (Elt Ideal) G (ix2 a b) = W a.val b.val)
    (h11 : ∀ (a : Fin 288) (b : Fin 1024), arg11.view.read (Elt Ideal) X_arg11 (ix2 a b) = D a.val b.val)
    (h12 : ∀ (a : Fin 288) (b : Fin 1024), arg12.view.read (Elt Ideal) X_arg12 (ix2 a b) = U a.val b.val)
    (h18 : ∀ (p : Fin 7) (a : Fin 280) (b : Fin 1024), arg18.view.read (Elt Ideal) X_arg18 (ix3 p a b) = U (a.val + (p.val + 1)) b.val) :
    View.PiecesOf (Val := Elt Ideal) (accGrp W D U k.val) (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg11 X_arg12 X_arg18 k G) := by
  unfold tripL_k0_t2 trip_k0_t2
  dsimp only
  refine ⟨dwPlain arg11 arg12 arg15 X_arg11 X_arg12 G k.val W D U h15 h11 h12 512 30 32 (off28_0 k) (off35_3 k) (by decide) (by decide), ?_⟩
  refine ⟨dwPlane arg11 arg15 arg18 X_arg11 G X_arg18 k.val W D U h15 h11 h18 512 29 6 24 (off28_0 k) (off34_3 k) (by decide) (by decide), ?_⟩
  refine ⟨dwPlane arg11 arg15 arg18 X_arg11 G X_arg18 k.val W D U h15 h11 h18 512 28 5 24 (off28_0 k) (off33_3 k) (by decide) (by decide), ?_⟩
  refine ⟨dwPlane arg11 arg15 arg18 X_arg11 G X_arg18 k.val W D U h15 h11 h18 512 27 4 24 (off28_0 k) (off32_3 k) (by decide) (by decide), ?_⟩
  refine ⟨dwPlane arg11 arg15 arg18 X_arg11 G X_arg18 k.val W D U h15 h11 h18 512 26 3 24 (off28_0 k) (off31_3 k) (by decide) (by decide), ?_⟩
  refine ⟨dwPlane arg11 arg15 arg18 X_arg11 G X_arg18 k.val W D U h15 h11 h18 512 25 2 24 (off28_0 k) (off30_3 k) (by decide) (by decide), ?_⟩
  refine ⟨dwPlane arg11 arg15 arg18 X_arg11 G X_arg18 k.val W D U h15 h11 h18 512 24 1 24 (off28_0 k) (off29_3 k) (by decide) (by decide), ?_⟩
  refine ⟨dwPlane arg11 arg15 arg18 X_arg11 G X_arg18 k.val W D U h15 h11 h18 512 23 0 24 (off28_0 k) (off36_2 k) (by decide) (by decide), ?_⟩
  refine ⟨dwPlain arg11 arg12 arg15 X_arg11 X_arg12 G k.val W D U h15 h11 h12 512 22 24 (off28_0 k) (off35_2 k) (by decide) (by decide), ?_⟩
  refine ⟨dwPlane arg11 arg15 arg18 X_arg11 G X_arg18 k.val W D U h15 h11 h18 512 21 6 16 (off28_0 k) (off34_2 k) (by decide) (by decide), ?_⟩
  refine ⟨dwPlane arg11 arg15 arg18 X_arg11 G X_arg18 k.val W D U h15 h11 h18 512 20 5 16 (off28_0 k) (off33_2 k) (by decide) (by decide), ?_⟩
  refine ⟨dwPlane arg11 arg15 arg18 X_arg11 G X_arg18 k.val W D U h15 h11 h18 512 19 4 16 (off28_0 k) (off32_2 k) (by decide) (by decide), ?_⟩
  refine ⟨dwPlane arg11 arg15 arg18 X_arg11 G X_arg18 k.val W D U h15 h11 h18 512 18 3 16 (off28_0 k) (off31_2 k) (by decide) (by decide), ?_⟩
  refine ⟨dwPlane arg11 arg15 arg18 X_arg11 G X_arg18 k.val W D U h15 h11 h18 512 17 2 16 (off28_0 k) (off30_2 k) (by decide) (by decide), ?_⟩
  refine ⟨dwPlane arg11 arg15 arg18 X_arg11 G X_arg18 k.val W D U h15 h11 h18 512 16 1 16 (off28_0 k) (off29_2 k) (by decide) (by decide), ?_⟩
  refine ⟨dwPlane arg11 arg15 arg18 X_arg11 G X_arg18 k.val W D U h15 h11 h18 512 15 0 16 (off28_0 k) (off36_1 k) (by decide) (by decide), ?_⟩
  refine ⟨dwPlain arg11 arg12 arg15 X_arg11 X_arg12 G k.val W D U h15 h11 h12 512 14 16 (off28_0 k) (off35_1 k) (by decide) (by decide), ?_⟩
  refine ⟨dwPlane arg11 arg15 arg18 X_arg11 G X_arg18 k.val W D U h15 h11 h18 512 13 6 8 (off28_0 k) (off34_1 k) (by decide) (by decide), ?_⟩
  refine ⟨dwPlane arg11 arg15 arg18 X_arg11 G X_arg18 k.val W D U h15 h11 h18 512 12 5 8 (off28_0 k) (off33_1 k) (by decide) (by decide), ?_⟩
  refine ⟨dwPlane arg11 arg15 arg18 X_arg11 G X_arg18 k.val W D U h15 h11 h18 512 11 4 8 (off28_0 k) (off32_1 k) (by decide) (by decide), ?_⟩
  refine ⟨dwPlane arg11 arg15 arg18 X_arg11 G X_arg18 k.val W D U h15 h11 h18 512 10 3 8 (off28_0 k) (off31_1 k) (by decide) (by decide), ?_⟩
  refine ⟨dwPlane arg11 arg15 arg18 X_arg11 G X_arg18 k.val W D U h15 h11 h18 512 9 2 8 (off28_0 k) (off30_1 k) (by decide) (by decide), ?_⟩
  refine ⟨dwPlane arg11 arg15 arg18 X_arg11 G X_arg18 k.val W D U h15 h11 h18 512 8 1 8 (off28_0 k) (off29_1 k) (by decide) (by decide), ?_⟩
  refine ⟨dwPlane arg11 arg15 arg18 X_arg11 G X_arg18 k.val W D U h15 h11 h18 512 7 0 8 (off28_0 k) (off36_0 k) (by decide) (by decide), ?_⟩
  refine ⟨dwPlain arg11 arg12 arg15 X_arg11 X_arg12 G k.val W D U h15 h11 h12 512 6 8 (off28_0 k) (off35_0 k) (by decide) (by decide), ?_⟩
  refine ⟨dwPlane arg11 arg15 arg18 X_arg11 G X_arg18 k.val W D U h15 h11 h18 512 5 6 0 (off28_0 k) (off34_0 k) (by decide) (by decide), ?_⟩
  refine ⟨dwPlane arg11 arg15 arg18 X_arg11 G X_arg18 k.val W D U h15 h11 h18 512 4 5 0 (off28_0 k) (off33_0 k) (by decide) (by decide), ?_⟩
  refine ⟨dwPlane arg11 arg15 arg18 X_arg11 G X_arg18 k.val W D U h15 h11 h18 512 3 4 0 (off28_0 k) (off32_0 k) (by decide) (by decide), ?_⟩
  refine ⟨dwPlane arg11 arg15 arg18 X_arg11 G X_arg18 k.val W D U h15 h11 h18 512 2 3 0 (off28_0 k) (off31_0 k) (by decide) (by decide), ?_⟩
  refine ⟨dwPlane arg11 arg15 arg18 X_arg11 G X_arg18 k.val W D U h15 h11 h18 512 1 2 0 (off28_0 k) (off30_0 k) (by decide) (by decide), ?_⟩
  refine ⟨dwPlane arg11 arg15 arg18 X_arg11 G X_arg18 k.val W D U h15 h11 h18 512 0 1 0 (off28_0 k) (off29_0 k) (by decide) (by decide), ?_⟩
  refine ⟨dwPlain arg11 arg12 arg15 X_arg11 X_arg12 G k.val W D U h15 h11 h12 0 30 32 (off19_0 k) (off26_3 k) (by decide) (by decide), ?_⟩
  refine ⟨dwPlane arg11 arg15 arg18 X_arg11 G X_arg18 k.val W D U h15 h11 h18 0 29 6 24 (off19_0 k) (off25_3 k) (by decide) (by decide), ?_⟩
  refine ⟨dwPlane arg11 arg15 arg18 X_arg11 G X_arg18 k.val W D U h15 h11 h18 0 28 5 24 (off19_0 k) (off24_3 k) (by decide) (by decide), ?_⟩
  refine ⟨dwPlane arg11 arg15 arg18 X_arg11 G X_arg18 k.val W D U h15 h11 h18 0 27 4 24 (off19_0 k) (off23_3 k) (by decide) (by decide), ?_⟩
  refine ⟨dwPlane arg11 arg15 arg18 X_arg11 G X_arg18 k.val W D U h15 h11 h18 0 26 3 24 (off19_0 k) (off22_3 k) (by decide) (by decide), ?_⟩
  refine ⟨dwPlane arg11 arg15 arg18 X_arg11 G X_arg18 k.val W D U h15 h11 h18 0 25 2 24 (off19_0 k) (off21_3 k) (by decide) (by decide), ?_⟩
  refine ⟨dwPlane arg11 arg15 arg18 X_arg11 G X_arg18 k.val W D U h15 h11 h18 0 24 1 24 (off19_0 k) (off20_3 k) (by decide) (by decide), ?_⟩
  refine ⟨dwPlane arg11 arg15 arg18 X_arg11 G X_arg18 k.val W D U h15 h11 h18 0 23 0 24 (off19_0 k) (off27_2 k) (by decide) (by decide), ?_⟩
  refine ⟨dwPlain arg11 arg12 arg15 X_arg11 X_arg12 G k.val W D U h15 h11 h12 0 22 24 (off19_0 k) (off26_2 k) (by decide) (by decide), ?_⟩
  refine ⟨dwPlane arg11 arg15 arg18 X_arg11 G X_arg18 k.val W D U h15 h11 h18 0 21 6 16 (off19_0 k) (off25_2 k) (by decide) (by decide), ?_⟩
  refine ⟨dwPlane arg11 arg15 arg18 X_arg11 G X_arg18 k.val W D U h15 h11 h18 0 20 5 16 (off19_0 k) (off24_2 k) (by decide) (by decide), ?_⟩
  refine ⟨dwPlane arg11 arg15 arg18 X_arg11 G X_arg18 k.val W D U h15 h11 h18 0 19 4 16 (off19_0 k) (off23_2 k) (by decide) (by decide), ?_⟩
  refine ⟨dwPlane arg11 arg15 arg18 X_arg11 G X_arg18 k.val W D U h15 h11 h18 0 18 3 16 (off19_0 k) (off22_2 k) (by decide) (by decide), ?_⟩
  refine ⟨dwPlane arg11 arg15 arg18 X_arg11 G X_arg18 k.val W D U h15 h11 h18 0 17 2 16 (off19_0 k) (off21_2 k) (by decide) (by decide), ?_⟩
  refine ⟨dwPlane arg11 arg15 arg18 X_arg11 G X_arg18 k.val W D U h15 h11 h18 0 16 1 16 (off19_0 k) (off20_2 k) (by decide) (by decide), ?_⟩
  refine ⟨dwPlane arg11 arg15 arg18 X_arg11 G X_arg18 k.val W D U h15 h11 h18 0 15 0 16 (off19_0 k) (off27_1 k) (by decide) (by decide), ?_⟩
  refine ⟨dwPlain arg11 arg12 arg15 X_arg11 X_arg12 G k.val W D U h15 h11 h12 0 14 16 (off19_0 k) (off26_1 k) (by decide) (by decide), ?_⟩
  refine ⟨dwPlane arg11 arg15 arg18 X_arg11 G X_arg18 k.val W D U h15 h11 h18 0 13 6 8 (off19_0 k) (off25_1 k) (by decide) (by decide), ?_⟩
  refine ⟨dwPlane arg11 arg15 arg18 X_arg11 G X_arg18 k.val W D U h15 h11 h18 0 12 5 8 (off19_0 k) (off24_1 k) (by decide) (by decide), ?_⟩
  refine ⟨dwPlane arg11 arg15 arg18 X_arg11 G X_arg18 k.val W D U h15 h11 h18 0 11 4 8 (off19_0 k) (off23_1 k) (by decide) (by decide), ?_⟩
  refine ⟨dwPlane arg11 arg15 arg18 X_arg11 G X_arg18 k.val W D U h15 h11 h18 0 10 3 8 (off19_0 k) (off22_1 k) (by decide) (by decide), ?_⟩
  refine ⟨dwPlane arg11 arg15 arg18 X_arg11 G X_arg18 k.val W D U h15 h11 h18 0 9 2 8 (off19_0 k) (off21_1 k) (by decide) (by decide), ?_⟩
  refine ⟨dwPlane arg11 arg15 arg18 X_arg11 G X_arg18 k.val W D U h15 h11 h18 0 8 1 8 (off19_0 k) (off20_1 k) (by decide) (by decide), ?_⟩
  refine ⟨dwPlane arg11 arg15 arg18 X_arg11 G X_arg18 k.val W D U h15 h11 h18 0 7 0 8 (off19_0 k) (off27_0 k) (by decide) (by decide), ?_⟩
  refine ⟨dwPlain arg11 arg12 arg15 X_arg11 X_arg12 G k.val W D U h15 h11 h12 0 6 8 (off19_0 k) (off26_0 k) (by decide) (by decide), ?_⟩
  refine ⟨dwPlane arg11 arg15 arg18 X_arg11 G X_arg18 k.val W D U h15 h11 h18 0 5 6 0 (off19_0 k) (off25_0 k) (by decide) (by decide), ?_⟩
  refine ⟨dwPlane arg11 arg15 arg18 X_arg11 G X_arg18 k.val W D U h15 h11 h18 0 4 5 0 (off19_0 k) (off24_0 k) (by decide) (by decide), ?_⟩
  refine ⟨dwPlane arg11 arg15 arg18 X_arg11 G X_arg18 k.val W D U h15 h11 h18 0 3 4 0 (off19_0 k) (off23_0 k) (by decide) (by decide), ?_⟩
  refine ⟨dwPlane arg11 arg15 arg18 X_arg11 G X_arg18 k.val W D U h15 h11 h18 0 2 3 0 (off19_0 k) (off22_0 k) (by decide) (by decide), ?_⟩
  refine ⟨dwPlane arg11 arg15 arg18 X_arg11 G X_arg18 k.val W D U h15 h11 h18 0 1 2 0 (off19_0 k) (off21_0 k) (by decide) (by decide), ?_⟩
  refine ⟨dwPlane arg11 arg15 arg18 X_arg11 G X_arg18 k.val W D U h15 h11 h18 0 0 1 0 (off19_0 k) (off20_0 k) (by decide) (by decide), ?_⟩
  trivial

end Cert.KernelIdeal.Gen
-- ==== Proof.Fold.lean ====
/-
The two counted loops as a whole: what the buffers they write hold after all their trips.
-/
module

public import proofs.«01_k».proof.Proof.Taps
public import proofs.«01_k».proof.Proof.Dw
public import Idealize.ShloMosaic.Lib.Ring

@[expose] public section

set_option maxRecDepth 65536
set_option maxHeartbeats 8000000

noncomputable section

namespace Cert.KernelIdeal.Gen

open Idealize.ShloMosaic Idealize.ShloMosaic.TcCoe Idealize.ShloMosaic.Tactic

/-- A list whose pieces are all pieces of one function, put before another list with the same property. -/
theorem piecesOf_append {s : Shape} {e : EltTy} {Val : EltTy → Type} {G : s.Idx → Val e} :
    ∀ {L L' : List (View.Piece Val s e)}, View.PiecesOf G L → View.PiecesOf G L' → View.PiecesOf G (L ++ L')
  | [], _, _, h => h
  | _ :: _, _, h, h' => ⟨h.1, piecesOf_append h.2 h'⟩

/-- The number of trips of the first loop. -/
theorem trips1 : Scf.trips k0_t1_loop.lb k0_t1_loop.ub k0_t1_loop.st = 4 := rfl

/-- The number of trips of the second loop. -/
theorem trips2 : Scf.trips k0_t2_loop.lb k0_t2_loop.ub k0_t2_loop.st = 4 := rfl

/-- The four trips of the first loop write one function. -/
theorem pb1_pieces (𝒱 : Variants) (c : Dev nD) (bd : Option 𝒱.V) (i : grid0.Coords) (arg1 : Memref sig .tc .hbm S4096x8192 .bf16) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg5 : Memref sig .tc .vmem S32x3072 .bf16) (harg5 : arg5.IsWhole) (arg6 : Memref sig .tc .vmem S4x1x31x256 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x3072 .bf16) (harg9 : arg9.IsWhole) (arg10 : Memref sig .tc .vmem S40x1024 .f32) (harg10 : arg10.IsWhole) (arg11 : Memref sig .tc .vmem S288x1024 .f32) (harg11 : arg11.IsWhole) (arg12 : Memref sig .tc .vmem S288x1024 .f32) (harg12 : arg12.IsWhole) (arg13 : Memref sig .tc .vmem S256x1024 .f32) (harg13 : arg13.IsWhole) (arg14 : Memref sig .tc .vmem S248x1024 .f32) (harg14 : arg14.IsWhole) (arg15 : Memref sig .tc .vmem S248x1024 .f32) (harg15 : arg15.IsWhole) (arg16 : Memref sig .tc .vmem S8x1024 .f32) (harg16 : arg16.IsWhole) (arg17 : Memref sig .tc .vmem S7x280x1024 .f32) (harg17 : arg17.IsWhole) (arg18 : Memref sig .tc .vmem S7x280x1024 .f32) (harg18 : arg18.IsWhole) (v118 : FVec Ideal S256x1024 .f32)
    (X_arg11 : BufTy.Contents (Elt Ideal) arg11.view.ty) (X_arg14 : BufTy.Contents (Elt Ideal) arg14.view.ty) (X_arg17 : BufTy.Contents (Elt Ideal) arg17.view.ty)
    (W D : Nat → Nat → EReal)
    (h14 : ∀ (a : Fin 248) (b : Fin 1024), arg14.view.read (Elt Ideal) X_arg14 (ix2 a b) = W a.val b.val)
    (h11 : ∀ (a : Fin 288) (b : Fin 1024), arg11.view.read (Elt Ideal) X_arg11 (ix2 a b) = D a.val b.val)
    (h17 : ∀ (p : Fin 7) (a : Fin 280) (b : Fin 1024), arg17.view.read (Elt Ideal) X_arg17 (ix3 p a b) = D (a.val + (p.val + 1)) b.val) :
    ∀ n, n ≤ 4 → View.PiecesOf (Val := Elt Ideal) (e := .f32) (fun y : S256x1024.Idx => tapSum W D (y 0).val (y 1).val)
      (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v118 X_arg11 X_arg14 X_arg17 n)
  | 0, _ => trivial
  | n + 1, hn => by
    have ih := pb1_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v118 X_arg11 X_arg14 X_arg17 W D h14 h11 h17 n (by omega)
    have hs := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v118 X_arg11 X_arg14 X_arg17 (⟨n, hn⟩ : Fin k0_t1_loop.trips)
    rw [show (⟨n, hn⟩ : Fin k0_t1_loop.trips).val = n from rfl] at hs
    rw [hs]
    refine piecesOf_append ?_ ih
    have hk : k0_off9 (⟨n, hn⟩ : Fin k0_t1_loop.trips) = ![64 * n, 0] := k0_off9_eq _
    have hk' : k0_off18 (⟨n, hn⟩ : Fin k0_t1_loop.trips) = ![64 * n, 512] := k0_off18_eq _
    unfold tripL_k0_t1 trip_k0_t1
    dsimp only
    refine ⟨fun x => ?_, fun x => ?_, trivial⟩
    · obtain ⟨r, l, rfl⟩ : ∃ (r : Fin 64) (l : Fin 512), x = ix2 r l := ⟨x 0, x 1, eq_ix2 x⟩
      refine (tapBlock1 arg11 arg14 arg17 X_arg11 X_arg14 X_arg17 _ W D h14 h11 h17 r l).trans ?_
      refine congrArg₂ (tapSum W D) ?_ ?_
      · refine Eq.symm (Eq.trans (Rect.idx_unit_val _ _ (k0_off18_inb _) _ 0) ?_)
        exact congrArg (· + r.val) (congrFun hk' 0)
      · refine Eq.symm (Eq.trans (Rect.idx_unit_val _ _ (k0_off18_inb _) _ 1) ?_)
        exact congrArg (· + l.val) (congrFun hk' 1)
    · obtain ⟨r, l, rfl⟩ : ∃ (r : Fin 64) (l : Fin 512), x = ix2 r l := ⟨x 0, x 1, eq_ix2 x⟩
      refine (tapBlock0 arg11 arg14 arg17 X_arg11 X_arg14 X_arg17 _ W D h14 h11 h17 r l).trans ?_
      refine congrArg₂ (tapSum W D) ?_ ?_
      · refine Eq.symm (Eq.trans (Rect.idx_unit_val _ _ (k0_off9_inb _) _ 0) ?_)
        exact congrArg (· + r.val) (congrFun hk 0)
      · refine Eq.symm (Eq.trans (Rect.idx_unit_val _ _ (k0_off9_inb _) _ 1) ?_)
        exact congrArg (· + l.val) (congrFun hk 1)

/-- What the first loop leaves, at a row and lane. -/
theorem pb1_canon (𝒱 : Variants) (c : Dev nD) (bd : Option 𝒱.V) (i : grid0.Coords) (arg1 : Memref sig .tc .hbm S4096x8192 .bf16) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg5 : Memref sig .tc .vmem S32x3072 .bf16) (harg5 : arg5.IsWhole) (arg6 : Memref sig .tc .vmem S4x1x31x256 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x3072 .bf16) (harg9 : arg9.IsWhole) (arg10 : Memref sig .tc .vmem S40x1024 .f32) (harg10 : arg10.IsWhole) (arg11 : Memref sig .tc .vmem S288x1024 .f32) (harg11 : arg11.IsWhole) (arg12 : Memref sig .tc .vmem S288x1024 .f32) (harg12 : arg12.IsWhole) (arg13 : Memref sig .tc .vmem S256x1024 .f32) (harg13 : arg13.IsWhole) (arg14 : Memref sig .tc .vmem S248x1024 .f32) (harg14 : arg14.IsWhole) (arg15 : Memref sig .tc .vmem S248x1024 .f32) (harg15 : arg15.IsWhole) (arg16 : Memref sig .tc .vmem S8x1024 .f32) (harg16 : arg16.IsWhole) (arg17 : Memref sig .tc .vmem S7x280x1024 .f32) (harg17 : arg17.IsWhole) (arg18 : Memref sig .tc .vmem S7x280x1024 .f32) (harg18 : arg18.IsWhole) (v118 : FVec Ideal S256x1024 .f32)
    (X_arg11 : BufTy.Contents (Elt Ideal) arg11.view.ty) (X_arg14 : BufTy.Contents (Elt Ideal) arg14.view.ty) (X_arg17 : BufTy.Contents (Elt Ideal) arg17.view.ty)
    (W D : Nat → Nat → EReal)
    (h14 : ∀ (a : Fin 248) (b : Fin 1024), arg14.view.read (Elt Ideal) X_arg14 (ix2 a b) = W a.val b.val)
    (h11 : ∀ (a : Fin 288) (b : Fin 1024), arg11.view.read (Elt Ideal) X_arg11 (ix2 a b) = D a.val b.val)
    (h17 : ∀ (p : Fin 7) (a : Fin 280) (b : Fin 1024), arg17.view.read (Elt Ideal) X_arg17 (ix3 p a b) = D (a.val + (p.val + 1)) b.val)
    (r : Fin 256) (l : Fin 1024) :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v118 X_arg11 X_arg14 X_arg17 (Scf.trips k0_t1_loop.lb k0_t1_loop.ub k0_t1_loop.st)) (ix2 r l)
      = tapSum W D r.val l.val := by
  have hc : ∃ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v118 X_arg11 X_arg14 X_arg17 (Scf.trips k0_t1_loop.lb k0_t1_loop.ub k0_t1_loop.st), ix2 r l ∈ p.1.set :=
    View.cover_of_tiledL (s := S256x1024) _ S64x512.size (by sl_kernel_rfl) _
  have h := View.canon_append_of_piecesOf _ [] _ (pb1_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v118 X_arg11 X_arg14 X_arg17 W D h14 h11 h17 _ (le_of_eq trips1)) (ix2 r l) hc
  rw [List.append_nil] at h
  exact h

/-- What the second loop leaves after `n` trips, at a row and lane. -/
theorem pb2_read (𝒱 : Variants) (c : Dev nD) (bd : Option 𝒱.V) (i : grid0.Coords) (arg1 : Memref sig .tc .hbm S4096x8192 .bf16) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg5 : Memref sig .tc .vmem S32x3072 .bf16) (harg5 : arg5.IsWhole) (arg6 : Memref sig .tc .vmem S4x1x31x256 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x3072 .bf16) (harg9 : arg9.IsWhole) (arg10 : Memref sig .tc .vmem S40x1024 .f32) (harg10 : arg10.IsWhole) (arg11 : Memref sig .tc .vmem S288x1024 .f32) (harg11 : arg11.IsWhole) (arg12 : Memref sig .tc .vmem S288x1024 .f32) (harg12 : arg12.IsWhole) (arg13 : Memref sig .tc .vmem S256x1024 .f32) (harg13 : arg13.IsWhole) (arg14 : Memref sig .tc .vmem S248x1024 .f32) (harg14 : arg14.IsWhole) (arg15 : Memref sig .tc .vmem S248x1024 .f32) (harg15 : arg15.IsWhole) (arg16 : Memref sig .tc .vmem S8x1024 .f32) (harg16 : arg16.IsWhole) (arg17 : Memref sig .tc .vmem S7x280x1024 .f32) (harg17 : arg17.IsWhole) (arg18 : Memref sig .tc .vmem S7x280x1024 .f32) (harg18 : arg18.IsWhole)
    (X_arg11 : BufTy.Contents (Elt Ideal) arg11.view.ty) (X_arg12 : BufTy.Contents (Elt Ideal) arg12.view.ty) (X_arg18 : BufTy.Contents (Elt Ideal) arg18.view.ty) (G : BufTy.Contents (Elt Ideal) arg15.view.ty)
    (W D U : Nat → Nat → EReal)
    (h15 : ∀ (a : Fin 248) (b : Fin 1024), arg15.view.read (Elt Ideal) G (ix2 a b) = W a.val b.val)
    (h11 : ∀ (a : Fin 288) (b : Fin 1024), arg11.view.read (Elt Ideal) X_arg11 (ix2 a b) = D a.val b.val)
    (h12 : ∀ (a : Fin 288) (b : Fin 1024), arg12.view.read (Elt Ideal) X_arg12 (ix2 a b) = U a.val b.val)
    (h18 : ∀ (p : Fin 7) (a : Fin 280) (b : Fin 1024), arg18.view.read (Elt Ideal) X_arg18 (ix3 p a b) = U (a.val + (p.val + 1)) b.val) :
    ∀ n, n ≤ 4 → ∀ (a : Fin 248) (b : Fin 1024),
      arg15.view.read (Elt Ideal) (arg15.view.writes (Elt Ideal) G (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg11 X_arg12 X_arg18 G n)) (ix2 a b)
        = W a.val b.val + ∑ j ∈ Finset.range n, grpSum D U j a.val b.val
  | 0, _, a, b => by
    rw [Finset.sum_range_zero, add_zero]
    exact h15 a b
  | n + 1, hn, a, b => by
    have ih := pb2_read 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg11 X_arg12 X_arg18 G W D U h15 h11 h12 h18 n (by omega)
    have hs := pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg11 X_arg12 X_arg18 G (⟨n, hn⟩ : Fin k0_t2_loop.trips)
    rw [show (⟨n, hn⟩ : Fin k0_t2_loop.trips).val = n from rfl] at hs
    have hp := trip2_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg11 X_arg12 X_arg18
      (arg15.view.writes (Elt Ideal) G (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg11 X_arg12 X_arg18 G n)) (⟨n, hn⟩ : Fin k0_t2_loop.trips)
      (fun a b => W a b + ∑ j ∈ Finset.range n, grpSum D U j a b) D U ih h11 h12 h18
    have hc := View.cover_of_tiledL (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg11 X_arg12 X_arg18 (⟨n, hn⟩ : Fin k0_t2_loop.trips)
      (arg15.view.writes (Elt Ideal) G (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg11 X_arg12 X_arg18 G n))) S8x512.size (by sl_kernel_rfl) (ix2 a b)
    have h := View.canon_append_of_piecesOf _ [] _ hp (ix2 a b) hc
    rw [List.append_nil] at h
    rw [hs, View.writes_append, View.read_writes_apply_eq_canon _ _ _ _ hc, h, Finset.sum_range_succ, ← add_assoc]
    rfl

end Cert.KernelIdeal.Gen
-- ==== Proof.Rows.lean ====
/-
The row-wise mathematics of the module's backward pass, as functions of one row: `y` the convolution's output, `g`, `b` the
norm's scale and shift, `da` the gradient arriving, `gc` the gate's input.
-/
module

public import Idealize.ShloMosaic.Lib.Pointwise

@[expose] public section

noncomputable section

namespace Cert.Rows

open Idealize.ShloMosaic

/-- 1024, 1, -1/2 and the norm's small constant, as the programs spell them. -/
def n1024 : EReal := Ideal.ofBits .f32 0x44800000#32
def one : EReal := 1
def mhalf : EReal := Ideal.ofBits .f32 0xBF000000#32
def eps : EReal := Ideal.ofBits .f32 0x358637BD#32

/-- The mean of a row. -/
def mean (y : Nat → EReal) : EReal := Ideal.div (∑ x : Fin 1024, y x.val) n1024
/-- The deviation from the mean. -/
def dev (y : Nat → EReal) (l : Nat) : EReal := y l - mean y
/-- The variance with the small constant added. -/
def vare (y : Nat → EReal) : EReal := Ideal.div (∑ x : Fin 1024, dev y x.val * dev y x.val) n1024 + eps
/-- The normalised row. -/
def nrm (y : Nat → EReal) (l : Nat) : EReal := dev y l * Ideal.rsqrt (vare y)
/-- The norm's output. -/
def ln (y g b : Nat → EReal) (l : Nat) : EReal := nrm y l * g l + b l
/-- The gradient times the gate. -/
def gated (da gc : Nat → EReal) (l : Nat) : EReal := da l * (gc l * Ideal.logistic (gc l))
/-- The gradient at the norm's output. -/
def dln (y g b da gc : Nat → EReal) (l : Nat) : EReal :=
  gated da gc l * Ideal.logistic (ln y g b l)
    + ln y g b l * gated da gc l * (Ideal.logistic (ln y g b l) * (one - Ideal.logistic (ln y g b l)))
/-- The factor the variance's gradient has on the deviation. -/
def fac (y g b da gc : Nat → EReal) : EReal :=
  Ideal.div ((∑ x : Fin 1024, dev y x.val * (dln y g b da gc x.val * g x.val)) * (mhalf * Ideal.div (Ideal.rsqrt (vare y)) (vare y))) n1024
/-- The gradient at the deviation. -/
def ddev (y g b da gc : Nat → EReal) (l : Nat) : EReal :=
  dln y g b da gc l * g l * Ideal.rsqrt (vare y) + dev y l * fac y g b da gc + fac y g b da gc * dev y l
/-- The gradient at the convolution's output. -/
def dy (y g b da gc : Nat → EReal) (l : Nat) : EReal :=
  ddev y g b da gc l + Ideal.div (∑ x : Fin 1024, -ddev y g b da gc x.val) n1024
/-- The gradient at the gate's input. -/
def dgate (y g b da gc : Nat → EReal) (l : Nat) : EReal :=
  ln y g b l * Ideal.logistic (ln y g b l) * da l * Ideal.logistic (gc l)
    + gc l * (ln y g b l * Ideal.logistic (ln y g b l) * da l) * (Ideal.logistic (gc l) * (one - Ideal.logistic (gc l)))

end Cert.Rows
-- ==== Proof.Tile.lean ====
/-
What one grid point of the kernel computes, as functions of the coordinates within its block: the gradient through the layer norm and the gate, the two tiles
with their halos, the three column blocks of the projection's gradient.
-/
module

public import proofs.«01_k».proof.Proof.Rows
public import proofs.«01_k».proof.Proof.Taps

@[expose] public section

noncomputable section

namespace Cert.Tile

open Cert.Rows Idealize.ShloMosaic

/-- The gradient at the convolution's output. -/
def dyT (X0 X1 X2 : Nat → Nat → EReal) (X5 X6 : Nat → Nat → Nat → EReal) (r l : Nat) : EReal :=
  dy (X1 r) (X5 0 0) (X6 0 0) (X0 r) (fun l => X2 r (2048 + l)) l

/-- The gradient at the layer norm's output. -/
def dlnT (X0 X1 X2 : Nat → Nat → EReal) (X5 X6 : Nat → Nat → Nat → EReal) (r l : Nat) : EReal :=
  dln (X1 r) (X5 0 0) (X6 0 0) (X0 r) (fun l => X2 r (2048 + l)) l

/-- The normalised row times that gradient. -/
def gainT (X0 X1 X2 : Nat → Nat → EReal) (X5 X6 : Nat → Nat → Nat → EReal) (r l : Nat) : EReal :=
  nrm (X1 r) l * dlnT X0 X1 X2 X5 X6 r l

/-- The gradient of the output gate. -/
def gateT (X0 X1 X2 : Nat → Nat → EReal) (X5 X6 : Nat → Nat → Nat → EReal) (r l : Nat) : EReal :=
  dgate (X1 r) (X5 0 0) (X6 0 0) (X0 r) (fun l => X2 r (2048 + l)) l

/-- A tile of 256 rows followed by rows of what comes after it. -/
def follow (T P : Nat → Nat → EReal) (a l : Nat) : EReal := if a < 256 then T a l else P (a - 256) l

/-- The gated input, from its two column blocks. -/
def glu (X : Nat → Nat → EReal) (a l : Nat) : EReal := X a l * Ideal.logistic (X a (1024 + l))

/-- A tile of 256 rows of the gated input preceded by 32 rows of what comes before it, or by zeros where nothing does. -/
def precede (hal : Bool) (X2 X3 : Nat → Nat → EReal) (a l : Nat) : EReal :=
  if a < 32 then (if hal then glu X3 a l else 0) else glu X2 (a - 32) l

/-- The three column blocks of the gradient of the projection, given the gradient `du` at the gated input and `dg` at the output gate. -/
def dpT (du dg X2 : Nat → Nat → EReal) (r j : Nat) : EReal :=
  if j < 1024 then du r j * Ideal.logistic (X2 r (1024 + j))
  else if j < 2048 then du r (j - 1024) * X2 r (j - 1024) * Ideal.logistic (X2 r j) * (one - Ideal.logistic (X2 r j))
  else dg r (j - 2048)

/-- Three rows of column sums added to what is kept. -/
def accT (X0 X1 X2 : Nat → Nat → EReal) (X5 X6 : Nat → Nat → Nat → EReal) (G : Nat → Nat → EReal) (a l : Nat) : EReal :=
  if a = 2 then G 2 l + ∑ r : Fin 256, dlnT X0 X1 X2 X5 X6 r.val l
  else if a = 1 then G 1 l + ∑ r : Fin 256, gainT X0 X1 X2 X5 X6 r.val l
  else if a = 0 then G 0 l + ∑ r : Fin 256, dyT X0 X1 X2 X5 X6 r.val l
  else G a l

/-- What the last grid point hands on: the eight partial sums of every tap added up, then the three column sums. -/
def sgT (A V : Nat → Nat → EReal) (a l : Nat) : EReal :=
  if a < 31 then ∑ s : Fin 8, A (8 * a + s.val) l
  else if 32 ≤ a ∧ a < 35 then V (a - 32) l else 0

end Cert.Tile
-- ==== Proof.Pieces.lean ====
/-
Buffers written by lists of rectangles that are all pieces of one function of the coordinates: what is read back.
-/
module

public import proofs.«01_k».proof.Proof.Offs
public import Idealize.ShloMosaic.Lib.Pipeline.ReadBack
public import Idealize.ShloMosaic.Lib.Ring
public import Idealize.ShloMosaic.Lib.WritesUnit

@[expose] public section

set_option maxRecDepth 16384

noncomputable section

namespace Cert.KernelIdeal.Gen

open Idealize.ShloMosaic Idealize.ShloMosaic.TcCoe Idealize.ShloMosaic.Tactic

/-- A function of two coordinates as one of a two-axis index. -/
def at2 {n0 n1 : Nat} {α : Type} (G : Nat → Nat → α) (z : (⟨2, ![n0, n1]⟩ : Shape).Idx) : α := G (z 0).val (z 1).val

/-- A function of three coordinates as one of a three-axis index. -/
def at3 {n0 n1 n2 : Nat} {α : Type} (G : Nat → Nat → Nat → α) (z : (⟨3, ![n0, n1, n2]⟩ : Shape).Idx) : α := G (z 0).val (z 1).val (z 2).val

/-- A rectangle's payload is a piece of the function when it is at the payload's own coordinates. -/
theorem piece2 {n0 n1 m0 m1 : Nat} {α : Type} (G : Nat → Nat → α) {off : Fin 2 → Nat}
    {inb : ∀ a, off a + (![m0, m1] : Fin 2 → Nat) a ≤ (⟨2, ![n0, n1]⟩ : Shape).size a}
    {w : (Rect.unit (s := ⟨2, ![n0, n1]⟩) off (![m0, m1] : Fin 2 → Nat) inb).shape.Idx → α}
    (h : ∀ (x : Fin m0) (y : Fin m1), w (ix2 x y) = G (off 0 + x.val) (off 1 + y.val)) :
    ∀ x, w x = at2 G ((Rect.unit (s := ⟨2, ![n0, n1]⟩) off (![m0, m1] : Fin 2 → Nat) inb).emb x) := by
  intro x
  obtain ⟨a, b, rfl⟩ : ∃ (a : Fin m0) (b : Fin m1), x = ix2 a b := ⟨x 0, x 1, eq_ix2 x⟩
  refine (h a b).trans (congrArg₂ G ?_ ?_)
  · exact (Rect.idx_unit_val (s := ⟨2, ![n0, n1]⟩) off (![m0, m1] : Fin 2 → Nat) inb (ix2 a b) (0 : Fin 2)).symm
  · exact (Rect.idx_unit_val (s := ⟨2, ![n0, n1]⟩) off (![m0, m1] : Fin 2 → Nat) inb (ix2 a b) (1 : Fin 2)).symm

/-- The same over three axes. -/
theorem piece3 {n0 n1 n2 m0 m1 m2 : Nat} {α : Type} (G : Nat → Nat → Nat → α) {off : Fin 3 → Nat}
    {inb : ∀ a, off a + (![m0, m1, m2] : Fin 3 → Nat) a ≤ (⟨3, ![n0, n1, n2]⟩ : Shape).size a}
    {w : (Rect.unit (s := ⟨3, ![n0, n1, n2]⟩) off (![m0, m1, m2] : Fin 3 → Nat) inb).shape.Idx → α}
    (h : ∀ (p : Fin m0) (x : Fin m1) (y : Fin m2), w (ix3 p x y) = G (off 0 + p.val) (off 1 + x.val) (off 2 + y.val)) :
    ∀ x, w x = at3 G ((Rect.unit (s := ⟨3, ![n0, n1, n2]⟩) off (![m0, m1, m2] : Fin 3 → Nat) inb).emb x) := by
  intro x
  obtain ⟨p, a, b, rfl⟩ : ∃ (p : Fin m0) (a : Fin m1) (b : Fin m2), x = ix3 p a b := ⟨x 0, x 1, x 2, eq_ix3 x⟩
  have e0 := (Rect.idx_unit_val (s := ⟨3, ![n0, n1, n2]⟩) off (![m0, m1, m2] : Fin 3 → Nat) inb (ix3 p a b) (0 : Fin 3)).symm
  have e1 := (Rect.idx_unit_val (s := ⟨3, ![n0, n1, n2]⟩) off (![m0, m1, m2] : Fin 3 → Nat) inb (ix3 p a b) (1 : Fin 3)).symm
  have e2 := (Rect.idx_unit_val (s := ⟨3, ![n0, n1, n2]⟩) off (![m0, m1, m2] : Fin 3 → Nat) inb (ix3 p a b) (2 : Fin 3)).symm
  refine (h p a b).trans ?_
  exact (congrFun (congrFun (congrArg G e0) _) _).trans ((congrFun (congrArg _ e1) _).trans (congrArg _ e2))

variable {κ : Kind} {sp : Space} {e : EltTy}

/-- What a covering list of such pieces reads back as. -/
theorem readPieces2 {n0 n1 : Nat} (v : View sig κ sp ⟨2, ![n0, n1]⟩ e) (f : v.ty.Contents (Elt Ideal)) {G : Nat → Nat → Elt Ideal e}
    {L : List (View.Piece (Elt Ideal) ⟨2, ![n0, n1]⟩ e)} (hp : View.PiecesOf (at2 G) L) (hc : ∀ y, ∃ p ∈ L, y ∈ p.1.set)
    (a : Fin n0) (b : Fin n1) : v.read (Elt Ideal) (v.writes (Elt Ideal) f L) (ix2 a b) = G a.val b.val := by
  have h := View.canon_append_of_piecesOf _ [] _ hp (ix2 a b) (hc _)
  rw [List.append_nil] at h
  rw [View.read_writes_apply_eq_canon _ _ _ _ (hc _), h]
  rfl

/-- The same over three axes. -/
theorem readPieces3 {n0 n1 n2 : Nat} (v : View sig κ sp ⟨3, ![n0, n1, n2]⟩ e) (f : v.ty.Contents (Elt Ideal)) {G : Nat → Nat → Nat → Elt Ideal e}
    {L : List (View.Piece (Elt Ideal) ⟨3, ![n0, n1, n2]⟩ e)} (hp : View.PiecesOf (at3 G) L) (hc : ∀ y, ∃ p ∈ L, y ∈ p.1.set)
    (p : Fin n0) (a : Fin n1) (b : Fin n2) : v.read (Elt Ideal) (v.writes (Elt Ideal) f L) (ix3 p a b) = G p.val a.val b.val := by
  have h := View.canon_append_of_piecesOf _ [] _ hp (ix3 p a b) (hc _)
  rw [List.append_nil] at h
  rw [View.read_writes_apply_eq_canon _ _ _ _ (hc _), h]
  rfl

/-- A load of a box of such a buffer. -/
theorem covPieces2 {n0 n1 m0 m1 : Nat} (v : View sig κ sp ⟨2, ![n0, n1]⟩ e) {G : Nat → Nat → Elt Ideal e}
    {L : List (View.Piece (Elt Ideal) ⟨2, ![n0, n1]⟩ e)} (hp : View.PiecesOf (at2 G) L) (hc : ∀ y, ∃ p ∈ L, y ∈ p.1.set)
    (off : Fin 2 → Nat) (inb : ∀ a, off a + (![m0, m1] : Fin 2 → Nat) a ≤ (⟨2, ![n0, n1]⟩ : Shape).size a) (x : Fin m0) (y : Fin m1) :
    v.readCov L (Rect.unit (s := ⟨2, ![n0, n1]⟩) off (![m0, m1] : Fin 2 → Nat) inb).toLoadRect (ix2 x y) = G (off 0 + x.val) (off 1 + y.val) :=
  read2 (readPieces2 v v.junk hp hc) off inb x y

/-- A box of whole rows stored over what was there. -/
theorem boxOver {n0 n1 o m : Nat} (v : View sig κ sp ⟨2, ![n0, n1]⟩ e) (f : v.ty.Contents (Elt Ideal))
    (inb : ∀ a, (![o, 0] : Fin 2 → Nat) a + (![m, n1] : Fin 2 → Nat) a ≤ (⟨2, ![n0, n1]⟩ : Shape).size a)
    (w : (Rect.unit (s := ⟨2, ![n0, n1]⟩) ![o, 0] (![m, n1] : Fin 2 → Nat) inb).shape.Idx → Elt Ideal e)
    (L : List (View.Piece (Elt Ideal) ⟨2, ![n0, n1]⟩ e)) (R : Nat → Nat → Elt Ideal e)
    (hw : ∀ (x : Fin m) (y : Fin n1), w (ix2 x y) = R (o + x.val) y.val) (a : Fin n0) (b : Fin n1) :
    v.read (Elt Ideal) (v.writes (Elt Ideal) f ((⟨Rect.unit (s := ⟨2, ![n0, n1]⟩) ![o, 0] (![m, n1] : Fin 2 → Nat) inb, w⟩ : View.Piece (Elt Ideal) ⟨2, ![n0, n1]⟩ e) :: L)) (ix2 a b)
      = if o ≤ a.val ∧ a.val < o + m then R a.val b.val else v.read (Elt Ideal) (v.writes (Elt Ideal) f L) (ix2 a b) := by
  split
  · rename_i h
    have hx : ∀ k, ((ix2 a b : (⟨2, ![n0, n1]⟩ : Shape).Idx) k).val = (![o, 0] : Fin 2 → Nat) k + ((ix2 (⟨a.val - o, by omega⟩ : Fin m) b : (⟨2, ![m, n1]⟩ : Shape).Idx) k).val := by
      intro k
      match k with
      | ⟨0, _⟩ => show a.val = o + (a.val - o); omega
      | ⟨1, _⟩ => show b.val = 0 + b.val; omega
    refine (View.read_writes_cons_unit_of_mem v f inb w L (ix2 a b) (ix2 (⟨a.val - o, by omega⟩ : Fin m) b) rfl hx).trans ?_
    refine (hw _ _).trans ?_
    show R (o + (a.val - o)) b.val = _
    rw [Nat.add_sub_cancel' h.1]
  · rename_i h
    refine View.read_writes_cons_unit_of_not_mem v f inb w L (ix2 a b) rfl (0 : Fin 2) ?_
    show a.val < o ∨ o + m ≤ a.val
    omega

/-- A load of one row of the tap weights. -/
theorem read4 {v : View sig κ sp ⟨4, ![4, 1, 31, 256]⟩ e} {f : v.ty.Contents (Elt Ideal)} {W : Nat → Nat → Nat → Elt Ideal e}
    (h : ∀ (p : Fin 4) (z : Fin 1) (a : Fin 31) (b : Fin 256), v.read (Elt Ideal) f (ix4 p z a b) = W p.val a.val b.val) (off : Fin 4 → Nat)
    (inb : ∀ a, off a + (![1, 1, 1, 256] : Fin 4 → Nat) a ≤ (⟨4, ![4, 1, 31, 256]⟩ : Shape).size a) (l : Fin 256) :
    v.readAt (Elt Ideal) (Rect.unit (s := ⟨4, ![4, 1, 31, 256]⟩) off (![1, 1, 1, 256] : Fin 4 → Nat) inb).toLoadRect f (ix4 0 0 0 l) = W (off 0) (off 2) (off 3 + l.val) := by
  have h0 := inb 0
  have h1 := inb 1
  have h2 := inb 2
  have h3 := inb 3
  simp only [Matrix.cons_val_zero, Matrix.cons_val_one, Matrix.cons_val_two, Matrix.head_cons, Matrix.tail_cons, Matrix.cons_val] at h0 h1 h2 h3
  rw [← h ⟨off 0, by omega⟩ ⟨off 1, by omega⟩ ⟨off 2, by omega⟩ ⟨off 3 + l.val, by omega⟩]
  refine congrArg (v.read (Elt Ideal) f) (funext fun a => Fin.ext ?_)
  refine (Rect.idx_unit_val off _ inb _ a).trans ?_
  fin_cases a <;> rfl

/-- A box recast with an axis of one before its own two. -/
theorem leadCast (v : Vec Ideal S280x1024 .f32) (h : S280x1024.ShapeCasts S1x280x1024) (z : Fin 1) (x : Fin 280) (y : Fin 1024) :
    shapeCast S1x280x1024 v h (ix3 z x y) = v (ix2 x y) := by
  pointwise

end Cert.KernelIdeal.Gen
-- ==== Proof.CellA.lean ====
/-
The grid point of the kernel, the first one: what its buffers hold, cell by cell.
-/
module

public import proofs.«01_k».proof.Proof.Fold
public import proofs.«01_k».proof.Proof.Tile
public import proofs.«01_k».proof.Proof.Pieces
public import proofs.«01_k».proof.Proof.Gen.KernelIdeal.Value

@[expose] public section

set_option maxRecDepth 65536
set_option maxHeartbeats 4000000

noncomputable section

namespace Cert.KernelIdeal.Gen

open Idealize.ShloMosaic Idealize.ShloMosaic.TcCoe Idealize.ShloMosaic.Tactic

/-- The gradient at the convolution's output, a cell of the tile. -/
theorem dyCell_A (c : Dev nD) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg7 : Memref sig .tc .vmem S1x1x1024 .f32) (harg7 : arg7.IsWhole) (arg8 : Memref sig .tc .vmem S1x1x1024 .f32) (harg8 : arg8.IsWhole) (x0 : Vec Ideal S256x1024 .bf16) (x1 : Vec Ideal S256x1024 .f32) (x2 : Vec Ideal S256x3072 .bf16) (x5 : Vec Ideal S1x1x1024 .f32) (x6 : Vec Ideal S1x1x1024 .f32)
    (X0 X1 X2 : Nat → Nat → EReal) (X5 X6 : Nat → Nat → Nat → EReal)
    (h0 : ∀ (a : Fin 256) (b : Fin 1024), arg2.view.read (Elt Ideal) (harg2.unread x0) (ix2 a b) = X0 a.val b.val)
    (h1 : ∀ (a : Fin 256) (b : Fin 1024), arg3.view.read (Elt Ideal) (harg3.unread x1) (ix2 a b) = X1 a.val b.val)
    (h2 : ∀ (a : Fin 256) (b : Fin 3072), arg4.view.read (Elt Ideal) (harg4.unread x2) (ix2 a b) = X2 a.val b.val)
    (h5 : ∀ (p a : Fin 1) (b : Fin 1024), arg7.view.read (Elt Ideal) (harg7.unread x5) (ix3 p a b) = X5 p.val a.val b.val)
    (h6 : ∀ (p a : Fin 1) (b : Fin 1024), arg8.view.read (Elt Ideal) (harg8.unread x6) (ix3 p a b) = X6 p.val a.val b.val)
    (r : Fin 256) (l : Fin 1024) :
    k0_pay640 (kernelRun0_A.sl.r_11 (F := Ideal) c arg2 harg2 arg3 harg3 arg4 harg4 arg7 harg7 arg8 harg8 x0 x1 x2 x5 x6) (kernelRun0_A.sl.r_12 (F := Ideal) c arg2 harg2 arg3 harg3 arg4 harg4 arg7 harg7 arg8 harg8 x0 x1 x2 x5 x6) (ix2 r l) = Cert.Tile.dyT X0 X1 X2 X5 X6 r.val l.val := by
  sl_unfold_run_names; unfold_payloads; pointwise
  simp only [read2 h0, read2 h1, read2 h2, read3 h5, read3 h6]
  simp only [Matrix.cons_val_zero, Matrix.cons_val_one, Matrix.cons_val, zero_add, Fin.isValue, Fin.val_zero, Finset.univ_unique, Finset.sum_const, Finset.card_singleton, one_smul, zero_sub]
  unfold Cert.Tile.dyT Rows.dy Rows.ddev Rows.fac Rows.mhalf Rows.dln Rows.gated Rows.ln Rows.nrm Rows.vare Rows.dev Rows.mean Rows.n1024 Rows.one Rows.eps
  rfl

/-- The gradient of the output gate, a cell of the tile. -/
theorem gateCell_A (c : Dev nD) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg7 : Memref sig .tc .vmem S1x1x1024 .f32) (harg7 : arg7.IsWhole) (arg8 : Memref sig .tc .vmem S1x1x1024 .f32) (harg8 : arg8.IsWhole) (x0 : Vec Ideal S256x1024 .bf16) (x1 : Vec Ideal S256x1024 .f32) (x2 : Vec Ideal S256x3072 .bf16) (x5 : Vec Ideal S1x1x1024 .f32) (x6 : Vec Ideal S1x1x1024 .f32)
    (X0 X1 X2 : Nat → Nat → EReal) (X5 X6 : Nat → Nat → Nat → EReal)
    (h0 : ∀ (a : Fin 256) (b : Fin 1024), arg2.view.read (Elt Ideal) (harg2.unread x0) (ix2 a b) = X0 a.val b.val)
    (h1 : ∀ (a : Fin 256) (b : Fin 1024), arg3.view.read (Elt Ideal) (harg3.unread x1) (ix2 a b) = X1 a.val b.val)
    (h2 : ∀ (a : Fin 256) (b : Fin 3072), arg4.view.read (Elt Ideal) (harg4.unread x2) (ix2 a b) = X2 a.val b.val)
    (h5 : ∀ (p a : Fin 1) (b : Fin 1024), arg7.view.read (Elt Ideal) (harg7.unread x5) (ix3 p a b) = X5 p.val a.val b.val)
    (h6 : ∀ (p a : Fin 1) (b : Fin 1024), arg8.view.read (Elt Ideal) (harg8.unread x6) (ix3 p a b) = X6 p.val a.val b.val)
    (r : Fin 256) (l : Fin 1024) :
    k0_pay641 (kernelRun0_A.sl.r_8 (F := Ideal) c arg2 harg2 arg3 harg3 arg4 harg4 arg7 harg7 arg8 harg8 x0 x1 x2 x5 x6) (ix2 r l) = Cert.Tile.gateT X0 X1 X2 X5 X6 r.val l.val := by
  sl_unfold_run_names; unfold_payloads; pointwise
  simp only [read2 h0, read2 h1, read2 h2, read3 h5, read3 h6]
  simp only [Matrix.cons_val_zero, Matrix.cons_val_one, Matrix.cons_val, zero_add, Fin.isValue, Fin.val_zero, Finset.univ_unique, Finset.sum_const, Finset.card_singleton, one_smul, zero_sub]
  unfold Cert.Tile.gateT Rows.dgate Rows.ln Rows.nrm Rows.vare Rows.dev Rows.mean Rows.n1024 Rows.one Rows.eps
  rfl

/-- The column sums of the gradient at the convolution's output, added to what is kept. -/
theorem dySum_A (c : Dev nD) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg7 : Memref sig .tc .vmem S1x1x1024 .f32) (harg7 : arg7.IsWhole) (arg8 : Memref sig .tc .vmem S1x1x1024 .f32) (harg8 : arg8.IsWhole) (x0 : Vec Ideal S256x1024 .bf16) (x1 : Vec Ideal S256x1024 .f32) (x2 : Vec Ideal S256x3072 .bf16) (x5 : Vec Ideal S1x1x1024 .f32) (x6 : Vec Ideal S1x1x1024 .f32)
    (X0 X1 X2 : Nat → Nat → EReal) (X5 X6 : Nat → Nat → Nat → EReal)
    (h0 : ∀ (a : Fin 256) (b : Fin 1024), arg2.view.read (Elt Ideal) (harg2.unread x0) (ix2 a b) = X0 a.val b.val)
    (h1 : ∀ (a : Fin 256) (b : Fin 1024), arg3.view.read (Elt Ideal) (harg3.unread x1) (ix2 a b) = X1 a.val b.val)
    (h2 : ∀ (a : Fin 256) (b : Fin 3072), arg4.view.read (Elt Ideal) (harg4.unread x2) (ix2 a b) = X2 a.val b.val)
    (h5 : ∀ (p a : Fin 1) (b : Fin 1024), arg7.view.read (Elt Ideal) (harg7.unread x5) (ix3 p a b) = X5 p.val a.val b.val)
    (h6 : ∀ (p a : Fin 1) (b : Fin 1024), arg8.view.read (Elt Ideal) (harg8.unread x6) (ix3 p a b) = X6 p.val a.val b.val)
    (v : Vec Ideal S1x1024 .f32) (l : Fin 1024) :
    k0_pay642 (kernelRun0_A.sl.r_11 (F := Ideal) c arg2 harg2 arg3 harg3 arg4 harg4 arg7 harg7 arg8 harg8 x0 x1 x2 x5 x6) (kernelRun0_A.sl.r_12 (F := Ideal) c arg2 harg2 arg3 harg3 arg4 harg4 arg7 harg7 arg8 harg8 x0 x1 x2 x5 x6) v (ix2 (0 : Fin 1) l) = v (ix2 (0 : Fin 1) l) + ∑ r : Fin 256, Cert.Tile.dyT X0 X1 X2 X5 X6 r.val l.val := by
  sl_unfold_run_names; unfold_payloads; pointwise
  simp only [read2 h0, read2 h1, read2 h2, read3 h5, read3 h6]
  simp only [Matrix.cons_val_zero, Matrix.cons_val_one, Matrix.cons_val, zero_add, Fin.isValue, Fin.val_zero, Finset.univ_unique, Finset.sum_const, Finset.card_singleton, one_smul, zero_sub]
  refine congrArg _ (Finset.sum_congr rfl fun r _ => ?_)
  unfold Cert.Tile.dyT Rows.dy Rows.ddev Rows.fac Rows.mhalf Rows.dln Rows.gated Rows.ln Rows.nrm Rows.vare Rows.dev Rows.mean Rows.n1024 Rows.one Rows.eps
  rfl

/-- The column sums of the scale's gradient, added to what is kept. -/
theorem gainSum_A (c : Dev nD) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg7 : Memref sig .tc .vmem S1x1x1024 .f32) (harg7 : arg7.IsWhole) (arg8 : Memref sig .tc .vmem S1x1x1024 .f32) (harg8 : arg8.IsWhole) (x0 : Vec Ideal S256x1024 .bf16) (x1 : Vec Ideal S256x1024 .f32) (x2 : Vec Ideal S256x3072 .bf16) (x5 : Vec Ideal S1x1x1024 .f32) (x6 : Vec Ideal S1x1x1024 .f32)
    (X0 X1 X2 : Nat → Nat → EReal) (X5 X6 : Nat → Nat → Nat → EReal)
    (h0 : ∀ (a : Fin 256) (b : Fin 1024), arg2.view.read (Elt Ideal) (harg2.unread x0) (ix2 a b) = X0 a.val b.val)
    (h1 : ∀ (a : Fin 256) (b : Fin 1024), arg3.view.read (Elt Ideal) (harg3.unread x1) (ix2 a b) = X1 a.val b.val)
    (h2 : ∀ (a : Fin 256) (b : Fin 3072), arg4.view.read (Elt Ideal) (harg4.unread x2) (ix2 a b) = X2 a.val b.val)
    (h5 : ∀ (p a : Fin 1) (b : Fin 1024), arg7.view.read (Elt Ideal) (harg7.unread x5) (ix3 p a b) = X5 p.val a.val b.val)
    (h6 : ∀ (p a : Fin 1) (b : Fin 1024), arg8.view.read (Elt Ideal) (harg8.unread x6) (ix3 p a b) = X6 p.val a.val b.val)
    (v : Vec Ideal S1x1024 .f32) (l : Fin 1024) :
    k0_pay643 (kernelRun0_A.sl.r_10 (F := Ideal) c arg2 harg2 arg3 harg3 arg4 harg4 arg7 harg7 arg8 harg8 x0 x1 x2 x5 x6) v (ix2 (0 : Fin 1) l) = v (ix2 (0 : Fin 1) l) + ∑ r : Fin 256, Cert.Tile.gainT X0 X1 X2 X5 X6 r.val l.val := by
  sl_unfold_run_names; unfold_payloads; pointwise
  simp only [read2 h0, read2 h1, read2 h2, read3 h5, read3 h6]
  simp only [Matrix.cons_val_zero, Matrix.cons_val_one, Matrix.cons_val, zero_add, Fin.isValue, Fin.val_zero, Finset.univ_unique, Finset.sum_const, Finset.card_singleton, one_smul, zero_sub]
  refine congrArg _ (Finset.sum_congr rfl fun r _ => ?_)
  unfold Cert.Tile.gainT Cert.Tile.dlnT Rows.dln Rows.gated Rows.ln Rows.nrm Rows.vare Rows.dev Rows.mean Rows.n1024 Rows.one Rows.eps
  rfl

/-- The column sums of the shift's gradient, added to what is kept. -/
theorem dlnSum_A (c : Dev nD) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg7 : Memref sig .tc .vmem S1x1x1024 .f32) (harg7 : arg7.IsWhole) (arg8 : Memref sig .tc .vmem S1x1x1024 .f32) (harg8 : arg8.IsWhole) (x0 : Vec Ideal S256x1024 .bf16) (x1 : Vec Ideal S256x1024 .f32) (x2 : Vec Ideal S256x3072 .bf16) (x5 : Vec Ideal S1x1x1024 .f32) (x6 : Vec Ideal S1x1x1024 .f32)
    (X0 X1 X2 : Nat → Nat → EReal) (X5 X6 : Nat → Nat → Nat → EReal)
    (h0 : ∀ (a : Fin 256) (b : Fin 1024), arg2.view.read (Elt Ideal) (harg2.unread x0) (ix2 a b) = X0 a.val b.val)
    (h1 : ∀ (a : Fin 256) (b : Fin 1024), arg3.view.read (Elt Ideal) (harg3.unread x1) (ix2 a b) = X1 a.val b.val)
    (h2 : ∀ (a : Fin 256) (b : Fin 3072), arg4.view.read (Elt Ideal) (harg4.unread x2) (ix2 a b) = X2 a.val b.val)
    (h5 : ∀ (p a : Fin 1) (b : Fin 1024), arg7.view.read (Elt Ideal) (harg7.unread x5) (ix3 p a b) = X5 p.val a.val b.val)
    (h6 : ∀ (p a : Fin 1) (b : Fin 1024), arg8.view.read (Elt Ideal) (harg8.unread x6) (ix3 p a b) = X6 p.val a.val b.val)
    (v : Vec Ideal S1x1024 .f32) (l : Fin 1024) :
    k0_pay644 (kernelRun0_A.sl.r_9 (F := Ideal) c arg2 harg2 arg3 harg3 arg4 harg4 arg7 harg7 arg8 harg8 x0 x1 x2 x5 x6) v (ix2 (0 : Fin 1) l) = v (ix2 (0 : Fin 1) l) + ∑ r : Fin 256, Cert.Tile.dlnT X0 X1 X2 X5 X6 r.val l.val := by
  sl_unfold_run_names; unfold_payloads; pointwise
  simp only [read2 h0, read2 h1, read2 h2, read3 h5, read3 h6]
  simp only [Matrix.cons_val_zero, Matrix.cons_val_one, Matrix.cons_val, zero_add, Fin.isValue, Fin.val_zero, Finset.univ_unique, Finset.sum_const, Finset.card_singleton, one_smul, zero_sub]
  refine congrArg _ (Finset.sum_congr rfl fun r _ => ?_)
  unfold Cert.Tile.dlnT Rows.dln Rows.gated Rows.ln Rows.nrm Rows.vare Rows.dev Rows.mean Rows.n1024 Rows.one Rows.eps
  rfl

end Cert.KernelIdeal.Gen
-- ==== Proof.BufA.lean ====
/-
The grid point of the kernel, the first one: what its buffers hold, cell by cell.
-/
module

public import proofs.«01_k».proof.Proof.CellA
public import proofs.«01_k».proof.Proof.Tile
public import proofs.«01_k».proof.Proof.Pieces

@[expose] public section

set_option maxRecDepth 65536
set_option maxHeartbeats 4000000

noncomputable section

namespace Cert.KernelIdeal.Gen

open Idealize.ShloMosaic Idealize.ShloMosaic.TcCoe Idealize.ShloMosaic.Tactic

/-- The gradient's tile with its halo: two pieces of one function. -/
theorem tilePieces_A (c : Dev nD) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg7 : Memref sig .tc .vmem S1x1x1024 .f32) (harg7 : arg7.IsWhole) (arg8 : Memref sig .tc .vmem S1x1x1024 .f32) (harg8 : arg8.IsWhole) (x0 : Vec Ideal S256x1024 .bf16) (x1 : Vec Ideal S256x1024 .f32) (x2 : Vec Ideal S256x3072 .bf16) (x5 : Vec Ideal S1x1x1024 .f32) (x6 : Vec Ideal S1x1x1024 .f32)
    (X0 X1 X2 : Nat → Nat → EReal) (X5 X6 : Nat → Nat → Nat → EReal)
    (h0 : ∀ (a : Fin 256) (b : Fin 1024), arg2.view.read (Elt Ideal) (harg2.unread x0) (ix2 a b) = X0 a.val b.val)
    (h1 : ∀ (a : Fin 256) (b : Fin 1024), arg3.view.read (Elt Ideal) (harg3.unread x1) (ix2 a b) = X1 a.val b.val)
    (h2 : ∀ (a : Fin 256) (b : Fin 3072), arg4.view.read (Elt Ideal) (harg4.unread x2) (ix2 a b) = X2 a.val b.val)
    (h5 : ∀ (p a : Fin 1) (b : Fin 1024), arg7.view.read (Elt Ideal) (harg7.unread x5) (ix3 p a b) = X5 p.val a.val b.val)
    (h6 : ∀ (p a : Fin 1) (b : Fin 1024), arg8.view.read (Elt Ideal) (harg8.unread x6) (ix3 p a b) = X6 p.val a.val b.val) :
    View.PiecesOf (at2 (Cert.Tile.follow (Cert.Tile.dyT X0 X1 X2 X5 X6) (fun _ _ => 0))) (kernelRun0_A.sl.HS0_2 (F := Ideal) c arg2 harg2 arg3 harg3 arg4 harg4 arg7 harg7 arg8 harg8 x0 x1 x2 x5 x6) := by
  unfold kernelRun0_A.sl.HS0_2
  refine ⟨piece2 _ (inb := inb_S288x1024_S256x1024_0_0) fun x y => ?_, piece2 _ (inb := inb_S288x1024_S32x1024_256_0) fun x y => ?_, trivial⟩
  · refine (dyCell_A c arg2 harg2 arg3 harg3 arg4 harg4 arg7 harg7 arg8 harg8 x0 x1 x2 x5 x6 X0 X1 X2 X5 X6 h0 h1 h2 h5 h6 x y).trans ?_
    simp only [Matrix.cons_val_zero, Matrix.cons_val_one, Matrix.cons_val, Fin.isValue]
    rw [Nat.zero_add, Nat.zero_add, Cert.Tile.follow, if_pos x.isLt]
  · unfold_payloads; pointwise
    have hn : ¬ 256 + x.val < 256 := by omega
    rw [Cert.Tile.follow, if_neg hn]

/-- Together they cover the buffer. -/
theorem tileCover_A (c : Dev nD) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg7 : Memref sig .tc .vmem S1x1x1024 .f32) (harg7 : arg7.IsWhole) (arg8 : Memref sig .tc .vmem S1x1x1024 .f32) (harg8 : arg8.IsWhole) (x0 : Vec Ideal S256x1024 .bf16) (x1 : Vec Ideal S256x1024 .f32) (x2 : Vec Ideal S256x3072 .bf16) (x5 : Vec Ideal S1x1x1024 .f32) (x6 : Vec Ideal S1x1x1024 .f32) :
    ∀ y, ∃ p ∈ (kernelRun0_A.sl.HS0_2 (F := Ideal) c arg2 harg2 arg3 harg3 arg4 harg4 arg7 harg7 arg8 harg8 x0 x1 x2 x5 x6), y ∈ p.1.set := by
  exact View.cover_of_tiledBy _ ![32, 1024] (by sl_kernel_rfl)

/-- The seven shifted copies of that tile. -/
theorem tileShift_A (c : Dev nD) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg7 : Memref sig .tc .vmem S1x1x1024 .f32) (harg7 : arg7.IsWhole) (arg8 : Memref sig .tc .vmem S1x1x1024 .f32) (harg8 : arg8.IsWhole) (x0 : Vec Ideal S256x1024 .bf16) (x1 : Vec Ideal S256x1024 .f32) (x2 : Vec Ideal S256x3072 .bf16) (x5 : Vec Ideal S1x1x1024 .f32) (x6 : Vec Ideal S1x1x1024 .f32) (arg11 : Memref sig .tc .vmem S288x1024 .f32) (arg17 : Memref sig .tc .vmem S7x280x1024 .f32)
    (X0 X1 X2 : Nat → Nat → EReal) (X5 X6 : Nat → Nat → Nat → EReal)
    (h0 : ∀ (a : Fin 256) (b : Fin 1024), arg2.view.read (Elt Ideal) (harg2.unread x0) (ix2 a b) = X0 a.val b.val)
    (h1 : ∀ (a : Fin 256) (b : Fin 1024), arg3.view.read (Elt Ideal) (harg3.unread x1) (ix2 a b) = X1 a.val b.val)
    (h2 : ∀ (a : Fin 256) (b : Fin 3072), arg4.view.read (Elt Ideal) (harg4.unread x2) (ix2 a b) = X2 a.val b.val)
    (h5 : ∀ (p a : Fin 1) (b : Fin 1024), arg7.view.read (Elt Ideal) (harg7.unread x5) (ix3 p a b) = X5 p.val a.val b.val)
    (h6 : ∀ (p a : Fin 1) (b : Fin 1024), arg8.view.read (Elt Ideal) (harg8.unread x6) (ix3 p a b) = X6 p.val a.val b.val)
    (f : arg17.view.ty.Contents (Elt Ideal)) (p : Fin 7) (a : Fin 280) (b : Fin 1024) :
    arg17.view.read (Elt Ideal) (arg17.view.writes (Elt Ideal) f (kernelRun0_A.sl.HS6_7 (F := Ideal) c arg2 harg2 arg3 harg3 arg4 harg4 arg7 harg7 arg8 harg8 arg11 x0 x1 x2 x5 x6)) (ix3 p a b) = (Cert.Tile.follow (Cert.Tile.dyT X0 X1 X2 X5 X6) (fun _ _ => 0)) (a.val + (p.val + 1)) b.val := by
  have hp := tilePieces_A c arg2 harg2 arg3 harg3 arg4 harg4 arg7 harg7 arg8 harg8 x0 x1 x2 x5 x6 X0 X1 X2 X5 X6 h0 h1 h2 h5 h6
  have hc := tileCover_A c arg2 harg2 arg3 harg3 arg4 harg4 arg7 harg7 arg8 harg8 x0 x1 x2 x5 x6
  refine readPieces3 (n0 := 7) (n1 := 280) (n2 := 1024) (e := .f32) (G := fun p a b => (Cert.Tile.follow (Cert.Tile.dyT X0 X1 X2 X5 X6) (fun _ _ => 0)) (a + (p + 1)) b) _ _ ?_ (View.cover_of_tiledL _ S1x280x1024.size (by sl_kernel_rfl)) p a b
  unfold kernelRun0_A.sl.HS6_7
  refine ⟨piece3 _ (inb := inb_S7x280x1024_S1x280x1024_6_0_0) fun z x y => ?_, piece3 _ (inb := inb_S7x280x1024_S1x280x1024_5_0_0) fun z x y => ?_, piece3 _ (inb := inb_S7x280x1024_S1x280x1024_4_0_0) fun z x y => ?_, piece3 _ (inb := inb_S7x280x1024_S1x280x1024_3_0_0) fun z x y => ?_, piece3 _ (inb := inb_S7x280x1024_S1x280x1024_2_0_0) fun z x y => ?_, piece3 _ (inb := inb_S7x280x1024_S1x280x1024_1_0_0) fun z x y => ?_, piece3 _ (inb := inb_S7x280x1024_S1x280x1024_0_0_0) fun z x y => ?_, trivial⟩
  · unfold k0_pay655 kernelRun0_A.sl.v159; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay654 kernelRun0_A.sl.v155; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay653 kernelRun0_A.sl.v151; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay652 kernelRun0_A.sl.v147; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay651 kernelRun0_A.sl.v143; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay650 kernelRun0_A.sl.v139; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay649 kernelRun0_A.sl.v135; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega

/-- The gated input's tile with its halo: two pieces of one function. -/
theorem inPieces_A (c : Dev nD) (i : grid0.Coords) (arg4 : Memref sig .tc .vmem S256x3072 .bf16) (harg4 : arg4.IsWhole) (arg5 : Memref sig .tc .vmem S32x3072 .bf16) (harg5 : arg5.IsWhole) (x2 : Vec Ideal S256x3072 .bf16) (x3 : Vec Ideal S32x3072 .bf16)
    (X2 X3 : Nat → Nat → EReal)
    (h2 : ∀ (a : Fin 256) (b : Fin 3072), arg4.view.read (Elt Ideal) (harg4.unread x2) (ix2 a b) = X2 a.val b.val)
    (h3 : ∀ (a : Fin 32) (b : Fin 3072), arg5.view.read (Elt Ideal) (harg5.unread x3) (ix2 a b) = X3 a.val b.val)
    (hal : Bool) (hv : Scalar.cmpi .sgt (Scalar.subi 15#32 (BitVec.ofNat 32 (i 0).val)) 0#32 = BitVec.ofBool hal) :
    View.PiecesOf (at2 (Cert.Tile.precede hal X2 X3)) (kernelRun0_A.sl.HS1_2 (F := Ideal) c i arg4 harg4 arg5 harg5 x2 x3) := by
  unfold kernelRun0_A.sl.HS1_2
  refine ⟨piece2 _ (inb := inb_S288x1024_S32x1024_0_0) fun x y => ?_, piece2 _ (inb := inb_S288x1024_S256x1024_32_0) fun x y => ?_, trivial⟩
  · dsimp only
    rw [show kernelRun0_A.sl.v0 i = Scalar.subi 15#32 (BitVec.ofNat 32 (i 0).val) from rfl]
    rw [Cert.Tile.precede, if_pos (by simp only [Matrix.cons_val_zero, Matrix.cons_val_one, Matrix.cons_val, Fin.isValue]; omega)]
    unfold_payloads; rw [hv]
    cases hal
    · pointwise
      rw [if_neg Bool.false_ne_true, if_neg Bool.false_ne_true]
      rfl
    · pointwise
      simp only [read2 h3, if_true, Cert.Tile.glu]
      simp only [Matrix.cons_val_zero, Matrix.cons_val_one, Matrix.cons_val, Fin.isValue]
      simp only [Nat.zero_add]
  · dsimp only
    unfold kernelRun0_A.sl.r_13 kernelRun0_A.sl.r_14; unfold_payloads; pointwise
    simp only [read2 h2]
    simp only [Matrix.cons_val_zero, Matrix.cons_val_one, Matrix.cons_val, Fin.isValue]
    rw [Cert.Tile.precede, if_neg (by omega), Cert.Tile.glu]
    simp only [Nat.add_sub_cancel_left, Nat.zero_add]

/-- Together they cover the buffer. -/
theorem inCover_A (c : Dev nD) (i : grid0.Coords) (arg4 : Memref sig .tc .vmem S256x3072 .bf16) (harg4 : arg4.IsWhole) (arg5 : Memref sig .tc .vmem S32x3072 .bf16) (harg5 : arg5.IsWhole) (x2 : Vec Ideal S256x3072 .bf16) (x3 : Vec Ideal S32x3072 .bf16) :
    ∀ y, ∃ p ∈ (kernelRun0_A.sl.HS1_2 (F := Ideal) c i arg4 harg4 arg5 harg5 x2 x3), y ∈ p.1.set := by
  exact View.cover_of_tiledBy _ ![32, 1024] (by sl_kernel_rfl)

/-- The seven shifted copies of that tile. -/
theorem inShift_A (c : Dev nD) (i : grid0.Coords) (arg4 : Memref sig .tc .vmem S256x3072 .bf16) (harg4 : arg4.IsWhole) (arg5 : Memref sig .tc .vmem S32x3072 .bf16) (harg5 : arg5.IsWhole) (x2 : Vec Ideal S256x3072 .bf16) (x3 : Vec Ideal S32x3072 .bf16) (arg12 : Memref sig .tc .vmem S288x1024 .f32) (arg18 : Memref sig .tc .vmem S7x280x1024 .f32)
    (X2 X3 : Nat → Nat → EReal)
    (h2 : ∀ (a : Fin 256) (b : Fin 3072), arg4.view.read (Elt Ideal) (harg4.unread x2) (ix2 a b) = X2 a.val b.val)
    (h3 : ∀ (a : Fin 32) (b : Fin 3072), arg5.view.read (Elt Ideal) (harg5.unread x3) (ix2 a b) = X3 a.val b.val)
    (hal : Bool) (hv : Scalar.cmpi .sgt (Scalar.subi 15#32 (BitVec.ofNat 32 (i 0).val)) 0#32 = BitVec.ofBool hal)
    (f : arg18.view.ty.Contents (Elt Ideal)) (p : Fin 7) (a : Fin 280) (b : Fin 1024) :
    arg18.view.read (Elt Ideal) (arg18.view.writes (Elt Ideal) f (kernelRun0_A.sl.HS7_7 (F := Ideal) c i arg4 harg4 arg5 harg5 arg12 x2 x3)) (ix3 p a b) = (Cert.Tile.precede hal X2 X3) (a.val + (p.val + 1)) b.val := by
  have hp := inPieces_A c i arg4 harg4 arg5 harg5 x2 x3 X2 X3 h2 h3 hal hv
  have hc := inCover_A c i arg4 harg4 arg5 harg5 x2 x3
  refine readPieces3 (n0 := 7) (n1 := 280) (n2 := 1024) (e := .f32) (G := fun p a b => (Cert.Tile.precede hal X2 X3) (a + (p + 1)) b) _ _ ?_ (View.cover_of_tiledL _ S1x280x1024.size (by sl_kernel_rfl)) p a b
  unfold kernelRun0_A.sl.HS7_7
  refine ⟨piece3 _ (inb := inb_S7x280x1024_S1x280x1024_6_0_0) fun z x y => ?_, piece3 _ (inb := inb_S7x280x1024_S1x280x1024_5_0_0) fun z x y => ?_, piece3 _ (inb := inb_S7x280x1024_S1x280x1024_4_0_0) fun z x y => ?_, piece3 _ (inb := inb_S7x280x1024_S1x280x1024_3_0_0) fun z x y => ?_, piece3 _ (inb := inb_S7x280x1024_S1x280x1024_2_0_0) fun z x y => ?_, piece3 _ (inb := inb_S7x280x1024_S1x280x1024_1_0_0) fun z x y => ?_, piece3 _ (inb := inb_S7x280x1024_S1x280x1024_0_0_0) fun z x y => ?_, trivial⟩
  · unfold k0_pay662 kernelRun0_A.sl.v187; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay661 kernelRun0_A.sl.v183; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay660 kernelRun0_A.sl.v179; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay659 kernelRun0_A.sl.v175; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay658 kernelRun0_A.sl.v171; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay657 kernelRun0_A.sl.v167; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay656 kernelRun0_A.sl.v163; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega

end Cert.KernelIdeal.Gen
-- ==== Proof.Pays.lean ====
/-
Small payloads of the kernel read at an index, over vectors that are not looked into.
-/
module

public import proofs.«01_k».proof.Proof.Pieces
public import proofs.«01_k».proof.Proof.Gen.KernelIdeal.Value

@[expose] public section

set_option maxRecDepth 65536

noncomputable section

namespace Cert.KernelIdeal.Gen

open Idealize.ShloMosaic Idealize.ShloMosaic.TcCoe Idealize.ShloMosaic.Tactic

/-- The first column block of the projection's gradient. -/
theorem payLeft (sb du : Vec Ideal S256x1024 .f32) (x : Fin 256) (y : Fin 1024) :
    k0_pay1 (k0_pay664 sb du) (ix2 x y) = du (ix2 x y) * sb (ix2 x y) := by
  unfold_payloads; pointwise

/-- The second column block. -/
theorem payRight (ga sb du : Vec Ideal S256x1024 .f32) (x : Fin 256) (y : Fin 1024) :
    k0_pay2 ga sb du (ix2 x y) = du (ix2 x y) * ga (ix2 x y) * sb (ix2 x y) * ((1 : EReal) - sb (ix2 x y)) := by
  unfold_payloads; pointwise

/-- The sum of eight rows. -/
theorem paySum (v : Vec Ideal S8x1024 .f32) (x : Fin 1) (y : Fin 1024) : k0_pay4 v (ix2 x y) = ∑ s : Fin 8, v (ix2 s y) := by
  unfold_payloads; pointwise

/-- Four blocks of 256 lanes side by side, on each of eight rows. -/
theorem payWide (a0 a1 a2 a3 : Vec Ideal S1x1x1x256 .f32) (X : Nat → Nat → EReal)
    (h0 : ∀ l : Fin 256, a0 (ix4 0 0 0 l) = X 0 l.val) (h1 : ∀ l : Fin 256, a1 (ix4 0 0 0 l) = X 1 l.val)
    (h2 : ∀ l : Fin 256, a2 (ix4 0 0 0 l) = X 2 l.val) (h3 : ∀ l : Fin 256, a3 (ix4 0 0 0 l) = X 3 l.val) (s : Fin 8) (l : Fin 1024) :
    k0_pay618 (shapeCast S1x256 a0 shapeCasts_S1x1x1x256_S1x256) a1 a2 a3 (ix2 s l) = X (l.val / 256) (l.val % 256) := by
  unfold_payloads; pointwise
  have hl := l.isLt
  split
  · rename_i h; rw [h0]; refine congrArg₂ X ?_ ?_ <;> (try dsimp only) <;> omega
  · split
    · rename_i h; rw [h1]; refine congrArg₂ X ?_ ?_ <;> (try dsimp only) <;> omega
    · split
      · rename_i h; rw [h2]; refine congrArg₂ X ?_ ?_ <;> (try dsimp only) <;> omega
      · rename_i h; rw [h3]; refine congrArg₂ X ?_ ?_ <;> (try dsimp only) <;> omega

/-- The fills. -/
theorem payZero5 (x : Fin 1) (y : Fin 1024) : (k0_pay5 : FVec Ideal S1x1024 .f32) (ix2 x y) = (0 : EReal) := by unfold_payloads; pointwise
theorem payZero6 (x : Fin 8) (y : Fin 1024) : (k0_pay6 : FVec Ideal S8x1024 .f32) (ix2 x y) = (0 : EReal) := by unfold_payloads; pointwise
theorem payZero8 (x : Fin 248) (y : Fin 1024) : (k0_pay8 : FVec Ideal S248x1024 .f32) (ix2 x y) = (0 : EReal) := by unfold_payloads; pointwise
theorem payZero9 (x : Fin 8) (y : Fin 1024) : (k0_pay9 : FVec Ideal S8x1024 .f32) (ix2 x y) = (0 : EReal) := by unfold_payloads; pointwise

/-- The projection's first column block, widened. -/
theorem payIn (v : Vec Ideal S256x1024 .bf16) (x : Fin 256) (y : Fin 1024) : k0_pay645 v (ix2 x y) = v (ix2 x y) := by
  unfold_payloads; pointwise
/-- The gate's logistic. -/
theorem paySig (v : Vec Ideal S256x1024 .bf16) (x : Fin 256) (y : Fin 1024) : k0_pay646 v (ix2 x y) = Ideal.logistic (v (ix2 x y)) := by
  unfold_payloads; pointwise

end Cert.KernelIdeal.Gen
-- ==== Proof.TileEq.lean ====
/-
Case distinctions of one grid point's functions, settled.
-/
module

public import proofs.«01_k».proof.Proof.Tile

@[expose] public section

noncomputable section

namespace Cert.KernelIdeal.Gen

open Idealize.ShloMosaic

/-- Three rows set one after another, over whatever the other rows hold. -/
theorem threeRows (p2 p1 p0 g j : EReal) (a : Nat) :
    (if 2 ≤ a ∧ a < 2 + 1 then p2 else if 1 ≤ a ∧ a < 1 + 1 then p1 else if 0 ≤ a ∧ a < 0 + 1 then p0 else j)
      = if a < 3 then (if a = 2 then p2 else if a = 1 then p1 else if a = 0 then p0 else g) else j := by
  split_ifs <;> first | rfl | omega

/-- The three rows of column sums, over whatever the other rows hold. -/
theorem accEq (X0 X1 X2 : Nat → Nat → EReal) (X5 X6 : Nat → Nat → Nat → EReal) (G J : Nat → Nat → EReal) (a l : Nat) :
    (if 2 ≤ a ∧ a < 2 + 1 then G 2 l + ∑ r : Fin 256, Tile.dlnT X0 X1 X2 X5 X6 r.val l
      else if 1 ≤ a ∧ a < 1 + 1 then G 1 l + ∑ r : Fin 256, Tile.gainT X0 X1 X2 X5 X6 r.val l
      else if 0 ≤ a ∧ a < 0 + 1 then G 0 l + ∑ r : Fin 256, Tile.dyT X0 X1 X2 X5 X6 r.val l else J a l)
      = if a < 3 then Tile.accT X0 X1 X2 X5 X6 G a l else J a l := by
  unfold Tile.accT
  exact threeRows _ _ _ _ _ a

/-- Rows past the third keep what they held. -/
theorem accLow (X0 X1 X2 : Nat → Nat → EReal) (X5 X6 : Nat → Nat → Nat → EReal) (G : Nat → Nat → EReal) (a l : Nat) :
    (if a < 3 then Tile.accT X0 X1 X2 X5 X6 G a l else G a l) = Tile.accT X0 X1 X2 X5 X6 G a l := by
  split
  · rfl
  · unfold Tile.accT
    rw [if_neg (by omega), if_neg (by omega), if_neg (by omega)]

/-- The three rows over zeros. -/
theorem accZero (X0 X1 X2 : Nat → Nat → EReal) (X5 X6 : Nat → Nat → Nat → EReal) (a l : Nat) :
    (if 2 ≤ a ∧ a < 2 + 1 then 0 + ∑ r : Fin 256, Tile.dlnT X0 X1 X2 X5 X6 r.val l
      else if 1 ≤ a ∧ a < 1 + 1 then 0 + ∑ r : Fin 256, Tile.gainT X0 X1 X2 X5 X6 r.val l
      else if 0 ≤ a ∧ a < 0 + 1 then 0 + ∑ r : Fin 256, Tile.dyT X0 X1 X2 X5 X6 r.val l else 0)
      = Tile.accT X0 X1 X2 X5 X6 (fun _ _ => 0) a l :=
  (accEq X0 X1 X2 X5 X6 (fun _ _ => 0) (fun _ _ => 0) a l).trans (accLow X0 X1 X2 X5 X6 (fun _ _ => 0) a l)

/-- The rows the last point hands on. -/
theorem sgEq (A V : Nat → Nat → EReal) (a l : Nat) :
    (if 32 ≤ a ∧ a < 32 + 3 then V (a - 32) l else if a < 31 then ∑ s : Fin 8, A (8 * a + s.val) l else 0) = Tile.sgT A V a l := by
  unfold Tile.sgT
  by_cases h : a < 31
  · rw [if_neg (by omega), if_pos h, if_pos h]
  · rw [if_neg h, if_neg h]

/-- A row of the weights as laid out for the taps. -/
theorem wideEq (X4 : Nat → Nat → Nat → EReal) (k o l s : Nat) (h : k = 30 - (o + s) / 8) :
    (fun q l => X4 q k (0 + l)) (l / 256) (l % 256) = (fun a l => X4 (l / 256) (30 - a / 8) (l % 256)) (o + s) (0 + l) := by
  simp only [Nat.zero_add, h]

/-- Eight rows summed, as a row of what is handed on. -/
theorem sumRows (A : Nat → Nat → EReal) (v : Fin 8 → Fin 1024 → EReal) (o n : Nat) (ho : o = 8 * n) (hn : n < 31)
    (hv : ∀ (s : Fin 8) (y : Fin 1024), v s y = A (o + s.val) (0 + y.val)) (x : Fin 1) (y : Fin 1024) :
    ∑ s : Fin 8, v s y = (fun a l => if a < 31 then ∑ s : Fin 8, A (8 * a + s.val) l else 0) (n + x.val) (0 + y.val) := by
  obtain rfl : x = 0 := Subsingleton.elim _ _
  subst ho
  simp only [Fin.val_zero, Nat.add_zero]
  rw [if_pos hn]
  exact Finset.sum_congr rfl fun s _ => hv s y

/-- A value on a finite range of rows and lanes, as one on all natural numbers. -/
theorem exFn {n m : Nat} (f : Fin n → Fin m → EReal) : ∃ J : Nat → Nat → EReal, ∀ (a : Fin n) (b : Fin m), f a b = J a.val b.val :=
  ⟨fun p q => if h : p < n ∧ q < m then f ⟨p, h.1⟩ ⟨q, h.2⟩ else 0, fun a b => by simp⟩

end Cert.KernelIdeal.Gen
-- ==== Proof.PointA.lean ====
/-
The grid point of the kernel, the first one: what it leaves in its outputs and in the buffers it carries on.
-/
module

public import proofs.«01_k».proof.Proof.BufA
public import proofs.«01_k».proof.Proof.Fold
public import proofs.«01_k».proof.Proof.Pays
public import proofs.«01_k».proof.Proof.TileEq

@[expose] public section

set_option maxRecDepth 65536
set_option maxHeartbeats 8000000

noncomputable section

namespace Cert.KernelIdeal.Gen

open Idealize.ShloMosaic Idealize.ShloMosaic.TcCoe Idealize.ShloMosaic.Tactic

/-- What the point leaves in the gradient's tile. -/
theorem tileAt_A (c : Dev nD) (i : grid0.Coords) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg5 : Memref sig .tc .vmem S32x3072 .bf16) (harg5 : arg5.IsWhole) (arg6 : Memref sig .tc .vmem S4x1x31x256 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x3072 .bf16) (harg9 : arg9.IsWhole) (arg10 : Memref sig .tc .vmem S40x1024 .f32) (harg10 : arg10.IsWhole) (arg11 : Memref sig .tc .vmem S288x1024 .f32) (harg11 : arg11.IsWhole) (arg12 : Memref sig .tc .vmem S288x1024 .f32) (harg12 : arg12.IsWhole) (arg13 : Memref sig .tc .vmem S256x1024 .f32) (harg13 : arg13.IsWhole) (arg14 : Memref sig .tc .vmem S248x1024 .f32) (harg14 : arg14.IsWhole) (arg15 : Memref sig .tc .vmem S248x1024 .f32) (harg15 : arg15.IsWhole) (arg16 : Memref sig .tc .vmem S8x1024 .f32) (harg16 : arg16.IsWhole) (arg17 : Memref sig .tc .vmem S7x280x1024 .f32) (harg17 : arg17.IsWhole) (arg18 : Memref sig .tc .vmem S7x280x1024 .f32) (harg18 : arg18.IsWhole) (hc0 : cond0_0 i) (hc1 : ¬cond0_1 i) (hc2 : ¬cond0_2 i) (x0 : Vec Ideal S256x1024 .bf16) (x1 : Vec Ideal S256x1024 .f32) (x2 : Vec Ideal S256x3072 .bf16) (x3 : Vec Ideal S32x3072 .bf16) (x4 : Vec Ideal S4x1x31x256 .f32) (x5 : Vec Ideal S1x1x1024 .f32) (x6 : Vec Ideal S1x1x1024 .f32)
    (X0 X1 X2 : Nat → Nat → EReal) (X5 X6 : Nat → Nat → Nat → EReal)
    (e0 : ∀ (a : Fin 256) (b : Fin 1024), x0 (ix2 a b) = X0 a.val b.val)
    (e1 : ∀ (a : Fin 256) (b : Fin 1024), x1 (ix2 a b) = X1 a.val b.val)
    (e2 : ∀ (a : Fin 256) (b : Fin 3072), x2 (ix2 a b) = X2 a.val b.val)
    (e5 : ∀ (p a : Fin 1) (b : Fin 1024), x5 (ix3 p a b) = X5 p.val a.val b.val)
    (e6 : ∀ (p a : Fin 1) (b : Fin 1024), x6 (ix3 p a b) = X6 p.val a.val b.val)
    (a : Fin 288) (b : Fin 1024) :
    (sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 : Vec Ideal S288x1024 .f32) (ix2 a b) = (Cert.Tile.follow (Cert.Tile.dyT X0 X1 X2 X5 X6) (fun _ _ => 0)) a.val b.val := by
  have h0 := fun a b => (congrFun (harg2.read_unread x0) (ix2 a b)).trans (e0 a b)
  have h1 := fun a b => (congrFun (harg3.read_unread x1) (ix2 a b)).trans (e1 a b)
  have h2 := fun a b => (congrFun (harg4.read_unread x2) (ix2 a b)).trans (e2 a b)
  have h5 := fun p a b => (congrFun (harg7.read_unread x5) (ix3 p a b)).trans (e5 p a b)
  have h6 := fun p a b => (congrFun (harg8.read_unread x6) (ix3 p a b)).trans (e6 p a b)
  unfold sout0_A_0 kernelRun0_A; dsimp only
  exact readPieces2 _ _ (tilePieces_A c arg2 harg2 arg3 harg3 arg4 harg4 arg7 harg7 arg8 harg8 x0 x1 x2 x5 x6 X0 X1 X2 X5 X6 h0 h1 h2 h5 h6) (tileCover_A c arg2 harg2 arg3 harg3 arg4 harg4 arg7 harg7 arg8 harg8 x0 x1 x2 x5 x6) a b

/-- The weights laid out by the first point: two pieces... of one function. -/
theorem wPieces_A (c : Dev nD) (arg6 : Memref sig .tc .vmem S4x1x31x256 .f32) (harg6 : arg6.IsWhole) (x4 : Vec Ideal S4x1x31x256 .f32) (X4 : Nat → Nat → Nat → EReal)
    (h4 : ∀ (p : Fin 4) (z : Fin 1) (a : Fin 31) (b : Fin 256), arg6.view.read (Elt Ideal) (harg6.unread x4) (ix4 p z a b) = X4 p.val a.val b.val) :
    View.PiecesOf (at2 (fun a l => X4 (l / 256) (30 - a / 8) (l % 256))) (kernelRun0_A.sl.HS3_31 (F := Ideal) c arg6 harg6 x4) := by
  unfold kernelRun0_A.sl.HS3_31
  refine ⟨piece2 _ (inb := inb_S248x1024_S8x1024_0_0) fun x y => ?_, piece2 _ (inb := inb_S248x1024_S8x1024_8_0) fun x y => ?_, piece2 _ (inb := inb_S248x1024_S8x1024_16_0) fun x y => ?_, piece2 _ (inb := inb_S248x1024_S8x1024_24_0) fun x y => ?_, piece2 _ (inb := inb_S248x1024_S8x1024_32_0) fun x y => ?_, piece2 _ (inb := inb_S248x1024_S8x1024_40_0) fun x y => ?_, piece2 _ (inb := inb_S248x1024_S8x1024_48_0) fun x y => ?_, piece2 _ (inb := inb_S248x1024_S8x1024_56_0) fun x y => ?_, piece2 _ (inb := inb_S248x1024_S8x1024_64_0) fun x y => ?_, piece2 _ (inb := inb_S248x1024_S8x1024_72_0) fun x y => ?_, piece2 _ (inb := inb_S248x1024_S8x1024_80_0) fun x y => ?_, piece2 _ (inb := inb_S248x1024_S8x1024_88_0) fun x y => ?_, piece2 _ (inb := inb_S248x1024_S8x1024_96_0) fun x y => ?_, piece2 _ (inb := inb_S248x1024_S8x1024_104_0) fun x y => ?_, piece2 _ (inb := inb_S248x1024_S8x1024_112_0) fun x y => ?_, piece2 _ (inb := inb_S248x1024_S8x1024_120_0) fun x y => ?_, piece2 _ (inb := inb_S248x1024_S8x1024_128_0) fun x y => ?_, piece2 _ (inb := inb_S248x1024_S8x1024_136_0) fun x y => ?_, piece2 _ (inb := inb_S248x1024_S8x1024_144_0) fun x y => ?_, piece2 _ (inb := inb_S248x1024_S8x1024_152_0) fun x y => ?_, piece2 _ (inb := inb_S248x1024_S8x1024_160_0) fun x y => ?_, piece2 _ (inb := inb_S248x1024_S8x1024_168_0) fun x y => ?_, piece2 _ (inb := inb_S248x1024_S8x1024_176_0) fun x y => ?_, piece2 _ (inb := inb_S248x1024_S8x1024_184_0) fun x y => ?_, piece2 _ (inb := inb_S248x1024_S8x1024_192_0) fun x y => ?_, piece2 _ (inb := inb_S248x1024_S8x1024_200_0) fun x y => ?_, piece2 _ (inb := inb_S248x1024_S8x1024_208_0) fun x y => ?_, piece2 _ (inb := inb_S248x1024_S8x1024_216_0) fun x y => ?_, piece2 _ (inb := inb_S248x1024_S8x1024_224_0) fun x y => ?_, piece2 _ (inb := inb_S248x1024_S8x1024_232_0) fun x y => ?_, piece2 _ (inb := inb_S248x1024_S8x1024_240_0) fun x y => ?_, trivial⟩
  · refine (payWide (View.readAt (Elt Ideal) arg6.view (Rect.unit (s := S4x1x31x256) ![0, 0, 30, 0] S1x1x1x256.size inb_S4x1x31x256_S1x1x1x256_0_0_30_0).toLoadRect (harg6.unread x4))
      (View.readAt (Elt Ideal) arg6.view (Rect.unit (s := S4x1x31x256) ![1, 0, 30, 0] S1x1x1x256.size inb_S4x1x31x256_S1x1x1x256_1_0_30_0).toLoadRect (harg6.unread x4))
      (View.readAt (Elt Ideal) arg6.view (Rect.unit (s := S4x1x31x256) ![2, 0, 30, 0] S1x1x1x256.size inb_S4x1x31x256_S1x1x1x256_2_0_30_0).toLoadRect (harg6.unread x4))
      (View.readAt (Elt Ideal) arg6.view (Rect.unit (s := S4x1x31x256) ![3, 0, 30, 0] S1x1x1x256.size inb_S4x1x31x256_S1x1x1x256_3_0_30_0).toLoadRect (harg6.unread x4))
      (fun q l => X4 q 30 (0 + l)) (read4 h4 _ _) (read4 h4 _ _) (read4 h4 _ _) (read4 h4 _ _) x y).trans ?_
    refine wideEq X4 30 0 y.val x.val (by have := x.isLt; omega)
  · refine (payWide (View.readAt (Elt Ideal) arg6.view (Rect.unit (s := S4x1x31x256) ![0, 0, 29, 0] S1x1x1x256.size inb_S4x1x31x256_S1x1x1x256_0_0_29_0).toLoadRect (harg6.unread x4))
      (View.readAt (Elt Ideal) arg6.view (Rect.unit (s := S4x1x31x256) ![1, 0, 29, 0] S1x1x1x256.size inb_S4x1x31x256_S1x1x1x256_1_0_29_0).toLoadRect (harg6.unread x4))
      (View.readAt (Elt Ideal) arg6.view (Rect.unit (s := S4x1x31x256) ![2, 0, 29, 0] S1x1x1x256.size inb_S4x1x31x256_S1x1x1x256_2_0_29_0).toLoadRect (harg6.unread x4))
      (View.readAt (Elt Ideal) arg6.view (Rect.unit (s := S4x1x31x256) ![3, 0, 29, 0] S1x1x1x256.size inb_S4x1x31x256_S1x1x1x256_3_0_29_0).toLoadRect (harg6.unread x4))
      (fun q l => X4 q 29 (0 + l)) (read4 h4 _ _) (read4 h4 _ _) (read4 h4 _ _) (read4 h4 _ _) x y).trans ?_
    refine wideEq X4 29 8 y.val x.val (by have := x.isLt; omega)
  · refine (payWide (View.readAt (Elt Ideal) arg6.view (Rect.unit (s := S4x1x31x256) ![0, 0, 28, 0] S1x1x1x256.size inb_S4x1x31x256_S1x1x1x256_0_0_28_0).toLoadRect (harg6.unread x4))
      (View.readAt (Elt Ideal) arg6.view (Rect.unit (s := S4x1x31x256) ![1, 0, 28, 0] S1x1x1x256.size inb_S4x1x31x256_S1x1x1x256_1_0_28_0).toLoadRect (harg6.unread x4))
      (View.readAt (Elt Ideal) arg6.view (Rect.unit (s := S4x1x31x256) ![2, 0, 28, 0] S1x1x1x256.size inb_S4x1x31x256_S1x1x1x256_2_0_28_0).toLoadRect (harg6.unread x4))
      (View.readAt (Elt Ideal) arg6.view (Rect.unit (s := S4x1x31x256) ![3, 0, 28, 0] S1x1x1x256.size inb_S4x1x31x256_S1x1x1x256_3_0_28_0).toLoadRect (harg6.unread x4))
      (fun q l => X4 q 28 (0 + l)) (read4 h4 _ _) (read4 h4 _ _) (read4 h4 _ _) (read4 h4 _ _) x y).trans ?_
    refine wideEq X4 28 16 y.val x.val (by have := x.isLt; omega)
  · refine (payWide (View.readAt (Elt Ideal) arg6.view (Rect.unit (s := S4x1x31x256) ![0, 0, 27, 0] S1x1x1x256.size inb_S4x1x31x256_S1x1x1x256_0_0_27_0).toLoadRect (harg6.unread x4))
      (View.readAt (Elt Ideal) arg6.view (Rect.unit (s := S4x1x31x256) ![1, 0, 27, 0] S1x1x1x256.size inb_S4x1x31x256_S1x1x1x256_1_0_27_0).toLoadRect (harg6.unread x4))
      (View.readAt (Elt Ideal) arg6.view (Rect.unit (s := S4x1x31x256) ![2, 0, 27, 0] S1x1x1x256.size inb_S4x1x31x256_S1x1x1x256_2_0_27_0).toLoadRect (harg6.unread x4))
      (View.readAt (Elt Ideal) arg6.view (Rect.unit (s := S4x1x31x256) ![3, 0, 27, 0] S1x1x1x256.size inb_S4x1x31x256_S1x1x1x256_3_0_27_0).toLoadRect (harg6.unread x4))
      (fun q l => X4 q 27 (0 + l)) (read4 h4 _ _) (read4 h4 _ _) (read4 h4 _ _) (read4 h4 _ _) x y).trans ?_
    refine wideEq X4 27 24 y.val x.val (by have := x.isLt; omega)
  · refine (payWide (View.readAt (Elt Ideal) arg6.view (Rect.unit (s := S4x1x31x256) ![0, 0, 26, 0] S1x1x1x256.size inb_S4x1x31x256_S1x1x1x256_0_0_26_0).toLoadRect (harg6.unread x4))
      (View.readAt (Elt Ideal) arg6.view (Rect.unit (s := S4x1x31x256) ![1, 0, 26, 0] S1x1x1x256.size inb_S4x1x31x256_S1x1x1x256_1_0_26_0).toLoadRect (harg6.unread x4))
      (View.readAt (Elt Ideal) arg6.view (Rect.unit (s := S4x1x31x256) ![2, 0, 26, 0] S1x1x1x256.size inb_S4x1x31x256_S1x1x1x256_2_0_26_0).toLoadRect (harg6.unread x4))
      (View.readAt (Elt Ideal) arg6.view (Rect.unit (s := S4x1x31x256) ![3, 0, 26, 0] S1x1x1x256.size inb_S4x1x31x256_S1x1x1x256_3_0_26_0).toLoadRect (harg6.unread x4))
      (fun q l => X4 q 26 (0 + l)) (read4 h4 _ _) (read4 h4 _ _) (read4 h4 _ _) (read4 h4 _ _) x y).trans ?_
    refine wideEq X4 26 32 y.val x.val (by have := x.isLt; omega)
  · refine (payWide (View.readAt (Elt Ideal) arg6.view (Rect.unit (s := S4x1x31x256) ![0, 0, 25, 0] S1x1x1x256.size inb_S4x1x31x256_S1x1x1x256_0_0_25_0).toLoadRect (harg6.unread x4))
      (View.readAt (Elt Ideal) arg6.view (Rect.unit (s := S4x1x31x256) ![1, 0, 25, 0] S1x1x1x256.size inb_S4x1x31x256_S1x1x1x256_1_0_25_0).toLoadRect (harg6.unread x4))
      (View.readAt (Elt Ideal) arg6.view (Rect.unit (s := S4x1x31x256) ![2, 0, 25, 0] S1x1x1x256.size inb_S4x1x31x256_S1x1x1x256_2_0_25_0).toLoadRect (harg6.unread x4))
      (View.readAt (Elt Ideal) arg6.view (Rect.unit (s := S4x1x31x256) ![3, 0, 25, 0] S1x1x1x256.size inb_S4x1x31x256_S1x1x1x256_3_0_25_0).toLoadRect (harg6.unread x4))
      (fun q l => X4 q 25 (0 + l)) (read4 h4 _ _) (read4 h4 _ _) (read4 h4 _ _) (read4 h4 _ _) x y).trans ?_
    refine wideEq X4 25 40 y.val x.val (by have := x.isLt; omega)
  · refine (payWide (View.readAt (Elt Ideal) arg6.view (Rect.unit (s := S4x1x31x256) ![0, 0, 24, 0] S1x1x1x256.size inb_S4x1x31x256_S1x1x1x256_0_0_24_0).toLoadRect (harg6.unread x4))
      (View.readAt (Elt Ideal) arg6.view (Rect.unit (s := S4x1x31x256) ![1, 0, 24, 0] S1x1x1x256.size inb_S4x1x31x256_S1x1x1x256_1_0_24_0).toLoadRect (harg6.unread x4))
      (View.readAt (Elt Ideal) arg6.view (Rect.unit (s := S4x1x31x256) ![2, 0, 24, 0] S1x1x1x256.size inb_S4x1x31x256_S1x1x1x256_2_0_24_0).toLoadRect (harg6.unread x4))
      (View.readAt (Elt Ideal) arg6.view (Rect.unit (s := S4x1x31x256) ![3, 0, 24, 0] S1x1x1x256.size inb_S4x1x31x256_S1x1x1x256_3_0_24_0).toLoadRect (harg6.unread x4))
      (fun q l => X4 q 24 (0 + l)) (read4 h4 _ _) (read4 h4 _ _) (read4 h4 _ _) (read4 h4 _ _) x y).trans ?_
    refine wideEq X4 24 48 y.val x.val (by have := x.isLt; omega)
  · refine (payWide (View.readAt (Elt Ideal) arg6.view (Rect.unit (s := S4x1x31x256) ![0, 0, 23, 0] S1x1x1x256.size inb_S4x1x31x256_S1x1x1x256_0_0_23_0).toLoadRect (harg6.unread x4))
      (View.readAt (Elt Ideal) arg6.view (Rect.unit (s := S4x1x31x256) ![1, 0, 23, 0] S1x1x1x256.size inb_S4x1x31x256_S1x1x1x256_1_0_23_0).toLoadRect (harg6.unread x4))
      (View.readAt (Elt Ideal) arg6.view (Rect.unit (s := S4x1x31x256) ![2, 0, 23, 0] S1x1x1x256.size inb_S4x1x31x256_S1x1x1x256_2_0_23_0).toLoadRect (harg6.unread x4))
      (View.readAt (Elt Ideal) arg6.view (Rect.unit (s := S4x1x31x256) ![3, 0, 23, 0] S1x1x1x256.size inb_S4x1x31x256_S1x1x1x256_3_0_23_0).toLoadRect (harg6.unread x4))
      (fun q l => X4 q 23 (0 + l)) (read4 h4 _ _) (read4 h4 _ _) (read4 h4 _ _) (read4 h4 _ _) x y).trans ?_
    refine wideEq X4 23 56 y.val x.val (by have := x.isLt; omega)
  · refine (payWide (View.readAt (Elt Ideal) arg6.view (Rect.unit (s := S4x1x31x256) ![0, 0, 22, 0] S1x1x1x256.size inb_S4x1x31x256_S1x1x1x256_0_0_22_0).toLoadRect (harg6.unread x4))
      (View.readAt (Elt Ideal) arg6.view (Rect.unit (s := S4x1x31x256) ![1, 0, 22, 0] S1x1x1x256.size inb_S4x1x31x256_S1x1x1x256_1_0_22_0).toLoadRect (harg6.unread x4))
      (View.readAt (Elt Ideal) arg6.view (Rect.unit (s := S4x1x31x256) ![2, 0, 22, 0] S1x1x1x256.size inb_S4x1x31x256_S1x1x1x256_2_0_22_0).toLoadRect (harg6.unread x4))
      (View.readAt (Elt Ideal) arg6.view (Rect.unit (s := S4x1x31x256) ![3, 0, 22, 0] S1x1x1x256.size inb_S4x1x31x256_S1x1x1x256_3_0_22_0).toLoadRect (harg6.unread x4))
      (fun q l => X4 q 22 (0 + l)) (read4 h4 _ _) (read4 h4 _ _) (read4 h4 _ _) (read4 h4 _ _) x y).trans ?_
    refine wideEq X4 22 64 y.val x.val (by have := x.isLt; omega)
  · refine (payWide (View.readAt (Elt Ideal) arg6.view (Rect.unit (s := S4x1x31x256) ![0, 0, 21, 0] S1x1x1x256.size inb_S4x1x31x256_S1x1x1x256_0_0_21_0).toLoadRect (harg6.unread x4))
      (View.readAt (Elt Ideal) arg6.view (Rect.unit (s := S4x1x31x256) ![1, 0, 21, 0] S1x1x1x256.size inb_S4x1x31x256_S1x1x1x256_1_0_21_0).toLoadRect (harg6.unread x4))
      (View.readAt (Elt Ideal) arg6.view (Rect.unit (s := S4x1x31x256) ![2, 0, 21, 0] S1x1x1x256.size inb_S4x1x31x256_S1x1x1x256_2_0_21_0).toLoadRect (harg6.unread x4))
      (View.readAt (Elt Ideal) arg6.view (Rect.unit (s := S4x1x31x256) ![3, 0, 21, 0] S1x1x1x256.size inb_S4x1x31x256_S1x1x1x256_3_0_21_0).toLoadRect (harg6.unread x4))
      (fun q l => X4 q 21 (0 + l)) (read4 h4 _ _) (read4 h4 _ _) (read4 h4 _ _) (read4 h4 _ _) x y).trans ?_
    refine wideEq X4 21 72 y.val x.val (by have := x.isLt; omega)
  · refine (payWide (View.readAt (Elt Ideal) arg6.view (Rect.unit (s := S4x1x31x256) ![0, 0, 20, 0] S1x1x1x256.size inb_S4x1x31x256_S1x1x1x256_0_0_20_0).toLoadRect (harg6.unread x4))
      (View.readAt (Elt Ideal) arg6.view (Rect.unit (s := S4x1x31x256) ![1, 0, 20, 0] S1x1x1x256.size inb_S4x1x31x256_S1x1x1x256_1_0_20_0).toLoadRect (harg6.unread x4))
      (View.readAt (Elt Ideal) arg6.view (Rect.unit (s := S4x1x31x256) ![2, 0, 20, 0] S1x1x1x256.size inb_S4x1x31x256_S1x1x1x256_2_0_20_0).toLoadRect (harg6.unread x4))
      (View.readAt (Elt Ideal) arg6.view (Rect.unit (s := S4x1x31x256) ![3, 0, 20, 0] S1x1x1x256.size inb_S4x1x31x256_S1x1x1x256_3_0_20_0).toLoadRect (harg6.unread x4))
      (fun q l => X4 q 20 (0 + l)) (read4 h4 _ _) (read4 h4 _ _) (read4 h4 _ _) (read4 h4 _ _) x y).trans ?_
    refine wideEq X4 20 80 y.val x.val (by have := x.isLt; omega)
  · refine (payWide (View.readAt (Elt Ideal) arg6.view (Rect.unit (s := S4x1x31x256) ![0, 0, 19, 0] S1x1x1x256.size inb_S4x1x31x256_S1x1x1x256_0_0_19_0).toLoadRect (harg6.unread x4))
      (View.readAt (Elt Ideal) arg6.view (Rect.unit (s := S4x1x31x256) ![1, 0, 19, 0] S1x1x1x256.size inb_S4x1x31x256_S1x1x1x256_1_0_19_0).toLoadRect (harg6.unread x4))
      (View.readAt (Elt Ideal) arg6.view (Rect.unit (s := S4x1x31x256) ![2, 0, 19, 0] S1x1x1x256.size inb_S4x1x31x256_S1x1x1x256_2_0_19_0).toLoadRect (harg6.unread x4))
      (View.readAt (Elt Ideal) arg6.view (Rect.unit (s := S4x1x31x256) ![3, 0, 19, 0] S1x1x1x256.size inb_S4x1x31x256_S1x1x1x256_3_0_19_0).toLoadRect (harg6.unread x4))
      (fun q l => X4 q 19 (0 + l)) (read4 h4 _ _) (read4 h4 _ _) (read4 h4 _ _) (read4 h4 _ _) x y).trans ?_
    refine wideEq X4 19 88 y.val x.val (by have := x.isLt; omega)
  · refine (payWide (View.readAt (Elt Ideal) arg6.view (Rect.unit (s := S4x1x31x256) ![0, 0, 18, 0] S1x1x1x256.size inb_S4x1x31x256_S1x1x1x256_0_0_18_0).toLoadRect (harg6.unread x4))
      (View.readAt (Elt Ideal) arg6.view (Rect.unit (s := S4x1x31x256) ![1, 0, 18, 0] S1x1x1x256.size inb_S4x1x31x256_S1x1x1x256_1_0_18_0).toLoadRect (harg6.unread x4))
      (View.readAt (Elt Ideal) arg6.view (Rect.unit (s := S4x1x31x256) ![2, 0, 18, 0] S1x1x1x256.size inb_S4x1x31x256_S1x1x1x256_2_0_18_0).toLoadRect (harg6.unread x4))
      (View.readAt (Elt Ideal) arg6.view (Rect.unit (s := S4x1x31x256) ![3, 0, 18, 0] S1x1x1x256.size inb_S4x1x31x256_S1x1x1x256_3_0_18_0).toLoadRect (harg6.unread x4))
      (fun q l => X4 q 18 (0 + l)) (read4 h4 _ _) (read4 h4 _ _) (read4 h4 _ _) (read4 h4 _ _) x y).trans ?_
    refine wideEq X4 18 96 y.val x.val (by have := x.isLt; omega)
  · refine (payWide (View.readAt (Elt Ideal) arg6.view (Rect.unit (s := S4x1x31x256) ![0, 0, 17, 0] S1x1x1x256.size inb_S4x1x31x256_S1x1x1x256_0_0_17_0).toLoadRect (harg6.unread x4))
      (View.readAt (Elt Ideal) arg6.view (Rect.unit (s := S4x1x31x256) ![1, 0, 17, 0] S1x1x1x256.size inb_S4x1x31x256_S1x1x1x256_1_0_17_0).toLoadRect (harg6.unread x4))
      (View.readAt (Elt Ideal) arg6.view (Rect.unit (s := S4x1x31x256) ![2, 0, 17, 0] S1x1x1x256.size inb_S4x1x31x256_S1x1x1x256_2_0_17_0).toLoadRect (harg6.unread x4))
      (View.readAt (Elt Ideal) arg6.view (Rect.unit (s := S4x1x31x256) ![3, 0, 17, 0] S1x1x1x256.size inb_S4x1x31x256_S1x1x1x256_3_0_17_0).toLoadRect (harg6.unread x4))
      (fun q l => X4 q 17 (0 + l)) (read4 h4 _ _) (read4 h4 _ _) (read4 h4 _ _) (read4 h4 _ _) x y).trans ?_
    refine wideEq X4 17 104 y.val x.val (by have := x.isLt; omega)
  · refine (payWide (View.readAt (Elt Ideal) arg6.view (Rect.unit (s := S4x1x31x256) ![0, 0, 16, 0] S1x1x1x256.size inb_S4x1x31x256_S1x1x1x256_0_0_16_0).toLoadRect (harg6.unread x4))
      (View.readAt (Elt Ideal) arg6.view (Rect.unit (s := S4x1x31x256) ![1, 0, 16, 0] S1x1x1x256.size inb_S4x1x31x256_S1x1x1x256_1_0_16_0).toLoadRect (harg6.unread x4))
      (View.readAt (Elt Ideal) arg6.view (Rect.unit (s := S4x1x31x256) ![2, 0, 16, 0] S1x1x1x256.size inb_S4x1x31x256_S1x1x1x256_2_0_16_0).toLoadRect (harg6.unread x4))
      (View.readAt (Elt Ideal) arg6.view (Rect.unit (s := S4x1x31x256) ![3, 0, 16, 0] S1x1x1x256.size inb_S4x1x31x256_S1x1x1x256_3_0_16_0).toLoadRect (harg6.unread x4))
      (fun q l => X4 q 16 (0 + l)) (read4 h4 _ _) (read4 h4 _ _) (read4 h4 _ _) (read4 h4 _ _) x y).trans ?_
    refine wideEq X4 16 112 y.val x.val (by have := x.isLt; omega)
  · refine (payWide (View.readAt (Elt Ideal) arg6.view (Rect.unit (s := S4x1x31x256) ![0, 0, 15, 0] S1x1x1x256.size inb_S4x1x31x256_S1x1x1x256_0_0_15_0).toLoadRect (harg6.unread x4))
      (View.readAt (Elt Ideal) arg6.view (Rect.unit (s := S4x1x31x256) ![1, 0, 15, 0] S1x1x1x256.size inb_S4x1x31x256_S1x1x1x256_1_0_15_0).toLoadRect (harg6.unread x4))
      (View.readAt (Elt Ideal) arg6.view (Rect.unit (s := S4x1x31x256) ![2, 0, 15, 0] S1x1x1x256.size inb_S4x1x31x256_S1x1x1x256_2_0_15_0).toLoadRect (harg6.unread x4))
      (View.readAt (Elt Ideal) arg6.view (Rect.unit (s := S4x1x31x256) ![3, 0, 15, 0] S1x1x1x256.size inb_S4x1x31x256_S1x1x1x256_3_0_15_0).toLoadRect (harg6.unread x4))
      (fun q l => X4 q 15 (0 + l)) (read4 h4 _ _) (read4 h4 _ _) (read4 h4 _ _) (read4 h4 _ _) x y).trans ?_
    refine wideEq X4 15 120 y.val x.val (by have := x.isLt; omega)
  · refine (payWide (View.readAt (Elt Ideal) arg6.view (Rect.unit (s := S4x1x31x256) ![0, 0, 14, 0] S1x1x1x256.size inb_S4x1x31x256_S1x1x1x256_0_0_14_0).toLoadRect (harg6.unread x4))
      (View.readAt (Elt Ideal) arg6.view (Rect.unit (s := S4x1x31x256) ![1, 0, 14, 0] S1x1x1x256.size inb_S4x1x31x256_S1x1x1x256_1_0_14_0).toLoadRect (harg6.unread x4))
      (View.readAt (Elt Ideal) arg6.view (Rect.unit (s := S4x1x31x256) ![2, 0, 14, 0] S1x1x1x256.size inb_S4x1x31x256_S1x1x1x256_2_0_14_0).toLoadRect (harg6.unread x4))
      (View.readAt (Elt Ideal) arg6.view (Rect.unit (s := S4x1x31x256) ![3, 0, 14, 0] S1x1x1x256.size inb_S4x1x31x256_S1x1x1x256_3_0_14_0).toLoadRect (harg6.unread x4))
      (fun q l => X4 q 14 (0 + l)) (read4 h4 _ _) (read4 h4 _ _) (read4 h4 _ _) (read4 h4 _ _) x y).trans ?_
    refine wideEq X4 14 128 y.val x.val (by have := x.isLt; omega)
  · refine (payWide (View.readAt (Elt Ideal) arg6.view (Rect.unit (s := S4x1x31x256) ![0, 0, 13, 0] S1x1x1x256.size inb_S4x1x31x256_S1x1x1x256_0_0_13_0).toLoadRect (harg6.unread x4))
      (View.readAt (Elt Ideal) arg6.view (Rect.unit (s := S4x1x31x256) ![1, 0, 13, 0] S1x1x1x256.size inb_S4x1x31x256_S1x1x1x256_1_0_13_0).toLoadRect (harg6.unread x4))
      (View.readAt (Elt Ideal) arg6.view (Rect.unit (s := S4x1x31x256) ![2, 0, 13, 0] S1x1x1x256.size inb_S4x1x31x256_S1x1x1x256_2_0_13_0).toLoadRect (harg6.unread x4))
      (View.readAt (Elt Ideal) arg6.view (Rect.unit (s := S4x1x31x256) ![3, 0, 13, 0] S1x1x1x256.size inb_S4x1x31x256_S1x1x1x256_3_0_13_0).toLoadRect (harg6.unread x4))
      (fun q l => X4 q 13 (0 + l)) (read4 h4 _ _) (read4 h4 _ _) (read4 h4 _ _) (read4 h4 _ _) x y).trans ?_
    refine wideEq X4 13 136 y.val x.val (by have := x.isLt; omega)
  · refine (payWide (View.readAt (Elt Ideal) arg6.view (Rect.unit (s := S4x1x31x256) ![0, 0, 12, 0] S1x1x1x256.size inb_S4x1x31x256_S1x1x1x256_0_0_12_0).toLoadRect (harg6.unread x4))
      (View.readAt (Elt Ideal) arg6.view (Rect.unit (s := S4x1x31x256) ![1, 0, 12, 0] S1x1x1x256.size inb_S4x1x31x256_S1x1x1x256_1_0_12_0).toLoadRect (harg6.unread x4))
      (View.readAt (Elt Ideal) arg6.view (Rect.unit (s := S4x1x31x256) ![2, 0, 12, 0] S1x1x1x256.size inb_S4x1x31x256_S1x1x1x256_2_0_12_0).toLoadRect (harg6.unread x4))
      (View.readAt (Elt Ideal) arg6.view (Rect.unit (s := S4x1x31x256) ![3, 0, 12, 0] S1x1x1x256.size inb_S4x1x31x256_S1x1x1x256_3_0_12_0).toLoadRect (harg6.unread x4))
      (fun q l => X4 q 12 (0 + l)) (read4 h4 _ _) (read4 h4 _ _) (read4 h4 _ _) (read4 h4 _ _) x y).trans ?_
    refine wideEq X4 12 144 y.val x.val (by have := x.isLt; omega)
  · refine (payWide (View.readAt (Elt Ideal) arg6.view (Rect.unit (s := S4x1x31x256) ![0, 0, 11, 0] S1x1x1x256.size inb_S4x1x31x256_S1x1x1x256_0_0_11_0).toLoadRect (harg6.unread x4))
      (View.readAt (Elt Ideal) arg6.view (Rect.unit (s := S4x1x31x256) ![1, 0, 11, 0] S1x1x1x256.size inb_S4x1x31x256_S1x1x1x256_1_0_11_0).toLoadRect (harg6.unread x4))
      (View.readAt (Elt Ideal) arg6.view (Rect.unit (s := S4x1x31x256) ![2, 0, 11, 0] S1x1x1x256.size inb_S4x1x31x256_S1x1x1x256_2_0_11_0).toLoadRect (harg6.unread x4))
      (View.readAt (Elt Ideal) arg6.view (Rect.unit (s := S4x1x31x256) ![3, 0, 11, 0] S1x1x1x256.size inb_S4x1x31x256_S1x1x1x256_3_0_11_0).toLoadRect (harg6.unread x4))
      (fun q l => X4 q 11 (0 + l)) (read4 h4 _ _) (read4 h4 _ _) (read4 h4 _ _) (read4 h4 _ _) x y).trans ?_
    refine wideEq X4 11 152 y.val x.val (by have := x.isLt; omega)
  · refine (payWide (View.readAt (Elt Ideal) arg6.view (Rect.unit (s := S4x1x31x256) ![0, 0, 10, 0] S1x1x1x256.size inb_S4x1x31x256_S1x1x1x256_0_0_10_0).toLoadRect (harg6.unread x4))
      (View.readAt (Elt Ideal) arg6.view (Rect.unit (s := S4x1x31x256) ![1, 0, 10, 0] S1x1x1x256.size inb_S4x1x31x256_S1x1x1x256_1_0_10_0).toLoadRect (harg6.unread x4))
      (View.readAt (Elt Ideal) arg6.view (Rect.unit (s := S4x1x31x256) ![2, 0, 10, 0] S1x1x1x256.size inb_S4x1x31x256_S1x1x1x256_2_0_10_0).toLoadRect (harg6.unread x4))
      (View.readAt (Elt Ideal) arg6.view (Rect.unit (s := S4x1x31x256) ![3, 0, 10, 0] S1x1x1x256.size inb_S4x1x31x256_S1x1x1x256_3_0_10_0).toLoadRect (harg6.unread x4))
      (fun q l => X4 q 10 (0 + l)) (read4 h4 _ _) (read4 h4 _ _) (read4 h4 _ _) (read4 h4 _ _) x y).trans ?_
    refine wideEq X4 10 160 y.val x.val (by have := x.isLt; omega)
  · refine (payWide (View.readAt (Elt Ideal) arg6.view (Rect.unit (s := S4x1x31x256) ![0, 0, 9, 0] S1x1x1x256.size inb_S4x1x31x256_S1x1x1x256_0_0_9_0).toLoadRect (harg6.unread x4))
      (View.readAt (Elt Ideal) arg6.view (Rect.unit (s := S4x1x31x256) ![1, 0, 9, 0] S1x1x1x256.size inb_S4x1x31x256_S1x1x1x256_1_0_9_0).toLoadRect (harg6.unread x4))
      (View.readAt (Elt Ideal) arg6.view (Rect.unit (s := S4x1x31x256) ![2, 0, 9, 0] S1x1x1x256.size inb_S4x1x31x256_S1x1x1x256_2_0_9_0).toLoadRect (harg6.unread x4))
      (View.readAt (Elt Ideal) arg6.view (Rect.unit (s := S4x1x31x256) ![3, 0, 9, 0] S1x1x1x256.size inb_S4x1x31x256_S1x1x1x256_3_0_9_0).toLoadRect (harg6.unread x4))
      (fun q l => X4 q 9 (0 + l)) (read4 h4 _ _) (read4 h4 _ _) (read4 h4 _ _) (read4 h4 _ _) x y).trans ?_
    refine wideEq X4 9 168 y.val x.val (by have := x.isLt; omega)
  · refine (payWide (View.readAt (Elt Ideal) arg6.view (Rect.unit (s := S4x1x31x256) ![0, 0, 8, 0] S1x1x1x256.size inb_S4x1x31x256_S1x1x1x256_0_0_8_0).toLoadRect (harg6.unread x4))
      (View.readAt (Elt Ideal) arg6.view (Rect.unit (s := S4x1x31x256) ![1, 0, 8, 0] S1x1x1x256.size inb_S4x1x31x256_S1x1x1x256_1_0_8_0).toLoadRect (harg6.unread x4))
      (View.readAt (Elt Ideal) arg6.view (Rect.unit (s := S4x1x31x256) ![2, 0, 8, 0] S1x1x1x256.size inb_S4x1x31x256_S1x1x1x256_2_0_8_0).toLoadRect (harg6.unread x4))
      (View.readAt (Elt Ideal) arg6.view (Rect.unit (s := S4x1x31x256) ![3, 0, 8, 0] S1x1x1x256.size inb_S4x1x31x256_S1x1x1x256_3_0_8_0).toLoadRect (harg6.unread x4))
      (fun q l => X4 q 8 (0 + l)) (read4 h4 _ _) (read4 h4 _ _) (read4 h4 _ _) (read4 h4 _ _) x y).trans ?_
    refine wideEq X4 8 176 y.val x.val (by have := x.isLt; omega)
  · refine (payWide (View.readAt (Elt Ideal) arg6.view (Rect.unit (s := S4x1x31x256) ![0, 0, 7, 0] S1x1x1x256.size inb_S4x1x31x256_S1x1x1x256_0_0_7_0).toLoadRect (harg6.unread x4))
      (View.readAt (Elt Ideal) arg6.view (Rect.unit (s := S4x1x31x256) ![1, 0, 7, 0] S1x1x1x256.size inb_S4x1x31x256_S1x1x1x256_1_0_7_0).toLoadRect (harg6.unread x4))
      (View.readAt (Elt Ideal) arg6.view (Rect.unit (s := S4x1x31x256) ![2, 0, 7, 0] S1x1x1x256.size inb_S4x1x31x256_S1x1x1x256_2_0_7_0).toLoadRect (harg6.unread x4))
      (View.readAt (Elt Ideal) arg6.view (Rect.unit (s := S4x1x31x256) ![3, 0, 7, 0] S1x1x1x256.size inb_S4x1x31x256_S1x1x1x256_3_0_7_0).toLoadRect (harg6.unread x4))
      (fun q l => X4 q 7 (0 + l)) (read4 h4 _ _) (read4 h4 _ _) (read4 h4 _ _) (read4 h4 _ _) x y).trans ?_
    refine wideEq X4 7 184 y.val x.val (by have := x.isLt; omega)
  · refine (payWide (View.readAt (Elt Ideal) arg6.view (Rect.unit (s := S4x1x31x256) ![0, 0, 6, 0] S1x1x1x256.size inb_S4x1x31x256_S1x1x1x256_0_0_6_0).toLoadRect (harg6.unread x4))
      (View.readAt (Elt Ideal) arg6.view (Rect.unit (s := S4x1x31x256) ![1, 0, 6, 0] S1x1x1x256.size inb_S4x1x31x256_S1x1x1x256_1_0_6_0).toLoadRect (harg6.unread x4))
      (View.readAt (Elt Ideal) arg6.view (Rect.unit (s := S4x1x31x256) ![2, 0, 6, 0] S1x1x1x256.size inb_S4x1x31x256_S1x1x1x256_2_0_6_0).toLoadRect (harg6.unread x4))
      (View.readAt (Elt Ideal) arg6.view (Rect.unit (s := S4x1x31x256) ![3, 0, 6, 0] S1x1x1x256.size inb_S4x1x31x256_S1x1x1x256_3_0_6_0).toLoadRect (harg6.unread x4))
      (fun q l => X4 q 6 (0 + l)) (read4 h4 _ _) (read4 h4 _ _) (read4 h4 _ _) (read4 h4 _ _) x y).trans ?_
    refine wideEq X4 6 192 y.val x.val (by have := x.isLt; omega)
  · refine (payWide (View.readAt (Elt Ideal) arg6.view (Rect.unit (s := S4x1x31x256) ![0, 0, 5, 0] S1x1x1x256.size inb_S4x1x31x256_S1x1x1x256_0_0_5_0).toLoadRect (harg6.unread x4))
      (View.readAt (Elt Ideal) arg6.view (Rect.unit (s := S4x1x31x256) ![1, 0, 5, 0] S1x1x1x256.size inb_S4x1x31x256_S1x1x1x256_1_0_5_0).toLoadRect (harg6.unread x4))
      (View.readAt (Elt Ideal) arg6.view (Rect.unit (s := S4x1x31x256) ![2, 0, 5, 0] S1x1x1x256.size inb_S4x1x31x256_S1x1x1x256_2_0_5_0).toLoadRect (harg6.unread x4))
      (View.readAt (Elt Ideal) arg6.view (Rect.unit (s := S4x1x31x256) ![3, 0, 5, 0] S1x1x1x256.size inb_S4x1x31x256_S1x1x1x256_3_0_5_0).toLoadRect (harg6.unread x4))
      (fun q l => X4 q 5 (0 + l)) (read4 h4 _ _) (read4 h4 _ _) (read4 h4 _ _) (read4 h4 _ _) x y).trans ?_
    refine wideEq X4 5 200 y.val x.val (by have := x.isLt; omega)
  · refine (payWide (View.readAt (Elt Ideal) arg6.view (Rect.unit (s := S4x1x31x256) ![0, 0, 4, 0] S1x1x1x256.size inb_S4x1x31x256_S1x1x1x256_0_0_4_0).toLoadRect (harg6.unread x4))
      (View.readAt (Elt Ideal) arg6.view (Rect.unit (s := S4x1x31x256) ![1, 0, 4, 0] S1x1x1x256.size inb_S4x1x31x256_S1x1x1x256_1_0_4_0).toLoadRect (harg6.unread x4))
      (View.readAt (Elt Ideal) arg6.view (Rect.unit (s := S4x1x31x256) ![2, 0, 4, 0] S1x1x1x256.size inb_S4x1x31x256_S1x1x1x256_2_0_4_0).toLoadRect (harg6.unread x4))
      (View.readAt (Elt Ideal) arg6.view (Rect.unit (s := S4x1x31x256) ![3, 0, 4, 0] S1x1x1x256.size inb_S4x1x31x256_S1x1x1x256_3_0_4_0).toLoadRect (harg6.unread x4))
      (fun q l => X4 q 4 (0 + l)) (read4 h4 _ _) (read4 h4 _ _) (read4 h4 _ _) (read4 h4 _ _) x y).trans ?_
    refine wideEq X4 4 208 y.val x.val (by have := x.isLt; omega)
  · refine (payWide (View.readAt (Elt Ideal) arg6.view (Rect.unit (s := S4x1x31x256) ![0, 0, 3, 0] S1x1x1x256.size inb_S4x1x31x256_S1x1x1x256_0_0_3_0).toLoadRect (harg6.unread x4))
      (View.readAt (Elt Ideal) arg6.view (Rect.unit (s := S4x1x31x256) ![1, 0, 3, 0] S1x1x1x256.size inb_S4x1x31x256_S1x1x1x256_1_0_3_0).toLoadRect (harg6.unread x4))
      (View.readAt (Elt Ideal) arg6.view (Rect.unit (s := S4x1x31x256) ![2, 0, 3, 0] S1x1x1x256.size inb_S4x1x31x256_S1x1x1x256_2_0_3_0).toLoadRect (harg6.unread x4))
      (View.readAt (Elt Ideal) arg6.view (Rect.unit (s := S4x1x31x256) ![3, 0, 3, 0] S1x1x1x256.size inb_S4x1x31x256_S1x1x1x256_3_0_3_0).toLoadRect (harg6.unread x4))
      (fun q l => X4 q 3 (0 + l)) (read4 h4 _ _) (read4 h4 _ _) (read4 h4 _ _) (read4 h4 _ _) x y).trans ?_
    refine wideEq X4 3 216 y.val x.val (by have := x.isLt; omega)
  · refine (payWide (View.readAt (Elt Ideal) arg6.view (Rect.unit (s := S4x1x31x256) ![0, 0, 2, 0] S1x1x1x256.size inb_S4x1x31x256_S1x1x1x256_0_0_2_0).toLoadRect (harg6.unread x4))
      (View.readAt (Elt Ideal) arg6.view (Rect.unit (s := S4x1x31x256) ![1, 0, 2, 0] S1x1x1x256.size inb_S4x1x31x256_S1x1x1x256_1_0_2_0).toLoadRect (harg6.unread x4))
      (View.readAt (Elt Ideal) arg6.view (Rect.unit (s := S4x1x31x256) ![2, 0, 2, 0] S1x1x1x256.size inb_S4x1x31x256_S1x1x1x256_2_0_2_0).toLoadRect (harg6.unread x4))
      (View.readAt (Elt Ideal) arg6.view (Rect.unit (s := S4x1x31x256) ![3, 0, 2, 0] S1x1x1x256.size inb_S4x1x31x256_S1x1x1x256_3_0_2_0).toLoadRect (harg6.unread x4))
      (fun q l => X4 q 2 (0 + l)) (read4 h4 _ _) (read4 h4 _ _) (read4 h4 _ _) (read4 h4 _ _) x y).trans ?_
    refine wideEq X4 2 224 y.val x.val (by have := x.isLt; omega)
  · refine (payWide (View.readAt (Elt Ideal) arg6.view (Rect.unit (s := S4x1x31x256) ![0, 0, 1, 0] S1x1x1x256.size inb_S4x1x31x256_S1x1x1x256_0_0_1_0).toLoadRect (harg6.unread x4))
      (View.readAt (Elt Ideal) arg6.view (Rect.unit (s := S4x1x31x256) ![1, 0, 1, 0] S1x1x1x256.size inb_S4x1x31x256_S1x1x1x256_1_0_1_0).toLoadRect (harg6.unread x4))
      (View.readAt (Elt Ideal) arg6.view (Rect.unit (s := S4x1x31x256) ![2, 0, 1, 0] S1x1x1x256.size inb_S4x1x31x256_S1x1x1x256_2_0_1_0).toLoadRect (harg6.unread x4))
      (View.readAt (Elt Ideal) arg6.view (Rect.unit (s := S4x1x31x256) ![3, 0, 1, 0] S1x1x1x256.size inb_S4x1x31x256_S1x1x1x256_3_0_1_0).toLoadRect (harg6.unread x4))
      (fun q l => X4 q 1 (0 + l)) (read4 h4 _ _) (read4 h4 _ _) (read4 h4 _ _) (read4 h4 _ _) x y).trans ?_
    refine wideEq X4 1 232 y.val x.val (by have := x.isLt; omega)
  · refine (payWide (View.readAt (Elt Ideal) arg6.view (Rect.unit (s := S4x1x31x256) ![0, 0, 0, 0] S1x1x1x256.size inb_S4x1x31x256_S1x1x1x256_0_0_0_0).toLoadRect (harg6.unread x4))
      (View.readAt (Elt Ideal) arg6.view (Rect.unit (s := S4x1x31x256) ![1, 0, 0, 0] S1x1x1x256.size inb_S4x1x31x256_S1x1x1x256_1_0_0_0).toLoadRect (harg6.unread x4))
      (View.readAt (Elt Ideal) arg6.view (Rect.unit (s := S4x1x31x256) ![2, 0, 0, 0] S1x1x1x256.size inb_S4x1x31x256_S1x1x1x256_2_0_0_0).toLoadRect (harg6.unread x4))
      (View.readAt (Elt Ideal) arg6.view (Rect.unit (s := S4x1x31x256) ![3, 0, 0, 0] S1x1x1x256.size inb_S4x1x31x256_S1x1x1x256_3_0_0_0).toLoadRect (harg6.unread x4))
      (fun q l => X4 q 0 (0 + l)) (read4 h4 _ _) (read4 h4 _ _) (read4 h4 _ _) (read4 h4 _ _) x y).trans ?_
    refine wideEq X4 0 240 y.val x.val (by have := x.isLt; omega)

/-- They cover the buffer. -/
theorem wCover_A (c : Dev nD) (arg6 : Memref sig .tc .vmem S4x1x31x256 .f32) (harg6 : arg6.IsWhole) (x4 : Vec Ideal S4x1x31x256 .f32) :
    ∀ y, ∃ p ∈ kernelRun0_A.sl.HS3_31 (F := Ideal) c arg6 harg6 x4, y ∈ p.1.set := by
  exact View.cover_of_tiledL _ S8x1024.size (by sl_kernel_rfl)

/-- What the first point leaves in the weights' buffer. -/
theorem wAt_A (c : Dev nD) (i : grid0.Coords) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg5 : Memref sig .tc .vmem S32x3072 .bf16) (harg5 : arg5.IsWhole) (arg6 : Memref sig .tc .vmem S4x1x31x256 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x3072 .bf16) (harg9 : arg9.IsWhole) (arg10 : Memref sig .tc .vmem S40x1024 .f32) (harg10 : arg10.IsWhole) (arg11 : Memref sig .tc .vmem S288x1024 .f32) (harg11 : arg11.IsWhole) (arg12 : Memref sig .tc .vmem S288x1024 .f32) (harg12 : arg12.IsWhole) (arg13 : Memref sig .tc .vmem S256x1024 .f32) (harg13 : arg13.IsWhole) (arg14 : Memref sig .tc .vmem S248x1024 .f32) (harg14 : arg14.IsWhole) (arg15 : Memref sig .tc .vmem S248x1024 .f32) (harg15 : arg15.IsWhole) (arg16 : Memref sig .tc .vmem S8x1024 .f32) (harg16 : arg16.IsWhole) (arg17 : Memref sig .tc .vmem S7x280x1024 .f32) (harg17 : arg17.IsWhole) (arg18 : Memref sig .tc .vmem S7x280x1024 .f32) (harg18 : arg18.IsWhole) (hc0 : cond0_0 i) (hc1 : ¬cond0_1 i) (hc2 : ¬cond0_2 i) (x0 : Vec Ideal S256x1024 .bf16) (x1 : Vec Ideal S256x1024 .f32) (x2 : Vec Ideal S256x3072 .bf16) (x3 : Vec Ideal S32x3072 .bf16) (x4 : Vec Ideal S4x1x31x256 .f32) (x5 : Vec Ideal S1x1x1024 .f32) (x6 : Vec Ideal S1x1x1024 .f32)
    (X4 : Nat → Nat → Nat → EReal)
    (e4 : ∀ (p : Fin 4) (z : Fin 1) (a : Fin 31) (b : Fin 256), x4 (ix4 p z a b) = X4 p.val a.val b.val)
    (a : Fin 248) (b : Fin 1024) :
    (sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 : Vec Ideal S248x1024 .f32) (ix2 a b) = (fun a l => X4 (l / 256) (30 - a / 8) (l % 256)) a.val b.val := by
  have h4 := fun p z a b => (congrFun (harg6.read_unread x4) (ix4 p z a b)).trans (e4 p z a b)
  unfold sout0_A_3 kernelRun0_A; dsimp only
  exact readPieces2 _ _ (wPieces_A c arg6 harg6 x4 X4 h4) (wCover_A c arg6 harg6 x4) a b

/-- The taps of the convolution's transpose, as the point loads them back. -/
theorem tapLoad_A (c : Dev nD) (i : grid0.Coords) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg5 : Memref sig .tc .vmem S32x3072 .bf16) (harg5 : arg5.IsWhole) (arg6 : Memref sig .tc .vmem S4x1x31x256 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x3072 .bf16) (harg9 : arg9.IsWhole) (arg10 : Memref sig .tc .vmem S40x1024 .f32) (harg10 : arg10.IsWhole) (arg11 : Memref sig .tc .vmem S288x1024 .f32) (harg11 : arg11.IsWhole) (arg12 : Memref sig .tc .vmem S288x1024 .f32) (harg12 : arg12.IsWhole) (arg13 : Memref sig .tc .vmem S256x1024 .f32) (harg13 : arg13.IsWhole) (arg14 : Memref sig .tc .vmem S248x1024 .f32) (harg14 : arg14.IsWhole) (arg15 : Memref sig .tc .vmem S248x1024 .f32) (harg15 : arg15.IsWhole) (arg16 : Memref sig .tc .vmem S8x1024 .f32) (harg16 : arg16.IsWhole) (arg17 : Memref sig .tc .vmem S7x280x1024 .f32) (harg17 : arg17.IsWhole) (arg18 : Memref sig .tc .vmem S7x280x1024 .f32) (harg18 : arg18.IsWhole) (x0 : Vec Ideal S256x1024 .bf16) (x1 : Vec Ideal S256x1024 .f32) (x2 : Vec Ideal S256x3072 .bf16) (x4 : Vec Ideal S4x1x31x256 .f32) (x5 : Vec Ideal S1x1x1024 .f32) (x6 : Vec Ideal S1x1x1024 .f32)
    (X0 X1 X2 : Nat → Nat → EReal) (X5 X6 : Nat → Nat → Nat → EReal)
    (h0 : ∀ (a : Fin 256) (b : Fin 1024), arg2.view.read (Elt Ideal) (harg2.unread x0) (ix2 a b) = X0 a.val b.val)
    (h1 : ∀ (a : Fin 256) (b : Fin 1024), arg3.view.read (Elt Ideal) (harg3.unread x1) (ix2 a b) = X1 a.val b.val)
    (h2 : ∀ (a : Fin 256) (b : Fin 3072), arg4.view.read (Elt Ideal) (harg4.unread x2) (ix2 a b) = X2 a.val b.val)
    (h5 : ∀ (p a : Fin 1) (b : Fin 1024), arg7.view.read (Elt Ideal) (harg7.unread x5) (ix3 p a b) = X5 p.val a.val b.val)
    (h6 : ∀ (p a : Fin 1) (b : Fin 1024), arg8.view.read (Elt Ideal) (harg8.unread x6) (ix3 p a b) = X6 p.val a.val b.val) (X4 : Nat → Nat → Nat → EReal)
    (h4 : ∀ (p : Fin 4) (z : Fin 1) (a : Fin 31) (b : Fin 256), arg6.view.read (Elt Ideal) (harg6.unread x4) (ix4 p z a b) = X4 p.val a.val b.val)
    (x : Fin 256) (y : Fin 1024) :
    kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x4 x5 x6 (ix2 x y) = tapSum (fun a l => X4 (l / 256) (30 - a / 8) (l % 256)) (Cert.Tile.follow (Cert.Tile.dyT X0 X1 X2 X5 X6) (fun _ _ => 0)) x.val y.val := by
  have hp := tilePieces_A c arg2 harg2 arg3 harg3 arg4 harg4 arg7 harg7 arg8 harg8 x0 x1 x2 x5 x6 X0 X1 X2 X5 X6 h0 h1 h2 h5 h6
  have hc := tileCover_A c arg2 harg2 arg3 harg3 arg4 harg4 arg7 harg7 arg8 harg8 x0 x1 x2 x5 x6
  unfold kernelRun0_A.sl.r_16
  refine (covPieces2 (n0 := 256) (n1 := 1024) (m0 := 256) (m1 := 1024) (e := .f32) _ (G := tapSum (fun a l => X4 (l / 256) (30 - a / 8) (l % 256)) (Cert.Tile.follow (Cert.Tile.dyT X0 X1 X2 X5 X6) (fun _ _ => 0))) ?_ (View.cover_of_tiledL _ S64x512.size (by sl_kernel_rfl)) ![0, 0] _ x y).trans ?_
  · exact pb1_pieces _ c _ i _ _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ (fun a l => X4 (l / 256) (30 - a / 8) (l % 256)) (Cert.Tile.follow (Cert.Tile.dyT X0 X1 X2 X5 X6) (fun _ _ => 0)) (readPieces2 _ _ (wPieces_A c arg6 harg6 x4 X4 h4) (wCover_A c arg6 harg6 x4)) (readPieces2 _ _ hp hc) (tileShift_A c arg2 harg2 arg3 harg3 arg4 harg4 arg7 harg7 arg8 harg8 x0 x1 x2 x5 x6 arg11 arg17 X0 X1 X2 X5 X6 h0 h1 h2 h5 h6 _) _ (le_of_eq trips1)
  · simp only [Matrix.cons_val_zero, Matrix.cons_val_one, Nat.zero_add]

/-- What the point writes of the projection's gradient. -/
theorem dpAt_A (c : Dev nD) (i : grid0.Coords) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg5 : Memref sig .tc .vmem S32x3072 .bf16) (harg5 : arg5.IsWhole) (arg6 : Memref sig .tc .vmem S4x1x31x256 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x3072 .bf16) (harg9 : arg9.IsWhole) (arg10 : Memref sig .tc .vmem S40x1024 .f32) (harg10 : arg10.IsWhole) (arg11 : Memref sig .tc .vmem S288x1024 .f32) (harg11 : arg11.IsWhole) (arg12 : Memref sig .tc .vmem S288x1024 .f32) (harg12 : arg12.IsWhole) (arg13 : Memref sig .tc .vmem S256x1024 .f32) (harg13 : arg13.IsWhole) (arg14 : Memref sig .tc .vmem S248x1024 .f32) (harg14 : arg14.IsWhole) (arg15 : Memref sig .tc .vmem S248x1024 .f32) (harg15 : arg15.IsWhole) (arg16 : Memref sig .tc .vmem S8x1024 .f32) (harg16 : arg16.IsWhole) (arg17 : Memref sig .tc .vmem S7x280x1024 .f32) (harg17 : arg17.IsWhole) (arg18 : Memref sig .tc .vmem S7x280x1024 .f32) (harg18 : arg18.IsWhole) (hc0 : cond0_0 i) (hc1 : ¬cond0_1 i) (hc2 : ¬cond0_2 i) (x0 : Vec Ideal S256x1024 .bf16) (x1 : Vec Ideal S256x1024 .f32) (x2 : Vec Ideal S256x3072 .bf16) (x3 : Vec Ideal S32x3072 .bf16) (x4 : Vec Ideal S4x1x31x256 .f32) (x5 : Vec Ideal S1x1x1024 .f32) (x6 : Vec Ideal S1x1x1024 .f32)
    (X0 X1 X2 : Nat → Nat → EReal) (X5 X6 : Nat → Nat → Nat → EReal)
    (e0 : ∀ (a : Fin 256) (b : Fin 1024), x0 (ix2 a b) = X0 a.val b.val)
    (e1 : ∀ (a : Fin 256) (b : Fin 1024), x1 (ix2 a b) = X1 a.val b.val)
    (e2 : ∀ (a : Fin 256) (b : Fin 3072), x2 (ix2 a b) = X2 a.val b.val)
    (e5 : ∀ (p a : Fin 1) (b : Fin 1024), x5 (ix3 p a b) = X5 p.val a.val b.val)
    (e6 : ∀ (p a : Fin 1) (b : Fin 1024), x6 (ix3 p a b) = X6 p.val a.val b.val) (X4 : Nat → Nat → Nat → EReal)
    (e4 : ∀ (p : Fin 4) (z : Fin 1) (a : Fin 31) (b : Fin 256), x4 (ix4 p z a b) = X4 p.val a.val b.val)
    (a : Fin 256) (b : Fin 3072) :
    (out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 : Vec Ideal S256x3072 .bf16) (ix2 a b) = (Cert.Tile.dpT (tapSum (fun a l => X4 (l / 256) (30 - a / 8) (l % 256)) (Cert.Tile.follow (Cert.Tile.dyT X0 X1 X2 X5 X6) (fun _ _ => 0))) (Cert.Tile.gateT X0 X1 X2 X5 X6) X2) a.val b.val := by
  have h0 := fun a b => (congrFun (harg2.read_unread x0) (ix2 a b)).trans (e0 a b)
  have h1 := fun a b => (congrFun (harg3.read_unread x1) (ix2 a b)).trans (e1 a b)
  have h2 := fun a b => (congrFun (harg4.read_unread x2) (ix2 a b)).trans (e2 a b)
  have h5 := fun p a b => (congrFun (harg7.read_unread x5) (ix3 p a b)).trans (e5 p a b)
  have h6 := fun p a b => (congrFun (harg8.read_unread x6) (ix3 p a b)).trans (e6 p a b)
  have h4 := fun p z a b => (congrFun (harg6.read_unread x4) (ix4 p z a b)).trans (e4 p z a b)
  unfold out0_A_7 kernelRun0_A; dsimp only
  have hsb : ∀ (x : Fin 256) (y : Fin 1024), kernelRun0_A.sl.r_15 (F := Ideal) c arg4 harg4 x2 (ix2 x y) = Ideal.logistic (X2 x.val (1024 + y.val)) := by
    intro x y
    unfold kernelRun0_A.sl.r_15 kernelRun0_A.sl.r_14
    refine (paySig _ x y).trans (congrArg _ ((read2 h2 _ _ x y).trans ?_))
    simp only [Matrix.cons_val_zero, Matrix.cons_val_one, Nat.zero_add]
  have hga : ∀ (x : Fin 256) (y : Fin 1024), kernelRun0_A.sl.r_13 (F := Ideal) c arg4 harg4 x2 (ix2 x y) = X2 x.val y.val := by
    intro x y
    unfold kernelRun0_A.sl.r_13
    refine (payIn _ x y).trans ((read2 h2 _ _ x y).trans ?_)
    simp only [Matrix.cons_val_zero, Matrix.cons_val_one, Nat.zero_add]
  have hdu := tapLoad_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x4 x5 x6 X0 X1 X2 X5 X6 h0 h1 h2 h5 h6 X4 h4
  refine readPieces2 (n0 := 256) (n1 := 3072) (e := .bf16) (G := (Cert.Tile.dpT (tapSum (fun a l => X4 (l / 256) (30 - a / 8) (l % 256)) (Cert.Tile.follow (Cert.Tile.dyT X0 X1 X2 X5 X6) (fun _ _ => 0))) (Cert.Tile.gateT X0 X1 X2 X5 X6) X2)) _ _ ?_ (View.cover_of_tiledL _ S256x1024.size (by sl_kernel_rfl)) a b
  unfold kernelRun0_A.sl.H7_3
  refine ⟨piece2 _ (inb := inb_S256x3072_S256x1024_0_1024) fun x y => ?_, piece2 _ (inb := inb_S256x3072_S256x1024_0_0) fun x y => ?_, piece2 _ (inb := inb_S256x3072_S256x1024_0_2048) fun x y => ?_, trivial⟩
  · refine (payRight _ _ _ x y).trans ?_
    rw [hdu x y, hga x y, hsb x y]
    simp only [Matrix.cons_val_zero, Matrix.cons_val_one, Nat.zero_add]
    have hy := y.isLt
    rw [Cert.Tile.dpT, if_neg (by omega), if_pos (by omega), Nat.add_sub_cancel_left]
    rfl
  · refine (payLeft (kernelRun0_A.sl.r_15 (F := Ideal) c arg4 harg4 x2) (kernelRun0_A.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x4 x5 x6) x y).trans ?_
    rw [hdu x y, hsb x y]
    simp only [Matrix.cons_val_zero, Matrix.cons_val_one, Nat.zero_add]
    rw [Cert.Tile.dpT, if_pos y.isLt]
  · refine (gateCell_A c arg2 harg2 arg3 harg3 arg4 harg4 arg7 harg7 arg8 harg8 x0 x1 x2 x5 x6 X0 X1 X2 X5 X6 h0 h1 h2 h5 h6 x y).trans ?_
    simp only [Matrix.cons_val_zero, Matrix.cons_val_one, Nat.zero_add]
    rw [Cert.Tile.dpT, if_neg (by omega), if_neg (by omega), Nat.add_sub_cancel_left]

/-- What the point adds to the weights' gradient. -/
theorem dwAt_A (c : Dev nD) (i : grid0.Coords) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg5 : Memref sig .tc .vmem S32x3072 .bf16) (harg5 : arg5.IsWhole) (arg6 : Memref sig .tc .vmem S4x1x31x256 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x3072 .bf16) (harg9 : arg9.IsWhole) (arg10 : Memref sig .tc .vmem S40x1024 .f32) (harg10 : arg10.IsWhole) (arg11 : Memref sig .tc .vmem S288x1024 .f32) (harg11 : arg11.IsWhole) (arg12 : Memref sig .tc .vmem S288x1024 .f32) (harg12 : arg12.IsWhole) (arg13 : Memref sig .tc .vmem S256x1024 .f32) (harg13 : arg13.IsWhole) (arg14 : Memref sig .tc .vmem S248x1024 .f32) (harg14 : arg14.IsWhole) (arg15 : Memref sig .tc .vmem S248x1024 .f32) (harg15 : arg15.IsWhole) (arg16 : Memref sig .tc .vmem S8x1024 .f32) (harg16 : arg16.IsWhole) (arg17 : Memref sig .tc .vmem S7x280x1024 .f32) (harg17 : arg17.IsWhole) (arg18 : Memref sig .tc .vmem S7x280x1024 .f32) (harg18 : arg18.IsWhole) (hc0 : cond0_0 i) (hc1 : ¬cond0_1 i) (hc2 : ¬cond0_2 i) (x0 : Vec Ideal S256x1024 .bf16) (x1 : Vec Ideal S256x1024 .f32) (x2 : Vec Ideal S256x3072 .bf16) (x3 : Vec Ideal S32x3072 .bf16) (x4 : Vec Ideal S4x1x31x256 .f32) (x5 : Vec Ideal S1x1x1024 .f32) (x6 : Vec Ideal S1x1x1024 .f32)
    (X0 X1 X2 : Nat → Nat → EReal) (X5 X6 : Nat → Nat → Nat → EReal)
    (e0 : ∀ (a : Fin 256) (b : Fin 1024), x0 (ix2 a b) = X0 a.val b.val)
    (e1 : ∀ (a : Fin 256) (b : Fin 1024), x1 (ix2 a b) = X1 a.val b.val)
    (e2 : ∀ (a : Fin 256) (b : Fin 3072), x2 (ix2 a b) = X2 a.val b.val)
    (e5 : ∀ (p a : Fin 1) (b : Fin 1024), x5 (ix3 p a b) = X5 p.val a.val b.val)
    (e6 : ∀ (p a : Fin 1) (b : Fin 1024), x6 (ix3 p a b) = X6 p.val a.val b.val) (X3 : Nat → Nat → EReal)
    (e3 : ∀ (a : Fin 32) (b : Fin 3072), x3 (ix2 a b) = X3 a.val b.val)
    (hal : Bool) (hv : Scalar.cmpi .sgt (Scalar.subi 15#32 (BitVec.ofNat 32 (i 0).val)) 0#32 = BitVec.ofBool hal)
    (a : Fin 248) (b : Fin 1024) :
    (sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 : Vec Ideal S248x1024 .f32) (ix2 a b) = 0 + ∑ j ∈ Finset.range 4, grpSum (Cert.Tile.follow (Cert.Tile.dyT X0 X1 X2 X5 X6) (fun _ _ => 0)) (Cert.Tile.precede hal X2 X3) j a.val b.val := by
  have h0 := fun a b => (congrFun (harg2.read_unread x0) (ix2 a b)).trans (e0 a b)
  have h1 := fun a b => (congrFun (harg3.read_unread x1) (ix2 a b)).trans (e1 a b)
  have h2 := fun a b => (congrFun (harg4.read_unread x2) (ix2 a b)).trans (e2 a b)
  have h3 := fun a b => (congrFun (harg5.read_unread x3) (ix2 a b)).trans (e3 a b)
  have h5 := fun p a b => (congrFun (harg7.read_unread x5) (ix3 p a b)).trans (e5 p a b)
  have h6 := fun p a b => (congrFun (harg8.read_unread x6) (ix3 p a b)).trans (e6 p a b)
  have hp := tilePieces_A c arg2 harg2 arg3 harg3 arg4 harg4 arg7 harg7 arg8 harg8 x0 x1 x2 x5 x6 X0 X1 X2 X5 X6 h0 h1 h2 h5 h6
  have hc := tileCover_A c arg2 harg2 arg3 harg3 arg4 harg4 arg7 harg7 arg8 harg8 x0 x1 x2 x5 x6
  have hq := inPieces_A c i arg4 harg4 arg5 harg5 x2 x3 X2 X3 h2 h3 hal hv
  have hd := inCover_A c i arg4 harg4 arg5 harg5 x2 x3
  have hz : ∀ (a : Fin 248) (b : Fin 1024), arg15.view.read (Elt Ideal) (arg15.view.writes (Elt Ideal) arg15.view.junk (kernelRun0_A.sl.HS4_1 (F := Ideal))) (ix2 a b) = (0 : EReal) := by
    intro a b
    refine readPieces2 (n0 := 248) (n1 := 1024) (e := .f32) (G := fun _ _ => (0 : EReal)) _ _ ?_ (View.cover_of_wholeMem _ (by sl_whole_mem)) a b
    exact ⟨piece2 _ (inb := inb_S248x1024_S248x1024_0_0) fun x y => payZero8 x y, trivial⟩
  have hcov := scover0_A_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 (ix2 a b)
  unfold sout0_A_4
  refine (View.read_writes_apply_eq _ _ arg15.view arg15.view.junk (ix2 a b) _ hcov).trans ?_
  unfold kernelRun0_A; dsimp only
  refine (congrFun (congrArg (arg15.view.read (Elt Ideal)) (View.writes_append _ _ _ _)) _).trans ?_
  exact pb2_read Variants.none c none i (Memref.whole main_arg0) (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ (fun _ _ => 0) (Cert.Tile.follow (Cert.Tile.dyT X0 X1 X2 X5 X6) (fun _ _ => 0)) (Cert.Tile.precede hal X2 X3) hz (readPieces2 _ _ hp hc) (readPieces2 _ _ hq hd) (inShift_A c i arg4 harg4 arg5 harg5 x2 x3 arg12 arg18 X2 X3 h2 h3 hal hv _) _ (le_of_eq trips2) a b

/-- What the point leaves in the rows of column sums. -/
theorem sumAt_A (c : Dev nD) (i : grid0.Coords) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg5 : Memref sig .tc .vmem S32x3072 .bf16) (harg5 : arg5.IsWhole) (arg6 : Memref sig .tc .vmem S4x1x31x256 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x3072 .bf16) (harg9 : arg9.IsWhole) (arg10 : Memref sig .tc .vmem S40x1024 .f32) (harg10 : arg10.IsWhole) (arg11 : Memref sig .tc .vmem S288x1024 .f32) (harg11 : arg11.IsWhole) (arg12 : Memref sig .tc .vmem S288x1024 .f32) (harg12 : arg12.IsWhole) (arg13 : Memref sig .tc .vmem S256x1024 .f32) (harg13 : arg13.IsWhole) (arg14 : Memref sig .tc .vmem S248x1024 .f32) (harg14 : arg14.IsWhole) (arg15 : Memref sig .tc .vmem S248x1024 .f32) (harg15 : arg15.IsWhole) (arg16 : Memref sig .tc .vmem S8x1024 .f32) (harg16 : arg16.IsWhole) (arg17 : Memref sig .tc .vmem S7x280x1024 .f32) (harg17 : arg17.IsWhole) (arg18 : Memref sig .tc .vmem S7x280x1024 .f32) (harg18 : arg18.IsWhole) (hc0 : cond0_0 i) (hc1 : ¬cond0_1 i) (hc2 : ¬cond0_2 i) (x0 : Vec Ideal S256x1024 .bf16) (x1 : Vec Ideal S256x1024 .f32) (x2 : Vec Ideal S256x3072 .bf16) (x3 : Vec Ideal S32x3072 .bf16) (x4 : Vec Ideal S4x1x31x256 .f32) (x5 : Vec Ideal S1x1x1024 .f32) (x6 : Vec Ideal S1x1x1024 .f32)
    (X0 X1 X2 : Nat → Nat → EReal) (X5 X6 : Nat → Nat → Nat → EReal)
    (e0 : ∀ (a : Fin 256) (b : Fin 1024), x0 (ix2 a b) = X0 a.val b.val)
    (e1 : ∀ (a : Fin 256) (b : Fin 1024), x1 (ix2 a b) = X1 a.val b.val)
    (e2 : ∀ (a : Fin 256) (b : Fin 3072), x2 (ix2 a b) = X2 a.val b.val)
    (e5 : ∀ (p a : Fin 1) (b : Fin 1024), x5 (ix3 p a b) = X5 p.val a.val b.val)
    (e6 : ∀ (p a : Fin 1) (b : Fin 1024), x6 (ix3 p a b) = X6 p.val a.val b.val)
    (a : Fin 8) (b : Fin 1024) :
    (sout0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 : Vec Ideal S8x1024 .f32) (ix2 a b) = Cert.Tile.accT X0 X1 X2 X5 X6 (fun _ _ => 0) a.val b.val := by
  have h0 := fun a b => (congrFun (harg2.read_unread x0) (ix2 a b)).trans (e0 a b)
  have h1 := fun a b => (congrFun (harg3.read_unread x1) (ix2 a b)).trans (e1 a b)
  have h2 := fun a b => (congrFun (harg4.read_unread x2) (ix2 a b)).trans (e2 a b)
  have h5 := fun p a b => (congrFun (harg7.read_unread x5) (ix3 p a b)).trans (e5 p a b)
  have h6 := fun p a b => (congrFun (harg8.read_unread x6) (ix3 p a b)).trans (e6 p a b)
  have z1 : ∀ f (a : Fin 8) (b : Fin 1024), arg16.view.read (Elt Ideal) (arg16.view.writes (Elt Ideal) f (kernelRun0_A.sl.HS5_1 (F := Ideal))) (ix2 a b) = (fun _ _ => (0 : EReal)) a.val b.val := by
    intro f a b
    refine readPieces2 (n0 := 8) (n1 := 1024) (e := .f32) (G := fun _ _ => (0 : EReal)) _ _ ?_ (View.cover_of_wholeMem _ (by sl_whole_mem)) a b
    exact ⟨piece2 _ (inb := inb_S8x1024_S8x1024_0_0) fun x y => payZero9 x y, trivial⟩
  have w0 : ∀ (x : Fin 1) (y : Fin 1024), k0_pay642 (kernelRun0_A.sl.r_11 (F := Ideal) c arg2 harg2 arg3 harg3 arg4 harg4 arg7 harg7 arg8 harg8 x0 x1 x2 x5 x6) (kernelRun0_A.sl.r_12 (F := Ideal) c arg2 harg2 arg3 harg3 arg4 harg4 arg7 harg7 arg8 harg8 x0 x1 x2 x5 x6) (kernelRun0_A.sl.v97 (F := Ideal) c arg16) (ix2 x y) = 0 + ∑ r : Fin 256, Cert.Tile.dyT X0 X1 X2 X5 X6 r.val y.val := by
    intro x y
    obtain rfl : x = 0 := Subsingleton.elim _ _
    refine (dySum_A c arg2 harg2 arg3 harg3 arg4 harg4 arg7 harg7 arg8 harg8 x0 x1 x2 x5 x6 X0 X1 X2 X5 X6 h0 h1 h2 h5 h6 _ y).trans (congrArg (· + _) ((read2 (W := (fun _ _ => (0 : EReal))) (z1 _) ![0, 0] inb_S8x1024_S1x1024_0_0 (0 : Fin 1) y).trans ?_))
    simp
  have z2 : ∀ f (a : Fin 8) (b : Fin 1024), arg16.view.read (Elt Ideal) (arg16.view.writes (Elt Ideal) f (kernelRun0_A.sl.HS5_2 (F := Ideal) c arg2 harg2 arg3 harg3 arg4 harg4 arg7 harg7 arg8 harg8 arg16 x0 x1 x2 x5 x6)) (ix2 a b) = (fun a l => if 0 ≤ a ∧ a < 0 + 1 then 0 + ∑ r : Fin 256, Cert.Tile.dyT X0 X1 X2 X5 X6 r.val l else (fun _ _ => (0 : EReal)) a l) a.val b.val := by
    intro f a b
    refine (boxOver (o := 0) (m := 1) arg16.view f _ _ _ (fun _ l => 0 + ∑ r : Fin 256, Cert.Tile.dyT X0 X1 X2 X5 X6 r.val l) w0 a b).trans ?_
    rw [z1 f a b]
  have w1 : ∀ (x : Fin 1) (y : Fin 1024), k0_pay643 (kernelRun0_A.sl.r_10 (F := Ideal) c arg2 harg2 arg3 harg3 arg4 harg4 arg7 harg7 arg8 harg8 x0 x1 x2 x5 x6) (kernelRun0_A.sl.v104 (F := Ideal) c arg2 harg2 arg3 harg3 arg4 harg4 arg7 harg7 arg8 harg8 arg16 x0 x1 x2 x5 x6) (ix2 x y) = 0 + ∑ r : Fin 256, Cert.Tile.gainT X0 X1 X2 X5 X6 r.val y.val := by
    intro x y
    obtain rfl : x = 0 := Subsingleton.elim _ _
    refine (gainSum_A c arg2 harg2 arg3 harg3 arg4 harg4 arg7 harg7 arg8 harg8 x0 x1 x2 x5 x6 X0 X1 X2 X5 X6 h0 h1 h2 h5 h6 _ y).trans (congrArg (· + _) ((read2 (W := (fun a l => if 0 ≤ a ∧ a < 0 + 1 then 0 + ∑ r : Fin 256, Cert.Tile.dyT X0 X1 X2 X5 X6 r.val l else (fun _ _ => (0 : EReal)) a l)) (z2 _) ![1, 0] inb_S8x1024_S1x1024_1_0 (0 : Fin 1) y).trans ?_))
    simp
  have z3 : ∀ f (a : Fin 8) (b : Fin 1024), arg16.view.read (Elt Ideal) (arg16.view.writes (Elt Ideal) f (kernelRun0_A.sl.HS5_3 (F := Ideal) c arg2 harg2 arg3 harg3 arg4 harg4 arg7 harg7 arg8 harg8 arg16 x0 x1 x2 x5 x6)) (ix2 a b) = (fun a l => if 1 ≤ a ∧ a < 1 + 1 then 0 + ∑ r : Fin 256, Cert.Tile.gainT X0 X1 X2 X5 X6 r.val l else (fun a l => if 0 ≤ a ∧ a < 0 + 1 then 0 + ∑ r : Fin 256, Cert.Tile.dyT X0 X1 X2 X5 X6 r.val l else (fun _ _ => (0 : EReal)) a l) a l) a.val b.val := by
    intro f a b
    refine (boxOver (o := 1) (m := 1) arg16.view f _ _ _ (fun _ l => 0 + ∑ r : Fin 256, Cert.Tile.gainT X0 X1 X2 X5 X6 r.val l) w1 a b).trans ?_
    rw [z2 f a b]
  have w2 : ∀ (x : Fin 1) (y : Fin 1024), k0_pay644 (kernelRun0_A.sl.r_9 (F := Ideal) c arg2 harg2 arg3 harg3 arg4 harg4 arg7 harg7 arg8 harg8 x0 x1 x2 x5 x6) (kernelRun0_A.sl.v109 (F := Ideal) c arg2 harg2 arg3 harg3 arg4 harg4 arg7 harg7 arg8 harg8 arg16 x0 x1 x2 x5 x6) (ix2 x y) = 0 + ∑ r : Fin 256, Cert.Tile.dlnT X0 X1 X2 X5 X6 r.val y.val := by
    intro x y
    obtain rfl : x = 0 := Subsingleton.elim _ _
    refine (dlnSum_A c arg2 harg2 arg3 harg3 arg4 harg4 arg7 harg7 arg8 harg8 x0 x1 x2 x5 x6 X0 X1 X2 X5 X6 h0 h1 h2 h5 h6 _ y).trans (congrArg (· + _) ((read2 (W := (fun a l => if 1 ≤ a ∧ a < 1 + 1 then 0 + ∑ r : Fin 256, Cert.Tile.gainT X0 X1 X2 X5 X6 r.val l else (fun a l => if 0 ≤ a ∧ a < 0 + 1 then 0 + ∑ r : Fin 256, Cert.Tile.dyT X0 X1 X2 X5 X6 r.val l else (fun _ _ => (0 : EReal)) a l) a l)) (z3 _) ![2, 0] inb_S8x1024_S1x1024_2_0 (0 : Fin 1) y).trans ?_))
    simp
  have z4 : ∀ f (a : Fin 8) (b : Fin 1024), arg16.view.read (Elt Ideal) (arg16.view.writes (Elt Ideal) f (kernelRun0_A.sl.HS5_4 (F := Ideal) c arg2 harg2 arg3 harg3 arg4 harg4 arg7 harg7 arg8 harg8 arg16 x0 x1 x2 x5 x6)) (ix2 a b) = (fun a l => if 2 ≤ a ∧ a < 2 + 1 then 0 + ∑ r : Fin 256, Cert.Tile.dlnT X0 X1 X2 X5 X6 r.val l else (fun a l => if 1 ≤ a ∧ a < 1 + 1 then 0 + ∑ r : Fin 256, Cert.Tile.gainT X0 X1 X2 X5 X6 r.val l else (fun a l => if 0 ≤ a ∧ a < 0 + 1 then 0 + ∑ r : Fin 256, Cert.Tile.dyT X0 X1 X2 X5 X6 r.val l else (fun _ _ => (0 : EReal)) a l) a l) a l) a.val b.val := by
    intro f a b
    refine (boxOver (o := 2) (m := 1) arg16.view f _ _ _ (fun _ l => 0 + ∑ r : Fin 256, Cert.Tile.dlnT X0 X1 X2 X5 X6 r.val l) w2 a b).trans ?_
    rw [z3 f a b]
  have hcov := scover0_A_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 (ix2 a b)
  unfold sout0_A_5
  refine (View.read_writes_apply_eq _ _ arg16.view arg16.view.junk (ix2 a b) _ hcov).trans ?_
  unfold kernelRun0_A; dsimp only
  exact (z4 _ a b).trans (accZero X0 X1 X2 X5 X6 a.val b.val)

end Cert.KernelIdeal.Gen
-- ==== Proof.CellB.lean ====
/-
The grid point of the kernel, one between the first and the last: what its buffers hold, cell by cell.
-/
module

public import proofs.«01_k».proof.Proof.Fold
public import proofs.«01_k».proof.Proof.Tile
public import proofs.«01_k».proof.Proof.Pieces
public import proofs.«01_k».proof.Proof.Gen.KernelIdeal.Value

@[expose] public section

set_option maxRecDepth 65536
set_option maxHeartbeats 4000000

noncomputable section

namespace Cert.KernelIdeal.Gen

open Idealize.ShloMosaic Idealize.ShloMosaic.TcCoe Idealize.ShloMosaic.Tactic

/-- The gradient at the convolution's output, a cell of the tile. -/
theorem dyCell_B (c : Dev nD) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg7 : Memref sig .tc .vmem S1x1x1024 .f32) (harg7 : arg7.IsWhole) (arg8 : Memref sig .tc .vmem S1x1x1024 .f32) (harg8 : arg8.IsWhole) (x0 : Vec Ideal S256x1024 .bf16) (x1 : Vec Ideal S256x1024 .f32) (x2 : Vec Ideal S256x3072 .bf16) (x5 : Vec Ideal S1x1x1024 .f32) (x6 : Vec Ideal S1x1x1024 .f32)
    (X0 X1 X2 : Nat → Nat → EReal) (X5 X6 : Nat → Nat → Nat → EReal)
    (h0 : ∀ (a : Fin 256) (b : Fin 1024), arg2.view.read (Elt Ideal) (harg2.unread x0) (ix2 a b) = X0 a.val b.val)
    (h1 : ∀ (a : Fin 256) (b : Fin 1024), arg3.view.read (Elt Ideal) (harg3.unread x1) (ix2 a b) = X1 a.val b.val)
    (h2 : ∀ (a : Fin 256) (b : Fin 3072), arg4.view.read (Elt Ideal) (harg4.unread x2) (ix2 a b) = X2 a.val b.val)
    (h5 : ∀ (p a : Fin 1) (b : Fin 1024), arg7.view.read (Elt Ideal) (harg7.unread x5) (ix3 p a b) = X5 p.val a.val b.val)
    (h6 : ∀ (p a : Fin 1) (b : Fin 1024), arg8.view.read (Elt Ideal) (harg8.unread x6) (ix3 p a b) = X6 p.val a.val b.val)
    (r : Fin 256) (l : Fin 1024) :
    k0_pay640 (kernelRun0_B.sl.r_11 (F := Ideal) c arg2 harg2 arg3 harg3 arg4 harg4 arg7 harg7 arg8 harg8 x0 x1 x2 x5 x6) (kernelRun0_B.sl.r_12 (F := Ideal) c arg2 harg2 arg3 harg3 arg4 harg4 arg7 harg7 arg8 harg8 x0 x1 x2 x5 x6) (ix2 r l) = Cert.Tile.dyT X0 X1 X2 X5 X6 r.val l.val := by
  sl_unfold_run_names; unfold_payloads; pointwise
  simp only [read2 h0, read2 h1, read2 h2, read3 h5, read3 h6]
  simp only [Matrix.cons_val_zero, Matrix.cons_val_one, Matrix.cons_val, zero_add, Fin.isValue, Fin.val_zero, Finset.univ_unique, Finset.sum_const, Finset.card_singleton, one_smul, zero_sub]
  unfold Cert.Tile.dyT Rows.dy Rows.ddev Rows.fac Rows.mhalf Rows.dln Rows.gated Rows.ln Rows.nrm Rows.vare Rows.dev Rows.mean Rows.n1024 Rows.one Rows.eps
  rfl

/-- The gradient of the output gate, a cell of the tile. -/
theorem gateCell_B (c : Dev nD) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg7 : Memref sig .tc .vmem S1x1x1024 .f32) (harg7 : arg7.IsWhole) (arg8 : Memref sig .tc .vmem S1x1x1024 .f32) (harg8 : arg8.IsWhole) (x0 : Vec Ideal S256x1024 .bf16) (x1 : Vec Ideal S256x1024 .f32) (x2 : Vec Ideal S256x3072 .bf16) (x5 : Vec Ideal S1x1x1024 .f32) (x6 : Vec Ideal S1x1x1024 .f32)
    (X0 X1 X2 : Nat → Nat → EReal) (X5 X6 : Nat → Nat → Nat → EReal)
    (h0 : ∀ (a : Fin 256) (b : Fin 1024), arg2.view.read (Elt Ideal) (harg2.unread x0) (ix2 a b) = X0 a.val b.val)
    (h1 : ∀ (a : Fin 256) (b : Fin 1024), arg3.view.read (Elt Ideal) (harg3.unread x1) (ix2 a b) = X1 a.val b.val)
    (h2 : ∀ (a : Fin 256) (b : Fin 3072), arg4.view.read (Elt Ideal) (harg4.unread x2) (ix2 a b) = X2 a.val b.val)
    (h5 : ∀ (p a : Fin 1) (b : Fin 1024), arg7.view.read (Elt Ideal) (harg7.unread x5) (ix3 p a b) = X5 p.val a.val b.val)
    (h6 : ∀ (p a : Fin 1) (b : Fin 1024), arg8.view.read (Elt Ideal) (harg8.unread x6) (ix3 p a b) = X6 p.val a.val b.val)
    (r : Fin 256) (l : Fin 1024) :
    k0_pay641 (kernelRun0_B.sl.r_8 (F := Ideal) c arg2 harg2 arg3 harg3 arg4 harg4 arg7 harg7 arg8 harg8 x0 x1 x2 x5 x6) (ix2 r l) = Cert.Tile.gateT X0 X1 X2 X5 X6 r.val l.val := by
  sl_unfold_run_names; unfold_payloads; pointwise
  simp only [read2 h0, read2 h1, read2 h2, read3 h5, read3 h6]
  simp only [Matrix.cons_val_zero, Matrix.cons_val_one, Matrix.cons_val, zero_add, Fin.isValue, Fin.val_zero, Finset.univ_unique, Finset.sum_const, Finset.card_singleton, one_smul, zero_sub]
  unfold Cert.Tile.gateT Rows.dgate Rows.ln Rows.nrm Rows.vare Rows.dev Rows.mean Rows.n1024 Rows.one Rows.eps
  rfl

/-- The column sums of the gradient at the convolution's output, added to what is kept. -/
theorem dySum_B (c : Dev nD) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg7 : Memref sig .tc .vmem S1x1x1024 .f32) (harg7 : arg7.IsWhole) (arg8 : Memref sig .tc .vmem S1x1x1024 .f32) (harg8 : arg8.IsWhole) (x0 : Vec Ideal S256x1024 .bf16) (x1 : Vec Ideal S256x1024 .f32) (x2 : Vec Ideal S256x3072 .bf16) (x5 : Vec Ideal S1x1x1024 .f32) (x6 : Vec Ideal S1x1x1024 .f32)
    (X0 X1 X2 : Nat → Nat → EReal) (X5 X6 : Nat → Nat → Nat → EReal)
    (h0 : ∀ (a : Fin 256) (b : Fin 1024), arg2.view.read (Elt Ideal) (harg2.unread x0) (ix2 a b) = X0 a.val b.val)
    (h1 : ∀ (a : Fin 256) (b : Fin 1024), arg3.view.read (Elt Ideal) (harg3.unread x1) (ix2 a b) = X1 a.val b.val)
    (h2 : ∀ (a : Fin 256) (b : Fin 3072), arg4.view.read (Elt Ideal) (harg4.unread x2) (ix2 a b) = X2 a.val b.val)
    (h5 : ∀ (p a : Fin 1) (b : Fin 1024), arg7.view.read (Elt Ideal) (harg7.unread x5) (ix3 p a b) = X5 p.val a.val b.val)
    (h6 : ∀ (p a : Fin 1) (b : Fin 1024), arg8.view.read (Elt Ideal) (harg8.unread x6) (ix3 p a b) = X6 p.val a.val b.val)
    (v : Vec Ideal S1x1024 .f32) (l : Fin 1024) :
    k0_pay642 (kernelRun0_B.sl.r_11 (F := Ideal) c arg2 harg2 arg3 harg3 arg4 harg4 arg7 harg7 arg8 harg8 x0 x1 x2 x5 x6) (kernelRun0_B.sl.r_12 (F := Ideal) c arg2 harg2 arg3 harg3 arg4 harg4 arg7 harg7 arg8 harg8 x0 x1 x2 x5 x6) v (ix2 (0 : Fin 1) l) = v (ix2 (0 : Fin 1) l) + ∑ r : Fin 256, Cert.Tile.dyT X0 X1 X2 X5 X6 r.val l.val := by
  sl_unfold_run_names; unfold_payloads; pointwise
  simp only [read2 h0, read2 h1, read2 h2, read3 h5, read3 h6]
  simp only [Matrix.cons_val_zero, Matrix.cons_val_one, Matrix.cons_val, zero_add, Fin.isValue, Fin.val_zero, Finset.univ_unique, Finset.sum_const, Finset.card_singleton, one_smul, zero_sub]
  refine congrArg _ (Finset.sum_congr rfl fun r _ => ?_)
  unfold Cert.Tile.dyT Rows.dy Rows.ddev Rows.fac Rows.mhalf Rows.dln Rows.gated Rows.ln Rows.nrm Rows.vare Rows.dev Rows.mean Rows.n1024 Rows.one Rows.eps
  rfl

/-- The column sums of the scale's gradient, added to what is kept. -/
theorem gainSum_B (c : Dev nD) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg7 : Memref sig .tc .vmem S1x1x1024 .f32) (harg7 : arg7.IsWhole) (arg8 : Memref sig .tc .vmem S1x1x1024 .f32) (harg8 : arg8.IsWhole) (x0 : Vec Ideal S256x1024 .bf16) (x1 : Vec Ideal S256x1024 .f32) (x2 : Vec Ideal S256x3072 .bf16) (x5 : Vec Ideal S1x1x1024 .f32) (x6 : Vec Ideal S1x1x1024 .f32)
    (X0 X1 X2 : Nat → Nat → EReal) (X5 X6 : Nat → Nat → Nat → EReal)
    (h0 : ∀ (a : Fin 256) (b : Fin 1024), arg2.view.read (Elt Ideal) (harg2.unread x0) (ix2 a b) = X0 a.val b.val)
    (h1 : ∀ (a : Fin 256) (b : Fin 1024), arg3.view.read (Elt Ideal) (harg3.unread x1) (ix2 a b) = X1 a.val b.val)
    (h2 : ∀ (a : Fin 256) (b : Fin 3072), arg4.view.read (Elt Ideal) (harg4.unread x2) (ix2 a b) = X2 a.val b.val)
    (h5 : ∀ (p a : Fin 1) (b : Fin 1024), arg7.view.read (Elt Ideal) (harg7.unread x5) (ix3 p a b) = X5 p.val a.val b.val)
    (h6 : ∀ (p a : Fin 1) (b : Fin 1024), arg8.view.read (Elt Ideal) (harg8.unread x6) (ix3 p a b) = X6 p.val a.val b.val)
    (v : Vec Ideal S1x1024 .f32) (l : Fin 1024) :
    k0_pay643 (kernelRun0_B.sl.r_10 (F := Ideal) c arg2 harg2 arg3 harg3 arg4 harg4 arg7 harg7 arg8 harg8 x0 x1 x2 x5 x6) v (ix2 (0 : Fin 1) l) = v (ix2 (0 : Fin 1) l) + ∑ r : Fin 256, Cert.Tile.gainT X0 X1 X2 X5 X6 r.val l.val := by
  sl_unfold_run_names; unfold_payloads; pointwise
  simp only [read2 h0, read2 h1, read2 h2, read3 h5, read3 h6]
  simp only [Matrix.cons_val_zero, Matrix.cons_val_one, Matrix.cons_val, zero_add, Fin.isValue, Fin.val_zero, Finset.univ_unique, Finset.sum_const, Finset.card_singleton, one_smul, zero_sub]
  refine congrArg _ (Finset.sum_congr rfl fun r _ => ?_)
  unfold Cert.Tile.gainT Cert.Tile.dlnT Rows.dln Rows.gated Rows.ln Rows.nrm Rows.vare Rows.dev Rows.mean Rows.n1024 Rows.one Rows.eps
  rfl

/-- The column sums of the shift's gradient, added to what is kept. -/
theorem dlnSum_B (c : Dev nD) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg7 : Memref sig .tc .vmem S1x1x1024 .f32) (harg7 : arg7.IsWhole) (arg8 : Memref sig .tc .vmem S1x1x1024 .f32) (harg8 : arg8.IsWhole) (x0 : Vec Ideal S256x1024 .bf16) (x1 : Vec Ideal S256x1024 .f32) (x2 : Vec Ideal S256x3072 .bf16) (x5 : Vec Ideal S1x1x1024 .f32) (x6 : Vec Ideal S1x1x1024 .f32)
    (X0 X1 X2 : Nat → Nat → EReal) (X5 X6 : Nat → Nat → Nat → EReal)
    (h0 : ∀ (a : Fin 256) (b : Fin 1024), arg2.view.read (Elt Ideal) (harg2.unread x0) (ix2 a b) = X0 a.val b.val)
    (h1 : ∀ (a : Fin 256) (b : Fin 1024), arg3.view.read (Elt Ideal) (harg3.unread x1) (ix2 a b) = X1 a.val b.val)
    (h2 : ∀ (a : Fin 256) (b : Fin 3072), arg4.view.read (Elt Ideal) (harg4.unread x2) (ix2 a b) = X2 a.val b.val)
    (h5 : ∀ (p a : Fin 1) (b : Fin 1024), arg7.view.read (Elt Ideal) (harg7.unread x5) (ix3 p a b) = X5 p.val a.val b.val)
    (h6 : ∀ (p a : Fin 1) (b : Fin 1024), arg8.view.read (Elt Ideal) (harg8.unread x6) (ix3 p a b) = X6 p.val a.val b.val)
    (v : Vec Ideal S1x1024 .f32) (l : Fin 1024) :
    k0_pay644 (kernelRun0_B.sl.r_9 (F := Ideal) c arg2 harg2 arg3 harg3 arg4 harg4 arg7 harg7 arg8 harg8 x0 x1 x2 x5 x6) v (ix2 (0 : Fin 1) l) = v (ix2 (0 : Fin 1) l) + ∑ r : Fin 256, Cert.Tile.dlnT X0 X1 X2 X5 X6 r.val l.val := by
  sl_unfold_run_names; unfold_payloads; pointwise
  simp only [read2 h0, read2 h1, read2 h2, read3 h5, read3 h6]
  simp only [Matrix.cons_val_zero, Matrix.cons_val_one, Matrix.cons_val, zero_add, Fin.isValue, Fin.val_zero, Finset.univ_unique, Finset.sum_const, Finset.card_singleton, one_smul, zero_sub]
  refine congrArg _ (Finset.sum_congr rfl fun r _ => ?_)
  unfold Cert.Tile.dlnT Rows.dln Rows.gated Rows.ln Rows.nrm Rows.vare Rows.dev Rows.mean Rows.n1024 Rows.one Rows.eps
  rfl

end Cert.KernelIdeal.Gen
-- ==== Proof.BufB.lean ====
/-
The grid point of the kernel, one between the first and the last: what its buffers hold, cell by cell.
-/
module

public import proofs.«01_k».proof.Proof.CellB
public import proofs.«01_k».proof.Proof.Tile
public import proofs.«01_k».proof.Proof.Pieces

@[expose] public section

set_option maxRecDepth 65536
set_option maxHeartbeats 4000000

noncomputable section

namespace Cert.KernelIdeal.Gen

open Idealize.ShloMosaic Idealize.ShloMosaic.TcCoe Idealize.ShloMosaic.Tactic

/-- The gradient's tile with its halo: two pieces of one function. -/
theorem tilePieces_B (c : Dev nD) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg7 : Memref sig .tc .vmem S1x1x1024 .f32) (harg7 : arg7.IsWhole) (arg8 : Memref sig .tc .vmem S1x1x1024 .f32) (harg8 : arg8.IsWhole) (x0 : Vec Ideal S256x1024 .bf16) (x1 : Vec Ideal S256x1024 .f32) (x2 : Vec Ideal S256x3072 .bf16) (x5 : Vec Ideal S1x1x1024 .f32) (x6 : Vec Ideal S1x1x1024 .f32) (arg11 : Memref sig .tc .vmem S288x1024 .f32) (harg11 : arg11.IsWhole) (xs0 : Vec Ideal S288x1024 .f32)
    (X0 X1 X2 : Nat → Nat → EReal) (X5 X6 : Nat → Nat → Nat → EReal)
    (h0 : ∀ (a : Fin 256) (b : Fin 1024), arg2.view.read (Elt Ideal) (harg2.unread x0) (ix2 a b) = X0 a.val b.val)
    (h1 : ∀ (a : Fin 256) (b : Fin 1024), arg3.view.read (Elt Ideal) (harg3.unread x1) (ix2 a b) = X1 a.val b.val)
    (h2 : ∀ (a : Fin 256) (b : Fin 3072), arg4.view.read (Elt Ideal) (harg4.unread x2) (ix2 a b) = X2 a.val b.val)
    (h5 : ∀ (p a : Fin 1) (b : Fin 1024), arg7.view.read (Elt Ideal) (harg7.unread x5) (ix3 p a b) = X5 p.val a.val b.val)
    (h6 : ∀ (p a : Fin 1) (b : Fin 1024), arg8.view.read (Elt Ideal) (harg8.unread x6) (ix3 p a b) = X6 p.val a.val b.val) (P : Nat → Nat → EReal)
    (hs0 : ∀ (a : Fin 288) (b : Fin 1024), arg11.view.read (Elt Ideal) (harg11.unread xs0) (ix2 a b) = P a.val b.val) :
    View.PiecesOf (at2 (Cert.Tile.follow (Cert.Tile.dyT X0 X1 X2 X5 X6) P)) (kernelRun0_B.sl.HS0_2 (F := Ideal) c arg2 harg2 arg3 harg3 arg4 harg4 arg7 harg7 arg8 harg8 arg11 harg11 x0 x1 x2 x5 x6 xs0) := by
  unfold kernelRun0_B.sl.HS0_2
  refine ⟨piece2 _ (inb := inb_S288x1024_S256x1024_0_0) fun x y => ?_, piece2 _ (inb := inb_S288x1024_S32x1024_256_0) fun x y => ?_, trivial⟩
  · refine (dyCell_B c arg2 harg2 arg3 harg3 arg4 harg4 arg7 harg7 arg8 harg8 x0 x1 x2 x5 x6 X0 X1 X2 X5 X6 h0 h1 h2 h5 h6 x y).trans ?_
    simp only [Matrix.cons_val_zero, Matrix.cons_val_one, Matrix.cons_val, Fin.isValue]
    rw [Nat.zero_add, Nat.zero_add, Cert.Tile.follow, if_pos x.isLt]
  · unfold_payloads; pointwise
    simp only [read2 hs0]
    simp only [Matrix.cons_val_zero, Matrix.cons_val_one, Matrix.cons_val, Fin.isValue]
    rw [Cert.Tile.follow, if_neg (by omega)]
    congr 1 <;> omega

/-- Together they cover the buffer. -/
theorem tileCover_B (c : Dev nD) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg7 : Memref sig .tc .vmem S1x1x1024 .f32) (harg7 : arg7.IsWhole) (arg8 : Memref sig .tc .vmem S1x1x1024 .f32) (harg8 : arg8.IsWhole) (x0 : Vec Ideal S256x1024 .bf16) (x1 : Vec Ideal S256x1024 .f32) (x2 : Vec Ideal S256x3072 .bf16) (x5 : Vec Ideal S1x1x1024 .f32) (x6 : Vec Ideal S1x1x1024 .f32) (arg11 : Memref sig .tc .vmem S288x1024 .f32) (harg11 : arg11.IsWhole) (xs0 : Vec Ideal S288x1024 .f32) :
    ∀ y, ∃ p ∈ (kernelRun0_B.sl.HS0_2 (F := Ideal) c arg2 harg2 arg3 harg3 arg4 harg4 arg7 harg7 arg8 harg8 arg11 harg11 x0 x1 x2 x5 x6 xs0), y ∈ p.1.set := by
  exact View.cover_of_tiledBy _ ![32, 1024] (by sl_kernel_rfl)

/-- The seven shifted copies of that tile. -/
theorem tileShift_B (c : Dev nD) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg7 : Memref sig .tc .vmem S1x1x1024 .f32) (harg7 : arg7.IsWhole) (arg8 : Memref sig .tc .vmem S1x1x1024 .f32) (harg8 : arg8.IsWhole) (x0 : Vec Ideal S256x1024 .bf16) (x1 : Vec Ideal S256x1024 .f32) (x2 : Vec Ideal S256x3072 .bf16) (x5 : Vec Ideal S1x1x1024 .f32) (x6 : Vec Ideal S1x1x1024 .f32) (arg11 : Memref sig .tc .vmem S288x1024 .f32) (harg11 : arg11.IsWhole) (xs0 : Vec Ideal S288x1024 .f32) (arg17 : Memref sig .tc .vmem S7x280x1024 .f32)
    (X0 X1 X2 : Nat → Nat → EReal) (X5 X6 : Nat → Nat → Nat → EReal)
    (h0 : ∀ (a : Fin 256) (b : Fin 1024), arg2.view.read (Elt Ideal) (harg2.unread x0) (ix2 a b) = X0 a.val b.val)
    (h1 : ∀ (a : Fin 256) (b : Fin 1024), arg3.view.read (Elt Ideal) (harg3.unread x1) (ix2 a b) = X1 a.val b.val)
    (h2 : ∀ (a : Fin 256) (b : Fin 3072), arg4.view.read (Elt Ideal) (harg4.unread x2) (ix2 a b) = X2 a.val b.val)
    (h5 : ∀ (p a : Fin 1) (b : Fin 1024), arg7.view.read (Elt Ideal) (harg7.unread x5) (ix3 p a b) = X5 p.val a.val b.val)
    (h6 : ∀ (p a : Fin 1) (b : Fin 1024), arg8.view.read (Elt Ideal) (harg8.unread x6) (ix3 p a b) = X6 p.val a.val b.val) (P : Nat → Nat → EReal)
    (hs0 : ∀ (a : Fin 288) (b : Fin 1024), arg11.view.read (Elt Ideal) (harg11.unread xs0) (ix2 a b) = P a.val b.val)
    (f : arg17.view.ty.Contents (Elt Ideal)) (p : Fin 7) (a : Fin 280) (b : Fin 1024) :
    arg17.view.read (Elt Ideal) (arg17.view.writes (Elt Ideal) f (kernelRun0_B.sl.HS6_7 (F := Ideal) c arg2 harg2 arg3 harg3 arg4 harg4 arg7 harg7 arg8 harg8 arg11 harg11 x0 x1 x2 x5 x6 xs0)) (ix3 p a b) = (Cert.Tile.follow (Cert.Tile.dyT X0 X1 X2 X5 X6) P) (a.val + (p.val + 1)) b.val := by
  have hp := tilePieces_B c arg2 harg2 arg3 harg3 arg4 harg4 arg7 harg7 arg8 harg8 x0 x1 x2 x5 x6 arg11 harg11 xs0 X0 X1 X2 X5 X6 h0 h1 h2 h5 h6 P hs0
  have hc := tileCover_B c arg2 harg2 arg3 harg3 arg4 harg4 arg7 harg7 arg8 harg8 x0 x1 x2 x5 x6 arg11 harg11 xs0
  refine readPieces3 (n0 := 7) (n1 := 280) (n2 := 1024) (e := .f32) (G := fun p a b => (Cert.Tile.follow (Cert.Tile.dyT X0 X1 X2 X5 X6) P) (a + (p + 1)) b) _ _ ?_ (View.cover_of_tiledL _ S1x280x1024.size (by sl_kernel_rfl)) p a b
  unfold kernelRun0_B.sl.HS6_7
  refine ⟨piece3 _ (inb := inb_S7x280x1024_S1x280x1024_6_0_0) fun z x y => ?_, piece3 _ (inb := inb_S7x280x1024_S1x280x1024_5_0_0) fun z x y => ?_, piece3 _ (inb := inb_S7x280x1024_S1x280x1024_4_0_0) fun z x y => ?_, piece3 _ (inb := inb_S7x280x1024_S1x280x1024_3_0_0) fun z x y => ?_, piece3 _ (inb := inb_S7x280x1024_S1x280x1024_2_0_0) fun z x y => ?_, piece3 _ (inb := inb_S7x280x1024_S1x280x1024_1_0_0) fun z x y => ?_, piece3 _ (inb := inb_S7x280x1024_S1x280x1024_0_0_0) fun z x y => ?_, trivial⟩
  · unfold k0_pay655 kernelRun0_B.sl.v159; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay654 kernelRun0_B.sl.v155; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay653 kernelRun0_B.sl.v151; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay652 kernelRun0_B.sl.v147; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay651 kernelRun0_B.sl.v143; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay650 kernelRun0_B.sl.v139; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay649 kernelRun0_B.sl.v135; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega

/-- The gated input's tile with its halo: two pieces of one function. -/
theorem inPieces_B (c : Dev nD) (i : grid0.Coords) (arg4 : Memref sig .tc .vmem S256x3072 .bf16) (harg4 : arg4.IsWhole) (arg5 : Memref sig .tc .vmem S32x3072 .bf16) (harg5 : arg5.IsWhole) (x2 : Vec Ideal S256x3072 .bf16) (x3 : Vec Ideal S32x3072 .bf16)
    (X2 X3 : Nat → Nat → EReal)
    (h2 : ∀ (a : Fin 256) (b : Fin 3072), arg4.view.read (Elt Ideal) (harg4.unread x2) (ix2 a b) = X2 a.val b.val)
    (h3 : ∀ (a : Fin 32) (b : Fin 3072), arg5.view.read (Elt Ideal) (harg5.unread x3) (ix2 a b) = X3 a.val b.val)
    (hal : Bool) (hv : Scalar.cmpi .sgt (Scalar.subi 15#32 (BitVec.ofNat 32 (i 0).val)) 0#32 = BitVec.ofBool hal) :
    View.PiecesOf (at2 (Cert.Tile.precede hal X2 X3)) (kernelRun0_B.sl.HS1_2 (F := Ideal) c i arg4 harg4 arg5 harg5 x2 x3) := by
  unfold kernelRun0_B.sl.HS1_2
  refine ⟨piece2 _ (inb := inb_S288x1024_S32x1024_0_0) fun x y => ?_, piece2 _ (inb := inb_S288x1024_S256x1024_32_0) fun x y => ?_, trivial⟩
  · dsimp only
    rw [show kernelRun0_B.sl.v0 i = Scalar.subi 15#32 (BitVec.ofNat 32 (i 0).val) from rfl]
    rw [Cert.Tile.precede, if_pos (by simp only [Matrix.cons_val_zero, Matrix.cons_val_one, Matrix.cons_val, Fin.isValue]; omega)]
    unfold_payloads; rw [hv]
    cases hal
    · pointwise
      rw [if_neg Bool.false_ne_true, if_neg Bool.false_ne_true]
      rfl
    · pointwise
      simp only [read2 h3, if_true, Cert.Tile.glu]
      simp only [Matrix.cons_val_zero, Matrix.cons_val_one, Matrix.cons_val, Fin.isValue]
      simp only [Nat.zero_add]
  · dsimp only
    unfold kernelRun0_B.sl.r_13 kernelRun0_B.sl.r_14; unfold_payloads; pointwise
    simp only [read2 h2]
    simp only [Matrix.cons_val_zero, Matrix.cons_val_one, Matrix.cons_val, Fin.isValue]
    rw [Cert.Tile.precede, if_neg (by omega), Cert.Tile.glu]
    simp only [Nat.add_sub_cancel_left, Nat.zero_add]

/-- Together they cover the buffer. -/
theorem inCover_B (c : Dev nD) (i : grid0.Coords) (arg4 : Memref sig .tc .vmem S256x3072 .bf16) (harg4 : arg4.IsWhole) (arg5 : Memref sig .tc .vmem S32x3072 .bf16) (harg5 : arg5.IsWhole) (x2 : Vec Ideal S256x3072 .bf16) (x3 : Vec Ideal S32x3072 .bf16) :
    ∀ y, ∃ p ∈ (kernelRun0_B.sl.HS1_2 (F := Ideal) c i arg4 harg4 arg5 harg5 x2 x3), y ∈ p.1.set := by
  exact View.cover_of_tiledBy _ ![32, 1024] (by sl_kernel_rfl)

/-- The seven shifted copies of that tile. -/
theorem inShift_B (c : Dev nD) (i : grid0.Coords) (arg4 : Memref sig .tc .vmem S256x3072 .bf16) (harg4 : arg4.IsWhole) (arg5 : Memref sig .tc .vmem S32x3072 .bf16) (harg5 : arg5.IsWhole) (x2 : Vec Ideal S256x3072 .bf16) (x3 : Vec Ideal S32x3072 .bf16) (arg12 : Memref sig .tc .vmem S288x1024 .f32) (arg18 : Memref sig .tc .vmem S7x280x1024 .f32)
    (X2 X3 : Nat → Nat → EReal)
    (h2 : ∀ (a : Fin 256) (b : Fin 3072), arg4.view.read (Elt Ideal) (harg4.unread x2) (ix2 a b) = X2 a.val b.val)
    (h3 : ∀ (a : Fin 32) (b : Fin 3072), arg5.view.read (Elt Ideal) (harg5.unread x3) (ix2 a b) = X3 a.val b.val)
    (hal : Bool) (hv : Scalar.cmpi .sgt (Scalar.subi 15#32 (BitVec.ofNat 32 (i 0).val)) 0#32 = BitVec.ofBool hal)
    (f : arg18.view.ty.Contents (Elt Ideal)) (p : Fin 7) (a : Fin 280) (b : Fin 1024) :
    arg18.view.read (Elt Ideal) (arg18.view.writes (Elt Ideal) f (kernelRun0_B.sl.HS7_7 (F := Ideal) c i arg4 harg4 arg5 harg5 arg12 x2 x3)) (ix3 p a b) = (Cert.Tile.precede hal X2 X3) (a.val + (p.val + 1)) b.val := by
  have hp := inPieces_B c i arg4 harg4 arg5 harg5 x2 x3 X2 X3 h2 h3 hal hv
  have hc := inCover_B c i arg4 harg4 arg5 harg5 x2 x3
  refine readPieces3 (n0 := 7) (n1 := 280) (n2 := 1024) (e := .f32) (G := fun p a b => (Cert.Tile.precede hal X2 X3) (a + (p + 1)) b) _ _ ?_ (View.cover_of_tiledL _ S1x280x1024.size (by sl_kernel_rfl)) p a b
  unfold kernelRun0_B.sl.HS7_7
  refine ⟨piece3 _ (inb := inb_S7x280x1024_S1x280x1024_6_0_0) fun z x y => ?_, piece3 _ (inb := inb_S7x280x1024_S1x280x1024_5_0_0) fun z x y => ?_, piece3 _ (inb := inb_S7x280x1024_S1x280x1024_4_0_0) fun z x y => ?_, piece3 _ (inb := inb_S7x280x1024_S1x280x1024_3_0_0) fun z x y => ?_, piece3 _ (inb := inb_S7x280x1024_S1x280x1024_2_0_0) fun z x y => ?_, piece3 _ (inb := inb_S7x280x1024_S1x280x1024_1_0_0) fun z x y => ?_, piece3 _ (inb := inb_S7x280x1024_S1x280x1024_0_0_0) fun z x y => ?_, trivial⟩
  · unfold k0_pay662 kernelRun0_B.sl.v187; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay661 kernelRun0_B.sl.v183; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay660 kernelRun0_B.sl.v179; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay659 kernelRun0_B.sl.v175; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay658 kernelRun0_B.sl.v171; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay657 kernelRun0_B.sl.v167; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay656 kernelRun0_B.sl.v163; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega

end Cert.KernelIdeal.Gen
-- ==== Proof.PointB.lean ====
/-
The grid point of the kernel, one between the first and the last: what it leaves in its outputs and in the buffers it carries on.
-/
module

public import proofs.«01_k».proof.Proof.BufB
public import proofs.«01_k».proof.Proof.Fold
public import proofs.«01_k».proof.Proof.Pays
public import proofs.«01_k».proof.Proof.TileEq

@[expose] public section

set_option maxRecDepth 65536
set_option maxHeartbeats 8000000

noncomputable section

namespace Cert.KernelIdeal.Gen

open Idealize.ShloMosaic Idealize.ShloMosaic.TcCoe Idealize.ShloMosaic.Tactic

/-- What the point leaves in the gradient's tile. -/
theorem tileAt_B (c : Dev nD) (i : grid0.Coords) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg5 : Memref sig .tc .vmem S32x3072 .bf16) (harg5 : arg5.IsWhole) (arg6 : Memref sig .tc .vmem S4x1x31x256 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x3072 .bf16) (harg9 : arg9.IsWhole) (arg10 : Memref sig .tc .vmem S40x1024 .f32) (harg10 : arg10.IsWhole) (arg11 : Memref sig .tc .vmem S288x1024 .f32) (harg11 : arg11.IsWhole) (arg12 : Memref sig .tc .vmem S288x1024 .f32) (harg12 : arg12.IsWhole) (arg13 : Memref sig .tc .vmem S256x1024 .f32) (harg13 : arg13.IsWhole) (arg14 : Memref sig .tc .vmem S248x1024 .f32) (harg14 : arg14.IsWhole) (arg15 : Memref sig .tc .vmem S248x1024 .f32) (harg15 : arg15.IsWhole) (arg16 : Memref sig .tc .vmem S8x1024 .f32) (harg16 : arg16.IsWhole) (arg17 : Memref sig .tc .vmem S7x280x1024 .f32) (harg17 : arg17.IsWhole) (arg18 : Memref sig .tc .vmem S7x280x1024 .f32) (harg18 : arg18.IsWhole) (hc0 : ¬cond0_0 i) (hc1 : cond0_1 i) (hc2 : ¬cond0_2 i) (x0 : Vec Ideal S256x1024 .bf16) (x1 : Vec Ideal S256x1024 .f32) (x2 : Vec Ideal S256x3072 .bf16) (x3 : Vec Ideal S32x3072 .bf16) (x4 : Vec Ideal S4x1x31x256 .f32) (x5 : Vec Ideal S1x1x1024 .f32) (x6 : Vec Ideal S1x1x1024 .f32) (xs0 : Vec Ideal S288x1024 .f32) (xs3 : Vec Ideal S248x1024 .f32) (xs4 : Vec Ideal S248x1024 .f32) (xs5 : Vec Ideal S8x1024 .f32)
    (X0 X1 X2 : Nat → Nat → EReal) (X5 X6 : Nat → Nat → Nat → EReal)
    (e0 : ∀ (a : Fin 256) (b : Fin 1024), x0 (ix2 a b) = X0 a.val b.val)
    (e1 : ∀ (a : Fin 256) (b : Fin 1024), x1 (ix2 a b) = X1 a.val b.val)
    (e2 : ∀ (a : Fin 256) (b : Fin 3072), x2 (ix2 a b) = X2 a.val b.val)
    (e5 : ∀ (p a : Fin 1) (b : Fin 1024), x5 (ix3 p a b) = X5 p.val a.val b.val)
    (e6 : ∀ (p a : Fin 1) (b : Fin 1024), x6 (ix3 p a b) = X6 p.val a.val b.val) (P : Nat → Nat → EReal)
    (es0 : ∀ (a : Fin 288) (b : Fin 1024), xs0 (ix2 a b) = P a.val b.val)
    (a : Fin 288) (b : Fin 1024) :
    (sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 xs0 xs3 xs4 xs5 : Vec Ideal S288x1024 .f32) (ix2 a b) = (Cert.Tile.follow (Cert.Tile.dyT X0 X1 X2 X5 X6) P) a.val b.val := by
  have h0 := fun a b => (congrFun (harg2.read_unread x0) (ix2 a b)).trans (e0 a b)
  have h1 := fun a b => (congrFun (harg3.read_unread x1) (ix2 a b)).trans (e1 a b)
  have h2 := fun a b => (congrFun (harg4.read_unread x2) (ix2 a b)).trans (e2 a b)
  have h5 := fun p a b => (congrFun (harg7.read_unread x5) (ix3 p a b)).trans (e5 p a b)
  have h6 := fun p a b => (congrFun (harg8.read_unread x6) (ix3 p a b)).trans (e6 p a b)
  have hs0 := fun a b => (congrFun (harg11.read_unread xs0) (ix2 a b)).trans (es0 a b)
  unfold sout0_B_0 kernelRun0_B; dsimp only
  exact readPieces2 _ _ (tilePieces_B c arg2 harg2 arg3 harg3 arg4 harg4 arg7 harg7 arg8 harg8 x0 x1 x2 x5 x6 arg11 harg11 xs0 X0 X1 X2 X5 X6 h0 h1 h2 h5 h6 P hs0) (tileCover_B c arg2 harg2 arg3 harg3 arg4 harg4 arg7 harg7 arg8 harg8 x0 x1 x2 x5 x6 arg11 harg11 xs0) a b

/-- The taps of the convolution's transpose, as the point loads them back. -/
theorem tapLoad_B (c : Dev nD) (i : grid0.Coords) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg5 : Memref sig .tc .vmem S32x3072 .bf16) (harg5 : arg5.IsWhole) (arg6 : Memref sig .tc .vmem S4x1x31x256 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x3072 .bf16) (harg9 : arg9.IsWhole) (arg10 : Memref sig .tc .vmem S40x1024 .f32) (harg10 : arg10.IsWhole) (arg11 : Memref sig .tc .vmem S288x1024 .f32) (harg11 : arg11.IsWhole) (arg12 : Memref sig .tc .vmem S288x1024 .f32) (harg12 : arg12.IsWhole) (arg13 : Memref sig .tc .vmem S256x1024 .f32) (harg13 : arg13.IsWhole) (arg14 : Memref sig .tc .vmem S248x1024 .f32) (harg14 : arg14.IsWhole) (arg15 : Memref sig .tc .vmem S248x1024 .f32) (harg15 : arg15.IsWhole) (arg16 : Memref sig .tc .vmem S8x1024 .f32) (harg16 : arg16.IsWhole) (arg17 : Memref sig .tc .vmem S7x280x1024 .f32) (harg17 : arg17.IsWhole) (arg18 : Memref sig .tc .vmem S7x280x1024 .f32) (harg18 : arg18.IsWhole) (x0 : Vec Ideal S256x1024 .bf16) (x1 : Vec Ideal S256x1024 .f32) (x2 : Vec Ideal S256x3072 .bf16) (x5 : Vec Ideal S1x1x1024 .f32) (x6 : Vec Ideal S1x1x1024 .f32) (xs0 : Vec Ideal S288x1024 .f32) (xs3 : Vec Ideal S248x1024 .f32)
    (X0 X1 X2 : Nat → Nat → EReal) (X5 X6 : Nat → Nat → Nat → EReal)
    (h0 : ∀ (a : Fin 256) (b : Fin 1024), arg2.view.read (Elt Ideal) (harg2.unread x0) (ix2 a b) = X0 a.val b.val)
    (h1 : ∀ (a : Fin 256) (b : Fin 1024), arg3.view.read (Elt Ideal) (harg3.unread x1) (ix2 a b) = X1 a.val b.val)
    (h2 : ∀ (a : Fin 256) (b : Fin 3072), arg4.view.read (Elt Ideal) (harg4.unread x2) (ix2 a b) = X2 a.val b.val)
    (h5 : ∀ (p a : Fin 1) (b : Fin 1024), arg7.view.read (Elt Ideal) (harg7.unread x5) (ix3 p a b) = X5 p.val a.val b.val)
    (h6 : ∀ (p a : Fin 1) (b : Fin 1024), arg8.view.read (Elt Ideal) (harg8.unread x6) (ix3 p a b) = X6 p.val a.val b.val) (P W : Nat → Nat → EReal)
    (hs0 : ∀ (a : Fin 288) (b : Fin 1024), arg11.view.read (Elt Ideal) (harg11.unread xs0) (ix2 a b) = P a.val b.val)
    (hs3 : ∀ (a : Fin 248) (b : Fin 1024), arg14.view.read (Elt Ideal) (harg14.unread xs3) (ix2 a b) = W a.val b.val)
    (x : Fin 256) (y : Fin 1024) :
    kernelRun0_B.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x5 x6 xs0 xs3 (ix2 x y) = tapSum W (Cert.Tile.follow (Cert.Tile.dyT X0 X1 X2 X5 X6) P) x.val y.val := by
  have hp := tilePieces_B c arg2 harg2 arg3 harg3 arg4 harg4 arg7 harg7 arg8 harg8 x0 x1 x2 x5 x6 arg11 harg11 xs0 X0 X1 X2 X5 X6 h0 h1 h2 h5 h6 P hs0
  have hc := tileCover_B c arg2 harg2 arg3 harg3 arg4 harg4 arg7 harg7 arg8 harg8 x0 x1 x2 x5 x6 arg11 harg11 xs0
  unfold kernelRun0_B.sl.r_16
  refine (covPieces2 (n0 := 256) (n1 := 1024) (m0 := 256) (m1 := 1024) (e := .f32) _ (G := tapSum W (Cert.Tile.follow (Cert.Tile.dyT X0 X1 X2 X5 X6) P)) ?_ (View.cover_of_tiledL _ S64x512.size (by sl_kernel_rfl)) ![0, 0] _ x y).trans ?_
  · exact pb1_pieces _ c _ i _ _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ W (Cert.Tile.follow (Cert.Tile.dyT X0 X1 X2 X5 X6) P) hs3 (readPieces2 _ _ hp hc) (tileShift_B c arg2 harg2 arg3 harg3 arg4 harg4 arg7 harg7 arg8 harg8 x0 x1 x2 x5 x6 arg11 harg11 xs0 arg17 X0 X1 X2 X5 X6 h0 h1 h2 h5 h6 P hs0 _) _ (le_of_eq trips1)
  · simp only [Matrix.cons_val_zero, Matrix.cons_val_one, Nat.zero_add]

/-- What the point writes of the projection's gradient. -/
theorem dpAt_B (c : Dev nD) (i : grid0.Coords) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg5 : Memref sig .tc .vmem S32x3072 .bf16) (harg5 : arg5.IsWhole) (arg6 : Memref sig .tc .vmem S4x1x31x256 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x3072 .bf16) (harg9 : arg9.IsWhole) (arg10 : Memref sig .tc .vmem S40x1024 .f32) (harg10 : arg10.IsWhole) (arg11 : Memref sig .tc .vmem S288x1024 .f32) (harg11 : arg11.IsWhole) (arg12 : Memref sig .tc .vmem S288x1024 .f32) (harg12 : arg12.IsWhole) (arg13 : Memref sig .tc .vmem S256x1024 .f32) (harg13 : arg13.IsWhole) (arg14 : Memref sig .tc .vmem S248x1024 .f32) (harg14 : arg14.IsWhole) (arg15 : Memref sig .tc .vmem S248x1024 .f32) (harg15 : arg15.IsWhole) (arg16 : Memref sig .tc .vmem S8x1024 .f32) (harg16 : arg16.IsWhole) (arg17 : Memref sig .tc .vmem S7x280x1024 .f32) (harg17 : arg17.IsWhole) (arg18 : Memref sig .tc .vmem S7x280x1024 .f32) (harg18 : arg18.IsWhole) (hc0 : ¬cond0_0 i) (hc1 : cond0_1 i) (hc2 : ¬cond0_2 i) (x0 : Vec Ideal S256x1024 .bf16) (x1 : Vec Ideal S256x1024 .f32) (x2 : Vec Ideal S256x3072 .bf16) (x3 : Vec Ideal S32x3072 .bf16) (x4 : Vec Ideal S4x1x31x256 .f32) (x5 : Vec Ideal S1x1x1024 .f32) (x6 : Vec Ideal S1x1x1024 .f32) (xs0 : Vec Ideal S288x1024 .f32) (xs3 : Vec Ideal S248x1024 .f32) (xs4 : Vec Ideal S248x1024 .f32) (xs5 : Vec Ideal S8x1024 .f32)
    (X0 X1 X2 : Nat → Nat → EReal) (X5 X6 : Nat → Nat → Nat → EReal)
    (e0 : ∀ (a : Fin 256) (b : Fin 1024), x0 (ix2 a b) = X0 a.val b.val)
    (e1 : ∀ (a : Fin 256) (b : Fin 1024), x1 (ix2 a b) = X1 a.val b.val)
    (e2 : ∀ (a : Fin 256) (b : Fin 3072), x2 (ix2 a b) = X2 a.val b.val)
    (e5 : ∀ (p a : Fin 1) (b : Fin 1024), x5 (ix3 p a b) = X5 p.val a.val b.val)
    (e6 : ∀ (p a : Fin 1) (b : Fin 1024), x6 (ix3 p a b) = X6 p.val a.val b.val) (P : Nat → Nat → EReal)
    (es0 : ∀ (a : Fin 288) (b : Fin 1024), xs0 (ix2 a b) = P a.val b.val) (W : Nat → Nat → EReal)
    (es3 : ∀ (a : Fin 248) (b : Fin 1024), xs3 (ix2 a b) = W a.val b.val)
    (a : Fin 256) (b : Fin 3072) :
    (out0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 xs0 xs3 xs4 xs5 : Vec Ideal S256x3072 .bf16) (ix2 a b) = (Cert.Tile.dpT (tapSum W (Cert.Tile.follow (Cert.Tile.dyT X0 X1 X2 X5 X6) P)) (Cert.Tile.gateT X0 X1 X2 X5 X6) X2) a.val b.val := by
  have h0 := fun a b => (congrFun (harg2.read_unread x0) (ix2 a b)).trans (e0 a b)
  have h1 := fun a b => (congrFun (harg3.read_unread x1) (ix2 a b)).trans (e1 a b)
  have h2 := fun a b => (congrFun (harg4.read_unread x2) (ix2 a b)).trans (e2 a b)
  have h5 := fun p a b => (congrFun (harg7.read_unread x5) (ix3 p a b)).trans (e5 p a b)
  have h6 := fun p a b => (congrFun (harg8.read_unread x6) (ix3 p a b)).trans (e6 p a b)
  have hs0 := fun a b => (congrFun (harg11.read_unread xs0) (ix2 a b)).trans (es0 a b)
  have hs3 := fun a b => (congrFun (harg14.read_unread xs3) (ix2 a b)).trans (es3 a b)
  unfold out0_B_7 kernelRun0_B; dsimp only
  have hsb : ∀ (x : Fin 256) (y : Fin 1024), kernelRun0_B.sl.r_15 (F := Ideal) c arg4 harg4 x2 (ix2 x y) = Ideal.logistic (X2 x.val (1024 + y.val)) := by
    intro x y
    unfold kernelRun0_B.sl.r_15 kernelRun0_B.sl.r_14
    refine (paySig _ x y).trans (congrArg _ ((read2 h2 _ _ x y).trans ?_))
    simp only [Matrix.cons_val_zero, Matrix.cons_val_one, Nat.zero_add]
  have hga : ∀ (x : Fin 256) (y : Fin 1024), kernelRun0_B.sl.r_13 (F := Ideal) c arg4 harg4 x2 (ix2 x y) = X2 x.val y.val := by
    intro x y
    unfold kernelRun0_B.sl.r_13
    refine (payIn _ x y).trans ((read2 h2 _ _ x y).trans ?_)
    simp only [Matrix.cons_val_zero, Matrix.cons_val_one, Nat.zero_add]
  have hdu := tapLoad_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x5 x6 xs0 xs3 X0 X1 X2 X5 X6 h0 h1 h2 h5 h6 P W hs0 hs3
  refine readPieces2 (n0 := 256) (n1 := 3072) (e := .bf16) (G := (Cert.Tile.dpT (tapSum W (Cert.Tile.follow (Cert.Tile.dyT X0 X1 X2 X5 X6) P)) (Cert.Tile.gateT X0 X1 X2 X5 X6) X2)) _ _ ?_ (View.cover_of_tiledL _ S256x1024.size (by sl_kernel_rfl)) a b
  unfold kernelRun0_B.sl.H7_3
  refine ⟨piece2 _ (inb := inb_S256x3072_S256x1024_0_1024) fun x y => ?_, piece2 _ (inb := inb_S256x3072_S256x1024_0_0) fun x y => ?_, piece2 _ (inb := inb_S256x3072_S256x1024_0_2048) fun x y => ?_, trivial⟩
  · refine (payRight _ _ _ x y).trans ?_
    rw [hdu x y, hga x y, hsb x y]
    simp only [Matrix.cons_val_zero, Matrix.cons_val_one, Nat.zero_add]
    have hy := y.isLt
    rw [Cert.Tile.dpT, if_neg (by omega), if_pos (by omega), Nat.add_sub_cancel_left]
    rfl
  · refine (payLeft (kernelRun0_B.sl.r_15 (F := Ideal) c arg4 harg4 x2) (kernelRun0_B.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x5 x6 xs0 xs3) x y).trans ?_
    rw [hdu x y, hsb x y]
    simp only [Matrix.cons_val_zero, Matrix.cons_val_one, Nat.zero_add]
    rw [Cert.Tile.dpT, if_pos y.isLt]
  · refine (gateCell_B c arg2 harg2 arg3 harg3 arg4 harg4 arg7 harg7 arg8 harg8 x0 x1 x2 x5 x6 X0 X1 X2 X5 X6 h0 h1 h2 h5 h6 x y).trans ?_
    simp only [Matrix.cons_val_zero, Matrix.cons_val_one, Nat.zero_add]
    rw [Cert.Tile.dpT, if_neg (by omega), if_neg (by omega), Nat.add_sub_cancel_left]

/-- The weights' gradient after the point, in the kernel's own buffer. -/
theorem dwBuf_B (c : Dev nD) (i : grid0.Coords) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg5 : Memref sig .tc .vmem S32x3072 .bf16) (harg5 : arg5.IsWhole) (arg6 : Memref sig .tc .vmem S4x1x31x256 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x3072 .bf16) (harg9 : arg9.IsWhole) (arg10 : Memref sig .tc .vmem S40x1024 .f32) (harg10 : arg10.IsWhole) (arg11 : Memref sig .tc .vmem S288x1024 .f32) (harg11 : arg11.IsWhole) (arg12 : Memref sig .tc .vmem S288x1024 .f32) (harg12 : arg12.IsWhole) (arg13 : Memref sig .tc .vmem S256x1024 .f32) (harg13 : arg13.IsWhole) (arg14 : Memref sig .tc .vmem S248x1024 .f32) (harg14 : arg14.IsWhole) (arg15 : Memref sig .tc .vmem S248x1024 .f32) (harg15 : arg15.IsWhole) (arg16 : Memref sig .tc .vmem S8x1024 .f32) (harg16 : arg16.IsWhole) (arg17 : Memref sig .tc .vmem S7x280x1024 .f32) (harg17 : arg17.IsWhole) (arg18 : Memref sig .tc .vmem S7x280x1024 .f32) (harg18 : arg18.IsWhole) (x0 : Vec Ideal S256x1024 .bf16) (x1 : Vec Ideal S256x1024 .f32) (x2 : Vec Ideal S256x3072 .bf16) (x3 : Vec Ideal S32x3072 .bf16) (x5 : Vec Ideal S1x1x1024 .f32) (x6 : Vec Ideal S1x1x1024 .f32) (xs0 : Vec Ideal S288x1024 .f32) (xs4 : Vec Ideal S248x1024 .f32)
    (X0 X1 X2 : Nat → Nat → EReal) (X5 X6 : Nat → Nat → Nat → EReal)
    (h0 : ∀ (a : Fin 256) (b : Fin 1024), arg2.view.read (Elt Ideal) (harg2.unread x0) (ix2 a b) = X0 a.val b.val)
    (h1 : ∀ (a : Fin 256) (b : Fin 1024), arg3.view.read (Elt Ideal) (harg3.unread x1) (ix2 a b) = X1 a.val b.val)
    (h2 : ∀ (a : Fin 256) (b : Fin 3072), arg4.view.read (Elt Ideal) (harg4.unread x2) (ix2 a b) = X2 a.val b.val)
    (h5 : ∀ (p a : Fin 1) (b : Fin 1024), arg7.view.read (Elt Ideal) (harg7.unread x5) (ix3 p a b) = X5 p.val a.val b.val)
    (h6 : ∀ (p a : Fin 1) (b : Fin 1024), arg8.view.read (Elt Ideal) (harg8.unread x6) (ix3 p a b) = X6 p.val a.val b.val) (P : Nat → Nat → EReal)
    (hs0 : ∀ (a : Fin 288) (b : Fin 1024), arg11.view.read (Elt Ideal) (harg11.unread xs0) (ix2 a b) = P a.val b.val)
    (X3 : Nat → Nat → EReal)
    (h3 : ∀ (a : Fin 32) (b : Fin 3072), arg5.view.read (Elt Ideal) (harg5.unread x3) (ix2 a b) = X3 a.val b.val)
    (hal : Bool) (hv : Scalar.cmpi .sgt (Scalar.subi 15#32 (BitVec.ofNat 32 (i 0).val)) 0#32 = BitVec.ofBool hal) (G4 : Nat → Nat → EReal)
    (hs4 : ∀ (a : Fin 248) (b : Fin 1024), arg15.view.read (Elt Ideal) (harg15.unread xs4) (ix2 a b) = G4 a.val b.val)
    (a : Fin 248) (b : Fin 1024) :
    arg15.view.read (Elt Ideal) (arg15.view.writes (Elt Ideal) (harg15.unread xs4) (pb_k0_t2 (F := Ideal) Variants.none c none i (Memref.whole main_arg0) (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      (arg11.view.writes (Elt Ideal) arg11.view.junk (kernelRun0_B.sl.HS0_2 c arg2 harg2 arg3 harg3 arg4 harg4 arg7 harg7 arg8 harg8 arg11 harg11 x0 x1 x2 x5 x6 xs0))
      (arg12.view.writes (Elt Ideal) arg12.view.junk (kernelRun0_B.sl.HS1_2 c i arg4 harg4 arg5 harg5 x2 x3))
      (arg18.view.writes (Elt Ideal) arg18.view.junk (kernelRun0_B.sl.HS7_7 c i arg4 harg4 arg5 harg5 arg12 x2 x3))
      (harg15.unread xs4) (Scf.trips k0_t2_loop.lb k0_t2_loop.ub k0_t2_loop.st))) (ix2 a b) = G4 a.val b.val + ∑ j ∈ Finset.range 4, grpSum (Cert.Tile.follow (Cert.Tile.dyT X0 X1 X2 X5 X6) P) (Cert.Tile.precede hal X2 X3) j a.val b.val := by
  have hp := tilePieces_B c arg2 harg2 arg3 harg3 arg4 harg4 arg7 harg7 arg8 harg8 x0 x1 x2 x5 x6 arg11 harg11 xs0 X0 X1 X2 X5 X6 h0 h1 h2 h5 h6 P hs0
  have hc := tileCover_B c arg2 harg2 arg3 harg3 arg4 harg4 arg7 harg7 arg8 harg8 x0 x1 x2 x5 x6 arg11 harg11 xs0
  have hq := inPieces_B c i arg4 harg4 arg5 harg5 x2 x3 X2 X3 h2 h3 hal hv
  have hd := inCover_B c i arg4 harg4 arg5 harg5 x2 x3
  exact pb2_read Variants.none c none i (Memref.whole main_arg0) (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ G4 (Cert.Tile.follow (Cert.Tile.dyT X0 X1 X2 X5 X6) P) (Cert.Tile.precede hal X2 X3) hs4 (readPieces2 _ _ hp hc) (readPieces2 _ _ hq hd) (inShift_B c i arg4 harg4 arg5 harg5 x2 x3 arg12 arg18 X2 X3 h2 h3 hal hv _) _ (le_of_eq trips2) a b

/-- What the point leaves of the weights' gradient. -/
theorem dwAt_B (c : Dev nD) (i : grid0.Coords) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg5 : Memref sig .tc .vmem S32x3072 .bf16) (harg5 : arg5.IsWhole) (arg6 : Memref sig .tc .vmem S4x1x31x256 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x3072 .bf16) (harg9 : arg9.IsWhole) (arg10 : Memref sig .tc .vmem S40x1024 .f32) (harg10 : arg10.IsWhole) (arg11 : Memref sig .tc .vmem S288x1024 .f32) (harg11 : arg11.IsWhole) (arg12 : Memref sig .tc .vmem S288x1024 .f32) (harg12 : arg12.IsWhole) (arg13 : Memref sig .tc .vmem S256x1024 .f32) (harg13 : arg13.IsWhole) (arg14 : Memref sig .tc .vmem S248x1024 .f32) (harg14 : arg14.IsWhole) (arg15 : Memref sig .tc .vmem S248x1024 .f32) (harg15 : arg15.IsWhole) (arg16 : Memref sig .tc .vmem S8x1024 .f32) (harg16 : arg16.IsWhole) (arg17 : Memref sig .tc .vmem S7x280x1024 .f32) (harg17 : arg17.IsWhole) (arg18 : Memref sig .tc .vmem S7x280x1024 .f32) (harg18 : arg18.IsWhole) (hc0 : ¬cond0_0 i) (hc1 : cond0_1 i) (hc2 : ¬cond0_2 i) (x0 : Vec Ideal S256x1024 .bf16) (x1 : Vec Ideal S256x1024 .f32) (x2 : Vec Ideal S256x3072 .bf16) (x3 : Vec Ideal S32x3072 .bf16) (x4 : Vec Ideal S4x1x31x256 .f32) (x5 : Vec Ideal S1x1x1024 .f32) (x6 : Vec Ideal S1x1x1024 .f32) (xs0 : Vec Ideal S288x1024 .f32) (xs3 : Vec Ideal S248x1024 .f32) (xs4 : Vec Ideal S248x1024 .f32) (xs5 : Vec Ideal S8x1024 .f32)
    (X0 X1 X2 : Nat → Nat → EReal) (X5 X6 : Nat → Nat → Nat → EReal)
    (e0 : ∀ (a : Fin 256) (b : Fin 1024), x0 (ix2 a b) = X0 a.val b.val)
    (e1 : ∀ (a : Fin 256) (b : Fin 1024), x1 (ix2 a b) = X1 a.val b.val)
    (e2 : ∀ (a : Fin 256) (b : Fin 3072), x2 (ix2 a b) = X2 a.val b.val)
    (e5 : ∀ (p a : Fin 1) (b : Fin 1024), x5 (ix3 p a b) = X5 p.val a.val b.val)
    (e6 : ∀ (p a : Fin 1) (b : Fin 1024), x6 (ix3 p a b) = X6 p.val a.val b.val) (P : Nat → Nat → EReal)
    (es0 : ∀ (a : Fin 288) (b : Fin 1024), xs0 (ix2 a b) = P a.val b.val) (X3 : Nat → Nat → EReal)
    (e3 : ∀ (a : Fin 32) (b : Fin 3072), x3 (ix2 a b) = X3 a.val b.val)
    (hal : Bool) (hv : Scalar.cmpi .sgt (Scalar.subi 15#32 (BitVec.ofNat 32 (i 0).val)) 0#32 = BitVec.ofBool hal) (G4 : Nat → Nat → EReal)
    (es4 : ∀ (a : Fin 248) (b : Fin 1024), xs4 (ix2 a b) = G4 a.val b.val)
    (a : Fin 248) (b : Fin 1024) :
    (sout0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 xs0 xs3 xs4 xs5 : Vec Ideal S248x1024 .f32) (ix2 a b) = G4 a.val b.val + ∑ j ∈ Finset.range 4, grpSum (Cert.Tile.follow (Cert.Tile.dyT X0 X1 X2 X5 X6) P) (Cert.Tile.precede hal X2 X3) j a.val b.val := by
  have h0 := fun a b => (congrFun (harg2.read_unread x0) (ix2 a b)).trans (e0 a b)
  have h1 := fun a b => (congrFun (harg3.read_unread x1) (ix2 a b)).trans (e1 a b)
  have h2 := fun a b => (congrFun (harg4.read_unread x2) (ix2 a b)).trans (e2 a b)
  have h3 := fun a b => (congrFun (harg5.read_unread x3) (ix2 a b)).trans (e3 a b)
  have h5 := fun p a b => (congrFun (harg7.read_unread x5) (ix3 p a b)).trans (e5 p a b)
  have h6 := fun p a b => (congrFun (harg8.read_unread x6) (ix3 p a b)).trans (e6 p a b)
  have hs0 := fun a b => (congrFun (harg11.read_unread xs0) (ix2 a b)).trans (es0 a b)
  have hs4 := fun a b => (congrFun (harg15.read_unread xs4) (ix2 a b)).trans (es4 a b)
  unfold sout0_B_4 kernelRun0_B; dsimp only
  refine (View.read_writes_apply_eq _ _ arg15.view (harg15.unread xs4) (ix2 a b) _ (View.cover_of_tiledL (s := S248x1024) _ S8x512.size (by sl_kernel_rfl) _)).trans ?_
  exact dwBuf_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 X0 X1 X2 X5 X6 h0 h1 h2 h5 h6 P hs0 X3 h3 hal hv G4 hs4 a b

/-- The three rows of column sums over what a buffer held. -/
theorem sumBuf_B (c : Dev nD) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg7 : Memref sig .tc .vmem S1x1x1024 .f32) (harg7 : arg7.IsWhole) (arg8 : Memref sig .tc .vmem S1x1x1024 .f32) (harg8 : arg8.IsWhole) (x0 : Vec Ideal S256x1024 .bf16) (x1 : Vec Ideal S256x1024 .f32) (x2 : Vec Ideal S256x3072 .bf16) (x5 : Vec Ideal S1x1x1024 .f32) (x6 : Vec Ideal S1x1x1024 .f32) (arg16 : Memref sig .tc .vmem S8x1024 .f32) (harg16 : arg16.IsWhole) (xs5 : Vec Ideal S8x1024 .f32)
    (X0 X1 X2 : Nat → Nat → EReal) (X5 X6 : Nat → Nat → Nat → EReal)
    (h0 : ∀ (a : Fin 256) (b : Fin 1024), arg2.view.read (Elt Ideal) (harg2.unread x0) (ix2 a b) = X0 a.val b.val)
    (h1 : ∀ (a : Fin 256) (b : Fin 1024), arg3.view.read (Elt Ideal) (harg3.unread x1) (ix2 a b) = X1 a.val b.val)
    (h2 : ∀ (a : Fin 256) (b : Fin 3072), arg4.view.read (Elt Ideal) (harg4.unread x2) (ix2 a b) = X2 a.val b.val)
    (h5 : ∀ (p a : Fin 1) (b : Fin 1024), arg7.view.read (Elt Ideal) (harg7.unread x5) (ix3 p a b) = X5 p.val a.val b.val)
    (h6 : ∀ (p a : Fin 1) (b : Fin 1024), arg8.view.read (Elt Ideal) (harg8.unread x6) (ix3 p a b) = X6 p.val a.val b.val) (G5 : Nat → Nat → EReal)
    (hs5 : ∀ (a : Fin 8) (b : Fin 1024), arg16.view.read (Elt Ideal) (harg16.unread xs5) (ix2 a b) = G5 a.val b.val)
    (f : arg16.view.ty.Contents (Elt Ideal)) (J : Nat → Nat → EReal) (hJ : ∀ (a : Fin 8) (b : Fin 1024), arg16.view.read (Elt Ideal) f (ix2 a b) = J a.val b.val)
    (a : Fin 8) (b : Fin 1024) :
    arg16.view.read (Elt Ideal) (arg16.view.writes (Elt Ideal) f [⟨Rect.unit ![2, 0] S1x1024.size inb_S8x1024_S1x1024_2_0, k0_pay644 (kernelRun0_B.sl.r_9 (F := Ideal) c arg2 harg2 arg3 harg3 arg4 harg4 arg7 harg7 arg8 harg8 x0 x1 x2 x5 x6) (kernelRun0_B.sl.v109 c arg16 harg16 xs5)⟩,
      ⟨Rect.unit ![1, 0] S1x1024.size inb_S8x1024_S1x1024_1_0, k0_pay643 (kernelRun0_B.sl.r_10 (F := Ideal) c arg2 harg2 arg3 harg3 arg4 harg4 arg7 harg7 arg8 harg8 x0 x1 x2 x5 x6) (kernelRun0_B.sl.v104 c arg16 harg16 xs5)⟩,
      ⟨Rect.unit ![0, 0] S1x1024.size inb_S8x1024_S1x1024_0_0, k0_pay642 (kernelRun0_B.sl.r_11 (F := Ideal) c arg2 harg2 arg3 harg3 arg4 harg4 arg7 harg7 arg8 harg8 x0 x1 x2 x5 x6) (kernelRun0_B.sl.r_12 (F := Ideal) c arg2 harg2 arg3 harg3 arg4 harg4 arg7 harg7 arg8 harg8 x0 x1 x2 x5 x6) (arg16.view.readAt (Elt Ideal) (Rect.unit (s := S8x1024) ![0, 0] S1x1024.size inb_S8x1024_S1x1024_0_0).toLoadRect (harg16.unread xs5))⟩]) (ix2 a b)
      = if a.val < 3 then Cert.Tile.accT X0 X1 X2 X5 X6 G5 a.val b.val else J a.val b.val := by
  have hr : ∀ (k : Nat) (inb : ∀ a, (![k, 0] : Fin 2 → Nat) a + (![1, 1024] : Fin 2 → Nat) a ≤ S8x1024.size a) (y : Fin 1024),
      arg16.view.readAt (Elt Ideal) (Rect.unit (s := S8x1024) ![k, 0] ![1, 1024] inb).toLoadRect (harg16.unread xs5) (ix2 (0 : Fin 1) y) = G5 k y.val := by
    intro k inb y
    refine (read2 hs5 _ inb (0 : Fin 1) y).trans ?_
    simp only [Matrix.cons_val_zero, Matrix.cons_val_one, Nat.zero_add, Fin.val_zero, Nat.add_zero]
  have w2 : ∀ (x : Fin 1) (y : Fin 1024), k0_pay644 (kernelRun0_B.sl.r_9 (F := Ideal) c arg2 harg2 arg3 harg3 arg4 harg4 arg7 harg7 arg8 harg8 x0 x1 x2 x5 x6) (kernelRun0_B.sl.v109 c arg16 harg16 xs5) (ix2 x y) = G5 2 y.val + ∑ r : Fin 256, Cert.Tile.dlnT X0 X1 X2 X5 X6 r.val y.val := by
    intro x y
    obtain rfl : x = 0 := Subsingleton.elim _ _
    exact (dlnSum_B c arg2 harg2 arg3 harg3 arg4 harg4 arg7 harg7 arg8 harg8 x0 x1 x2 x5 x6 X0 X1 X2 X5 X6 h0 h1 h2 h5 h6 _ y).trans (congrArg (· + _) (hr 2 _ y))
  have w1 : ∀ (x : Fin 1) (y : Fin 1024), k0_pay643 (kernelRun0_B.sl.r_10 (F := Ideal) c arg2 harg2 arg3 harg3 arg4 harg4 arg7 harg7 arg8 harg8 x0 x1 x2 x5 x6) (kernelRun0_B.sl.v104 c arg16 harg16 xs5) (ix2 x y) = G5 1 y.val + ∑ r : Fin 256, Cert.Tile.gainT X0 X1 X2 X5 X6 r.val y.val := by
    intro x y
    obtain rfl : x = 0 := Subsingleton.elim _ _
    exact (gainSum_B c arg2 harg2 arg3 harg3 arg4 harg4 arg7 harg7 arg8 harg8 x0 x1 x2 x5 x6 X0 X1 X2 X5 X6 h0 h1 h2 h5 h6 _ y).trans (congrArg (· + _) (hr 1 _ y))
  have w0 : ∀ (x : Fin 1) (y : Fin 1024), k0_pay642 (kernelRun0_B.sl.r_11 (F := Ideal) c arg2 harg2 arg3 harg3 arg4 harg4 arg7 harg7 arg8 harg8 x0 x1 x2 x5 x6) (kernelRun0_B.sl.r_12 (F := Ideal) c arg2 harg2 arg3 harg3 arg4 harg4 arg7 harg7 arg8 harg8 x0 x1 x2 x5 x6) (arg16.view.readAt (Elt Ideal) (Rect.unit (s := S8x1024) ![0, 0] ![1, 1024] inb_S8x1024_S1x1024_0_0).toLoadRect (harg16.unread xs5)) (ix2 x y) = G5 0 y.val + ∑ r : Fin 256, Cert.Tile.dyT X0 X1 X2 X5 X6 r.val y.val := by
    intro x y
    obtain rfl : x = 0 := Subsingleton.elim _ _
    exact (dySum_B c arg2 harg2 arg3 harg3 arg4 harg4 arg7 harg7 arg8 harg8 x0 x1 x2 x5 x6 X0 X1 X2 X5 X6 h0 h1 h2 h5 h6 _ y).trans (congrArg (· + _) (hr 0 _ y))
  refine (boxOver (o := 2) (m := 1) arg16.view f _ _ _ (fun _ l => G5 2 l + ∑ r : Fin 256, Cert.Tile.dlnT X0 X1 X2 X5 X6 r.val l) w2 a b).trans ?_
  rw [boxOver (o := 1) (m := 1) arg16.view f _ _ _ (fun _ l => G5 1 l + ∑ r : Fin 256, Cert.Tile.gainT X0 X1 X2 X5 X6 r.val l) w1 a b,
    boxOver (o := 0) (m := 1) arg16.view f _ _ _ (fun _ l => G5 0 l + ∑ r : Fin 256, Cert.Tile.dyT X0 X1 X2 X5 X6 r.val l) w0 a b]
  rw [show arg16.view.read (Elt Ideal) (arg16.view.writes (Elt Ideal) f []) (ix2 a b) = J a.val b.val from hJ a b]
  exact accEq X0 X1 X2 X5 X6 G5 J a.val b.val

/-- What the point leaves in the rows of column sums. -/
theorem sumAt_B (c : Dev nD) (i : grid0.Coords) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg5 : Memref sig .tc .vmem S32x3072 .bf16) (harg5 : arg5.IsWhole) (arg6 : Memref sig .tc .vmem S4x1x31x256 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x3072 .bf16) (harg9 : arg9.IsWhole) (arg10 : Memref sig .tc .vmem S40x1024 .f32) (harg10 : arg10.IsWhole) (arg11 : Memref sig .tc .vmem S288x1024 .f32) (harg11 : arg11.IsWhole) (arg12 : Memref sig .tc .vmem S288x1024 .f32) (harg12 : arg12.IsWhole) (arg13 : Memref sig .tc .vmem S256x1024 .f32) (harg13 : arg13.IsWhole) (arg14 : Memref sig .tc .vmem S248x1024 .f32) (harg14 : arg14.IsWhole) (arg15 : Memref sig .tc .vmem S248x1024 .f32) (harg15 : arg15.IsWhole) (arg16 : Memref sig .tc .vmem S8x1024 .f32) (harg16 : arg16.IsWhole) (arg17 : Memref sig .tc .vmem S7x280x1024 .f32) (harg17 : arg17.IsWhole) (arg18 : Memref sig .tc .vmem S7x280x1024 .f32) (harg18 : arg18.IsWhole) (hc0 : ¬cond0_0 i) (hc1 : cond0_1 i) (hc2 : ¬cond0_2 i) (x0 : Vec Ideal S256x1024 .bf16) (x1 : Vec Ideal S256x1024 .f32) (x2 : Vec Ideal S256x3072 .bf16) (x3 : Vec Ideal S32x3072 .bf16) (x4 : Vec Ideal S4x1x31x256 .f32) (x5 : Vec Ideal S1x1x1024 .f32) (x6 : Vec Ideal S1x1x1024 .f32) (xs0 : Vec Ideal S288x1024 .f32) (xs3 : Vec Ideal S248x1024 .f32) (xs4 : Vec Ideal S248x1024 .f32) (xs5 : Vec Ideal S8x1024 .f32)
    (X0 X1 X2 : Nat → Nat → EReal) (X5 X6 : Nat → Nat → Nat → EReal)
    (e0 : ∀ (a : Fin 256) (b : Fin 1024), x0 (ix2 a b) = X0 a.val b.val)
    (e1 : ∀ (a : Fin 256) (b : Fin 1024), x1 (ix2 a b) = X1 a.val b.val)
    (e2 : ∀ (a : Fin 256) (b : Fin 3072), x2 (ix2 a b) = X2 a.val b.val)
    (e5 : ∀ (p a : Fin 1) (b : Fin 1024), x5 (ix3 p a b) = X5 p.val a.val b.val)
    (e6 : ∀ (p a : Fin 1) (b : Fin 1024), x6 (ix3 p a b) = X6 p.val a.val b.val) (G5 : Nat → Nat → EReal)
    (es5 : ∀ (a : Fin 8) (b : Fin 1024), xs5 (ix2 a b) = G5 a.val b.val)
    (a : Fin 8) (b : Fin 1024) :
    (sout0_B_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 xs0 xs3 xs4 xs5 : Vec Ideal S8x1024 .f32) (ix2 a b) = Cert.Tile.accT X0 X1 X2 X5 X6 G5 a.val b.val := by
  have h0 := fun a b => (congrFun (harg2.read_unread x0) (ix2 a b)).trans (e0 a b)
  have h1 := fun a b => (congrFun (harg3.read_unread x1) (ix2 a b)).trans (e1 a b)
  have h2 := fun a b => (congrFun (harg4.read_unread x2) (ix2 a b)).trans (e2 a b)
  have h5 := fun p a b => (congrFun (harg7.read_unread x5) (ix3 p a b)).trans (e5 p a b)
  have h6 := fun p a b => (congrFun (harg8.read_unread x6) (ix3 p a b)).trans (e6 p a b)
  have hs5 := fun a b => (congrFun (harg16.read_unread xs5) (ix2 a b)).trans (es5 a b)
  unfold sout0_B_5 kernelRun0_B; dsimp only
  refine (sumBuf_B c arg2 harg2 arg3 harg3 arg4 harg4 arg7 harg7 arg8 harg8 x0 x1 x2 x5 x6 arg16 harg16 xs5 X0 X1 X2 X5 X6 h0 h1 h2 h5 h6 G5 hs5 _ G5 hs5 a b).trans ?_
  exact accLow X0 X1 X2 X5 X6 G5 a.val b.val

end Cert.KernelIdeal.Gen
-- ==== Proof.CellC.lean ====
/-
The grid point of the kernel, the last one: what its buffers hold, cell by cell.
-/
module

public import proofs.«01_k».proof.Proof.Fold
public import proofs.«01_k».proof.Proof.Tile
public import proofs.«01_k».proof.Proof.Pieces
public import proofs.«01_k».proof.Proof.Gen.KernelIdeal.Value

@[expose] public section

set_option maxRecDepth 65536
set_option maxHeartbeats 4000000

noncomputable section

namespace Cert.KernelIdeal.Gen

open Idealize.ShloMosaic Idealize.ShloMosaic.TcCoe Idealize.ShloMosaic.Tactic

/-- The gradient at the convolution's output, a cell of the tile. -/
theorem dyCell_C (c : Dev nD) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg7 : Memref sig .tc .vmem S1x1x1024 .f32) (harg7 : arg7.IsWhole) (arg8 : Memref sig .tc .vmem S1x1x1024 .f32) (harg8 : arg8.IsWhole) (x0 : Vec Ideal S256x1024 .bf16) (x1 : Vec Ideal S256x1024 .f32) (x2 : Vec Ideal S256x3072 .bf16) (x5 : Vec Ideal S1x1x1024 .f32) (x6 : Vec Ideal S1x1x1024 .f32)
    (X0 X1 X2 : Nat → Nat → EReal) (X5 X6 : Nat → Nat → Nat → EReal)
    (h0 : ∀ (a : Fin 256) (b : Fin 1024), arg2.view.read (Elt Ideal) (harg2.unread x0) (ix2 a b) = X0 a.val b.val)
    (h1 : ∀ (a : Fin 256) (b : Fin 1024), arg3.view.read (Elt Ideal) (harg3.unread x1) (ix2 a b) = X1 a.val b.val)
    (h2 : ∀ (a : Fin 256) (b : Fin 3072), arg4.view.read (Elt Ideal) (harg4.unread x2) (ix2 a b) = X2 a.val b.val)
    (h5 : ∀ (p a : Fin 1) (b : Fin 1024), arg7.view.read (Elt Ideal) (harg7.unread x5) (ix3 p a b) = X5 p.val a.val b.val)
    (h6 : ∀ (p a : Fin 1) (b : Fin 1024), arg8.view.read (Elt Ideal) (harg8.unread x6) (ix3 p a b) = X6 p.val a.val b.val)
    (r : Fin 256) (l : Fin 1024) :
    k0_pay640 (kernelRun0_C.sl.r_11 (F := Ideal) c arg2 harg2 arg3 harg3 arg4 harg4 arg7 harg7 arg8 harg8 x0 x1 x2 x5 x6) (kernelRun0_C.sl.r_12 (F := Ideal) c arg2 harg2 arg3 harg3 arg4 harg4 arg7 harg7 arg8 harg8 x0 x1 x2 x5 x6) (ix2 r l) = Cert.Tile.dyT X0 X1 X2 X5 X6 r.val l.val := by
  sl_unfold_run_names; unfold_payloads; pointwise
  simp only [read2 h0, read2 h1, read2 h2, read3 h5, read3 h6]
  simp only [Matrix.cons_val_zero, Matrix.cons_val_one, Matrix.cons_val, zero_add, Fin.isValue, Fin.val_zero, Finset.univ_unique, Finset.sum_const, Finset.card_singleton, one_smul, zero_sub]
  unfold Cert.Tile.dyT Rows.dy Rows.ddev Rows.fac Rows.mhalf Rows.dln Rows.gated Rows.ln Rows.nrm Rows.vare Rows.dev Rows.mean Rows.n1024 Rows.one Rows.eps
  rfl

/-- The gradient of the output gate, a cell of the tile. -/
theorem gateCell_C (c : Dev nD) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg7 : Memref sig .tc .vmem S1x1x1024 .f32) (harg7 : arg7.IsWhole) (arg8 : Memref sig .tc .vmem S1x1x1024 .f32) (harg8 : arg8.IsWhole) (x0 : Vec Ideal S256x1024 .bf16) (x1 : Vec Ideal S256x1024 .f32) (x2 : Vec Ideal S256x3072 .bf16) (x5 : Vec Ideal S1x1x1024 .f32) (x6 : Vec Ideal S1x1x1024 .f32)
    (X0 X1 X2 : Nat → Nat → EReal) (X5 X6 : Nat → Nat → Nat → EReal)
    (h0 : ∀ (a : Fin 256) (b : Fin 1024), arg2.view.read (Elt Ideal) (harg2.unread x0) (ix2 a b) = X0 a.val b.val)
    (h1 : ∀ (a : Fin 256) (b : Fin 1024), arg3.view.read (Elt Ideal) (harg3.unread x1) (ix2 a b) = X1 a.val b.val)
    (h2 : ∀ (a : Fin 256) (b : Fin 3072), arg4.view.read (Elt Ideal) (harg4.unread x2) (ix2 a b) = X2 a.val b.val)
    (h5 : ∀ (p a : Fin 1) (b : Fin 1024), arg7.view.read (Elt Ideal) (harg7.unread x5) (ix3 p a b) = X5 p.val a.val b.val)
    (h6 : ∀ (p a : Fin 1) (b : Fin 1024), arg8.view.read (Elt Ideal) (harg8.unread x6) (ix3 p a b) = X6 p.val a.val b.val)
    (r : Fin 256) (l : Fin 1024) :
    k0_pay641 (kernelRun0_C.sl.r_8 (F := Ideal) c arg2 harg2 arg3 harg3 arg4 harg4 arg7 harg7 arg8 harg8 x0 x1 x2 x5 x6) (ix2 r l) = Cert.Tile.gateT X0 X1 X2 X5 X6 r.val l.val := by
  sl_unfold_run_names; unfold_payloads; pointwise
  simp only [read2 h0, read2 h1, read2 h2, read3 h5, read3 h6]
  simp only [Matrix.cons_val_zero, Matrix.cons_val_one, Matrix.cons_val, zero_add, Fin.isValue, Fin.val_zero, Finset.univ_unique, Finset.sum_const, Finset.card_singleton, one_smul, zero_sub]
  unfold Cert.Tile.gateT Rows.dgate Rows.ln Rows.nrm Rows.vare Rows.dev Rows.mean Rows.n1024 Rows.one Rows.eps
  rfl

/-- The column sums of the gradient at the convolution's output, added to what is kept. -/
theorem dySum_C (c : Dev nD) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg7 : Memref sig .tc .vmem S1x1x1024 .f32) (harg7 : arg7.IsWhole) (arg8 : Memref sig .tc .vmem S1x1x1024 .f32) (harg8 : arg8.IsWhole) (x0 : Vec Ideal S256x1024 .bf16) (x1 : Vec Ideal S256x1024 .f32) (x2 : Vec Ideal S256x3072 .bf16) (x5 : Vec Ideal S1x1x1024 .f32) (x6 : Vec Ideal S1x1x1024 .f32)
    (X0 X1 X2 : Nat → Nat → EReal) (X5 X6 : Nat → Nat → Nat → EReal)
    (h0 : ∀ (a : Fin 256) (b : Fin 1024), arg2.view.read (Elt Ideal) (harg2.unread x0) (ix2 a b) = X0 a.val b.val)
    (h1 : ∀ (a : Fin 256) (b : Fin 1024), arg3.view.read (Elt Ideal) (harg3.unread x1) (ix2 a b) = X1 a.val b.val)
    (h2 : ∀ (a : Fin 256) (b : Fin 3072), arg4.view.read (Elt Ideal) (harg4.unread x2) (ix2 a b) = X2 a.val b.val)
    (h5 : ∀ (p a : Fin 1) (b : Fin 1024), arg7.view.read (Elt Ideal) (harg7.unread x5) (ix3 p a b) = X5 p.val a.val b.val)
    (h6 : ∀ (p a : Fin 1) (b : Fin 1024), arg8.view.read (Elt Ideal) (harg8.unread x6) (ix3 p a b) = X6 p.val a.val b.val)
    (v : Vec Ideal S1x1024 .f32) (l : Fin 1024) :
    k0_pay642 (kernelRun0_C.sl.r_11 (F := Ideal) c arg2 harg2 arg3 harg3 arg4 harg4 arg7 harg7 arg8 harg8 x0 x1 x2 x5 x6) (kernelRun0_C.sl.r_12 (F := Ideal) c arg2 harg2 arg3 harg3 arg4 harg4 arg7 harg7 arg8 harg8 x0 x1 x2 x5 x6) v (ix2 (0 : Fin 1) l) = v (ix2 (0 : Fin 1) l) + ∑ r : Fin 256, Cert.Tile.dyT X0 X1 X2 X5 X6 r.val l.val := by
  sl_unfold_run_names; unfold_payloads; pointwise
  simp only [read2 h0, read2 h1, read2 h2, read3 h5, read3 h6]
  simp only [Matrix.cons_val_zero, Matrix.cons_val_one, Matrix.cons_val, zero_add, Fin.isValue, Fin.val_zero, Finset.univ_unique, Finset.sum_const, Finset.card_singleton, one_smul, zero_sub]
  refine congrArg _ (Finset.sum_congr rfl fun r _ => ?_)
  unfold Cert.Tile.dyT Rows.dy Rows.ddev Rows.fac Rows.mhalf Rows.dln Rows.gated Rows.ln Rows.nrm Rows.vare Rows.dev Rows.mean Rows.n1024 Rows.one Rows.eps
  rfl

/-- The column sums of the scale's gradient, added to what is kept. -/
theorem gainSum_C (c : Dev nD) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg7 : Memref sig .tc .vmem S1x1x1024 .f32) (harg7 : arg7.IsWhole) (arg8 : Memref sig .tc .vmem S1x1x1024 .f32) (harg8 : arg8.IsWhole) (x0 : Vec Ideal S256x1024 .bf16) (x1 : Vec Ideal S256x1024 .f32) (x2 : Vec Ideal S256x3072 .bf16) (x5 : Vec Ideal S1x1x1024 .f32) (x6 : Vec Ideal S1x1x1024 .f32)
    (X0 X1 X2 : Nat → Nat → EReal) (X5 X6 : Nat → Nat → Nat → EReal)
    (h0 : ∀ (a : Fin 256) (b : Fin 1024), arg2.view.read (Elt Ideal) (harg2.unread x0) (ix2 a b) = X0 a.val b.val)
    (h1 : ∀ (a : Fin 256) (b : Fin 1024), arg3.view.read (Elt Ideal) (harg3.unread x1) (ix2 a b) = X1 a.val b.val)
    (h2 : ∀ (a : Fin 256) (b : Fin 3072), arg4.view.read (Elt Ideal) (harg4.unread x2) (ix2 a b) = X2 a.val b.val)
    (h5 : ∀ (p a : Fin 1) (b : Fin 1024), arg7.view.read (Elt Ideal) (harg7.unread x5) (ix3 p a b) = X5 p.val a.val b.val)
    (h6 : ∀ (p a : Fin 1) (b : Fin 1024), arg8.view.read (Elt Ideal) (harg8.unread x6) (ix3 p a b) = X6 p.val a.val b.val)
    (v : Vec Ideal S1x1024 .f32) (l : Fin 1024) :
    k0_pay643 (kernelRun0_C.sl.r_10 (F := Ideal) c arg2 harg2 arg3 harg3 arg4 harg4 arg7 harg7 arg8 harg8 x0 x1 x2 x5 x6) v (ix2 (0 : Fin 1) l) = v (ix2 (0 : Fin 1) l) + ∑ r : Fin 256, Cert.Tile.gainT X0 X1 X2 X5 X6 r.val l.val := by
  sl_unfold_run_names; unfold_payloads; pointwise
  simp only [read2 h0, read2 h1, read2 h2, read3 h5, read3 h6]
  simp only [Matrix.cons_val_zero, Matrix.cons_val_one, Matrix.cons_val, zero_add, Fin.isValue, Fin.val_zero, Finset.univ_unique, Finset.sum_const, Finset.card_singleton, one_smul, zero_sub]
  refine congrArg _ (Finset.sum_congr rfl fun r _ => ?_)
  unfold Cert.Tile.gainT Cert.Tile.dlnT Rows.dln Rows.gated Rows.ln Rows.nrm Rows.vare Rows.dev Rows.mean Rows.n1024 Rows.one Rows.eps
  rfl

/-- The column sums of the shift's gradient, added to what is kept. -/
theorem dlnSum_C (c : Dev nD) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg7 : Memref sig .tc .vmem S1x1x1024 .f32) (harg7 : arg7.IsWhole) (arg8 : Memref sig .tc .vmem S1x1x1024 .f32) (harg8 : arg8.IsWhole) (x0 : Vec Ideal S256x1024 .bf16) (x1 : Vec Ideal S256x1024 .f32) (x2 : Vec Ideal S256x3072 .bf16) (x5 : Vec Ideal S1x1x1024 .f32) (x6 : Vec Ideal S1x1x1024 .f32)
    (X0 X1 X2 : Nat → Nat → EReal) (X5 X6 : Nat → Nat → Nat → EReal)
    (h0 : ∀ (a : Fin 256) (b : Fin 1024), arg2.view.read (Elt Ideal) (harg2.unread x0) (ix2 a b) = X0 a.val b.val)
    (h1 : ∀ (a : Fin 256) (b : Fin 1024), arg3.view.read (Elt Ideal) (harg3.unread x1) (ix2 a b) = X1 a.val b.val)
    (h2 : ∀ (a : Fin 256) (b : Fin 3072), arg4.view.read (Elt Ideal) (harg4.unread x2) (ix2 a b) = X2 a.val b.val)
    (h5 : ∀ (p a : Fin 1) (b : Fin 1024), arg7.view.read (Elt Ideal) (harg7.unread x5) (ix3 p a b) = X5 p.val a.val b.val)
    (h6 : ∀ (p a : Fin 1) (b : Fin 1024), arg8.view.read (Elt Ideal) (harg8.unread x6) (ix3 p a b) = X6 p.val a.val b.val)
    (v : Vec Ideal S1x1024 .f32) (l : Fin 1024) :
    k0_pay644 (kernelRun0_C.sl.r_9 (F := Ideal) c arg2 harg2 arg3 harg3 arg4 harg4 arg7 harg7 arg8 harg8 x0 x1 x2 x5 x6) v (ix2 (0 : Fin 1) l) = v (ix2 (0 : Fin 1) l) + ∑ r : Fin 256, Cert.Tile.dlnT X0 X1 X2 X5 X6 r.val l.val := by
  sl_unfold_run_names; unfold_payloads; pointwise
  simp only [read2 h0, read2 h1, read2 h2, read3 h5, read3 h6]
  simp only [Matrix.cons_val_zero, Matrix.cons_val_one, Matrix.cons_val, zero_add, Fin.isValue, Fin.val_zero, Finset.univ_unique, Finset.sum_const, Finset.card_singleton, one_smul, zero_sub]
  refine congrArg _ (Finset.sum_congr rfl fun r _ => ?_)
  unfold Cert.Tile.dlnT Rows.dln Rows.gated Rows.ln Rows.nrm Rows.vare Rows.dev Rows.mean Rows.n1024 Rows.one Rows.eps
  rfl

end Cert.KernelIdeal.Gen
-- ==== Proof.BufC.lean ====
/-
The grid point of the kernel, the last one: what its buffers hold, cell by cell.
-/
module

public import proofs.«01_k».proof.Proof.CellC
public import proofs.«01_k».proof.Proof.Tile
public import proofs.«01_k».proof.Proof.Pieces

@[expose] public section

set_option maxRecDepth 65536
set_option maxHeartbeats 4000000

noncomputable section

namespace Cert.KernelIdeal.Gen

open Idealize.ShloMosaic Idealize.ShloMosaic.TcCoe Idealize.ShloMosaic.Tactic

/-- The gradient's tile with its halo: two pieces of one function. -/
theorem tilePieces_C (c : Dev nD) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg7 : Memref sig .tc .vmem S1x1x1024 .f32) (harg7 : arg7.IsWhole) (arg8 : Memref sig .tc .vmem S1x1x1024 .f32) (harg8 : arg8.IsWhole) (x0 : Vec Ideal S256x1024 .bf16) (x1 : Vec Ideal S256x1024 .f32) (x2 : Vec Ideal S256x3072 .bf16) (x5 : Vec Ideal S1x1x1024 .f32) (x6 : Vec Ideal S1x1x1024 .f32) (arg11 : Memref sig .tc .vmem S288x1024 .f32) (harg11 : arg11.IsWhole) (xs0 : Vec Ideal S288x1024 .f32)
    (X0 X1 X2 : Nat → Nat → EReal) (X5 X6 : Nat → Nat → Nat → EReal)
    (h0 : ∀ (a : Fin 256) (b : Fin 1024), arg2.view.read (Elt Ideal) (harg2.unread x0) (ix2 a b) = X0 a.val b.val)
    (h1 : ∀ (a : Fin 256) (b : Fin 1024), arg3.view.read (Elt Ideal) (harg3.unread x1) (ix2 a b) = X1 a.val b.val)
    (h2 : ∀ (a : Fin 256) (b : Fin 3072), arg4.view.read (Elt Ideal) (harg4.unread x2) (ix2 a b) = X2 a.val b.val)
    (h5 : ∀ (p a : Fin 1) (b : Fin 1024), arg7.view.read (Elt Ideal) (harg7.unread x5) (ix3 p a b) = X5 p.val a.val b.val)
    (h6 : ∀ (p a : Fin 1) (b : Fin 1024), arg8.view.read (Elt Ideal) (harg8.unread x6) (ix3 p a b) = X6 p.val a.val b.val) (P : Nat → Nat → EReal)
    (hs0 : ∀ (a : Fin 288) (b : Fin 1024), arg11.view.read (Elt Ideal) (harg11.unread xs0) (ix2 a b) = P a.val b.val) :
    View.PiecesOf (at2 (Cert.Tile.follow (Cert.Tile.dyT X0 X1 X2 X5 X6) P)) (kernelRun0_C.sl.HS0_2 (F := Ideal) c arg2 harg2 arg3 harg3 arg4 harg4 arg7 harg7 arg8 harg8 arg11 harg11 x0 x1 x2 x5 x6 xs0) := by
  unfold kernelRun0_C.sl.HS0_2
  refine ⟨piece2 _ (inb := inb_S288x1024_S256x1024_0_0) fun x y => ?_, piece2 _ (inb := inb_S288x1024_S32x1024_256_0) fun x y => ?_, trivial⟩
  · refine (dyCell_C c arg2 harg2 arg3 harg3 arg4 harg4 arg7 harg7 arg8 harg8 x0 x1 x2 x5 x6 X0 X1 X2 X5 X6 h0 h1 h2 h5 h6 x y).trans ?_
    simp only [Matrix.cons_val_zero, Matrix.cons_val_one, Matrix.cons_val, Fin.isValue]
    rw [Nat.zero_add, Nat.zero_add, Cert.Tile.follow, if_pos x.isLt]
  · unfold_payloads; pointwise
    simp only [read2 hs0]
    simp only [Matrix.cons_val_zero, Matrix.cons_val_one, Matrix.cons_val, Fin.isValue]
    rw [Cert.Tile.follow, if_neg (by omega)]
    congr 1 <;> omega

/-- Together they cover the buffer. -/
theorem tileCover_C (c : Dev nD) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg7 : Memref sig .tc .vmem S1x1x1024 .f32) (harg7 : arg7.IsWhole) (arg8 : Memref sig .tc .vmem S1x1x1024 .f32) (harg8 : arg8.IsWhole) (x0 : Vec Ideal S256x1024 .bf16) (x1 : Vec Ideal S256x1024 .f32) (x2 : Vec Ideal S256x3072 .bf16) (x5 : Vec Ideal S1x1x1024 .f32) (x6 : Vec Ideal S1x1x1024 .f32) (arg11 : Memref sig .tc .vmem S288x1024 .f32) (harg11 : arg11.IsWhole) (xs0 : Vec Ideal S288x1024 .f32) :
    ∀ y, ∃ p ∈ (kernelRun0_C.sl.HS0_2 (F := Ideal) c arg2 harg2 arg3 harg3 arg4 harg4 arg7 harg7 arg8 harg8 arg11 harg11 x0 x1 x2 x5 x6 xs0), y ∈ p.1.set := by
  exact View.cover_of_tiledBy _ ![32, 1024] (by sl_kernel_rfl)

/-- The seven shifted copies of that tile. -/
theorem tileShift_C (c : Dev nD) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg7 : Memref sig .tc .vmem S1x1x1024 .f32) (harg7 : arg7.IsWhole) (arg8 : Memref sig .tc .vmem S1x1x1024 .f32) (harg8 : arg8.IsWhole) (x0 : Vec Ideal S256x1024 .bf16) (x1 : Vec Ideal S256x1024 .f32) (x2 : Vec Ideal S256x3072 .bf16) (x5 : Vec Ideal S1x1x1024 .f32) (x6 : Vec Ideal S1x1x1024 .f32) (arg11 : Memref sig .tc .vmem S288x1024 .f32) (harg11 : arg11.IsWhole) (xs0 : Vec Ideal S288x1024 .f32) (arg17 : Memref sig .tc .vmem S7x280x1024 .f32)
    (X0 X1 X2 : Nat → Nat → EReal) (X5 X6 : Nat → Nat → Nat → EReal)
    (h0 : ∀ (a : Fin 256) (b : Fin 1024), arg2.view.read (Elt Ideal) (harg2.unread x0) (ix2 a b) = X0 a.val b.val)
    (h1 : ∀ (a : Fin 256) (b : Fin 1024), arg3.view.read (Elt Ideal) (harg3.unread x1) (ix2 a b) = X1 a.val b.val)
    (h2 : ∀ (a : Fin 256) (b : Fin 3072), arg4.view.read (Elt Ideal) (harg4.unread x2) (ix2 a b) = X2 a.val b.val)
    (h5 : ∀ (p a : Fin 1) (b : Fin 1024), arg7.view.read (Elt Ideal) (harg7.unread x5) (ix3 p a b) = X5 p.val a.val b.val)
    (h6 : ∀ (p a : Fin 1) (b : Fin 1024), arg8.view.read (Elt Ideal) (harg8.unread x6) (ix3 p a b) = X6 p.val a.val b.val) (P : Nat → Nat → EReal)
    (hs0 : ∀ (a : Fin 288) (b : Fin 1024), arg11.view.read (Elt Ideal) (harg11.unread xs0) (ix2 a b) = P a.val b.val)
    (f : arg17.view.ty.Contents (Elt Ideal)) (p : Fin 7) (a : Fin 280) (b : Fin 1024) :
    arg17.view.read (Elt Ideal) (arg17.view.writes (Elt Ideal) f (kernelRun0_C.sl.HS6_7 (F := Ideal) c arg2 harg2 arg3 harg3 arg4 harg4 arg7 harg7 arg8 harg8 arg11 harg11 x0 x1 x2 x5 x6 xs0)) (ix3 p a b) = (Cert.Tile.follow (Cert.Tile.dyT X0 X1 X2 X5 X6) P) (a.val + (p.val + 1)) b.val := by
  have hp := tilePieces_C c arg2 harg2 arg3 harg3 arg4 harg4 arg7 harg7 arg8 harg8 x0 x1 x2 x5 x6 arg11 harg11 xs0 X0 X1 X2 X5 X6 h0 h1 h2 h5 h6 P hs0
  have hc := tileCover_C c arg2 harg2 arg3 harg3 arg4 harg4 arg7 harg7 arg8 harg8 x0 x1 x2 x5 x6 arg11 harg11 xs0
  refine readPieces3 (n0 := 7) (n1 := 280) (n2 := 1024) (e := .f32) (G := fun p a b => (Cert.Tile.follow (Cert.Tile.dyT X0 X1 X2 X5 X6) P) (a + (p + 1)) b) _ _ ?_ (View.cover_of_tiledL _ S1x280x1024.size (by sl_kernel_rfl)) p a b
  unfold kernelRun0_C.sl.HS6_7
  refine ⟨piece3 _ (inb := inb_S7x280x1024_S1x280x1024_6_0_0) fun z x y => ?_, piece3 _ (inb := inb_S7x280x1024_S1x280x1024_5_0_0) fun z x y => ?_, piece3 _ (inb := inb_S7x280x1024_S1x280x1024_4_0_0) fun z x y => ?_, piece3 _ (inb := inb_S7x280x1024_S1x280x1024_3_0_0) fun z x y => ?_, piece3 _ (inb := inb_S7x280x1024_S1x280x1024_2_0_0) fun z x y => ?_, piece3 _ (inb := inb_S7x280x1024_S1x280x1024_1_0_0) fun z x y => ?_, piece3 _ (inb := inb_S7x280x1024_S1x280x1024_0_0_0) fun z x y => ?_, trivial⟩
  · unfold k0_pay655 kernelRun0_C.sl.v159; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay654 kernelRun0_C.sl.v155; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay653 kernelRun0_C.sl.v151; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay652 kernelRun0_C.sl.v147; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay651 kernelRun0_C.sl.v143; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay650 kernelRun0_C.sl.v139; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay649 kernelRun0_C.sl.v135; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega

/-- The gated input's tile with its halo: two pieces of one function. -/
theorem inPieces_C (c : Dev nD) (i : grid0.Coords) (arg4 : Memref sig .tc .vmem S256x3072 .bf16) (harg4 : arg4.IsWhole) (arg5 : Memref sig .tc .vmem S32x3072 .bf16) (harg5 : arg5.IsWhole) (x2 : Vec Ideal S256x3072 .bf16) (x3 : Vec Ideal S32x3072 .bf16)
    (X2 X3 : Nat → Nat → EReal)
    (h2 : ∀ (a : Fin 256) (b : Fin 3072), arg4.view.read (Elt Ideal) (harg4.unread x2) (ix2 a b) = X2 a.val b.val)
    (h3 : ∀ (a : Fin 32) (b : Fin 3072), arg5.view.read (Elt Ideal) (harg5.unread x3) (ix2 a b) = X3 a.val b.val)
    (hal : Bool) (hv : Scalar.cmpi .sgt (Scalar.subi 15#32 (BitVec.ofNat 32 (i 0).val)) 0#32 = BitVec.ofBool hal) :
    View.PiecesOf (at2 (Cert.Tile.precede hal X2 X3)) (kernelRun0_C.sl.HS1_2 (F := Ideal) c i arg4 harg4 arg5 harg5 x2 x3) := by
  unfold kernelRun0_C.sl.HS1_2
  refine ⟨piece2 _ (inb := inb_S288x1024_S32x1024_0_0) fun x y => ?_, piece2 _ (inb := inb_S288x1024_S256x1024_32_0) fun x y => ?_, trivial⟩
  · dsimp only
    rw [show kernelRun0_C.sl.v0 i = Scalar.subi 15#32 (BitVec.ofNat 32 (i 0).val) from rfl]
    rw [Cert.Tile.precede, if_pos (by simp only [Matrix.cons_val_zero, Matrix.cons_val_one, Matrix.cons_val, Fin.isValue]; omega)]
    unfold_payloads; rw [hv]
    cases hal
    · pointwise
      rw [if_neg Bool.false_ne_true, if_neg Bool.false_ne_true]
      rfl
    · pointwise
      simp only [read2 h3, if_true, Cert.Tile.glu]
      simp only [Matrix.cons_val_zero, Matrix.cons_val_one, Matrix.cons_val, Fin.isValue]
      simp only [Nat.zero_add]
  · dsimp only
    unfold kernelRun0_C.sl.r_13 kernelRun0_C.sl.r_14; unfold_payloads; pointwise
    simp only [read2 h2]
    simp only [Matrix.cons_val_zero, Matrix.cons_val_one, Matrix.cons_val, Fin.isValue]
    rw [Cert.Tile.precede, if_neg (by omega), Cert.Tile.glu]
    simp only [Nat.add_sub_cancel_left, Nat.zero_add]

/-- Together they cover the buffer. -/
theorem inCover_C (c : Dev nD) (i : grid0.Coords) (arg4 : Memref sig .tc .vmem S256x3072 .bf16) (harg4 : arg4.IsWhole) (arg5 : Memref sig .tc .vmem S32x3072 .bf16) (harg5 : arg5.IsWhole) (x2 : Vec Ideal S256x3072 .bf16) (x3 : Vec Ideal S32x3072 .bf16) :
    ∀ y, ∃ p ∈ (kernelRun0_C.sl.HS1_2 (F := Ideal) c i arg4 harg4 arg5 harg5 x2 x3), y ∈ p.1.set := by
  exact View.cover_of_tiledBy _ ![32, 1024] (by sl_kernel_rfl)

/-- The seven shifted copies of that tile. -/
theorem inShift_C (c : Dev nD) (i : grid0.Coords) (arg4 : Memref sig .tc .vmem S256x3072 .bf16) (harg4 : arg4.IsWhole) (arg5 : Memref sig .tc .vmem S32x3072 .bf16) (harg5 : arg5.IsWhole) (x2 : Vec Ideal S256x3072 .bf16) (x3 : Vec Ideal S32x3072 .bf16) (arg12 : Memref sig .tc .vmem S288x1024 .f32) (arg18 : Memref sig .tc .vmem S7x280x1024 .f32)
    (X2 X3 : Nat → Nat → EReal)
    (h2 : ∀ (a : Fin 256) (b : Fin 3072), arg4.view.read (Elt Ideal) (harg4.unread x2) (ix2 a b) = X2 a.val b.val)
    (h3 : ∀ (a : Fin 32) (b : Fin 3072), arg5.view.read (Elt Ideal) (harg5.unread x3) (ix2 a b) = X3 a.val b.val)
    (hal : Bool) (hv : Scalar.cmpi .sgt (Scalar.subi 15#32 (BitVec.ofNat 32 (i 0).val)) 0#32 = BitVec.ofBool hal)
    (f : arg18.view.ty.Contents (Elt Ideal)) (p : Fin 7) (a : Fin 280) (b : Fin 1024) :
    arg18.view.read (Elt Ideal) (arg18.view.writes (Elt Ideal) f (kernelRun0_C.sl.HS7_7 (F := Ideal) c i arg4 harg4 arg5 harg5 arg12 x2 x3)) (ix3 p a b) = (Cert.Tile.precede hal X2 X3) (a.val + (p.val + 1)) b.val := by
  have hp := inPieces_C c i arg4 harg4 arg5 harg5 x2 x3 X2 X3 h2 h3 hal hv
  have hc := inCover_C c i arg4 harg4 arg5 harg5 x2 x3
  refine readPieces3 (n0 := 7) (n1 := 280) (n2 := 1024) (e := .f32) (G := fun p a b => (Cert.Tile.precede hal X2 X3) (a + (p + 1)) b) _ _ ?_ (View.cover_of_tiledL _ S1x280x1024.size (by sl_kernel_rfl)) p a b
  unfold kernelRun0_C.sl.HS7_7
  refine ⟨piece3 _ (inb := inb_S7x280x1024_S1x280x1024_6_0_0) fun z x y => ?_, piece3 _ (inb := inb_S7x280x1024_S1x280x1024_5_0_0) fun z x y => ?_, piece3 _ (inb := inb_S7x280x1024_S1x280x1024_4_0_0) fun z x y => ?_, piece3 _ (inb := inb_S7x280x1024_S1x280x1024_3_0_0) fun z x y => ?_, piece3 _ (inb := inb_S7x280x1024_S1x280x1024_2_0_0) fun z x y => ?_, piece3 _ (inb := inb_S7x280x1024_S1x280x1024_1_0_0) fun z x y => ?_, piece3 _ (inb := inb_S7x280x1024_S1x280x1024_0_0_0) fun z x y => ?_, trivial⟩
  · unfold k0_pay662 kernelRun0_C.sl.v187; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay661 kernelRun0_C.sl.v183; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay660 kernelRun0_C.sl.v179; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay659 kernelRun0_C.sl.v175; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay658 kernelRun0_C.sl.v171; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay657 kernelRun0_C.sl.v167; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega
  · unfold k0_pay656 kernelRun0_C.sl.v163; dsimp only
    refine (leadCast _ _ z x y).trans ?_
    refine (covPieces2 _ hp hc _ _ x y).trans ?_
    obtain rfl : z = 0 := Subsingleton.elim _ _
    simp only [Matrix.cons_val_zero, Matrix.cons_val_one, Matrix.cons_val, Fin.isValue]
    refine congrArg₂ _ ?_ ?_ <;> simp only [Fin.val_zero] <;> omega

end Cert.KernelIdeal.Gen
-- ==== Proof.PointC.lean ====
/-
The grid point of the kernel, the last one: what it leaves in its outputs and in the buffers it carries on.
-/
module

public import proofs.«01_k».proof.Proof.BufC
public import proofs.«01_k».proof.Proof.Fold
public import proofs.«01_k».proof.Proof.Pays
public import proofs.«01_k».proof.Proof.TileEq

@[expose] public section

set_option maxRecDepth 65536
set_option maxHeartbeats 8000000

noncomputable section

namespace Cert.KernelIdeal.Gen

open Idealize.ShloMosaic Idealize.ShloMosaic.TcCoe Idealize.ShloMosaic.Tactic

/-- What the point leaves in the gradient's tile. -/
theorem tileAt_C (c : Dev nD) (i : grid0.Coords) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg5 : Memref sig .tc .vmem S32x3072 .bf16) (harg5 : arg5.IsWhole) (arg6 : Memref sig .tc .vmem S4x1x31x256 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x3072 .bf16) (harg9 : arg9.IsWhole) (arg10 : Memref sig .tc .vmem S40x1024 .f32) (harg10 : arg10.IsWhole) (arg11 : Memref sig .tc .vmem S288x1024 .f32) (harg11 : arg11.IsWhole) (arg12 : Memref sig .tc .vmem S288x1024 .f32) (harg12 : arg12.IsWhole) (arg13 : Memref sig .tc .vmem S256x1024 .f32) (harg13 : arg13.IsWhole) (arg14 : Memref sig .tc .vmem S248x1024 .f32) (harg14 : arg14.IsWhole) (arg15 : Memref sig .tc .vmem S248x1024 .f32) (harg15 : arg15.IsWhole) (arg16 : Memref sig .tc .vmem S8x1024 .f32) (harg16 : arg16.IsWhole) (arg17 : Memref sig .tc .vmem S7x280x1024 .f32) (harg17 : arg17.IsWhole) (arg18 : Memref sig .tc .vmem S7x280x1024 .f32) (harg18 : arg18.IsWhole) (hc0 : ¬cond0_0 i) (hc1 : cond0_1 i) (hc2 : cond0_2 i) (x0 : Vec Ideal S256x1024 .bf16) (x1 : Vec Ideal S256x1024 .f32) (x2 : Vec Ideal S256x3072 .bf16) (x3 : Vec Ideal S32x3072 .bf16) (x4 : Vec Ideal S4x1x31x256 .f32) (x5 : Vec Ideal S1x1x1024 .f32) (x6 : Vec Ideal S1x1x1024 .f32) (xs0 : Vec Ideal S288x1024 .f32) (xs3 : Vec Ideal S248x1024 .f32) (xs4 : Vec Ideal S248x1024 .f32) (xs5 : Vec Ideal S8x1024 .f32)
    (X0 X1 X2 : Nat → Nat → EReal) (X5 X6 : Nat → Nat → Nat → EReal)
    (e0 : ∀ (a : Fin 256) (b : Fin 1024), x0 (ix2 a b) = X0 a.val b.val)
    (e1 : ∀ (a : Fin 256) (b : Fin 1024), x1 (ix2 a b) = X1 a.val b.val)
    (e2 : ∀ (a : Fin 256) (b : Fin 3072), x2 (ix2 a b) = X2 a.val b.val)
    (e5 : ∀ (p a : Fin 1) (b : Fin 1024), x5 (ix3 p a b) = X5 p.val a.val b.val)
    (e6 : ∀ (p a : Fin 1) (b : Fin 1024), x6 (ix3 p a b) = X6 p.val a.val b.val) (P : Nat → Nat → EReal)
    (es0 : ∀ (a : Fin 288) (b : Fin 1024), xs0 (ix2 a b) = P a.val b.val)
    (a : Fin 288) (b : Fin 1024) :
    (sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 xs0 xs3 xs4 xs5 : Vec Ideal S288x1024 .f32) (ix2 a b) = (Cert.Tile.follow (Cert.Tile.dyT X0 X1 X2 X5 X6) P) a.val b.val := by
  have h0 := fun a b => (congrFun (harg2.read_unread x0) (ix2 a b)).trans (e0 a b)
  have h1 := fun a b => (congrFun (harg3.read_unread x1) (ix2 a b)).trans (e1 a b)
  have h2 := fun a b => (congrFun (harg4.read_unread x2) (ix2 a b)).trans (e2 a b)
  have h5 := fun p a b => (congrFun (harg7.read_unread x5) (ix3 p a b)).trans (e5 p a b)
  have h6 := fun p a b => (congrFun (harg8.read_unread x6) (ix3 p a b)).trans (e6 p a b)
  have hs0 := fun a b => (congrFun (harg11.read_unread xs0) (ix2 a b)).trans (es0 a b)
  unfold sout0_C_0 kernelRun0_C; dsimp only
  exact readPieces2 _ _ (tilePieces_C c arg2 harg2 arg3 harg3 arg4 harg4 arg7 harg7 arg8 harg8 x0 x1 x2 x5 x6 arg11 harg11 xs0 X0 X1 X2 X5 X6 h0 h1 h2 h5 h6 P hs0) (tileCover_C c arg2 harg2 arg3 harg3 arg4 harg4 arg7 harg7 arg8 harg8 x0 x1 x2 x5 x6 arg11 harg11 xs0) a b

/-- The taps of the convolution's transpose, as the point loads them back. -/
theorem tapLoad_C (c : Dev nD) (i : grid0.Coords) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg5 : Memref sig .tc .vmem S32x3072 .bf16) (harg5 : arg5.IsWhole) (arg6 : Memref sig .tc .vmem S4x1x31x256 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x3072 .bf16) (harg9 : arg9.IsWhole) (arg10 : Memref sig .tc .vmem S40x1024 .f32) (harg10 : arg10.IsWhole) (arg11 : Memref sig .tc .vmem S288x1024 .f32) (harg11 : arg11.IsWhole) (arg12 : Memref sig .tc .vmem S288x1024 .f32) (harg12 : arg12.IsWhole) (arg13 : Memref sig .tc .vmem S256x1024 .f32) (harg13 : arg13.IsWhole) (arg14 : Memref sig .tc .vmem S248x1024 .f32) (harg14 : arg14.IsWhole) (arg15 : Memref sig .tc .vmem S248x1024 .f32) (harg15 : arg15.IsWhole) (arg16 : Memref sig .tc .vmem S8x1024 .f32) (harg16 : arg16.IsWhole) (arg17 : Memref sig .tc .vmem S7x280x1024 .f32) (harg17 : arg17.IsWhole) (arg18 : Memref sig .tc .vmem S7x280x1024 .f32) (harg18 : arg18.IsWhole) (x0 : Vec Ideal S256x1024 .bf16) (x1 : Vec Ideal S256x1024 .f32) (x2 : Vec Ideal S256x3072 .bf16) (x5 : Vec Ideal S1x1x1024 .f32) (x6 : Vec Ideal S1x1x1024 .f32) (xs0 : Vec Ideal S288x1024 .f32) (xs3 : Vec Ideal S248x1024 .f32)
    (X0 X1 X2 : Nat → Nat → EReal) (X5 X6 : Nat → Nat → Nat → EReal)
    (h0 : ∀ (a : Fin 256) (b : Fin 1024), arg2.view.read (Elt Ideal) (harg2.unread x0) (ix2 a b) = X0 a.val b.val)
    (h1 : ∀ (a : Fin 256) (b : Fin 1024), arg3.view.read (Elt Ideal) (harg3.unread x1) (ix2 a b) = X1 a.val b.val)
    (h2 : ∀ (a : Fin 256) (b : Fin 3072), arg4.view.read (Elt Ideal) (harg4.unread x2) (ix2 a b) = X2 a.val b.val)
    (h5 : ∀ (p a : Fin 1) (b : Fin 1024), arg7.view.read (Elt Ideal) (harg7.unread x5) (ix3 p a b) = X5 p.val a.val b.val)
    (h6 : ∀ (p a : Fin 1) (b : Fin 1024), arg8.view.read (Elt Ideal) (harg8.unread x6) (ix3 p a b) = X6 p.val a.val b.val) (P W : Nat → Nat → EReal)
    (hs0 : ∀ (a : Fin 288) (b : Fin 1024), arg11.view.read (Elt Ideal) (harg11.unread xs0) (ix2 a b) = P a.val b.val)
    (hs3 : ∀ (a : Fin 248) (b : Fin 1024), arg14.view.read (Elt Ideal) (harg14.unread xs3) (ix2 a b) = W a.val b.val)
    (x : Fin 256) (y : Fin 1024) :
    kernelRun0_C.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x5 x6 xs0 xs3 (ix2 x y) = tapSum W (Cert.Tile.follow (Cert.Tile.dyT X0 X1 X2 X5 X6) P) x.val y.val := by
  have hp := tilePieces_C c arg2 harg2 arg3 harg3 arg4 harg4 arg7 harg7 arg8 harg8 x0 x1 x2 x5 x6 arg11 harg11 xs0 X0 X1 X2 X5 X6 h0 h1 h2 h5 h6 P hs0
  have hc := tileCover_C c arg2 harg2 arg3 harg3 arg4 harg4 arg7 harg7 arg8 harg8 x0 x1 x2 x5 x6 arg11 harg11 xs0
  unfold kernelRun0_C.sl.r_16
  refine (covPieces2 (n0 := 256) (n1 := 1024) (m0 := 256) (m1 := 1024) (e := .f32) _ (G := tapSum W (Cert.Tile.follow (Cert.Tile.dyT X0 X1 X2 X5 X6) P)) ?_ (View.cover_of_tiledL _ S64x512.size (by sl_kernel_rfl)) ![0, 0] _ x y).trans ?_
  · exact pb1_pieces _ c _ i _ _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ W (Cert.Tile.follow (Cert.Tile.dyT X0 X1 X2 X5 X6) P) hs3 (readPieces2 _ _ hp hc) (tileShift_C c arg2 harg2 arg3 harg3 arg4 harg4 arg7 harg7 arg8 harg8 x0 x1 x2 x5 x6 arg11 harg11 xs0 arg17 X0 X1 X2 X5 X6 h0 h1 h2 h5 h6 P hs0 _) _ (le_of_eq trips1)
  · simp only [Matrix.cons_val_zero, Matrix.cons_val_one, Nat.zero_add]

/-- What the point writes of the projection's gradient. -/
theorem dpAt_C (c : Dev nD) (i : grid0.Coords) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg5 : Memref sig .tc .vmem S32x3072 .bf16) (harg5 : arg5.IsWhole) (arg6 : Memref sig .tc .vmem S4x1x31x256 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x3072 .bf16) (harg9 : arg9.IsWhole) (arg10 : Memref sig .tc .vmem S40x1024 .f32) (harg10 : arg10.IsWhole) (arg11 : Memref sig .tc .vmem S288x1024 .f32) (harg11 : arg11.IsWhole) (arg12 : Memref sig .tc .vmem S288x1024 .f32) (harg12 : arg12.IsWhole) (arg13 : Memref sig .tc .vmem S256x1024 .f32) (harg13 : arg13.IsWhole) (arg14 : Memref sig .tc .vmem S248x1024 .f32) (harg14 : arg14.IsWhole) (arg15 : Memref sig .tc .vmem S248x1024 .f32) (harg15 : arg15.IsWhole) (arg16 : Memref sig .tc .vmem S8x1024 .f32) (harg16 : arg16.IsWhole) (arg17 : Memref sig .tc .vmem S7x280x1024 .f32) (harg17 : arg17.IsWhole) (arg18 : Memref sig .tc .vmem S7x280x1024 .f32) (harg18 : arg18.IsWhole) (hc0 : ¬cond0_0 i) (hc1 : cond0_1 i) (hc2 : cond0_2 i) (x0 : Vec Ideal S256x1024 .bf16) (x1 : Vec Ideal S256x1024 .f32) (x2 : Vec Ideal S256x3072 .bf16) (x3 : Vec Ideal S32x3072 .bf16) (x4 : Vec Ideal S4x1x31x256 .f32) (x5 : Vec Ideal S1x1x1024 .f32) (x6 : Vec Ideal S1x1x1024 .f32) (xs0 : Vec Ideal S288x1024 .f32) (xs3 : Vec Ideal S248x1024 .f32) (xs4 : Vec Ideal S248x1024 .f32) (xs5 : Vec Ideal S8x1024 .f32)
    (X0 X1 X2 : Nat → Nat → EReal) (X5 X6 : Nat → Nat → Nat → EReal)
    (e0 : ∀ (a : Fin 256) (b : Fin 1024), x0 (ix2 a b) = X0 a.val b.val)
    (e1 : ∀ (a : Fin 256) (b : Fin 1024), x1 (ix2 a b) = X1 a.val b.val)
    (e2 : ∀ (a : Fin 256) (b : Fin 3072), x2 (ix2 a b) = X2 a.val b.val)
    (e5 : ∀ (p a : Fin 1) (b : Fin 1024), x5 (ix3 p a b) = X5 p.val a.val b.val)
    (e6 : ∀ (p a : Fin 1) (b : Fin 1024), x6 (ix3 p a b) = X6 p.val a.val b.val) (P : Nat → Nat → EReal)
    (es0 : ∀ (a : Fin 288) (b : Fin 1024), xs0 (ix2 a b) = P a.val b.val) (W : Nat → Nat → EReal)
    (es3 : ∀ (a : Fin 248) (b : Fin 1024), xs3 (ix2 a b) = W a.val b.val)
    (a : Fin 256) (b : Fin 3072) :
    (out0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 xs0 xs3 xs4 xs5 : Vec Ideal S256x3072 .bf16) (ix2 a b) = (Cert.Tile.dpT (tapSum W (Cert.Tile.follow (Cert.Tile.dyT X0 X1 X2 X5 X6) P)) (Cert.Tile.gateT X0 X1 X2 X5 X6) X2) a.val b.val := by
  have h0 := fun a b => (congrFun (harg2.read_unread x0) (ix2 a b)).trans (e0 a b)
  have h1 := fun a b => (congrFun (harg3.read_unread x1) (ix2 a b)).trans (e1 a b)
  have h2 := fun a b => (congrFun (harg4.read_unread x2) (ix2 a b)).trans (e2 a b)
  have h5 := fun p a b => (congrFun (harg7.read_unread x5) (ix3 p a b)).trans (e5 p a b)
  have h6 := fun p a b => (congrFun (harg8.read_unread x6) (ix3 p a b)).trans (e6 p a b)
  have hs0 := fun a b => (congrFun (harg11.read_unread xs0) (ix2 a b)).trans (es0 a b)
  have hs3 := fun a b => (congrFun (harg14.read_unread xs3) (ix2 a b)).trans (es3 a b)
  unfold out0_C_7 kernelRun0_C; dsimp only
  have hsb : ∀ (x : Fin 256) (y : Fin 1024), kernelRun0_C.sl.r_15 (F := Ideal) c arg4 harg4 x2 (ix2 x y) = Ideal.logistic (X2 x.val (1024 + y.val)) := by
    intro x y
    unfold kernelRun0_C.sl.r_15 kernelRun0_C.sl.r_14
    refine (paySig _ x y).trans (congrArg _ ((read2 h2 _ _ x y).trans ?_))
    simp only [Matrix.cons_val_zero, Matrix.cons_val_one, Nat.zero_add]
  have hga : ∀ (x : Fin 256) (y : Fin 1024), kernelRun0_C.sl.r_13 (F := Ideal) c arg4 harg4 x2 (ix2 x y) = X2 x.val y.val := by
    intro x y
    unfold kernelRun0_C.sl.r_13
    refine (payIn _ x y).trans ((read2 h2 _ _ x y).trans ?_)
    simp only [Matrix.cons_val_zero, Matrix.cons_val_one, Nat.zero_add]
  have hdu := tapLoad_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x5 x6 xs0 xs3 X0 X1 X2 X5 X6 h0 h1 h2 h5 h6 P W hs0 hs3
  refine readPieces2 (n0 := 256) (n1 := 3072) (e := .bf16) (G := (Cert.Tile.dpT (tapSum W (Cert.Tile.follow (Cert.Tile.dyT X0 X1 X2 X5 X6) P)) (Cert.Tile.gateT X0 X1 X2 X5 X6) X2)) _ _ ?_ (View.cover_of_tiledL _ S256x1024.size (by sl_kernel_rfl)) a b
  unfold kernelRun0_C.sl.H7_3
  refine ⟨piece2 _ (inb := inb_S256x3072_S256x1024_0_1024) fun x y => ?_, piece2 _ (inb := inb_S256x3072_S256x1024_0_0) fun x y => ?_, piece2 _ (inb := inb_S256x3072_S256x1024_0_2048) fun x y => ?_, trivial⟩
  · refine (payRight _ _ _ x y).trans ?_
    rw [hdu x y, hga x y, hsb x y]
    simp only [Matrix.cons_val_zero, Matrix.cons_val_one, Nat.zero_add]
    have hy := y.isLt
    rw [Cert.Tile.dpT, if_neg (by omega), if_pos (by omega), Nat.add_sub_cancel_left]
    rfl
  · refine (payLeft (kernelRun0_C.sl.r_15 (F := Ideal) c arg4 harg4 x2) (kernelRun0_C.sl.r_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x5 x6 xs0 xs3) x y).trans ?_
    rw [hdu x y, hsb x y]
    simp only [Matrix.cons_val_zero, Matrix.cons_val_one, Nat.zero_add]
    rw [Cert.Tile.dpT, if_pos y.isLt]
  · refine (gateCell_C c arg2 harg2 arg3 harg3 arg4 harg4 arg7 harg7 arg8 harg8 x0 x1 x2 x5 x6 X0 X1 X2 X5 X6 h0 h1 h2 h5 h6 x y).trans ?_
    simp only [Matrix.cons_val_zero, Matrix.cons_val_one, Nat.zero_add]
    rw [Cert.Tile.dpT, if_neg (by omega), if_neg (by omega), Nat.add_sub_cancel_left]

/-- The weights' gradient after the point, in the kernel's own buffer. -/
theorem dwBuf_C (c : Dev nD) (i : grid0.Coords) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg5 : Memref sig .tc .vmem S32x3072 .bf16) (harg5 : arg5.IsWhole) (arg6 : Memref sig .tc .vmem S4x1x31x256 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x3072 .bf16) (harg9 : arg9.IsWhole) (arg10 : Memref sig .tc .vmem S40x1024 .f32) (harg10 : arg10.IsWhole) (arg11 : Memref sig .tc .vmem S288x1024 .f32) (harg11 : arg11.IsWhole) (arg12 : Memref sig .tc .vmem S288x1024 .f32) (harg12 : arg12.IsWhole) (arg13 : Memref sig .tc .vmem S256x1024 .f32) (harg13 : arg13.IsWhole) (arg14 : Memref sig .tc .vmem S248x1024 .f32) (harg14 : arg14.IsWhole) (arg15 : Memref sig .tc .vmem S248x1024 .f32) (harg15 : arg15.IsWhole) (arg16 : Memref sig .tc .vmem S8x1024 .f32) (harg16 : arg16.IsWhole) (arg17 : Memref sig .tc .vmem S7x280x1024 .f32) (harg17 : arg17.IsWhole) (arg18 : Memref sig .tc .vmem S7x280x1024 .f32) (harg18 : arg18.IsWhole) (x0 : Vec Ideal S256x1024 .bf16) (x1 : Vec Ideal S256x1024 .f32) (x2 : Vec Ideal S256x3072 .bf16) (x3 : Vec Ideal S32x3072 .bf16) (x5 : Vec Ideal S1x1x1024 .f32) (x6 : Vec Ideal S1x1x1024 .f32) (xs0 : Vec Ideal S288x1024 .f32) (xs4 : Vec Ideal S248x1024 .f32)
    (X0 X1 X2 : Nat → Nat → EReal) (X5 X6 : Nat → Nat → Nat → EReal)
    (h0 : ∀ (a : Fin 256) (b : Fin 1024), arg2.view.read (Elt Ideal) (harg2.unread x0) (ix2 a b) = X0 a.val b.val)
    (h1 : ∀ (a : Fin 256) (b : Fin 1024), arg3.view.read (Elt Ideal) (harg3.unread x1) (ix2 a b) = X1 a.val b.val)
    (h2 : ∀ (a : Fin 256) (b : Fin 3072), arg4.view.read (Elt Ideal) (harg4.unread x2) (ix2 a b) = X2 a.val b.val)
    (h5 : ∀ (p a : Fin 1) (b : Fin 1024), arg7.view.read (Elt Ideal) (harg7.unread x5) (ix3 p a b) = X5 p.val a.val b.val)
    (h6 : ∀ (p a : Fin 1) (b : Fin 1024), arg8.view.read (Elt Ideal) (harg8.unread x6) (ix3 p a b) = X6 p.val a.val b.val) (P : Nat → Nat → EReal)
    (hs0 : ∀ (a : Fin 288) (b : Fin 1024), arg11.view.read (Elt Ideal) (harg11.unread xs0) (ix2 a b) = P a.val b.val)
    (X3 : Nat → Nat → EReal)
    (h3 : ∀ (a : Fin 32) (b : Fin 3072), arg5.view.read (Elt Ideal) (harg5.unread x3) (ix2 a b) = X3 a.val b.val)
    (hal : Bool) (hv : Scalar.cmpi .sgt (Scalar.subi 15#32 (BitVec.ofNat 32 (i 0).val)) 0#32 = BitVec.ofBool hal) (G4 : Nat → Nat → EReal)
    (hs4 : ∀ (a : Fin 248) (b : Fin 1024), arg15.view.read (Elt Ideal) (harg15.unread xs4) (ix2 a b) = G4 a.val b.val)
    (a : Fin 248) (b : Fin 1024) :
    arg15.view.read (Elt Ideal) (arg15.view.writes (Elt Ideal) (harg15.unread xs4) (pb_k0_t2 (F := Ideal) Variants.none c none i (Memref.whole main_arg0) (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      (arg11.view.writes (Elt Ideal) arg11.view.junk (kernelRun0_C.sl.HS0_2 c arg2 harg2 arg3 harg3 arg4 harg4 arg7 harg7 arg8 harg8 arg11 harg11 x0 x1 x2 x5 x6 xs0))
      (arg12.view.writes (Elt Ideal) arg12.view.junk (kernelRun0_C.sl.HS1_2 c i arg4 harg4 arg5 harg5 x2 x3))
      (arg18.view.writes (Elt Ideal) arg18.view.junk (kernelRun0_C.sl.HS7_7 c i arg4 harg4 arg5 harg5 arg12 x2 x3))
      (harg15.unread xs4) (Scf.trips k0_t2_loop.lb k0_t2_loop.ub k0_t2_loop.st))) (ix2 a b) = G4 a.val b.val + ∑ j ∈ Finset.range 4, grpSum (Cert.Tile.follow (Cert.Tile.dyT X0 X1 X2 X5 X6) P) (Cert.Tile.precede hal X2 X3) j a.val b.val := by
  have hp := tilePieces_C c arg2 harg2 arg3 harg3 arg4 harg4 arg7 harg7 arg8 harg8 x0 x1 x2 x5 x6 arg11 harg11 xs0 X0 X1 X2 X5 X6 h0 h1 h2 h5 h6 P hs0
  have hc := tileCover_C c arg2 harg2 arg3 harg3 arg4 harg4 arg7 harg7 arg8 harg8 x0 x1 x2 x5 x6 arg11 harg11 xs0
  have hq := inPieces_C c i arg4 harg4 arg5 harg5 x2 x3 X2 X3 h2 h3 hal hv
  have hd := inCover_C c i arg4 harg4 arg5 harg5 x2 x3
  exact pb2_read Variants.none c none i (Memref.whole main_arg0) (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ _ G4 (Cert.Tile.follow (Cert.Tile.dyT X0 X1 X2 X5 X6) P) (Cert.Tile.precede hal X2 X3) hs4 (readPieces2 _ _ hp hc) (readPieces2 _ _ hq hd) (inShift_C c i arg4 harg4 arg5 harg5 x2 x3 arg12 arg18 X2 X3 h2 h3 hal hv _) _ (le_of_eq trips2) a b

/-- What the point leaves of the weights' gradient. -/
theorem dwAt_C (c : Dev nD) (i : grid0.Coords) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg5 : Memref sig .tc .vmem S32x3072 .bf16) (harg5 : arg5.IsWhole) (arg6 : Memref sig .tc .vmem S4x1x31x256 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x3072 .bf16) (harg9 : arg9.IsWhole) (arg10 : Memref sig .tc .vmem S40x1024 .f32) (harg10 : arg10.IsWhole) (arg11 : Memref sig .tc .vmem S288x1024 .f32) (harg11 : arg11.IsWhole) (arg12 : Memref sig .tc .vmem S288x1024 .f32) (harg12 : arg12.IsWhole) (arg13 : Memref sig .tc .vmem S256x1024 .f32) (harg13 : arg13.IsWhole) (arg14 : Memref sig .tc .vmem S248x1024 .f32) (harg14 : arg14.IsWhole) (arg15 : Memref sig .tc .vmem S248x1024 .f32) (harg15 : arg15.IsWhole) (arg16 : Memref sig .tc .vmem S8x1024 .f32) (harg16 : arg16.IsWhole) (arg17 : Memref sig .tc .vmem S7x280x1024 .f32) (harg17 : arg17.IsWhole) (arg18 : Memref sig .tc .vmem S7x280x1024 .f32) (harg18 : arg18.IsWhole) (hc0 : ¬cond0_0 i) (hc1 : cond0_1 i) (hc2 : cond0_2 i) (x0 : Vec Ideal S256x1024 .bf16) (x1 : Vec Ideal S256x1024 .f32) (x2 : Vec Ideal S256x3072 .bf16) (x3 : Vec Ideal S32x3072 .bf16) (x4 : Vec Ideal S4x1x31x256 .f32) (x5 : Vec Ideal S1x1x1024 .f32) (x6 : Vec Ideal S1x1x1024 .f32) (xs0 : Vec Ideal S288x1024 .f32) (xs3 : Vec Ideal S248x1024 .f32) (xs4 : Vec Ideal S248x1024 .f32) (xs5 : Vec Ideal S8x1024 .f32)
    (X0 X1 X2 : Nat → Nat → EReal) (X5 X6 : Nat → Nat → Nat → EReal)
    (e0 : ∀ (a : Fin 256) (b : Fin 1024), x0 (ix2 a b) = X0 a.val b.val)
    (e1 : ∀ (a : Fin 256) (b : Fin 1024), x1 (ix2 a b) = X1 a.val b.val)
    (e2 : ∀ (a : Fin 256) (b : Fin 3072), x2 (ix2 a b) = X2 a.val b.val)
    (e5 : ∀ (p a : Fin 1) (b : Fin 1024), x5 (ix3 p a b) = X5 p.val a.val b.val)
    (e6 : ∀ (p a : Fin 1) (b : Fin 1024), x6 (ix3 p a b) = X6 p.val a.val b.val) (P : Nat → Nat → EReal)
    (es0 : ∀ (a : Fin 288) (b : Fin 1024), xs0 (ix2 a b) = P a.val b.val) (X3 : Nat → Nat → EReal)
    (e3 : ∀ (a : Fin 32) (b : Fin 3072), x3 (ix2 a b) = X3 a.val b.val)
    (hal : Bool) (hv : Scalar.cmpi .sgt (Scalar.subi 15#32 (BitVec.ofNat 32 (i 0).val)) 0#32 = BitVec.ofBool hal) (G4 : Nat → Nat → EReal)
    (es4 : ∀ (a : Fin 248) (b : Fin 1024), xs4 (ix2 a b) = G4 a.val b.val)
    (a : Fin 248) (b : Fin 1024) :
    (sout0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 xs0 xs3 xs4 xs5 : Vec Ideal S248x1024 .f32) (ix2 a b) = G4 a.val b.val + ∑ j ∈ Finset.range 4, grpSum (Cert.Tile.follow (Cert.Tile.dyT X0 X1 X2 X5 X6) P) (Cert.Tile.precede hal X2 X3) j a.val b.val := by
  have h0 := fun a b => (congrFun (harg2.read_unread x0) (ix2 a b)).trans (e0 a b)
  have h1 := fun a b => (congrFun (harg3.read_unread x1) (ix2 a b)).trans (e1 a b)
  have h2 := fun a b => (congrFun (harg4.read_unread x2) (ix2 a b)).trans (e2 a b)
  have h3 := fun a b => (congrFun (harg5.read_unread x3) (ix2 a b)).trans (e3 a b)
  have h5 := fun p a b => (congrFun (harg7.read_unread x5) (ix3 p a b)).trans (e5 p a b)
  have h6 := fun p a b => (congrFun (harg8.read_unread x6) (ix3 p a b)).trans (e6 p a b)
  have hs0 := fun a b => (congrFun (harg11.read_unread xs0) (ix2 a b)).trans (es0 a b)
  have hs4 := fun a b => (congrFun (harg15.read_unread xs4) (ix2 a b)).trans (es4 a b)
  unfold sout0_C_4 kernelRun0_C; dsimp only
  refine (View.read_writes_apply_eq _ _ arg15.view (harg15.unread xs4) (ix2 a b) _ (View.cover_of_tiledL (s := S248x1024) _ S8x512.size (by sl_kernel_rfl) _)).trans ?_
  exact dwBuf_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 X0 X1 X2 X5 X6 h0 h1 h2 h5 h6 P hs0 X3 h3 hal hv G4 hs4 a b

/-- The three rows of column sums over what a buffer held. -/
theorem sumBuf_C (c : Dev nD) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg7 : Memref sig .tc .vmem S1x1x1024 .f32) (harg7 : arg7.IsWhole) (arg8 : Memref sig .tc .vmem S1x1x1024 .f32) (harg8 : arg8.IsWhole) (x0 : Vec Ideal S256x1024 .bf16) (x1 : Vec Ideal S256x1024 .f32) (x2 : Vec Ideal S256x3072 .bf16) (x5 : Vec Ideal S1x1x1024 .f32) (x6 : Vec Ideal S1x1x1024 .f32) (arg16 : Memref sig .tc .vmem S8x1024 .f32) (harg16 : arg16.IsWhole) (xs5 : Vec Ideal S8x1024 .f32)
    (X0 X1 X2 : Nat → Nat → EReal) (X5 X6 : Nat → Nat → Nat → EReal)
    (h0 : ∀ (a : Fin 256) (b : Fin 1024), arg2.view.read (Elt Ideal) (harg2.unread x0) (ix2 a b) = X0 a.val b.val)
    (h1 : ∀ (a : Fin 256) (b : Fin 1024), arg3.view.read (Elt Ideal) (harg3.unread x1) (ix2 a b) = X1 a.val b.val)
    (h2 : ∀ (a : Fin 256) (b : Fin 3072), arg4.view.read (Elt Ideal) (harg4.unread x2) (ix2 a b) = X2 a.val b.val)
    (h5 : ∀ (p a : Fin 1) (b : Fin 1024), arg7.view.read (Elt Ideal) (harg7.unread x5) (ix3 p a b) = X5 p.val a.val b.val)
    (h6 : ∀ (p a : Fin 1) (b : Fin 1024), arg8.view.read (Elt Ideal) (harg8.unread x6) (ix3 p a b) = X6 p.val a.val b.val) (G5 : Nat → Nat → EReal)
    (hs5 : ∀ (a : Fin 8) (b : Fin 1024), arg16.view.read (Elt Ideal) (harg16.unread xs5) (ix2 a b) = G5 a.val b.val)
    (f : arg16.view.ty.Contents (Elt Ideal)) (J : Nat → Nat → EReal) (hJ : ∀ (a : Fin 8) (b : Fin 1024), arg16.view.read (Elt Ideal) f (ix2 a b) = J a.val b.val)
    (a : Fin 8) (b : Fin 1024) :
    arg16.view.read (Elt Ideal) (arg16.view.writes (Elt Ideal) f [⟨Rect.unit ![2, 0] S1x1024.size inb_S8x1024_S1x1024_2_0, k0_pay644 (kernelRun0_C.sl.r_9 (F := Ideal) c arg2 harg2 arg3 harg3 arg4 harg4 arg7 harg7 arg8 harg8 x0 x1 x2 x5 x6) (kernelRun0_C.sl.v109 c arg16 harg16 xs5)⟩,
      ⟨Rect.unit ![1, 0] S1x1024.size inb_S8x1024_S1x1024_1_0, k0_pay643 (kernelRun0_C.sl.r_10 (F := Ideal) c arg2 harg2 arg3 harg3 arg4 harg4 arg7 harg7 arg8 harg8 x0 x1 x2 x5 x6) (kernelRun0_C.sl.v104 c arg16 harg16 xs5)⟩,
      ⟨Rect.unit ![0, 0] S1x1024.size inb_S8x1024_S1x1024_0_0, k0_pay642 (kernelRun0_C.sl.r_11 (F := Ideal) c arg2 harg2 arg3 harg3 arg4 harg4 arg7 harg7 arg8 harg8 x0 x1 x2 x5 x6) (kernelRun0_C.sl.r_12 (F := Ideal) c arg2 harg2 arg3 harg3 arg4 harg4 arg7 harg7 arg8 harg8 x0 x1 x2 x5 x6) (arg16.view.readAt (Elt Ideal) (Rect.unit (s := S8x1024) ![0, 0] S1x1024.size inb_S8x1024_S1x1024_0_0).toLoadRect (harg16.unread xs5))⟩]) (ix2 a b)
      = if a.val < 3 then Cert.Tile.accT X0 X1 X2 X5 X6 G5 a.val b.val else J a.val b.val := by
  have hr : ∀ (k : Nat) (inb : ∀ a, (![k, 0] : Fin 2 → Nat) a + (![1, 1024] : Fin 2 → Nat) a ≤ S8x1024.size a) (y : Fin 1024),
      arg16.view.readAt (Elt Ideal) (Rect.unit (s := S8x1024) ![k, 0] ![1, 1024] inb).toLoadRect (harg16.unread xs5) (ix2 (0 : Fin 1) y) = G5 k y.val := by
    intro k inb y
    refine (read2 hs5 _ inb (0 : Fin 1) y).trans ?_
    simp only [Matrix.cons_val_zero, Matrix.cons_val_one, Nat.zero_add, Fin.val_zero, Nat.add_zero]
  have w2 : ∀ (x : Fin 1) (y : Fin 1024), k0_pay644 (kernelRun0_C.sl.r_9 (F := Ideal) c arg2 harg2 arg3 harg3 arg4 harg4 arg7 harg7 arg8 harg8 x0 x1 x2 x5 x6) (kernelRun0_C.sl.v109 c arg16 harg16 xs5) (ix2 x y) = G5 2 y.val + ∑ r : Fin 256, Cert.Tile.dlnT X0 X1 X2 X5 X6 r.val y.val := by
    intro x y
    obtain rfl : x = 0 := Subsingleton.elim _ _
    exact (dlnSum_C c arg2 harg2 arg3 harg3 arg4 harg4 arg7 harg7 arg8 harg8 x0 x1 x2 x5 x6 X0 X1 X2 X5 X6 h0 h1 h2 h5 h6 _ y).trans (congrArg (· + _) (hr 2 _ y))
  have w1 : ∀ (x : Fin 1) (y : Fin 1024), k0_pay643 (kernelRun0_C.sl.r_10 (F := Ideal) c arg2 harg2 arg3 harg3 arg4 harg4 arg7 harg7 arg8 harg8 x0 x1 x2 x5 x6) (kernelRun0_C.sl.v104 c arg16 harg16 xs5) (ix2 x y) = G5 1 y.val + ∑ r : Fin 256, Cert.Tile.gainT X0 X1 X2 X5 X6 r.val y.val := by
    intro x y
    obtain rfl : x = 0 := Subsingleton.elim _ _
    exact (gainSum_C c arg2 harg2 arg3 harg3 arg4 harg4 arg7 harg7 arg8 harg8 x0 x1 x2 x5 x6 X0 X1 X2 X5 X6 h0 h1 h2 h5 h6 _ y).trans (congrArg (· + _) (hr 1 _ y))
  have w0 : ∀ (x : Fin 1) (y : Fin 1024), k0_pay642 (kernelRun0_C.sl.r_11 (F := Ideal) c arg2 harg2 arg3 harg3 arg4 harg4 arg7 harg7 arg8 harg8 x0 x1 x2 x5 x6) (kernelRun0_C.sl.r_12 (F := Ideal) c arg2 harg2 arg3 harg3 arg4 harg4 arg7 harg7 arg8 harg8 x0 x1 x2 x5 x6) (arg16.view.readAt (Elt Ideal) (Rect.unit (s := S8x1024) ![0, 0] ![1, 1024] inb_S8x1024_S1x1024_0_0).toLoadRect (harg16.unread xs5)) (ix2 x y) = G5 0 y.val + ∑ r : Fin 256, Cert.Tile.dyT X0 X1 X2 X5 X6 r.val y.val := by
    intro x y
    obtain rfl : x = 0 := Subsingleton.elim _ _
    exact (dySum_C c arg2 harg2 arg3 harg3 arg4 harg4 arg7 harg7 arg8 harg8 x0 x1 x2 x5 x6 X0 X1 X2 X5 X6 h0 h1 h2 h5 h6 _ y).trans (congrArg (· + _) (hr 0 _ y))
  refine (boxOver (o := 2) (m := 1) arg16.view f _ _ _ (fun _ l => G5 2 l + ∑ r : Fin 256, Cert.Tile.dlnT X0 X1 X2 X5 X6 r.val l) w2 a b).trans ?_
  rw [boxOver (o := 1) (m := 1) arg16.view f _ _ _ (fun _ l => G5 1 l + ∑ r : Fin 256, Cert.Tile.gainT X0 X1 X2 X5 X6 r.val l) w1 a b,
    boxOver (o := 0) (m := 1) arg16.view f _ _ _ (fun _ l => G5 0 l + ∑ r : Fin 256, Cert.Tile.dyT X0 X1 X2 X5 X6 r.val l) w0 a b]
  rw [show arg16.view.read (Elt Ideal) (arg16.view.writes (Elt Ideal) f []) (ix2 a b) = J a.val b.val from hJ a b]
  exact accEq X0 X1 X2 X5 X6 G5 J a.val b.val

/-- What the point leaves in the rows of column sums. -/
theorem sumAt_C (c : Dev nD) (i : grid0.Coords) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg5 : Memref sig .tc .vmem S32x3072 .bf16) (harg5 : arg5.IsWhole) (arg6 : Memref sig .tc .vmem S4x1x31x256 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x3072 .bf16) (harg9 : arg9.IsWhole) (arg10 : Memref sig .tc .vmem S40x1024 .f32) (harg10 : arg10.IsWhole) (arg11 : Memref sig .tc .vmem S288x1024 .f32) (harg11 : arg11.IsWhole) (arg12 : Memref sig .tc .vmem S288x1024 .f32) (harg12 : arg12.IsWhole) (arg13 : Memref sig .tc .vmem S256x1024 .f32) (harg13 : arg13.IsWhole) (arg14 : Memref sig .tc .vmem S248x1024 .f32) (harg14 : arg14.IsWhole) (arg15 : Memref sig .tc .vmem S248x1024 .f32) (harg15 : arg15.IsWhole) (arg16 : Memref sig .tc .vmem S8x1024 .f32) (harg16 : arg16.IsWhole) (arg17 : Memref sig .tc .vmem S7x280x1024 .f32) (harg17 : arg17.IsWhole) (arg18 : Memref sig .tc .vmem S7x280x1024 .f32) (harg18 : arg18.IsWhole) (hc0 : ¬cond0_0 i) (hc1 : cond0_1 i) (hc2 : cond0_2 i) (x0 : Vec Ideal S256x1024 .bf16) (x1 : Vec Ideal S256x1024 .f32) (x2 : Vec Ideal S256x3072 .bf16) (x3 : Vec Ideal S32x3072 .bf16) (x4 : Vec Ideal S4x1x31x256 .f32) (x5 : Vec Ideal S1x1x1024 .f32) (x6 : Vec Ideal S1x1x1024 .f32) (xs0 : Vec Ideal S288x1024 .f32) (xs3 : Vec Ideal S248x1024 .f32) (xs4 : Vec Ideal S248x1024 .f32) (xs5 : Vec Ideal S8x1024 .f32)
    (X0 X1 X2 : Nat → Nat → EReal) (X5 X6 : Nat → Nat → Nat → EReal)
    (e0 : ∀ (a : Fin 256) (b : Fin 1024), x0 (ix2 a b) = X0 a.val b.val)
    (e1 : ∀ (a : Fin 256) (b : Fin 1024), x1 (ix2 a b) = X1 a.val b.val)
    (e2 : ∀ (a : Fin 256) (b : Fin 3072), x2 (ix2 a b) = X2 a.val b.val)
    (e5 : ∀ (p a : Fin 1) (b : Fin 1024), x5 (ix3 p a b) = X5 p.val a.val b.val)
    (e6 : ∀ (p a : Fin 1) (b : Fin 1024), x6 (ix3 p a b) = X6 p.val a.val b.val) (G5 : Nat → Nat → EReal)
    (es5 : ∀ (a : Fin 8) (b : Fin 1024), xs5 (ix2 a b) = G5 a.val b.val)
    (a : Fin 8) (b : Fin 1024) :
    (sout0_C_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 xs0 xs3 xs4 xs5 : Vec Ideal S8x1024 .f32) (ix2 a b) = Cert.Tile.accT X0 X1 X2 X5 X6 G5 a.val b.val := by
  have h0 := fun a b => (congrFun (harg2.read_unread x0) (ix2 a b)).trans (e0 a b)
  have h1 := fun a b => (congrFun (harg3.read_unread x1) (ix2 a b)).trans (e1 a b)
  have h2 := fun a b => (congrFun (harg4.read_unread x2) (ix2 a b)).trans (e2 a b)
  have h5 := fun p a b => (congrFun (harg7.read_unread x5) (ix3 p a b)).trans (e5 p a b)
  have h6 := fun p a b => (congrFun (harg8.read_unread x6) (ix3 p a b)).trans (e6 p a b)
  have hs5 := fun a b => (congrFun (harg16.read_unread xs5) (ix2 a b)).trans (es5 a b)
  unfold sout0_C_5 kernelRun0_C; dsimp only
  refine (sumBuf_C c arg2 harg2 arg3 harg3 arg4 harg4 arg7 harg7 arg8 harg8 x0 x1 x2 x5 x6 arg16 harg16 xs5 X0 X1 X2 X5 X6 h0 h1 h2 h5 h6 G5 hs5 _ G5 hs5 a b).trans ?_
  exact accLow X0 X1 X2 X5 X6 G5 a.val b.val

/-- What the last point hands on. -/
theorem sgAt_C (c : Dev nD) (i : grid0.Coords) (arg2 : Memref sig .tc .vmem S256x1024 .bf16) (harg2 : arg2.IsWhole) (arg3 : Memref sig .tc .vmem S256x1024 .f32) (harg3 : arg3.IsWhole) (arg4 : Memref sig .tc .vmem S256x3072 .bf16) (harg4 : arg4.IsWhole) (arg5 : Memref sig .tc .vmem S32x3072 .bf16) (harg5 : arg5.IsWhole) (arg6 : Memref sig .tc .vmem S4x1x31x256 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S256x3072 .bf16) (harg9 : arg9.IsWhole) (arg10 : Memref sig .tc .vmem S40x1024 .f32) (harg10 : arg10.IsWhole) (arg11 : Memref sig .tc .vmem S288x1024 .f32) (harg11 : arg11.IsWhole) (arg12 : Memref sig .tc .vmem S288x1024 .f32) (harg12 : arg12.IsWhole) (arg13 : Memref sig .tc .vmem S256x1024 .f32) (harg13 : arg13.IsWhole) (arg14 : Memref sig .tc .vmem S248x1024 .f32) (harg14 : arg14.IsWhole) (arg15 : Memref sig .tc .vmem S248x1024 .f32) (harg15 : arg15.IsWhole) (arg16 : Memref sig .tc .vmem S8x1024 .f32) (harg16 : arg16.IsWhole) (arg17 : Memref sig .tc .vmem S7x280x1024 .f32) (harg17 : arg17.IsWhole) (arg18 : Memref sig .tc .vmem S7x280x1024 .f32) (harg18 : arg18.IsWhole) (hc0 : ¬cond0_0 i) (hc1 : cond0_1 i) (hc2 : cond0_2 i) (x0 : Vec Ideal S256x1024 .bf16) (x1 : Vec Ideal S256x1024 .f32) (x2 : Vec Ideal S256x3072 .bf16) (x3 : Vec Ideal S32x3072 .bf16) (x4 : Vec Ideal S4x1x31x256 .f32) (x5 : Vec Ideal S1x1x1024 .f32) (x6 : Vec Ideal S1x1x1024 .f32) (xs0 : Vec Ideal S288x1024 .f32) (xs3 : Vec Ideal S248x1024 .f32) (xs4 : Vec Ideal S248x1024 .f32) (xs5 : Vec Ideal S8x1024 .f32)
    (X0 X1 X2 : Nat → Nat → EReal) (X5 X6 : Nat → Nat → Nat → EReal)
    (e0 : ∀ (a : Fin 256) (b : Fin 1024), x0 (ix2 a b) = X0 a.val b.val)
    (e1 : ∀ (a : Fin 256) (b : Fin 1024), x1 (ix2 a b) = X1 a.val b.val)
    (e2 : ∀ (a : Fin 256) (b : Fin 3072), x2 (ix2 a b) = X2 a.val b.val)
    (e5 : ∀ (p a : Fin 1) (b : Fin 1024), x5 (ix3 p a b) = X5 p.val a.val b.val)
    (e6 : ∀ (p a : Fin 1) (b : Fin 1024), x6 (ix3 p a b) = X6 p.val a.val b.val) (P : Nat → Nat → EReal)
    (es0 : ∀ (a : Fin 288) (b : Fin 1024), xs0 (ix2 a b) = P a.val b.val) (X3 : Nat → Nat → EReal)
    (e3 : ∀ (a : Fin 32) (b : Fin 3072), x3 (ix2 a b) = X3 a.val b.val)
    (hal : Bool) (hv : Scalar.cmpi .sgt (Scalar.subi 15#32 (BitVec.ofNat 32 (i 0).val)) 0#32 = BitVec.ofBool hal) (G4 : Nat → Nat → EReal)
    (es4 : ∀ (a : Fin 248) (b : Fin 1024), xs4 (ix2 a b) = G4 a.val b.val) (G5 : Nat → Nat → EReal)
    (es5 : ∀ (a : Fin 8) (b : Fin 1024), xs5 (ix2 a b) = G5 a.val b.val)
    (a : Fin 40) (b : Fin 1024) :
    (out0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 xs0 xs3 xs4 xs5 : Vec Ideal S40x1024 .f32) (ix2 a b) = Cert.Tile.sgT (fun a l => G4 a l + ∑ j ∈ Finset.range 4, grpSum (Cert.Tile.follow (Cert.Tile.dyT X0 X1 X2 X5 X6) P) (Cert.Tile.precede hal X2 X3) j a l) (Cert.Tile.accT X0 X1 X2 X5 X6 G5) a.val b.val := by
  have h0 := fun a b => (congrFun (harg2.read_unread x0) (ix2 a b)).trans (e0 a b)
  have h1 := fun a b => (congrFun (harg3.read_unread x1) (ix2 a b)).trans (e1 a b)
  have h2 := fun a b => (congrFun (harg4.read_unread x2) (ix2 a b)).trans (e2 a b)
  have h3 := fun a b => (congrFun (harg5.read_unread x3) (ix2 a b)).trans (e3 a b)
  have h5 := fun p a b => (congrFun (harg7.read_unread x5) (ix3 p a b)).trans (e5 p a b)
  have h6 := fun p a b => (congrFun (harg8.read_unread x6) (ix3 p a b)).trans (e6 p a b)
  have hs0 := fun a b => (congrFun (harg11.read_unread xs0) (ix2 a b)).trans (es0 a b)
  have hs4 := fun a b => (congrFun (harg15.read_unread xs4) (ix2 a b)).trans (es4 a b)
  have hs5 := fun a b => (congrFun (harg16.read_unread xs5) (ix2 a b)).trans (es5 a b)
  have hb := dwBuf_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 X0 X1 X2 X5 X6 h0 h1 h2 h5 h6 P hs0 X3 h3 hal hv G4 hs4
  have hb : ∀ (a : Fin 248) (b : Fin 1024), _ = (fun a l => G4 a l + ∑ j ∈ Finset.range 4, grpSum (Cert.Tile.follow (Cert.Tile.dyT X0 X1 X2 X5 X6) P) (Cert.Tile.precede hal X2 X3) j a l) a.val b.val := hb
  generalize (fun a l => G4 a l + ∑ j ∈ Finset.range 4, grpSum (Cert.Tile.follow (Cert.Tile.dyT X0 X1 X2 X5 X6) P) (Cert.Tile.precede hal X2 X3) j a l) = A at hb ⊢
  obtain ⟨J, hJ⟩ := exFn (n := 8) (m := 1024) fun a b => (arg16.view.read (Elt Ideal) arg16.view.junk (ix2 a b) : EReal)
  have hv3 : ∀ (x : Fin 3) (y : Fin 1024), kernelRun0_C.sl.v335 (F := Ideal) c arg2 harg2 arg3 harg3 arg4 harg4 arg7 harg7 arg8 harg8 arg16 harg16 x0 x1 x2 x5 x6 xs5 (ix2 x y) = (fun a l => Cert.Tile.accT X0 X1 X2 X5 X6 G5 (a - 32) l) (32 + x.val) y.val := by
    intro x y
    unfold kernelRun0_C.sl.v335
    refine (read2 (W := fun a l => if a < 3 then Cert.Tile.accT X0 X1 X2 X5 X6 G5 a l else J a l) (sumBuf_C c arg2 harg2 arg3 harg3 arg4 harg4 arg7 harg7 arg8 harg8 x0 x1 x2 x5 x6 arg16 harg16 xs5 X0 X1 X2 X5 X6 h0 h1 h2 h5 h6 G5 hs5 arg16.view.junk J hJ) ![0, 0] inb_S8x1024_S3x1024_0_0 x y).trans ?_
    simp only [Matrix.cons_val_zero, Matrix.cons_val_one, Nat.zero_add, Nat.add_sub_cancel_left]
    rw [if_pos x.isLt]
  unfold out0_C_8 kernelRun0_C; dsimp only
  refine (boxOver (o := 32) (m := 3) (n0 := 40) (n1 := 1024) _ _ _ _ _ (fun a l => Cert.Tile.accT X0 X1 X2 X5 X6 G5 (a - 32) l) hv3 a b).trans ?_
  rw [readPieces2 (n0 := 40) (n1 := 1024) (e := .f32) (G := (fun a l => if a < 31 then ∑ s : Fin 8, A (8 * a + s.val) l else 0)) _ _ ?_ (View.cover_of_tiledBy _ ![1, 1024] (by sl_kernel_rfl)) a b]
  · exact sgEq A (Cert.Tile.accT X0 X1 X2 X5 X6 G5) a.val b.val
  refine ⟨piece2 _ (inb := inb_S40x1024_S8x1024_32_0) fun x y => ?_, piece2 _ (inb := inb_S40x1024_S1x1024_31_0) fun x y => ?_, piece2 _ (inb := inb_S40x1024_S1x1024_30_0) fun x y => ?_, piece2 _ (inb := inb_S40x1024_S1x1024_29_0) fun x y => ?_, piece2 _ (inb := inb_S40x1024_S1x1024_28_0) fun x y => ?_, piece2 _ (inb := inb_S40x1024_S1x1024_27_0) fun x y => ?_, piece2 _ (inb := inb_S40x1024_S1x1024_26_0) fun x y => ?_, piece2 _ (inb := inb_S40x1024_S1x1024_25_0) fun x y => ?_, piece2 _ (inb := inb_S40x1024_S1x1024_24_0) fun x y => ?_, piece2 _ (inb := inb_S40x1024_S1x1024_23_0) fun x y => ?_, piece2 _ (inb := inb_S40x1024_S1x1024_22_0) fun x y => ?_, piece2 _ (inb := inb_S40x1024_S1x1024_21_0) fun x y => ?_, piece2 _ (inb := inb_S40x1024_S1x1024_20_0) fun x y => ?_, piece2 _ (inb := inb_S40x1024_S1x1024_19_0) fun x y => ?_, piece2 _ (inb := inb_S40x1024_S1x1024_18_0) fun x y => ?_, piece2 _ (inb := inb_S40x1024_S1x1024_17_0) fun x y => ?_, piece2 _ (inb := inb_S40x1024_S1x1024_16_0) fun x y => ?_, piece2 _ (inb := inb_S40x1024_S1x1024_15_0) fun x y => ?_, piece2 _ (inb := inb_S40x1024_S1x1024_14_0) fun x y => ?_, piece2 _ (inb := inb_S40x1024_S1x1024_13_0) fun x y => ?_, piece2 _ (inb := inb_S40x1024_S1x1024_12_0) fun x y => ?_, piece2 _ (inb := inb_S40x1024_S1x1024_11_0) fun x y => ?_, piece2 _ (inb := inb_S40x1024_S1x1024_10_0) fun x y => ?_, piece2 _ (inb := inb_S40x1024_S1x1024_9_0) fun x y => ?_, piece2 _ (inb := inb_S40x1024_S1x1024_8_0) fun x y => ?_, piece2 _ (inb := inb_S40x1024_S1x1024_7_0) fun x y => ?_, piece2 _ (inb := inb_S40x1024_S1x1024_6_0) fun x y => ?_, piece2 _ (inb := inb_S40x1024_S1x1024_5_0) fun x y => ?_, piece2 _ (inb := inb_S40x1024_S1x1024_4_0) fun x y => ?_, piece2 _ (inb := inb_S40x1024_S1x1024_3_0) fun x y => ?_, piece2 _ (inb := inb_S40x1024_S1x1024_2_0) fun x y => ?_, piece2 _ (inb := inb_S40x1024_S1x1024_1_0) fun x y => ?_, piece2 _ (inb := inb_S40x1024_S1x1024_0_0) fun x y => ?_, trivial⟩
  · refine (payZero6 x y).trans ?_
    simp only [Matrix.cons_val_zero, Matrix.cons_val_one, Nat.zero_add]
    rw [if_neg (by omega)]
  · refine (payZero5 x y).trans ?_
    simp only [Matrix.cons_val_zero, Matrix.cons_val_one, Nat.zero_add]
    rw [if_neg (by omega)]
  · refine (paySum (kernelRun0_C.sl.v327 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4) x y).trans ?_
    refine sumRows A (fun s y => kernelRun0_C.sl.v327 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 (ix2 s y)) 240 30 (by omega) (by decide) (fun s y => ?_) x y
    unfold kernelRun0_C.sl.v327
    exact read2 (n0 := 248) (n1 := 1024) (e := .f32) (Val := Elt Ideal) (v := arg15.view) (W := A) hb ![240, 0] inb_S248x1024_S8x1024_240_0 s y
  · refine (paySum (kernelRun0_C.sl.v323 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4) x y).trans ?_
    refine sumRows A (fun s y => kernelRun0_C.sl.v323 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 (ix2 s y)) 232 29 (by omega) (by decide) (fun s y => ?_) x y
    unfold kernelRun0_C.sl.v323
    exact read2 (n0 := 248) (n1 := 1024) (e := .f32) (Val := Elt Ideal) (v := arg15.view) (W := A) hb ![232, 0] inb_S248x1024_S8x1024_232_0 s y
  · refine (paySum (kernelRun0_C.sl.v319 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4) x y).trans ?_
    refine sumRows A (fun s y => kernelRun0_C.sl.v319 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 (ix2 s y)) 224 28 (by omega) (by decide) (fun s y => ?_) x y
    unfold kernelRun0_C.sl.v319
    exact read2 (n0 := 248) (n1 := 1024) (e := .f32) (Val := Elt Ideal) (v := arg15.view) (W := A) hb ![224, 0] inb_S248x1024_S8x1024_224_0 s y
  · refine (paySum (kernelRun0_C.sl.v315 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4) x y).trans ?_
    refine sumRows A (fun s y => kernelRun0_C.sl.v315 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 (ix2 s y)) 216 27 (by omega) (by decide) (fun s y => ?_) x y
    unfold kernelRun0_C.sl.v315
    exact read2 (n0 := 248) (n1 := 1024) (e := .f32) (Val := Elt Ideal) (v := arg15.view) (W := A) hb ![216, 0] inb_S248x1024_S8x1024_216_0 s y
  · refine (paySum (kernelRun0_C.sl.v311 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4) x y).trans ?_
    refine sumRows A (fun s y => kernelRun0_C.sl.v311 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 (ix2 s y)) 208 26 (by omega) (by decide) (fun s y => ?_) x y
    unfold kernelRun0_C.sl.v311
    exact read2 (n0 := 248) (n1 := 1024) (e := .f32) (Val := Elt Ideal) (v := arg15.view) (W := A) hb ![208, 0] inb_S248x1024_S8x1024_208_0 s y
  · refine (paySum (kernelRun0_C.sl.v307 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4) x y).trans ?_
    refine sumRows A (fun s y => kernelRun0_C.sl.v307 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 (ix2 s y)) 200 25 (by omega) (by decide) (fun s y => ?_) x y
    unfold kernelRun0_C.sl.v307
    exact read2 (n0 := 248) (n1 := 1024) (e := .f32) (Val := Elt Ideal) (v := arg15.view) (W := A) hb ![200, 0] inb_S248x1024_S8x1024_200_0 s y
  · refine (paySum (kernelRun0_C.sl.v303 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4) x y).trans ?_
    refine sumRows A (fun s y => kernelRun0_C.sl.v303 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 (ix2 s y)) 192 24 (by omega) (by decide) (fun s y => ?_) x y
    unfold kernelRun0_C.sl.v303
    exact read2 (n0 := 248) (n1 := 1024) (e := .f32) (Val := Elt Ideal) (v := arg15.view) (W := A) hb ![192, 0] inb_S248x1024_S8x1024_192_0 s y
  · refine (paySum (kernelRun0_C.sl.v299 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4) x y).trans ?_
    refine sumRows A (fun s y => kernelRun0_C.sl.v299 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 (ix2 s y)) 184 23 (by omega) (by decide) (fun s y => ?_) x y
    unfold kernelRun0_C.sl.v299
    exact read2 (n0 := 248) (n1 := 1024) (e := .f32) (Val := Elt Ideal) (v := arg15.view) (W := A) hb ![184, 0] inb_S248x1024_S8x1024_184_0 s y
  · refine (paySum (kernelRun0_C.sl.v295 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4) x y).trans ?_
    refine sumRows A (fun s y => kernelRun0_C.sl.v295 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 (ix2 s y)) 176 22 (by omega) (by decide) (fun s y => ?_) x y
    unfold kernelRun0_C.sl.v295
    exact read2 (n0 := 248) (n1 := 1024) (e := .f32) (Val := Elt Ideal) (v := arg15.view) (W := A) hb ![176, 0] inb_S248x1024_S8x1024_176_0 s y
  · refine (paySum (kernelRun0_C.sl.v291 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4) x y).trans ?_
    refine sumRows A (fun s y => kernelRun0_C.sl.v291 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 (ix2 s y)) 168 21 (by omega) (by decide) (fun s y => ?_) x y
    unfold kernelRun0_C.sl.v291
    exact read2 (n0 := 248) (n1 := 1024) (e := .f32) (Val := Elt Ideal) (v := arg15.view) (W := A) hb ![168, 0] inb_S248x1024_S8x1024_168_0 s y
  · refine (paySum (kernelRun0_C.sl.v287 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4) x y).trans ?_
    refine sumRows A (fun s y => kernelRun0_C.sl.v287 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 (ix2 s y)) 160 20 (by omega) (by decide) (fun s y => ?_) x y
    unfold kernelRun0_C.sl.v287
    exact read2 (n0 := 248) (n1 := 1024) (e := .f32) (Val := Elt Ideal) (v := arg15.view) (W := A) hb ![160, 0] inb_S248x1024_S8x1024_160_0 s y
  · refine (paySum (kernelRun0_C.sl.v283 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4) x y).trans ?_
    refine sumRows A (fun s y => kernelRun0_C.sl.v283 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 (ix2 s y)) 152 19 (by omega) (by decide) (fun s y => ?_) x y
    unfold kernelRun0_C.sl.v283
    exact read2 (n0 := 248) (n1 := 1024) (e := .f32) (Val := Elt Ideal) (v := arg15.view) (W := A) hb ![152, 0] inb_S248x1024_S8x1024_152_0 s y
  · refine (paySum (kernelRun0_C.sl.v279 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4) x y).trans ?_
    refine sumRows A (fun s y => kernelRun0_C.sl.v279 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 (ix2 s y)) 144 18 (by omega) (by decide) (fun s y => ?_) x y
    unfold kernelRun0_C.sl.v279
    exact read2 (n0 := 248) (n1 := 1024) (e := .f32) (Val := Elt Ideal) (v := arg15.view) (W := A) hb ![144, 0] inb_S248x1024_S8x1024_144_0 s y
  · refine (paySum (kernelRun0_C.sl.v275 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4) x y).trans ?_
    refine sumRows A (fun s y => kernelRun0_C.sl.v275 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 (ix2 s y)) 136 17 (by omega) (by decide) (fun s y => ?_) x y
    unfold kernelRun0_C.sl.v275
    exact read2 (n0 := 248) (n1 := 1024) (e := .f32) (Val := Elt Ideal) (v := arg15.view) (W := A) hb ![136, 0] inb_S248x1024_S8x1024_136_0 s y
  · refine (paySum (kernelRun0_C.sl.v271 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4) x y).trans ?_
    refine sumRows A (fun s y => kernelRun0_C.sl.v271 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 (ix2 s y)) 128 16 (by omega) (by decide) (fun s y => ?_) x y
    unfold kernelRun0_C.sl.v271
    exact read2 (n0 := 248) (n1 := 1024) (e := .f32) (Val := Elt Ideal) (v := arg15.view) (W := A) hb ![128, 0] inb_S248x1024_S8x1024_128_0 s y
  · refine (paySum (kernelRun0_C.sl.v267 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4) x y).trans ?_
    refine sumRows A (fun s y => kernelRun0_C.sl.v267 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 (ix2 s y)) 120 15 (by omega) (by decide) (fun s y => ?_) x y
    unfold kernelRun0_C.sl.v267
    exact read2 (n0 := 248) (n1 := 1024) (e := .f32) (Val := Elt Ideal) (v := arg15.view) (W := A) hb ![120, 0] inb_S248x1024_S8x1024_120_0 s y
  · refine (paySum (kernelRun0_C.sl.v263 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4) x y).trans ?_
    refine sumRows A (fun s y => kernelRun0_C.sl.v263 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 (ix2 s y)) 112 14 (by omega) (by decide) (fun s y => ?_) x y
    unfold kernelRun0_C.sl.v263
    exact read2 (n0 := 248) (n1 := 1024) (e := .f32) (Val := Elt Ideal) (v := arg15.view) (W := A) hb ![112, 0] inb_S248x1024_S8x1024_112_0 s y
  · refine (paySum (kernelRun0_C.sl.v259 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4) x y).trans ?_
    refine sumRows A (fun s y => kernelRun0_C.sl.v259 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 (ix2 s y)) 104 13 (by omega) (by decide) (fun s y => ?_) x y
    unfold kernelRun0_C.sl.v259
    exact read2 (n0 := 248) (n1 := 1024) (e := .f32) (Val := Elt Ideal) (v := arg15.view) (W := A) hb ![104, 0] inb_S248x1024_S8x1024_104_0 s y
  · refine (paySum (kernelRun0_C.sl.v255 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4) x y).trans ?_
    refine sumRows A (fun s y => kernelRun0_C.sl.v255 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 (ix2 s y)) 96 12 (by omega) (by decide) (fun s y => ?_) x y
    unfold kernelRun0_C.sl.v255
    exact read2 (n0 := 248) (n1 := 1024) (e := .f32) (Val := Elt Ideal) (v := arg15.view) (W := A) hb ![96, 0] inb_S248x1024_S8x1024_96_0 s y
  · refine (paySum (kernelRun0_C.sl.v251 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4) x y).trans ?_
    refine sumRows A (fun s y => kernelRun0_C.sl.v251 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 (ix2 s y)) 88 11 (by omega) (by decide) (fun s y => ?_) x y
    unfold kernelRun0_C.sl.v251
    exact read2 (n0 := 248) (n1 := 1024) (e := .f32) (Val := Elt Ideal) (v := arg15.view) (W := A) hb ![88, 0] inb_S248x1024_S8x1024_88_0 s y
  · refine (paySum (kernelRun0_C.sl.v247 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4) x y).trans ?_
    refine sumRows A (fun s y => kernelRun0_C.sl.v247 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 (ix2 s y)) 80 10 (by omega) (by decide) (fun s y => ?_) x y
    unfold kernelRun0_C.sl.v247
    exact read2 (n0 := 248) (n1 := 1024) (e := .f32) (Val := Elt Ideal) (v := arg15.view) (W := A) hb ![80, 0] inb_S248x1024_S8x1024_80_0 s y
  · refine (paySum (kernelRun0_C.sl.v243 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4) x y).trans ?_
    refine sumRows A (fun s y => kernelRun0_C.sl.v243 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 (ix2 s y)) 72 9 (by omega) (by decide) (fun s y => ?_) x y
    unfold kernelRun0_C.sl.v243
    exact read2 (n0 := 248) (n1 := 1024) (e := .f32) (Val := Elt Ideal) (v := arg15.view) (W := A) hb ![72, 0] inb_S248x1024_S8x1024_72_0 s y
  · refine (paySum (kernelRun0_C.sl.v239 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4) x y).trans ?_
    refine sumRows A (fun s y => kernelRun0_C.sl.v239 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 (ix2 s y)) 64 8 (by omega) (by decide) (fun s y => ?_) x y
    unfold kernelRun0_C.sl.v239
    exact read2 (n0 := 248) (n1 := 1024) (e := .f32) (Val := Elt Ideal) (v := arg15.view) (W := A) hb ![64, 0] inb_S248x1024_S8x1024_64_0 s y
  · refine (paySum (kernelRun0_C.sl.v235 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4) x y).trans ?_
    refine sumRows A (fun s y => kernelRun0_C.sl.v235 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 (ix2 s y)) 56 7 (by omega) (by decide) (fun s y => ?_) x y
    unfold kernelRun0_C.sl.v235
    exact read2 (n0 := 248) (n1 := 1024) (e := .f32) (Val := Elt Ideal) (v := arg15.view) (W := A) hb ![56, 0] inb_S248x1024_S8x1024_56_0 s y
  · refine (paySum (kernelRun0_C.sl.v231 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4) x y).trans ?_
    refine sumRows A (fun s y => kernelRun0_C.sl.v231 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 (ix2 s y)) 48 6 (by omega) (by decide) (fun s y => ?_) x y
    unfold kernelRun0_C.sl.v231
    exact read2 (n0 := 248) (n1 := 1024) (e := .f32) (Val := Elt Ideal) (v := arg15.view) (W := A) hb ![48, 0] inb_S248x1024_S8x1024_48_0 s y
  · refine (paySum (kernelRun0_C.sl.v227 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4) x y).trans ?_
    refine sumRows A (fun s y => kernelRun0_C.sl.v227 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 (ix2 s y)) 40 5 (by omega) (by decide) (fun s y => ?_) x y
    unfold kernelRun0_C.sl.v227
    exact read2 (n0 := 248) (n1 := 1024) (e := .f32) (Val := Elt Ideal) (v := arg15.view) (W := A) hb ![40, 0] inb_S248x1024_S8x1024_40_0 s y
  · refine (paySum (kernelRun0_C.sl.v223 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4) x y).trans ?_
    refine sumRows A (fun s y => kernelRun0_C.sl.v223 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 (ix2 s y)) 32 4 (by omega) (by decide) (fun s y => ?_) x y
    unfold kernelRun0_C.sl.v223
    exact read2 (n0 := 248) (n1 := 1024) (e := .f32) (Val := Elt Ideal) (v := arg15.view) (W := A) hb ![32, 0] inb_S248x1024_S8x1024_32_0 s y
  · refine (paySum (kernelRun0_C.sl.v219 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4) x y).trans ?_
    refine sumRows A (fun s y => kernelRun0_C.sl.v219 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 (ix2 s y)) 24 3 (by omega) (by decide) (fun s y => ?_) x y
    unfold kernelRun0_C.sl.v219
    exact read2 (n0 := 248) (n1 := 1024) (e := .f32) (Val := Elt Ideal) (v := arg15.view) (W := A) hb ![24, 0] inb_S248x1024_S8x1024_24_0 s y
  · refine (paySum (kernelRun0_C.sl.v215 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4) x y).trans ?_
    refine sumRows A (fun s y => kernelRun0_C.sl.v215 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 (ix2 s y)) 16 2 (by omega) (by decide) (fun s y => ?_) x y
    unfold kernelRun0_C.sl.v215
    exact read2 (n0 := 248) (n1 := 1024) (e := .f32) (Val := Elt Ideal) (v := arg15.view) (W := A) hb ![16, 0] inb_S248x1024_S8x1024_16_0 s y
  · refine (paySum (kernelRun0_C.sl.v211 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4) x y).trans ?_
    refine sumRows A (fun s y => kernelRun0_C.sl.v211 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 (ix2 s y)) 8 1 (by omega) (by decide) (fun s y => ?_) x y
    unfold kernelRun0_C.sl.v211
    exact read2 (n0 := 248) (n1 := 1024) (e := .f32) (Val := Elt Ideal) (v := arg15.view) (W := A) hb ![8, 0] inb_S248x1024_S8x1024_8_0 s y
  · refine (paySum (kernelRun0_C.sl.v207 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4) x y).trans ?_
    refine sumRows A (fun s y => kernelRun0_C.sl.v207 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x5 x6 xs0 xs4 (ix2 s y)) 0 0 (by omega) (by decide) (fun s y => ?_) x y
    unfold kernelRun0_C.sl.v207
    exact read2 (n0 := 248) (n1 := 1024) (e := .f32) (Val := Elt Ideal) (v := arg15.view) (W := A) hb ![0, 0] inb_S248x1024_S8x1024_0_0 s y

end Cert.KernelIdeal.Gen
-- ==== Proof.Whole.lean ====
/-
The whole arrays' functions, and what one grid point's tile is of them.
-/
module

public import proofs.«01_k».proof.Proof.Tile
public import proofs.«01_k».proof.Proof.Dw

@[expose] public section

noncomputable section

namespace Cert.Whole

open Cert.Rows Cert.Tile Idealize.ShloMosaic

/-- The gradient at the convolution's output, zero past the last row. -/
def dyG (Y DA PR : Nat → Nat → EReal) (LG LB : Nat → EReal) (r l : Nat) : EReal :=
  if r < 4096 then dy (Y r) LG LB (DA r) (fun l => PR r (3072 + (2048 + l))) l else 0

/-- The gated input, its rows moved down by 32 and zeros above. -/
def uG (PR : Nat → Nat → EReal) (R l : Nat) : EReal := if R < 32 then 0 else glu (fun a b => PR a (3072 + b)) (R - 32) l

/-- The rows grid point `t` works on, of an array; of the projection only the columns from 3072 on; and the 32 rows before them. -/
def rowsAt (F : Nat → Nat → EReal) (t a b : Nat) : EReal := F (256 * (15 - t) + a) b
def colsAt (PR : Nat → Nat → EReal) (t a b : Nat) : EReal := PR (256 * (15 - t) + a) (3072 + b)
def preAt (PR : Nat → Nat → EReal) (t a b : Nat) : EReal := PR (32 * (8 * (15 - t) - 1) + a) (3072 + b)

/-- The tile's rows of the two, as the grid point holds them. -/
def dAt (Y DA PR : Nat → Nat → EReal) (LG LB : Nat → EReal) (t : Nat) : Nat → Nat → EReal := rowsAt (dyG Y DA PR LG LB) t
def uAt (PR : Nat → Nat → EReal) (t : Nat) : Nat → Nat → EReal := rowsAt (uG PR) t

/-- A norm parameter as the kernel's block of it. -/
def row1 (L : Nat → EReal) : Nat → Nat → Nat → EReal := fun _ _ b => L b

variable (Y DA PR : Nat → Nat → EReal) (LG LB : Nat → EReal)

/-- The tile's gradient is the array's. -/
theorem dyT_eq (t a l : Nat) (ht : t < 16) (ha : a < 256) :
    dyT (rowsAt DA t) (rowsAt Y t) (colsAt PR t) (row1 LG) (row1 LB) a l = dAt Y DA PR LG LB t a l := by
  unfold dAt rowsAt dyG
  rw [if_pos (by omega)]
  rfl

/-- A tile followed by what the grid point before left is the rows from its own on. -/
theorem follow_eq (t : Nat) (ht : t < 16) (h1 : 1 ≤ t) :
    follow (dyT (rowsAt DA t) (rowsAt Y t) (colsAt PR t) (row1 LG) (row1 LB)) (dAt Y DA PR LG LB (t - 1)) = dAt Y DA PR LG LB t := by
  funext a l
  unfold follow
  by_cases h : a < 256
  · rw [if_pos h]
    exact dyT_eq Y DA PR LG LB t a l ht h
  · rw [if_neg h]
    unfold dAt rowsAt
    rw [show 256 * (15 - (t - 1)) + (a - 256) = 256 * (15 - t) + a by omega]

/-- The first grid point's tile, the last rows, is followed by zeros. -/
theorem follow_eq_zero :
    follow (dyT (rowsAt DA 0) (rowsAt Y 0) (colsAt PR 0) (row1 LG) (row1 LB)) (fun _ _ => 0) = dAt Y DA PR LG LB 0 := by
  funext a l
  unfold follow
  by_cases h : a < 256
  · rw [if_pos h]
    exact dyT_eq Y DA PR LG LB 0 a l (by omega) h
  · rw [if_neg h]
    unfold dAt rowsAt dyG
    rw [if_neg (by omega)]

/-- The tile of the gated input after the 32 rows before it. -/
theorem precede_eq (t : Nat) (ht : t < 16) : precede (decide (t < 15)) (colsAt PR t) (preAt PR t) = uAt PR t := by
  funext a l
  unfold precede uAt rowsAt uG
  by_cases h : a < 32
  · rw [if_pos h]
    by_cases h15 : t < 15
    · rw [if_pos (by simpa using h15), if_neg (by omega)]
      unfold glu preAt
      rw [show 32 * (8 * (15 - t) - 1) + a = 256 * (15 - t) + a - 32 by omega]
    · rw [if_neg (by simpa using h15), if_pos (by omega)]
  · rw [if_neg h, if_neg (by omega)]
    unfold glu colsAt
    rw [show 256 * (15 - t) + (a - 32) = 256 * (15 - t) + a - 32 by omega]

/-- The weights' gradient, eight partial sums a tap, after grid point `n`. -/
def accD (n a l : Nat) : EReal :=
  ∑ t ∈ Finset.range (n + 1), ∑ j ∈ Finset.range 4, Cert.KernelIdeal.Gen.grpSum (dAt Y DA PR LG LB t) (uAt PR t) j a l

/-- The three rows of column sums after grid point `n`. -/
def accV : Nat → Nat → Nat → EReal
  | 0 => accT (rowsAt DA 0) (rowsAt Y 0) (colsAt PR 0) (row1 LG) (row1 LB) (fun _ _ => 0)
  | n + 1 => accT (rowsAt DA (n + 1)) (rowsAt Y (n + 1)) (colsAt PR (n + 1)) (row1 LG) (row1 LB) (accV n)

theorem accD_zero (a l : Nat) : accD Y DA PR LG LB 0 a l = 0 + ∑ j ∈ Finset.range 4, Cert.KernelIdeal.Gen.grpSum (dAt Y DA PR LG LB 0) (uAt PR 0) j a l := by
  unfold accD
  rw [Finset.sum_range_succ, Finset.sum_range_zero]

theorem accD_step (t a l : Nat) (h1 : 1 ≤ t) : accD Y DA PR LG LB t a l
    = accD Y DA PR LG LB (t - 1) a l + ∑ j ∈ Finset.range 4, Cert.KernelIdeal.Gen.grpSum (dAt Y DA PR LG LB t) (uAt PR t) j a l := by
  unfold accD
  rw [Finset.sum_range_succ, Nat.sub_add_cancel h1]

theorem accV_step (t : Nat) (h1 : 1 ≤ t) : accV Y DA PR LG LB t
    = accT (rowsAt DA t) (rowsAt Y t) (colsAt PR t) (row1 LG) (row1 LB) (accV Y DA PR LG LB (t - 1)) := by
  obtain ⟨n, rfl⟩ : ∃ n, t = n + 1 := ⟨t - 1, by omega⟩
  rfl

end Cert.Whole
-- ==== Proof.Blocks.lean ====
/-
The blocks the grid points work on, as rows of the arrays.
-/
module

public import proofs.«01_k».proof.Proof.Pieces
public import proofs.«01_k».proof.Proof.Tile
public import proofs.«01_k».proof.Proof.Gen.KernelIdeal.Value

@[expose] public section

set_option maxRecDepth 65536

noncomputable section

namespace Cert.KernelIdeal.Gen

open Idealize.ShloMosaic Idealize.ShloMosaic.TcCoe Idealize.ShloMosaic.Tactic

variable (m : (ℓ : Loc nD τ sig) → Buf (Elt Ideal) ℓ)

/-- Where each window's block lies at each grid point: point `t` works on row block `15 - t`. -/
theorem idx : ∀ t : Fin cfg0.N, win0_0.index t = ![15 - t.val, 0] ∧ win0_1.index t = ![15 - t.val, 0] ∧ win0_2.index t = ![15 - t.val, 1]
    ∧ win0_3.index t = ![8 * (15 - t.val) - 1, 1] ∧ win0_4.index t = ![0, 3, 0, 0] ∧ win0_5.index t = ![3, 0, 0] ∧ win0_6.index t = ![3, 0, 0]
    ∧ win0_7.index t = ![15 - t.val, 1] ∧ win0_8.index t = ![0, 0] :=
  (by decide +kernel : ∀ t : Fin grid0.N, _)

/-- The bit the kernel asks for: whether rows precede the block. -/
theorem halo : ∀ t : Fin cfg0.N, Scalar.cmpi .sgt (Scalar.subi 15#32 (BitVec.ofNat 32 (grid0.coords t 0).val)) 0#32 = BitVec.ofBool (decide (t.val < 15)) :=
  (by decide +kernel : ∀ t : Fin grid0.N, _)

/-- An array of two axes as a function of two numbers. -/
def fn2 {n0 n1 : Nat} (f : (⟨2, ![n0, n1]⟩ : Shape).Idx → EReal) (a b : Nat) : EReal :=
  if h : a < n0 ∧ b < n1 then f (ix2 ⟨a, h.1⟩ ⟨b, h.2⟩) else 0

/-- At indices within the array it is the array. -/
theorem fn2_of {n0 n1 : Nat} (f : (⟨2, ![n0, n1]⟩ : Shape).Idx → EReal) {a b : Nat} (ha : a < n0) (hb : b < n1) :
    fn2 f a b = f (ix2 ⟨a, ha⟩ ⟨b, hb⟩) := dif_pos ⟨ha, hb⟩

theorem block0 (c : Dev nD) (t : Fin cfg0.N) (a : Fin 256) (b : Fin 1024) :
    iblk m c 0 t (ix2 a b) = fn2 (n0 := 4096) (n1 := 1024) (V m c main_arg1) (256 * (15 - t.val) + a.val) b.val := by
  have ht : t.val < 16 := t.isLt
  rw [fn2_of _ (by omega) b.isLt]
  blk_ext [iblk, idx t]

theorem block1 (c : Dev nD) (t : Fin cfg0.N) (a : Fin 256) (b : Fin 1024) :
    iblk m c 1 t (ix2 a b) = fn2 (n0 := 4096) (n1 := 1024) (V m c main_v234) (256 * (15 - t.val) + a.val) b.val := by
  have ht : t.val < 16 := t.isLt
  rw [fn2_of _ (by omega) b.isLt]
  blk_ext [iblk, idx t]

theorem block2 (c : Dev nD) (t : Fin cfg0.N) (a : Fin 256) (b : Fin 3072) :
    X0_2 m c t (ix2 a b) = fn2 (n0 := 4096) (n1 := 8192) (V m c main_arg2) (256 * (15 - t.val) + a.val) (3072 + b.val) := by
  have ht : t.val < 16 := t.isLt
  rw [fn2_of _ (by omega) (by omega)]
  unfold X0_2 Pipeline.Window.fill
  rw [dif_pos (moved0_2 t _)]
  blk_ext [iblk, idx t]

theorem block3 (c : Dev nD) (t : Fin cfg0.N) (a : Fin 32) (b : Fin 3072) :
    X0_3 m c t (ix2 a b) = fn2 (n0 := 4096) (n1 := 8192) (V m c main_arg2) (32 * (8 * (15 - t.val) - 1) + a.val) (3072 + b.val) := by
  have ht : t.val < 16 := t.isLt
  rw [fn2_of _ (by omega) (by omega)]
  unfold X0_3 Pipeline.Window.fill
  rw [dif_pos (moved0_3 t _)]
  blk_ext [iblk, idx t]

theorem block4 (c : Dev nD) (t : Fin cfg0.N) (p : Fin 4) (z : Fin 1) (a : Fin 31) (b : Fin 256) :
    iblk m c 4 t (ix4 p z a b) = V m c main_v236 (ix4 p (3 : Fin 4) a b) := by
  blk_ext [iblk, idx t]

theorem block5 (c : Dev nD) (t : Fin cfg0.N) (p a : Fin 1) (b : Fin 1024) :
    iblk m c 5 t (ix3 p a b) = V m c main_v237 (ix3 (3 : Fin 4) (0 : Fin 1) b) := by
  blk_ext [iblk, idx t]

theorem block6 (c : Dev nD) (t : Fin cfg0.N) (p a : Fin 1) (b : Fin 1024) :
    iblk m c 6 t (ix3 p a b) = V m c main_v238 (ix3 (3 : Fin 4) (0 : Fin 1) b) := by
  blk_ext [iblk, idx t]

end Cert.KernelIdeal.Gen
-- ==== Proof.Sweep.lean ====
/-
What the kernel's buffers hold after every grid point, as functions of the whole arrays.
-/
module

public import proofs.«01_k».proof.Proof.PointA
public import proofs.«01_k».proof.Proof.PointB
public import proofs.«01_k».proof.Proof.PointC
public import proofs.«01_k».proof.Proof.Whole
public import proofs.«01_k».proof.Proof.Blocks

@[expose] public section

set_option maxRecDepth 65536
set_option maxHeartbeats 8000000

noncomputable section

namespace Cert.KernelIdeal.Gen

open Idealize.ShloMosaic Idealize.ShloMosaic.TcCoe Idealize.ShloMosaic.Tactic

variable (m : (ℓ : Loc nD τ sig) → Buf (Elt Ideal) ℓ) (c : Dev nD)

/-- The arrays the kernel works on, as functions of numbers: the convolution's output, the gradient, the projection, the weights, the norm's parameters. -/
def arrY : Nat → Nat → EReal := fn2 (n0 := 4096) (n1 := 1024) (V m c main_v234)
def arrDA : Nat → Nat → EReal := fn2 (n0 := 4096) (n1 := 1024) (V m c main_arg1)
def arrP : Nat → Nat → EReal := fn2 (n0 := 4096) (n1 := 8192) (V m c main_arg2)
def arrW (p a b : Nat) : EReal :=
  if h : p < 4 ∧ a < 31 ∧ b < 256 then (V m c main_v236 : Vec Ideal S4x4x31x256 .f32) (ix4 ⟨p, h.1⟩ (3 : Fin 4) ⟨a, h.2.1⟩ ⟨b, h.2.2⟩) else 0
def arrG (b : Nat) : EReal := if h : b < 1024 then (V m c main_v237 : Vec Ideal S4x1x1024 .f32) (ix3 (3 : Fin 4) (0 : Fin 1) ⟨b, h⟩) else 0
def arrB (b : Nat) : EReal := if h : b < 1024 then (V m c main_v238 : Vec Ideal S4x1x1024 .f32) (ix3 (3 : Fin 4) (0 : Fin 1) ⟨b, h⟩) else 0

/-- The weights as laid out for the taps. -/
def wide (a l : Nat) : EReal := arrW m c (l / 256) (30 - a / 8) (l % 256)

theorem row4 (t : Fin cfg0.N) (p : Fin 4) (z : Fin 1) (a : Fin 31) (b : Fin 256) : (iblk m c 4 t : Vec Ideal S4x1x31x256 .f32) (ix4 p z a b) = arrW m c p.val a.val b.val :=
  (block4 m c t p z a b).trans (by unfold arrW; rw [dif_pos (⟨p.isLt, a.isLt, b.isLt⟩ : p.val < 4 ∧ a.val < 31 ∧ b.val < 256)])

theorem row5 (t : Fin cfg0.N) (p a : Fin 1) (b : Fin 1024) : (iblk m c 5 t : Vec Ideal S1x1x1024 .f32) (ix3 p a b) = Whole.row1 (arrG m c) p.val a.val b.val :=
  (block5 m c t p a b).trans (by unfold Whole.row1 arrG; rw [dif_pos b.isLt])

theorem row6 (t : Fin cfg0.N) (p a : Fin 1) (b : Fin 1024) : (iblk m c 6 t : Vec Ideal S1x1x1024 .f32) (ix3 p a b) = Whole.row1 (arrB m c) p.val a.val b.val :=
  (block6 m c t p a b).trans (by unfold Whole.row1 arrB; rw [dif_pos b.isLt])

/-- What the carried buffers hold after grid point `n`. -/
structure Held (n : Nat) (hn : n < cfg0.N) : Prop where
  tile : ∀ (a : Fin 288) (b : Fin 1024), ((outsAt0 m c n hn).2.2.1 : Vec Ideal S288x1024 .f32) (ix2 a b) = Whole.dAt (arrY m c) (arrDA m c) (arrP m c) (arrG m c) (arrB m c) n a.val b.val
  taps : ∀ (a : Fin 248) (b : Fin 1024), ((outsAt0 m c n hn).2.2.2.1 : Vec Ideal S248x1024 .f32) (ix2 a b) = wide m c a.val b.val
  dw : ∀ (a : Fin 248) (b : Fin 1024), ((outsAt0 m c n hn).2.2.2.2.1 : Vec Ideal S248x1024 .f32) (ix2 a b) = Whole.accD (arrY m c) (arrDA m c) (arrP m c) (arrG m c) (arrB m c) n a.val b.val
  sums : ∀ (a : Fin 8) (b : Fin 1024), ((outsAt0 m c n hn).2.2.2.2.2 : Vec Ideal S8x1024 .f32) (ix2 a b) = Whole.accV (arrY m c) (arrDA m c) (arrP m c) (arrG m c) (arrB m c) n a.val b.val

/-- What grid point `t` writes of the projection's gradient. -/
def dpAt (t : Nat) : Nat → Nat → EReal :=
  Cert.Tile.dpT (tapSum (wide m c) (Whole.dAt (arrY m c) (arrDA m c) (arrP m c) (arrG m c) (arrB m c) t))
    (Cert.Tile.gateT (Whole.rowsAt (arrDA m c) t) (Whole.rowsAt (arrY m c) t) (Whole.colsAt (arrP m c) t) (Whole.row1 (arrG m c)) (Whole.row1 (arrB m c))) (Whole.colsAt (arrP m c) t)

theorem held_A (t : Fin cfg0.N) (h0 : t.val % 16 = 0) (h1 : ¬1 ≤ t.val) (h2 : ¬t.val % 16 = 15) : Held m c t.val t.isLt := by
  have ht : t.val < 16 := t.isLt
  have hz : t.val = 0 := by omega
  have hf : Cert.Tile.follow (Cert.Tile.dyT (Whole.rowsAt (arrDA m c) t.val) (Whole.rowsAt (arrY m c) t.val) (Whole.colsAt (arrP m c) t.val) (Whole.row1 (arrG m c)) (Whole.row1 (arrB m c))) (fun _ _ => 0) = Whole.dAt (arrY m c) (arrDA m c) (arrP m c) (arrG m c) (arrB m c) t.val := by rw [hz]; exact Whole.follow_eq_zero (arrY m c) (arrDA m c) (arrP m c) (arrG m c) (arrB m c)
  have hu := Whole.precede_eq (arrP m c) t.val ht
  refine ⟨fun a b => ?_, fun a b => ?_, fun a b => ?_, fun a b => ?_⟩ <;> rw [outsAt0_A m c t h0 h1 h2] <;> dsimp only
  · refine (tileAt_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (fun h => h2 ((hcond0_2 t).mp h)) (iblk m c 0 t) (iblk m c 1 t) (X0_2 m c t) (X0_3 m c t) (iblk m c 4 t) (iblk m c 5 t) (iblk m c 6 t) (Whole.rowsAt (arrDA m c) t.val) (Whole.rowsAt (arrY m c) t.val) (Whole.colsAt (arrP m c) t.val) (Whole.row1 (arrG m c)) (Whole.row1 (arrB m c)) (block0 m c t) (block1 m c t) (block2 m c t) (row5 m c t) (row6 m c t) a b).trans ?_
    rw [hf]
  · exact wAt_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (fun h => h2 ((hcond0_2 t).mp h)) (iblk m c 0 t) (iblk m c 1 t) (X0_2 m c t) (X0_3 m c t) (iblk m c 4 t) (iblk m c 5 t) (iblk m c 6 t) (arrW m c) (row4 m c t) a b
  · refine (dwAt_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (fun h => h2 ((hcond0_2 t).mp h)) (iblk m c 0 t) (iblk m c 1 t) (X0_2 m c t) (X0_3 m c t) (iblk m c 4 t) (iblk m c 5 t) (iblk m c 6 t) (Whole.rowsAt (arrDA m c) t.val) (Whole.rowsAt (arrY m c) t.val) (Whole.colsAt (arrP m c) t.val) (Whole.row1 (arrG m c)) (Whole.row1 (arrB m c)) (block0 m c t) (block1 m c t) (block2 m c t) (row5 m c t) (row6 m c t) (Whole.preAt (arrP m c) t.val) (block3 m c t) (decide (t.val < 15)) (halo t) a b).trans ?_
    rw [hf, hu]
    rw [hz]
    exact (Whole.accD_zero (arrY m c) (arrDA m c) (arrP m c) (arrG m c) (arrB m c) a.val b.val).symm
  · refine (sumAt_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (fun h => h2 ((hcond0_2 t).mp h)) (iblk m c 0 t) (iblk m c 1 t) (X0_2 m c t) (X0_3 m c t) (iblk m c 4 t) (iblk m c 5 t) (iblk m c 6 t) (Whole.rowsAt (arrDA m c) t.val) (Whole.rowsAt (arrY m c) t.val) (Whole.colsAt (arrP m c) t.val) (Whole.row1 (arrG m c)) (Whole.row1 (arrB m c)) (block0 m c t) (block1 m c t) (block2 m c t) (row5 m c t) (row6 m c t) a b).trans ?_
    rw [hz]
    rfl

theorem wrote_A (t : Fin cfg0.N) (h0 : t.val % 16 = 0) (h1 : ¬1 ≤ t.val) (h2 : ¬t.val % 16 = 15) (a : Fin 256) (b : Fin 3072) :
    ((outsAt0 m c t.val t.isLt).1 : Vec Ideal S256x3072 .bf16) (ix2 a b) = dpAt m c t.val a.val b.val := by
  have ht : t.val < 16 := t.isLt
  have hz : t.val = 0 := by omega
  have hf : Cert.Tile.follow (Cert.Tile.dyT (Whole.rowsAt (arrDA m c) t.val) (Whole.rowsAt (arrY m c) t.val) (Whole.colsAt (arrP m c) t.val) (Whole.row1 (arrG m c)) (Whole.row1 (arrB m c))) (fun _ _ => 0) = Whole.dAt (arrY m c) (arrDA m c) (arrP m c) (arrG m c) (arrB m c) t.val := by rw [hz]; exact Whole.follow_eq_zero (arrY m c) (arrDA m c) (arrP m c) (arrG m c) (arrB m c)
  rw [outsAt0_A m c t h0 h1 h2]
  dsimp only
  refine (dpAt_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (fun h => h2 ((hcond0_2 t).mp h)) (iblk m c 0 t) (iblk m c 1 t) (X0_2 m c t) (X0_3 m c t) (iblk m c 4 t) (iblk m c 5 t) (iblk m c 6 t) (Whole.rowsAt (arrDA m c) t.val) (Whole.rowsAt (arrY m c) t.val) (Whole.colsAt (arrP m c) t.val) (Whole.row1 (arrG m c)) (Whole.row1 (arrB m c)) (block0 m c t) (block1 m c t) (block2 m c t) (row5 m c t) (row6 m c t) (arrW m c) (row4 m c t) a b).trans ?_
  rw [hf]
  rfl

theorem held_B (t : Fin cfg0.N) (h0 : ¬t.val % 16 = 0) (h1 : 1 ≤ t.val) (h2 : ¬t.val % 16 = 15) (hp : Held m c (t.val - 1) (Nat.lt_of_le_of_lt (Nat.sub_le _ _) t.isLt)) : Held m c t.val t.isLt := by
  have ht : t.val < 16 := t.isLt
  have hf := Whole.follow_eq (arrY m c) (arrDA m c) (arrP m c) (arrG m c) (arrB m c) t.val ht h1
  have hu := Whole.precede_eq (arrP m c) t.val ht
  refine ⟨fun a b => ?_, fun a b => ?_, fun a b => ?_, fun a b => ?_⟩ <;> rw [outsAt0_B m c t h0 h1 h2] <;> dsimp only
  · refine (tileAt_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (fun h => h2 ((hcond0_2 t).mp h)) (iblk m c 0 t) (iblk m c 1 t) (X0_2 m c t) (X0_3 m c t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (Whole.rowsAt (arrDA m c) t.val) (Whole.rowsAt (arrY m c) t.val) (Whole.colsAt (arrP m c) t.val) (Whole.row1 (arrG m c)) (Whole.row1 (arrB m c)) (block0 m c t) (block1 m c t) (block2 m c t) (row5 m c t) (row6 m c t) (Whole.dAt (arrY m c) (arrDA m c) (arrP m c) (arrG m c) (arrB m c) (t.val - 1)) hp.tile a b).trans ?_
    rw [hf]
  · unfold sout0_B_3
    exact hp.taps a b
  · refine (dwAt_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (fun h => h2 ((hcond0_2 t).mp h)) (iblk m c 0 t) (iblk m c 1 t) (X0_2 m c t) (X0_3 m c t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (Whole.rowsAt (arrDA m c) t.val) (Whole.rowsAt (arrY m c) t.val) (Whole.colsAt (arrP m c) t.val) (Whole.row1 (arrG m c)) (Whole.row1 (arrB m c)) (block0 m c t) (block1 m c t) (block2 m c t) (row5 m c t) (row6 m c t) (Whole.dAt (arrY m c) (arrDA m c) (arrP m c) (arrG m c) (arrB m c) (t.val - 1)) hp.tile (Whole.preAt (arrP m c) t.val) (block3 m c t) (decide (t.val < 15)) (halo t) (Whole.accD (arrY m c) (arrDA m c) (arrP m c) (arrG m c) (arrB m c) (t.val - 1)) hp.dw a b).trans ?_
    rw [hf, hu]
    exact (Whole.accD_step (arrY m c) (arrDA m c) (arrP m c) (arrG m c) (arrB m c) t.val a.val b.val h1).symm
  · refine (sumAt_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (fun h => h2 ((hcond0_2 t).mp h)) (iblk m c 0 t) (iblk m c 1 t) (X0_2 m c t) (X0_3 m c t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (Whole.rowsAt (arrDA m c) t.val) (Whole.rowsAt (arrY m c) t.val) (Whole.colsAt (arrP m c) t.val) (Whole.row1 (arrG m c)) (Whole.row1 (arrB m c)) (block0 m c t) (block1 m c t) (block2 m c t) (row5 m c t) (row6 m c t) (Whole.accV (arrY m c) (arrDA m c) (arrP m c) (arrG m c) (arrB m c) (t.val - 1)) hp.sums a b).trans ?_
    rw [Whole.accV_step (arrY m c) (arrDA m c) (arrP m c) (arrG m c) (arrB m c) t.val h1]

theorem wrote_B (t : Fin cfg0.N) (h0 : ¬t.val % 16 = 0) (h1 : 1 ≤ t.val) (h2 : ¬t.val % 16 = 15) (hp : Held m c (t.val - 1) (Nat.lt_of_le_of_lt (Nat.sub_le _ _) t.isLt)) (a : Fin 256) (b : Fin 3072) :
    ((outsAt0 m c t.val t.isLt).1 : Vec Ideal S256x3072 .bf16) (ix2 a b) = dpAt m c t.val a.val b.val := by
  have ht : t.val < 16 := t.isLt
  have hf := Whole.follow_eq (arrY m c) (arrDA m c) (arrP m c) (arrG m c) (arrB m c) t.val ht h1
  rw [outsAt0_B m c t h0 h1 h2]
  dsimp only
  refine (dpAt_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (fun h => h2 ((hcond0_2 t).mp h)) (iblk m c 0 t) (iblk m c 1 t) (X0_2 m c t) (X0_3 m c t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (Whole.rowsAt (arrDA m c) t.val) (Whole.rowsAt (arrY m c) t.val) (Whole.colsAt (arrP m c) t.val) (Whole.row1 (arrG m c)) (Whole.row1 (arrB m c)) (block0 m c t) (block1 m c t) (block2 m c t) (row5 m c t) (row6 m c t) (Whole.dAt (arrY m c) (arrDA m c) (arrP m c) (arrG m c) (arrB m c) (t.val - 1)) hp.tile (wide m c) hp.taps a b).trans ?_
  rw [hf]
  rfl

theorem held_C (t : Fin cfg0.N) (h0 : ¬t.val % 16 = 0) (h1 : 1 ≤ t.val) (h2 : t.val % 16 = 15) (hp : Held m c (t.val - 1) (Nat.lt_of_le_of_lt (Nat.sub_le _ _) t.isLt)) : Held m c t.val t.isLt := by
  have ht : t.val < 16 := t.isLt
  have hf := Whole.follow_eq (arrY m c) (arrDA m c) (arrP m c) (arrG m c) (arrB m c) t.val ht h1
  have hu := Whole.precede_eq (arrP m c) t.val ht
  refine ⟨fun a b => ?_, fun a b => ?_, fun a b => ?_, fun a b => ?_⟩ <;> rw [outsAt0_C m c t h0 h1 h2] <;> dsimp only
  · refine (tileAt_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) ((hcond0_2 t).mpr h2) (iblk m c 0 t) (iblk m c 1 t) (X0_2 m c t) (X0_3 m c t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (Whole.rowsAt (arrDA m c) t.val) (Whole.rowsAt (arrY m c) t.val) (Whole.colsAt (arrP m c) t.val) (Whole.row1 (arrG m c)) (Whole.row1 (arrB m c)) (block0 m c t) (block1 m c t) (block2 m c t) (row5 m c t) (row6 m c t) (Whole.dAt (arrY m c) (arrDA m c) (arrP m c) (arrG m c) (arrB m c) (t.val - 1)) hp.tile a b).trans ?_
    rw [hf]
  · unfold sout0_C_3
    exact hp.taps a b
  · refine (dwAt_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) ((hcond0_2 t).mpr h2) (iblk m c 0 t) (iblk m c 1 t) (X0_2 m c t) (X0_3 m c t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (Whole.rowsAt (arrDA m c) t.val) (Whole.rowsAt (arrY m c) t.val) (Whole.colsAt (arrP m c) t.val) (Whole.row1 (arrG m c)) (Whole.row1 (arrB m c)) (block0 m c t) (block1 m c t) (block2 m c t) (row5 m c t) (row6 m c t) (Whole.dAt (arrY m c) (arrDA m c) (arrP m c) (arrG m c) (arrB m c) (t.val - 1)) hp.tile (Whole.preAt (arrP m c) t.val) (block3 m c t) (decide (t.val < 15)) (halo t) (Whole.accD (arrY m c) (arrDA m c) (arrP m c) (arrG m c) (arrB m c) (t.val - 1)) hp.dw a b).trans ?_
    rw [hf, hu]
    exact (Whole.accD_step (arrY m c) (arrDA m c) (arrP m c) (arrG m c) (arrB m c) t.val a.val b.val h1).symm
  · refine (sumAt_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) ((hcond0_2 t).mpr h2) (iblk m c 0 t) (iblk m c 1 t) (X0_2 m c t) (X0_3 m c t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (Whole.rowsAt (arrDA m c) t.val) (Whole.rowsAt (arrY m c) t.val) (Whole.colsAt (arrP m c) t.val) (Whole.row1 (arrG m c)) (Whole.row1 (arrB m c)) (block0 m c t) (block1 m c t) (block2 m c t) (row5 m c t) (row6 m c t) (Whole.accV (arrY m c) (arrDA m c) (arrP m c) (arrG m c) (arrB m c) (t.val - 1)) hp.sums a b).trans ?_
    rw [Whole.accV_step (arrY m c) (arrDA m c) (arrP m c) (arrG m c) (arrB m c) t.val h1]

theorem wrote_C (t : Fin cfg0.N) (h0 : ¬t.val % 16 = 0) (h1 : 1 ≤ t.val) (h2 : t.val % 16 = 15) (hp : Held m c (t.val - 1) (Nat.lt_of_le_of_lt (Nat.sub_le _ _) t.isLt)) (a : Fin 256) (b : Fin 3072) :
    ((outsAt0 m c t.val t.isLt).1 : Vec Ideal S256x3072 .bf16) (ix2 a b) = dpAt m c t.val a.val b.val := by
  have ht : t.val < 16 := t.isLt
  have hf := Whole.follow_eq (arrY m c) (arrDA m c) (arrP m c) (arrG m c) (arrB m c) t.val ht h1
  rw [outsAt0_C m c t h0 h1 h2]
  dsimp only
  refine (dpAt_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) ((hcond0_2 t).mpr h2) (iblk m c 0 t) (iblk m c 1 t) (X0_2 m c t) (X0_3 m c t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (Whole.rowsAt (arrDA m c) t.val) (Whole.rowsAt (arrY m c) t.val) (Whole.colsAt (arrP m c) t.val) (Whole.row1 (arrG m c)) (Whole.row1 (arrB m c)) (block0 m c t) (block1 m c t) (block2 m c t) (row5 m c t) (row6 m c t) (Whole.dAt (arrY m c) (arrDA m c) (arrP m c) (arrG m c) (arrB m c) (t.val - 1)) hp.tile (wide m c) hp.taps a b).trans ?_
  rw [hf]
  rfl

theorem handed_C (t : Fin cfg0.N) (h0 : ¬t.val % 16 = 0) (h1 : 1 ≤ t.val) (h2 : t.val % 16 = 15) (hp : Held m c (t.val - 1) (Nat.lt_of_le_of_lt (Nat.sub_le _ _) t.isLt)) (a : Fin 40) (b : Fin 1024) :
    ((outsAt0 m c t.val t.isLt).2.1 : Vec Ideal S40x1024 .f32) (ix2 a b)
      = Cert.Tile.sgT (Whole.accD (arrY m c) (arrDA m c) (arrP m c) (arrG m c) (arrB m c) t.val) (Whole.accV (arrY m c) (arrDA m c) (arrP m c) (arrG m c) (arrB m c) t.val) a.val b.val := by
  have ht : t.val < 16 := t.isLt
  have hf := Whole.follow_eq (arrY m c) (arrDA m c) (arrP m c) (arrG m c) (arrB m c) t.val ht h1
  have hu := Whole.precede_eq (arrP m c) t.val ht
  rw [outsAt0_C m c t h0 h1 h2]
  dsimp only
  refine (sgAt_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) ((hcond0_2 t).mpr h2) (iblk m c 0 t) (iblk m c 1 t) (X0_2 m c t) (X0_3 m c t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (Whole.rowsAt (arrDA m c) t.val) (Whole.rowsAt (arrY m c) t.val) (Whole.colsAt (arrP m c) t.val) (Whole.row1 (arrG m c)) (Whole.row1 (arrB m c)) (block0 m c t) (block1 m c t) (block2 m c t) (row5 m c t) (row6 m c t) (Whole.dAt (arrY m c) (arrDA m c) (arrP m c) (arrG m c) (arrB m c) (t.val - 1)) hp.tile (Whole.preAt (arrP m c) t.val) (block3 m c t) (decide (t.val < 15)) (halo t) (Whole.accD (arrY m c) (arrDA m c) (arrP m c) (arrG m c) (arrB m c) (t.val - 1)) hp.dw (Whole.accV (arrY m c) (arrDA m c) (arrP m c) (arrG m c) (arrB m c) (t.val - 1)) hp.sums a b).trans ?_
  rw [hf, hu, Whole.accV_step (arrY m c) (arrDA m c) (arrP m c) (arrG m c) (arrB m c) t.val h1]
  exact congrArg (fun A => Cert.Tile.sgT A _ a.val b.val) (funext fun p => funext fun q => (Whole.accD_step (arrY m c) (arrDA m c) (arrP m c) (arrG m c) (arrB m c) t.val p q h1).symm)

/-- The buffers after every grid point. -/
theorem held : ∀ (n : Nat) (hn : n < cfg0.N), Held m c n hn := by
  intro n
  induction n with
  | zero => exact fun hn => held_A m c ⟨0, hn⟩ (by simp) (by simp) (by simp)
  | succ n ih =>
    intro hn
    have hN : n + 1 < 16 := hn
    by_cases h2 : (n + 1) % 16 = 15
    · exact held_C m c ⟨n + 1, hn⟩ (by dsimp only; omega) (by dsimp only; omega) h2 (ih _)
    · exact held_B m c ⟨n + 1, hn⟩ (by dsimp only; omega) (by dsimp only; omega) h2 (ih _)

/-- What every grid point writes of the projection's gradient. -/
theorem wrote (t : Fin cfg0.N) (a : Fin 256) (b : Fin 3072) :
    ((outsAt0 m c t.val t.isLt).1 : Vec Ideal S256x3072 .bf16) (ix2 a b) = dpAt m c t.val a.val b.val := by
  have hN : t.val < 16 := t.isLt
  by_cases h1 : 1 ≤ t.val
  · by_cases h2 : t.val % 16 = 15
    · exact wrote_C m c t (by omega) h1 h2 (held m c _ _) a b
    · exact wrote_B m c t (by omega) h1 h2 (held m c _ _) a b
  · exact wrote_A m c t (by omega) h1 (by omega) a b

/-- What the last grid point hands on. -/
theorem handed (t : Fin cfg0.N) (h : t.val = 15) (a : Fin 40) (b : Fin 1024) :
    ((outsAt0 m c t.val t.isLt).2.1 : Vec Ideal S40x1024 .f32) (ix2 a b)
      = Cert.Tile.sgT (Whole.accD (arrY m c) (arrDA m c) (arrP m c) (arrG m c) (arrB m c) 15) (Whole.accV (arrY m c) (arrDA m c) (arrP m c) (arrG m c) (arrB m c) 15) a.val b.val := by
  rw [handed_C m c t (by omega) (by omega) (by omega) (held m c _ _) a b, h]

end Cert.KernelIdeal.Gen
-- ==== Proof.RefRows.lean ====
/-
The reference's intermediate arrays, row by row: the layer norm, the gates and their gradients.
-/
module

public import proofs.«01_k».proof.Proof.Blocks
public import proofs.«01_k».proof.Proof.Whole
public import proofs.«01_k».proof.Proof.Gen.ReferenceIdeal.Run

@[expose] public section

set_option maxRecDepth 65536
set_option maxHeartbeats 8000000

noncomputable section

namespace Cert.ReferenceIdeal.Value

open Cert.KernelIdeal.Gen (fn2 fn2_of)
open Cert.Rows
open Idealize.ShloMosaic Idealize.ShloMosaic.TcCoe Idealize.ShloMosaic.Tactic

variable (V0 : Valuation τ sig (Elt Ideal))

/-- The arrays the gradient is computed of, as functions of numbers: the convolution's output, the gradient, the projection, the norm's parameters. -/
def rY : Nat → Nat → EReal := fn2 (n0 := 4096) (n1 := 1024) (res_main_v243 V0)
def rDA : Nat → Nat → EReal := fn2 (n0 := 4096) (n1 := 1024) (V0 (Proc.devRef .tc main_arg1))
def rP : Nat → Nat → EReal := fn2 (n0 := 4096) (n1 := 8192) (V0 (Proc.devRef .tc main_arg2))
def rG : Nat → EReal := fn2 (n0 := 4) (n1 := 1024) (V0 (Proc.devRef .tc main_arg5)) 3
def rB : Nat → EReal := fn2 (n0 := 4) (n1 := 1024) (V0 (Proc.devRef .tc main_arg6)) 3
/-- The output gate's columns. -/
def rC (r l : Nat) : EReal := rP V0 r (5120 + l)

theorem rY_at (a : Fin 4096) (b : Fin 1024) : res_main_v243 V0 (ix2 a b) = rY V0 a.val b.val := (fn2_of _ a.isLt b.isLt).symm
theorem rDA_at (a : Fin 4096) (b : Fin 1024) : V0 (Proc.devRef .tc main_arg1) (ix2 a b) = rDA V0 a.val b.val := (fn2_of _ a.isLt b.isLt).symm
theorem rP_at (a : Fin 4096) (b : Fin 8192) : V0 (Proc.devRef .tc main_arg2) (ix2 a b) = rP V0 a.val b.val := (fn2_of _ a.isLt b.isLt).symm
theorem rG_at (b : Fin 1024) : V0 (Proc.devRef .tc main_arg5) (ix2 3 b) = rG V0 b.val := (fn2_of _ (by decide) b.isLt).symm
theorem rB_at (b : Fin 1024) : V0 (Proc.devRef .tc main_arg6) (ix2 3 b) = rB V0 b.val := (fn2_of _ (by decide) b.isLt).symm

theorem at1 (a : Fin 4096) (b : Fin 1024) : res_main_v1 V0 (ix2 a b) = rP V0 a.val (3072 + b.val) := by
  unfold res_main_v1 res_main_v0; pointwise
  exact rP_at V0 a ⟨3072 + b.val, _⟩

theorem at3 (a : Fin 4096) (b : Fin 1024) : res_main_v3 V0 (ix2 a b) = rC V0 a.val b.val := by
  unfold res_main_v3 res_main_v0; pointwise
  exact rP_at V0 a ⟨5120 + b.val, _⟩

theorem at17 (a : Fin 4096) (b : Fin 1024) : res_main_v17 V0 (ix2 a b) = Ideal.logistic (rP V0 a.val (4096 + b.val)) := by
  unfold res_main_v17 res_main_v0; pointwise
  exact congrArg Ideal.logistic (rP_at V0 a ⟨4096 + b.val, _⟩)

/-- The gated input, its rows moved down by 30 and zeros above. -/
def rU (R l : Nat) : EReal := if R < 30 then 0 else rP V0 (R - 30) (3072 + l) * Ideal.logistic (rP V0 (R - 30) (4096 + l))

theorem at23 (a : Fin 4126) (b : Fin 1024) : res_main_v23 V0 (ix2 a b) = rU V0 a.val b.val := by
  unfold res_main_v23 rU; pointwise
  by_cases h : a.val < 30
  · rw [dif_pos h, if_pos h]
  · rw [dif_neg h, if_neg h]
    exact congrArg₂ (· * ·) (at1 V0 ⟨a.val - 30, by omega⟩ b) (at17 V0 ⟨a.val - 30, by omega⟩ b)

theorem at249 (a : Fin 4096) (b : Fin 1024) : res_main_v249 V0 (ix2 a b) = dev (rY V0 a.val) b.val := by
  unfold res_main_v249; pointwise
  simp only [rY_at]
  rfl

theorem at258 (a : Fin 4096) (b : Fin 1) : res_main_v258 V0 (ix2 a b) = vare (rY V0 a.val) := by
  unfold res_main_v258; pointwise
  simp only [at249]
  rfl

theorem at259 (a : Fin 4096) (b : Fin 1) : res_main_v259 V0 (ix2 a b) = Ideal.rsqrt (vare (rY V0 a.val)) := by
  unfold res_main_v259; pointwise
  simp only [at258]

theorem at264 (a : Fin 4096) (b : Fin 1024) : res_main_v264 V0 (ix2 a b) = nrm (rY V0 a.val) b.val := by
  unfold res_main_v264; pointwise
  simp only [at249, at259]
  rfl

theorem at265 (a : Fin 1) (b : Fin 1024) : res_main_v265 V0 (ix2 a b) = rG V0 b.val := by
  unfold res_main_v265; pointwise
  exact rG_at V0 b

theorem at270 (a : Fin 4096) (b : Fin 1024) : res_main_v270 V0 (ix2 a b) = ln (rY V0 a.val) (rG V0) (rB V0) b.val := by
  unfold res_main_v270; pointwise
  simp only [at264, at265, rB_at]
  rfl

theorem at271 (a : Fin 4096) (b : Fin 1024) : res_main_v271_2 V0 (ix2 a b) = Ideal.logistic (ln (rY V0 a.val) (rG V0) (rB V0) b.val) := by
  unfold res_main_v271_2; pointwise
  simp only [at270]
  rfl

theorem at272 (a : Fin 4096) (b : Fin 1024) : res_main_v272_2 V0 (ix2 a b) = Ideal.logistic (rC V0 a.val b.val) := by
  unfold res_main_v272_2; pointwise
  simp only [at3]
  rfl

theorem at275 (a : Fin 4096) (b : Fin 1024) : res_main_v275 V0 (ix2 a b)
    = ln (rY V0 a.val) (rG V0) (rB V0) b.val * Ideal.logistic (ln (rY V0 a.val) (rG V0) (rB V0) b.val) * rDA V0 a.val b.val := by
  unfold res_main_v275 res_main_v271_0 res_main_v274; pointwise
  simp only [at270, at271, rDA_at]

theorem at276 (a : Fin 4096) (b : Fin 1024) : res_main_v276 V0 (ix2 a b) = gated (rDA V0 a.val) (rC V0 a.val) b.val := by
  unfold res_main_v276 res_main_v274 res_main_v272_0; pointwise
  simp only [at3, at272, rDA_at]
  rfl

theorem at278 (a : Fin 4096) (b : Fin 1024) : res_main_v278 V0 (ix2 a b) = dln (rY V0 a.val) (rG V0) (rB V0) (rDA V0 a.val) (rC V0 a.val) b.val := by
  unfold res_main_v278; pointwise
  simp only [at270, at271, at276]
  rfl

theorem at286 (a : Fin 4096) (b : Fin 1024) : res_main_v286 V0 (ix2 a b)
    = dln (rY V0 a.val) (rG V0) (rB V0) (rDA V0 a.val) (rC V0 a.val) b.val * rG V0 b.val := by
  unfold res_main_v286; pointwise
  simp only [at278, at265]

/-- Twice a value is the value added to itself. -/
theorem twice (x : EReal) : Ideal.ofBits .f32 0x40000000#32 * x = x + x := by
  have h : Ideal.ofBits .f32 0x40000000#32 = ((2 : ℝ) : EReal) := by
    simp [Ideal.ofBits, Ideal.ieee, -EReal.coe_mul]; norm_num
  rw [h]
  induction x with
  | bot => rw [EReal.coe_mul_bot_of_pos (by norm_num)]; rfl
  | coe r => rw [← EReal.coe_mul, ← EReal.coe_add, two_mul]
  | top => rw [EReal.coe_mul_top_of_pos (by norm_num)]; rfl

theorem at299 (a : Fin 4096) (b : Fin 1024) : res_main_v299 V0 (ix2 a b) = ddev (rY V0 a.val) (rG V0) (rB V0) (rDA V0 a.val) (rC V0 a.val) b.val := by
  unfold res_main_v299; pointwise
  simp only [at286, at259, at258, at249, Fin.sum_univ_one]
  rw [mul_left_comm, twice]
  unfold ddev
  rw [add_assoc]
  refine congrArg₂ (· + ·) rfl (congrArg₂ (· + ·) (mul_comm _ _) rfl)

theorem at307 (a : Fin 4096) (b : Fin 1024) : res_main_v307 V0 (ix2 a b) = dy (rY V0 a.val) (rG V0) (rB V0) (rDA V0 a.val) (rC V0 a.val) b.val := by
  unfold res_main_v307; pointwise
  simp only [at299, Fin.sum_univ_one]
  rfl

end Cert.ReferenceIdeal.Value
-- ==== Proof.RefTaps.lean ====
/-
The reference's weights and shifted rows, one pair for every tap.
-/
module

public import proofs.«01_k».proof.Proof.RefRows

@[expose] public section

set_option maxRecDepth 65536
set_option maxHeartbeats 8000000

noncomputable section

namespace Cert.ReferenceIdeal.Value

open Cert.KernelIdeal.Gen (fn2 fn2_of)
open Cert.Rows
open Idealize.ShloMosaic Idealize.ShloMosaic.TcCoe Idealize.ShloMosaic.Tactic

variable (V0 : Valuation τ sig (Elt Ideal))

/-- The layer's weights, by tap and lane. -/
def rW : Nat → Nat → EReal := fn2 (n0 := 31) (n1 := 1024) (res_main_v5 V0)

/-- The gradient at the convolution's output, zero past the last row. -/
def rD (r l : Nat) : EReal := if r < 4096 then dy (rY V0 r) (rG V0) (rB V0) (rDA V0 r) (rC V0 r) l else 0

theorem rD_at (a : Fin 4096) (b : Fin 1024) : res_main_v307 V0 (ix2 a b) = rD V0 a.val b.val := by
  unfold rD; rw [if_pos a.isLt]; exact at307 V0 a b

/-- The weights of one tap, on every lane. -/
theorem tapOf (k : Fin 31) (b : Fin 1024) : res_main_v5 V0 (ix2 k b) = rW V0 k.val b.val := (fn2_of _ k.isLt b.isLt).symm

theorem w0 (a : Fin 1) (b : Fin 1024) : res_main_v28 V0 (ix2 a b) = rW V0 0 b.val := by
  unfold res_main_v28; pointwise
  exact tapOf V0 0 b
theorem u0 (a : Fin 4096) (b : Fin 1024) : res_main_v27 V0 (ix2 a b) = rU V0 (a.val + 0) b.val := by
  unfold res_main_v27; pointwise
  exact (at23 V0 ⟨_, _⟩ b).trans rfl
theorem w1 (a : Fin 1) (b : Fin 1024) : res_main_v34 V0 (ix2 a b) = rW V0 1 b.val := by
  unfold res_main_v34; pointwise
  exact tapOf V0 1 b
theorem u1 (a : Fin 4096) (b : Fin 1024) : res_main_v33 V0 (ix2 a b) = rU V0 (a.val + 1) b.val := by
  unfold res_main_v33; pointwise
  exact (at23 V0 ⟨_, _⟩ b).trans (congrArg (rU V0 · b.val) (Nat.add_comm _ _))
theorem w2 (a : Fin 1) (b : Fin 1024) : res_main_v41 V0 (ix2 a b) = rW V0 2 b.val := by
  unfold res_main_v41; pointwise
  exact tapOf V0 2 b
theorem u2 (a : Fin 4096) (b : Fin 1024) : res_main_v40 V0 (ix2 a b) = rU V0 (a.val + 2) b.val := by
  unfold res_main_v40; pointwise
  exact (at23 V0 ⟨_, _⟩ b).trans (congrArg (rU V0 · b.val) (Nat.add_comm _ _))
theorem w3 (a : Fin 1) (b : Fin 1024) : res_main_v48 V0 (ix2 a b) = rW V0 3 b.val := by
  unfold res_main_v48; pointwise
  exact tapOf V0 3 b
theorem u3 (a : Fin 4096) (b : Fin 1024) : res_main_v47 V0 (ix2 a b) = rU V0 (a.val + 3) b.val := by
  unfold res_main_v47; pointwise
  exact (at23 V0 ⟨_, _⟩ b).trans (congrArg (rU V0 · b.val) (Nat.add_comm _ _))
theorem w4 (a : Fin 1) (b : Fin 1024) : res_main_v55 V0 (ix2 a b) = rW V0 4 b.val := by
  unfold res_main_v55; pointwise
  exact tapOf V0 4 b
theorem u4 (a : Fin 4096) (b : Fin 1024) : res_main_v54 V0 (ix2 a b) = rU V0 (a.val + 4) b.val := by
  unfold res_main_v54; pointwise
  exact (at23 V0 ⟨_, _⟩ b).trans (congrArg (rU V0 · b.val) (Nat.add_comm _ _))
theorem w5 (a : Fin 1) (b : Fin 1024) : res_main_v62 V0 (ix2 a b) = rW V0 5 b.val := by
  unfold res_main_v62; pointwise
  exact tapOf V0 5 b
theorem u5 (a : Fin 4096) (b : Fin 1024) : res_main_v61 V0 (ix2 a b) = rU V0 (a.val + 5) b.val := by
  unfold res_main_v61; pointwise
  exact (at23 V0 ⟨_, _⟩ b).trans (congrArg (rU V0 · b.val) (Nat.add_comm _ _))
theorem w6 (a : Fin 1) (b : Fin 1024) : res_main_v69 V0 (ix2 a b) = rW V0 6 b.val := by
  unfold res_main_v69; pointwise
  exact tapOf V0 6 b
theorem u6 (a : Fin 4096) (b : Fin 1024) : res_main_v68 V0 (ix2 a b) = rU V0 (a.val + 6) b.val := by
  unfold res_main_v68; pointwise
  exact (at23 V0 ⟨_, _⟩ b).trans (congrArg (rU V0 · b.val) (Nat.add_comm _ _))
theorem w7 (a : Fin 1) (b : Fin 1024) : res_main_v76 V0 (ix2 a b) = rW V0 7 b.val := by
  unfold res_main_v76; pointwise
  exact tapOf V0 7 b
theorem u7 (a : Fin 4096) (b : Fin 1024) : res_main_v75 V0 (ix2 a b) = rU V0 (a.val + 7) b.val := by
  unfold res_main_v75; pointwise
  exact (at23 V0 ⟨_, _⟩ b).trans (congrArg (rU V0 · b.val) (Nat.add_comm _ _))
theorem w8 (a : Fin 1) (b : Fin 1024) : res_main_v83 V0 (ix2 a b) = rW V0 8 b.val := by
  unfold res_main_v83; pointwise
  exact tapOf V0 8 b
theorem u8 (a : Fin 4096) (b : Fin 1024) : res_main_v82 V0 (ix2 a b) = rU V0 (a.val + 8) b.val := by
  unfold res_main_v82; pointwise
  exact (at23 V0 ⟨_, _⟩ b).trans (congrArg (rU V0 · b.val) (Nat.add_comm _ _))
theorem w9 (a : Fin 1) (b : Fin 1024) : res_main_v90 V0 (ix2 a b) = rW V0 9 b.val := by
  unfold res_main_v90; pointwise
  exact tapOf V0 9 b
theorem u9 (a : Fin 4096) (b : Fin 1024) : res_main_v89 V0 (ix2 a b) = rU V0 (a.val + 9) b.val := by
  unfold res_main_v89; pointwise
  exact (at23 V0 ⟨_, _⟩ b).trans (congrArg (rU V0 · b.val) (Nat.add_comm _ _))
theorem w10 (a : Fin 1) (b : Fin 1024) : res_main_v97 V0 (ix2 a b) = rW V0 10 b.val := by
  unfold res_main_v97; pointwise
  exact tapOf V0 10 b
theorem u10 (a : Fin 4096) (b : Fin 1024) : res_main_v96 V0 (ix2 a b) = rU V0 (a.val + 10) b.val := by
  unfold res_main_v96; pointwise
  exact (at23 V0 ⟨_, _⟩ b).trans (congrArg (rU V0 · b.val) (Nat.add_comm _ _))
theorem w11 (a : Fin 1) (b : Fin 1024) : res_main_v104 V0 (ix2 a b) = rW V0 11 b.val := by
  unfold res_main_v104; pointwise
  exact tapOf V0 11 b
theorem u11 (a : Fin 4096) (b : Fin 1024) : res_main_v103 V0 (ix2 a b) = rU V0 (a.val + 11) b.val := by
  unfold res_main_v103; pointwise
  exact (at23 V0 ⟨_, _⟩ b).trans (congrArg (rU V0 · b.val) (Nat.add_comm _ _))
theorem w12 (a : Fin 1) (b : Fin 1024) : res_main_v111 V0 (ix2 a b) = rW V0 12 b.val := by
  unfold res_main_v111; pointwise
  exact tapOf V0 12 b
theorem u12 (a : Fin 4096) (b : Fin 1024) : res_main_v110 V0 (ix2 a b) = rU V0 (a.val + 12) b.val := by
  unfold res_main_v110; pointwise
  exact (at23 V0 ⟨_, _⟩ b).trans (congrArg (rU V0 · b.val) (Nat.add_comm _ _))
theorem w13 (a : Fin 1) (b : Fin 1024) : res_main_v118 V0 (ix2 a b) = rW V0 13 b.val := by
  unfold res_main_v118; pointwise
  exact tapOf V0 13 b
theorem u13 (a : Fin 4096) (b : Fin 1024) : res_main_v117 V0 (ix2 a b) = rU V0 (a.val + 13) b.val := by
  unfold res_main_v117; pointwise
  exact (at23 V0 ⟨_, _⟩ b).trans (congrArg (rU V0 · b.val) (Nat.add_comm _ _))
theorem w14 (a : Fin 1) (b : Fin 1024) : res_main_v125 V0 (ix2 a b) = rW V0 14 b.val := by
  unfold res_main_v125; pointwise
  exact tapOf V0 14 b
theorem u14 (a : Fin 4096) (b : Fin 1024) : res_main_v124 V0 (ix2 a b) = rU V0 (a.val + 14) b.val := by
  unfold res_main_v124; pointwise
  exact (at23 V0 ⟨_, _⟩ b).trans (congrArg (rU V0 · b.val) (Nat.add_comm _ _))
theorem w15 (a : Fin 1) (b : Fin 1024) : res_main_v132 V0 (ix2 a b) = rW V0 15 b.val := by
  unfold res_main_v132; pointwise
  exact tapOf V0 15 b
theorem u15 (a : Fin 4096) (b : Fin 1024) : res_main_v131 V0 (ix2 a b) = rU V0 (a.val + 15) b.val := by
  unfold res_main_v131; pointwise
  exact (at23 V0 ⟨_, _⟩ b).trans (congrArg (rU V0 · b.val) (Nat.add_comm _ _))
theorem w16 (a : Fin 1) (b : Fin 1024) : res_main_v139 V0 (ix2 a b) = rW V0 16 b.val := by
  unfold res_main_v139; pointwise
  exact tapOf V0 16 b
theorem u16 (a : Fin 4096) (b : Fin 1024) : res_main_v138 V0 (ix2 a b) = rU V0 (a.val + 16) b.val := by
  unfold res_main_v138; pointwise
  exact (at23 V0 ⟨_, _⟩ b).trans (congrArg (rU V0 · b.val) (Nat.add_comm _ _))
theorem w17 (a : Fin 1) (b : Fin 1024) : res_main_v146 V0 (ix2 a b) = rW V0 17 b.val := by
  unfold res_main_v146; pointwise
  exact tapOf V0 17 b
theorem u17 (a : Fin 4096) (b : Fin 1024) : res_main_v145 V0 (ix2 a b) = rU V0 (a.val + 17) b.val := by
  unfold res_main_v145; pointwise
  exact (at23 V0 ⟨_, _⟩ b).trans (congrArg (rU V0 · b.val) (Nat.add_comm _ _))
theorem w18 (a : Fin 1) (b : Fin 1024) : res_main_v153 V0 (ix2 a b) = rW V0 18 b.val := by
  unfold res_main_v153; pointwise
  exact tapOf V0 18 b
theorem u18 (a : Fin 4096) (b : Fin 1024) : res_main_v152 V0 (ix2 a b) = rU V0 (a.val + 18) b.val := by
  unfold res_main_v152; pointwise
  exact (at23 V0 ⟨_, _⟩ b).trans (congrArg (rU V0 · b.val) (Nat.add_comm _ _))
theorem w19 (a : Fin 1) (b : Fin 1024) : res_main_v160 V0 (ix2 a b) = rW V0 19 b.val := by
  unfold res_main_v160; pointwise
  exact tapOf V0 19 b
theorem u19 (a : Fin 4096) (b : Fin 1024) : res_main_v159 V0 (ix2 a b) = rU V0 (a.val + 19) b.val := by
  unfold res_main_v159; pointwise
  exact (at23 V0 ⟨_, _⟩ b).trans (congrArg (rU V0 · b.val) (Nat.add_comm _ _))
theorem w20 (a : Fin 1) (b : Fin 1024) : res_main_v167 V0 (ix2 a b) = rW V0 20 b.val := by
  unfold res_main_v167; pointwise
  exact tapOf V0 20 b
theorem u20 (a : Fin 4096) (b : Fin 1024) : res_main_v166 V0 (ix2 a b) = rU V0 (a.val + 20) b.val := by
  unfold res_main_v166; pointwise
  exact (at23 V0 ⟨_, _⟩ b).trans (congrArg (rU V0 · b.val) (Nat.add_comm _ _))
theorem w21 (a : Fin 1) (b : Fin 1024) : res_main_v174 V0 (ix2 a b) = rW V0 21 b.val := by
  unfold res_main_v174; pointwise
  exact tapOf V0 21 b
theorem u21 (a : Fin 4096) (b : Fin 1024) : res_main_v173 V0 (ix2 a b) = rU V0 (a.val + 21) b.val := by
  unfold res_main_v173; pointwise
  exact (at23 V0 ⟨_, _⟩ b).trans (congrArg (rU V0 · b.val) (Nat.add_comm _ _))
theorem w22 (a : Fin 1) (b : Fin 1024) : res_main_v181 V0 (ix2 a b) = rW V0 22 b.val := by
  unfold res_main_v181; pointwise
  exact tapOf V0 22 b
theorem u22 (a : Fin 4096) (b : Fin 1024) : res_main_v180 V0 (ix2 a b) = rU V0 (a.val + 22) b.val := by
  unfold res_main_v180; pointwise
  exact (at23 V0 ⟨_, _⟩ b).trans (congrArg (rU V0 · b.val) (Nat.add_comm _ _))
theorem w23 (a : Fin 1) (b : Fin 1024) : res_main_v188 V0 (ix2 a b) = rW V0 23 b.val := by
  unfold res_main_v188; pointwise
  exact tapOf V0 23 b
theorem u23 (a : Fin 4096) (b : Fin 1024) : res_main_v187 V0 (ix2 a b) = rU V0 (a.val + 23) b.val := by
  unfold res_main_v187; pointwise
  exact (at23 V0 ⟨_, _⟩ b).trans (congrArg (rU V0 · b.val) (Nat.add_comm _ _))
theorem w24 (a : Fin 1) (b : Fin 1024) : res_main_v195 V0 (ix2 a b) = rW V0 24 b.val := by
  unfold res_main_v195; pointwise
  exact tapOf V0 24 b
theorem u24 (a : Fin 4096) (b : Fin 1024) : res_main_v194 V0 (ix2 a b) = rU V0 (a.val + 24) b.val := by
  unfold res_main_v194; pointwise
  exact (at23 V0 ⟨_, _⟩ b).trans (congrArg (rU V0 · b.val) (Nat.add_comm _ _))
theorem w25 (a : Fin 1) (b : Fin 1024) : res_main_v202 V0 (ix2 a b) = rW V0 25 b.val := by
  unfold res_main_v202; pointwise
  exact tapOf V0 25 b
theorem u25 (a : Fin 4096) (b : Fin 1024) : res_main_v201 V0 (ix2 a b) = rU V0 (a.val + 25) b.val := by
  unfold res_main_v201; pointwise
  exact (at23 V0 ⟨_, _⟩ b).trans (congrArg (rU V0 · b.val) (Nat.add_comm _ _))
theorem w26 (a : Fin 1) (b : Fin 1024) : res_main_v209 V0 (ix2 a b) = rW V0 26 b.val := by
  unfold res_main_v209; pointwise
  exact tapOf V0 26 b
theorem u26 (a : Fin 4096) (b : Fin 1024) : res_main_v208 V0 (ix2 a b) = rU V0 (a.val + 26) b.val := by
  unfold res_main_v208; pointwise
  exact (at23 V0 ⟨_, _⟩ b).trans (congrArg (rU V0 · b.val) (Nat.add_comm _ _))
theorem w27 (a : Fin 1) (b : Fin 1024) : res_main_v216 V0 (ix2 a b) = rW V0 27 b.val := by
  unfold res_main_v216; pointwise
  exact tapOf V0 27 b
theorem u27 (a : Fin 4096) (b : Fin 1024) : res_main_v215 V0 (ix2 a b) = rU V0 (a.val + 27) b.val := by
  unfold res_main_v215; pointwise
  exact (at23 V0 ⟨_, _⟩ b).trans (congrArg (rU V0 · b.val) (Nat.add_comm _ _))
theorem w28 (a : Fin 1) (b : Fin 1024) : res_main_v223 V0 (ix2 a b) = rW V0 28 b.val := by
  unfold res_main_v223; pointwise
  exact tapOf V0 28 b
theorem u28 (a : Fin 4096) (b : Fin 1024) : res_main_v222 V0 (ix2 a b) = rU V0 (a.val + 28) b.val := by
  unfold res_main_v222; pointwise
  exact (at23 V0 ⟨_, _⟩ b).trans (congrArg (rU V0 · b.val) (Nat.add_comm _ _))
theorem w29 (a : Fin 1) (b : Fin 1024) : res_main_v230 V0 (ix2 a b) = rW V0 29 b.val := by
  unfold res_main_v230; pointwise
  exact tapOf V0 29 b
theorem u29 (a : Fin 4096) (b : Fin 1024) : res_main_v229 V0 (ix2 a b) = rU V0 (a.val + 29) b.val := by
  unfold res_main_v229; pointwise
  exact (at23 V0 ⟨_, _⟩ b).trans (congrArg (rU V0 · b.val) (Nat.add_comm _ _))
theorem w30 (a : Fin 1) (b : Fin 1024) : res_main_v237 V0 (ix2 a b) = rW V0 30 b.val := by
  unfold res_main_v237; pointwise
  exact tapOf V0 30 b
theorem u30 (a : Fin 4096) (b : Fin 1024) : res_main_v236 V0 (ix2 a b) = rU V0 (a.val + 30) b.val := by
  unfold res_main_v236; pointwise
  exact (at23 V0 ⟨_, _⟩ b).trans (congrArg (rU V0 · b.val) (Nat.add_comm _ _))

end Cert.ReferenceIdeal.Value
-- ==== Proof.Host.lean ====
/-
What the kernel's operands hold on entry, as the reference's terms of the same arguments.
-/
module

public import proofs.«01_k».proof.Proof.Sweep
public import proofs.«01_k».proof.Proof.RefTaps

@[expose] public section

set_option maxRecDepth 65536
set_option maxHeartbeats 8000000

noncomputable section

namespace Cert.KernelIdeal.Gen

open Idealize.ShloMosaic Idealize.ShloMosaic.TcCoe Idealize.ShloMosaic.Tactic

variable (m : (ℓ : Loc nD τ sig) → Buf (Elt Ideal) ℓ) (c : Dev nD)
variable (V0 : Valuation ReferenceIdeal.τ ReferenceIdeal.sig (Elt Ideal))

/-- The host computes the convolution's output by the reference's lines. -/
theorem y_eq (h2 : (V0 (Proc.devRef .tc ReferenceIdeal.main_arg2) : Vec Ideal S4096x8192 .bf16) = m (c, Proc.devRef .tc main_arg2))
    (h3 : (V0 (Proc.devRef .tc ReferenceIdeal.main_arg3) : Vec Ideal S4x31x1024 .f32) = m (c, Proc.devRef .tc main_arg3))
    (h4 : (V0 (Proc.devRef .tc ReferenceIdeal.main_arg4) : Vec Ideal S4x1024 .f32) = m (c, Proc.devRef .tc main_arg4)) :
    (V m c main_v234 : Vec Ideal S4096x1024 .f32) = ReferenceIdeal.Value.res_main_v243 V0 := by
  unfold V; after_results
  rw [← h2, ← h3, ← h4]
  rfl

/-- The two activations are the arguments themselves. -/
theorem da_eq : V m c main_arg1 = m (c, Proc.devRef .tc main_arg1) := by unfold V; after_results
theorem p_eq : V m c main_arg2 = m (c, Proc.devRef .tc main_arg2) := by unfold V; after_results

/-- The norm's parameters and the weights, laid out anew. -/
theorem g_at (p : Fin 4) (q : Fin 1) (b : Fin 1024) : (V m c main_v237 : Vec Ideal S4x1x1024 .f32) (ix3 p q b) = (m (c, Proc.devRef .tc main_arg5) : Vec Ideal S4x1024 .f32) (ix2 p b) := by
  unfold V; after_results; pointwise
theorem b_at (p : Fin 4) (q : Fin 1) (b : Fin 1024) : (V m c main_v238 : Vec Ideal S4x1x1024 .f32) (ix3 p q b) = (m (c, Proc.devRef .tc main_arg6) : Vec Ideal S4x1024 .f32) (ix2 p b) := by
  unfold V; after_results; pointwise
theorem w_at (p q : Fin 4) (a : Fin 31) (b : Fin 256) : (V m c main_v236 : Vec Ideal S4x4x31x256 .f32) (ix4 p q a b) = (m (c, Proc.devRef .tc main_arg3) : Vec Ideal S4x31x1024 .f32) (ix3 q a ⟨p.val * 256 + b.val, by omega⟩) := by
  unfold V; after_results; pointwise
/-- The reference's weights of this layer. -/
theorem rW_at (a : Fin 31) (l : Fin 1024) : (ReferenceIdeal.Value.res_main_v5 V0 : Vec Ideal S31x1024 .f32) (ix2 a l) = (V0 (Proc.devRef .tc ReferenceIdeal.main_arg3) : Vec Ideal S4x31x1024 .f32) (ix3 3 a l) := by
  unfold ReferenceIdeal.Value.res_main_v5; pointwise

/-- The two programs are given the same arguments. -/
structure Same : Prop where
  a0 : (V0 (Proc.devRef .tc ReferenceIdeal.main_arg0) : Vec Ideal S4096x8192 .bf16) = m (c, Proc.devRef .tc main_arg0)
  a1 : (V0 (Proc.devRef .tc ReferenceIdeal.main_arg1) : Vec Ideal S4096x1024 .bf16) = m (c, Proc.devRef .tc main_arg1)
  a2 : (V0 (Proc.devRef .tc ReferenceIdeal.main_arg2) : Vec Ideal S4096x8192 .bf16) = m (c, Proc.devRef .tc main_arg2)
  a3 : (V0 (Proc.devRef .tc ReferenceIdeal.main_arg3) : Vec Ideal S4x31x1024 .f32) = m (c, Proc.devRef .tc main_arg3)
  a4 : (V0 (Proc.devRef .tc ReferenceIdeal.main_arg4) : Vec Ideal S4x1024 .f32) = m (c, Proc.devRef .tc main_arg4)
  a5 : (V0 (Proc.devRef .tc ReferenceIdeal.main_arg5) : Vec Ideal S4x1024 .f32) = m (c, Proc.devRef .tc main_arg5)
  a6 : (V0 (Proc.devRef .tc ReferenceIdeal.main_arg6) : Vec Ideal S4x1024 .f32) = m (c, Proc.devRef .tc main_arg6)

variable {m c V0} (h : Same m c V0)
include h

open ReferenceIdeal.Value in
theorem arrY_eq : arrY m c = rY V0 := congrArg (fn2 (n0 := 4096) (n1 := 1024)) (y_eq m c V0 h.a2 h.a3 h.a4)

open ReferenceIdeal.Value in
theorem arrDA_eq : arrDA m c = rDA V0 := congrArg (fn2 (n0 := 4096) (n1 := 1024)) ((da_eq m c).trans h.a1.symm)

open ReferenceIdeal.Value in
theorem arrP_eq : arrP m c = rP V0 := congrArg (fn2 (n0 := 4096) (n1 := 8192)) ((p_eq m c).trans h.a2.symm)

open ReferenceIdeal.Value in
theorem arrG_eq (b : Nat) (hb : b < 1024) : arrG m c b = rG V0 b := by
  unfold arrG; rw [dif_pos hb]
  exact (g_at m c 3 0 ⟨b, hb⟩).trans ((congrFun h.a5.symm _).trans (fn2_of (n0 := 4) (n1 := 1024) _ (by omega) hb).symm)

open ReferenceIdeal.Value in
theorem arrB_eq (b : Nat) (hb : b < 1024) : arrB m c b = rB V0 b := by
  unfold arrB; rw [dif_pos hb]
  exact (b_at m c 3 0 ⟨b, hb⟩).trans ((congrFun h.a6.symm _).trans (fn2_of (n0 := 4) (n1 := 1024) _ (by omega) hb).symm)

open ReferenceIdeal.Value in
theorem arrW_eq (k l : Nat) (hk : k < 31) (hl : l < 1024) : arrW m c (l / 256) k (l % 256) = rW V0 k l := by
  unfold arrW; rw [dif_pos (⟨by omega, hk, by omega⟩ : l / 256 < 4 ∧ k < 31 ∧ l % 256 < 256)]
  refine (w_at m c _ _ _ _).trans ?_
  refine Eq.trans ?_ ((rW_at V0 ⟨k, hk⟩ ⟨l, hl⟩).symm.trans (fn2_of (n0 := 31) (n1 := 1024) _ hk hl).symm)
  refine (congrFun h.a3.symm _).trans ?_
  exact congrArg (fun z : Fin 1024 => (V0 (Proc.devRef .tc ReferenceIdeal.main_arg3) : Vec Ideal S4x31x1024 .f32) (ix3 (3 : Fin 4) (⟨k, hk⟩ : Fin 31) z)) (Fin.ext (show l / 256 * 256 + l % 256 = l by omega))

end Cert.KernelIdeal.Gen
-- ==== Proof.Sums.lean ====
/-
The kernel's sums over grid points, trips and rows, as sums over all rows.
-/
module

public import proofs.«01_k».proof.Proof.Whole

@[expose] public section

set_option maxRecDepth 65536

noncomputable section

namespace Cert.Whole

open Cert.Rows Cert.Tile Idealize.ShloMosaic

/-- A sum over `n * m` numbers, block by block. -/
theorem blocks (g : Nat → EReal) (n m : Nat) : ∑ R ∈ Finset.range (n * m), g R = ∑ i ∈ Finset.range n, ∑ j ∈ Finset.range m, g (m * i + j) := by
  induction n with
  | zero => simp
  | succ n ih => rw [Finset.sum_range_succ, ← ih, Nat.succ_mul, Finset.sum_range_add, Nat.mul_comm m n]

/-- All rows, by grid points going from the last tile to the first. -/
theorem byTiles (g : Nat → EReal) : ∑ R : Fin 4096, g R.val = ∑ t ∈ Finset.range 16, ∑ r ∈ Finset.range 256, g (256 * (15 - t) + r) := by
  rw [Fin.sum_univ_eq_sum_range g 4096, show 4096 = 16 * 256 from rfl, blocks g 16 256]
  exact (Finset.sum_range_reflect (fun i => ∑ r ∈ Finset.range 256, g (256 * i + r)) 16).symm

/-- All rows, by residues modulo eight, grid points, trips and groups of eight rows. -/
theorem byGroups (g : Nat → EReal) :
    ∑ s : Fin 8, ∑ t ∈ Finset.range 16, ∑ j ∈ Finset.range 4, ∑ q : Fin 8, g (256 * (15 - t) + (64 * j + (q.val * 8 + s.val))) = ∑ R : Fin 4096, g R.val := by
  rw [byTiles, Finset.sum_comm]
  refine Finset.sum_congr rfl fun t _ => ?_
  rw [show 256 = 4 * 64 from rfl, blocks (fun r => g (4 * 64 * (15 - t) + r)) 4 64, Finset.sum_comm]
  refine Finset.sum_congr rfl fun j _ => ?_
  rw [show 64 = 8 * 8 from rfl, blocks (fun r => g (4 * (8 * 8) * (15 - t) + (8 * 8 * j + r))) 8 8, Finset.sum_comm]
  rw [Fin.sum_univ_eq_sum_range (fun q => ∑ s : Fin 8, g (4 * (8 * 8) * (15 - t) + (8 * 8 * j + (q * 8 + s.val)))) 8]
  refine Finset.sum_congr rfl fun q _ => ?_
  rw [Fin.sum_univ_eq_sum_range (fun s => g (4 * (8 * 8) * (15 - t) + (8 * 8 * j + (q * 8 + s)))) 8]
  refine Finset.sum_congr rfl fun s _ => ?_
  rw [Nat.mul_comm q 8]

variable (Y DA PR : Nat → Nat → EReal) (LG LB : Nat → EReal)

/-- The output gate's columns. -/
def gcW (r l : Nat) : EReal := PR r (3072 + (2048 + l))

/-- One tap's weight gradient. -/
theorem accD_all (k l : Nat) : ∑ s : Fin 8, accD Y DA PR LG LB 15 (8 * k + s.val) l = ∑ R : Fin 4096, dyG Y DA PR LG LB R.val l * uG PR (R.val + (2 + k)) l := by
  rw [← byGroups (fun R => dyG Y DA PR LG LB R l * uG PR (R + (2 + k)) l)]
  refine Finset.sum_congr rfl fun s _ => ?_
  unfold accD
  refine Finset.sum_congr rfl fun t _ => Finset.sum_congr rfl fun j _ => ?_
  unfold Cert.KernelIdeal.Gen.grpSum
  refine Finset.sum_congr rfl fun q _ => ?_
  have hs := s.isLt
  rw [show (8 * k + s.val) % 8 = s.val by omega, show (8 * k + s.val) / 8 = k by omega]
  unfold dAt uAt rowsAt
  rw [Nat.add_assoc (256 * (15 - t)) _ (2 + k)]

/-- The column sums after grid point `n`. -/
theorem accV_rows (n l : Nat) :
    accV Y DA PR LG LB n 0 l = ∑ t ∈ Finset.range (n + 1), ∑ r ∈ Finset.range 256, dy (Y (256 * (15 - t) + r)) LG LB (DA (256 * (15 - t) + r)) (gcW PR (256 * (15 - t) + r)) l
    ∧ accV Y DA PR LG LB n 1 l = ∑ t ∈ Finset.range (n + 1), ∑ r ∈ Finset.range 256, nrm (Y (256 * (15 - t) + r)) l * dln (Y (256 * (15 - t) + r)) LG LB (DA (256 * (15 - t) + r)) (gcW PR (256 * (15 - t) + r)) l
    ∧ accV Y DA PR LG LB n 2 l = ∑ t ∈ Finset.range (n + 1), ∑ r ∈ Finset.range 256, dln (Y (256 * (15 - t) + r)) LG LB (DA (256 * (15 - t) + r)) (gcW PR (256 * (15 - t) + r)) l := by
  induction n with
  | zero =>
    rw [Finset.sum_range_one, Finset.sum_range_one, Finset.sum_range_one]
    refine ⟨?_, ?_, ?_⟩ <;> unfold accV accT <;> simp only [if_true, if_false, OfNat.ofNat_ne_zero, OfNat.zero_ne_ofNat, OfNat.ofNat_ne_one, OfNat.one_ne_ofNat, zero_ne_one, one_ne_zero, zero_add]
    · exact Fin.sum_univ_eq_sum_range (fun r => dy (Y (256 * (15 - 0) + r)) LG LB (DA (256 * (15 - 0) + r)) (gcW PR (256 * (15 - 0) + r)) l) 256
    · exact Fin.sum_univ_eq_sum_range (fun r => nrm (Y (256 * (15 - 0) + r)) l * dln (Y (256 * (15 - 0) + r)) LG LB (DA (256 * (15 - 0) + r)) (gcW PR (256 * (15 - 0) + r)) l) 256
    · exact Fin.sum_univ_eq_sum_range (fun r => dln (Y (256 * (15 - 0) + r)) LG LB (DA (256 * (15 - 0) + r)) (gcW PR (256 * (15 - 0) + r)) l) 256
  | succ n ih =>
    refine ⟨Eq.trans ?_ (Finset.sum_range_succ _ (n + 1)).symm, Eq.trans ?_ (Finset.sum_range_succ _ (n + 1)).symm, Eq.trans ?_ (Finset.sum_range_succ _ (n + 1)).symm⟩
    · rw [← ih.1]
      conv_lhs => unfold accV accT
      simp only [if_true, if_false, OfNat.ofNat_ne_zero, OfNat.zero_ne_ofNat, OfNat.ofNat_ne_one, OfNat.one_ne_ofNat, zero_ne_one, one_ne_zero]
      exact congrArg _ (Fin.sum_univ_eq_sum_range (fun r => dy (Y (256 * (15 - (n + 1)) + r)) LG LB (DA (256 * (15 - (n + 1)) + r)) (gcW PR (256 * (15 - (n + 1)) + r)) l) 256)
    · rw [← ih.2.1]
      conv_lhs => unfold accV accT
      simp only [if_true, if_false, OfNat.ofNat_ne_zero, OfNat.zero_ne_ofNat, OfNat.ofNat_ne_one, OfNat.one_ne_ofNat, zero_ne_one, one_ne_zero]
      exact congrArg _ (Fin.sum_univ_eq_sum_range (fun r => nrm (Y (256 * (15 - (n + 1)) + r)) l * dln (Y (256 * (15 - (n + 1)) + r)) LG LB (DA (256 * (15 - (n + 1)) + r)) (gcW PR (256 * (15 - (n + 1)) + r)) l) 256)
    · rw [← ih.2.2]
      conv_lhs => unfold accV accT
      simp only [if_true, if_false, OfNat.ofNat_ne_zero, OfNat.zero_ne_ofNat, OfNat.ofNat_ne_one, OfNat.one_ne_ofNat, zero_ne_one, one_ne_zero]
      exact congrArg _ (Fin.sum_univ_eq_sum_range (fun r => dln (Y (256 * (15 - (n + 1)) + r)) LG LB (DA (256 * (15 - (n + 1)) + r)) (gcW PR (256 * (15 - (n + 1)) + r)) l) 256)

/-- What the last grid point hands on, as sums over all rows. -/
def sgAll (k l : Nat) : EReal :=
  if k < 31 then ∑ R : Fin 4096, dyG Y DA PR LG LB R.val l * uG PR (R.val + (2 + k)) l
  else if k = 32 then ∑ R : Fin 4096, dy (Y R.val) LG LB (DA R.val) (gcW PR R.val) l
  else if k = 33 then ∑ R : Fin 4096, nrm (Y R.val) l * dln (Y R.val) LG LB (DA R.val) (gcW PR R.val) l
  else if k = 34 then ∑ R : Fin 4096, dln (Y R.val) LG LB (DA R.val) (gcW PR R.val) l
  else 0

theorem sg_all (k l : Nat) : sgT (accD Y DA PR LG LB 15) (accV Y DA PR LG LB 15) k l = sgAll Y DA PR LG LB k l := by
  have h := accV_rows Y DA PR LG LB 15 l
  unfold sgT sgAll
  by_cases h1 : k < 31
  · rw [if_pos h1, if_pos h1, accD_all]
  rw [if_neg h1, if_neg h1]
  by_cases h2 : k = 32
  · subst h2
    rw [if_pos (by omega), if_pos rfl, show 32 - 32 = 0 from rfl, h.1, byTiles (fun R => dy (Y R) LG LB (DA R) (gcW PR R) l)]
  rw [if_neg h2]
  by_cases h3 : k = 33
  · subst h3
    rw [if_pos (by omega), if_pos rfl, show 33 - 32 = 1 from rfl, h.2.1, byTiles (fun R => nrm (Y R) l * dln (Y R) LG LB (DA R) (gcW PR R) l)]
  rw [if_neg h3]
  by_cases h4 : k = 34
  · subst h4
    rw [if_pos (by omega), if_pos rfl, show 34 - 32 = 2 from rfl, h.2.2, byTiles (fun R => dln (Y R) LG LB (DA R) (gcW PR R) l)]
  rw [if_neg h4, if_neg (by omega)]

end Cert.Whole
-- ==== Proof.RefSums.lean ====
/-
The reference's sums over the taps: the gradient at the gated input and that of the weights.
-/
module

public import proofs.«01_k».proof.Proof.RefTaps

@[expose] public section

set_option maxRecDepth 65536
set_option maxHeartbeats 8000000

noncomputable section

namespace Cert.ReferenceIdeal.Value

open Cert.KernelIdeal.Gen (fn2 fn2_of)
open Cert.Rows
open Idealize.ShloMosaic Idealize.ShloMosaic.TcCoe Idealize.ShloMosaic.Tactic

variable (V0 : Valuation τ sig (Elt Ideal))

/-- One tap's term: its weight times the row it meets, or zero where it meets none. -/
theorem padTerm (a : Fin 4096) (b : Fin 1024) (k n : Nat) (hkn : k + n = 30) (w : EReal) (hw : w = rW V0 k b.val) :
    (if h : k ≤ 30 + a.val ∧ 30 + a.val - k < 4096 then w * res_main_v307 V0 (ix2 ⟨30 + a.val - k, h.2⟩ b) else (0 : EReal)) = rW V0 (30 - n) b.val * rD V0 (a.val + n) b.val := by
  have ek : 30 - n = k := by omega
  rw [ek, hw]
  by_cases h : 30 + a.val - k < 4096
  · rw [dif_pos ⟨by omega, h⟩, rD_at]
    exact congrArg (fun r => rW V0 k b.val * rD V0 r b.val) (show 30 + a.val - k = a.val + n by omega)
  · rw [dif_neg (fun q => h q.2)]
    unfold rD
    rw [if_neg (by omega), mul_zero]

/-- The first tap meets every row from 30 on. -/
theorem padFirst (a : Fin 4096) (b : Fin 1024) (w : EReal) (hw : w = rW V0 0 b.val) :
    (if h : 30 + a.val < 4096 then w * res_main_v307 V0 (ix2 ⟨30 + a.val, h⟩ b) else (0 : EReal)) = rW V0 (30 - 30) b.val * rD V0 (a.val + 30) b.val := by
  rw [hw]
  by_cases h : 30 + a.val < 4096
  · rw [dif_pos h, rD_at]
    exact congrArg (fun r => rW V0 0 b.val * rD V0 r b.val) (Nat.add_comm _ _)
  · rw [dif_neg h]
    unfold rD
    rw [if_neg (by omega), mul_zero]

theorem at651 (a : Fin 4096) (b : Fin 1024) : res_main_v651 V0 (ix2 a b) = ∑ n ∈ Finset.range 31, rW V0 (30 - n) b.val * rD V0 (a.val + n) b.val := by
  unfold res_main_v651 res_main_v646 res_main_v503; pointwise
  simp only [Finset.sum_range_succ, Finset.sum_range_zero, zero_add]
  refine congrArg₂ HAdd.hAdd ?_ (padFirst V0 a b _ (w0 V0 0 b))
  refine congrArg₂ HAdd.hAdd ?_ (padTerm V0 a b 1 29 rfl _ (w1 V0 0 b))
  refine congrArg₂ HAdd.hAdd ?_ (padTerm V0 a b 2 28 rfl _ (w2 V0 0 b))
  refine congrArg₂ HAdd.hAdd ?_ (padTerm V0 a b 3 27 rfl _ (w3 V0 0 b))
  refine congrArg₂ HAdd.hAdd ?_ (padTerm V0 a b 4 26 rfl _ (w4 V0 0 b))
  refine congrArg₂ HAdd.hAdd ?_ (padTerm V0 a b 5 25 rfl _ (w5 V0 0 b))
  refine congrArg₂ HAdd.hAdd ?_ (padTerm V0 a b 6 24 rfl _ (w6 V0 0 b))
  refine congrArg₂ HAdd.hAdd ?_ (padTerm V0 a b 7 23 rfl _ (w7 V0 0 b))
  refine congrArg₂ HAdd.hAdd ?_ (padTerm V0 a b 8 22 rfl _ (w8 V0 0 b))
  refine congrArg₂ HAdd.hAdd ?_ (padTerm V0 a b 9 21 rfl _ (w9 V0 0 b))
  refine congrArg₂ HAdd.hAdd ?_ (padTerm V0 a b 10 20 rfl _ (w10 V0 0 b))
  refine congrArg₂ HAdd.hAdd ?_ (padTerm V0 a b 11 19 rfl _ (w11 V0 0 b))
  refine congrArg₂ HAdd.hAdd ?_ (padTerm V0 a b 12 18 rfl _ (w12 V0 0 b))
  refine congrArg₂ HAdd.hAdd ?_ (padTerm V0 a b 13 17 rfl _ (w13 V0 0 b))
  refine congrArg₂ HAdd.hAdd ?_ (padTerm V0 a b 14 16 rfl _ (w14 V0 0 b))
  refine congrArg₂ HAdd.hAdd ?_ (padTerm V0 a b 15 15 rfl _ (w15 V0 0 b))
  refine congrArg₂ HAdd.hAdd ?_ (padTerm V0 a b 16 14 rfl _ (w16 V0 0 b))
  refine congrArg₂ HAdd.hAdd ?_ (padTerm V0 a b 17 13 rfl _ (w17 V0 0 b))
  refine congrArg₂ HAdd.hAdd ?_ (padTerm V0 a b 18 12 rfl _ (w18 V0 0 b))
  refine congrArg₂ HAdd.hAdd ?_ (padTerm V0 a b 19 11 rfl _ (w19 V0 0 b))
  refine congrArg₂ HAdd.hAdd ?_ (padTerm V0 a b 20 10 rfl _ (w20 V0 0 b))
  refine congrArg₂ HAdd.hAdd ?_ (padTerm V0 a b 21 9 rfl _ (w21 V0 0 b))
  refine congrArg₂ HAdd.hAdd ?_ (padTerm V0 a b 22 8 rfl _ (w22 V0 0 b))
  refine congrArg₂ HAdd.hAdd ?_ (padTerm V0 a b 23 7 rfl _ (w23 V0 0 b))
  refine congrArg₂ HAdd.hAdd ?_ (padTerm V0 a b 24 6 rfl _ (w24 V0 0 b))
  refine congrArg₂ HAdd.hAdd ?_ (padTerm V0 a b 25 5 rfl _ (w25 V0 0 b))
  refine congrArg₂ HAdd.hAdd ?_ (padTerm V0 a b 26 4 rfl _ (w26 V0 0 b))
  refine congrArg₂ HAdd.hAdd ?_ (padTerm V0 a b 27 3 rfl _ (w27 V0 0 b))
  refine congrArg₂ HAdd.hAdd ?_ (padTerm V0 a b 28 2 rfl _ (w28 V0 0 b))
  refine congrArg₂ HAdd.hAdd ?_ (padTerm V0 a b 29 1 rfl _ (w29 V0 0 b))
  exact congrArg₂ (HMul.hMul (α := EReal) (β := EReal) (γ := EReal)) (w30 V0 0 b) (rD_at V0 a b)

/-- The sum over all rows that is one tap's weight gradient. -/
def rS (k l : Nat) : EReal := ∑ r : Fin 4096, rD V0 r.val l * rU V0 (r.val + k) l

/-- One tap's row sum, in the row that is its own and zero in the others. -/
theorem rowTerm (a : Fin 31) (b : Fin 1024) (k n : Nat) (hkn : k + n = 30) (X : Fin 1 → EReal) (hX : ∀ x, X x = rS V0 k b.val) :
    (if h : k ≤ a.val ∧ a.val - k < 1 then ∑ x : Fin 1, X x else (0 : EReal)) = if 30 - n = a.val then rS V0 (30 - n) b.val else 0 := by
  have ek : 30 - n = k := by omega
  rw [ek, Fin.sum_univ_one, hX]
  by_cases h : k = a.val
  · rw [if_pos h, dif_pos ⟨by omega, by omega⟩]
  · rw [if_neg h, dif_neg (by omega)]

theorem s0 (b : Fin 1024) : (∑ r : Fin 4096, HMul.hMul (α := EReal) (β := EReal) (γ := EReal) (res_main_v307 V0 (ix2 r b)) (res_main_v27 V0 (ix2 r b))) = rS V0 0 b.val := by
  unfold rS; exact Finset.sum_congr rfl fun r _ => congrArg₂ (HMul.hMul (α := EReal) (β := EReal) (γ := EReal)) (rD_at V0 r b) (u0 V0 r b)
theorem s1 (b : Fin 1024) : (∑ r : Fin 4096, HMul.hMul (α := EReal) (β := EReal) (γ := EReal) (res_main_v307 V0 (ix2 r b)) (res_main_v33 V0 (ix2 r b))) = rS V0 1 b.val := by
  unfold rS; exact Finset.sum_congr rfl fun r _ => congrArg₂ (HMul.hMul (α := EReal) (β := EReal) (γ := EReal)) (rD_at V0 r b) (u1 V0 r b)
theorem s2 (b : Fin 1024) : (∑ r : Fin 4096, HMul.hMul (α := EReal) (β := EReal) (γ := EReal) (res_main_v307 V0 (ix2 r b)) (res_main_v40 V0 (ix2 r b))) = rS V0 2 b.val := by
  unfold rS; exact Finset.sum_congr rfl fun r _ => congrArg₂ (HMul.hMul (α := EReal) (β := EReal) (γ := EReal)) (rD_at V0 r b) (u2 V0 r b)
theorem s3 (b : Fin 1024) : (∑ r : Fin 4096, HMul.hMul (α := EReal) (β := EReal) (γ := EReal) (res_main_v307 V0 (ix2 r b)) (res_main_v47 V0 (ix2 r b))) = rS V0 3 b.val := by
  unfold rS; exact Finset.sum_congr rfl fun r _ => congrArg₂ (HMul.hMul (α := EReal) (β := EReal) (γ := EReal)) (rD_at V0 r b) (u3 V0 r b)
theorem s4 (b : Fin 1024) : (∑ r : Fin 4096, HMul.hMul (α := EReal) (β := EReal) (γ := EReal) (res_main_v307 V0 (ix2 r b)) (res_main_v54 V0 (ix2 r b))) = rS V0 4 b.val := by
  unfold rS; exact Finset.sum_congr rfl fun r _ => congrArg₂ (HMul.hMul (α := EReal) (β := EReal) (γ := EReal)) (rD_at V0 r b) (u4 V0 r b)
theorem s5 (b : Fin 1024) : (∑ r : Fin 4096, HMul.hMul (α := EReal) (β := EReal) (γ := EReal) (res_main_v307 V0 (ix2 r b)) (res_main_v61 V0 (ix2 r b))) = rS V0 5 b.val := by
  unfold rS; exact Finset.sum_congr rfl fun r _ => congrArg₂ (HMul.hMul (α := EReal) (β := EReal) (γ := EReal)) (rD_at V0 r b) (u5 V0 r b)
theorem s6 (b : Fin 1024) : (∑ r : Fin 4096, HMul.hMul (α := EReal) (β := EReal) (γ := EReal) (res_main_v307 V0 (ix2 r b)) (res_main_v68 V0 (ix2 r b))) = rS V0 6 b.val := by
  unfold rS; exact Finset.sum_congr rfl fun r _ => congrArg₂ (HMul.hMul (α := EReal) (β := EReal) (γ := EReal)) (rD_at V0 r b) (u6 V0 r b)
theorem s7 (b : Fin 1024) : (∑ r : Fin 4096, HMul.hMul (α := EReal) (β := EReal) (γ := EReal) (res_main_v307 V0 (ix2 r b)) (res_main_v75 V0 (ix2 r b))) = rS V0 7 b.val := by
  unfold rS; exact Finset.sum_congr rfl fun r _ => congrArg₂ (HMul.hMul (α := EReal) (β := EReal) (γ := EReal)) (rD_at V0 r b) (u7 V0 r b)
theorem s8 (b : Fin 1024) : (∑ r : Fin 4096, HMul.hMul (α := EReal) (β := EReal) (γ := EReal) (res_main_v307 V0 (ix2 r b)) (res_main_v82 V0 (ix2 r b))) = rS V0 8 b.val := by
  unfold rS; exact Finset.sum_congr rfl fun r _ => congrArg₂ (HMul.hMul (α := EReal) (β := EReal) (γ := EReal)) (rD_at V0 r b) (u8 V0 r b)
theorem s9 (b : Fin 1024) : (∑ r : Fin 4096, HMul.hMul (α := EReal) (β := EReal) (γ := EReal) (res_main_v307 V0 (ix2 r b)) (res_main_v89 V0 (ix2 r b))) = rS V0 9 b.val := by
  unfold rS; exact Finset.sum_congr rfl fun r _ => congrArg₂ (HMul.hMul (α := EReal) (β := EReal) (γ := EReal)) (rD_at V0 r b) (u9 V0 r b)
theorem s10 (b : Fin 1024) : (∑ r : Fin 4096, HMul.hMul (α := EReal) (β := EReal) (γ := EReal) (res_main_v307 V0 (ix2 r b)) (res_main_v96 V0 (ix2 r b))) = rS V0 10 b.val := by
  unfold rS; exact Finset.sum_congr rfl fun r _ => congrArg₂ (HMul.hMul (α := EReal) (β := EReal) (γ := EReal)) (rD_at V0 r b) (u10 V0 r b)
theorem s11 (b : Fin 1024) : (∑ r : Fin 4096, HMul.hMul (α := EReal) (β := EReal) (γ := EReal) (res_main_v307 V0 (ix2 r b)) (res_main_v103 V0 (ix2 r b))) = rS V0 11 b.val := by
  unfold rS; exact Finset.sum_congr rfl fun r _ => congrArg₂ (HMul.hMul (α := EReal) (β := EReal) (γ := EReal)) (rD_at V0 r b) (u11 V0 r b)
theorem s12 (b : Fin 1024) : (∑ r : Fin 4096, HMul.hMul (α := EReal) (β := EReal) (γ := EReal) (res_main_v307 V0 (ix2 r b)) (res_main_v110 V0 (ix2 r b))) = rS V0 12 b.val := by
  unfold rS; exact Finset.sum_congr rfl fun r _ => congrArg₂ (HMul.hMul (α := EReal) (β := EReal) (γ := EReal)) (rD_at V0 r b) (u12 V0 r b)
theorem s13 (b : Fin 1024) : (∑ r : Fin 4096, HMul.hMul (α := EReal) (β := EReal) (γ := EReal) (res_main_v307 V0 (ix2 r b)) (res_main_v117 V0 (ix2 r b))) = rS V0 13 b.val := by
  unfold rS; exact Finset.sum_congr rfl fun r _ => congrArg₂ (HMul.hMul (α := EReal) (β := EReal) (γ := EReal)) (rD_at V0 r b) (u13 V0 r b)
theorem s14 (b : Fin 1024) : (∑ r : Fin 4096, HMul.hMul (α := EReal) (β := EReal) (γ := EReal) (res_main_v307 V0 (ix2 r b)) (res_main_v124 V0 (ix2 r b))) = rS V0 14 b.val := by
  unfold rS; exact Finset.sum_congr rfl fun r _ => congrArg₂ (HMul.hMul (α := EReal) (β := EReal) (γ := EReal)) (rD_at V0 r b) (u14 V0 r b)
theorem s15 (b : Fin 1024) : (∑ r : Fin 4096, HMul.hMul (α := EReal) (β := EReal) (γ := EReal) (res_main_v307 V0 (ix2 r b)) (res_main_v131 V0 (ix2 r b))) = rS V0 15 b.val := by
  unfold rS; exact Finset.sum_congr rfl fun r _ => congrArg₂ (HMul.hMul (α := EReal) (β := EReal) (γ := EReal)) (rD_at V0 r b) (u15 V0 r b)
theorem s16 (b : Fin 1024) : (∑ r : Fin 4096, HMul.hMul (α := EReal) (β := EReal) (γ := EReal) (res_main_v307 V0 (ix2 r b)) (res_main_v138 V0 (ix2 r b))) = rS V0 16 b.val := by
  unfold rS; exact Finset.sum_congr rfl fun r _ => congrArg₂ (HMul.hMul (α := EReal) (β := EReal) (γ := EReal)) (rD_at V0 r b) (u16 V0 r b)
theorem s17 (b : Fin 1024) : (∑ r : Fin 4096, HMul.hMul (α := EReal) (β := EReal) (γ := EReal) (res_main_v307 V0 (ix2 r b)) (res_main_v145 V0 (ix2 r b))) = rS V0 17 b.val := by
  unfold rS; exact Finset.sum_congr rfl fun r _ => congrArg₂ (HMul.hMul (α := EReal) (β := EReal) (γ := EReal)) (rD_at V0 r b) (u17 V0 r b)
theorem s18 (b : Fin 1024) : (∑ r : Fin 4096, HMul.hMul (α := EReal) (β := EReal) (γ := EReal) (res_main_v307 V0 (ix2 r b)) (res_main_v152 V0 (ix2 r b))) = rS V0 18 b.val := by
  unfold rS; exact Finset.sum_congr rfl fun r _ => congrArg₂ (HMul.hMul (α := EReal) (β := EReal) (γ := EReal)) (rD_at V0 r b) (u18 V0 r b)
theorem s19 (b : Fin 1024) : (∑ r : Fin 4096, HMul.hMul (α := EReal) (β := EReal) (γ := EReal) (res_main_v307 V0 (ix2 r b)) (res_main_v159 V0 (ix2 r b))) = rS V0 19 b.val := by
  unfold rS; exact Finset.sum_congr rfl fun r _ => congrArg₂ (HMul.hMul (α := EReal) (β := EReal) (γ := EReal)) (rD_at V0 r b) (u19 V0 r b)
theorem s20 (b : Fin 1024) : (∑ r : Fin 4096, HMul.hMul (α := EReal) (β := EReal) (γ := EReal) (res_main_v307 V0 (ix2 r b)) (res_main_v166 V0 (ix2 r b))) = rS V0 20 b.val := by
  unfold rS; exact Finset.sum_congr rfl fun r _ => congrArg₂ (HMul.hMul (α := EReal) (β := EReal) (γ := EReal)) (rD_at V0 r b) (u20 V0 r b)
theorem s21 (b : Fin 1024) : (∑ r : Fin 4096, HMul.hMul (α := EReal) (β := EReal) (γ := EReal) (res_main_v307 V0 (ix2 r b)) (res_main_v173 V0 (ix2 r b))) = rS V0 21 b.val := by
  unfold rS; exact Finset.sum_congr rfl fun r _ => congrArg₂ (HMul.hMul (α := EReal) (β := EReal) (γ := EReal)) (rD_at V0 r b) (u21 V0 r b)
theorem s22 (b : Fin 1024) : (∑ r : Fin 4096, HMul.hMul (α := EReal) (β := EReal) (γ := EReal) (res_main_v307 V0 (ix2 r b)) (res_main_v180 V0 (ix2 r b))) = rS V0 22 b.val := by
  unfold rS; exact Finset.sum_congr rfl fun r _ => congrArg₂ (HMul.hMul (α := EReal) (β := EReal) (γ := EReal)) (rD_at V0 r b) (u22 V0 r b)
theorem s23 (b : Fin 1024) : (∑ r : Fin 4096, HMul.hMul (α := EReal) (β := EReal) (γ := EReal) (res_main_v307 V0 (ix2 r b)) (res_main_v187 V0 (ix2 r b))) = rS V0 23 b.val := by
  unfold rS; exact Finset.sum_congr rfl fun r _ => congrArg₂ (HMul.hMul (α := EReal) (β := EReal) (γ := EReal)) (rD_at V0 r b) (u23 V0 r b)
theorem s24 (b : Fin 1024) : (∑ r : Fin 4096, HMul.hMul (α := EReal) (β := EReal) (γ := EReal) (res_main_v307 V0 (ix2 r b)) (res_main_v194 V0 (ix2 r b))) = rS V0 24 b.val := by
  unfold rS; exact Finset.sum_congr rfl fun r _ => congrArg₂ (HMul.hMul (α := EReal) (β := EReal) (γ := EReal)) (rD_at V0 r b) (u24 V0 r b)
theorem s25 (b : Fin 1024) : (∑ r : Fin 4096, HMul.hMul (α := EReal) (β := EReal) (γ := EReal) (res_main_v307 V0 (ix2 r b)) (res_main_v201 V0 (ix2 r b))) = rS V0 25 b.val := by
  unfold rS; exact Finset.sum_congr rfl fun r _ => congrArg₂ (HMul.hMul (α := EReal) (β := EReal) (γ := EReal)) (rD_at V0 r b) (u25 V0 r b)
theorem s26 (b : Fin 1024) : (∑ r : Fin 4096, HMul.hMul (α := EReal) (β := EReal) (γ := EReal) (res_main_v307 V0 (ix2 r b)) (res_main_v208 V0 (ix2 r b))) = rS V0 26 b.val := by
  unfold rS; exact Finset.sum_congr rfl fun r _ => congrArg₂ (HMul.hMul (α := EReal) (β := EReal) (γ := EReal)) (rD_at V0 r b) (u26 V0 r b)
theorem s27 (b : Fin 1024) : (∑ r : Fin 4096, HMul.hMul (α := EReal) (β := EReal) (γ := EReal) (res_main_v307 V0 (ix2 r b)) (res_main_v215 V0 (ix2 r b))) = rS V0 27 b.val := by
  unfold rS; exact Finset.sum_congr rfl fun r _ => congrArg₂ (HMul.hMul (α := EReal) (β := EReal) (γ := EReal)) (rD_at V0 r b) (u27 V0 r b)
theorem s28 (b : Fin 1024) : (∑ r : Fin 4096, HMul.hMul (α := EReal) (β := EReal) (γ := EReal) (res_main_v307 V0 (ix2 r b)) (res_main_v222 V0 (ix2 r b))) = rS V0 28 b.val := by
  unfold rS; exact Finset.sum_congr rfl fun r _ => congrArg₂ (HMul.hMul (α := EReal) (β := EReal) (γ := EReal)) (rD_at V0 r b) (u28 V0 r b)
theorem s29 (b : Fin 1024) : (∑ r : Fin 4096, HMul.hMul (α := EReal) (β := EReal) (γ := EReal) (res_main_v307 V0 (ix2 r b)) (res_main_v229 V0 (ix2 r b))) = rS V0 29 b.val := by
  unfold rS; exact Finset.sum_congr rfl fun r _ => congrArg₂ (HMul.hMul (α := EReal) (β := EReal) (γ := EReal)) (rD_at V0 r b) (u29 V0 r b)
theorem s30 (b : Fin 1024) : (∑ r : Fin 4096, HMul.hMul (α := EReal) (β := EReal) (γ := EReal) (res_main_v307 V0 (ix2 r b)) (res_main_v236 V0 (ix2 r b))) = rS V0 30 b.val := by
  unfold rS; exact Finset.sum_congr rfl fun r _ => congrArg₂ (HMul.hMul (α := EReal) (β := EReal) (γ := EReal)) (rD_at V0 r b) (u30 V0 r b)

theorem at638 (a : Fin 31) (b : Fin 1024) : res_main_v638 V0 (ix2 a b) = ∑ n ∈ Finset.range 30, if 30 - n = a.val then rS V0 (30 - n) b.val else 0 := by
  unfold res_main_v638 res_main_v528 res_main_v418; pointwise
  simp only [Finset.sum_range_succ, Finset.sum_range_zero, zero_add]
  refine congrArg₂ HAdd.hAdd ?_ (rowTerm V0 a b 1 29 rfl _ fun x => s1 V0 b)
  refine congrArg₂ HAdd.hAdd ?_ (rowTerm V0 a b 2 28 rfl _ fun x => s2 V0 b)
  refine congrArg₂ HAdd.hAdd ?_ (rowTerm V0 a b 3 27 rfl _ fun x => s3 V0 b)
  refine congrArg₂ HAdd.hAdd ?_ (rowTerm V0 a b 4 26 rfl _ fun x => s4 V0 b)
  refine congrArg₂ HAdd.hAdd ?_ (rowTerm V0 a b 5 25 rfl _ fun x => s5 V0 b)
  refine congrArg₂ HAdd.hAdd ?_ (rowTerm V0 a b 6 24 rfl _ fun x => s6 V0 b)
  refine congrArg₂ HAdd.hAdd ?_ (rowTerm V0 a b 7 23 rfl _ fun x => s7 V0 b)
  refine congrArg₂ HAdd.hAdd ?_ (rowTerm V0 a b 8 22 rfl _ fun x => s8 V0 b)
  refine congrArg₂ HAdd.hAdd ?_ (rowTerm V0 a b 9 21 rfl _ fun x => s9 V0 b)
  refine congrArg₂ HAdd.hAdd ?_ (rowTerm V0 a b 10 20 rfl _ fun x => s10 V0 b)
  refine congrArg₂ HAdd.hAdd ?_ (rowTerm V0 a b 11 19 rfl _ fun x => s11 V0 b)
  refine congrArg₂ HAdd.hAdd ?_ (rowTerm V0 a b 12 18 rfl _ fun x => s12 V0 b)
  refine congrArg₂ HAdd.hAdd ?_ (rowTerm V0 a b 13 17 rfl _ fun x => s13 V0 b)
  refine congrArg₂ HAdd.hAdd ?_ (rowTerm V0 a b 14 16 rfl _ fun x => s14 V0 b)
  refine congrArg₂ HAdd.hAdd ?_ (rowTerm V0 a b 15 15 rfl _ fun x => s15 V0 b)
  refine congrArg₂ HAdd.hAdd ?_ (rowTerm V0 a b 16 14 rfl _ fun x => s16 V0 b)
  refine congrArg₂ HAdd.hAdd ?_ (rowTerm V0 a b 17 13 rfl _ fun x => s17 V0 b)
  refine congrArg₂ HAdd.hAdd ?_ (rowTerm V0 a b 18 12 rfl _ fun x => s18 V0 b)
  refine congrArg₂ HAdd.hAdd ?_ (rowTerm V0 a b 19 11 rfl _ fun x => s19 V0 b)
  refine congrArg₂ HAdd.hAdd ?_ (rowTerm V0 a b 20 10 rfl _ fun x => s20 V0 b)
  refine congrArg₂ HAdd.hAdd ?_ (rowTerm V0 a b 21 9 rfl _ fun x => s21 V0 b)
  refine congrArg₂ HAdd.hAdd ?_ (rowTerm V0 a b 22 8 rfl _ fun x => s22 V0 b)
  refine congrArg₂ HAdd.hAdd ?_ (rowTerm V0 a b 23 7 rfl _ fun x => s23 V0 b)
  refine congrArg₂ HAdd.hAdd ?_ (rowTerm V0 a b 24 6 rfl _ fun x => s24 V0 b)
  refine congrArg₂ HAdd.hAdd ?_ (rowTerm V0 a b 25 5 rfl _ fun x => s25 V0 b)
  refine congrArg₂ HAdd.hAdd ?_ (rowTerm V0 a b 26 4 rfl _ fun x => s26 V0 b)
  refine congrArg₂ HAdd.hAdd ?_ (rowTerm V0 a b 27 3 rfl _ fun x => s27 V0 b)
  refine congrArg₂ HAdd.hAdd ?_ (rowTerm V0 a b 28 2 rfl _ fun x => s28 V0 b)
  refine congrArg₂ HAdd.hAdd ?_ (rowTerm V0 a b 29 1 rfl _ fun x => s29 V0 b)
  exact rowTerm V0 a b 30 0 rfl _ fun x => s30 V0 b

end Cert.ReferenceIdeal.Value
-- ==== Proof.RefOut.lean ====
/-
The reference's two results at an index.
-/
module

public import proofs.«01_k».proof.Proof.RefSums

@[expose] public section

set_option maxRecDepth 65536
set_option maxHeartbeats 8000000

noncomputable section

namespace Cert.ReferenceIdeal.Value

open Cert.KernelIdeal.Gen (fn2 fn2_of)
open Cert.Rows
open Idealize.ShloMosaic Idealize.ShloMosaic.TcCoe Idealize.ShloMosaic.Tactic

variable (V0 : Valuation τ sig (Elt Ideal))

/-- The gradient at the gated input. -/
def rDu (r l : Nat) : EReal := ∑ n ∈ Finset.range 31, rW V0 (30 - n) l * rD V0 (r + n) l

/-- The gradient at the output gate. -/
def rDg (r l : Nat) : EReal := dgate (rY V0 r) (rG V0) (rB V0) (rDA V0 r) (rC V0 r) l

theorem du_at (a : Fin 4096) (b : Fin 1024) : res_main_v651 V0 (ix2 a b) = rDu V0 a.val b.val := at651 V0 a b

theorem sumEq (f g : Fin 4096 → EReal) (h : ∀ r, f r = g r) : ∑ r, f r = ∑ r, g r := Finset.sum_congr rfl fun r _ => h r

theorem dpA (du dg X2 : Nat → Nat → EReal) (r j : Nat) (h : j < 1024) : Cert.Tile.dpT du dg X2 r j = du r j * Ideal.logistic (X2 r (1024 + j)) := by
  unfold Cert.Tile.dpT; rw [if_pos h]

theorem dpB (du dg X2 : Nat → Nat → EReal) (r j : Nat) (h : ¬j < 1024) (h' : j < 2048) : Cert.Tile.dpT du dg X2 r j
    = du r (j - 1024) * X2 r (j - 1024) * Ideal.logistic (X2 r j) * (one - Ideal.logistic (X2 r j)) := by
  unfold Cert.Tile.dpT; rw [if_neg h, if_pos h']

theorem dpC (du dg X2 : Nat → Nat → EReal) (r j : Nat) (h : ¬j < 1024) (h' : ¬j < 2048) : Cert.Tile.dpT du dg X2 r j = dg r (j - 2048) := by
  unfold Cert.Tile.dpT; rw [if_neg h, if_neg h']

theorem swap4 (x d s o : EReal) : x * d * (s * o) = d * x * s * o := by
  rw [mul_comm x d, mul_assoc (d * x) s o]

theorem refDp (a : Fin 4096) (b : Fin 8192) : (val14 V0 (Proc.devRef .tc main_v660) : Vec Ideal S4096x8192 .bf16) (ix2 a b)
    = if 3072 ≤ b.val ∧ b.val < 6144 then Cert.Tile.dpT (rDu V0) (rDg V0) (fun r j => rP V0 r (3072 + j)) a.val (b.val - 3072)
      else (V0 (Proc.devRef .tc main_arg0) : Vec Ideal S4096x8192 .bf16) (ix2 a b) := by
  rw [val14_main_v660]; pointwise
  have hb := b.isLt
  by_cases h1 : b.val < 3072
  · rw [dif_pos h1]
    exact (if_neg (by omega : ¬(3072 ≤ b.val ∧ b.val < 6144))).symm
  rw [dif_neg h1]
  by_cases h2 : b.val - 3072 < 1024
  · rw [dif_pos h2]
    refine Eq.trans ?_ (if_pos (by omega : 3072 ≤ b.val ∧ b.val < 6144)).symm
    refine Eq.trans ?_ (dpA _ _ _ _ _ h2).symm
    refine congrArg₂ (HMul.hMul (α := EReal) (β := EReal) (γ := EReal)) (du_at V0 a ⟨b.val - 3072, h2⟩) ((at17 V0 a ⟨b.val - 3072, h2⟩).trans ?_)
    exact congrArg (fun j => Ideal.logistic (rP V0 a.val j)) (show 4096 + (b.val - 3072) = 3072 + (1024 + (b.val - 3072)) by omega)
  rw [dif_neg h2]
  by_cases h3 : b.val - 3072 - 1024 < 1024
  · rw [dif_pos h3]
    refine Eq.trans ?_ (if_pos (by omega : 3072 ≤ b.val ∧ b.val < 6144)).symm
    refine Eq.trans ?_ (dpB _ _ _ _ _ h2 (by omega)).symm
    have e17 := (at17 V0 a ⟨b.val - 3072 - 1024, h3⟩).trans (congrArg (fun j => Ideal.logistic (rP V0 a.val j)) (show 4096 + (b.val - 3072 - 1024) = 3072 + (b.val - 3072) by omega))
    refine Eq.trans ?_ (swap4 _ _ _ _)
    exact congrArg₂ (HMul.hMul (α := EReal) (β := EReal) (γ := EReal))
      (congrArg₂ (HMul.hMul (α := EReal) (β := EReal) (γ := EReal)) (at1 V0 a ⟨b.val - 3072 - 1024, h3⟩) (du_at V0 a ⟨b.val - 3072 - 1024, h3⟩))
      (congrArg₂ (HMul.hMul (α := EReal) (β := EReal) (γ := EReal)) e17 (congrArg (fun x : EReal => 1 - x) e17))
  rw [dif_neg h3]
  by_cases h4 : b.val - 3072 - 1024 - 1024 < 1024
  · rw [dif_pos h4]
    refine Eq.trans ?_ (if_pos (by omega : 3072 ≤ b.val ∧ b.val < 6144)).symm
    refine Eq.trans ?_ (dpC _ _ _ _ _ h2 (by omega)).symm
    simp only [at275, at272, at3]
    exact congrArg (rDg V0 a.val) (show b.val - 3072 - 1024 - 1024 = b.val - 3072 - 2048 by omega)
  rw [dif_neg h4]
  refine Eq.trans ?_ (if_neg (by omega : ¬(3072 ≤ b.val ∧ b.val < 6144))).symm
  refine congrArg (V0 (Proc.devRef .tc main_arg0)) ?_
  funext x
  refine Fin.ext ?_
  fin_cases x
  · rfl
  · show 6144 + (b.val - 3072 - 1024 - 1024 - 1024) = b.val
    omega

/-- The rows of column sums, and the weights' gradient above them. -/
def rSg (k l : Nat) : EReal :=
  if k < 31 then rS V0 k l
  else if k = 32 then ∑ r : Fin 4096, dy (rY V0 r.val) (rG V0) (rB V0) (rDA V0 r.val) (rC V0 r.val) l
  else if k = 33 then ∑ r : Fin 4096, nrm (rY V0 r.val) l * dln (rY V0 r.val) (rG V0) (rB V0) (rDA V0 r.val) (rC V0 r.val) l
  else if k = 34 then ∑ r : Fin 4096, dln (rY V0 r.val) (rG V0) (rB V0) (rDA V0 r.val) (rC V0 r.val) l
  else 0

theorem refSg (a : Fin 40) (b : Fin 1024) : (val14 V0 (Proc.devRef .tc main_v666) : Vec Ideal S40x1024 .f32) (ix2 a b) = rSg V0 a.val b.val := by
  rw [val14_main_v666]; pointwise
  have ha := a.isLt
  unfold rSg
  by_cases h1 : a.val < 31
  · rw [dif_pos h1, if_pos h1]
    rw [at638 V0 ⟨a.val, h1⟩ b]
    have e : (if h : a.val < 1 then ∑ x : Fin 1, ∑ r : Fin 4096, HMul.hMul (α := EReal) (β := EReal) (γ := EReal) (res_main_v307 V0 (ix2 r b)) (res_main_v27 V0 (ix2 r b)) else (0 : EReal))
        = if 30 - 30 = a.val then rS V0 (30 - 30) b.val else 0 := by
      by_cases h : a.val < 1
      · rw [dif_pos h, if_pos (by omega), Fin.sum_univ_one]
        exact s0 V0 b
      · rw [dif_neg h, if_neg (by omega)]
    refine (congrArg₂ (HAdd.hAdd (α := EReal) (β := EReal) (γ := EReal)) rfl e).trans ?_
    refine (Finset.sum_range_succ (fun n => if 30 - n = a.val then rS V0 (30 - n) b.val else (0 : EReal)) 30).symm.trans ?_
    rw [Finset.sum_eq_single (30 - a.val)]
    · rw [show 30 - (30 - a.val) = a.val by omega, if_pos rfl]
    · intro n hn hne
      have := Finset.mem_range.mp hn
      rw [if_neg (by omega)]
    · intro hn
      exact absurd (Finset.mem_range.mpr (by omega)) hn
  rw [dif_neg h1, if_neg h1]
  by_cases h2 : a.val - 31 < 1
  · rw [dif_pos h2, if_neg (by omega), if_neg (by omega), if_neg (by omega)]
  rw [dif_neg h2]
  by_cases h3 : a.val - 31 - 1 < 1
  · rw [dif_pos h3, if_pos (by omega), Fin.sum_univ_one]
    exact sumEq _ _ fun r => at307 V0 r b
  rw [dif_neg h3, if_neg (by omega)]
  by_cases h4 : a.val - 31 - 1 - 1 < 1
  · rw [dif_pos h4, if_pos (by omega), Fin.sum_univ_one]
    exact sumEq _ _ fun r => congrArg₂ (HMul.hMul (α := EReal) (β := EReal) (γ := EReal)) (at264 V0 r b) (at278 V0 r b)
  rw [dif_neg h4, if_neg (by omega)]
  by_cases h5 : a.val - 31 - 1 - 1 - 1 < 1
  · rw [dif_pos h5, if_pos (by omega), Fin.sum_univ_one]
    exact sumEq _ _ fun r => at278 V0 r b
  rw [dif_neg h5, if_neg (by omega)]

end Cert.ReferenceIdeal.Value
-- ==== Proof.Match.lean ====
/-
The kernel's two results and the reference's, over the same arguments.
-/
module

public import proofs.«01_k».proof.Proof.Host
public import proofs.«01_k».proof.Proof.Sums
public import proofs.«01_k».proof.Proof.RefOut

@[expose] public section

set_option maxRecDepth 65536
set_option maxHeartbeats 8000000

noncomputable section

namespace Cert.KernelIdeal.Gen

open Idealize.ShloMosaic Idealize.ShloMosaic.TcCoe Idealize.ShloMosaic.Tactic
open Cert.ReferenceIdeal.Value Cert.Rows

variable {m : (ℓ : Loc nD τ sig) → Buf (Elt Ideal) ℓ} {c : Dev nD}
variable {V0 : Valuation ReferenceIdeal.τ ReferenceIdeal.sig (Elt Ideal)} (h : Same m c V0)
include h

theorem arrG_all : arrG m c = rG V0 := by
  funext b
  by_cases hb : b < 1024
  · exact arrG_eq h b hb
  · unfold arrG rG fn2; rw [dif_neg hb, dif_neg (fun x => hb x.2)]

theorem arrB_all : arrB m c = rB V0 := by
  funext b
  by_cases hb : b < 1024
  · exact arrB_eq h b hb
  · unfold arrB rB fn2; rw [dif_neg hb, dif_neg (fun x => hb x.2)]

omit h in
/-- The output gate's columns, counted from the first column. -/
theorem gc_eq (r : Nat) : (fun l => rP V0 r (3072 + (2048 + l))) = rC V0 r := by
  funext l; unfold rC; rw [show 3072 + (2048 + l) = 5120 + l by omega]

omit h in
/-- The gradient at the convolution's output. -/
theorem dyG_eq (r l : Nat) : Whole.dyG (rY V0) (rDA V0) (rP V0) (rG V0) (rB V0) r l = rD V0 r l := by
  unfold Whole.dyG rD; rw [gc_eq]

omit h in
/-- The convolution's input, shifted by two rows less. -/
theorem uG_eq (r l : Nat) : Whole.uG (rP V0) (r + 2) l = rU V0 r l := by
  unfold Whole.uG rU
  by_cases hr : r < 30
  · rw [if_pos hr, if_pos (by omega)]
  · rw [if_neg hr, if_neg (by omega), show r + 2 - 32 = r - 30 by omega]
    show rP V0 (r - 30) (3072 + l) * Ideal.logistic (rP V0 (r - 30) (3072 + (1024 + l))) = _
    rw [show 3072 + (1024 + l) = 4096 + l by omega]

/-- The gradient at the convolution's input. -/
theorem du_eq (r l : Nat) (hr : r < 4096) (hl : l < 1024) :
    tapSum (wide m c) (Whole.dAt (arrY m c) (arrDA m c) (arrP m c) (arrG m c) (arrB m c) (15 - r / 256)) (r % 256) l = rDu V0 r l := by
  rw [arrY_eq h, arrDA_eq h, arrP_eq h, arrG_all h, arrB_all h]
  unfold tapSum rDu
  refine Finset.sum_congr rfl fun n hn => ?_
  have hn' := Finset.mem_range.mp hn
  unfold wide Whole.dAt Whole.rowsAt
  rw [show (8 * n + r % 256 % 8) / 8 = n by omega, arrW_eq h (30 - n) l (by omega) hl, dyG_eq, show 256 * (15 - (15 - r / 256)) + (r % 256 + n) = r + n by omega]

/-- The gradient at the output gate. -/
theorem dg_eq (r l : Nat) (hr : r < 4096) :
    Cert.Tile.gateT (Whole.rowsAt (arrDA m c) (15 - r / 256)) (Whole.rowsAt (arrY m c) (15 - r / 256)) (Whole.colsAt (arrP m c) (15 - r / 256)) (Whole.row1 (arrG m c)) (Whole.row1 (arrB m c)) (r % 256) l
      = rDg V0 r l := by
  rw [arrY_eq h, arrDA_eq h, arrP_eq h, arrG_all h, arrB_all h]
  have e : 256 * (15 - (15 - r / 256)) + r % 256 = r := by omega
  show dgate (rY V0 (256 * (15 - (15 - r / 256)) + r % 256)) (rG V0) (rB V0) (rDA V0 (256 * (15 - (15 - r / 256)) + r % 256)) (fun l => rP V0 (256 * (15 - (15 - r / 256)) + r % 256) (3072 + (2048 + l))) l = _
  rw [e, gc_eq]; rfl

/-- The projection's columns. -/
theorem col_eq (r j : Nat) (hr : r < 4096) : Whole.colsAt (arrP m c) (15 - r / 256) (r % 256) j = rP V0 r (3072 + j) := by
  rw [arrP_eq h]; unfold Whole.colsAt
  rw [show 256 * (15 - (15 - r / 256)) + r % 256 = r by omega]

/-- The projection's gradient. -/
theorem dp_same (r j : Nat) (hr : r < 4096) (hj : j < 3072) :
    dpAt m c (15 - r / 256) (r % 256) j = Cert.Tile.dpT (rDu V0) (rDg V0) (fun r j => rP V0 r (3072 + j)) r j := by
  unfold dpAt Cert.Tile.dpT
  by_cases h1 : j < 1024
  · rw [if_pos h1, if_pos h1, du_eq h r j hr h1, col_eq h r _ hr]
  rw [if_neg h1, if_neg h1]
  by_cases h2 : j < 2048
  · rw [if_pos h2, if_pos h2, du_eq h r (j - 1024) hr (by omega), col_eq h r _ hr, col_eq h r _ hr]
  · rw [if_neg h2, if_neg h2, dg_eq h r _ hr]

/-- The weights' and parameters' gradients. -/
theorem sg_same (k l : Nat) :
    Cert.Tile.sgT (Whole.accD (arrY m c) (arrDA m c) (arrP m c) (arrG m c) (arrB m c) 15) (Whole.accV (arrY m c) (arrDA m c) (arrP m c) (arrG m c) (arrB m c) 15) k l = rSg V0 k l := by
  rw [Whole.sg_all, arrY_eq h, arrDA_eq h, arrP_eq h, arrG_all h, arrB_all h]
  have e : Whole.gcW (rP V0) = rC V0 := by funext r; exact gc_eq r
  unfold Whole.sgAll rSg
  rw [e]
  by_cases h1 : k < 31
  · rw [if_pos h1, if_pos h1]
    unfold rS
    refine Finset.sum_congr rfl fun r _ => ?_
    rw [dyG_eq, show r.val + (2 + k) = r.val + k + 2 by omega, uG_eq]
  · rw [if_neg h1, if_neg h1]

end Cert.KernelIdeal.Gen
-- ==== Proof.Final.lean ====
/-
The two arrays the kernel ends with, as values of its sweep.
-/
module

public import proofs.«01_k».proof.Proof.Sweep

@[expose] public section

set_option maxRecDepth 65536
set_option maxHeartbeats 8000000

noncomputable section

namespace Cert.KernelIdeal.Gen

open Idealize.ShloMosaic Idealize.ShloMosaic.TcCoe Idealize.ShloMosaic.Tactic

variable (m : (ℓ : Loc nD τ sig) → Buf (Elt Ideal) ℓ) (c : Dev nD)

/-- The projection's gradient as it stands on entry is the first argument. -/
theorem entryDp : V m c main_v239_0 = m ((c : Thread nD τ).loc main_arg0) := by unfold V; after_results; try rfl

/-- The projection's gradient: the middle columns are what the grid points write, the others are kept. -/
theorem dpEnd (a : Fin 4096) (b : Fin 8192) : ((dats m 0 c).arrAt 7 cfg0.N : Vec Ideal S4096x8192 .bf16) (ix2 a b) =
    if 3072 ≤ b.val ∧ b.val < 6144 then dpAt m c (15 - a.val / 256) (a.val % 256) (b.val - 3072)
    else (V m c main_v239_0 : Vec Ideal S4096x8192 .bf16) (ix2 a b) := by
  have h := (dats m 0 c).arrAt_eq_of_coversWhere 7 (fun i => dpAt m c (15 - (i 0).val / 256) ((i 0).val % 256) ((i 1).val - 3072))
    (P := fun i => 3072 ≤ (i 1).val ∧ (i 1).val < 6144) (fun β => β 1 = 1) (by decide +kernel) (fun t hf y => by
      have ht : t.val < 16 := t.isLt
      blk_simp [idx t]
      rw [after0_7]
      have h0 : (y 0).val < 256 := ((cfg0.win 7).xinj (grid0.coords t) y 0).isLt
      have h1 : (y 1).val < 3072 := ((cfg0.win 7).xinj (grid0.coords t) y 1).isLt
      have ey : (cfg0.win 7).xinj (cfg0.grid.coords t) y = ix2 ⟨(y 0).val, h0⟩ ⟨(y 1).val, h1⟩ := by
        funext a; fin_cases a <;> rfl
      rw [ey]
      refine (wrote m c t ⟨(y 0).val, h0⟩ ⟨(y 1).val, h1⟩).trans ?_
      have e0 : 15 - ((15 - t.val) * 256 + (y 0).val) / 256 = t.val := by omega
      have e1 : ((15 - t.val) * 256 + (y 0).val) % 256 = (y 0).val := by omega
      have e2 : 3072 + (y 1).val - 3072 = (y 1).val := by omega
      rw [e0, e1, e2])
    (fun j => by blk_simp [Pipeline.Window.cell_apply]; omega)
  refine (congrFun h (ix2 a b)).trans ?_
  rw [A_eq]
  rfl

/-- The row sums: what the last grid point hands on. -/
theorem sgEnd (a : Fin 40) (b : Fin 1024) : ((dats m 0 c).arrAt 8 cfg0.N : Vec Ideal S40x1024 .f32) (ix2 a b)
    = Cert.Tile.sgT (Whole.accD (arrY m c) (arrDA m c) (arrP m c) (arrG m c) (arrB m c) 15) (Whole.accV (arrY m c) (arrDA m c) (arrP m c) (arrG m c) (arrB m c) 15) a.val b.val := by
  obtain ⟨T, hT, hW⟩ : ∃ T : Fin cfg0.N, T.val = 15 ∧ (cfg0.win 8).WholeAt T := ⟨⟨15, by decide⟩, rfl, by decide +kernel⟩
  have h := (dats m 0 c).arrAt_eq_of_after_last 8 T hW (fun j => Cert.Tile.sgT (Whole.accD (arrY m c) (arrDA m c) (arrP m c) (arrG m c) (arrB m c) 15) (Whole.accV (arrY m c) (arrDA m c) (arrP m c) (arrG m c) (arrB m c) 15) (j 0).val (j 1).val) fun j => by
    blk_simp [idx T]
    rw [after0_8]
    have h0 : (j 0).val < 40 := (j 0).isLt
    have h1 : (j 1).val < 1024 := (j 1).isLt
    refine Eq.trans ?_ ((handed m c T hT ⟨(j 0).val, h0⟩ ⟨(j 1).val, h1⟩).trans ?_)
    · refine congrArg _ ?_
      funext a; fin_cases a <;> rfl
    · rfl
  exact congrFun h (ix2 a b)

end Cert.KernelIdeal.Gen
-- ==== Proof.Agree.lean ====
/-
The kernel's results are the reference's, array by array.
-/
module

public import proofs.«01_k».proof.Proof.Match
public import proofs.«01_k».proof.Proof.Final

@[expose] public section

set_option maxRecDepth 65536
set_option maxHeartbeats 8000000

noncomputable section

namespace Cert.KernelIdeal.Gen

open Idealize.ShloMosaic Idealize.ShloMosaic.TcCoe Idealize.ShloMosaic.Tactic
open Cert.ReferenceIdeal.Value

variable {m : (ℓ : Loc nD τ sig) → Buf (Elt Ideal) ℓ} {c : Dev nD}
variable {V0 : Valuation ReferenceIdeal.τ ReferenceIdeal.sig (Elt Ideal)} (h : Same m c V0)
include h

/-- The projection's gradient at an index. -/
theorem dp_at (a : Fin 4096) (b : Fin 8192) :
    (val14 V0 (Proc.devRef .tc ReferenceIdeal.main_v660) : Vec Ideal S4096x8192 .bf16) (ix2 a b) = ((dats m 0 c).arrAt 7 cfg0.N : Vec Ideal S4096x8192 .bf16) (ix2 a b) := by
  refine (refDp V0 a b).trans (Eq.trans ?_ (dpEnd m c a b).symm)
  by_cases hb : 3072 ≤ b.val ∧ b.val < 6144
  · refine (if_pos hb).trans (Eq.trans ?_ (if_pos hb).symm)
    exact (dp_same h a.val (b.val - 3072) a.isLt (by omega)).symm
  · refine (if_neg hb).trans (Eq.trans ?_ (if_neg hb).symm)
    exact (congrFun h.a0 (ix2 a b)).trans (congrFun (entryDp m c).symm (ix2 a b))

/-- The parameters' gradients at an index. -/
theorem sg_at (a : Fin 40) (b : Fin 1024) :
    (val14 V0 (Proc.devRef .tc ReferenceIdeal.main_v666) : Vec Ideal S40x1024 .f32) (ix2 a b) = ((dats m 0 c).arrAt 8 cfg0.N : Vec Ideal S40x1024 .f32) (ix2 a b) :=
  (refSg V0 a b).trans ((sg_same h a.val b.val).symm.trans (sgEnd m c a b).symm)

/-- The first result. -/
theorem dp_all : (val14 V0 (Proc.devRef .tc ReferenceIdeal.main_v660) : Vec Ideal S4096x8192 .bf16) = ((dats m 0 c).arrAt 7 cfg0.N : Vec Ideal S4096x8192 .bf16) := by
  funext i
  have hi : i = ix2 (i 0) (i 1) := by funext a; fin_cases a <;> rfl
  rw [hi]
  exact dp_at h (i 0) (i 1)

/-- The second result. -/
theorem sg_all : (val14 V0 (Proc.devRef .tc ReferenceIdeal.main_v666) : Vec Ideal S40x1024 .f32) = ((dats m 0 c).arrAt 8 cfg0.N : Vec Ideal S40x1024 .f32) := by
  funext i
  have hi : i = ix2 (i 0) (i 1) := by funext a; fin_cases a <;> rfl
  rw [hi]
  exact sg_at h (i 0) (i 1)

end Cert.KernelIdeal.Gen
-- ==== Proof.ClaimAlg.lean ====
/-
The kernel's results are the reference's.
-/
module

public import proofs.«01_k».proof.Defs
public import proofs.«01_k».proof.Proof.RefRun
public import proofs.«01_k».proof.Proof.Agree
public import proofs.«01_k».proof.Proof.Gen.KernelIdeal.Value

@[expose] public section

set_option maxRecDepth 65536

noncomputable section

namespace Cert.Proof

open Idealize.ShloMosaic Idealize.SL.Sem

/-- Memories that agree on the arguments hold the same arguments on a device. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.KernelIdeal.Gen.Same m c (StableHlo.launchContents m' c) := ⟨h0, h1, h2, h3, h4, h5, h6⟩

/-- What the kernel leaves in its two results. -/
def res0 (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v239_0) := (Cert.KernelIdeal.Gen.dats m 0 c).arrAt 7 Cert.KernelIdeal.cfg0.N
def res1 (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v239_1) := (Cert.KernelIdeal.Gen.dats m 0 c).arrAt 8 Cert.KernelIdeal.cfg0.N

/-- The kernel's two results are the reference's. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨res0 m, res1 m, Cert.KernelIdeal.Value.run_blocks (F := Ideal) m ρ, ?_⟩
  refine (θ_run Cert.ReferenceIdeal.defs _ _).mono (fun r h c => ?_) (Cert.ReferenceIdeal.Value.run_ends (F := Ideal) m' ρ')
  obtain ⟨h0, h1, h2, h3, h4, h5, h6⟩ := hagree c
  have hs := same m m' c h0 h1 h2 h3 h4 h5 h6
  exact ⟨(h c).r0.trans (Cert.KernelIdeal.Gen.dp_all hs), (h c).r1.trans (Cert.KernelIdeal.Gen.sg_all hs),
    (h c).a0, (h c).a1, (h c).a2, (h c).a3, (h c).a4, (h c).a5, (h c).a6⟩

end Cert.Proof
-- ==== Proof.GradCase.lean ====
/-
The gradient of the projection's weights: what a grid point leaves in the accumulator and in the block.
-/
module

public import proofs.«01_k».proof.Proof.Gen.GradKernelIdeal.Value
public import Idealize.ShloMosaic.Lib.Tactic

@[expose] public section

set_option maxRecDepth 65536
set_option maxHeartbeats 8000000

noncomputable section

namespace Cert.GradKernelIdeal.Gen

open Idealize.ShloMosaic Idealize.ShloMosaic.TcCoe Idealize.ShloMosaic.Tactic

variable {F : FTy → Type} [FloatOps F]

theorem z2 : (![0, 0] : Fin 2 → Nat) = fun _ => 0 := funext fun a => by fin_cases a <;> rfl
theorem z3 : (![0, 0, 0] : Fin 3 → Nat) = fun _ => 0 := funext fun a => by fin_cases a <;> rfl

/-- At the first half of the rows the accumulator takes the product of the blocks, added to zero. -/
theorem first (c : Dev nD) (i : grid0.Coords) (a2 : Memref sig .tc .vmem S2048x1024 .bf16) (h2 : a2.IsWhole) (a3 : Memref sig .tc .vmem S2048x2048 .bf16) (h3 : a3.IsWhole)
    (a4 : Memref sig .tc .vmem S1x1024x2048 .bf16) (h4 : a4.IsWhole) (a5 : Memref sig .tc .vmem S1024x2048 .f32) (h5 : a5.IsWhole) (hc0 : cond0_0 i) (hc1 : ¬cond0_1 i)
    (x0 : Vec F S2048x1024 .bf16) (x1 : Vec F S2048x2048 .bf16) :
    sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x2048) z2, View.readCov_unit_zero (S := S1024x2048) _ z2]
  simp only [View.readAt_eq_ld, h2.read_unread, h3.read_unread, View.ld_unit_zero (S := S2048x1024) z2, View.ld_unit_zero (S := S2048x2048) z2]

/-- At the second half the block takes the accumulator with that half's product added. -/
theorem second (c : Dev nD) (i : grid0.Coords) (a2 : Memref sig .tc .vmem S2048x1024 .bf16) (h2 : a2.IsWhole) (a3 : Memref sig .tc .vmem S2048x2048 .bf16) (h3 : a3.IsWhole)
    (a4 : Memref sig .tc .vmem S1x1024x2048 .bf16) (h4 : a4.IsWhole) (a5 : Memref sig .tc .vmem S1024x2048 .f32) (h5 : a5.IsWhole) (hc0 : ¬cond0_0 i) (hc1 : cond0_1 i)
    (x0 : Vec F S2048x1024 .bf16) (x1 : Vec F S2048x2048 .bf16) (xs : Vec F S1024x2048 .f32) :
    out0_B_2 c i a2 h2 a3 h3 a4 h4 a5 h5 hc0 hc1 x0 x1 xs = k0_pay3 (k0_pay2 xs x0 x1) := by
  unfold out0_B_2
  rw [View.read_writes_eq_canon _ _ _ (cover0_B_2 c i a2 h2 a3 h3 a4 h4 a5 h5 hc0 hc1 x0 x1 xs)]
  unfold kernelRun0_B
  dsimp only
  sl_unfold_words
  rw [View.canon_unit_zero z3, View.readCov_unit_zero (S := S1024x2048) _ z2]
  simp only [View.readAt_eq_ld, h2.read_unread, h3.read_unread, h5.read_unread, View.ld_unit_zero (S := S2048x1024) z2, View.ld_unit_zero (S := S2048x2048) z2, View.ld_unit_zero (S := S1024x2048) z2]

end Cert.GradKernelIdeal.Gen
-- ==== Proof.GradBlk.lean ====
/-
The gradient of the projection's weights: the blocks the grid points work on, and the products of a block.
-/
module

public import proofs.«01_k».proof.Proof.Gen.GradKernelIdeal.Value
public import Idealize.ShloMosaic.Lib.Tactic
public import Idealize.ShloMosaic.Lib.Pointwise
public import Idealize.ShloMosaic.Lib.Pipeline.ValueKit

@[expose] public section

set_option maxRecDepth 65536
set_option maxHeartbeats 8000000

noncomputable section

namespace Cert.GradKernelIdeal.Gen

open Idealize.ShloMosaic Idealize.ShloMosaic.TcCoe Idealize.ShloMosaic.Tactic

/-- Point `t` works on half `t % 2` of the rows and column block `t / 2`. -/
theorem idx : ∀ t : Fin cfg0.N, win0_0.index t = ![t.val % 2, 0] ∧ win0_1.index t = ![t.val % 2, t.val / 2] :=
  (by decide +kernel : ∀ t : Fin grid0.N, _)

variable (m : (ℓ : Loc nD τ sig) → Buf (Elt Ideal) ℓ)

theorem blockH (c : Dev nD) (t : Fin cfg0.N) (a : Fin 2048) (b : Fin 1024) :
    iblk m c 0 t (ix2 a b) = V m c (Pipeline.arrRef spec0 0) (ix2 (⟨2048 * (t.val % 2) + a.val, by omega⟩ : Fin 4096) b) := by
  have ht : t.val < 8 := t.isLt
  blk_ext [iblk, idx t]

theorem blockD (c : Dev nD) (t : Fin cfg0.N) (a : Fin 2048) (b : Fin 2048) :
    iblk m c 1 t (ix2 a b) = V m c (Pipeline.arrRef spec0 1) (ix2 (⟨2048 * (t.val % 2) + a.val, by omega⟩ : Fin 4096) (⟨2048 * (t.val / 2) + b.val, by have ht : t.val < 8 := t.isLt; omega⟩ : Fin 8192)) := by
  have ht : t.val < 8 := t.isLt
  blk_ext [iblk, idx t]

/-- The product of two blocks added to what is there, at an index. -/
theorem add_at (xs : Vec Ideal S1024x2048 .f32) (x0 : Vec Ideal S2048x1024 .bf16) (x1 : Vec Ideal S2048x2048 .bf16) (a : Fin 1024) (b : Fin 2048) :
    k0_pay2 xs x0 x1 (ix2 a b) = xs (ix2 a b) + ∑ r : Fin 2048, x0 (ix2 r a) * x1 (ix2 r b) := by
  unfold k0_pay2; pointwise

theorem zero_at (a : Fin 1024) (b : Fin 2048) : k0_pay1 (F := Ideal) (ix2 a b) = (0 : EReal) := by
  unfold k0_pay1; pointwise

theorem out_at (x : Vec Ideal S1024x2048 .f32) (q : Fin 1) (a : Fin 1024) (b : Fin 2048) : k0_pay3 x (ix3 q a b) = x (ix2 a b) := by
  unfold k0_pay3; pointwise

end Cert.GradKernelIdeal.Gen
-- ==== Proof.Norm.lean ====
/-
The root-mean-square norm of a row over the extended reals.
-/
module

public import Idealize.ShloMosaic.PureOps.Ideal

@[expose] public section

noncomputable section

namespace Cert.Norm

open Idealize.ShloMosaic

/-- Element `b` of the row `x`, divided by the root of the mean square and multiplied by the weight `g`. -/
def hrow (x : Fin 1024 → EReal) (g : EReal) (b : Fin 1024) : EReal :=
  x b * Ideal.rsqrt (Ideal.div (∑ l : Fin 1024, x l * x l) (Ideal.ofBits .f32 0x44800000#32) + Ideal.ofBits .f32 0x358637BD#32) * g

end Cert.Norm
-- ==== Proof.GradOut.lean ====
/-
The gradient of the projection's weights: the array the call leaves, as sums over all rows.
-/
module

public import proofs.«01_k».proof.Proof.GradCase
public import proofs.«01_k».proof.Proof.GradBlk
public import proofs.«01_k».proof.Proof.Norm

@[expose] public section

set_option maxRecDepth 65536
set_option maxHeartbeats 8000000

noncomputable section

namespace Cert.GradKernelIdeal.Gen

open Idealize.ShloMosaic Idealize.ShloMosaic.TcCoe Idealize.ShloMosaic.Tactic

variable (m : (ℓ : Loc nD τ sig) → Buf (Elt Ideal) ℓ)

/-- A sum over all rows is that over the first half and that over the second. -/
theorem halves (f : Fin 4096 → EReal) :
    ∑ r : Fin 4096, f r = (∑ r : Fin 2048, f ⟨r.val, by omega⟩) + ∑ r : Fin 2048, f ⟨2048 + r.val, by omega⟩ :=
  Fin.sum_univ_add (a := 2048) (b := 2048) f

/-- The two operands of the call. -/
def arrH (c : Dev nD) : Vec Ideal S4096x1024 .bf16 := V m c (Pipeline.arrRef spec0 0)
def arrD (c : Dev nD) : Vec Ideal S4096x8192 .bf16 := V m c (Pipeline.arrRef spec0 1)

/-- What the accumulator holds after the first half of column block `j`. -/
theorem acc_at (c : Dev nD) (j : Fin 4) (h : 2 * j.val < cfg0.N) (a : Fin 1024) (b : Fin 2048) :
    (outsAt0 m c (2 * j.val) h).2 (ix2 a b)
      = ∑ r : Fin 2048, arrH m c (ix2 (⟨r.val, by omega⟩ : Fin 4096) a) * arrD m c (ix2 (⟨r.val, by omega⟩ : Fin 4096) (⟨2048 * j.val + b.val, by omega⟩ : Fin 8192)) := by
  have e := outsAt0_A m c ⟨2 * j.val, h⟩ (by show 2 * j.val % 2 = 0; omega) (by show ¬ 2 * j.val % 2 = 1; omega)
  rw [e]
  dsimp only
  rw [first, add_at, zero_at, zero_add]
  refine Finset.sum_congr rfl fun r _ => ?_
  rw [blockH, blockD]
  refine congrArg₂ (· * ·) (congrArg (fun z : Fin 4096 => arrH m c (ix2 z a)) (Fin.ext ?_))
    (congrArg₂ (fun (z : Fin 4096) (y : Fin 8192) => arrD m c (ix2 z y)) (Fin.ext ?_) (Fin.ext ?_))
  · show 2048 * (2 * j.val % 2) + r.val = r.val; omega
  · show 2048 * (2 * j.val % 2) + r.val = r.val; omega
  · show 2048 * (2 * j.val / 2) + b.val = 2048 * j.val + b.val; omega

/-- What the block holds after the second half. -/
theorem blk_at (c : Dev nD) (j : Fin 4) (h : 2 * j.val + 1 < cfg0.N) (q : Fin 1) (a : Fin 1024) (b : Fin 2048) :
    (outsAt0 m c (2 * j.val + 1) h).1 (ix3 q a b)
      = ∑ r : Fin 4096, arrH m c (ix2 r a) * arrD m c (ix2 r (⟨2048 * j.val + b.val, by omega⟩ : Fin 8192)) := by
  have e := outsAt0_B m c ⟨2 * j.val + 1, h⟩ (by show ¬ (2 * j.val + 1) % 2 = 0; omega) (by show (2 * j.val + 1) % 2 = 1; omega)
  rw [e]
  dsimp only
  rw [second, out_at, add_at, halves]
  refine congrArg₂ (· + ·) (acc_at m c j _ a b) (Finset.sum_congr rfl fun r _ => ?_)
  rw [blockH, blockD]
  refine congrArg₂ (· * ·) (congrArg (fun z : Fin 4096 => arrH m c (ix2 z a)) (Fin.ext ?_))
    (congrArg₂ (fun (z : Fin 4096) (y : Fin 8192) => arrD m c (ix2 z y)) (Fin.ext ?_) (Fin.ext ?_))
  · show 2048 * ((2 * j.val + 1) % 2) + r.val = 2048 + r.val; omega
  · show 2048 * ((2 * j.val + 1) % 2) + r.val = 2048 + r.val; omega
  · show 2048 * ((2 * j.val + 1) / 2) + b.val = 2048 * j.val + b.val; omega

/-- The call's result at an index. -/
theorem out_all (c : Dev nD) (j : Fin 4) (a : Fin 1024) (b : Fin 2048) :
    (Value.G2 m c : Vec Ideal S4x1024x2048 .bf16) (ix3 j a b)
      = ∑ r : Fin 4096, arrH m c (ix2 r a) * arrD m c (ix2 r (⟨2048 * j.val + b.val, by omega⟩ : Fin 8192)) := by
  have hp : Value.pt2Of (ix3 j a b) = 2 * j.val + 1 := by
    show 2 * (1 * (j.val / 1 - 0) + 1 * (a.val / 1024 - 0) + 1 * (b.val / 2048 - 0)) + 1 = _; omega
  have hN : 2 * j.val + 1 < cfg0.N := by rw [show cfg0.N = 8 from N_0]; omega
  have hl : Value.loc2Of (ix3 j a b) = ix3 (0 : Fin 1) a b := by
    funext x; apply Fin.ext
    match x with
    | ⟨0, _⟩ => show j.val % 1 = 0; omega
    | ⟨1, _⟩ => show a.val % 1024 = a.val; omega
    | ⟨2, _⟩ => show b.val % 2048 = b.val; omega
  unfold Value.G2
  rw [dif_pos (by rw [hp]; exact hN), hl, Value.fold0_congr m c _ _ _ (by omega) hp, ← Value.outsAt0_sweep m c _ hN]
  exact blk_at m c j hN 0 a b

/-- The normed rows, which the host computes. -/
theorem h_at (c : Dev nD) (r : Fin 4096) (a : Fin 1024) :
    arrH m c (ix2 r a) = Norm.hrow (fun l => (m (c, Proc.devRef .tc main_arg0) : Vec Ideal S4096x1024 .f32) (ix2 r l)) ((m (c, Proc.devRef .tc main_arg1) : Vec Ideal S4x1024 .f32) (ix2 (3 : Fin 4) a)) a := by
  unfold Norm.hrow arrH
  show V m c main_v15 (ix2 r a) = _
  unfold V; after_results; pointwise

theorem d_eq (c : Dev nD) : arrD m c = m (c, Proc.devRef .tc main_arg2) := by
  show V m c main_arg2 = _
  unfold V; after_results

end Cert.GradKernelIdeal.Gen
-- ==== Proof.GradRef.lean ====
/-
The gradient of the projection's weights: the reference's run and its result at an index.
-/
module

public import proofs.«01_k».proof.Proof.Norm
public import proofs.«01_k».proof.Proof.Gen.GradReferenceIdeal.Run
public import Idealize.ShloMosaic.Lib.Tactic
public import Idealize.ShloMosaic.Lib.Pointwise
public import Idealize.ShloMosaic.Lib.Pipeline.ValueKit

@[expose] public section

set_option maxRecDepth 65536
set_option maxHeartbeats 8000000

noncomputable section

namespace Cert.GradReferenceIdeal.Value

open Cert.GradReferenceIdeal.Gen Idealize.ShloMosaic Idealize.ShloMosaic.TcCoe Idealize.ShloMosaic.Tactic Idealize.ShloMosaic.StableHlo Idealize.SL.Sem

variable (m : (ℓ : Loc nD τ sig) → Buf (Elt Ideal) ℓ)

/-- The result as the operations leave it. -/
def res (c : Dev nD) : Vec Ideal S4x1024x2048 .bf16 := after (ops (F := Ideal)) (launchContents m c) (Proc.devRef .tc main_v22)

/-- A device's result and its arguments at the end. -/
structure Ends (mem : (ℓ : Loc nD τ sig) → Buf (Elt Ideal) ℓ) (c : Dev nD) : Prop where
  r0 : mem ((c.tc : Thread nD τ).loc main_v22) = res m c
  a0 : mem ((c.tc : Thread nD τ).loc main_arg0) = m ((c.tc : Thread nD τ).loc main_arg0)
  a1 : mem ((c.tc : Thread nD τ).loc main_arg1) = m ((c.tc : Thread nD τ).loc main_arg1)
  a2 : mem ((c.tc : Thread nD τ).loc main_arg2) = m ((c.tc : Thread nD τ).loc main_arg2)

/-- The reference runs and ends so. -/
theorem run_ends (ρ : Dev nD → PrngReg) : θ_run defs (onTc (τ := τ) (main (F := Ideal))) ⟨m, fun _ => 0, ρ⟩ fun r => ∀ c : Dev nD, Ends m r.2.mem c :=
  (θ_run defs _ _).mono (fun _ h c => ⟨h c main_v22, (h c main_arg0).trans (by after_results), (h c main_arg1).trans (by after_results), (h c main_arg2).trans (by after_results)⟩)
    (run_seq scopedRefs_eq scopedSems_eq defs main (fun _ => ops) main_eq (fun _ => ops_sub) m ρ)

/-- The array of the projection's gradient, with its type. -/
def argD (c : Dev nD) : Vec Ideal S4096x8192 .bf16 := m (c, Proc.devRef .tc main_arg2)

/-- The result at an index. -/
theorem res_at (c : Dev nD) (j : Fin 4) (a : Fin 1024) (b : Fin 2048) :
    res m c (ix3 j a b) = ∑ r : Fin 4096, (argD m c (ix2 r (⟨j.val * 2048 + b.val, by omega⟩ : Fin 8192)) : EReal)
      * Norm.hrow (fun l => (m (c, Proc.devRef .tc main_arg0) : Vec Ideal S4096x1024 .f32) (ix2 r l)) ((m (c, Proc.devRef .tc main_arg1) : Vec Ideal S4x1024 .f32) (ix2 (3 : Fin 4) a)) a := by
  unfold res argD Norm.hrow; after_results; pointwise

end Cert.GradReferenceIdeal.Value
-- ==== Proof.GradClaim.lean ====
/-
The claims about the gradient of the projection's weights.
-/
module

public import proofs.«01_k».proof.Defs
public import proofs.«01_k».proof.Proof.GradOut
public import proofs.«01_k».proof.Proof.GradRef
public import proofs.«01_k».proof.Proof.Gen.GradKernel.Frame
public import proofs.«01_k».proof.Proof.Gen.GradReferenceIdeal

@[expose] public section

set_option maxRecDepth 65536

noncomputable section

namespace Cert.Proof

open Idealize.ShloMosaic Idealize.SL.Sem

/-- The kernel keeps its arguments and leaves every counter at zero. -/
theorem frame_gp : Cert.quiescent_GradKernel (hGradKernel := Cert.GradKernel.Gen.facts) := fun m ρ _ => Cert.GradKernel.Gen.frame m ρ

/-- The same over the extended reals. -/
theorem frame_gpi : Cert.quiescent_GradKernelIdeal (hGradKernelIdeal := Cert.GradKernelIdeal.Gen.facts) := fun m ρ _ => Cert.GradKernelIdeal.Gen.frame m ρ

/-- The reference keeps its arguments; it declares no semaphore. -/
theorem frame_gri : Cert.quiescent_GradReferenceIdeal (hGradReferenceIdeal := Cert.GradReferenceIdeal.Gen.facts) := fun m ρ _ =>
  (θ_run Cert.GradReferenceIdeal.defs _ _).mono
    (fun r h => ⟨fun c => ⟨(h c).a0, (h c).a1, (h c).a2⟩, sem_eq_zero_of_no_sems (by decide) r.2⟩)
    (Cert.GradReferenceIdeal.Value.run_ends m ρ)

/-- On memories that agree on the arguments the reference's result is the kernel's. -/
theorem grad_eq (m : (ℓ : Loc Cert.GradKernelIdeal.nD Cert.GradKernelIdeal.τ Cert.GradKernelIdeal.sig) → Buf (Elt Ideal) ℓ)
    (m' : (ℓ : Loc Cert.GradReferenceIdeal.nD Cert.GradReferenceIdeal.τ Cert.GradReferenceIdeal.sig) → Buf (Elt Ideal) ℓ) (c : Dev Cert.GradKernelIdeal.nD)
    (h0 : m' ((c.tc : Thread Cert.GradReferenceIdeal.nD Cert.GradReferenceIdeal.τ).loc Cert.GradReferenceIdeal.main_arg0) = m ((c.tc : Thread Cert.GradKernelIdeal.nD Cert.GradKernelIdeal.τ).loc Cert.GradKernelIdeal.main_arg0))
    (h1 : m' ((c.tc : Thread Cert.GradReferenceIdeal.nD Cert.GradReferenceIdeal.τ).loc Cert.GradReferenceIdeal.main_arg1) = m ((c.tc : Thread Cert.GradKernelIdeal.nD Cert.GradKernelIdeal.τ).loc Cert.GradKernelIdeal.main_arg1))
    (h2 : m' ((c.tc : Thread Cert.GradReferenceIdeal.nD Cert.GradReferenceIdeal.τ).loc Cert.GradReferenceIdeal.main_arg2) = m ((c.tc : Thread Cert.GradKernelIdeal.nD Cert.GradKernelIdeal.τ).loc Cert.GradKernelIdeal.main_arg2)) :
    Cert.GradReferenceIdeal.Value.res m' c = Cert.GradKernelIdeal.Value.G2 m c := by
  funext i
  obtain ⟨j, a, b, rfl⟩ : ∃ (j : Fin 4) (a : Fin 1024) (b : Fin 2048), i = ix3 j a b := ⟨i 0, i 1, i 2, by funext z; fin_cases z <;> rfl⟩
  refine (Cert.GradReferenceIdeal.Value.res_at m' c j a b).trans (Eq.trans ?_ (Cert.GradKernelIdeal.Gen.out_all m c j a b).symm)
  refine Finset.sum_congr rfl fun r _ => ?_
  rw [Cert.GradKernelIdeal.Gen.h_at, Cert.GradKernelIdeal.Gen.d_eq, mul_comm]
  refine congrArg₂ (· * ·) ?_ ?_
  · exact congrArg₂ (fun (x : Vec Ideal Cert.GradKernelIdeal.S4096x1024 .f32) (g : Vec Ideal Cert.GradKernelIdeal.S4x1024 .f32) => Norm.hrow (fun l => x (ix2 r l)) (g (ix2 (3 : Fin 4) a)) a) h0 h1
  · refine (congrFun h2 _).trans ?_
    exact congrArg (fun z : Fin 8192 => (m (c, Proc.devRef .tc Cert.GradKernelIdeal.main_arg2) : Vec Ideal Cert.GradKernelIdeal.S4096x8192 .bf16) (ix2 r z)) (Fin.ext (by show j.val * 2048 + b.val = 2048 * j.val + b.val; omega))

/-- The kernel's result is the reference's. -/
theorem algebraic_g : Cert.algebraic_GradKernelIdeal_GradReferenceIdeal (hGradKernelIdeal := Cert.GradKernelIdeal.Gen.facts) (hGradReferenceIdeal := Cert.GradReferenceIdeal.Gen.facts) := by
  intro m ρ m' ρ' _ hagree
  refine ⟨fun c => Cert.GradKernelIdeal.Value.G2 m c, Cert.GradKernelIdeal.Value.run (F := Ideal) m ρ, ?_⟩
  refine (θ_run Cert.GradReferenceIdeal.defs _ _).mono (fun r h c => ?_) (Cert.GradReferenceIdeal.Value.run_ends m' ρ')
  obtain ⟨h0, h1, h2⟩ := hagree c
  exact ⟨(h c).r0.trans (grad_eq m m' c h0 h1 h2), (h c).a0, (h c).a1, (h c).a2⟩

end Cert.Proof
-- ==== Proof.ProjBlk.lean ====
/-
The norm and the input projection: the blocks the grid points work on, and what a point computes.
-/
module

public import proofs.«01_k».proof.Proof.Norm
public import proofs.«01_k».proof.Proof.Gen.ProjKernelIdeal.Value
public import Idealize.ShloMosaic.Lib.Tactic
public import Idealize.ShloMosaic.Lib.Pointwise
public import Idealize.ShloMosaic.Lib.Pipeline.ValueKit

@[expose] public section

set_option maxRecDepth 65536
set_option maxHeartbeats 8000000

noncomputable section

namespace Cert.ProjKernelIdeal.Gen

open Idealize.ShloMosaic Idealize.ShloMosaic.TcCoe Idealize.ShloMosaic.Tactic

/-- Point `t` works on the rows of block `t`; the norm's weights are layer 3's; the projection's weights are whole. -/
theorem idx : ∀ t : Fin cfg0.N, win0_0.index t = ![t.val, 0] ∧ win0_1.index t = ![3, 0, 0] ∧ win0_2.index t = ![0, 0, 0]
    ∧ win0_3.index t = ![t.val, 0] ∧ win0_4.index t = ![t.val, 0] :=
  (by decide +kernel : ∀ t : Fin grid0.N, _)

variable (m : (ℓ : Loc nD τ sig) → Buf (Elt Ideal) ℓ)

theorem blockX (c : Dev nD) (t : Fin cfg0.N) (a : Fin 512) (b : Fin 1024) :
    iblk m c 0 t (ix2 a b) = V m c (Pipeline.arrRef spec0 0) (ix2 (⟨512 * t.val + a.val, by have ht : t.val < 8 := t.isLt; omega⟩ : Fin 4096) b) := by
  have ht : t.val < 8 := t.isLt
  blk_ext [iblk, idx t]

theorem blockG (c : Dev nD) (t : Fin cfg0.N) (p q : Fin 1) (b : Fin 1024) :
    iblk m c 1 t (ix3 p q b) = V m c (Pipeline.arrRef spec0 1) (ix3 (3 : Fin 4) (0 : Fin 1) b) := by
  blk_ext [iblk, idx t]

theorem blockW (c : Dev nD) (t : Fin cfg0.N) (j : Fin 4) (a : Fin 1024) (b : Fin 2048) :
    iblk m c 2 t (ix3 j a b) = V m c (Pipeline.arrRef spec0 2) (ix3 j a b) := by
  blk_ext [iblk, idx t]

/-- The norm, at an index. -/
theorem h_at (x : Vec Ideal S512x1024 .f32) (g : Vec Ideal S1x1x1024 .f32) (a : Fin 512) (b : Fin 1024) :
    k0_pay3 x g (ix2 a b) = Norm.hrow (fun l => x (ix2 a l)) (g (ix3 (0 : Fin 1) (0 : Fin 1) b)) b := by
  unfold k0_pay3 Norm.hrow; pointwise

theorem p_at0 (x : Vec Ideal S512x1024 .f32) (g : Vec Ideal S1x1x1024 .f32) (w : Vec Ideal S1x1024x2048 .bf16) (a : Fin 512) (b : Fin 2048) :
    k0_pay4 x g w (ix2 a b) = ∑ k : Fin 1024, k0_pay3 x g (ix2 a k) * w (ix3 (0 : Fin 1) k b) := by
  unfold k0_pay4; pointwise
theorem p_at1 (x : Vec Ideal S512x1024 .f32) (g : Vec Ideal S1x1x1024 .f32) (w : Vec Ideal S1x1024x2048 .bf16) (a : Fin 512) (b : Fin 2048) :
    k0_pay5 x g w (ix2 a b) = ∑ k : Fin 1024, k0_pay3 x g (ix2 a k) * w (ix3 (0 : Fin 1) k b) := by
  unfold k0_pay5; pointwise
theorem p_at2 (x : Vec Ideal S512x1024 .f32) (g : Vec Ideal S1x1x1024 .f32) (w : Vec Ideal S1x1024x2048 .bf16) (a : Fin 512) (b : Fin 2048) :
    k0_pay1 (k0_pay6 x g w) (ix2 a b) = ∑ k : Fin 1024, k0_pay3 x g (ix2 a k) * w (ix3 (0 : Fin 1) k b) := by
  unfold k0_pay1 k0_pay6; pointwise
theorem p_at3 (h : Vec Ideal S512x1024 .bf16) (w : Vec Ideal S1x1024x2048 .bf16) (a : Fin 512) (b : Fin 2048) :
    k0_pay2 h w (ix2 a b) = ∑ k : Fin 1024, h (ix2 a k) * w (ix3 (0 : Fin 1) k b) := by
  unfold k0_pay2; pointwise

end Cert.ProjKernelIdeal.Gen
-- ==== Proof.ProjOut.lean ====
/-
The norm and the input projection: the two arrays the call leaves, at an index.
-/
module

public import proofs.«01_k».proof.Proof.ProjBlk

@[expose] public section

set_option maxRecDepth 65536
set_option maxHeartbeats 8000000

noncomputable section

namespace Cert.ProjKernelIdeal.Gen

open Idealize.ShloMosaic Idealize.ShloMosaic.TcCoe Idealize.ShloMosaic.Tactic

/-- Row `a` of the product of the normed rows with the weights, at column `b`. The weights come as four blocks of columns. -/
def prod (x : Vec Ideal S512x1024 .f32) (g : Vec Ideal S1x1x1024 .f32) (w : Vec Ideal S4x1024x2048 .bf16) (a b : ℕ) : EReal :=
  if h : a < 512 ∧ b < 8192 then
    ∑ k : Fin 1024, k0_pay3 x g (ix2 (⟨a, h.1⟩ : Fin 512) k) * w (ix3 (⟨b / 2048, by omega⟩ : Fin 4) k (⟨b % 2048, by omega⟩ : Fin 2048))
  else 0

theorem prod_at (x : Vec Ideal S512x1024 .f32) (g : Vec Ideal S1x1x1024 .f32) (w : Vec Ideal S4x1024x2048 .bf16) (v : Vec Ideal S1x1024x2048 .bf16)
    (a : Fin 512) (b : Fin 2048) (j : Fin 4) (hv : ∀ k : Fin 1024, v (ix3 (0 : Fin 1) k b) = w (ix3 j k b)) (a' b' : ℕ)
    (ha : a' = a.val) (hb : b' = 2048 * j.val + b.val) :
    ∑ k : Fin 1024, k0_pay3 x g (ix2 a k) * v (ix3 (0 : Fin 1) k b) = prod x g w a' b' := by
  subst ha hb
  unfold prod
  rw [dif_pos ⟨a.isLt, by omega⟩]
  refine Finset.sum_congr rfl fun k _ => ?_
  rw [hv]
  refine congrArg (k0_pay3 x g (ix2 a k) * ·) (congrArg₂ (fun (p : Fin 4) (q : Fin 2048) => w (ix3 p k q)) (Fin.ext ?_) (Fin.ext ?_))
  · show j.val = (2048 * j.val + b.val) / 2048; omega
  · show b.val = (2048 * j.val + b.val) % 2048; omega

theorem z2 : (![0, 0] : Fin 2 → Nat) = fun _ => 0 := by funext a; fin_cases a <;> rfl
theorem z3 : (![0, 0, 0] : Fin 3 → Nat) = fun _ => 0 := by funext a; fin_cases a <;> rfl

/-- The block of the projection a point leaves. -/
theorem out3_at (x : Vec Ideal S512x1024 .f32) (g : Vec Ideal S1x1x1024 .f32) (w : Vec Ideal S4x1024x2048 .bf16) (y : S512x8192.Idx) :
    out0_3 x g w y = prod x g w (y 0).val (y 1).val := by
  unfold out0_3
  rw [View.ld_unit_zero (S := S512x1024) z2, View.ld_unit_zero (S := S1x1x1024) z3]
  refine View.canon_apply_of_pieces (Val := Elt Ideal) (e := .bf16) (fun y => prod x g w (y 0).val (y 1).val) _ ?_ y (cover0_3 _ _ _ _ y)
  intro pc hpc
  rcases List.mem_cons.mp hpc with rfl | hpc
  · intro i
    obtain ⟨a, b, rfl⟩ : ∃ (a : Fin 512) (b : Fin 2048), i = ix2 a b := ⟨i 0, i 1, by funext z; fin_cases z <;> rfl⟩
    refine (p_at3 _ _ a b).trans (prod_at x g w _ a b 3 (fun k => congrArg w ?_) _ _ ?_ ?_)
    · funext z; fin_cases z <;> apply Fin.ext
      · rfl
      · show 0 + 1 * k.val = k.val; omega
      · show 0 + 1 * b.val = b.val; omega
    · show 0 + 1 * a.val = a.val; omega
    · show 6144 + 1 * b.val = 2048 * 3 + b.val; omega
  rcases List.mem_cons.mp hpc with rfl | hpc
  · intro i
    obtain ⟨a, b, rfl⟩ : ∃ (a : Fin 512) (b : Fin 2048), i = ix2 a b := ⟨i 0, i 1, by funext z; fin_cases z <;> rfl⟩
    refine (p_at2 _ _ _ a b).trans (prod_at x g w _ a b 2 (fun k => congrArg w ?_) _ _ ?_ ?_)
    · funext z; fin_cases z <;> apply Fin.ext
      · rfl
      · show 0 + 1 * k.val = k.val; omega
      · show 0 + 1 * b.val = b.val; omega
    · show 0 + 1 * a.val = a.val; omega
    · show 4096 + 1 * b.val = 2048 * 2 + b.val; omega
  rcases List.mem_cons.mp hpc with rfl | hpc
  · intro i
    obtain ⟨a, b, rfl⟩ : ∃ (a : Fin 512) (b : Fin 2048), i = ix2 a b := ⟨i 0, i 1, by funext z; fin_cases z <;> rfl⟩
    refine (p_at1 _ _ _ a b).trans (prod_at x g w _ a b 1 (fun k => congrArg w ?_) _ _ ?_ ?_)
    · funext z; fin_cases z <;> apply Fin.ext
      · rfl
      · show 0 + 1 * k.val = k.val; omega
      · show 0 + 1 * b.val = b.val; omega
    · show 0 + 1 * a.val = a.val; omega
    · show 2048 + 1 * b.val = 2048 * 1 + b.val; omega
  rcases List.mem_cons.mp hpc with rfl | hpc
  · intro i
    obtain ⟨a, b, rfl⟩ : ∃ (a : Fin 512) (b : Fin 2048), i = ix2 a b := ⟨i 0, i 1, by funext z; fin_cases z <;> rfl⟩
    refine (p_at0 _ _ _ a b).trans (prod_at x g w _ a b 0 (fun k => congrArg w ?_) _ _ ?_ ?_)
    · funext z; fin_cases z <;> apply Fin.ext
      · rfl
      · show 0 + 1 * k.val = k.val; omega
      · show 0 + 1 * b.val = b.val; omega
    · show 0 + 1 * a.val = a.val; omega
    · show 0 + 1 * b.val = 2048 * 0 + b.val; omega
  nomatch hpc

/-- The block of the normed rows a point leaves. -/
theorem out4_at (x : Vec Ideal S512x1024 .f32) (g : Vec Ideal S1x1x1024 .f32) (w : Vec Ideal S4x1024x2048 .bf16) :
    out0_4 x g w = k0_pay3 x g := by
  unfold out0_4
  rw [View.ld_unit_zero (S := S512x1024) z2, View.ld_unit_zero (S := S1x1x1024) z3, View.canon_unit_zero (S := S512x1024) z2]

variable (m : (ℓ : Loc nD τ sig) → Buf (Elt Ideal) ℓ)

/-- The arguments. -/
def argX (c : Dev nD) : Vec Ideal S4096x1024 .f32 := m (c, Proc.devRef .tc main_arg0)
def argG (c : Dev nD) : Vec Ideal S4x1024 .f32 := m (c, Proc.devRef .tc main_arg1)
def argW (c : Dev nD) : Vec Ideal S1024x8192 .f32 := m (c, Proc.devRef .tc main_arg2)

theorem arrX (c : Dev nD) (a : Fin 4096) (b : Fin 1024) : (V m c (Pipeline.arrRef spec0 0) : Vec Ideal S4096x1024 .f32) (ix2 a b) = argX m c (ix2 a b) := by
  show V m c main_arg0 (ix2 a b) = _
  unfold V; after_results; rfl

theorem arrG (c : Dev nD) (a : Fin 4) (b : Fin 1024) : (V m c (Pipeline.arrRef spec0 1) : Vec Ideal S4x1x1024 .f32) (ix3 a (0 : Fin 1) b) = argG m c (ix2 a b) := by
  show V m c main_v3 (ix3 a (0 : Fin 1) b) = _
  unfold V argG; after_results; pointwise

theorem arrW (c : Dev nD) (j : Fin 4) (k : Fin 1024) (b : Fin 2048) :
    (V m c (Pipeline.arrRef spec0 2) : Vec Ideal S4x1024x2048 .bf16) (ix3 j k b) = argW m c (ix2 k (⟨j.val * 2048 + b.val, by omega⟩ : Fin 8192)) := by
  show V m c main_v2 (ix3 j k b) = _
  unfold V argW; after_results; pointwise

/-- The normed rows and the projection, of the arguments. -/
def hAt (c : Dev nD) (r : Fin 4096) (k : Fin 1024) : EReal := Norm.hrow (fun l => argX m c (ix2 r l)) (argG m c (ix2 (3 : Fin 4) k)) k
def pAt (c : Dev nD) (r : Fin 4096) (b : Fin 8192) : EReal := ∑ k : Fin 1024, hAt m c r k * argW m c (ix2 k b)

/-- What a point computes, of the arguments. -/
theorem pay_at (c : Dev nD) (t : Fin cfg0.N) (a : Fin 512) (k : Fin 1024) (r : Fin 4096) (hr : r.val = 512 * t.val + a.val) :
    k0_pay3 (iblk m c 0 t) (iblk m c 1 t) (ix2 a k) = hAt m c r k := by
  have e : r = ⟨512 * t.val + a.val, by omega⟩ := Fin.ext hr
  refine (h_at _ _ a k).trans ?_
  unfold hAt
  refine congrArg₂ (fun f g => Norm.hrow f g k) (funext fun l => ?_) ?_
  · refine (blockX m c t a l).trans ((arrX m c _ l).trans ?_)
    rw [e]
  · exact (blockG m c t 0 0 k).trans (arrG m c 3 k)

theorem prod_eq (c : Dev nD) (t : Fin cfg0.N) (a b : ℕ) (r : Fin 4096) (q : Fin 8192) (ha : a < 512) (hr : r.val = 512 * t.val + a) (hq : q.val = b) :
    prod (iblk m c 0 t) (iblk m c 1 t) (iblk m c 2 t) a b = pAt m c r q := by
  subst hq
  unfold prod pAt
  rw [dif_pos ⟨ha, q.isLt⟩]
  refine Finset.sum_congr rfl fun k _ => congrArg₂ (· * ·) (pay_at m c t ⟨a, ha⟩ k r hr) ?_
  refine (blockW m c t _ k _).trans ((arrW m c _ k _).trans ?_)
  refine congrArg (fun z : Fin 8192 => argW m c (ix2 k z)) (Fin.ext ?_)
  show q.val / 2048 * 2048 + q.val % 2048 = q.val
  omega

end Cert.ProjKernelIdeal.Gen
-- ==== Proof.ProjEnd.lean ====
/-
The norm and the input projection: the two arrays the call leaves.
-/
module

public import proofs.«01_k».proof.Proof.ProjOut

@[expose] public section

set_option maxRecDepth 65536
set_option maxHeartbeats 8000000

noncomputable section

namespace Cert.ProjKernelIdeal.Gen

open Idealize.ShloMosaic Idealize.ShloMosaic.TcCoe Idealize.ShloMosaic.Tactic

variable (m : (ℓ : Loc nD τ sig) → Buf (Elt Ideal) ℓ)

/-- The two results at indices given as numbers. -/
def pN (c : Dev nD) (r b : ℕ) : EReal := if h : r < 4096 ∧ b < 8192 then pAt m c ⟨r, h.1⟩ ⟨b, h.2⟩ else 0
def hN (c : Dev nD) (r b : ℕ) : EReal := if h : r < 4096 ∧ b < 1024 then hAt m c ⟨r, h.1⟩ ⟨b, h.2⟩ else 0

theorem pN_at (c : Dev nD) (a : Fin 4096) (b : Fin 8192) : pN m c a.val b.val = pAt m c a b := by
  unfold pN
  rw [dif_pos ⟨a.isLt, b.isLt⟩]

theorem hN_at (c : Dev nD) (a : Fin 4096) (b : Fin 1024) : hN m c a.val b.val = hAt m c a b := by
  unfold hN
  rw [dif_pos ⟨a.isLt, b.isLt⟩]

theorem prod_pN (c : Dev nD) (t : Fin cfg0.N) (a b r : ℕ) (ha : a < 512) (hb : b < 8192) (hr : r = 512 * t.val + a) :
    prod (iblk m c 0 t) (iblk m c 1 t) (iblk m c 2 t) a b = pN m c r b := by
  have ht : t.val < 8 := t.isLt
  unfold pN
  rw [dif_pos ⟨by omega, hb⟩]
  exact prod_eq m c t a b _ _ ha hr rfl

theorem pay_hN (c : Dev nD) (t : Fin cfg0.N) (a : Fin 512) (b : Fin 1024) (r : ℕ) (hr : r = 512 * t.val + a.val) :
    k0_pay3 (iblk m c 0 t) (iblk m c 1 t) (ix2 a b) = hN m c r b.val := by
  have ht : t.val < 8 := t.isLt
  unfold hN
  rw [dif_pos ⟨by omega, b.isLt⟩]
  exact pay_at m c t a b _ hr

/-- The projection the call leaves. -/
theorem endP (c : Dev nD) : (dats m 0 c).arrAt 3 cfg0.N = (fun i => pN m c (i 0).val (i 1).val) := by
  refine (dats m 0 c).arrAt_eq_of_covers 3 (fun i => pN m c (i 0).val (i 1).val) (by decide +kernel) (fun t hf y => ?_)
  have h0 : (y 0).val < 512 := ((cfg0.win 3).xinj (grid0.coords t) y 0).isLt
  have h1 : (y 1).val < 8192 := ((cfg0.win 3).xinj (grid0.coords t) y 1).isLt
  blk_simp [idx t]
  rw [after0_3]
  refine (out3_at _ _ _ _).trans ?_
  exact prod_pN m c t (y 0).val (y 1).val (t.val * 512 + (y 0).val) h0 h1 (by omega)

/-- The normed rows the call leaves. -/
theorem endH (c : Dev nD) : (dats m 0 c).arrAt 4 cfg0.N = (fun i => hN m c (i 0).val (i 1).val) := by
  refine (dats m 0 c).arrAt_eq_of_covers 4 (fun i => hN m c (i 0).val (i 1).val) (by decide +kernel) (fun t hf y => ?_)
  have h0 : (y 0).val < 512 := ((cfg0.win 4).xinj (grid0.coords t) y 0).isLt
  have h1 : (y 1).val < 1024 := ((cfg0.win 4).xinj (grid0.coords t) y 1).isLt
  blk_simp [idx t]
  rw [after0_4, out4_at]
  refine Eq.trans (congrArg _ ?_) (pay_hN m c t ⟨(y 0).val, h0⟩ ⟨(y 1).val, h1⟩ (t.val * 512 + (y 0).val) (Nat.add_right_cancel_iff.mpr (Nat.mul_comm _ _)))
  funext a; fin_cases a <;> rfl

end Cert.ProjKernelIdeal.Gen
-- ==== Proof.ProjRef.lean ====
/-
The norm and the input projection: the reference's run and its results at an index.
-/
module

public import proofs.«01_k».proof.Proof.Norm
public import proofs.«01_k».proof.Proof.Gen.ProjReferenceIdeal.Run
public import Idealize.ShloMosaic.Lib.Tactic
public import Idealize.ShloMosaic.Lib.Pointwise
public import Idealize.ShloMosaic.Lib.Pipeline.ValueKit

@[expose] public section

set_option maxRecDepth 65536
set_option maxHeartbeats 8000000

noncomputable section

namespace Cert.ProjReferenceIdeal.Value

open Cert.ProjReferenceIdeal.Gen Idealize.ShloMosaic Idealize.ShloMosaic.TcCoe Idealize.ShloMosaic.Tactic Idealize.ShloMosaic.StableHlo Idealize.SL.Sem

variable (m : (ℓ : Loc nD τ sig) → Buf (Elt Ideal) ℓ)

/-- The results as the operations leave them. -/
def resP (c : Dev nD) : Vec Ideal S4096x8192 .bf16 := after (ops (F := Ideal)) (launchContents m c) (Proc.devRef .tc main_v16)
def resH (c : Dev nD) : Vec Ideal S4096x1024 .bf16 := after (ops (F := Ideal)) (launchContents m c) (Proc.devRef .tc main_v17)

/-- A device's results and its arguments at the end. -/
structure Ends (mem : (ℓ : Loc nD τ sig) → Buf (Elt Ideal) ℓ) (c : Dev nD) : Prop where
  r0 : mem ((c.tc : Thread nD τ).loc main_v16) = resP m c
  r1 : mem ((c.tc : Thread nD τ).loc main_v17) = resH m c
  a0 : mem ((c.tc : Thread nD τ).loc main_arg0) = m ((c.tc : Thread nD τ).loc main_arg0)
  a1 : mem ((c.tc : Thread nD τ).loc main_arg1) = m ((c.tc : Thread nD τ).loc main_arg1)
  a2 : mem ((c.tc : Thread nD τ).loc main_arg2) = m ((c.tc : Thread nD τ).loc main_arg2)

/-- The reference runs and ends so. -/
theorem run_ends (ρ : Dev nD → PrngReg) : θ_run defs (onTc (τ := τ) (main (F := Ideal))) ⟨m, fun _ => 0, ρ⟩ fun r => ∀ c : Dev nD, Ends m r.2.mem c :=
  (θ_run defs _ _).mono (fun _ h c => ⟨h c main_v16, h c main_v17, (h c main_arg0).trans (by after_results), (h c main_arg1).trans (by after_results), (h c main_arg2).trans (by after_results)⟩)
    (run_seq scopedRefs_eq scopedSems_eq defs main (fun _ => ops) main_eq (fun _ => ops_sub) m ρ)

/-- The normed rows at an index. -/
theorem resH_at (c : Dev nD) (r : Fin 4096) (a : Fin 1024) :
    resH m c (ix2 r a) = Norm.hrow (fun l => (m (c, Proc.devRef .tc main_arg0) : Vec Ideal S4096x1024 .f32) (ix2 r l)) ((m (c, Proc.devRef .tc main_arg1) : Vec Ideal S4x1024 .f32) (ix2 (3 : Fin 4) a)) a := by
  unfold resH Norm.hrow; after_results; pointwise

/-- The projection at an index. -/
theorem resP_at (c : Dev nD) (r : Fin 4096) (b : Fin 8192) :
    resP m c (ix2 r b) = ∑ k : Fin 1024, Norm.hrow (fun l => (m (c, Proc.devRef .tc main_arg0) : Vec Ideal S4096x1024 .f32) (ix2 r l)) ((m (c, Proc.devRef .tc main_arg1) : Vec Ideal S4x1024 .f32) (ix2 (3 : Fin 4) k)) k
      * (m (c, Proc.devRef .tc main_arg2) : Vec Ideal S1024x8192 .f32) (ix2 k b) := by
  unfold resP Norm.hrow; after_results; pointwise

end Cert.ProjReferenceIdeal.Value
-- ==== Proof.ProjClaim.lean ====
/-
The claims about the norm and the input projection.
-/
module

public import proofs.«01_k».proof.Defs
public import proofs.«01_k».proof.Proof.ProjEnd
public import proofs.«01_k».proof.Proof.ProjRef
public import proofs.«01_k».proof.Proof.Gen.ProjKernel.Frame
public import proofs.«01_k».proof.Proof.Gen.ProjReferenceIdeal

@[expose] public section

set_option maxRecDepth 65536

noncomputable section

namespace Cert.Proof

open Idealize.ShloMosaic Idealize.SL.Sem

/-- The kernel keeps its arguments and leaves every counter at zero. -/
theorem frame_fp : Cert.quiescent_ProjKernel (hProjKernel := Cert.ProjKernel.Gen.facts) := fun m ρ _ => Cert.ProjKernel.Gen.frame m ρ

/-- The same over the extended reals. -/
theorem frame_fpi : Cert.quiescent_ProjKernelIdeal (hProjKernelIdeal := Cert.ProjKernelIdeal.Gen.facts) := fun m ρ _ => Cert.ProjKernelIdeal.Gen.frame m ρ

/-- The reference keeps its arguments; it declares no semaphore. -/
theorem frame_fri : Cert.quiescent_ProjReferenceIdeal (hProjReferenceIdeal := Cert.ProjReferenceIdeal.Gen.facts) := fun m ρ _ =>
  (θ_run Cert.ProjReferenceIdeal.defs _ _).mono
    (fun r h => ⟨fun c => ⟨(h c).a0, (h c).a1, (h c).a2⟩, sem_eq_zero_of_no_sems (by decide) r.2⟩)
    (Cert.ProjReferenceIdeal.Value.run_ends m ρ)

section Agree

variable (m : (ℓ : Loc Cert.ProjKernelIdeal.nD Cert.ProjKernelIdeal.τ Cert.ProjKernelIdeal.sig) → Buf (Elt Ideal) ℓ)
    (m' : (ℓ : Loc Cert.ProjReferenceIdeal.nD Cert.ProjReferenceIdeal.τ Cert.ProjReferenceIdeal.sig) → Buf (Elt Ideal) ℓ) (c : Dev Cert.ProjKernelIdeal.nD)
    (h0 : m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0))
    (h1 : m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1))
    (h2 : m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2))
include h0 h1

/-- A normed element is the same function of the arguments on both sides. -/
theorem row_eq (r : Fin 4096) (a : Fin 1024) :
    Norm.hrow (fun l => (m' (c, Proc.devRef .tc Cert.ProjReferenceIdeal.main_arg0) : Vec Ideal Cert.ProjReferenceIdeal.S4096x1024 .f32) (ix2 r l))
      ((m' (c, Proc.devRef .tc Cert.ProjReferenceIdeal.main_arg1) : Vec Ideal Cert.ProjReferenceIdeal.S4x1024 .f32) (ix2 (3 : Fin 4) a)) a
      = Cert.ProjKernelIdeal.Gen.hAt m c r a :=
  congrArg₂ (fun (x : Vec Ideal Cert.ProjKernelIdeal.S4096x1024 .f32) (g : Vec Ideal Cert.ProjKernelIdeal.S4x1024 .f32) => Norm.hrow (fun l => x (ix2 r l)) (g (ix2 (3 : Fin 4) a)) a) h0 h1

theorem h_eq : Cert.ProjReferenceIdeal.Value.resH m' c = (Cert.ProjKernelIdeal.Gen.dats m 0 c).arrAt 4 Cert.ProjKernelIdeal.cfg0.N := by
  refine Eq.trans ?_ (Cert.ProjKernelIdeal.Gen.endH m c).symm
  funext i
  obtain ⟨a, b, rfl⟩ : ∃ (a : Fin 4096) (b : Fin 1024), i = ix2 a b := ⟨i 0, i 1, by funext z; fin_cases z <;> rfl⟩
  refine (Cert.ProjReferenceIdeal.Value.resH_at m' c a b).trans ((row_eq m m' c h0 h1 a b).trans ?_)
  exact (Cert.ProjKernelIdeal.Gen.hN_at m c a b).symm

include h2

theorem p_eq : Cert.ProjReferenceIdeal.Value.resP m' c = (Cert.ProjKernelIdeal.Gen.dats m 0 c).arrAt 3 Cert.ProjKernelIdeal.cfg0.N := by
  refine Eq.trans ?_ (Cert.ProjKernelIdeal.Gen.endP m c).symm
  funext i
  obtain ⟨a, b, rfl⟩ : ∃ (a : Fin 4096) (b : Fin 8192), i = ix2 a b := ⟨i 0, i 1, by funext z; fin_cases z <;> rfl⟩
  refine (Cert.ProjReferenceIdeal.Value.resP_at m' c a b).trans (Eq.trans ?_ (Cert.ProjKernelIdeal.Gen.pN_at m c a b).symm)
  refine Finset.sum_congr rfl fun k _ => congrArg₂ (· * ·) (row_eq m m' c h0 h1 a k) ?_
  exact congrFun h2 _

end Agree

/-- What the kernel leaves in its two results. -/
def resP (m : (ℓ : Loc Cert.ProjKernelIdeal.nD Cert.ProjKernelIdeal.τ Cert.ProjKernelIdeal.sig) → Buf (Elt Ideal) ℓ) (c : Dev Cert.ProjKernelIdeal.nD) :
    Buf (Elt Ideal) ((c.tc : Thread Cert.ProjKernelIdeal.nD Cert.ProjKernelIdeal.τ).loc Cert.ProjKernelIdeal.main_v4_0) := (Cert.ProjKernelIdeal.Gen.dats m 0 c).arrAt 3 Cert.ProjKernelIdeal.cfg0.N
def resH (m : (ℓ : Loc Cert.ProjKernelIdeal.nD Cert.ProjKernelIdeal.τ Cert.ProjKernelIdeal.sig) → Buf (Elt Ideal) ℓ) (c : Dev Cert.ProjKernelIdeal.nD) :
    Buf (Elt Ideal) ((c.tc : Thread Cert.ProjKernelIdeal.nD Cert.ProjKernelIdeal.τ).loc Cert.ProjKernelIdeal.main_v4_1) := (Cert.ProjKernelIdeal.Gen.dats m 0 c).arrAt 4 Cert.ProjKernelIdeal.cfg0.N

/-- The kernel's two results are the reference's. -/
theorem algebraic_f : Cert.algebraic_ProjKernelIdeal_ProjReferenceIdeal (hProjKernelIdeal := Cert.ProjKernelIdeal.Gen.facts) (hProjReferenceIdeal := Cert.ProjReferenceIdeal.Gen.facts) := by
  intro m ρ m' ρ' _ hagree
  refine ⟨resP m, resH m, Cert.ProjKernelIdeal.Value.run_blocks (F := Ideal) m ρ, ?_⟩
  refine (θ_run Cert.ProjReferenceIdeal.defs _ _).mono (fun r h c => ?_) (Cert.ProjReferenceIdeal.Value.run_ends m' ρ')
  obtain ⟨h0, h1, h2⟩ := hagree c
  exact ⟨(h c).r0.trans (p_eq m m' c h0 h1 h2), (h c).r1.trans (h_eq m m' c h0 h1), (h c).a0, (h c).a1, (h c).a2⟩

end Cert.Proof
-- ==== Proof.Back.lean ====
/-
The gradient of the root-mean-square norm of a row over the extended reals.
-/
module

public import Idealize.ShloMosaic.PureOps.Ideal

@[expose] public section

noncomputable section

namespace Cert.Back

open Idealize.ShloMosaic

/-- The mean square of the row, with epsilon. -/
def ms (x : Fin 1024 → EReal) : EReal :=
  Ideal.div (∑ l : Fin 1024, x l * x l) (Ideal.ofBits .f32 0x44800000#32) + Ideal.ofBits .f32 0x358637BD#32

/-- What the mean square hands back to an element, before it is multiplied by the element; `g` are the gradients of the unweighted row. -/
def ev (x g : Fin 1024 → EReal) : EReal :=
  Ideal.div ((∑ l : Fin 1024, x l * g l) * (Ideal.ofBits .f32 0xBF000000#32 * Ideal.div (Ideal.rsqrt (ms x)) (ms x))) (Ideal.ofBits .f32 0x44800000#32)

/-- Element `b` of the gradient of the row, added to `u`. -/
def dx (u : EReal) (x g : Fin 1024 → EReal) (b : Fin 1024) : EReal :=
  u + (g b * Ideal.rsqrt (ms x) + x b * ev x g + ev x g * x b)

/-- What the row adds to element `b` of the gradient of the weights, where `d` is the gradient of the normed element. -/
def dg (x : Fin 1024 → EReal) (d : EReal) (b : Fin 1024) : EReal := x b * Ideal.rsqrt (ms x) * d

end Cert.Back
-- ==== Proof.BackBlk.lean ====
/-
The gradient of the input projection's input: the blocks the grid points work on, and what a point computes.
-/
module

public import proofs.«01_k».proof.Proof.Back
public import proofs.«01_k».proof.Proof.Gen.BackKernelIdeal.Value
public import Idealize.ShloMosaic.Lib.Tactic
public import Idealize.ShloMosaic.Lib.Pointwise
public import Idealize.ShloMosaic.Lib.Pipeline.ValueKit

@[expose] public section

set_option maxRecDepth 65536
set_option maxHeartbeats 8000000

noncomputable section

namespace Cert.BackKernelIdeal.Gen

open Idealize.ShloMosaic Idealize.ShloMosaic.TcCoe Idealize.ShloMosaic.Tactic

/-- Point `t` works on the rows of block `t`; the norm's weights are layer 3's; the projection's weights and the block of their gradient are whole. -/
theorem idx : ∀ t : Fin cfg0.N, win0_0.index t = ![t.val, 0] ∧ win0_1.index t = ![t.val, 0] ∧ win0_2.index t = ![t.val, 0]
    ∧ win0_3.index t = ![3, 0, 0] ∧ win0_4.index t = ![0, 0, 0] ∧ win0_5.index t = ![t.val, 0] ∧ win0_6.index t = ![0, 0] :=
  (by decide +kernel : ∀ t : Fin grid0.N, _)

variable (m : (ℓ : Loc nD τ sig) → Buf (Elt Ideal) ℓ)

theorem blockU (c : Dev nD) (t : Fin cfg0.N) (a : Fin 512) (b : Fin 1024) :
    iblk m c 0 t (ix2 a b) = V m c (Pipeline.arrRef spec0 0) (ix2 (⟨512 * t.val + a.val, by have ht : t.val < 8 := t.isLt; omega⟩ : Fin 4096) b) := by
  have ht : t.val < 8 := t.isLt
  blk_ext [iblk, idx t]

theorem blockD (c : Dev nD) (t : Fin cfg0.N) (a : Fin 512) (b : Fin 8192) :
    iblk m c 1 t (ix2 a b) = V m c (Pipeline.arrRef spec0 1) (ix2 (⟨512 * t.val + a.val, by have ht : t.val < 8 := t.isLt; omega⟩ : Fin 4096) b) := by
  have ht : t.val < 8 := t.isLt
  blk_ext [iblk, idx t]

theorem blockX (c : Dev nD) (t : Fin cfg0.N) (a : Fin 512) (b : Fin 1024) :
    iblk m c 2 t (ix2 a b) = V m c (Pipeline.arrRef spec0 2) (ix2 (⟨512 * t.val + a.val, by have ht : t.val < 8 := t.isLt; omega⟩ : Fin 4096) b) := by
  have ht : t.val < 8 := t.isLt
  blk_ext [iblk, idx t]

theorem blockG (c : Dev nD) (t : Fin cfg0.N) (p q : Fin 1) (b : Fin 1024) :
    iblk m c 3 t (ix3 p q b) = V m c (Pipeline.arrRef spec0 3) (ix3 (3 : Fin 4) (0 : Fin 1) b) := by
  blk_ext [iblk, idx t]

theorem blockW (c : Dev nD) (t : Fin cfg0.N) (j : Fin 4) (a : Fin 1024) (b : Fin 2048) :
    iblk m c 4 t (ix3 j a b) = V m c (Pipeline.arrRef spec0 4) (ix3 j a b) := by
  blk_ext [iblk, idx t]

/-- The gradient of the normed rows, from the four column blocks. -/
theorem dh_at (d0 : Vec Ideal S512x2048 .bf16) (w0 : Vec Ideal S1x1024x2048 .bf16) (d1 : Vec Ideal S512x2048 .bf16) (w1 : Vec Ideal S1x1024x2048 .bf16)
    (d2 : Vec Ideal S512x2048 .bf16) (w2 : Vec Ideal S1x1024x2048 .bf16) (d3 : Vec Ideal S512x2048 .bf16) (w3 : Vec Ideal S1x1024x2048 .bf16) (a : Fin 512) (b : Fin 1024) :
    k0_pay6 d0 w0 d1 w1 d2 w2 d3 w3 (ix2 a b)
      = (∑ k : Fin 2048, d0 (ix2 a k) * w0 (ix3 (0 : Fin 1) b k)) + (∑ k : Fin 2048, d1 (ix2 a k) * w1 (ix3 (0 : Fin 1) b k))
        + (∑ k : Fin 2048, d2 (ix2 a k) * w2 (ix3 (0 : Fin 1) b k)) + ∑ k : Fin 2048, d3 (ix2 a k) * w3 (ix3 (0 : Fin 1) b k) := by
  unfold k0_pay6; pointwise

/-- The gradient of the input, at an index. -/
theorem dx_at (d x : Vec Ideal S512x1024 .f32) (g : Vec Ideal S1x1x1024 .f32) (u : Vec Ideal S512x1024 .f32) (a : Fin 512) (b : Fin 1024) :
    k0_pay3 d x (k0_pay7 g) (k0_pay8 x) u (ix2 a b)
      = Back.dx (u (ix2 a b)) (fun l => x (ix2 a l)) (fun l => d (ix2 a l) * g (ix3 (0 : Fin 1) (0 : Fin 1) l)) b := by
  unfold k0_pay3 k0_pay7 k0_pay2 k0_pay1 k0_pay8 Back.dx Back.ev Back.ms; pointwise
  simp only [Finset.univ_unique, Finset.sum_singleton]

/-- What a point adds to the gradient of the norm's weights. -/
theorem dg_at (d x : Vec Ideal S512x1024 .f32) (s : Vec Ideal S1x1024 .f32) (q : Fin 1) (b : Fin 1024) :
    k0_pay4 d x (k0_pay8 x) s (ix2 q b)
      = s (ix2 q b) + ∑ r : Fin 512, Back.dg (fun l => x (ix2 r l)) (d (ix2 r b)) b := by
  unfold k0_pay4 k0_pay2 k0_pay1 k0_pay8 Back.dg Back.ms; pointwise

theorem zero_at (a : Fin 8) (b : Fin 1024) : k0_pay5 (F := Ideal) (ix2 a b) = (0 : EReal) := by
  unfold k0_pay5; pointwise

end Cert.BackKernelIdeal.Gen
-- ==== Proof.BackCase.lean ====
/-
The gradient of the input projection's input: what a grid point leaves in the block of that gradient.
-/
module

public import proofs.«01_k».proof.Proof.BackBlk

@[expose] public section

set_option maxRecDepth 65536
set_option maxHeartbeats 8000000

noncomputable section

namespace Cert.BackKernelIdeal.Gen

open Idealize.ShloMosaic Idealize.ShloMosaic.TcCoe Idealize.ShloMosaic.Tactic

theorem z2 : (![0, 0] : Fin 2 → Nat) = fun _ => 0 := funext fun a => by fin_cases a <;> rfl
theorem z3 : (![0, 0, 0] : Fin 3 → Nat) = fun _ => 0 := funext fun a => by fin_cases a <;> rfl

/-- The gradient of the normed rows of a block. The weights come as four blocks of columns. -/
def dH (x1 : Vec Ideal S512x8192 .bf16) (x4 : Vec Ideal S4x1024x2048 .bf16) : Vec Ideal S512x1024 .f32 :=
  k0_pay6 (View.ld x1 (Rect.unit ![0, 0] ![512, 2048] inb_S512x8192_S512x2048_0_0))
    (View.ld x4 (Rect.unit ![0, 0, 0] ![1, 1024, 2048] inb_S4x1024x2048_S1x1024x2048_0_0_0))
    (View.ld x1 (Rect.unit ![0, 2048] ![512, 2048] inb_S512x8192_S512x2048_0_2048))
    (View.ld x4 (Rect.unit ![1, 0, 0] ![1, 1024, 2048] inb_S4x1024x2048_S1x1024x2048_1_0_0))
    (View.ld x1 (Rect.unit ![0, 4096] ![512, 2048] inb_S512x8192_S512x2048_0_4096))
    (View.ld x4 (Rect.unit ![2, 0, 0] ![1, 1024, 2048] inb_S4x1024x2048_S1x1024x2048_2_0_0))
    (View.ld x1 (Rect.unit ![0, 6144] ![512, 2048] inb_S512x8192_S512x2048_0_6144))
    (View.ld x4 (Rect.unit ![3, 0, 0] ![1, 1024, 2048] inb_S4x1024x2048_S1x1024x2048_3_0_0))

/-- A sum over all columns is the sum over the four blocks. -/
theorem quarters (f : Fin 8192 → EReal) :
    ∑ k : Fin 8192, f k = (∑ k : Fin 2048, f ⟨k.val, by omega⟩) + (∑ k : Fin 2048, f ⟨2048 + k.val, by omega⟩)
      + (∑ k : Fin 2048, f ⟨4096 + k.val, by omega⟩) + ∑ k : Fin 2048, f ⟨6144 + k.val, by omega⟩ := by
  have h3 := Fin.sum_univ_add (a := 6144) (b := 2048) f
  have h2 := Fin.sum_univ_add (a := 4096) (b := 2048) (fun k : Fin 6144 => f ⟨k.val, by omega⟩)
  have h1 := Fin.sum_univ_add (a := 2048) (b := 2048) (fun k : Fin 4096 => f ⟨k.val, by omega⟩)
  exact h3.trans (congrArg₂ (· + ·) (h2.trans (congrArg₂ (· + ·) h1 rfl)) rfl)

/-- The same, at an index: a sum over all columns. -/
theorem dH_at (x1 : Vec Ideal S512x8192 .bf16) (x4 : Vec Ideal S4x1024x2048 .bf16) (a : Fin 512) (b : Fin 1024) :
    dH x1 x4 (ix2 a b) = ∑ k : Fin 8192, x1 (ix2 a k) * x4 (ix3 (⟨k.val / 2048, by omega⟩ : Fin 4) b (⟨k.val % 2048, by omega⟩ : Fin 2048)) := by
  have e1 : ∀ (o : ℕ) (inb : ∀ z, (![0, o] : Fin 2 → ℕ) z + (![512, 2048] : Fin 2 → ℕ) z ≤ S512x8192.size z) (k : Fin 2048) (ho : o + k.val < 8192),
      View.ld x1 (Rect.unit ![0, o] ![512, 2048] inb) (ix2 a k) = x1 (ix2 a (⟨o + k.val, ho⟩ : Fin 8192)) := fun o inb k ho =>
    congrArg x1 (by
      funext z; fin_cases z <;> apply Fin.ext
      · show 0 + 1 * a.val = a.val; omega
      · show o + 1 * k.val = o + k.val; omega)
  have e4 : ∀ (j : ℕ) (inb : ∀ z, (![j, 0, 0] : Fin 3 → ℕ) z + (![1, 1024, 2048] : Fin 3 → ℕ) z ≤ S4x1024x2048.size z) (k : Fin 2048) (q : ℕ) (hq : q < 8192) (hj : q = 2048 * j + k.val),
      View.ld x4 (Rect.unit ![j, 0, 0] ![1, 1024, 2048] inb) (ix3 (0 : Fin 1) b k) = x4 (ix3 (⟨q / 2048, by omega⟩ : Fin 4) b (⟨q % 2048, by omega⟩ : Fin 2048)) := fun j inb k q hq hj =>
    congrArg x4 (by
      funext z; fin_cases z <;> apply Fin.ext
      · show j + 1 * 0 = q / 2048; omega
      · show 0 + 1 * b.val = b.val; omega
      · show 0 + 1 * k.val = q % 2048; omega)
  unfold dH
  rw [dh_at, quarters]
  refine congrArg₂ (· + ·) (congrArg₂ (· + ·) (congrArg₂ (· + ·) ?_ ?_) ?_) ?_
  · refine Finset.sum_congr rfl fun k _ => congrArg₂ (· * ·) ((e1 0 _ k (by omega)).trans (congrArg (fun z : Fin 8192 => x1 (ix2 a z)) (Fin.ext (Nat.zero_add _)))) (e4 0 _ k k.val (by omega) (by omega))
  · refine Finset.sum_congr rfl fun k _ => congrArg₂ (· * ·) (e1 2048 _ k (by omega)) (e4 1 _ k (2048 + k.val) (by omega) (by omega))
  · refine Finset.sum_congr rfl fun k _ => congrArg₂ (· * ·) (e1 4096 _ k (by omega)) (e4 2 _ k (4096 + k.val) (by omega) (by omega))
  · refine Finset.sum_congr rfl fun k _ => congrArg₂ (· * ·) (e1 6144 _ k (by omega)) (e4 3 _ k (6144 + k.val) (by omega) (by omega))

section

variable (c : Dev nD) (i : grid0.Coords) (a1 : Memref sig .tc .vmem S512x1024 .f32) (h1 : a1.IsWhole) (a2 : Memref sig .tc .vmem S512x8192 .bf16) (h2 : a2.IsWhole)
    (a3 : Memref sig .tc .vmem S512x1024 .f32) (h3 : a3.IsWhole) (a4 : Memref sig .tc .vmem S1x1x1024 .f32) (h4 : a4.IsWhole) (a5 : Memref sig .tc .vmem S4x1024x2048 .bf16) (h5 : a5.IsWhole)
    (a6 : Memref sig .tc .vmem S512x1024 .f32) (h6 : a6.IsWhole) (a7 : Memref sig .tc .vmem S8x1024 .f32) (h7 : a7.IsWhole)
    (x0 : Vec Ideal S512x1024 .f32) (x1 : Vec Ideal S512x8192 .bf16) (x2 : Vec Ideal S512x1024 .f32) (x3 : Vec Ideal S1x1x1024 .f32) (x4 : Vec Ideal S4x1024x2048 .bf16) (xo : Vec Ideal S8x1024 .f32)

/-- At the first point the block of the input's gradient takes that of its rows. -/
theorem dx_first (hc0 : cond0_0 i) : out0_A_5 c i a1 h1 a2 h2 a3 h3 a4 h4 a5 h5 a6 h6 a7 h7 hc0 x0 x1 x2 x3 x4 = k0_pay3 (dH x1 x4) x2 (k0_pay7 x3) (k0_pay8 x2) x0 := by
  unfold out0_A_5
  rw [View.read_writes_eq_canon _ _ _ (cover0_A_5 c i a1 h1 a2 h2 a3 h3 a4 h4 a5 h5 a6 h6 a7 h7 hc0 x0 x1 x2 x3 x4)]
  unfold kernelRun0_A
  dsimp only
  sl_unfold_words
  rw [View.canon_unit_zero (S := S512x1024) z2]
  simp only [View.readAt_eq_ld, h1.read_unread, h2.read_unread, h3.read_unread, h4.read_unread, h5.read_unread, h7.read_unread, View.ld_unit_zero (S := S512x1024) z2, View.ld_unit_zero (S := S1x1x1024) z3]
  rfl

/-- So it does at the others. -/
theorem dx_later (hc0 : ¬cond0_0 i) : out0_B_5 c i a1 h1 a2 h2 a3 h3 a4 h4 a5 h5 a6 h6 a7 h7 hc0 x0 x1 x2 x3 x4 xo = k0_pay3 (dH x1 x4) x2 (k0_pay7 x3) (k0_pay8 x2) x0 := by
  unfold out0_B_5
  rw [View.read_writes_eq_canon _ _ _ (cover0_B_5 c i a1 h1 a2 h2 a3 h3 a4 h4 a5 h5 a6 h6 a7 h7 hc0 x0 x1 x2 x3 x4 xo)]
  unfold kernelRun0_B
  dsimp only
  sl_unfold_words
  rw [View.canon_unit_zero (S := S512x1024) z2]
  simp only [View.readAt_eq_ld, h1.read_unread, h2.read_unread, h3.read_unread, h4.read_unread, h5.read_unread, h7.read_unread, View.ld_unit_zero (S := S512x1024) z2, View.ld_unit_zero (S := S1x1x1024) z3]
  rfl

end

end Cert.BackKernelIdeal.Gen
-- ==== Proof.BackSum.lean ====
/-
The gradient of the input projection's input: what a grid point adds to the gradient of the norm's weights.
-/
module

public import proofs.«01_k».proof.Proof.BackCase
public import Idealize.ShloMosaic.Lib.WritesUnit
public import Idealize.ShloMosaic.Lib.VecWindow
public import Idealize.ShloMosaic.Lib.Pipeline.ReadBack

@[expose] public section

set_option maxRecDepth 65536
set_option maxHeartbeats 8000000

noncomputable section

namespace Cert.BackKernelIdeal.Gen

open Idealize.ShloMosaic Idealize.ShloMosaic.TcCoe Idealize.ShloMosaic.Tactic

theorem zero_all (y : S8x1024.Idx) : k0_pay5 (F := Ideal) y = (0 : EReal) := by
  obtain ⟨a, b, rfl⟩ : ∃ (a : Fin 8) (b : Fin 1024), y = ix2 a b := ⟨y 0, y 1, by funext z; fin_cases z <;> rfl⟩
  exact zero_at a b

section

variable (c : Dev nD) (i : grid0.Coords) (a1 : Memref sig .tc .vmem S512x1024 .f32) (h1 : a1.IsWhole) (a2 : Memref sig .tc .vmem S512x8192 .bf16) (h2 : a2.IsWhole)
    (a3 : Memref sig .tc .vmem S512x1024 .f32) (h3 : a3.IsWhole) (a4 : Memref sig .tc .vmem S1x1x1024 .f32) (h4 : a4.IsWhole) (a5 : Memref sig .tc .vmem S4x1024x2048 .bf16) (h5 : a5.IsWhole)
    (a6 : Memref sig .tc .vmem S512x1024 .f32) (h6 : a6.IsWhole) (a7 : Memref sig .tc .vmem S8x1024 .f32) (h7 : a7.IsWhole)
    (x0 : Vec Ideal S512x1024 .f32) (x1 : Vec Ideal S512x8192 .bf16) (x2 : Vec Ideal S512x1024 .f32) (x3 : Vec Ideal S1x1x1024 .f32) (x4 : Vec Ideal S4x1024x2048 .bf16) (xo : Vec Ideal S8x1024 .f32)

/-- At the first point the rows of the weights' gradient are zero but for row 0, which takes the sum over the block's rows. -/
theorem dg_first0 (hc0 : cond0_0 i) (b : Fin 1024) : out0_A_6 c i a1 h1 a2 h2 a3 h3 a4 h4 a5 h5 a6 h6 a7 h7 hc0 x0 x1 x2 x3 x4 (ix2 (0 : Fin 8) b)
    = ∑ r : Fin 512, Back.dg (fun l => x2 (ix2 r l)) (dH x1 x4 (ix2 r b)) b := by
  unfold out0_A_6 kernelRun0_A
  dsimp only
  sl_unfold_words
  simp only [View.readAt_eq_ld, h1.read_unread, h2.read_unread, h3.read_unread, h4.read_unread, h5.read_unread, h7.read_unread, View.ld_unit_zero (S := S512x1024) z2, View.ld_unit_zero (S := S1x1x1024) z3]
  refine (View.read_writes_cons_rows_of_mem (o := 0) (off := ![0, 0]) (size := ![1, 1024]) _ _ inb_S8x1024_S1x1024_0_0 _ _ _ (ix2 (0 : Fin 1) b) rfl rfl rfl).trans ?_
  refine (dg_at (dH x1 x4) x2 _ 0 b).trans ?_
  refine (congrArg (· + _) ?_).trans (zero_add _)
  have z : View.ld (Val := Elt Ideal) (e' := .f32) (k0_pay5 (F := Ideal)) (Rect.unit (s := S8x1024) ![0, 0] ![1, 1024] inb_S8x1024_S1x1024_0_0) (ix2 (0 : Fin 1) b) = (0 : EReal) := zero_all _
  exact (congrFun (View.readCov_fill (s := S8x1024) (Val := Elt Ideal) (e := .f32) a7.view inb_S8x1024_S8x1024_0_0 (k0_pay5 (F := Ideal)) [] (Rect.unit ![0, 0] ![1, 1024] inb_S8x1024_S1x1024_0_0) (by decide)) (ix2 (0 : Fin 1) b)).trans z

theorem dg_first (hc0 : cond0_0 i) (a : Fin 8) (h : a.val ≠ 0) (b : Fin 1024) : out0_A_6 c i a1 h1 a2 h2 a3 h3 a4 h4 a5 h5 a6 h6 a7 h7 hc0 x0 x1 x2 x3 x4 (ix2 a b) = (0 : EReal) := by
  unfold out0_A_6 kernelRun0_A
  dsimp only
  sl_unfold_words
  refine (View.read_writes_cons_rows_of_not_mem (o := 0) (W := 1) (off := ![0, 0]) (size := ![1, 1024]) _ _ inb_S8x1024_S1x1024_0_0 _ _ _ rfl rfl (Or.inr (by show 0 + 1 ≤ a.val; omega))).trans ?_
  rw [View.read_writes_full (s := S8x1024)]
  exact zero_at a b

/-- At the others the sum is added to row 0, and the rest is left. -/
theorem dg_later0 (hc0 : ¬cond0_0 i) (b : Fin 1024) : out0_B_6 c i a1 h1 a2 h2 a3 h3 a4 h4 a5 h5 a6 h6 a7 h7 hc0 x0 x1 x2 x3 x4 xo (ix2 (0 : Fin 8) b)
    = xo (ix2 (0 : Fin 8) b) + ∑ r : Fin 512, Back.dg (fun l => x2 (ix2 r l)) (dH x1 x4 (ix2 r b)) b := by
  unfold out0_B_6 kernelRun0_B
  dsimp only
  sl_unfold_words
  simp only [View.readAt_eq_ld, h1.read_unread, h2.read_unread, h3.read_unread, h4.read_unread, h5.read_unread, h7.read_unread, View.ld_unit_zero (S := S512x1024) z2, View.ld_unit_zero (S := S1x1x1024) z3]
  refine (View.read_writes_cons_rows_of_mem (o := 0) (off := ![0, 0]) (size := ![1, 1024]) _ _ inb_S8x1024_S1x1024_0_0 _ _ _ (ix2 (0 : Fin 1) b) rfl rfl rfl).trans ?_
  refine (dg_at (dH x1 x4) x2 _ 0 b).trans ?_
  refine congrArg (· + _) (congrArg xo ?_)
  funext z; fin_cases z <;> apply Fin.ext
  · rfl
  · show 0 + 1 * b.val = b.val; omega

theorem dg_later (hc0 : ¬cond0_0 i) (a : Fin 8) (h : a.val ≠ 0) (b : Fin 1024) : out0_B_6 c i a1 h1 a2 h2 a3 h3 a4 h4 a5 h5 a6 h6 a7 h7 hc0 x0 x1 x2 x3 x4 xo (ix2 a b) = xo (ix2 a b) := by
  unfold out0_B_6 kernelRun0_B
  dsimp only
  sl_unfold_words
  refine (View.read_writes_cons_rows_of_not_mem (o := 0) (W := 1) (off := ![0, 0]) (size := ![1, 1024]) _ _ inb_S8x1024_S1x1024_0_0 _ _ _ rfl rfl (Or.inr (by show 0 + 1 ≤ a.val; omega))).trans ?_
  exact congrFun (h7.read_unread xo) _

end

end Cert.BackKernelIdeal.Gen
-- ==== Proof.BackOut.lean ====
/-
The gradient of the input projection's input: what the points compute, of the arguments.
-/
module

public import proofs.«01_k».proof.Proof.BackSum

@[expose] public section

set_option maxRecDepth 65536
set_option maxHeartbeats 8000000

noncomputable section

namespace Cert.BackKernelIdeal.Gen

open Idealize.ShloMosaic Idealize.ShloMosaic.TcCoe Idealize.ShloMosaic.Tactic

variable (m : (ℓ : Loc nD τ sig) → Buf (Elt Ideal) ℓ)

/-- The arguments. -/
def argU (c : Dev nD) : Vec Ideal S4096x1024 .f32 := m (c, Proc.devRef .tc main_arg0)
def argD (c : Dev nD) : Vec Ideal S4096x8192 .bf16 := m (c, Proc.devRef .tc main_arg1)
def argX (c : Dev nD) : Vec Ideal S4096x1024 .f32 := m (c, Proc.devRef .tc main_arg2)
def argG (c : Dev nD) : Vec Ideal S4x1024 .f32 := m (c, Proc.devRef .tc main_arg3)
def argW (c : Dev nD) : Vec Ideal S1024x8192 .f32 := m (c, Proc.devRef .tc main_arg4)

theorem arrU (c : Dev nD) (a : Fin 4096) (b : Fin 1024) : (V m c (Pipeline.arrRef spec0 0) : Vec Ideal S4096x1024 .f32) (ix2 a b) = argU m c (ix2 a b) := by
  show V m c main_arg0 (ix2 a b) = _
  unfold V; after_results; rfl

theorem arrD (c : Dev nD) (a : Fin 4096) (b : Fin 8192) : (V m c (Pipeline.arrRef spec0 1) : Vec Ideal S4096x8192 .bf16) (ix2 a b) = argD m c (ix2 a b) := by
  show V m c main_arg1 (ix2 a b) = _
  unfold V; after_results; rfl

theorem arrX (c : Dev nD) (a : Fin 4096) (b : Fin 1024) : (V m c (Pipeline.arrRef spec0 2) : Vec Ideal S4096x1024 .f32) (ix2 a b) = argX m c (ix2 a b) := by
  show V m c main_arg2 (ix2 a b) = _
  unfold V; after_results; rfl

theorem arrG (c : Dev nD) (a : Fin 4) (b : Fin 1024) : (V m c (Pipeline.arrRef spec0 3) : Vec Ideal S4x1x1024 .f32) (ix3 a (0 : Fin 1) b) = argG m c (ix2 a b) := by
  show V m c main_v3 (ix3 a (0 : Fin 1) b) = _
  unfold V argG; after_results; pointwise

theorem arrW (c : Dev nD) (j : Fin 4) (k : Fin 1024) (b : Fin 2048) :
    (V m c (Pipeline.arrRef spec0 4) : Vec Ideal S4x1024x2048 .bf16) (ix3 j k b) = argW m c (ix2 k (⟨j.val * 2048 + b.val, by omega⟩ : Fin 8192)) := by
  show V m c main_v2 (ix3 j k b) = _
  unfold V argW; after_results; pointwise

/-- The gradient of the normed rows, and the two gradients, of the arguments. -/
def hAt (c : Dev nD) (r : Fin 4096) (b : Fin 1024) : EReal := ∑ k : Fin 8192, argD m c (ix2 r k) * argW m c (ix2 b k)
def xAt (c : Dev nD) (r : Fin 4096) (b : Fin 1024) : EReal :=
  Back.dx (argU m c (ix2 r b)) (fun l => argX m c (ix2 r l)) (fun l => hAt m c r l * argG m c (ix2 (3 : Fin 4) l)) b
def gAt (c : Dev nD) (r : Fin 4096) (b : Fin 1024) : EReal := Back.dg (fun l => argX m c (ix2 r l)) (hAt m c r b) b

/-- The row of the arrays that row `a` of point `t`'s blocks is. -/
def row (t : Fin cfg0.N) (a : Fin 512) : Fin 4096 := ⟨512 * t.val + a.val, by have ht : t.val < 8 := t.isLt; omega⟩

theorem h_at (c : Dev nD) (t : Fin cfg0.N) (a : Fin 512) (b : Fin 1024) : dH (iblk m c 1 t) (iblk m c 4 t) (ix2 a b) = hAt m c (row t a) b := by
  refine (dH_at _ _ a b).trans (Finset.sum_congr rfl fun k _ => congrArg₂ (· * ·) ?_ ?_)
  · exact (blockD m c t a k).trans (arrD m c _ k)
  · refine (blockW m c t _ b _).trans ((arrW m c _ b _).trans ?_)
    refine congrArg (fun z : Fin 8192 => argW m c (ix2 b z)) (Fin.ext ?_)
    show k.val / 2048 * 2048 + k.val % 2048 = k.val
    omega

theorem x_at (c : Dev nD) (t : Fin cfg0.N) (a : Fin 512) (b : Fin 1024) :
    k0_pay3 (dH (iblk m c 1 t) (iblk m c 4 t)) (iblk m c 2 t) (k0_pay7 (iblk m c 3 t)) (k0_pay8 (iblk m c 2 t)) (iblk m c 0 t) (ix2 a b) = xAt m c (row t a) b := by
  have e1 : iblk m c 0 t (ix2 a b) = argU m c (ix2 (row t a) b) := (blockU m c t a b).trans (arrU m c _ b)
  have e2 : (fun l : Fin 1024 => iblk m c 2 t (ix2 a l)) = fun l => argX m c (ix2 (row t a) l) := funext fun l => (blockX m c t a l).trans (arrX m c _ l)
  have e3 : (fun l : Fin 1024 => dH (iblk m c 1 t) (iblk m c 4 t) (ix2 a l) * iblk m c 3 t (ix3 (0 : Fin 1) (0 : Fin 1) l)) = fun l => hAt m c (row t a) l * argG m c (ix2 (3 : Fin 4) l) :=
    funext fun l => congrArg₂ (· * ·) (h_at m c t a l) ((blockG m c t 0 0 l).trans (arrG m c 3 l))
  refine (dx_at _ _ _ _ a b).trans ?_
  unfold xAt
  exact (congrArg (fun u => Back.dx u _ _ b) e1).trans (congrArg₂ (fun f g => Back.dx _ f g b) e2 e3)

/-- What point `t` adds to the gradient of the norm's weights. -/
theorem g_at (c : Dev nD) (t : Fin cfg0.N) (b : Fin 1024) :
    ∑ r : Fin 512, Back.dg (fun l => iblk m c 2 t (ix2 r l)) (dH (iblk m c 1 t) (iblk m c 4 t) (ix2 r b)) b = ∑ r : Fin 512, gAt m c (row t r) b := by
  refine Finset.sum_congr rfl fun r _ => ?_
  unfold gAt
  exact congrArg₂ (fun f d => Back.dg f d b) (funext fun l => (blockX m c t r l).trans (arrX m c _ l)) (h_at m c t r b)

/-- The block of the input's gradient after point `t`. -/
theorem blkX (c : Dev nD) (t : Fin cfg0.N) (a : Fin 512) (b : Fin 1024) : (outsAt0 m c t.val t.isLt).1 (ix2 a b) = xAt m c (row t a) b := by
  by_cases h : t.val % 8 = 0
  · rw [outsAt0_A m c t h]
    dsimp only
    rw [dx_first]
    exact x_at m c t a b
  · rw [outsAt0_B m c t h]
    dsimp only
    rw [dx_later]
    exact x_at m c t a b

/-- The first `n` points' sums of the rows. -/
def acc (c : Dev nD) (b : Fin 1024) (n : ℕ) : EReal := ∑ t ∈ Finset.range n, if h : t < cfg0.N then ∑ r : Fin 512, gAt m c (row ⟨t, h⟩ r) b else 0

/-- Row 0 of the weights' gradient after point `n` is the sum over the points so far; the other rows are zero. -/
theorem blkG0 (c : Dev nD) (b : Fin 1024) : ∀ (n : ℕ) (h : n < cfg0.N), (outsAt0 m c n h).2 (ix2 (0 : Fin 8) b) = acc m c b (n + 1) := by
  intro n
  induction n with
  | zero =>
    intro h
    have e := outsAt0_A m c ⟨0, h⟩ rfl
    rw [e]
    dsimp only
    rw [dg_first0]
    refine (g_at m c ⟨0, h⟩ b).trans ?_
    unfold acc
    rw [Finset.sum_range_one, dif_pos h]
  | succ n ih =>
    intro h
    have hN : n + 1 < 8 := lt_of_lt_of_eq h (show cfg0.N = 8 from N_0)
    have e := outsAt0_B m c ⟨n + 1, h⟩ (by show ¬(n + 1) % 8 = 0; omega)
    rw [e]
    dsimp only
    rw [dg_later0]
    unfold acc
    rw [Finset.sum_range_succ, dif_pos h]
    exact congrArg₂ (· + ·) (ih (Nat.lt_of_succ_lt h)) (g_at m c ⟨n + 1, h⟩ b)

theorem blkG (c : Dev nD) (a : Fin 8) (ha : a.val ≠ 0) (b : Fin 1024) : ∀ (n : ℕ) (h : n < cfg0.N), (outsAt0 m c n h).2 (ix2 a b) = (0 : EReal) := by
  intro n
  induction n with
  | zero =>
    intro h
    have e := outsAt0_A m c ⟨0, h⟩ rfl
    rw [e]
    dsimp only
    exact dg_first (h := ha) ..
  | succ n ih =>
    intro h
    have hN : n + 1 < 8 := lt_of_lt_of_eq h (show cfg0.N = 8 from N_0)
    have e := outsAt0_B m c ⟨n + 1, h⟩ (by show ¬(n + 1) % 8 = 0; omega)
    rw [e]
    dsimp only
    refine (dg_later (h := ha) ..).trans ?_
    exact ih (Nat.lt_of_succ_lt h)

/-- A sum over all rows is the sum over the eight blocks of rows. -/
theorem eighths (f : Fin 4096 → EReal) :
    ∑ t ∈ Finset.range 8, (if h : t < 8 then ∑ r : Fin 512, f ⟨512 * t + r.val, by omega⟩ else 0) = ∑ r : Fin 4096, f r := by
  rw [← Fin.sum_univ_eq_sum_range (fun t => if h : t < 8 then ∑ r : Fin 512, f ⟨512 * t + r.val, by omega⟩ else 0) 8]
  rw [← (finProdFinEquiv (m := 8) (n := 512)).sum_comp f, Fintype.sum_prod_type]
  refine Finset.sum_congr rfl fun t _ => ?_
  rw [dif_pos t.isLt]
  refine Finset.sum_congr rfl fun r _ => congrArg f (Fin.ext ?_)
  show 512 * t.val + r.val = r.val + 512 * t.val
  omega

/-- So after the last point row 0 is the sum over all rows. -/
theorem acc_all (c : Dev nD) (b : Fin 1024) : acc m c b 8 = ∑ r : Fin 4096, gAt m c r b :=
  eighths fun r => gAt m c r b

end Cert.BackKernelIdeal.Gen
-- ==== Proof.BackEnd.lean ====
/-
The gradient of the input projection's input: the two arrays the call leaves.
-/
module

public import proofs.«01_k».proof.Proof.BackOut

@[expose] public section

set_option maxRecDepth 65536
set_option maxHeartbeats 8000000

noncomputable section

namespace Cert.BackKernelIdeal.Gen

open Idealize.ShloMosaic Idealize.ShloMosaic.TcCoe Idealize.ShloMosaic.Tactic

variable (m : (ℓ : Loc nD τ sig) → Buf (Elt Ideal) ℓ)

/-- The two results at indices given as numbers. -/
def xN (c : Dev nD) (r b : ℕ) : EReal := if h : r < 4096 ∧ b < 1024 then xAt m c ⟨r, h.1⟩ ⟨b, h.2⟩ else 0
def gN (c : Dev nD) (a b : ℕ) : EReal := if h : a = 0 ∧ b < 1024 then ∑ r : Fin 4096, gAt m c r ⟨b, h.2⟩ else 0

theorem xN_at (c : Dev nD) (a : Fin 4096) (b : Fin 1024) : xN m c a.val b.val = xAt m c a b := by
  unfold xN
  rw [dif_pos ⟨a.isLt, b.isLt⟩]

theorem gN_at0 (c : Dev nD) (b : Fin 1024) : gN m c 0 b.val = ∑ r : Fin 4096, gAt m c r b := by
  unfold gN
  rw [dif_pos ⟨rfl, b.isLt⟩]

theorem gN_at (c : Dev nD) (a : ℕ) (h : a ≠ 0) (b : ℕ) : gN m c a b = 0 := by
  unfold gN
  rw [dif_neg fun k => h k.1]

theorem blk_xN (c : Dev nD) (t : Fin cfg0.N) (a : Fin 512) (b : Fin 1024) (r : ℕ) (hr : r = 512 * t.val + a.val) :
    (outsAt0 m c t.val t.isLt).1 (ix2 a b) = xN m c r b.val := by
  subst hr
  exact (blkX m c t a b).trans (xN_at m c (row t a) b).symm

/-- The gradient of the input that the call leaves. -/
theorem endX (c : Dev nD) : (dats m 0 c).arrAt 5 cfg0.N = (fun i => xN m c (i 0).val (i 1).val) := by
  refine (dats m 0 c).arrAt_eq_of_covers 5 (fun i => xN m c (i 0).val (i 1).val) (by decide +kernel) (fun t hf y => ?_)
  have h0 : (y 0).val < 512 := ((cfg0.win 5).xinj (grid0.coords t) y 0).isLt
  have h1 : (y 1).val < 1024 := ((cfg0.win 5).xinj (grid0.coords t) y 1).isLt
  blk_simp [idx t]
  rw [after0_5]
  refine Eq.trans (congrArg _ ?_) (blk_xN m c t ⟨(y 0).val, h0⟩ ⟨(y 1).val, h1⟩ (t.val * 512 + (y 0).val) (Nat.add_right_cancel_iff.mpr (Nat.mul_comm _ _)))
  funext a; fin_cases a <;> rfl

/-- The block of the weights' gradient after the last point. -/
theorem last_gN (c : Dev nD) (t : Fin cfg0.N) (ht : t.val = 7) (a : Fin 8) (b : Fin 1024) :
    (outsAt0 m c t.val t.isLt).2 (ix2 a b) = gN m c a.val b.val := by
  by_cases h : a.val = 0
  · obtain rfl : a = 0 := Fin.ext h
    refine (blkG0 m c b t.val t.isLt).trans ?_
    rw [ht]
    exact (acc_all m c b).trans (gN_at0 m c b).symm
  · exact (blkG m c a h b t.val t.isLt).trans (gN_at m c a.val h b.val).symm

/-- The gradient of the norm's weights: what the last point hands on. -/
theorem endG (c : Dev nD) : (dats m 0 c).arrAt 6 cfg0.N = (fun i => gN m c (i 0).val (i 1).val) := by
  obtain ⟨T, hT, hW⟩ : ∃ T : Fin cfg0.N, T.val = 7 ∧ (cfg0.win 6).WholeAt T := ⟨⟨7, by decide⟩, rfl, by decide +kernel⟩
  exact (dats m 0 c).arrAt_eq_of_after_last 6 T hW (fun j => gN m c (j 0).val (j 1).val) fun j => by
    blk_simp [idx T]
    rw [after0_6]
    have h0 : (j 0).val < 8 := (j 0).isLt
    have h1 : (j 1).val < 1024 := (j 1).isLt
    refine Eq.trans (congrArg _ ?_) (last_gN m c T hT ⟨(j 0).val, h0⟩ ⟨(j 1).val, h1⟩)
    funext a; fin_cases a <;> rfl

end Cert.BackKernelIdeal.Gen
-- ==== Proof.BackRef.lean ====
/-
The gradient of the input projection's input: the reference's run and its results at an index.
-/
module

public import proofs.«01_k».proof.Proof.Back
public import proofs.«01_k».proof.Proof.Gen.BackReferenceIdeal.Run
public import Idealize.ShloMosaic.Lib.Tactic
public import Idealize.ShloMosaic.Lib.Pointwise
public import Idealize.ShloMosaic.Lib.Pipeline.ValueKit

@[expose] public section

set_option maxRecDepth 65536
set_option maxHeartbeats 8000000

noncomputable section

namespace Cert.BackReferenceIdeal.Value

open Cert.BackReferenceIdeal.Gen Idealize.ShloMosaic Idealize.ShloMosaic.TcCoe Idealize.ShloMosaic.Tactic Idealize.ShloMosaic.StableHlo Idealize.SL.Sem

variable (m : (ℓ : Loc nD τ sig) → Buf (Elt Ideal) ℓ)

/-- The results as the operations leave them. -/
def resX (c : Dev nD) : Vec Ideal S4096x1024 .f32 := after (ops (F := Ideal)) (launchContents m c) (Proc.devRef .tc main_v41)
def resG (c : Dev nD) : Vec Ideal S8x1024 .f32 := after (ops (F := Ideal)) (launchContents m c) (Proc.devRef .tc main_v44)

/-- A device's results and its arguments at the end. -/
structure Ends (mem : (ℓ : Loc nD τ sig) → Buf (Elt Ideal) ℓ) (c : Dev nD) : Prop where
  r0 : mem ((c.tc : Thread nD τ).loc main_v41) = resX m c
  r1 : mem ((c.tc : Thread nD τ).loc main_v44) = resG m c
  a0 : mem ((c.tc : Thread nD τ).loc main_arg0) = m ((c.tc : Thread nD τ).loc main_arg0)
  a1 : mem ((c.tc : Thread nD τ).loc main_arg1) = m ((c.tc : Thread nD τ).loc main_arg1)
  a2 : mem ((c.tc : Thread nD τ).loc main_arg2) = m ((c.tc : Thread nD τ).loc main_arg2)
  a3 : mem ((c.tc : Thread nD τ).loc main_arg3) = m ((c.tc : Thread nD τ).loc main_arg3)
  a4 : mem ((c.tc : Thread nD τ).loc main_arg4) = m ((c.tc : Thread nD τ).loc main_arg4)

/-- The reference runs and ends so. -/
theorem run_ends (ρ : Dev nD → PrngReg) : θ_run defs (onTc (τ := τ) (main (F := Ideal))) ⟨m, fun _ => 0, ρ⟩ fun r => ∀ c : Dev nD, Ends m r.2.mem c :=
  (θ_run defs _ _).mono (fun _ h c => ⟨h c main_v41, h c main_v44, (h c main_arg0).trans (by after_results), (h c main_arg1).trans (by after_results), (h c main_arg2).trans (by after_results), (h c main_arg3).trans (by after_results), (h c main_arg4).trans (by after_results)⟩)
    (run_seq scopedRefs_eq scopedSems_eq defs main (fun _ => ops) main_eq (fun _ => ops_sub) m ρ)

/-- The arguments. -/
def argU (c : Dev nD) : Vec Ideal S4096x1024 .f32 := m (c, Proc.devRef .tc main_arg0)
def argD (c : Dev nD) : Vec Ideal S4096x8192 .bf16 := m (c, Proc.devRef .tc main_arg1)
def argX (c : Dev nD) : Vec Ideal S4096x1024 .f32 := m (c, Proc.devRef .tc main_arg2)
def argG (c : Dev nD) : Vec Ideal S4x1024 .f32 := m (c, Proc.devRef .tc main_arg3)
def argW (c : Dev nD) : Vec Ideal S1024x8192 .f32 := m (c, Proc.devRef .tc main_arg4)

/-- The gradient of the input at an index. -/
theorem resX_at (c : Dev nD) (r : Fin 4096) (b : Fin 1024) :
    resX m c (ix2 r b) = Back.dx (argU m c (ix2 r b)) (fun l => argX m c (ix2 r l))
      (fun l => (∑ k : Fin 8192, argD m c (ix2 r k) * argW m c (ix2 l k)) * argG m c (ix2 (3 : Fin 4) l)) b := by
  unfold resX Back.dx Back.ev Back.ms argU argD argX argG argW; after_results; pointwise
  simp only [Finset.univ_unique, Finset.sum_singleton]

/-- The concatenation of a row and seven rows: its row 0 and the others. -/
theorem cat_at0 (x : Vec Ideal S1x1024 .f32) (y : Vec Ideal S7x1024 .f32) (b : Fin 1024) :
    fn_main_v44 (F := Ideal) x y (ix2 (0 : Fin 8) b) = x (ix2 (0 : Fin 1) b) := by
  unfold fn_main_v44
  exact concatenate_pair_apply_left 0 x y _ (ix2 (0 : Fin 8) b) rfl (ix2 (0 : Fin 1) b) (fun z => by fin_cases z <;> rfl)

theorem cat_at (x : Vec Ideal S1x1024 .f32) (y : Vec Ideal S7x1024 .f32) (a : Fin 8) (h : a.val ≠ 0) (b : Fin 1024) :
    fn_main_v44 (F := Ideal) x y (ix2 a b) = y (ix2 (⟨a.val - 1, by omega⟩ : Fin 7) b) := by
  unfold fn_main_v44
  refine concatenate_pair_apply_right 0 x y _ (ix2 a b) rfl rfl (ix2 (⟨a.val - 1, by omega⟩ : Fin 7) b) (fun z hz => ?_) ?_
  · fin_cases z
    · exact absurd rfl hz
    · rfl
  · show a.val - 1 + 1 = a.val
    omega

/-- The gradient of the norm's weights, in row 0. -/
theorem resG_at0 (c : Dev nD) (b : Fin 1024) :
    resG m c (ix2 (0 : Fin 8) b) = ∑ r : Fin 4096, Back.dg (fun l => argX m c (ix2 r l)) (∑ k : Fin 8192, argD m c (ix2 r k) * argW m c (ix2 b k)) b := by
  unfold resG Back.dg Back.ms argD argX argW; after_results
  refine (cat_at0 _ _ b).trans ?_
  pointwise
  simp only [Finset.univ_unique, Finset.sum_singleton]

/-- The other rows are zero. -/
theorem resG_at (c : Dev nD) (a : Fin 8) (h : a.val ≠ 0) (b : Fin 1024) :
    resG m c (ix2 a b) = (0 : EReal) := by
  unfold resG; after_results
  refine (cat_at _ _ a h b).trans ?_
  pointwise

end Cert.BackReferenceIdeal.Value
-- ==== Proof.BackClaim.lean ====
/-
The claims about the gradient of the input projection's input.
-/
module

public import proofs.«01_k».proof.Defs
public import proofs.«01_k».proof.Proof.BackEnd
public import proofs.«01_k».proof.Proof.BackRef
public import proofs.«01_k».proof.Proof.Gen.BackKernel.Frame
public import proofs.«01_k».proof.Proof.Gen.BackReferenceIdeal

@[expose] public section

set_option maxRecDepth 65536

noncomputable section

namespace Cert.Proof

open Idealize.ShloMosaic Idealize.SL.Sem

/-- The kernel keeps its arguments and leaves every counter at zero. -/
theorem frame_bp : Cert.quiescent_BackKernel (hBackKernel := Cert.BackKernel.Gen.facts) := fun m ρ _ => Cert.BackKernel.Gen.frame m ρ

/-- The same over the extended reals. -/
theorem frame_bpi : Cert.quiescent_BackKernelIdeal (hBackKernelIdeal := Cert.BackKernelIdeal.Gen.facts) := fun m ρ _ => Cert.BackKernelIdeal.Gen.frame m ρ

/-- The reference keeps its arguments; it declares no semaphore. -/
theorem frame_bri : Cert.quiescent_BackReferenceIdeal (hBackReferenceIdeal := Cert.BackReferenceIdeal.Gen.facts) := fun m ρ _ =>
  (θ_run Cert.BackReferenceIdeal.defs _ _).mono
    (fun r h => ⟨fun c => ⟨(h c).a0, (h c).a1, (h c).a2, (h c).a3, (h c).a4⟩, sem_eq_zero_of_no_sems (by decide) r.2⟩)
    (Cert.BackReferenceIdeal.Value.run_ends m ρ)

section Agree

variable (m : (ℓ : Loc Cert.BackKernelIdeal.nD Cert.BackKernelIdeal.τ Cert.BackKernelIdeal.sig) → Buf (Elt Ideal) ℓ)
    (m' : (ℓ : Loc Cert.BackReferenceIdeal.nD Cert.BackReferenceIdeal.τ Cert.BackReferenceIdeal.sig) → Buf (Elt Ideal) ℓ) (c : Dev Cert.BackKernelIdeal.nD)
    (h0 : m' ((c.tc : Thread Cert.BackReferenceIdeal.nD Cert.BackReferenceIdeal.τ).loc Cert.BackReferenceIdeal.main_arg0) = m ((c.tc : Thread Cert.BackKernelIdeal.nD Cert.BackKernelIdeal.τ).loc Cert.BackKernelIdeal.main_arg0))
    (h1 : m' ((c.tc : Thread Cert.BackReferenceIdeal.nD Cert.BackReferenceIdeal.τ).loc Cert.BackReferenceIdeal.main_arg1) = m ((c.tc : Thread Cert.BackKernelIdeal.nD Cert.BackKernelIdeal.τ).loc Cert.BackKernelIdeal.main_arg1))
    (h2 : m' ((c.tc : Thread Cert.BackReferenceIdeal.nD Cert.BackReferenceIdeal.τ).loc Cert.BackReferenceIdeal.main_arg2) = m ((c.tc : Thread Cert.BackKernelIdeal.nD Cert.BackKernelIdeal.τ).loc Cert.BackKernelIdeal.main_arg2))
    (h3 : m' ((c.tc : Thread Cert.BackReferenceIdeal.nD Cert.BackReferenceIdeal.τ).loc Cert.BackReferenceIdeal.main_arg3) = m ((c.tc : Thread Cert.BackKernelIdeal.nD Cert.BackKernelIdeal.τ).loc Cert.BackKernelIdeal.main_arg3))
    (h4 : m' ((c.tc : Thread Cert.BackReferenceIdeal.nD Cert.BackReferenceIdeal.τ).loc Cert.BackReferenceIdeal.main_arg4) = m ((c.tc : Thread Cert.BackKernelIdeal.nD Cert.BackKernelIdeal.τ).loc Cert.BackKernelIdeal.main_arg4))

include h1 h4

/-- The gradient of a normed element is the same function of the arguments on both sides. -/
theorem dh_eq (r : Fin 4096) (b : Fin 1024) :
    ∑ k : Fin 8192, Cert.BackReferenceIdeal.Value.argD m' c (ix2 r k) * Cert.BackReferenceIdeal.Value.argW m' c (ix2 b k) = Cert.BackKernelIdeal.Gen.hAt m c r b :=
  Finset.sum_congr rfl fun k _ => congrArg₂ (· * ·) (congrFun h1 _) (congrFun h4 _)

include h2

theorem dg_eq : Cert.BackReferenceIdeal.Value.resG m' c = (Cert.BackKernelIdeal.Gen.dats m 0 c).arrAt 6 Cert.BackKernelIdeal.cfg0.N := by
  refine Eq.trans ?_ (Cert.BackKernelIdeal.Gen.endG m c).symm
  funext i
  obtain ⟨a, b, rfl⟩ : ∃ (a : Fin 8) (b : Fin 1024), i = ix2 a b := ⟨i 0, i 1, by funext z; fin_cases z <;> rfl⟩
  by_cases h : a.val = 0
  · obtain rfl : a = 0 := Fin.ext h
    refine (Cert.BackReferenceIdeal.Value.resG_at0 m' c b).trans (Eq.trans ?_ (Cert.BackKernelIdeal.Gen.gN_at0 m c b).symm)
    refine Finset.sum_congr rfl fun r _ => ?_
    exact congrArg₂ (fun f d => Back.dg f d b) (funext fun l => congrFun h2 _) (dh_eq m m' c h1 h4 r b)
  · exact (Cert.BackReferenceIdeal.Value.resG_at m' c a h b).trans (Cert.BackKernelIdeal.Gen.gN_at m c a.val h b.val).symm

include h0 h3

theorem dx_eq : Cert.BackReferenceIdeal.Value.resX m' c = (Cert.BackKernelIdeal.Gen.dats m 0 c).arrAt 5 Cert.BackKernelIdeal.cfg0.N := by
  refine Eq.trans ?_ (Cert.BackKernelIdeal.Gen.endX m c).symm
  funext i
  obtain ⟨a, b, rfl⟩ : ∃ (a : Fin 4096) (b : Fin 1024), i = ix2 a b := ⟨i 0, i 1, by funext z; fin_cases z <;> rfl⟩
  refine (Cert.BackReferenceIdeal.Value.resX_at m' c a b).trans (Eq.trans ?_ (Cert.BackKernelIdeal.Gen.xN_at m c a b).symm)
  have e0 : Cert.BackReferenceIdeal.Value.argU m' c (ix2 a b) = Cert.BackKernelIdeal.Gen.argU m c (ix2 a b) := congrFun h0 _
  have e2 : (fun l : Fin 1024 => Cert.BackReferenceIdeal.Value.argX m' c (ix2 a l)) = fun l => Cert.BackKernelIdeal.Gen.argX m c (ix2 a l) := funext fun l => congrFun h2 _
  have e3 : (fun l : Fin 1024 => (∑ k : Fin 8192, Cert.BackReferenceIdeal.Value.argD m' c (ix2 a k) * Cert.BackReferenceIdeal.Value.argW m' c (ix2 l k)) * Cert.BackReferenceIdeal.Value.argG m' c (ix2 (3 : Fin 4) l))
      = fun l => Cert.BackKernelIdeal.Gen.hAt m c a l * Cert.BackKernelIdeal.Gen.argG m c (ix2 (3 : Fin 4) l) :=
    funext fun l => congrArg₂ (· * ·) (dh_eq m m' c h1 h4 a l) (congrFun h3 _)
  unfold Cert.BackKernelIdeal.Gen.xAt
  exact (congrArg (fun u => Back.dx u _ _ b) e0).trans (congrArg₂ (fun f g => Back.dx _ f g b) e2 e3)

end Agree

/-- What the kernel leaves in its two results. -/
def resDX (m : (ℓ : Loc Cert.BackKernelIdeal.nD Cert.BackKernelIdeal.τ Cert.BackKernelIdeal.sig) → Buf (Elt Ideal) ℓ) (c : Dev Cert.BackKernelIdeal.nD) :
    Buf (Elt Ideal) ((c.tc : Thread Cert.BackKernelIdeal.nD Cert.BackKernelIdeal.τ).loc Cert.BackKernelIdeal.main_v4_0) := (Cert.BackKernelIdeal.Gen.dats m 0 c).arrAt 5 Cert.BackKernelIdeal.cfg0.N
def resDG (m : (ℓ : Loc Cert.BackKernelIdeal.nD Cert.BackKernelIdeal.τ Cert.BackKernelIdeal.sig) → Buf (Elt Ideal) ℓ) (c : Dev Cert.BackKernelIdeal.nD) :
    Buf (Elt Ideal) ((c.tc : Thread Cert.BackKernelIdeal.nD Cert.BackKernelIdeal.τ).loc Cert.BackKernelIdeal.main_v4_1) := (Cert.BackKernelIdeal.Gen.dats m 0 c).arrAt 6 Cert.BackKernelIdeal.cfg0.N

/-- The kernel's two results are the reference's. -/
theorem algebraic_b : Cert.algebraic_BackKernelIdeal_BackReferenceIdeal (hBackKernelIdeal := Cert.BackKernelIdeal.Gen.facts) (hBackReferenceIdeal := Cert.BackReferenceIdeal.Gen.facts) := by
  intro m ρ m' ρ' _ hagree
  refine ⟨resDX m, resDG m, Cert.BackKernelIdeal.Value.run_blocks (F := Ideal) m ρ, ?_⟩
  refine (θ_run Cert.BackReferenceIdeal.defs _ _).mono (fun r h c => ?_) (Cert.BackReferenceIdeal.Value.run_ends m' ρ')
  obtain ⟨h0, h1, h2, h3, h4⟩ := hagree c
  exact ⟨(h c).r0.trans (dx_eq m m' c h0 h1 h2 h3 h4), (h c).r1.trans (dg_eq m m' c h1 h2 h4), (h c).a0, (h c).a1, (h c).a2, (h c).a3, (h c).a4⟩

end Cert.Proof
-- ==== Proof.lean ====
module

public import proofs.«01_k».proof.Proof.Gen.ReferenceIdeal.Run
public import proofs.«01_k».proof.Proof.Gen.KernelIdeal.Value
public import proofs.«01_k».proof.Defs
public import proofs.«01_k».proof.Proof.ClaimFrame
public import proofs.«01_k».proof.Proof.ClaimRef
public import proofs.«01_k».proof.Proof.ClaimAlg
public import proofs.«01_k».proof.Proof.GradClaim
public import proofs.«01_k».proof.Proof.ProjClaim
public import proofs.«01_k».proof.Proof.BackClaim
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.GradKernel
public import proofs.«01_k».proof.Proof.Gen.GradKernel.Skeleton
public import proofs.«01_k».proof.Proof.Gen.GradKernel.Launch
public import proofs.«01_k».proof.Proof.Gen.GradKernel.Points
public import proofs.«01_k».proof.Proof.Gen.GradKernel.Frame
public import proofs.«01_k».proof.Proof.Gen.GradKernelIdeal
public import proofs.«01_k».proof.Proof.Gen.GradKernelIdeal.Skeleton
public import proofs.«01_k».proof.Proof.Gen.GradKernelIdeal.Launch
public import proofs.«01_k».proof.Proof.Gen.GradKernelIdeal.Points
public import proofs.«01_k».proof.Proof.Gen.GradKernelIdeal.Frame
public import proofs.«01_k».proof.Proof.Gen.GradKernelIdeal.Value
public import proofs.«01_k».proof.Proof.Gen.GradReferenceIdeal
public import proofs.«01_k».proof.Proof.Gen.GradReferenceIdeal.Run
public import proofs.«01_k».proof.Proof.Gen.ProjKernel
public import proofs.«01_k».proof.Proof.Gen.ProjKernel.Skeleton
public import proofs.«01_k».proof.Proof.Gen.ProjKernel.Launch
public import proofs.«01_k».proof.Proof.Gen.ProjKernel.Points
public import proofs.«01_k».proof.Proof.Gen.ProjKernel.Frame
public import proofs.«01_k».proof.Proof.Gen.ProjKernelIdeal
public import proofs.«01_k».proof.Proof.Gen.ProjKernelIdeal.Skeleton
public import proofs.«01_k».proof.Proof.Gen.ProjKernelIdeal.Launch
public import proofs.«01_k».proof.Proof.Gen.ProjKernelIdeal.Points
public import proofs.«01_k».proof.Proof.Gen.ProjKernelIdeal.Frame
public import proofs.«01_k».proof.Proof.Gen.ProjKernelIdeal.Value
public import proofs.«01_k».proof.Proof.Gen.ProjReferenceIdeal
public import proofs.«01_k».proof.Proof.Gen.ProjReferenceIdeal.Run
public import proofs.«01_k».proof.Proof.Gen.BackKernel
public import proofs.«01_k».proof.Proof.Gen.BackKernel.Skeleton
public import proofs.«01_k».proof.Proof.Gen.BackKernel.Launch
public import proofs.«01_k».proof.Proof.Gen.BackKernel.Points
public import proofs.«01_k».proof.Proof.Gen.BackKernel.Frame
public import proofs.«01_k».proof.Proof.Gen.BackKernelIdeal
public import proofs.«01_k».proof.Proof.Gen.BackKernelIdeal.Skeleton
public import proofs.«01_k».proof.Proof.Gen.BackKernelIdeal.Launch
public import proofs.«01_k».proof.Proof.Gen.BackKernelIdeal.Points
public import proofs.«01_k».proof.Proof.Gen.BackKernelIdeal.Frame
public import proofs.«01_k».proof.Proof.Gen.BackKernelIdeal.Value
public import proofs.«01_k».proof.Proof.Gen.BackReferenceIdeal
public import proofs.«01_k».proof.Proof.Gen.BackReferenceIdeal.Run
public import Idealize.ShloMosaic.Adequacy
public import Idealize.ShloMosaic.Init

@[expose] public section

set_option maxRecDepth 65536
set_option maxHeartbeats 8000000

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.GradKernel.Gen.facts, Cert.GradKernelIdeal.Gen.facts, Cert.GradReferenceIdeal.Gen.facts,
    Cert.ProjKernel.Gen.facts, Cert.ProjKernelIdeal.Gen.facts, Cert.ProjReferenceIdeal.Gen.facts,
    Cert.BackKernel.Gen.facts, Cert.BackKernelIdeal.Gen.facts, Cert.BackReferenceIdeal.Gen.facts,
    frame_p, frame_pi, frame_ri, frame_gp, frame_gpi, frame_gri, frame_fp, frame_fpi, frame_fri, frame_bp, frame_bpi, frame_bri,
    trivial, algebraic, trivial, algebraic_g, trivial, algebraic_f, trivial, algebraic_b⟩

end Cert.Proof

end
